-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_InQkv (m : (ℓ : Loc Cert.InQkv.nD Cert.InQkv.τ Cert.InQkv.sig) → Buf (Elt Bits) ℓ) : Prop :=
  True

def Pre_InQkvIdeal (m : (ℓ : Loc Cert.InQkvIdeal.nD Cert.InQkvIdeal.τ Cert.InQkvIdeal.sig) → Buf (Elt Ideal) ℓ) : Prop :=
  True

def Pre_InQkvRefIdeal (m : (ℓ : Loc Cert.InQkvRefIdeal.nD Cert.InQkvRefIdeal.τ Cert.InQkvRefIdeal.sig) → Buf (Elt Ideal) ℓ) : Prop :=
  True

def Pre_InGate (m : (ℓ : Loc Cert.InGate.nD Cert.InGate.τ Cert.InGate.sig) → Buf (Elt Bits) ℓ) : Prop :=
  True

def Pre_InGateIdeal (m : (ℓ : Loc Cert.InGateIdeal.nD Cert.InGateIdeal.τ Cert.InGateIdeal.sig) → Buf (Elt Ideal) ℓ) : Prop :=
  True

def Pre_InGateRefIdeal (m : (ℓ : Loc Cert.InGateRefIdeal.nD Cert.InGateRefIdeal.τ Cert.InGateRefIdeal.sig) → Buf (Elt Ideal) ℓ) : Prop :=
  True

def Pre_InGl (m : (ℓ : Loc Cert.InGl.nD Cert.InGl.τ Cert.InGl.sig) → Buf (Elt Bits) ℓ) : Prop :=
  True

def Pre_InGlIdeal (m : (ℓ : Loc Cert.InGlIdeal.nD Cert.InGlIdeal.τ Cert.InGlIdeal.sig) → Buf (Elt Ideal) ℓ) : Prop :=
  True

def Pre_InGlRefIdeal (m : (ℓ : Loc Cert.InGlRefIdeal.nD Cert.InGlRefIdeal.τ Cert.InGlRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdIdeal_finite_post [hPre_finite_post : Cert.Pre_finite_post.Facts] (m : (ℓ : Loc Cert.PostBwdIdeal.nD Cert.PostBwdIdeal.τ Cert.PostBwdIdeal.sig) → Buf (Elt Ideal) ℓ) : Prop :=
  ∀ c : Dev Cert.PostBwdIdeal.nD,
    (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3))).1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3))).2.1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3))).2.2 = (fun _ => 1#1)

def Pre_PostBwdRefIdeal (m : (ℓ : Loc Cert.PostBwdRefIdeal.nD Cert.PostBwdRefIdeal.τ Cert.PostBwdRefIdeal.sig) → Buf (Elt Ideal) ℓ) : Prop :=
  True

def Pre_PostBwdRefIdeal_finite_post [hPre_finite_post : Cert.Pre_finite_post.Facts] (m : (ℓ : Loc Cert.PostBwdRefIdeal.nD Cert.PostBwdRefIdeal.τ Cert.PostBwdRefIdeal.sig) → Buf (Elt Ideal) ℓ) : Prop :=
  ∀ c : Dev Cert.PostBwdRefIdeal.nD,
    (Cert.Pre_finite_post.fn (F := Ideal) (m ((c.tc : Thread Cert.PostBwdRefIdeal.nD Cert.PostBwdRefIdeal.τ).loc Cert.PostBwdRefIdeal.main_arg0)) (m ((c.tc : Thread Cert.PostBwdRefIdeal.nD Cert.PostBwdRefIdeal.τ).loc Cert.PostBwdRefIdeal.main_arg1)) (m ((c.tc : Thread Cert.PostBwdRefIdeal.nD Cert.PostBwdRefIdeal.τ).loc Cert.PostBwdRefIdeal.main_arg2)) (m ((c.tc : Thread Cert.PostBwdRefIdeal.nD Cert.PostBwdRefIdeal.τ).loc Cert.PostBwdRefIdeal.main_arg3))).1 = (fun _ => 1#1)
    ∧ (Cert.Pre_finite_post.fn (F := Ideal) (m ((c.tc : Thread Cert.PostBwdRefIdeal.nD Cert.PostBwdRefIdeal.τ).loc Cert.PostBwdRefIdeal.main_arg0)) (m ((c.tc : Thread Cert.PostBwdRefIdeal.nD Cert.PostBwdRefIdeal.τ).loc Cert.PostBwdRefIdeal.main_arg1)) (m ((c.tc : Thread Cert.PostBwdRefIdeal.nD Cert.PostBwdRefIdeal.τ).loc Cert.PostBwdRefIdeal.main_arg2)) (m ((c.tc : Thread Cert.PostBwdRefIdeal.nD Cert.PostBwdRefIdeal.τ).loc Cert.PostBwdRefIdeal.main_arg3))).2.1 = (fun _ => 1#1)
    ∧ (Cert.Pre_finite_post.fn (F := Ideal) (m ((c.tc : Thread Cert.PostBwdRefIdeal.nD Cert.PostBwdRefIdeal.τ).loc Cert.PostBwdRefIdeal.main_arg0)) (m ((c.tc : Thread Cert.PostBwdRefIdeal.nD Cert.PostBwdRefIdeal.τ).loc Cert.PostBwdRefIdeal.main_arg1)) (m ((c.tc : Thread Cert.PostBwdRefIdeal.nD Cert.PostBwdRefIdeal.τ).loc Cert.PostBwdRefIdeal.main_arg2)) (m ((c.tc : Thread Cert.PostBwdRefIdeal.nD Cert.PostBwdRefIdeal.τ).loc Cert.PostBwdRefIdeal.main_arg3))).2.2 = (fun _ => 1#1)

def Pre_FfnConvBwd (m : (ℓ : Loc Cert.FfnConvBwd.nD Cert.FfnConvBwd.τ Cert.FfnConvBwd.sig) → Buf (Elt Bits) ℓ) : Prop :=
  True

def Pre_FfnConvBwdIdeal (m : (ℓ : Loc Cert.FfnConvBwdIdeal.nD Cert.FfnConvBwdIdeal.τ Cert.FfnConvBwdIdeal.sig) → Buf (Elt Ideal) ℓ) : Prop :=
  True

def Pre_FfnConvBwdRefIdeal (m : (ℓ : Loc Cert.FfnConvBwdRefIdeal.nD Cert.FfnConvBwdRefIdeal.τ Cert.FfnConvBwdRefIdeal.sig) → Buf (Elt Ideal) ℓ) : Prop :=
  True

def Pre_DnConvBwd (m : (ℓ : Loc Cert.DnConvBwd.nD Cert.DnConvBwd.τ Cert.DnConvBwd.sig) → Buf (Elt Bits) ℓ) : Prop :=
  True

def Pre_DnConvBwdIdeal (m : (ℓ : Loc Cert.DnConvBwdIdeal.nD Cert.DnConvBwdIdeal.τ Cert.DnConvBwdIdeal.sig) → Buf (Elt Ideal) ℓ) : Prop :=
  True

def Pre_DnConvBwdRefIdeal (m : (ℓ : Loc Cert.DnConvBwdRefIdeal.nD Cert.DnConvBwdRefIdeal.τ Cert.DnConvBwdRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_FfnActBwd (m : (ℓ : Loc Cert.FfnActBwd.nD Cert.FfnActBwd.τ Cert.FfnActBwd.sig) → Buf (Elt Bits) ℓ) : Prop :=
  True

def Pre_FfnActBwdIdeal (m : (ℓ : Loc Cert.FfnActBwdIdeal.nD Cert.FfnActBwdIdeal.τ Cert.FfnActBwdIdeal.sig) → Buf (Elt Ideal) ℓ) : Prop :=
  True

def Pre_FfnActBwdIdeal_finite_ffn [hPre_finite_ffn : Cert.Pre_finite_ffn.Facts] (m : (ℓ : Loc Cert.FfnActBwdIdeal.nD Cert.FfnActBwdIdeal.τ Cert.FfnActBwdIdeal.sig) → Buf (Elt Ideal) ℓ) : Prop :=
  ∀ c : Dev Cert.FfnActBwdIdeal.nD,
    (Cert.Pre_finite_ffn.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2))).1 = (fun _ => 1#1)
    ∧ (Cert.Pre_finite_ffn.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2))).2.1 = (fun _ => 1#1)
    ∧ (Cert.Pre_finite_ffn.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2))).2.2 = (fun _ => 1#1)

def Pre_FfnActBwdRefIdeal (m : (ℓ : Loc Cert.FfnActBwdRefIdeal.nD Cert.FfnActBwdRefIdeal.τ Cert.FfnActBwdRefIdeal.sig) → Buf (Elt Ideal) ℓ) : Prop :=
  True

def Pre_FfnActBwdRefIdeal_finite_ffn [hPre_finite_ffn : Cert.Pre_finite_ffn.Facts] (m : (ℓ : Loc Cert.FfnActBwdRefIdeal.nD Cert.FfnActBwdRefIdeal.τ Cert.FfnActBwdRefIdeal.sig) → Buf (Elt Ideal) ℓ) : Prop :=
  ∀ c : Dev Cert.FfnActBwdRefIdeal.nD,
    (Cert.Pre_finite_ffn.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2))).1 = (fun _ => 1#1)
    ∧ (Cert.Pre_finite_ffn.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2))).2.1 = (fun _ => 1#1)
    ∧ (Cert.Pre_finite_ffn.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2))).2.2 = (fun _ => 1#1)

def Pre_DnPre (m : (ℓ : Loc Cert.DnPre.nD Cert.DnPre.τ Cert.DnPre.sig) → Buf (Elt Bits) ℓ) : Prop :=
  True

def Pre_DnPreIdeal (m : (ℓ : Loc Cert.DnPreIdeal.nD Cert.DnPreIdeal.τ Cert.DnPreIdeal.sig) → Buf (Elt Ideal) ℓ) : Prop :=
  True

def Pre_DnPreRefIdeal (m : (ℓ : Loc Cert.DnPreRefIdeal.nD Cert.DnPreRefIdeal.τ Cert.DnPreRefIdeal.sig) → Buf (Elt Ideal) ℓ) : Prop :=
  True

def Pre_DnPreBwd (m : (ℓ : Loc Cert.DnPreBwd.nD Cert.DnPreBwd.τ Cert.DnPreBwd.sig) → Buf (Elt Bits) ℓ) : Prop :=
  True

def Pre_DnPreBwdIdeal (m : (ℓ : Loc Cert.DnPreBwdIdeal.nD Cert.DnPreBwdIdeal.τ Cert.DnPreBwdIdeal.sig) → Buf (Elt Ideal) ℓ) : Prop :=
  True

def Pre_DnPreBwdIdeal_finite_pre [hPre_finite_pre : Cert.Pre_finite_pre.Facts] (m : (ℓ : Loc Cert.DnPreBwdIdeal.nD Cert.DnPreBwdIdeal.τ Cert.DnPreBwdIdeal.sig) → Buf (Elt Ideal) ℓ) : Prop :=
  ∀ c : Dev Cert.DnPreBwdIdeal.nD,
    (Cert.Pre_finite_pre.fn (F := Ideal) (m ((c.tc : Thread Cert.DnPreBwdIdeal.nD Cert.DnPreBwdIdeal.τ).loc Cert.DnPreBwdIdeal.main_arg0)) (m ((c.tc : Thread Cert.DnPreBwdIdeal.nD Cert.DnPreBwdIdeal.τ).loc Cert.DnPreBwdIdeal.main_arg1)) (m ((c.tc : Thread Cert.DnPreBwdIdeal.nD Cert.DnPreBwdIdeal.τ).loc Cert.DnPreBwdIdeal.main_arg2)) (m ((c.tc : Thread Cert.DnPreBwdIdeal.nD Cert.DnPreBwdIdeal.τ).loc Cert.DnPreBwdIdeal.main_arg3)) (m ((c.tc : Thread Cert.DnPreBwdIdeal.nD Cert.DnPreBwdIdeal.τ).loc Cert.DnPreBwdIdeal.main_arg4))).1 = (fun _ => 1#1)
    ∧ (Cert.Pre_finite_pre.fn (F := Ideal) (m ((c.tc : Thread Cert.DnPreBwdIdeal.nD Cert.DnPreBwdIdeal.τ).loc Cert.DnPreBwdIdeal.main_arg0)) (m ((c.tc : Thread Cert.DnPreBwdIdeal.nD Cert.DnPreBwdIdeal.τ).loc Cert.DnPreBwdIdeal.main_arg1)) (m ((c.tc : Thread Cert.DnPreBwdIdeal.nD Cert.DnPreBwdIdeal.τ).loc Cert.DnPreBwdIdeal.main_arg2)) (m ((c.tc : Thread Cert.DnPreBwdIdeal.nD Cert.DnPreBwdIdeal.τ).loc Cert.DnPreBwdIdeal.main_arg3)) (m ((c.tc : Thread Cert.DnPreBwdIdeal.nD Cert.DnPreBwdIdeal.τ).loc Cert.DnPreBwdIdeal.main_arg4))).2.1 = (fun _ => 1#1)
    ∧ (Cert.Pre_finite_pre.fn (F := Ideal) (m ((c.tc : Thread Cert.DnPreBwdIdeal.nD Cert.DnPreBwdIdeal.τ).loc Cert.DnPreBwdIdeal.main_arg0)) (m ((c.tc : Thread Cert.DnPreBwdIdeal.nD Cert.DnPreBwdIdeal.τ).loc Cert.DnPreBwdIdeal.main_arg1)) (m ((c.tc : Thread Cert.DnPreBwdIdeal.nD Cert.DnPreBwdIdeal.τ).loc Cert.DnPreBwdIdeal.main_arg2)) (m ((c.tc : Thread Cert.DnPreBwdIdeal.nD Cert.DnPreBwdIdeal.τ).loc Cert.DnPreBwdIdeal.main_arg3)) (m ((c.tc : Thread Cert.DnPreBwdIdeal.nD Cert.DnPreBwdIdeal.τ).loc Cert.DnPreBwdIdeal.main_arg4))).2.2 = (fun _ => 1#1)

def Pre_DnPreBwdRefIdeal (m : (ℓ : Loc Cert.DnPreBwdRefIdeal.nD Cert.DnPreBwdRefIdeal.τ Cert.DnPreBwdRefIdeal.sig) → Buf (Elt Ideal) ℓ) : Prop :=
  True

def Pre_DnPreBwdRefIdeal_finite_pre [hPre_finite_pre : Cert.Pre_finite_pre.Facts] (m : (ℓ : Loc Cert.DnPreBwdRefIdeal.nD Cert.DnPreBwdRefIdeal.τ Cert.DnPreBwdRefIdeal.sig) → Buf (Elt Ideal) ℓ) : Prop :=
  ∀ c : Dev Cert.DnPreBwdRefIdeal.nD,
    (Cert.Pre_finite_pre.fn (F := Ideal) (m ((c.tc : Thread Cert.DnPreBwdRefIdeal.nD Cert.DnPreBwdRefIdeal.τ).loc Cert.DnPreBwdRefIdeal.main_arg0)) (m ((c.tc : Thread Cert.DnPreBwdRefIdeal.nD Cert.DnPreBwdRefIdeal.τ).loc Cert.DnPreBwdRefIdeal.main_arg1)) (m ((c.tc : Thread Cert.DnPreBwdRefIdeal.nD Cert.DnPreBwdRefIdeal.τ).loc Cert.DnPreBwdRefIdeal.main_arg2)) (m ((c.tc : Thread Cert.DnPreBwdRefIdeal.nD Cert.DnPreBwdRefIdeal.τ).loc Cert.DnPreBwdRefIdeal.main_arg3)) (m ((c.tc : Thread Cert.DnPreBwdRefIdeal.nD Cert.DnPreBwdRefIdeal.τ).loc Cert.DnPreBwdRefIdeal.main_arg4))).1 = (fun _ => 1#1)
    ∧ (Cert.Pre_finite_pre.fn (F := Ideal) (m ((c.tc : Thread Cert.DnPreBwdRefIdeal.nD Cert.DnPreBwdRefIdeal.τ).loc Cert.DnPreBwdRefIdeal.main_arg0)) (m ((c.tc : Thread Cert.DnPreBwdRefIdeal.nD Cert.DnPreBwdRefIdeal.τ).loc Cert.DnPreBwdRefIdeal.main_arg1)) (m ((c.tc : Thread Cert.DnPreBwdRefIdeal.nD Cert.DnPreBwdRefIdeal.τ).loc Cert.DnPreBwdRefIdeal.main_arg2)) (m ((c.tc : Thread Cert.DnPreBwdRefIdeal.nD Cert.DnPreBwdRefIdeal.τ).loc Cert.DnPreBwdRefIdeal.main_arg3)) (m ((c.tc : Thread Cert.DnPreBwdRefIdeal.nD Cert.DnPreBwdRefIdeal.τ).loc Cert.DnPreBwdRefIdeal.main_arg4))).2.1 = (fun _ => 1#1)
    ∧ (Cert.Pre_finite_pre.fn (F := Ideal) (m ((c.tc : Thread Cert.DnPreBwdRefIdeal.nD Cert.DnPreBwdRefIdeal.τ).loc Cert.DnPreBwdRefIdeal.main_arg0)) (m ((c.tc : Thread Cert.DnPreBwdRefIdeal.nD Cert.DnPreBwdRefIdeal.τ).loc Cert.DnPreBwdRefIdeal.main_arg1)) (m ((c.tc : Thread Cert.DnPreBwdRefIdeal.nD Cert.DnPreBwdRefIdeal.τ).loc Cert.DnPreBwdRefIdeal.main_arg2)) (m ((c.tc : Thread Cert.DnPreBwdRefIdeal.nD Cert.DnPreBwdRefIdeal.τ).loc Cert.DnPreBwdRefIdeal.main_arg3)) (m ((c.tc : Thread Cert.DnPreBwdRefIdeal.nD Cert.DnPreBwdRefIdeal.τ).loc Cert.DnPreBwdRefIdeal.main_arg4))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_InQkv [hInQkv : Cert.InQkv.Facts] : Prop :=
  ∀ (m : (ℓ : Loc Cert.InQkv.nD Cert.InQkv.τ Cert.InQkv.sig) → Buf (Elt Bits) ℓ) (g : Dev Cert.InQkv.nD → PrngReg), Pre_InQkv m →
    θ_run (Cert.InQkv.defs (F := Bits)) (onTc (τ := Cert.InQkv.τ) (Cert.InQkv.main (F := Bits))) ⟨m, fun _ => 0, g⟩ (fun r => (∀ c : Dev Cert.InQkv.nD,
      r.2.mem ((c.tc : Thread Cert.InQkv.nD Cert.InQkv.τ).loc Cert.InQkv.main_arg0) = m ((c.tc : Thread Cert.InQkv.nD Cert.InQkv.τ).loc Cert.InQkv.main_arg0)
      ∧ r.2.mem ((c.tc : Thread Cert.InQkv.nD Cert.InQkv.τ).loc Cert.InQkv.main_arg1) = m ((c.tc : Thread Cert.InQkv.nD Cert.InQkv.τ).loc Cert.InQkv.main_arg1))
      ∧ r.2.sem = fun _ => 0)

def quiescent_InQkvIdeal [hInQkvIdeal : Cert.InQkvIdeal.Facts] : Prop :=
  ∀ (m : (ℓ : Loc Cert.InQkvIdeal.nD Cert.InQkvIdeal.τ Cert.InQkvIdeal.sig) → Buf (Elt Ideal) ℓ) (g : Dev Cert.InQkvIdeal.nD → PrngReg), Pre_InQkvIdeal m →
    θ_run (Cert.InQkvIdeal.defs (F := Ideal)) (onTc (τ := Cert.InQkvIdeal.τ) (Cert.InQkvIdeal.main (F := Ideal))) ⟨m, fun _ => 0, g⟩ (fun r => (∀ c : Dev Cert.InQkvIdeal.nD,
      r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
      ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ r.2.sem = fun _ => 0)

def quiescent_InQkvRefIdeal [hInQkvRefIdeal : Cert.InQkvRefIdeal.Facts] : Prop :=
  ∀ (m : (ℓ : Loc Cert.InQkvRefIdeal.nD Cert.InQkvRefIdeal.τ Cert.InQkvRefIdeal.sig) → Buf (Elt Ideal) ℓ) (g : Dev Cert.InQkvRefIdeal.nD → PrngReg), Pre_InQkvRefIdeal m →
    θ_run (Cert.InQkvRefIdeal.defs (F := Ideal)) (onTc (τ := Cert.InQkvRefIdeal.τ) (Cert.InQkvRefIdeal.main (F := Ideal))) ⟨m, fun _ => 0, g⟩ (fun r => (∀ c : Dev Cert.InQkvRefIdeal.nD,
      r.2.mem ((c.tc : Thread Cert.InQkvRefIdeal.nD Cert.InQkvRefIdeal.τ).loc Cert.InQkvRefIdeal.main_arg0) = m ((c.tc : Thread Cert.InQkvRefIdeal.nD Cert.InQkvRefIdeal.τ).loc Cert.InQkvRefIdeal.main_arg0)
      ∧ r.2.mem ((c.tc : Thread Cert.InQkvRefIdeal.nD Cert.InQkvRefIdeal.τ).loc Cert.InQkvRefIdeal.main_arg1) = m ((c.tc : Thread Cert.InQkvRefIdeal.nD Cert.InQkvRefIdeal.τ).loc Cert.InQkvRefIdeal.main_arg1))
      ∧ r.2.sem = fun _ => 0)

def quiescent_InGate [hInGate : Cert.InGate.Facts] : Prop :=
  ∀ (m : (ℓ : Loc Cert.InGate.nD Cert.InGate.τ Cert.InGate.sig) → Buf (Elt Bits) ℓ) (g : Dev Cert.InGate.nD → PrngReg), Pre_InGate m →
    θ_run (Cert.InGate.defs (F := Bits)) (onTc (τ := Cert.InGate.τ) (Cert.InGate.main (F := Bits))) ⟨m, fun _ => 0, g⟩ (fun r => (∀ c : Dev Cert.InGate.nD,
      r.2.mem ((c.tc : Thread Cert.InGate.nD Cert.InGate.τ).loc Cert.InGate.main_arg0) = m ((c.tc : Thread Cert.InGate.nD Cert.InGate.τ).loc Cert.InGate.main_arg0)
      ∧ r.2.mem ((c.tc : Thread Cert.InGate.nD Cert.InGate.τ).loc Cert.InGate.main_arg1) = m ((c.tc : Thread Cert.InGate.nD Cert.InGate.τ).loc Cert.InGate.main_arg1))
      ∧ r.2.sem = fun _ => 0)

def quiescent_InGateIdeal [hInGateIdeal : Cert.InGateIdeal.Facts] : Prop :=
  ∀ (m : (ℓ : Loc Cert.InGateIdeal.nD Cert.InGateIdeal.τ Cert.InGateIdeal.sig) → Buf (Elt Ideal) ℓ) (g : Dev Cert.InGateIdeal.nD → PrngReg), Pre_InGateIdeal m →
    θ_run (Cert.InGateIdeal.defs (F := Ideal)) (onTc (τ := Cert.InGateIdeal.τ) (Cert.InGateIdeal.main (F := Ideal))) ⟨m, fun _ => 0, g⟩ (fun r => (∀ c : Dev Cert.InGateIdeal.nD,
      r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
      ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ r.2.sem = fun _ => 0)

def quiescent_InGateRefIdeal [hInGateRefIdeal : Cert.InGateRefIdeal.Facts] : Prop :=
  ∀ (m : (ℓ : Loc Cert.InGateRefIdeal.nD Cert.InGateRefIdeal.τ Cert.InGateRefIdeal.sig) → Buf (Elt Ideal) ℓ) (g : Dev Cert.InGateRefIdeal.nD → PrngReg), Pre_InGateRefIdeal m →
    θ_run (Cert.InGateRefIdeal.defs (F := Ideal)) (onTc (τ := Cert.InGateRefIdeal.τ) (Cert.InGateRefIdeal.main (F := Ideal))) ⟨m, fun _ => 0, g⟩ (fun r => (∀ c : Dev Cert.InGateRefIdeal.nD,
      r.2.mem ((c.tc : Thread Cert.InGateRefIdeal.nD Cert.InGateRefIdeal.τ).loc Cert.InGateRefIdeal.main_arg0) = m ((c.tc : Thread Cert.InGateRefIdeal.nD Cert.InGateRefIdeal.τ).loc Cert.InGateRefIdeal.main_arg0)
      ∧ r.2.mem ((c.tc : Thread Cert.InGateRefIdeal.nD Cert.InGateRefIdeal.τ).loc Cert.InGateRefIdeal.main_arg1) = m ((c.tc : Thread Cert.InGateRefIdeal.nD Cert.InGateRefIdeal.τ).loc Cert.InGateRefIdeal.main_arg1))
      ∧ r.2.sem = fun _ => 0)

def quiescent_InGl [hInGl : Cert.InGl.Facts] : Prop :=
  ∀ (m : (ℓ : Loc Cert.InGl.nD Cert.InGl.τ Cert.InGl.sig) → Buf (Elt Bits) ℓ) (g : Dev Cert.InGl.nD → PrngReg), Pre_InGl m →
    θ_run (Cert.InGl.defs (F := Bits)) (onTc (τ := Cert.InGl.τ) (Cert.InGl.main (F := Bits))) ⟨m, fun _ => 0, g⟩ (fun r => (∀ c : Dev Cert.InGl.nD,
      r.2.mem ((c.tc : Thread Cert.InGl.nD Cert.InGl.τ).loc Cert.InGl.main_arg0) = m ((c.tc : Thread Cert.InGl.nD Cert.InGl.τ).loc Cert.InGl.main_arg0)
      ∧ r.2.mem ((c.tc : Thread Cert.InGl.nD Cert.InGl.τ).loc Cert.InGl.main_arg1) = m ((c.tc : Thread Cert.InGl.nD Cert.InGl.τ).loc Cert.InGl.main_arg1))
      ∧ r.2.sem = fun _ => 0)

def quiescent_InGlIdeal [hInGlIdeal : Cert.InGlIdeal.Facts] : Prop :=
  ∀ (m : (ℓ : Loc Cert.InGlIdeal.nD Cert.InGlIdeal.τ Cert.InGlIdeal.sig) → Buf (Elt Ideal) ℓ) (g : Dev Cert.InGlIdeal.nD → PrngReg), Pre_InGlIdeal m →
    θ_run (Cert.InGlIdeal.defs (F := Ideal)) (onTc (τ := Cert.InGlIdeal.τ) (Cert.InGlIdeal.main (F := Ideal))) ⟨m, fun _ => 0, g⟩ (fun r => (∀ c : Dev Cert.InGlIdeal.nD,
      r.2.mem ((c.tc : Thread Cert.InGlIdeal.nD Cert.InGlIdeal.τ).loc Cert.InGlIdeal.main_arg0) = m ((c.tc : Thread Cert.InGlIdeal.nD Cert.InGlIdeal.τ).loc Cert.InGlIdeal.main_arg0)
      ∧ r.2.mem ((c.tc : Thread Cert.InGlIdeal.nD Cert.InGlIdeal.τ).loc Cert.InGlIdeal.main_arg1) = m ((c.tc : Thread Cert.InGlIdeal.nD Cert.InGlIdeal.τ).loc Cert.InGlIdeal.main_arg1))
      ∧ r.2.sem = fun _ => 0)

def quiescent_InGlRefIdeal [hInGlRefIdeal : Cert.InGlRefIdeal.Facts] : Prop :=
  ∀ (m : (ℓ : Loc Cert.InGlRefIdeal.nD Cert.InGlRefIdeal.τ Cert.InGlRefIdeal.sig) → Buf (Elt Ideal) ℓ) (g : Dev Cert.InGlRefIdeal.nD → PrngReg), Pre_InGlRefIdeal m →
    θ_run (Cert.InGlRefIdeal.defs (F := Ideal)) (onTc (τ := Cert.InGlRefIdeal.τ) (Cert.InGlRefIdeal.main (F := Ideal))) ⟨m, fun _ => 0, g⟩ (fun r => (∀ c : Dev Cert.InGlRefIdeal.nD,
      r.2.mem ((c.tc : Thread Cert.InGlRefIdeal.nD Cert.InGlRefIdeal.τ).loc Cert.InGlRefIdeal.main_arg0) = m ((c.tc : Thread Cert.InGlRefIdeal.nD Cert.InGlRefIdeal.τ).loc Cert.InGlRefIdeal.main_arg0)
      ∧ r.2.mem ((c.tc : Thread Cert.InGlRefIdeal.nD Cert.InGlRefIdeal.τ).loc Cert.InGlRefIdeal.main_arg1) = m ((c.tc : Thread Cert.InGlRefIdeal.nD Cert.InGlRefIdeal.τ).loc Cert.InGlRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ r.2.sem = fun _ => 0)

def quiescent_PostBwdIdeal_pre_finite_post [hPostBwdIdeal : Cert.PostBwdIdeal.Facts] [hPre_finite_post : Cert.Pre_finite_post.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal_finite_post m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3))
      ∧ r.2.sem = fun _ => 0)

def quiescent_PostBwdRefIdeal_pre_finite_post [hPostBwdRefIdeal : Cert.PostBwdRefIdeal.Facts] [hPre_finite_post : Cert.Pre_finite_post.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal_finite_post m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3))
      ∧ r.2.sem = fun _ => 0)

def quiescent_FfnConvBwd [hFfnConvBwd : Cert.FfnConvBwd.Facts] : Prop :=
  ∀ (m : (ℓ : Loc Cert.FfnConvBwd.nD Cert.FfnConvBwd.τ Cert.FfnConvBwd.sig) → Buf (Elt Bits) ℓ) (g : Dev Cert.FfnConvBwd.nD → PrngReg), Pre_FfnConvBwd m →
    θ_run (Cert.FfnConvBwd.defs (F := Bits)) (onTc (τ := Cert.FfnConvBwd.τ) (Cert.FfnConvBwd.main (F := Bits))) ⟨m, fun _ => 0, g⟩ (fun r => (∀ c : Dev Cert.FfnConvBwd.nD,
      r.2.mem ((c.tc : Thread Cert.FfnConvBwd.nD Cert.FfnConvBwd.τ).loc Cert.FfnConvBwd.main_arg0) = m ((c.tc : Thread Cert.FfnConvBwd.nD Cert.FfnConvBwd.τ).loc Cert.FfnConvBwd.main_arg0)
      ∧ r.2.mem ((c.tc : Thread Cert.FfnConvBwd.nD Cert.FfnConvBwd.τ).loc Cert.FfnConvBwd.main_arg1) = m ((c.tc : Thread Cert.FfnConvBwd.nD Cert.FfnConvBwd.τ).loc Cert.FfnConvBwd.main_arg1)
      ∧ r.2.mem ((c.tc : Thread Cert.FfnConvBwd.nD Cert.FfnConvBwd.τ).loc Cert.FfnConvBwd.main_arg2) = m ((c.tc : Thread Cert.FfnConvBwd.nD Cert.FfnConvBwd.τ).loc Cert.FfnConvBwd.main_arg2))
      ∧ r.2.sem = fun _ => 0)

def quiescent_FfnConvBwdIdeal [hFfnConvBwdIdeal : Cert.FfnConvBwdIdeal.Facts] : Prop :=
  ∀ (m : (ℓ : Loc Cert.FfnConvBwdIdeal.nD Cert.FfnConvBwdIdeal.τ Cert.FfnConvBwdIdeal.sig) → Buf (Elt Ideal) ℓ) (g : Dev Cert.FfnConvBwdIdeal.nD → PrngReg), Pre_FfnConvBwdIdeal m →
    θ_run (Cert.FfnConvBwdIdeal.defs (F := Ideal)) (onTc (τ := Cert.FfnConvBwdIdeal.τ) (Cert.FfnConvBwdIdeal.main (F := Ideal))) ⟨m, fun _ => 0, g⟩ (fun r => (∀ c : Dev Cert.FfnConvBwdIdeal.nD,
      r.2.mem ((c.tc : Thread Cert.FfnConvBwdIdeal.nD Cert.FfnConvBwdIdeal.τ).loc Cert.FfnConvBwdIdeal.main_arg0) = m ((c.tc : Thread Cert.FfnConvBwdIdeal.nD Cert.FfnConvBwdIdeal.τ).loc Cert.FfnConvBwdIdeal.main_arg0)
      ∧ r.2.mem ((c.tc : Thread Cert.FfnConvBwdIdeal.nD Cert.FfnConvBwdIdeal.τ).loc Cert.FfnConvBwdIdeal.main_arg1) = m ((c.tc : Thread Cert.FfnConvBwdIdeal.nD Cert.FfnConvBwdIdeal.τ).loc Cert.FfnConvBwdIdeal.main_arg1)
      ∧ r.2.mem ((c.tc : Thread Cert.FfnConvBwdIdeal.nD Cert.FfnConvBwdIdeal.τ).loc Cert.FfnConvBwdIdeal.main_arg2) = m ((c.tc : Thread Cert.FfnConvBwdIdeal.nD Cert.FfnConvBwdIdeal.τ).loc Cert.FfnConvBwdIdeal.main_arg2))
      ∧ r.2.sem = fun _ => 0)

def quiescent_FfnConvBwdRefIdeal [hFfnConvBwdRefIdeal : Cert.FfnConvBwdRefIdeal.Facts] : Prop :=
  ∀ (m : (ℓ : Loc Cert.FfnConvBwdRefIdeal.nD Cert.FfnConvBwdRefIdeal.τ Cert.FfnConvBwdRefIdeal.sig) → Buf (Elt Ideal) ℓ) (g : Dev Cert.FfnConvBwdRefIdeal.nD → PrngReg), Pre_FfnConvBwdRefIdeal m →
    θ_run (Cert.FfnConvBwdRefIdeal.defs (F := Ideal)) (onTc (τ := Cert.FfnConvBwdRefIdeal.τ) (Cert.FfnConvBwdRefIdeal.main (F := Ideal))) ⟨m, fun _ => 0, g⟩ (fun r => (∀ c : Dev Cert.FfnConvBwdRefIdeal.nD,
      r.2.mem ((c.tc : Thread Cert.FfnConvBwdRefIdeal.nD Cert.FfnConvBwdRefIdeal.τ).loc Cert.FfnConvBwdRefIdeal.main_arg0) = m ((c.tc : Thread Cert.FfnConvBwdRefIdeal.nD Cert.FfnConvBwdRefIdeal.τ).loc Cert.FfnConvBwdRefIdeal.main_arg0)
      ∧ r.2.mem ((c.tc : Thread Cert.FfnConvBwdRefIdeal.nD Cert.FfnConvBwdRefIdeal.τ).loc Cert.FfnConvBwdRefIdeal.main_arg1) = m ((c.tc : Thread Cert.FfnConvBwdRefIdeal.nD Cert.FfnConvBwdRefIdeal.τ).loc Cert.FfnConvBwdRefIdeal.main_arg1)
      ∧ r.2.mem ((c.tc : Thread Cert.FfnConvBwdRefIdeal.nD Cert.FfnConvBwdRefIdeal.τ).loc Cert.FfnConvBwdRefIdeal.main_arg2) = m ((c.tc : Thread Cert.FfnConvBwdRefIdeal.nD Cert.FfnConvBwdRefIdeal.τ).loc Cert.FfnConvBwdRefIdeal.main_arg2))
      ∧ r.2.sem = fun _ => 0)

def quiescent_DnConvBwd [hDnConvBwd : Cert.DnConvBwd.Facts] : Prop :=
  ∀ (m : (ℓ : Loc Cert.DnConvBwd.nD Cert.DnConvBwd.τ Cert.DnConvBwd.sig) → Buf (Elt Bits) ℓ) (g : Dev Cert.DnConvBwd.nD → PrngReg), Pre_DnConvBwd m →
    θ_run (Cert.DnConvBwd.defs (F := Bits)) (onTc (τ := Cert.DnConvBwd.τ) (Cert.DnConvBwd.main (F := Bits))) ⟨m, fun _ => 0, g⟩ (fun r => (∀ c : Dev Cert.DnConvBwd.nD,
      r.2.mem ((c.tc : Thread Cert.DnConvBwd.nD Cert.DnConvBwd.τ).loc Cert.DnConvBwd.main_arg0) = m ((c.tc : Thread Cert.DnConvBwd.nD Cert.DnConvBwd.τ).loc Cert.DnConvBwd.main_arg0)
      ∧ r.2.mem ((c.tc : Thread Cert.DnConvBwd.nD Cert.DnConvBwd.τ).loc Cert.DnConvBwd.main_arg1) = m ((c.tc : Thread Cert.DnConvBwd.nD Cert.DnConvBwd.τ).loc Cert.DnConvBwd.main_arg1))
      ∧ r.2.sem = fun _ => 0)

def quiescent_DnConvBwdIdeal [hDnConvBwdIdeal : Cert.DnConvBwdIdeal.Facts] : Prop :=
  ∀ (m : (ℓ : Loc Cert.DnConvBwdIdeal.nD Cert.DnConvBwdIdeal.τ Cert.DnConvBwdIdeal.sig) → Buf (Elt Ideal) ℓ) (g : Dev Cert.DnConvBwdIdeal.nD → PrngReg), Pre_DnConvBwdIdeal m →
    θ_run (Cert.DnConvBwdIdeal.defs (F := Ideal)) (onTc (τ := Cert.DnConvBwdIdeal.τ) (Cert.DnConvBwdIdeal.main (F := Ideal))) ⟨m, fun _ => 0, g⟩ (fun r => (∀ c : Dev Cert.DnConvBwdIdeal.nD,
      r.2.mem ((c.tc : Thread Cert.DnConvBwdIdeal.nD Cert.DnConvBwdIdeal.τ).loc Cert.DnConvBwdIdeal.main_arg0) = m ((c.tc : Thread Cert.DnConvBwdIdeal.nD Cert.DnConvBwdIdeal.τ).loc Cert.DnConvBwdIdeal.main_arg0)
      ∧ r.2.mem ((c.tc : Thread Cert.DnConvBwdIdeal.nD Cert.DnConvBwdIdeal.τ).loc Cert.DnConvBwdIdeal.main_arg1) = m ((c.tc : Thread Cert.DnConvBwdIdeal.nD Cert.DnConvBwdIdeal.τ).loc Cert.DnConvBwdIdeal.main_arg1))
      ∧ r.2.sem = fun _ => 0)

def quiescent_DnConvBwdRefIdeal [hDnConvBwdRefIdeal : Cert.DnConvBwdRefIdeal.Facts] : Prop :=
  ∀ (m : (ℓ : Loc Cert.DnConvBwdRefIdeal.nD Cert.DnConvBwdRefIdeal.τ Cert.DnConvBwdRefIdeal.sig) → Buf (Elt Ideal) ℓ) (g : Dev Cert.DnConvBwdRefIdeal.nD → PrngReg), Pre_DnConvBwdRefIdeal m →
    θ_run (Cert.DnConvBwdRefIdeal.defs (F := Ideal)) (onTc (τ := Cert.DnConvBwdRefIdeal.τ) (Cert.DnConvBwdRefIdeal.main (F := Ideal))) ⟨m, fun _ => 0, g⟩ (fun r => (∀ c : Dev Cert.DnConvBwdRefIdeal.nD,
      r.2.mem ((c.tc : Thread Cert.DnConvBwdRefIdeal.nD Cert.DnConvBwdRefIdeal.τ).loc Cert.DnConvBwdRefIdeal.main_arg0) = m ((c.tc : Thread Cert.DnConvBwdRefIdeal.nD Cert.DnConvBwdRefIdeal.τ).loc Cert.DnConvBwdRefIdeal.main_arg0)
      ∧ r.2.mem ((c.tc : Thread Cert.DnConvBwdRefIdeal.nD Cert.DnConvBwdRefIdeal.τ).loc Cert.DnConvBwdRefIdeal.main_arg1) = m ((c.tc : Thread Cert.DnConvBwdRefIdeal.nD Cert.DnConvBwdRefIdeal.τ).loc Cert.DnConvBwdRefIdeal.main_arg1))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1))
      ∧ r.2.sem = fun _ => 0)

def quiescent_FfnActBwd [hFfnActBwd : Cert.FfnActBwd.Facts] : Prop :=
  ∀ (m : (ℓ : Loc Cert.FfnActBwd.nD Cert.FfnActBwd.τ Cert.FfnActBwd.sig) → Buf (Elt Bits) ℓ) (g : Dev Cert.FfnActBwd.nD → PrngReg), Pre_FfnActBwd m →
    θ_run (Cert.FfnActBwd.defs (F := Bits)) (onTc (τ := Cert.FfnActBwd.τ) (Cert.FfnActBwd.main (F := Bits))) ⟨m, fun _ => 0, g⟩ (fun r => (∀ c : Dev Cert.FfnActBwd.nD,
      r.2.mem ((c.tc : Thread Cert.FfnActBwd.nD Cert.FfnActBwd.τ).loc Cert.FfnActBwd.main_arg0) = m ((c.tc : Thread Cert.FfnActBwd.nD Cert.FfnActBwd.τ).loc Cert.FfnActBwd.main_arg0)
      ∧ r.2.mem ((c.tc : Thread Cert.FfnActBwd.nD Cert.FfnActBwd.τ).loc Cert.FfnActBwd.main_arg1) = m ((c.tc : Thread Cert.FfnActBwd.nD Cert.FfnActBwd.τ).loc Cert.FfnActBwd.main_arg1)
      ∧ r.2.mem ((c.tc : Thread Cert.FfnActBwd.nD Cert.FfnActBwd.τ).loc Cert.FfnActBwd.main_arg2) = m ((c.tc : Thread Cert.FfnActBwd.nD Cert.FfnActBwd.τ).loc Cert.FfnActBwd.main_arg2))
      ∧ r.2.sem = fun _ => 0)

def quiescent_FfnActBwdIdeal [hFfnActBwdIdeal : Cert.FfnActBwdIdeal.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg), Pre_FfnActBwdIdeal m →
    θ_run (Cert.FfnActBwdIdeal.defs (F := Ideal)) (onTc (τ := Cert.FfnActBwdIdeal.τ) (Cert.FfnActBwdIdeal.main (F := Ideal))) ⟨m, fun _ => 0, g⟩ (fun r => (∀ c : Dev Cert.FfnActBwdIdeal.nD,
      r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
      ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
      ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2))
      ∧ r.2.sem = fun _ => 0)

def quiescent_FfnActBwdIdeal_pre_finite_ffn [hFfnActBwdIdeal : Cert.FfnActBwdIdeal.Facts] [hPre_finite_ffn : Cert.Pre_finite_ffn.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg), Pre_FfnActBwdIdeal_finite_ffn m →
    θ_run (Cert.FfnActBwdIdeal.defs (F := Ideal)) (onTc (τ := Cert.FfnActBwdIdeal.τ) (Cert.FfnActBwdIdeal.main (F := Ideal))) ⟨m, fun _ => 0, g⟩ (fun r => (∀ c : Dev Cert.FfnActBwdIdeal.nD,
      r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
      ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
      ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2))
      ∧ r.2.sem = fun _ => 0)

def quiescent_FfnActBwdRefIdeal [hFfnActBwdRefIdeal : Cert.FfnActBwdRefIdeal.Facts] : Prop :=
  ∀ (m : (ℓ : Loc Cert.FfnActBwdRefIdeal.nD Cert.FfnActBwdRefIdeal.τ Cert.FfnActBwdRefIdeal.sig) → Buf (Elt Ideal) ℓ) (g : Dev Cert.FfnActBwdRefIdeal.nD → PrngReg), Pre_FfnActBwdRefIdeal m →
    θ_run (Cert.FfnActBwdRefIdeal.defs (F := Ideal)) (onTc (τ := Cert.FfnActBwdRefIdeal.τ) (Cert.FfnActBwdRefIdeal.main (F := Ideal))) ⟨m, fun _ => 0, g⟩ (fun r => (∀ c : Dev Cert.FfnActBwdRefIdeal.nD,
      r.2.mem ((c.tc : Thread Cert.FfnActBwdRefIdeal.nD Cert.FfnActBwdRefIdeal.τ).loc Cert.FfnActBwdRefIdeal.main_arg0) = m ((c.tc : Thread Cert.FfnActBwdRefIdeal.nD Cert.FfnActBwdRefIdeal.τ).loc Cert.FfnActBwdRefIdeal.main_arg0)
      ∧ r.2.mem ((c.tc : Thread Cert.FfnActBwdRefIdeal.nD Cert.FfnActBwdRefIdeal.τ).loc Cert.FfnActBwdRefIdeal.main_arg1) = m ((c.tc : Thread Cert.FfnActBwdRefIdeal.nD Cert.FfnActBwdRefIdeal.τ).loc Cert.FfnActBwdRefIdeal.main_arg1)
      ∧ r.2.mem ((c.tc : Thread Cert.FfnActBwdRefIdeal.nD Cert.FfnActBwdRefIdeal.τ).loc Cert.FfnActBwdRefIdeal.main_arg2) = m ((c.tc : Thread Cert.FfnActBwdRefIdeal.nD Cert.FfnActBwdRefIdeal.τ).loc Cert.FfnActBwdRefIdeal.main_arg2))
      ∧ r.2.sem = fun _ => 0)

def quiescent_FfnActBwdRefIdeal_pre_finite_ffn [hFfnActBwdRefIdeal : Cert.FfnActBwdRefIdeal.Facts] [hPre_finite_ffn : Cert.Pre_finite_ffn.Facts] : Prop :=
  ∀ (m : (ℓ : Loc Cert.FfnActBwdRefIdeal.nD Cert.FfnActBwdRefIdeal.τ Cert.FfnActBwdRefIdeal.sig) → Buf (Elt Ideal) ℓ) (g : Dev Cert.FfnActBwdRefIdeal.nD → PrngReg), Pre_FfnActBwdRefIdeal_finite_ffn m →
    θ_run (Cert.FfnActBwdRefIdeal.defs (F := Ideal)) (onTc (τ := Cert.FfnActBwdRefIdeal.τ) (Cert.FfnActBwdRefIdeal.main (F := Ideal))) ⟨m, fun _ => 0, g⟩ (fun r => (∀ c : Dev Cert.FfnActBwdRefIdeal.nD,
      r.2.mem ((c.tc : Thread Cert.FfnActBwdRefIdeal.nD Cert.FfnActBwdRefIdeal.τ).loc Cert.FfnActBwdRefIdeal.main_arg0) = m ((c.tc : Thread Cert.FfnActBwdRefIdeal.nD Cert.FfnActBwdRefIdeal.τ).loc Cert.FfnActBwdRefIdeal.main_arg0)
      ∧ r.2.mem ((c.tc : Thread Cert.FfnActBwdRefIdeal.nD Cert.FfnActBwdRefIdeal.τ).loc Cert.FfnActBwdRefIdeal.main_arg1) = m ((c.tc : Thread Cert.FfnActBwdRefIdeal.nD Cert.FfnActBwdRefIdeal.τ).loc Cert.FfnActBwdRefIdeal.main_arg1)
      ∧ r.2.mem ((c.tc : Thread Cert.FfnActBwdRefIdeal.nD Cert.FfnActBwdRefIdeal.τ).loc Cert.FfnActBwdRefIdeal.main_arg2) = m ((c.tc : Thread Cert.FfnActBwdRefIdeal.nD Cert.FfnActBwdRefIdeal.τ).loc Cert.FfnActBwdRefIdeal.main_arg2))
      ∧ r.2.sem = fun _ => 0)

def quiescent_DnPre [hDnPre : Cert.DnPre.Facts] : Prop :=
  ∀ (m : (ℓ : Loc Cert.DnPre.nD Cert.DnPre.τ Cert.DnPre.sig) → Buf (Elt Bits) ℓ) (g : Dev Cert.DnPre.nD → PrngReg), Pre_DnPre m →
    θ_run (Cert.DnPre.defs (F := Bits)) (onTc (τ := Cert.DnPre.τ) (Cert.DnPre.main (F := Bits))) ⟨m, fun _ => 0, g⟩ (fun r => (∀ c : Dev Cert.DnPre.nD,
      r.2.mem ((c.tc : Thread Cert.DnPre.nD Cert.DnPre.τ).loc Cert.DnPre.main_arg0) = m ((c.tc : Thread Cert.DnPre.nD Cert.DnPre.τ).loc Cert.DnPre.main_arg0)
      ∧ r.2.mem ((c.tc : Thread Cert.DnPre.nD Cert.DnPre.τ).loc Cert.DnPre.main_arg1) = m ((c.tc : Thread Cert.DnPre.nD Cert.DnPre.τ).loc Cert.DnPre.main_arg1))
      ∧ r.2.sem = fun _ => 0)

def quiescent_DnPreIdeal [hDnPreIdeal : Cert.DnPreIdeal.Facts] : Prop :=
  ∀ (m : (ℓ : Loc Cert.DnPreIdeal.nD Cert.DnPreIdeal.τ Cert.DnPreIdeal.sig) → Buf (Elt Ideal) ℓ) (g : Dev Cert.DnPreIdeal.nD → PrngReg), Pre_DnPreIdeal m →
    θ_run (Cert.DnPreIdeal.defs (F := Ideal)) (onTc (τ := Cert.DnPreIdeal.τ) (Cert.DnPreIdeal.main (F := Ideal))) ⟨m, fun _ => 0, g⟩ (fun r => (∀ c : Dev Cert.DnPreIdeal.nD,
      r.2.mem ((c.tc : Thread Cert.DnPreIdeal.nD Cert.DnPreIdeal.τ).loc Cert.DnPreIdeal.main_arg0) = m ((c.tc : Thread Cert.DnPreIdeal.nD Cert.DnPreIdeal.τ).loc Cert.DnPreIdeal.main_arg0)
      ∧ r.2.mem ((c.tc : Thread Cert.DnPreIdeal.nD Cert.DnPreIdeal.τ).loc Cert.DnPreIdeal.main_arg1) = m ((c.tc : Thread Cert.DnPreIdeal.nD Cert.DnPreIdeal.τ).loc Cert.DnPreIdeal.main_arg1))
      ∧ r.2.sem = fun _ => 0)

def quiescent_DnPreRefIdeal [hDnPreRefIdeal : Cert.DnPreRefIdeal.Facts] : Prop :=
  ∀ (m : (ℓ : Loc Cert.DnPreRefIdeal.nD Cert.DnPreRefIdeal.τ Cert.DnPreRefIdeal.sig) → Buf (Elt Ideal) ℓ) (g : Dev Cert.DnPreRefIdeal.nD → PrngReg), Pre_DnPreRefIdeal m →
    θ_run (Cert.DnPreRefIdeal.defs (F := Ideal)) (onTc (τ := Cert.DnPreRefIdeal.τ) (Cert.DnPreRefIdeal.main (F := Ideal))) ⟨m, fun _ => 0, g⟩ (fun r => (∀ c : Dev Cert.DnPreRefIdeal.nD,
      r.2.mem ((c.tc : Thread Cert.DnPreRefIdeal.nD Cert.DnPreRefIdeal.τ).loc Cert.DnPreRefIdeal.main_arg0) = m ((c.tc : Thread Cert.DnPreRefIdeal.nD Cert.DnPreRefIdeal.τ).loc Cert.DnPreRefIdeal.main_arg0)
      ∧ r.2.mem ((c.tc : Thread Cert.DnPreRefIdeal.nD Cert.DnPreRefIdeal.τ).loc Cert.DnPreRefIdeal.main_arg1) = m ((c.tc : Thread Cert.DnPreRefIdeal.nD Cert.DnPreRefIdeal.τ).loc Cert.DnPreRefIdeal.main_arg1))
      ∧ r.2.sem = fun _ => 0)

def quiescent_DnPreBwd [hDnPreBwd : Cert.DnPreBwd.Facts] : Prop :=
  ∀ (m : (ℓ : Loc Cert.DnPreBwd.nD Cert.DnPreBwd.τ Cert.DnPreBwd.sig) → Buf (Elt Bits) ℓ) (g : Dev Cert.DnPreBwd.nD → PrngReg), Pre_DnPreBwd m →
    θ_run (Cert.DnPreBwd.defs (F := Bits)) (onTc (τ := Cert.DnPreBwd.τ) (Cert.DnPreBwd.main (F := Bits))) ⟨m, fun _ => 0, g⟩ (fun r => (∀ c : Dev Cert.DnPreBwd.nD,
      r.2.mem ((c.tc : Thread Cert.DnPreBwd.nD Cert.DnPreBwd.τ).loc Cert.DnPreBwd.main_arg0) = m ((c.tc : Thread Cert.DnPreBwd.nD Cert.DnPreBwd.τ).loc Cert.DnPreBwd.main_arg0)
      ∧ r.2.mem ((c.tc : Thread Cert.DnPreBwd.nD Cert.DnPreBwd.τ).loc Cert.DnPreBwd.main_arg1) = m ((c.tc : Thread Cert.DnPreBwd.nD Cert.DnPreBwd.τ).loc Cert.DnPreBwd.main_arg1)
      ∧ r.2.mem ((c.tc : Thread Cert.DnPreBwd.nD Cert.DnPreBwd.τ).loc Cert.DnPreBwd.main_arg2) = m ((c.tc : Thread Cert.DnPreBwd.nD Cert.DnPreBwd.τ).loc Cert.DnPreBwd.main_arg2)
      ∧ r.2.mem ((c.tc : Thread Cert.DnPreBwd.nD Cert.DnPreBwd.τ).loc Cert.DnPreBwd.main_arg3) = m ((c.tc : Thread Cert.DnPreBwd.nD Cert.DnPreBwd.τ).loc Cert.DnPreBwd.main_arg3)
      ∧ r.2.mem ((c.tc : Thread Cert.DnPreBwd.nD Cert.DnPreBwd.τ).loc Cert.DnPreBwd.main_arg4) = m ((c.tc : Thread Cert.DnPreBwd.nD Cert.DnPreBwd.τ).loc Cert.DnPreBwd.main_arg4))
      ∧ r.2.sem = fun _ => 0)

def quiescent_DnPreBwdIdeal [hDnPreBwdIdeal : Cert.DnPreBwdIdeal.Facts] : Prop :=
  ∀ (m : (ℓ : Loc Cert.DnPreBwdIdeal.nD Cert.DnPreBwdIdeal.τ Cert.DnPreBwdIdeal.sig) → Buf (Elt Ideal) ℓ) (g : Dev Cert.DnPreBwdIdeal.nD → PrngReg), Pre_DnPreBwdIdeal m →
    θ_run (Cert.DnPreBwdIdeal.defs (F := Ideal)) (onTc (τ := Cert.DnPreBwdIdeal.τ) (Cert.DnPreBwdIdeal.main (F := Ideal))) ⟨m, fun _ => 0, g⟩ (fun r => (∀ c : Dev Cert.DnPreBwdIdeal.nD,
      r.2.mem ((c.tc : Thread Cert.DnPreBwdIdeal.nD Cert.DnPreBwdIdeal.τ).loc Cert.DnPreBwdIdeal.main_arg0) = m ((c.tc : Thread Cert.DnPreBwdIdeal.nD Cert.DnPreBwdIdeal.τ).loc Cert.DnPreBwdIdeal.main_arg0)
      ∧ r.2.mem ((c.tc : Thread Cert.DnPreBwdIdeal.nD Cert.DnPreBwdIdeal.τ).loc Cert.DnPreBwdIdeal.main_arg1) = m ((c.tc : Thread Cert.DnPreBwdIdeal.nD Cert.DnPreBwdIdeal.τ).loc Cert.DnPreBwdIdeal.main_arg1)
      ∧ r.2.mem ((c.tc : Thread Cert.DnPreBwdIdeal.nD Cert.DnPreBwdIdeal.τ).loc Cert.DnPreBwdIdeal.main_arg2) = m ((c.tc : Thread Cert.DnPreBwdIdeal.nD Cert.DnPreBwdIdeal.τ).loc Cert.DnPreBwdIdeal.main_arg2)
      ∧ r.2.mem ((c.tc : Thread Cert.DnPreBwdIdeal.nD Cert.DnPreBwdIdeal.τ).loc Cert.DnPreBwdIdeal.main_arg3) = m ((c.tc : Thread Cert.DnPreBwdIdeal.nD Cert.DnPreBwdIdeal.τ).loc Cert.DnPreBwdIdeal.main_arg3)
      ∧ r.2.mem ((c.tc : Thread Cert.DnPreBwdIdeal.nD Cert.DnPreBwdIdeal.τ).loc Cert.DnPreBwdIdeal.main_arg4) = m ((c.tc : Thread Cert.DnPreBwdIdeal.nD Cert.DnPreBwdIdeal.τ).loc Cert.DnPreBwdIdeal.main_arg4))
      ∧ r.2.sem = fun _ => 0)

def quiescent_DnPreBwdIdeal_pre_finite_pre [hDnPreBwdIdeal : Cert.DnPreBwdIdeal.Facts] [hPre_finite_pre : Cert.Pre_finite_pre.Facts] : Prop :=
  ∀ (m : (ℓ : Loc Cert.DnPreBwdIdeal.nD Cert.DnPreBwdIdeal.τ Cert.DnPreBwdIdeal.sig) → Buf (Elt Ideal) ℓ) (g : Dev Cert.DnPreBwdIdeal.nD → PrngReg), Pre_DnPreBwdIdeal_finite_pre m →
    θ_run (Cert.DnPreBwdIdeal.defs (F := Ideal)) (onTc (τ := Cert.DnPreBwdIdeal.τ) (Cert.DnPreBwdIdeal.main (F := Ideal))) ⟨m, fun _ => 0, g⟩ (fun r => (∀ c : Dev Cert.DnPreBwdIdeal.nD,
      r.2.mem ((c.tc : Thread Cert.DnPreBwdIdeal.nD Cert.DnPreBwdIdeal.τ).loc Cert.DnPreBwdIdeal.main_arg0) = m ((c.tc : Thread Cert.DnPreBwdIdeal.nD Cert.DnPreBwdIdeal.τ).loc Cert.DnPreBwdIdeal.main_arg0)
      ∧ r.2.mem ((c.tc : Thread Cert.DnPreBwdIdeal.nD Cert.DnPreBwdIdeal.τ).loc Cert.DnPreBwdIdeal.main_arg1) = m ((c.tc : Thread Cert.DnPreBwdIdeal.nD Cert.DnPreBwdIdeal.τ).loc Cert.DnPreBwdIdeal.main_arg1)
      ∧ r.2.mem ((c.tc : Thread Cert.DnPreBwdIdeal.nD Cert.DnPreBwdIdeal.τ).loc Cert.DnPreBwdIdeal.main_arg2) = m ((c.tc : Thread Cert.DnPreBwdIdeal.nD Cert.DnPreBwdIdeal.τ).loc Cert.DnPreBwdIdeal.main_arg2)
      ∧ r.2.mem ((c.tc : Thread Cert.DnPreBwdIdeal.nD Cert.DnPreBwdIdeal.τ).loc Cert.DnPreBwdIdeal.main_arg3) = m ((c.tc : Thread Cert.DnPreBwdIdeal.nD Cert.DnPreBwdIdeal.τ).loc Cert.DnPreBwdIdeal.main_arg3)
      ∧ r.2.mem ((c.tc : Thread Cert.DnPreBwdIdeal.nD Cert.DnPreBwdIdeal.τ).loc Cert.DnPreBwdIdeal.main_arg4) = m ((c.tc : Thread Cert.DnPreBwdIdeal.nD Cert.DnPreBwdIdeal.τ).loc Cert.DnPreBwdIdeal.main_arg4))
      ∧ r.2.sem = fun _ => 0)

def quiescent_DnPreBwdRefIdeal [hDnPreBwdRefIdeal : Cert.DnPreBwdRefIdeal.Facts] : Prop :=
  ∀ (m : (ℓ : Loc Cert.DnPreBwdRefIdeal.nD Cert.DnPreBwdRefIdeal.τ Cert.DnPreBwdRefIdeal.sig) → Buf (Elt Ideal) ℓ) (g : Dev Cert.DnPreBwdRefIdeal.nD → PrngReg), Pre_DnPreBwdRefIdeal m →
    θ_run (Cert.DnPreBwdRefIdeal.defs (F := Ideal)) (onTc (τ := Cert.DnPreBwdRefIdeal.τ) (Cert.DnPreBwdRefIdeal.main (F := Ideal))) ⟨m, fun _ => 0, g⟩ (fun r => (∀ c : Dev Cert.DnPreBwdRefIdeal.nD,
      r.2.mem ((c.tc : Thread Cert.DnPreBwdRefIdeal.nD Cert.DnPreBwdRefIdeal.τ).loc Cert.DnPreBwdRefIdeal.main_arg0) = m ((c.tc : Thread Cert.DnPreBwdRefIdeal.nD Cert.DnPreBwdRefIdeal.τ).loc Cert.DnPreBwdRefIdeal.main_arg0)
      ∧ r.2.mem ((c.tc : Thread Cert.DnPreBwdRefIdeal.nD Cert.DnPreBwdRefIdeal.τ).loc Cert.DnPreBwdRefIdeal.main_arg1) = m ((c.tc : Thread Cert.DnPreBwdRefIdeal.nD Cert.DnPreBwdRefIdeal.τ).loc Cert.DnPreBwdRefIdeal.main_arg1)
      ∧ r.2.mem ((c.tc : Thread Cert.DnPreBwdRefIdeal.nD Cert.DnPreBwdRefIdeal.τ).loc Cert.DnPreBwdRefIdeal.main_arg2) = m ((c.tc : Thread Cert.DnPreBwdRefIdeal.nD Cert.DnPreBwdRefIdeal.τ).loc Cert.DnPreBwdRefIdeal.main_arg2)
      ∧ r.2.mem ((c.tc : Thread Cert.DnPreBwdRefIdeal.nD Cert.DnPreBwdRefIdeal.τ).loc Cert.DnPreBwdRefIdeal.main_arg3) = m ((c.tc : Thread Cert.DnPreBwdRefIdeal.nD Cert.DnPreBwdRefIdeal.τ).loc Cert.DnPreBwdRefIdeal.main_arg3)
      ∧ r.2.mem ((c.tc : Thread Cert.DnPreBwdRefIdeal.nD Cert.DnPreBwdRefIdeal.τ).loc Cert.DnPreBwdRefIdeal.main_arg4) = m ((c.tc : Thread Cert.DnPreBwdRefIdeal.nD Cert.DnPreBwdRefIdeal.τ).loc Cert.DnPreBwdRefIdeal.main_arg4))
      ∧ r.2.sem = fun _ => 0)

def quiescent_DnPreBwdRefIdeal_pre_finite_pre [hDnPreBwdRefIdeal : Cert.DnPreBwdRefIdeal.Facts] [hPre_finite_pre : Cert.Pre_finite_pre.Facts] : Prop :=
  ∀ (m : (ℓ : Loc Cert.DnPreBwdRefIdeal.nD Cert.DnPreBwdRefIdeal.τ Cert.DnPreBwdRefIdeal.sig) → Buf (Elt Ideal) ℓ) (g : Dev Cert.DnPreBwdRefIdeal.nD → PrngReg), Pre_DnPreBwdRefIdeal_finite_pre m →
    θ_run (Cert.DnPreBwdRefIdeal.defs (F := Ideal)) (onTc (τ := Cert.DnPreBwdRefIdeal.τ) (Cert.DnPreBwdRefIdeal.main (F := Ideal))) ⟨m, fun _ => 0, g⟩ (fun r => (∀ c : Dev Cert.DnPreBwdRefIdeal.nD,
      r.2.mem ((c.tc : Thread Cert.DnPreBwdRefIdeal.nD Cert.DnPreBwdRefIdeal.τ).loc Cert.DnPreBwdRefIdeal.main_arg0) = m ((c.tc : Thread Cert.DnPreBwdRefIdeal.nD Cert.DnPreBwdRefIdeal.τ).loc Cert.DnPreBwdRefIdeal.main_arg0)
      ∧ r.2.mem ((c.tc : Thread Cert.DnPreBwdRefIdeal.nD Cert.DnPreBwdRefIdeal.τ).loc Cert.DnPreBwdRefIdeal.main_arg1) = m ((c.tc : Thread Cert.DnPreBwdRefIdeal.nD Cert.DnPreBwdRefIdeal.τ).loc Cert.DnPreBwdRefIdeal.main_arg1)
      ∧ r.2.mem ((c.tc : Thread Cert.DnPreBwdRefIdeal.nD Cert.DnPreBwdRefIdeal.τ).loc Cert.DnPreBwdRefIdeal.main_arg2) = m ((c.tc : Thread Cert.DnPreBwdRefIdeal.nD Cert.DnPreBwdRefIdeal.τ).loc Cert.DnPreBwdRefIdeal.main_arg2)
      ∧ r.2.mem ((c.tc : Thread Cert.DnPreBwdRefIdeal.nD Cert.DnPreBwdRefIdeal.τ).loc Cert.DnPreBwdRefIdeal.main_arg3) = m ((c.tc : Thread Cert.DnPreBwdRefIdeal.nD Cert.DnPreBwdRefIdeal.τ).loc Cert.DnPreBwdRefIdeal.main_arg3)
      ∧ r.2.mem ((c.tc : Thread Cert.DnPreBwdRefIdeal.nD Cert.DnPreBwdRefIdeal.τ).loc Cert.DnPreBwdRefIdeal.main_arg4) = m ((c.tc : Thread Cert.DnPreBwdRefIdeal.nD Cert.DnPreBwdRefIdeal.τ).loc Cert.DnPreBwdRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v3)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v3) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v2) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v3)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v3) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v2)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v2) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v3) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v2)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v2) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v4) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_InQkv_InQkvIdeal : Prop :=
  True

def algebraic_InQkvIdeal_InQkvRefIdeal [hInQkvIdeal : Cert.InQkvIdeal.Facts] [hInQkvRefIdeal : Cert.InQkvRefIdeal.Facts] : Prop :=
  ∀ (m : (ℓ : Loc Cert.InQkvIdeal.nD Cert.InQkvIdeal.τ Cert.InQkvIdeal.sig) → Buf (Elt Ideal) ℓ) (g : Dev Cert.InQkvIdeal.nD → PrngReg)
    (m' : (ℓ : Loc Cert.InQkvRefIdeal.nD Cert.InQkvRefIdeal.τ Cert.InQkvRefIdeal.sig) → Buf (Elt Ideal) ℓ) (g' : Dev Cert.InQkvRefIdeal.nD → PrngReg), Pre_InQkvIdeal m →
    (∀ c : Dev Cert.InQkvIdeal.nD,
      m' ((c.tc : Thread Cert.InQkvRefIdeal.nD Cert.InQkvRefIdeal.τ).loc Cert.InQkvRefIdeal.main_arg0) = m ((c.tc : Thread Cert.InQkvIdeal.nD Cert.InQkvIdeal.τ).loc Cert.InQkvIdeal.main_arg0)
      ∧ m' ((c.tc : Thread Cert.InQkvRefIdeal.nD Cert.InQkvRefIdeal.τ).loc Cert.InQkvRefIdeal.main_arg1) = m ((c.tc : Thread Cert.InQkvIdeal.nD Cert.InQkvIdeal.τ).loc Cert.InQkvIdeal.main_arg1)) →
    ∃ (v0 : (c : Dev Cert.InQkvIdeal.nD) → Buf (Elt Ideal) ((c.tc : Thread Cert.InQkvIdeal.nD Cert.InQkvIdeal.τ).loc Cert.InQkvIdeal.main_v3)),
      θ_run (Cert.InQkvIdeal.defs (F := Ideal)) (onTc (τ := Cert.InQkvIdeal.τ) (Cert.InQkvIdeal.main (F := Ideal))) ⟨m, fun _ => 0, g⟩ (fun r => ∀ c : Dev Cert.InQkvIdeal.nD,
          r.2.mem ((c.tc : Thread Cert.InQkvIdeal.nD Cert.InQkvIdeal.τ).loc Cert.InQkvIdeal.main_v3) = v0 c
          ∧ r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
          ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ θ_run (Cert.InQkvRefIdeal.defs (F := Ideal)) (onTc (τ := Cert.InQkvRefIdeal.τ) (Cert.InQkvRefIdeal.main (F := Ideal))) ⟨m', fun _ => 0, g'⟩ (fun r => ∀ c : Dev Cert.InQkvRefIdeal.nD,
          r.2.mem ((c.tc : Thread Cert.InQkvRefIdeal.nD Cert.InQkvRefIdeal.τ).loc Cert.InQkvRefIdeal.main_v1) = v0 c
          ∧ r.2.mem ((c.tc : Thread Cert.InQkvRefIdeal.nD Cert.InQkvRefIdeal.τ).loc Cert.InQkvRefIdeal.main_arg0) = m' ((c.tc : Thread Cert.InQkvRefIdeal.nD Cert.InQkvRefIdeal.τ).loc Cert.InQkvRefIdeal.main_arg0)
          ∧ r.2.mem ((c.tc : Thread Cert.InQkvRefIdeal.nD Cert.InQkvRefIdeal.τ).loc Cert.InQkvRefIdeal.main_arg1) = m' ((c.tc : Thread Cert.InQkvRefIdeal.nD Cert.InQkvRefIdeal.τ).loc Cert.InQkvRefIdeal.main_arg1))

def preserves_InGate_InGateIdeal : Prop :=
  True

def algebraic_InGateIdeal_InGateRefIdeal [hInGateIdeal : Cert.InGateIdeal.Facts] [hInGateRefIdeal : Cert.InGateRefIdeal.Facts] : Prop :=
  ∀ (m : (ℓ : Loc Cert.InGateIdeal.nD Cert.InGateIdeal.τ Cert.InGateIdeal.sig) → Buf (Elt Ideal) ℓ) (g : Dev Cert.InGateIdeal.nD → PrngReg)
    (m' : (ℓ : Loc Cert.InGateRefIdeal.nD Cert.InGateRefIdeal.τ Cert.InGateRefIdeal.sig) → Buf (Elt Ideal) ℓ) (g' : Dev Cert.InGateRefIdeal.nD → PrngReg), Pre_InGateIdeal m →
    (∀ c : Dev Cert.InGateIdeal.nD,
      m' ((c.tc : Thread Cert.InGateRefIdeal.nD Cert.InGateRefIdeal.τ).loc Cert.InGateRefIdeal.main_arg0) = m ((c.tc : Thread Cert.InGateIdeal.nD Cert.InGateIdeal.τ).loc Cert.InGateIdeal.main_arg0)
      ∧ m' ((c.tc : Thread Cert.InGateRefIdeal.nD Cert.InGateRefIdeal.τ).loc Cert.InGateRefIdeal.main_arg1) = m ((c.tc : Thread Cert.InGateIdeal.nD Cert.InGateIdeal.τ).loc Cert.InGateIdeal.main_arg1)) →
    ∃ (v0 : (c : Dev Cert.InGateIdeal.nD) → Buf (Elt Ideal) ((c.tc : Thread Cert.InGateIdeal.nD Cert.InGateIdeal.τ).loc Cert.InGateIdeal.main_v3)),
      θ_run (Cert.InGateIdeal.defs (F := Ideal)) (onTc (τ := Cert.InGateIdeal.τ) (Cert.InGateIdeal.main (F := Ideal))) ⟨m, fun _ => 0, g⟩ (fun r => ∀ c : Dev Cert.InGateIdeal.nD,
          r.2.mem ((c.tc : Thread Cert.InGateIdeal.nD Cert.InGateIdeal.τ).loc Cert.InGateIdeal.main_v3) = v0 c
          ∧ r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
          ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ θ_run (Cert.InGateRefIdeal.defs (F := Ideal)) (onTc (τ := Cert.InGateRefIdeal.τ) (Cert.InGateRefIdeal.main (F := Ideal))) ⟨m', fun _ => 0, g'⟩ (fun r => ∀ c : Dev Cert.InGateRefIdeal.nD,
          r.2.mem ((c.tc : Thread Cert.InGateRefIdeal.nD Cert.InGateRefIdeal.τ).loc Cert.InGateRefIdeal.main_v1) = v0 c
          ∧ r.2.mem ((c.tc : Thread Cert.InGateRefIdeal.nD Cert.InGateRefIdeal.τ).loc Cert.InGateRefIdeal.main_arg0) = m' ((c.tc : Thread Cert.InGateRefIdeal.nD Cert.InGateRefIdeal.τ).loc Cert.InGateRefIdeal.main_arg0)
          ∧ r.2.mem ((c.tc : Thread Cert.InGateRefIdeal.nD Cert.InGateRefIdeal.τ).loc Cert.InGateRefIdeal.main_arg1) = m' ((c.tc : Thread Cert.InGateRefIdeal.nD Cert.InGateRefIdeal.τ).loc Cert.InGateRefIdeal.main_arg1))

def preserves_InGl_InGlIdeal : Prop :=
  True

def algebraic_InGlIdeal_InGlRefIdeal [hInGlIdeal : Cert.InGlIdeal.Facts] [hInGlRefIdeal : Cert.InGlRefIdeal.Facts] : Prop :=
  ∀ (m : (ℓ : Loc Cert.InGlIdeal.nD Cert.InGlIdeal.τ Cert.InGlIdeal.sig) → Buf (Elt Ideal) ℓ) (g : Dev Cert.InGlIdeal.nD → PrngReg)
    (m' : (ℓ : Loc Cert.InGlRefIdeal.nD Cert.InGlRefIdeal.τ Cert.InGlRefIdeal.sig) → Buf (Elt Ideal) ℓ) (g' : Dev Cert.InGlRefIdeal.nD → PrngReg), Pre_InGlIdeal m →
    (∀ c : Dev Cert.InGlIdeal.nD,
      m' ((c.tc : Thread Cert.InGlRefIdeal.nD Cert.InGlRefIdeal.τ).loc Cert.InGlRefIdeal.main_arg0) = m ((c.tc : Thread Cert.InGlIdeal.nD Cert.InGlIdeal.τ).loc Cert.InGlIdeal.main_arg0)
      ∧ m' ((c.tc : Thread Cert.InGlRefIdeal.nD Cert.InGlRefIdeal.τ).loc Cert.InGlRefIdeal.main_arg1) = m ((c.tc : Thread Cert.InGlIdeal.nD Cert.InGlIdeal.τ).loc Cert.InGlIdeal.main_arg1)) →
    ∃ (v0 : (c : Dev Cert.InGlIdeal.nD) → Buf (Elt Ideal) ((c.tc : Thread Cert.InGlIdeal.nD Cert.InGlIdeal.τ).loc Cert.InGlIdeal.main_v3)),
      θ_run (Cert.InGlIdeal.defs (F := Ideal)) (onTc (τ := Cert.InGlIdeal.τ) (Cert.InGlIdeal.main (F := Ideal))) ⟨m, fun _ => 0, g⟩ (fun r => ∀ c : Dev Cert.InGlIdeal.nD,
          r.2.mem ((c.tc : Thread Cert.InGlIdeal.nD Cert.InGlIdeal.τ).loc Cert.InGlIdeal.main_v3) = v0 c
          ∧ r.2.mem ((c.tc : Thread Cert.InGlIdeal.nD Cert.InGlIdeal.τ).loc Cert.InGlIdeal.main_arg0) = m ((c.tc : Thread Cert.InGlIdeal.nD Cert.InGlIdeal.τ).loc Cert.InGlIdeal.main_arg0)
          ∧ r.2.mem ((c.tc : Thread Cert.InGlIdeal.nD Cert.InGlIdeal.τ).loc Cert.InGlIdeal.main_arg1) = m ((c.tc : Thread Cert.InGlIdeal.nD Cert.InGlIdeal.τ).loc Cert.InGlIdeal.main_arg1))
      ∧ θ_run (Cert.InGlRefIdeal.defs (F := Ideal)) (onTc (τ := Cert.InGlRefIdeal.τ) (Cert.InGlRefIdeal.main (F := Ideal))) ⟨m', fun _ => 0, g'⟩ (fun r => ∀ c : Dev Cert.InGlRefIdeal.nD,
          r.2.mem ((c.tc : Thread Cert.InGlRefIdeal.nD Cert.InGlRefIdeal.τ).loc Cert.InGlRefIdeal.main_v1) = v0 c
          ∧ r.2.mem ((c.tc : Thread Cert.InGlRefIdeal.nD Cert.InGlRefIdeal.τ).loc Cert.InGlRefIdeal.main_arg0) = m' ((c.tc : Thread Cert.InGlRefIdeal.nD Cert.InGlRefIdeal.τ).loc Cert.InGlRefIdeal.main_arg0)
          ∧ r.2.mem ((c.tc : Thread Cert.InGlRefIdeal.nD Cert.InGlRefIdeal.τ).loc Cert.InGlRefIdeal.main_arg1) = m' ((c.tc : Thread Cert.InGlRefIdeal.nD Cert.InGlRefIdeal.τ).loc Cert.InGlRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)) →
    ∃ (v0 : (c : Dev Cert.ProjOutIdeal.nD) → Buf (Elt Ideal) ((c.tc : Thread Cert.ProjOutIdeal.nD Cert.ProjOutIdeal.τ).loc Cert.ProjOutIdeal.main_v2)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v2) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v1) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v1) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v1) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v11) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v4_0)) (v1 : (c : Dev Cert.MergeBwdIdeal.nD) → Buf (Elt Ideal) ((c.tc : Thread Cert.MergeBwdIdeal.nD Cert.MergeBwdIdeal.τ).loc Cert.MergeBwdIdeal.main_v4_1)) (v2 : (c : Dev Cert.MergeBwdIdeal.nD) → Buf (Elt Ideal) ((c.tc : Thread Cert.MergeBwdIdeal.nD Cert.MergeBwdIdeal.τ).loc Cert.MergeBwdIdeal.main_v4_2)) (v3 : (c : Dev Cert.MergeBwdIdeal.nD) → Buf (Elt Ideal) ((c.tc : Thread Cert.MergeBwdIdeal.nD Cert.MergeBwdIdeal.τ).loc Cert.MergeBwdIdeal.main_v4_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v4_0) = v0 c
          ∧ r.2.mem ((c.tc : Thread Cert.MergeBwdIdeal.nD Cert.MergeBwdIdeal.τ).loc Cert.MergeBwdIdeal.main_v4_1) = v1 c
          ∧ r.2.mem ((c.tc : Thread Cert.MergeBwdIdeal.nD Cert.MergeBwdIdeal.τ).loc Cert.MergeBwdIdeal.main_v4_2) = v2 c
          ∧ r.2.mem ((c.tc : Thread Cert.MergeBwdIdeal.nD Cert.MergeBwdIdeal.τ).loc Cert.MergeBwdIdeal.main_v4_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v24) = v0 c
          ∧ r.2.mem ((c.tc : Thread Cert.MergeBwdRefIdeal.nD Cert.MergeBwdRefIdeal.τ).loc Cert.MergeBwdRefIdeal.main_v25) = v1 c
          ∧ r.2.mem ((c.tc : Thread Cert.MergeBwdRefIdeal.nD Cert.MergeBwdRefIdeal.τ).loc Cert.MergeBwdRefIdeal.main_v26) = v2 c
          ∧ r.2.mem ((c.tc : Thread Cert.MergeBwdRefIdeal.nD Cert.MergeBwdRefIdeal.τ).loc Cert.MergeBwdRefIdeal.main_v27) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v17) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)) →
    ∃ (v0 : (c : Dev Cert.PostIdeal.nD) → Buf (Elt Ideal) ((c.tc : Thread Cert.PostIdeal.nD Cert.PostIdeal.τ).loc Cert.PostIdeal.main_v1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v1) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v19) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2))

def preserves_PostBwd_PostBwdIdeal : Prop :=
  True

def algebraic_PostBwdIdeal_PostBwdRefIdeal_pre_finite_post [hPostBwdIdeal : Cert.PostBwdIdeal.Facts] [hPostBwdRefIdeal : Cert.PostBwdRefIdeal.Facts] [hPre_finite_post : Cert.Pre_finite_post.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal_finite_post m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)
      ∧ m' ((c.tc : Thread Cert.PostBwdRefIdeal.nD Cert.PostBwdRefIdeal.τ).loc Cert.PostBwdRefIdeal.main_arg3) = m ((c.tc : Thread Cert.PostBwdIdeal.nD Cert.PostBwdIdeal.τ).loc Cert.PostBwdIdeal.main_arg3)) →
    ∃ (v0 : (c : Dev Cert.PostBwdIdeal.nD) → Buf (Elt Ideal) ((c.tc : Thread Cert.PostBwdIdeal.nD Cert.PostBwdIdeal.τ).loc Cert.PostBwdIdeal.main_v2_0)) (v1 : (c : Dev Cert.PostBwdIdeal.nD) → Buf (Elt Ideal) ((c.tc : Thread Cert.PostBwdIdeal.nD Cert.PostBwdIdeal.τ).loc Cert.PostBwdIdeal.main_v2_1)) (v2 : (c : Dev Cert.PostBwdIdeal.nD) → Buf (Elt Ideal) ((c.tc : Thread Cert.PostBwdIdeal.nD Cert.PostBwdIdeal.τ).loc Cert.PostBwdIdeal.main_v2_2)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v2_0) = v0 c
          ∧ r.2.mem ((c.tc : Thread Cert.PostBwdIdeal.nD Cert.PostBwdIdeal.τ).loc Cert.PostBwdIdeal.main_v2_1) = v1 c
          ∧ r.2.mem ((c.tc : Thread Cert.PostBwdIdeal.nD Cert.PostBwdIdeal.τ).loc Cert.PostBwdIdeal.main_v2_2) = v2 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v45) = v0 c
          ∧ r.2.mem ((c.tc : Thread Cert.PostBwdRefIdeal.nD Cert.PostBwdRefIdeal.τ).loc Cert.PostBwdRefIdeal.main_v47) = v1 c
          ∧ r.2.mem ((c.tc : Thread Cert.PostBwdRefIdeal.nD Cert.PostBwdRefIdeal.τ).loc Cert.PostBwdRefIdeal.main_v30) = v2 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2)
          ∧ r.2.mem ((c.tc : Thread Cert.PostBwdRefIdeal.nD Cert.PostBwdRefIdeal.τ).loc Cert.PostBwdRefIdeal.main_arg3) = m' ((c.tc : Thread Cert.PostBwdRefIdeal.nD Cert.PostBwdRefIdeal.τ).loc Cert.PostBwdRefIdeal.main_arg3))

def preserves_FfnConvBwd_FfnConvBwdIdeal : Prop :=
  True

def algebraic_FfnConvBwdIdeal_FfnConvBwdRefIdeal [hFfnConvBwdIdeal : Cert.FfnConvBwdIdeal.Facts] [hFfnConvBwdRefIdeal : Cert.FfnConvBwdRefIdeal.Facts] : Prop :=
  ∀ (m : (ℓ : Loc Cert.FfnConvBwdIdeal.nD Cert.FfnConvBwdIdeal.τ Cert.FfnConvBwdIdeal.sig) → Buf (Elt Ideal) ℓ) (g : Dev Cert.FfnConvBwdIdeal.nD → PrngReg)
    (m' : (ℓ : Loc Cert.FfnConvBwdRefIdeal.nD Cert.FfnConvBwdRefIdeal.τ Cert.FfnConvBwdRefIdeal.sig) → Buf (Elt Ideal) ℓ) (g' : Dev Cert.FfnConvBwdRefIdeal.nD → PrngReg), Pre_FfnConvBwdIdeal m →
    (∀ c : Dev Cert.FfnConvBwdIdeal.nD,
      m' ((c.tc : Thread Cert.FfnConvBwdRefIdeal.nD Cert.FfnConvBwdRefIdeal.τ).loc Cert.FfnConvBwdRefIdeal.main_arg0) = m ((c.tc : Thread Cert.FfnConvBwdIdeal.nD Cert.FfnConvBwdIdeal.τ).loc Cert.FfnConvBwdIdeal.main_arg0)
      ∧ m' ((c.tc : Thread Cert.FfnConvBwdRefIdeal.nD Cert.FfnConvBwdRefIdeal.τ).loc Cert.FfnConvBwdRefIdeal.main_arg1) = m ((c.tc : Thread Cert.FfnConvBwdIdeal.nD Cert.FfnConvBwdIdeal.τ).loc Cert.FfnConvBwdIdeal.main_arg1)
      ∧ m' ((c.tc : Thread Cert.FfnConvBwdRefIdeal.nD Cert.FfnConvBwdRefIdeal.τ).loc Cert.FfnConvBwdRefIdeal.main_arg2) = m ((c.tc : Thread Cert.FfnConvBwdIdeal.nD Cert.FfnConvBwdIdeal.τ).loc Cert.FfnConvBwdIdeal.main_arg2)) →
    ∃ (v0 : (c : Dev Cert.FfnConvBwdIdeal.nD) → Buf (Elt Ideal) ((c.tc : Thread Cert.FfnConvBwdIdeal.nD Cert.FfnConvBwdIdeal.τ).loc Cert.FfnConvBwdIdeal.main_v2)),
      θ_run (Cert.FfnConvBwdIdeal.defs (F := Ideal)) (onTc (τ := Cert.FfnConvBwdIdeal.τ) (Cert.FfnConvBwdIdeal.main (F := Ideal))) ⟨m, fun _ => 0, g⟩ (fun r => ∀ c : Dev Cert.FfnConvBwdIdeal.nD,
          r.2.mem ((c.tc : Thread Cert.FfnConvBwdIdeal.nD Cert.FfnConvBwdIdeal.τ).loc Cert.FfnConvBwdIdeal.main_v2) = v0 c
          ∧ r.2.mem ((c.tc : Thread Cert.FfnConvBwdIdeal.nD Cert.FfnConvBwdIdeal.τ).loc Cert.FfnConvBwdIdeal.main_arg0) = m ((c.tc : Thread Cert.FfnConvBwdIdeal.nD Cert.FfnConvBwdIdeal.τ).loc Cert.FfnConvBwdIdeal.main_arg0)
          ∧ r.2.mem ((c.tc : Thread Cert.FfnConvBwdIdeal.nD Cert.FfnConvBwdIdeal.τ).loc Cert.FfnConvBwdIdeal.main_arg1) = m ((c.tc : Thread Cert.FfnConvBwdIdeal.nD Cert.FfnConvBwdIdeal.τ).loc Cert.FfnConvBwdIdeal.main_arg1)
          ∧ r.2.mem ((c.tc : Thread Cert.FfnConvBwdIdeal.nD Cert.FfnConvBwdIdeal.τ).loc Cert.FfnConvBwdIdeal.main_arg2) = m ((c.tc : Thread Cert.FfnConvBwdIdeal.nD Cert.FfnConvBwdIdeal.τ).loc Cert.FfnConvBwdIdeal.main_arg2))
      ∧ θ_run (Cert.FfnConvBwdRefIdeal.defs (F := Ideal)) (onTc (τ := Cert.FfnConvBwdRefIdeal.τ) (Cert.FfnConvBwdRefIdeal.main (F := Ideal))) ⟨m', fun _ => 0, g'⟩ (fun r => ∀ c : Dev Cert.FfnConvBwdRefIdeal.nD,
          r.2.mem ((c.tc : Thread Cert.FfnConvBwdRefIdeal.nD Cert.FfnConvBwdRefIdeal.τ).loc Cert.FfnConvBwdRefIdeal.main_v24) = v0 c
          ∧ r.2.mem ((c.tc : Thread Cert.FfnConvBwdRefIdeal.nD Cert.FfnConvBwdRefIdeal.τ).loc Cert.FfnConvBwdRefIdeal.main_arg0) = m' ((c.tc : Thread Cert.FfnConvBwdRefIdeal.nD Cert.FfnConvBwdRefIdeal.τ).loc Cert.FfnConvBwdRefIdeal.main_arg0)
          ∧ r.2.mem ((c.tc : Thread Cert.FfnConvBwdRefIdeal.nD Cert.FfnConvBwdRefIdeal.τ).loc Cert.FfnConvBwdRefIdeal.main_arg1) = m' ((c.tc : Thread Cert.FfnConvBwdRefIdeal.nD Cert.FfnConvBwdRefIdeal.τ).loc Cert.FfnConvBwdRefIdeal.main_arg1)
          ∧ r.2.mem ((c.tc : Thread Cert.FfnConvBwdRefIdeal.nD Cert.FfnConvBwdRefIdeal.τ).loc Cert.FfnConvBwdRefIdeal.main_arg2) = m' ((c.tc : Thread Cert.FfnConvBwdRefIdeal.nD Cert.FfnConvBwdRefIdeal.τ).loc Cert.FfnConvBwdRefIdeal.main_arg2))

def preserves_DnConvBwd_DnConvBwdIdeal : Prop :=
  True

def algebraic_DnConvBwdIdeal_DnConvBwdRefIdeal [hDnConvBwdIdeal : Cert.DnConvBwdIdeal.Facts] [hDnConvBwdRefIdeal : Cert.DnConvBwdRefIdeal.Facts] : Prop :=
  ∀ (m : (ℓ : Loc Cert.DnConvBwdIdeal.nD Cert.DnConvBwdIdeal.τ Cert.DnConvBwdIdeal.sig) → Buf (Elt Ideal) ℓ) (g : Dev Cert.DnConvBwdIdeal.nD → PrngReg)
    (m' : (ℓ : Loc Cert.DnConvBwdRefIdeal.nD Cert.DnConvBwdRefIdeal.τ Cert.DnConvBwdRefIdeal.sig) → Buf (Elt Ideal) ℓ) (g' : Dev Cert.DnConvBwdRefIdeal.nD → PrngReg), Pre_DnConvBwdIdeal m →
    (∀ c : Dev Cert.DnConvBwdIdeal.nD,
      m' ((c.tc : Thread Cert.DnConvBwdRefIdeal.nD Cert.DnConvBwdRefIdeal.τ).loc Cert.DnConvBwdRefIdeal.main_arg0) = m ((c.tc : Thread Cert.DnConvBwdIdeal.nD Cert.DnConvBwdIdeal.τ).loc Cert.DnConvBwdIdeal.main_arg0)
      ∧ m' ((c.tc : Thread Cert.DnConvBwdRefIdeal.nD Cert.DnConvBwdRefIdeal.τ).loc Cert.DnConvBwdRefIdeal.main_arg1) = m ((c.tc : Thread Cert.DnConvBwdIdeal.nD Cert.DnConvBwdIdeal.τ).loc Cert.DnConvBwdIdeal.main_arg1)) →
    ∃ (v0 : (c : Dev Cert.DnConvBwdIdeal.nD) → Buf (Elt Ideal) ((c.tc : Thread Cert.DnConvBwdIdeal.nD Cert.DnConvBwdIdeal.τ).loc Cert.DnConvBwdIdeal.main_v1)),
      θ_run (Cert.DnConvBwdIdeal.defs (F := Ideal)) (onTc (τ := Cert.DnConvBwdIdeal.τ) (Cert.DnConvBwdIdeal.main (F := Ideal))) ⟨m, fun _ => 0, g⟩ (fun r => ∀ c : Dev Cert.DnConvBwdIdeal.nD,
          r.2.mem ((c.tc : Thread Cert.DnConvBwdIdeal.nD Cert.DnConvBwdIdeal.τ).loc Cert.DnConvBwdIdeal.main_v1) = v0 c
          ∧ r.2.mem ((c.tc : Thread Cert.DnConvBwdIdeal.nD Cert.DnConvBwdIdeal.τ).loc Cert.DnConvBwdIdeal.main_arg0) = m ((c.tc : Thread Cert.DnConvBwdIdeal.nD Cert.DnConvBwdIdeal.τ).loc Cert.DnConvBwdIdeal.main_arg0)
          ∧ r.2.mem ((c.tc : Thread Cert.DnConvBwdIdeal.nD Cert.DnConvBwdIdeal.τ).loc Cert.DnConvBwdIdeal.main_arg1) = m ((c.tc : Thread Cert.DnConvBwdIdeal.nD Cert.DnConvBwdIdeal.τ).loc Cert.DnConvBwdIdeal.main_arg1))
      ∧ θ_run (Cert.DnConvBwdRefIdeal.defs (F := Ideal)) (onTc (τ := Cert.DnConvBwdRefIdeal.τ) (Cert.DnConvBwdRefIdeal.main (F := Ideal))) ⟨m', fun _ => 0, g'⟩ (fun r => ∀ c : Dev Cert.DnConvBwdRefIdeal.nD,
          r.2.mem ((c.tc : Thread Cert.DnConvBwdRefIdeal.nD Cert.DnConvBwdRefIdeal.τ).loc Cert.DnConvBwdRefIdeal.main_v32) = v0 c
          ∧ r.2.mem ((c.tc : Thread Cert.DnConvBwdRefIdeal.nD Cert.DnConvBwdRefIdeal.τ).loc Cert.DnConvBwdRefIdeal.main_arg0) = m' ((c.tc : Thread Cert.DnConvBwdRefIdeal.nD Cert.DnConvBwdRefIdeal.τ).loc Cert.DnConvBwdRefIdeal.main_arg0)
          ∧ r.2.mem ((c.tc : Thread Cert.DnConvBwdRefIdeal.nD Cert.DnConvBwdRefIdeal.τ).loc Cert.DnConvBwdRefIdeal.main_arg1) = m' ((c.tc : Thread Cert.DnConvBwdRefIdeal.nD Cert.DnConvBwdRefIdeal.τ).loc Cert.DnConvBwdRefIdeal.main_arg1))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)) →
    ∃ (v0 : (c : Dev Cert.FfnActIdeal.nD) → Buf (Elt Ideal) ((c.tc : Thread Cert.FfnActIdeal.nD Cert.FfnActIdeal.τ).loc Cert.FfnActIdeal.main_v1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v1) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v26) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1))

def preserves_FfnActBwd_FfnActBwdIdeal : Prop :=
  True

def algebraic_FfnActBwdIdeal_FfnActBwdRefIdeal_pre_finite_ffn [hFfnActBwdIdeal : Cert.FfnActBwdIdeal.Facts] [hFfnActBwdRefIdeal : Cert.FfnActBwdRefIdeal.Facts] [hPre_finite_ffn : Cert.Pre_finite_ffn.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg)
    (m' : (ℓ : Loc Cert.FfnActBwdRefIdeal.nD Cert.FfnActBwdRefIdeal.τ Cert.FfnActBwdRefIdeal.sig) → Buf (Elt Ideal) ℓ) (g' : Dev Cert.FfnActBwdRefIdeal.nD → PrngReg), Pre_FfnActBwdIdeal_finite_ffn m →
    (∀ c : Dev Cert.FfnActBwdIdeal.nD,
      m' ((c.tc : Thread Cert.FfnActBwdRefIdeal.nD Cert.FfnActBwdRefIdeal.τ).loc Cert.FfnActBwdRefIdeal.main_arg0) = m ((c.tc : Thread Cert.FfnActBwdIdeal.nD Cert.FfnActBwdIdeal.τ).loc Cert.FfnActBwdIdeal.main_arg0)
      ∧ m' ((c.tc : Thread Cert.FfnActBwdRefIdeal.nD Cert.FfnActBwdRefIdeal.τ).loc Cert.FfnActBwdRefIdeal.main_arg1) = m ((c.tc : Thread Cert.FfnActBwdIdeal.nD Cert.FfnActBwdIdeal.τ).loc Cert.FfnActBwdIdeal.main_arg1)
      ∧ m' ((c.tc : Thread Cert.FfnActBwdRefIdeal.nD Cert.FfnActBwdRefIdeal.τ).loc Cert.FfnActBwdRefIdeal.main_arg2) = m ((c.tc : Thread Cert.FfnActBwdIdeal.nD Cert.FfnActBwdIdeal.τ).loc Cert.FfnActBwdIdeal.main_arg2)) →
    ∃ (v0 : (c : Dev Cert.FfnActBwdIdeal.nD) → Buf (Elt Ideal) ((c.tc : Thread Cert.FfnActBwdIdeal.nD Cert.FfnActBwdIdeal.τ).loc Cert.FfnActBwdIdeal.main_v2_0)) (v1 : (c : Dev Cert.FfnActBwdIdeal.nD) → Buf (Elt Ideal) ((c.tc : Thread Cert.FfnActBwdIdeal.nD Cert.FfnActBwdIdeal.τ).loc Cert.FfnActBwdIdeal.main_v2_1)) (v2 : (c : Dev Cert.FfnActBwdIdeal.nD) → Buf (Elt Ideal) ((c.tc : Thread Cert.FfnActBwdIdeal.nD Cert.FfnActBwdIdeal.τ).loc Cert.FfnActBwdIdeal.main_v2_2)) (v3 : (c : Dev Cert.FfnActBwdIdeal.nD) → Buf (Elt Ideal) ((c.tc : Thread Cert.FfnActBwdIdeal.nD Cert.FfnActBwdIdeal.τ).loc Cert.FfnActBwdIdeal.main_v2_3)),
      θ_run (Cert.FfnActBwdIdeal.defs (F := Ideal)) (onTc (τ := Cert.FfnActBwdIdeal.τ) (Cert.FfnActBwdIdeal.main (F := Ideal))) ⟨m, fun _ => 0, g⟩ (fun r => ∀ c : Dev Cert.FfnActBwdIdeal.nD,
          r.2.mem ((c.tc : Thread Cert.FfnActBwdIdeal.nD Cert.FfnActBwdIdeal.τ).loc Cert.FfnActBwdIdeal.main_v2_0) = v0 c
          ∧ r.2.mem ((c.tc : Thread Cert.FfnActBwdIdeal.nD Cert.FfnActBwdIdeal.τ).loc Cert.FfnActBwdIdeal.main_v2_1) = v1 c
          ∧ r.2.mem ((c.tc : Thread Cert.FfnActBwdIdeal.nD Cert.FfnActBwdIdeal.τ).loc Cert.FfnActBwdIdeal.main_v2_2) = v2 c
          ∧ r.2.mem ((c.tc : Thread Cert.FfnActBwdIdeal.nD Cert.FfnActBwdIdeal.τ).loc Cert.FfnActBwdIdeal.main_v2_3) = v3 c
          ∧ r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
          ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
          ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2))
      ∧ θ_run (Cert.FfnActBwdRefIdeal.defs (F := Ideal)) (onTc (τ := Cert.FfnActBwdRefIdeal.τ) (Cert.FfnActBwdRefIdeal.main (F := Ideal))) ⟨m', fun _ => 0, g'⟩ (fun r => ∀ c : Dev Cert.FfnActBwdRefIdeal.nD,
          r.2.mem ((c.tc : Thread Cert.FfnActBwdRefIdeal.nD Cert.FfnActBwdRefIdeal.τ).loc Cert.FfnActBwdRefIdeal.main_v54) = v0 c
          ∧ r.2.mem ((c.tc : Thread Cert.FfnActBwdRefIdeal.nD Cert.FfnActBwdRefIdeal.τ).loc Cert.FfnActBwdRefIdeal.main_v55) = v1 c
          ∧ r.2.mem ((c.tc : Thread Cert.FfnActBwdRefIdeal.nD Cert.FfnActBwdRefIdeal.τ).loc Cert.FfnActBwdRefIdeal.main_v52) = v2 c
          ∧ r.2.mem ((c.tc : Thread Cert.FfnActBwdRefIdeal.nD Cert.FfnActBwdRefIdeal.τ).loc Cert.FfnActBwdRefIdeal.main_v53) = v3 c
          ∧ r.2.mem ((c.tc : Thread Cert.FfnActBwdRefIdeal.nD Cert.FfnActBwdRefIdeal.τ).loc Cert.FfnActBwdRefIdeal.main_arg0) = m' ((c.tc : Thread Cert.FfnActBwdRefIdeal.nD Cert.FfnActBwdRefIdeal.τ).loc Cert.FfnActBwdRefIdeal.main_arg0)
          ∧ r.2.mem ((c.tc : Thread Cert.FfnActBwdRefIdeal.nD Cert.FfnActBwdRefIdeal.τ).loc Cert.FfnActBwdRefIdeal.main_arg1) = m' ((c.tc : Thread Cert.FfnActBwdRefIdeal.nD Cert.FfnActBwdRefIdeal.τ).loc Cert.FfnActBwdRefIdeal.main_arg1)
          ∧ r.2.mem ((c.tc : Thread Cert.FfnActBwdRefIdeal.nD Cert.FfnActBwdRefIdeal.τ).loc Cert.FfnActBwdRefIdeal.main_arg2) = m' ((c.tc : Thread Cert.FfnActBwdRefIdeal.nD Cert.FfnActBwdRefIdeal.τ).loc Cert.FfnActBwdRefIdeal.main_arg2))

def preserves_DnPre_DnPreIdeal : Prop :=
  True

def algebraic_DnPreIdeal_DnPreRefIdeal [hDnPreIdeal : Cert.DnPreIdeal.Facts] [hDnPreRefIdeal : Cert.DnPreRefIdeal.Facts] : Prop :=
  ∀ (m : (ℓ : Loc Cert.DnPreIdeal.nD Cert.DnPreIdeal.τ Cert.DnPreIdeal.sig) → Buf (Elt Ideal) ℓ) (g : Dev Cert.DnPreIdeal.nD → PrngReg)
    (m' : (ℓ : Loc Cert.DnPreRefIdeal.nD Cert.DnPreRefIdeal.τ Cert.DnPreRefIdeal.sig) → Buf (Elt Ideal) ℓ) (g' : Dev Cert.DnPreRefIdeal.nD → PrngReg), Pre_DnPreIdeal m →
    (∀ c : Dev Cert.DnPreIdeal.nD,
      m' ((c.tc : Thread Cert.DnPreRefIdeal.nD Cert.DnPreRefIdeal.τ).loc Cert.DnPreRefIdeal.main_arg0) = m ((c.tc : Thread Cert.DnPreIdeal.nD Cert.DnPreIdeal.τ).loc Cert.DnPreIdeal.main_arg0)
      ∧ m' ((c.tc : Thread Cert.DnPreRefIdeal.nD Cert.DnPreRefIdeal.τ).loc Cert.DnPreRefIdeal.main_arg1) = m ((c.tc : Thread Cert.DnPreIdeal.nD Cert.DnPreIdeal.τ).loc Cert.DnPreIdeal.main_arg1)) →
    ∃ (v0 : (c : Dev Cert.DnPreIdeal.nD) → Buf (Elt Ideal) ((c.tc : Thread Cert.DnPreIdeal.nD Cert.DnPreIdeal.τ).loc Cert.DnPreIdeal.main_v1)),
      θ_run (Cert.DnPreIdeal.defs (F := Ideal)) (onTc (τ := Cert.DnPreIdeal.τ) (Cert.DnPreIdeal.main (F := Ideal))) ⟨m, fun _ => 0, g⟩ (fun r => ∀ c : Dev Cert.DnPreIdeal.nD,
          r.2.mem ((c.tc : Thread Cert.DnPreIdeal.nD Cert.DnPreIdeal.τ).loc Cert.DnPreIdeal.main_v1) = v0 c
          ∧ r.2.mem ((c.tc : Thread Cert.DnPreIdeal.nD Cert.DnPreIdeal.τ).loc Cert.DnPreIdeal.main_arg0) = m ((c.tc : Thread Cert.DnPreIdeal.nD Cert.DnPreIdeal.τ).loc Cert.DnPreIdeal.main_arg0)
          ∧ r.2.mem ((c.tc : Thread Cert.DnPreIdeal.nD Cert.DnPreIdeal.τ).loc Cert.DnPreIdeal.main_arg1) = m ((c.tc : Thread Cert.DnPreIdeal.nD Cert.DnPreIdeal.τ).loc Cert.DnPreIdeal.main_arg1))
      ∧ θ_run (Cert.DnPreRefIdeal.defs (F := Ideal)) (onTc (τ := Cert.DnPreRefIdeal.τ) (Cert.DnPreRefIdeal.main (F := Ideal))) ⟨m', fun _ => 0, g'⟩ (fun r => ∀ c : Dev Cert.DnPreRefIdeal.nD,
          r.2.mem ((c.tc : Thread Cert.DnPreRefIdeal.nD Cert.DnPreRefIdeal.τ).loc Cert.DnPreRefIdeal.main_v55) = v0 c
          ∧ r.2.mem ((c.tc : Thread Cert.DnPreRefIdeal.nD Cert.DnPreRefIdeal.τ).loc Cert.DnPreRefIdeal.main_arg0) = m' ((c.tc : Thread Cert.DnPreRefIdeal.nD Cert.DnPreRefIdeal.τ).loc Cert.DnPreRefIdeal.main_arg0)
          ∧ r.2.mem ((c.tc : Thread Cert.DnPreRefIdeal.nD Cert.DnPreRefIdeal.τ).loc Cert.DnPreRefIdeal.main_arg1) = m' ((c.tc : Thread Cert.DnPreRefIdeal.nD Cert.DnPreRefIdeal.τ).loc Cert.DnPreRefIdeal.main_arg1))

def preserves_DnPreBwd_DnPreBwdIdeal : Prop :=
  True

def algebraic_DnPreBwdIdeal_DnPreBwdRefIdeal_pre_finite_pre [hDnPreBwdIdeal : Cert.DnPreBwdIdeal.Facts] [hDnPreBwdRefIdeal : Cert.DnPreBwdRefIdeal.Facts] [hPre_finite_pre : Cert.Pre_finite_pre.Facts] : Prop :=
  ∀ (m : (ℓ : Loc Cert.DnPreBwdIdeal.nD Cert.DnPreBwdIdeal.τ Cert.DnPreBwdIdeal.sig) → Buf (Elt Ideal) ℓ) (g : Dev Cert.DnPreBwdIdeal.nD → PrngReg)
    (m' : (ℓ : Loc Cert.DnPreBwdRefIdeal.nD Cert.DnPreBwdRefIdeal.τ Cert.DnPreBwdRefIdeal.sig) → Buf (Elt Ideal) ℓ) (g' : Dev Cert.DnPreBwdRefIdeal.nD → PrngReg), Pre_DnPreBwdIdeal_finite_pre m →
    (∀ c : Dev Cert.DnPreBwdIdeal.nD,
      m' ((c.tc : Thread Cert.DnPreBwdRefIdeal.nD Cert.DnPreBwdRefIdeal.τ).loc Cert.DnPreBwdRefIdeal.main_arg0) = m ((c.tc : Thread Cert.DnPreBwdIdeal.nD Cert.DnPreBwdIdeal.τ).loc Cert.DnPreBwdIdeal.main_arg0)
      ∧ m' ((c.tc : Thread Cert.DnPreBwdRefIdeal.nD Cert.DnPreBwdRefIdeal.τ).loc Cert.DnPreBwdRefIdeal.main_arg1) = m ((c.tc : Thread Cert.DnPreBwdIdeal.nD Cert.DnPreBwdIdeal.τ).loc Cert.DnPreBwdIdeal.main_arg1)
      ∧ m' ((c.tc : Thread Cert.DnPreBwdRefIdeal.nD Cert.DnPreBwdRefIdeal.τ).loc Cert.DnPreBwdRefIdeal.main_arg2) = m ((c.tc : Thread Cert.DnPreBwdIdeal.nD Cert.DnPreBwdIdeal.τ).loc Cert.DnPreBwdIdeal.main_arg2)
      ∧ m' ((c.tc : Thread Cert.DnPreBwdRefIdeal.nD Cert.DnPreBwdRefIdeal.τ).loc Cert.DnPreBwdRefIdeal.main_arg3) = m ((c.tc : Thread Cert.DnPreBwdIdeal.nD Cert.DnPreBwdIdeal.τ).loc Cert.DnPreBwdIdeal.main_arg3)
      ∧ m' ((c.tc : Thread Cert.DnPreBwdRefIdeal.nD Cert.DnPreBwdRefIdeal.τ).loc Cert.DnPreBwdRefIdeal.main_arg4) = m ((c.tc : Thread Cert.DnPreBwdIdeal.nD Cert.DnPreBwdIdeal.τ).loc Cert.DnPreBwdIdeal.main_arg4)) →
    ∃ (v0 : (c : Dev Cert.DnPreBwdIdeal.nD) → Buf (Elt Ideal) ((c.tc : Thread Cert.DnPreBwdIdeal.nD Cert.DnPreBwdIdeal.τ).loc Cert.DnPreBwdIdeal.main_v1_0)) (v1 : (c : Dev Cert.DnPreBwdIdeal.nD) → Buf (Elt Ideal) ((c.tc : Thread Cert.DnPreBwdIdeal.nD Cert.DnPreBwdIdeal.τ).loc Cert.DnPreBwdIdeal.main_v1_1)),
      θ_run (Cert.DnPreBwdIdeal.defs (F := Ideal)) (onTc (τ := Cert.DnPreBwdIdeal.τ) (Cert.DnPreBwdIdeal.main (F := Ideal))) ⟨m, fun _ => 0, g⟩ (fun r => ∀ c : Dev Cert.DnPreBwdIdeal.nD,
          r.2.mem ((c.tc : Thread Cert.DnPreBwdIdeal.nD Cert.DnPreBwdIdeal.τ).loc Cert.DnPreBwdIdeal.main_v1_0) = v0 c
          ∧ r.2.mem ((c.tc : Thread Cert.DnPreBwdIdeal.nD Cert.DnPreBwdIdeal.τ).loc Cert.DnPreBwdIdeal.main_v1_1) = v1 c
          ∧ r.2.mem ((c.tc : Thread Cert.DnPreBwdIdeal.nD Cert.DnPreBwdIdeal.τ).loc Cert.DnPreBwdIdeal.main_arg0) = m ((c.tc : Thread Cert.DnPreBwdIdeal.nD Cert.DnPreBwdIdeal.τ).loc Cert.DnPreBwdIdeal.main_arg0)
          ∧ r.2.mem ((c.tc : Thread Cert.DnPreBwdIdeal.nD Cert.DnPreBwdIdeal.τ).loc Cert.DnPreBwdIdeal.main_arg1) = m ((c.tc : Thread Cert.DnPreBwdIdeal.nD Cert.DnPreBwdIdeal.τ).loc Cert.DnPreBwdIdeal.main_arg1)
          ∧ r.2.mem ((c.tc : Thread Cert.DnPreBwdIdeal.nD Cert.DnPreBwdIdeal.τ).loc Cert.DnPreBwdIdeal.main_arg2) = m ((c.tc : Thread Cert.DnPreBwdIdeal.nD Cert.DnPreBwdIdeal.τ).loc Cert.DnPreBwdIdeal.main_arg2)
          ∧ r.2.mem ((c.tc : Thread Cert.DnPreBwdIdeal.nD Cert.DnPreBwdIdeal.τ).loc Cert.DnPreBwdIdeal.main_arg3) = m ((c.tc : Thread Cert.DnPreBwdIdeal.nD Cert.DnPreBwdIdeal.τ).loc Cert.DnPreBwdIdeal.main_arg3)
          ∧ r.2.mem ((c.tc : Thread Cert.DnPreBwdIdeal.nD Cert.DnPreBwdIdeal.τ).loc Cert.DnPreBwdIdeal.main_arg4) = m ((c.tc : Thread Cert.DnPreBwdIdeal.nD Cert.DnPreBwdIdeal.τ).loc Cert.DnPreBwdIdeal.main_arg4))
      ∧ θ_run (Cert.DnPreBwdRefIdeal.defs (F := Ideal)) (onTc (τ := Cert.DnPreBwdRefIdeal.τ) (Cert.DnPreBwdRefIdeal.main (F := Ideal))) ⟨m', fun _ => 0, g'⟩ (fun r => ∀ c : Dev Cert.DnPreBwdRefIdeal.nD,
          r.2.mem ((c.tc : Thread Cert.DnPreBwdRefIdeal.nD Cert.DnPreBwdRefIdeal.τ).loc Cert.DnPreBwdRefIdeal.main_v93) = v0 c
          ∧ r.2.mem ((c.tc : Thread Cert.DnPreBwdRefIdeal.nD Cert.DnPreBwdRefIdeal.τ).loc Cert.DnPreBwdRefIdeal.main_v120) = v1 c
          ∧ r.2.mem ((c.tc : Thread Cert.DnPreBwdRefIdeal.nD Cert.DnPreBwdRefIdeal.τ).loc Cert.DnPreBwdRefIdeal.main_arg0) = m' ((c.tc : Thread Cert.DnPreBwdRefIdeal.nD Cert.DnPreBwdRefIdeal.τ).loc Cert.DnPreBwdRefIdeal.main_arg0)
          ∧ r.2.mem ((c.tc : Thread Cert.DnPreBwdRefIdeal.nD Cert.DnPreBwdRefIdeal.τ).loc Cert.DnPreBwdRefIdeal.main_arg1) = m' ((c.tc : Thread Cert.DnPreBwdRefIdeal.nD Cert.DnPreBwdRefIdeal.τ).loc Cert.DnPreBwdRefIdeal.main_arg1)
          ∧ r.2.mem ((c.tc : Thread Cert.DnPreBwdRefIdeal.nD Cert.DnPreBwdRefIdeal.τ).loc Cert.DnPreBwdRefIdeal.main_arg2) = m' ((c.tc : Thread Cert.DnPreBwdRefIdeal.nD Cert.DnPreBwdRefIdeal.τ).loc Cert.DnPreBwdRefIdeal.main_arg2)
          ∧ r.2.mem ((c.tc : Thread Cert.DnPreBwdRefIdeal.nD Cert.DnPreBwdRefIdeal.τ).loc Cert.DnPreBwdRefIdeal.main_arg3) = m' ((c.tc : Thread Cert.DnPreBwdRefIdeal.nD Cert.DnPreBwdRefIdeal.τ).loc Cert.DnPreBwdRefIdeal.main_arg3)
          ∧ r.2.mem ((c.tc : Thread Cert.DnPreBwdRefIdeal.nD Cert.DnPreBwdRefIdeal.τ).loc Cert.DnPreBwdRefIdeal.main_arg4) = m' ((c.tc : Thread Cert.DnPreBwdRefIdeal.nD Cert.DnPreBwdRefIdeal.τ).loc Cert.DnPreBwdRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v48) = v0 c
          ∧ r.2.mem ((c.tc : Thread Cert.LossRefIdeal.nD Cert.LossRefIdeal.τ).loc Cert.LossRefIdeal.main_v32) = v1 c
          ∧ r.2.mem ((c.tc : Thread Cert.LossRefIdeal.nD Cert.LossRefIdeal.τ).loc Cert.LossRefIdeal.main_v49) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hInQkv : Cert.InQkv.Facts) (hInQkvIdeal : Cert.InQkvIdeal.Facts) (hInQkvRefIdeal : Cert.InQkvRefIdeal.Facts) (hInGate : Cert.InGate.Facts) (hInGateIdeal : Cert.InGateIdeal.Facts) (hInGateRefIdeal : Cert.InGateRefIdeal.Facts) (hInGl : Cert.InGl.Facts) (hInGlIdeal : Cert.InGlIdeal.Facts) (hInGlRefIdeal : Cert.InGlRefIdeal.Facts) (hProjOut : Cert.ProjOut.Facts) (hProjOutIdeal : Cert.ProjOutIdeal.Facts) (hProjOutRefIdeal : Cert.ProjOutRefIdeal.Facts) (hOutProj : Cert.OutProj.Facts) (hOutProjIdeal : Cert.OutProjIdeal.Facts) (hOutProjRefIdeal : Cert.OutProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMerge : Cert.Merge.Facts) (hMergeIdeal : Cert.MergeIdeal.Facts) (hMergeRefIdeal : Cert.MergeRefIdeal.Facts) (hMergeBwd : Cert.MergeBwd.Facts) (hMergeBwdIdeal : Cert.MergeBwdIdeal.Facts) (hMergeBwdRefIdeal : Cert.MergeBwdRefIdeal.Facts) (hNorm : Cert.Norm.Facts) (hNormIdeal : Cert.NormIdeal.Facts) (hNormRefIdeal : Cert.NormRefIdeal.Facts) (hNormBwd : Cert.NormBwd.Facts) (hNormBwdIdeal : Cert.NormBwdIdeal.Facts) (hNormBwdRefIdeal : Cert.NormBwdRefIdeal.Facts) (hPost : Cert.Post.Facts) (hPostIdeal : Cert.PostIdeal.Facts) (hPostRefIdeal : Cert.PostRefIdeal.Facts) (hPostBwd : Cert.PostBwd.Facts) (hPostBwdIdeal : Cert.PostBwdIdeal.Facts) (hPostBwdRefIdeal : Cert.PostBwdRefIdeal.Facts) (hFfnConvBwd : Cert.FfnConvBwd.Facts) (hFfnConvBwdIdeal : Cert.FfnConvBwdIdeal.Facts) (hFfnConvBwdRefIdeal : Cert.FfnConvBwdRefIdeal.Facts) (hDnConvBwd : Cert.DnConvBwd.Facts) (hDnConvBwdIdeal : Cert.DnConvBwdIdeal.Facts) (hDnConvBwdRefIdeal : Cert.DnConvBwdRefIdeal.Facts) (hFfnAct : Cert.FfnAct.Facts) (hFfnActIdeal : Cert.FfnActIdeal.Facts) (hFfnActRefIdeal : Cert.FfnActRefIdeal.Facts) (hFfnActBwd : Cert.FfnActBwd.Facts) (hFfnActBwdIdeal : Cert.FfnActBwdIdeal.Facts) (hFfnActBwdRefIdeal : Cert.FfnActBwdRefIdeal.Facts) (hDnPre : Cert.DnPre.Facts) (hDnPreIdeal : Cert.DnPreIdeal.Facts) (hDnPreRefIdeal : Cert.DnPreRefIdeal.Facts) (hDnPreBwd : Cert.DnPreBwd.Facts) (hDnPreBwdIdeal : Cert.DnPreBwdIdeal.Facts) (hDnPreBwdRefIdeal : Cert.DnPreBwdRefIdeal.Facts) (hLoss : Cert.Loss.Facts) (hLossIdeal : Cert.LossIdeal.Facts) (hLossRefIdeal : Cert.LossRefIdeal.Facts) (hPre_finite : Cert.Pre_finite.Facts) (hPre_finite_post : Cert.Pre_finite_post.Facts) (hPre_finite_ffn : Cert.Pre_finite_ffn.Facts) (hPre_finite_pre : Cert.Pre_finite_pre.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_InQkv (hInQkv := hInQkv)
    ∧ quiescent_InQkvIdeal (hInQkvIdeal := hInQkvIdeal)
    ∧ quiescent_InQkvRefIdeal (hInQkvRefIdeal := hInQkvRefIdeal)
    ∧ quiescent_InGate (hInGate := hInGate)
    ∧ quiescent_InGateIdeal (hInGateIdeal := hInGateIdeal)
    ∧ quiescent_InGateRefIdeal (hInGateRefIdeal := hInGateRefIdeal)
    ∧ quiescent_InGl (hInGl := hInGl)
    ∧ quiescent_InGlIdeal (hInGlIdeal := hInGlIdeal)
    ∧ quiescent_InGlRefIdeal (hInGlRefIdeal := hInGlRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Norm (hNorm := hNorm)
    ∧ quiescent_NormIdeal (hNormIdeal := hNormIdeal)
    ∧ quiescent_NormRefIdeal (hNormRefIdeal := hNormRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Post (hPost := hPost)
    ∧ quiescent_PostIdeal (hPostIdeal := hPostIdeal)
    ∧ quiescent_PostRefIdeal (hPostRefIdeal := hPostRefIdeal)
    ∧ quiescent_PostBwd (hPostBwd := hPostBwd)
    ∧ quiescent_PostBwdIdeal (hPostBwdIdeal := hPostBwdIdeal)
    ∧ quiescent_PostBwdIdeal_pre_finite_post (hPostBwdIdeal := hPostBwdIdeal) (hPre_finite_post := hPre_finite_post)
    ∧ quiescent_PostBwdRefIdeal (hPostBwdRefIdeal := hPostBwdRefIdeal)
    ∧ quiescent_PostBwdRefIdeal_pre_finite_post (hPostBwdRefIdeal := hPostBwdRefIdeal) (hPre_finite_post := hPre_finite_post)
    ∧ quiescent_FfnConvBwd (hFfnConvBwd := hFfnConvBwd)
    ∧ quiescent_FfnConvBwdIdeal (hFfnConvBwdIdeal := hFfnConvBwdIdeal)
    ∧ quiescent_FfnConvBwdRefIdeal (hFfnConvBwdRefIdeal := hFfnConvBwdRefIdeal)
    ∧ quiescent_DnConvBwd (hDnConvBwd := hDnConvBwd)
    ∧ quiescent_DnConvBwdIdeal (hDnConvBwdIdeal := hDnConvBwdIdeal)
    ∧ quiescent_DnConvBwdRefIdeal (hDnConvBwdRefIdeal := hDnConvBwdRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_FfnActBwd (hFfnActBwd := hFfnActBwd)
    ∧ quiescent_FfnActBwdIdeal (hFfnActBwdIdeal := hFfnActBwdIdeal)
    ∧ quiescent_FfnActBwdIdeal_pre_finite_ffn (hFfnActBwdIdeal := hFfnActBwdIdeal) (hPre_finite_ffn := hPre_finite_ffn)
    ∧ quiescent_FfnActBwdRefIdeal (hFfnActBwdRefIdeal := hFfnActBwdRefIdeal)
    ∧ quiescent_FfnActBwdRefIdeal_pre_finite_ffn (hFfnActBwdRefIdeal := hFfnActBwdRefIdeal) (hPre_finite_ffn := hPre_finite_ffn)
    ∧ quiescent_DnPre (hDnPre := hDnPre)
    ∧ quiescent_DnPreIdeal (hDnPreIdeal := hDnPreIdeal)
    ∧ quiescent_DnPreRefIdeal (hDnPreRefIdeal := hDnPreRefIdeal)
    ∧ quiescent_DnPreBwd (hDnPreBwd := hDnPreBwd)
    ∧ quiescent_DnPreBwdIdeal (hDnPreBwdIdeal := hDnPreBwdIdeal)
    ∧ quiescent_DnPreBwdIdeal_pre_finite_pre (hDnPreBwdIdeal := hDnPreBwdIdeal) (hPre_finite_pre := hPre_finite_pre)
    ∧ quiescent_DnPreBwdRefIdeal (hDnPreBwdRefIdeal := hDnPreBwdRefIdeal)
    ∧ quiescent_DnPreBwdRefIdeal_pre_finite_pre (hDnPreBwdRefIdeal := hDnPreBwdRefIdeal) (hPre_finite_pre := hPre_finite_pre)
    ∧ quiescent_Loss (hLoss := hLoss)
    ∧ quiescent_LossIdeal (hLossIdeal := hLossIdeal)
    ∧ quiescent_LossRefIdeal (hLossRefIdeal := hLossRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_InQkv_InQkvIdeal
    ∧ algebraic_InQkvIdeal_InQkvRefIdeal (hInQkvIdeal := hInQkvIdeal) (hInQkvRefIdeal := hInQkvRefIdeal)
    ∧ preserves_InGate_InGateIdeal
    ∧ algebraic_InGateIdeal_InGateRefIdeal (hInGateIdeal := hInGateIdeal) (hInGateRefIdeal := hInGateRefIdeal)
    ∧ preserves_InGl_InGlIdeal
    ∧ algebraic_InGlIdeal_InGlRefIdeal (hInGlIdeal := hInGlIdeal) (hInGlRefIdeal := hInGlRefIdeal)
    ∧ preserves_ProjOut_ProjOutIdeal
    ∧ algebraic_ProjOutIdeal_ProjOutRefIdeal (hProjOutIdeal := hProjOutIdeal) (hProjOutRefIdeal := hProjOutRefIdeal)
    ∧ preserves_OutProj_OutProjIdeal
    ∧ algebraic_OutProjIdeal_OutProjRefIdeal (hOutProjIdeal := hOutProjIdeal) (hOutProjRefIdeal := hOutProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Merge_MergeIdeal
    ∧ algebraic_MergeIdeal_MergeRefIdeal (hMergeIdeal := hMergeIdeal) (hMergeRefIdeal := hMergeRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Norm_NormIdeal
    ∧ algebraic_NormIdeal_NormRefIdeal (hNormIdeal := hNormIdeal) (hNormRefIdeal := hNormRefIdeal)
    ∧ preserves_NormBwd_NormBwdIdeal
    ∧ algebraic_NormBwdIdeal_NormBwdRefIdeal (hNormBwdIdeal := hNormBwdIdeal) (hNormBwdRefIdeal := hNormBwdRefIdeal)
    ∧ preserves_Post_PostIdeal
    ∧ algebraic_PostIdeal_PostRefIdeal (hPostIdeal := hPostIdeal) (hPostRefIdeal := hPostRefIdeal)
    ∧ preserves_PostBwd_PostBwdIdeal
    ∧ algebraic_PostBwdIdeal_PostBwdRefIdeal_pre_finite_post (hPostBwdIdeal := hPostBwdIdeal) (hPostBwdRefIdeal := hPostBwdRefIdeal) (hPre_finite_post := hPre_finite_post)
    ∧ preserves_FfnConvBwd_FfnConvBwdIdeal
    ∧ algebraic_FfnConvBwdIdeal_FfnConvBwdRefIdeal (hFfnConvBwdIdeal := hFfnConvBwdIdeal) (hFfnConvBwdRefIdeal := hFfnConvBwdRefIdeal)
    ∧ preserves_DnConvBwd_DnConvBwdIdeal
    ∧ algebraic_DnConvBwdIdeal_DnConvBwdRefIdeal (hDnConvBwdIdeal := hDnConvBwdIdeal) (hDnConvBwdRefIdeal := hDnConvBwdRefIdeal)
    ∧ preserves_FfnAct_FfnActIdeal
    ∧ algebraic_FfnActIdeal_FfnActRefIdeal (hFfnActIdeal := hFfnActIdeal) (hFfnActRefIdeal := hFfnActRefIdeal)
    ∧ preserves_FfnActBwd_FfnActBwdIdeal
    ∧ algebraic_FfnActBwdIdeal_FfnActBwdRefIdeal_pre_finite_ffn (hFfnActBwdIdeal := hFfnActBwdIdeal) (hFfnActBwdRefIdeal := hFfnActBwdRefIdeal) (hPre_finite_ffn := hPre_finite_ffn)
    ∧ preserves_DnPre_DnPreIdeal
    ∧ algebraic_DnPreIdeal_DnPreRefIdeal (hDnPreIdeal := hDnPreIdeal) (hDnPreRefIdeal := hDnPreRefIdeal)
    ∧ preserves_DnPreBwd_DnPreBwdIdeal
    ∧ algebraic_DnPreBwdIdeal_DnPreBwdRefIdeal_pre_finite_pre (hDnPreBwdIdeal := hDnPreBwdIdeal) (hDnPreBwdRefIdeal := hDnPreBwdRefIdeal) (hPre_finite_pre := hPre_finite_pre)
    ∧ preserves_Loss_LossIdeal
    ∧ algebraic_LossIdeal_LossRefIdeal (hLossIdeal := hLossIdeal) (hLossRefIdeal := hLossRefIdeal)
-- ==== Pre_finite.lean ====
abbrev S4096x1024 : Shape := ⟨2, ![4096, 1024]⟩
abbrev S8x4096x64 : Shape := ⟨3, ![8, 4096, 64]⟩
abbrev S4096x128 : Shape := ⟨2, ![4096, 128]⟩
abbrev S_ : Shape := ⟨0, ![]⟩

class Facts : Prop where
  bcast_S_S4096x1024 : S_.BroadcastsInDim S4096x1024 (![] : Fin 0 → Fin S4096x1024.rank)
  bcast_S_S8x4096x64 : S_.BroadcastsInDim S8x4096x64 (![] : Fin 0 → Fin S8x4096x64.rank)
  bcast_S_S4096x128 : S_.BroadcastsInDim S4096x128 (![] : Fin 0 → Fin S4096x128.rank)

variable [Facts]

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S8x4096x64 .f32) (main_arg5 : FVec F S4096x128 .f32) : IVec S4096x1024 1 × IVec S4096x1024 1 × IVec S4096x1024 1 × IVec S4096x1024 1 × IVec S8x4096x64 1 × IVec S4096x128 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S8x4096x64 .f32 := Host.absf main_arg4
  let main_cst_3 : FVec F S_ .f32 := constant S_ .f32 0x7F800000#32
  let main_v13 : FVec F S8x4096x64 .f32 := broadcastInDim S8x4096x64 ![] bcast_S_S8x4096x64 main_cst_3
  let main_v14 : IVec S8x4096x64 1 := cmpf .olt main_v12 main_v13
  let main_v15 : FVec F S4096x128 .f32 := Host.absf main_arg5
  let main_cst_4 : FVec F S_ .f32 := constant S_ .f32 0x7F800000#32
  let main_v16 : FVec F S4096x128 .f32 := broadcastInDim S4096x128 ![] bcast_S_S4096x128 main_cst_4
  let main_v17 : IVec S4096x128 1 := cmpf .olt main_v15 main_v16
  (main_v2, main_v5, main_v8, main_v11, main_v14, main_v17)
-- ==== Pre_finite_ffn.lean ====
abbrev S4096x2816 : Shape := ⟨2, ![4096, 2816]⟩
abbrev S4096x5632 : Shape := ⟨2, ![4096, 5632]⟩
abbrev S3x5632 : Shape := ⟨2, ![3, 5632]⟩
abbrev S3x2816 : Shape := ⟨2, ![3, 2816]⟩
abbrev S_ : Shape := ⟨0, ![]⟩

class Facts : Prop where
  slices_S4096x5632_S4096x2816_0_2816 : S4096x5632.Slices ![0, 2816] S4096x2816
  slices_S3x5632_S3x2816_0_2816 : S3x5632.Slices ![0, 2816] S3x2816
  bcast_S_S4096x2816 : S_.BroadcastsInDim S4096x2816 (![] : Fin 0 → Fin S4096x2816.rank)
  bcast_S_S3x2816 : S_.BroadcastsInDim S3x2816 (![] : Fin 0 → Fin S3x2816.rank)

variable [Facts]

def fn {F : FTy → Type} [FloatOps F] (main_arg0 : FVec F S4096x2816 .f32) (main_arg1 : FVec F S4096x5632 .f32) (main_arg2 : FVec F S3x5632 .f32) : IVec S4096x2816 1 × IVec S4096x2816 1 × IVec S3x2816 1 :=
  let main_v0 : FVec F S4096x2816 .f32 := (extractStridedSlice S4096x2816 ![0, 2816] · slices_S4096x5632_S4096x2816_0_2816) main_arg1
  let main_v1 : FVec F S3x2816 .f32 := (extractStridedSlice S3x2816 ![0, 2816] · slices_S3x5632_S3x2816_0_2816) main_arg2
  let main_v2 : FVec F S4096x2816 .f32 := Host.absf main_arg0
  let main_cst : FVec F S_ .f32 := constant S_ .f32 0x7F800000#32
  let main_v3 : FVec F S4096x2816 .f32 := broadcastInDim S4096x2816 ![] bcast_S_S4096x2816 main_cst
  let main_v4 : IVec S4096x2816 1 := cmpf .olt main_v2 main_v3
  let main_v5 : FVec F S4096x2816 .f32 := Host.absf main_v0
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_v8 : FVec F S3x2816 .f32 := Host.absf main_v1
  let main_cst_1 : FVec F S_ .f32 := constant S_ .f32 0x7F800000#32
  let main_v9 : FVec F S3x2816 .f32 := broadcastInDim S3x2816 ![] bcast_S_S3x2816 main_cst_1
  let main_v10 : IVec S3x2816 1 := cmpf .olt main_v8 main_v9
  (main_v4, main_v7, main_v10)
-- ==== Pre_finite_post.lean ====
abbrev S4096x1024 : Shape := ⟨2, ![4096, 1024]⟩
abbrev S1x128 : Shape := ⟨2, ![1, 128]⟩
abbrev S_ : Shape := ⟨0, ![]⟩

class Facts : Prop where
  bcast_S_S4096x1024 : S_.BroadcastsInDim S4096x1024 (![] : Fin 0 → Fin S4096x1024.rank)
  bcast_S_S1x128 : S_.BroadcastsInDim S1x128 (![] : Fin 0 → Fin S1x128.rank)

variable [Facts]

def fn {F : FTy → Type} [FloatOps F] (main_arg0 : FVec F S4096x1024 .f32) (main_arg1 : FVec F S4096x1024 .f32) (main_arg2 : FVec F S4096x1024 .f32) (main_arg3 : FVec F S1x128 .f32) : IVec S4096x1024 1 × IVec S4096x1024 1 × IVec S1x128 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x128 .f32 := Host.absf main_arg3
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  (main_v2, main_v5, main_v8)
-- ==== Pre_finite_pre.lean ====
abbrev S4096x1024 : Shape := ⟨2, ![4096, 1024]⟩
abbrev S4096x3072 : Shape := ⟨2, ![4096, 3072]⟩
abbrev S4x3072 : Shape := ⟨2, ![4, 3072]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S4096x1024 .f32) (main_arg3 : FVec F S4096x3072 .f32) (main_arg4 : FVec F S4x3072 .f32) : IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Kernel.lean ====
abbrev S4096x1024 : Shape := ⟨2, ![4096, 1024]⟩
abbrev S8x4096x64 : Shape := ⟨3, ![8, 4096, 64]⟩
abbrev S4096x128 : Shape := ⟨2, ![4096, 128]⟩
abbrev S4096x8 : Shape := ⟨2, ![4096, 8]⟩
abbrev S64x64x8 : Shape := ⟨3, ![64, 64, 8]⟩
abbrev S64x64x8x1 : Shape := ⟨4, ![64, 64, 8, 1]⟩
abbrev S64x64x8x128 : Shape := ⟨4, ![64, 64, 8, 128]⟩
abbrev S64x1x8 : Shape := ⟨3, ![64, 1, 8]⟩
abbrev S64x1x8x1 : Shape := ⟨4, ![64, 1, 8, 1]⟩
abbrev S64x8x128x128 : Shape := ⟨4, ![64, 8, 128, 128]⟩
abbrev S512x1024 : Shape := ⟨2, ![512, 1024]⟩
abbrev S8x512x64 : Shape := ⟨3, ![8, 512, 64]⟩
abbrev S512x128 : Shape := ⟨2, ![512, 128]⟩
abbrev S8x8x128x128 : Shape := ⟨4, ![8, 8, 128, 128]⟩
abbrev S8x128x128 : Shape := ⟨3, ![8, 128, 128]⟩
abbrev S1x128x128 : Shape := ⟨3, ![1, 128, 128]⟩
abbrev S128x128 : Shape := ⟨2, ![128, 128]⟩
abbrev S1x128 : Shape := ⟨2, ![1, 128]⟩
abbrev S64x128 : Shape := ⟨2, ![64, 128]⟩
abbrev S1x64x64 : Shape := ⟨3, ![1, 64, 64]⟩
abbrev S64x64 : Shape := ⟨2, ![64, 64]⟩
abbrev S1x1x128x128 : Shape := ⟨4, ![1, 1, 128, 128]⟩
abbrev S1x1 : Shape := ⟨2, ![1, 1]⟩

abbrev nBuf : Space → Nat
  | .hbm => 26
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S8x4096x64, .f32⟩
  | .hbm, ⟨5, _⟩ => ⟨S4096x128, .f32⟩
  | .hbm, ⟨6, _⟩ => ⟨S4096x8, .f32⟩
  | .hbm, ⟨7, _⟩ => ⟨S64x64x8, .f32⟩
  | .hbm, ⟨8, _⟩ => ⟨S64x64x8x1, .f32⟩
  | .hbm, ⟨9, _⟩ => ⟨S64x64x8x128, .f32⟩
  | .hbm, ⟨10, _⟩ => ⟨S4096x1024, .f32⟩
  | .hbm, ⟨11, _⟩ => ⟨S64x1x8, .f32⟩
  | .hbm, ⟨12, _⟩ => ⟨S64x1x8x1, .f32⟩
  | .hbm, ⟨13, _⟩ => ⟨S64x64x8x128, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S8x4096x64, .bf16⟩
  | .hbm, ⟨24, _⟩ => ⟨S4096x1024, .f32⟩
  | .hbm, ⟨25, _⟩ => ⟨S64x8x128x128, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S8x512x64, .bf16⟩
  | .local _ .vmem, ⟨9, _⟩ => ⟨S8x512x64, .bf16⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S8x8x128x128, .bf16⟩
  | .local _ .vmem, ⟨15, _⟩ => ⟨S8x8x128x128, .bf16⟩
  | .local _ .vmem, ⟨16, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x8x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x1024 : Shape := ⟨2, ![4096, 1024]⟩
abbrev S8x4096x64 : Shape := ⟨3, ![8, 4096, 64]⟩
abbrev S4096x128 : Shape := ⟨2, ![4096, 128]⟩
abbrev S64x64x8x128 : Shape := ⟨4, ![64, 64, 8, 128]⟩
abbrev S64x8x64x128 : Shape := ⟨4, ![64, 8, 64, 128]⟩
abbrev S4096x8 : Shape := ⟨2, ![4096, 8]⟩
abbrev S64x64x8 : Shape := ⟨3, ![64, 64, 8]⟩
abbrev S64x8x64 : Shape := ⟨3, ![64, 8, 64]⟩
abbrev S8x64x64x64 : Shape := ⟨4, ![8, 64, 64, 64]⟩
abbrev S64x8x64x64 : Shape := ⟨4, ![64, 8, 64, 64]⟩
abbrev S64x8x1 : Shape := ⟨3, ![64, 8, 1]⟩
abbrev S64x8 : Shape := ⟨2, ![64, 8]⟩
abbrev S64x8x64x1 : Shape := ⟨4, ![64, 8, 64, 1]⟩
abbrev S64x8x1x1 : Shape := ⟨4, ![64, 8, 1, 1]⟩
abbrev S_ : Shape := ⟨0, ![]⟩
abbrev S64x8x128x128 : Shape := ⟨4, ![64, 8, 128, 128]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x1x1 : Shape := ⟨4, ![1, 8, 1, 1]⟩
abbrev S8x1x1 : Shape := ⟨3, ![8, 1, 1]⟩
abbrev S1x8x64x64 : Shape := ⟨4, ![1, 8, 64, 64]⟩
abbrev S8x64x64 : Shape := ⟨3, ![8, 64, 64]⟩
abbrev S8x128x64 : Shape := ⟨3, ![8, 128, 64]⟩
abbrev S1x8x128x128 : Shape := ⟨4, ![1, 8, 128, 128]⟩

abbrev nBuf : Space → Nat
  | .hbm => 122
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S8x4096x64, .f32⟩
  | .hbm, ⟨5, _⟩ => ⟨S4096x128, .f32⟩
  | .hbm, ⟨6, _⟩ => ⟨S64x64x8x128, .f32⟩
  | .hbm, ⟨7, _⟩ => ⟨S64x8x64x128, .f32⟩
  | .hbm, ⟨8, _⟩ => ⟨S64x64x8x128, .f32⟩
  | .hbm, ⟨9, _⟩ => ⟨S64x8x64x128, .f32⟩
  | .hbm, ⟨10, _⟩ => ⟨S64x64x8x128, .f32⟩
  | .hbm, ⟨11, _⟩ => ⟨S64x8x64x128, .f32⟩
  | .hbm, ⟨12, _⟩ => ⟨S4096x8, .f32⟩
  | .hbm, ⟨13, _⟩ => ⟨S64x64x8, .f32⟩
  | .hbm, ⟨14, _⟩ => ⟨S64x8x64, .f32⟩
  | .hbm, ⟨15, _⟩ => ⟨S8x64x64x64, .f32⟩
  | .hbm, ⟨16, _⟩ => ⟨S64x8x64x64, .f32⟩
  | .hbm, ⟨17, _⟩ => ⟨S64x8x1, .f32⟩
  | .hbm, ⟨18, _⟩ => ⟨S64x8, .f32⟩
  | .hbm, ⟨19, _⟩ => ⟨S64x8x64, .f32⟩
  | .hbm, ⟨20, _⟩ => ⟨S64x8x64x1, .f32⟩
  | .hbm, ⟨21, _⟩ => ⟨S64x8x64x128, .f32⟩
  | .hbm, ⟨22, _⟩ => ⟨S64x8x64x128, .f32⟩
  | .hbm, ⟨23, _⟩ => ⟨S64x8x1, .f32⟩
  | .hbm, ⟨24, _⟩ => ⟨S64x8x64, .f32⟩
  | .hbm, ⟨25, _⟩ => ⟨S64x8x64, .f32⟩
  | .hbm, ⟨26, _⟩ => ⟨S64x8x64, .f32⟩
  | .hbm, ⟨27, _⟩ => ⟨S64x8x64x1, .f32⟩
  | .hbm, ⟨28, _⟩ => ⟨S64x8x64x128, .f32⟩
  | .hbm, ⟨29, _⟩ => ⟨S64x8x64x128, .f32⟩
  | .hbm, ⟨30, _⟩ => ⟨S64x8, .f32⟩
  | .hbm, ⟨31, _⟩ => ⟨S64x8x1x1, .f32⟩
  | .hbm, ⟨32, _⟩ => ⟨S_, .f32⟩
  | .hbm, ⟨33, _⟩ => ⟨S64x8x64x128, .f32⟩
  | .hbm, ⟨34, _⟩ => ⟨S_, .f32⟩
  | .hbm, ⟨35, _⟩ => ⟨S64x8x128x128, .f32⟩
  | .hbm, ⟨36, _⟩ => ⟨S_, .f32⟩
  | .hbm, ⟨37, _⟩ => ⟨S8x128x128, .f32⟩
  | .hbm, ⟨38, _⟩ => ⟨S64x64x8x128, .f32⟩
  | .hbm, ⟨39, _⟩ => ⟨S64x8x64x128, .f32⟩
  | .hbm, ⟨40, _⟩ => ⟨S_, .f32⟩
  | .hbm, ⟨41, _⟩ => ⟨S8x128x128, .f32⟩
  | .hbm, ⟨42, _⟩ => ⟨S_, .f32⟩
  | .hbm, ⟨43, _⟩ => ⟨S64x8x64x128, .f32⟩
  | .hbm, ⟨44, _⟩ => ⟨S_, .f32⟩
  | .hbm, ⟨45, _⟩ => ⟨S64x8x128x128, .f32⟩
  | .hbm, ⟨46, _⟩ => ⟨S_, .i32⟩
  | .hbm, ⟨47, _⟩ => ⟨S64x8x64x128, .f32⟩
  | .hbm, ⟨48, _⟩ => ⟨S64x8x1x1, .f32⟩
  | .hbm, ⟨49, _⟩ => ⟨S64x8x64x128, .f32⟩
  | .hbm, ⟨50, _⟩ => ⟨S64x8x64x128, .f32⟩
  | .hbm, ⟨51, _⟩ => ⟨S64x8x64x128, .f32⟩
  | .hbm, ⟨52, _⟩ => ⟨S64x8x64x64, .f32⟩
  | .hbm, ⟨53, _⟩ => ⟨S_, .i32⟩
  | .hbm, ⟨54, _⟩ => ⟨S8x128x128, .f32⟩
  | .hbm, ⟨55, _⟩ => ⟨S64x8x64x128, .f32⟩
  | .hbm, ⟨56, _⟩ => ⟨S64x8x128x128, .f32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x8x64x128, .f32⟩
  | .hbm, ⟨67, _⟩ => ⟨S8x64x128, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x8x1x1, .f32⟩
  | .hbm, ⟨72, _⟩ => ⟨S8x1x1, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x8x64x128, .f32⟩
  | .hbm, ⟨77, _⟩ => ⟨S8x64x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x8x64x128, .f32⟩
  | .hbm, ⟨82, _⟩ => ⟨S8x64x128, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S1x8x64x128, .f32⟩
  | .hbm, ⟨87, _⟩ => ⟨S8x64x128, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S1x8x64x64, .f32⟩
  | .hbm, ⟨92, _⟩ => ⟨S8x64x64, .f32⟩
  | .hbm, ⟨93, _⟩ => ⟨S8x128x64, .f32⟩
  | .hbm, ⟨94, _⟩ => ⟨S8x64x128, .f32⟩
  | .hbm, ⟨95, _⟩ => ⟨S8x128x128, .f32⟩
  | .hbm, ⟨96, _⟩ => ⟨S8x128x128, .f32⟩
  | .hbm, ⟨97, _⟩ => ⟨S8x128x64, .f32⟩
  | .hbm, ⟨98, _⟩ => ⟨S8x64x128, .f32⟩
  | .hbm, ⟨99, _⟩ => ⟨S8x64x128, .f32⟩
  | .hbm, ⟨100, _⟩ => ⟨S8x128x128, .f32⟩
  | .hbm, ⟨101, _⟩ => ⟨S8x128x128, .f32⟩
  | .hbm, ⟨102, _⟩ => ⟨S8x128x128, .f32⟩
  | .hbm, ⟨103, _⟩ => ⟨S8x64x128, .f32⟩
  | .hbm, ⟨104, _⟩ => ⟨S8x128x128, .f32⟩
  | .hbm, ⟨105, _⟩ => ⟨S8x128x128, .f32⟩
  | .hbm, ⟨106, _⟩ => ⟨S8x128x128, .f32⟩
  | .hbm, ⟨107, _⟩ => ⟨S1x8x64x128, .f32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S64x8x64x128, .f32⟩
  | .hbm, ⟨112, _⟩ => ⟨S1x8x128x128, .f32⟩
  | .hbm, ⟨113, _⟩ => ⟨S_, .i32⟩
  | .hbm, ⟨114, _⟩ => ⟨S_, .i32⟩
  | .hbm, ⟨115, _⟩ => ⟨S_, .i32⟩
  | .hbm, ⟨116, _⟩ => ⟨S64x8x128x128, .f32⟩
  | .hbm, ⟨117, _⟩ => ⟨S_, .i32⟩
  | .hbm, ⟨118, _⟩ => ⟨S_, .i32⟩
  | .hbm, ⟨119, _⟩ => ⟨S64x64x8x128, .f32⟩
  | .hbm, ⟨120, _⟩ => ⟨S4096x1024, .f32⟩
  | .hbm, ⟨121, _⟩ => ⟨S64x8x128x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_c : Ref sig .tc := ⟨.hbm, 46, rfl⟩
abbrev main_v34_0 : Ref sig .tc := ⟨.hbm, 47, rfl⟩
abbrev main_v34_1 : Ref sig .tc := ⟨.hbm, 48, rfl⟩
abbrev main_v34_2 : Ref sig .tc := ⟨.hbm, 49, rfl⟩
abbrev main_v34_3 : Ref sig .tc := ⟨.hbm, 50, rfl⟩
abbrev main_v34_4 : Ref sig .tc := ⟨.hbm, 51, rfl⟩
abbrev main_v34_5 : Ref sig .tc := ⟨.hbm, 52, rfl⟩
abbrev main_v34_6 : Ref sig .tc := ⟨.hbm, 53, rfl⟩
abbrev main_v34_7 : Ref sig .tc := ⟨.hbm, 54, rfl⟩
abbrev main_v34_8 : Ref sig .tc := ⟨.hbm, 55, rfl⟩
abbrev main_v34_9 : Ref sig .tc := ⟨.hbm, 56, rfl⟩
abbrev main_while0c_c_14 : Ref sig .tc := ⟨.hbm, 57, rfl⟩
abbrev main_while0c_v38 : Ref sig .tc := ⟨.hbm, 58, rfl⟩
abbrev main_while0b_c_14 : Ref sig .tc := ⟨.hbm, 59, rfl⟩
abbrev main_while0b_v38 : Ref sig .tc := ⟨.hbm, 60, rfl⟩
abbrev main_while0b_c_15 : Ref sig .tc := ⟨.hbm, 61, rfl⟩
abbrev main_while0b_v39 : Ref sig .tc := ⟨.hbm, 62, rfl⟩
abbrev main_while0b_call0_c : Ref sig .tc := ⟨.hbm, 63, rfl⟩
abbrev main_while0b_call0_c_0 : Ref sig .tc := ⟨.hbm, 64, rfl⟩
abbrev main_while0b_call0_c_1 : Ref sig .tc := ⟨.hbm, 65, rfl⟩
abbrev main_while0b_call0_v0 : Ref sig .tc := ⟨.hbm, 66, rfl⟩
abbrev main_while0b_v40 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_v0 : Ref sig .tc := ⟨.hbm, 71, rfl⟩
abbrev main_while0b_v41 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_v0 : Ref sig .tc := ⟨.hbm, 76, rfl⟩
abbrev main_while0b_v42 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_v0 : Ref sig .tc := ⟨.hbm, 81, rfl⟩
abbrev main_while0b_v43 : Ref sig .tc := ⟨.hbm, 82, rfl⟩
abbrev main_while0b_call4_c : Ref sig .tc := ⟨.hbm, 83, rfl⟩
abbrev main_while0b_call4_c_0 : Ref sig .tc := ⟨.hbm, 84, rfl⟩
abbrev main_while0b_call4_c_1 : Ref sig .tc := ⟨.hbm, 85, rfl⟩
abbrev main_while0b_call4_v0 : Ref sig .tc := ⟨.hbm, 86, rfl⟩
abbrev main_while0b_v44 : Ref sig .tc := ⟨.hbm, 87, rfl⟩
abbrev main_while0b_call5_c : Ref sig .tc := ⟨.hbm, 88, rfl⟩
abbrev main_while0b_call5_c_0 : Ref sig .tc := ⟨.hbm, 89, rfl⟩
abbrev main_while0b_call5_c_1 : Ref sig .tc := ⟨.hbm, 90, rfl⟩
abbrev main_while0b_call5_v0 : Ref sig .tc := ⟨.hbm, 91, rfl⟩
abbrev main_while0b_v45 : Ref sig .tc := ⟨.hbm, 92, rfl⟩
abbrev main_while0b_v46 : Ref sig .tc := ⟨.hbm, 93, rfl⟩
abbrev main_while0b_v47 : Ref sig .tc := ⟨.hbm, 94, rfl⟩
abbrev main_while0b_v48 : Ref sig .tc := ⟨.hbm, 95, rfl⟩
abbrev main_while0b_v49 : Ref sig .tc := ⟨.hbm, 96, rfl⟩
abbrev main_while0b_v50 : Ref sig .tc := ⟨.hbm, 97, rfl⟩
abbrev main_while0b_v51 : Ref sig .tc := ⟨.hbm, 98, rfl⟩
abbrev main_while0b_v52 : Ref sig .tc := ⟨.hbm, 99, rfl⟩
abbrev main_while0b_v53 : Ref sig .tc := ⟨.hbm, 100, rfl⟩
abbrev main_while0b_v54 : Ref sig .tc := ⟨.hbm, 101, rfl⟩
abbrev main_while0b_v55 : Ref sig .tc := ⟨.hbm, 102, rfl⟩
abbrev main_while0b_v56 : Ref sig .tc := ⟨.hbm, 103, rfl⟩
abbrev main_while0b_v57 : Ref sig .tc := ⟨.hbm, 104, rfl⟩
abbrev main_while0b_v58 : Ref sig .tc := ⟨.hbm, 105, rfl⟩
abbrev main_while0b_v59 : Ref sig .tc := ⟨.hbm, 106, rfl⟩
abbrev main_while0b_call6_v0 : Ref sig .tc := ⟨.hbm, 107, rfl⟩
abbrev main_while0b_call6_c : Ref sig .tc := ⟨.hbm, 108, rfl⟩
abbrev main_while0b_call6_c_0 : Ref sig .tc := ⟨.hbm, 109, rfl⟩
abbrev main_while0b_call6_c_1 : Ref sig .tc := ⟨.hbm, 110, rfl⟩
abbrev main_while0b_v60 : Ref sig .tc := ⟨.hbm, 111, rfl⟩
abbrev main_while0b_call7_v0 : Ref sig .tc := ⟨.hbm, 112, rfl⟩
abbrev main_while0b_call7_c : Ref sig .tc := ⟨.hbm, 113, rfl⟩
abbrev main_while0b_call7_c_0 : Ref sig .tc := ⟨.hbm, 114, rfl⟩
abbrev main_while0b_call7_c_1 : Ref sig .tc := ⟨.hbm, 115, rfl⟩
abbrev main_while0b_v61 : Ref sig .tc := ⟨.hbm, 116, rfl⟩
abbrev main_while0b_c_16 : Ref sig .tc := ⟨.hbm, 117, rfl⟩
abbrev main_while0b_v62 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩

abbrev nD : Nat := 1
abbrev τ : Topo := Topo.v7x

variable {F : FTy → Type} [FloatOps F]

abbrev main_while0_count : Scf.Loop 32 := ⟨0#32, 64#32, 1#32⟩
-- ==== DownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2816x1024, .bf16⟩
  | .hbm, ⟨3, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | .hbm, ⟨6, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDx.lean ====
abbrev S4096x5632 : Shape := ⟨2, ![4096, 5632]⟩
abbrev S1024x5632 : Shape := ⟨2, ![1024, 5632]⟩
abbrev S5632x1024 : Shape := ⟨2, ![5632, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x5632, .bf16⟩
  | .hbm, ⟨3, _⟩ => ⟨S5632x1024, .f32⟩
  | .hbm, ⟨4, _⟩ => ⟨S5632x1024, .bf16⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S_, .f32⟩
  | .hbm, ⟨3, _⟩ => ⟨S4096x1024, .f32⟩
  | .hbm, ⟨4, _⟩ => ⟨S4096x5632, .f32⟩
  | .hbm, ⟨5, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpDw.lean ====
abbrev S4096x1024 : Shape := ⟨2, ![4096, 1024]⟩
abbrev S4096x5632 : Shape := ⟨2, ![4096, 5632]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x5632, .bf16⟩
  | .hbm, ⟨3, _⟩ => ⟨S4096x1024, .bf16⟩
  | .hbm, ⟨4, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S4096x9216 : Shape := ⟨2, ![4096, 9216]⟩
abbrev S1024x9216 : Shape := ⟨2, ![1024, 9216]⟩
abbrev S4096x1024 : Shape := ⟨2, ![4096, 1024]⟩
abbrev S9216x1024 : Shape := ⟨2, ![9216, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x9216, .f32⟩
  | .hbm, ⟨1, _⟩ => ⟨S1024x9216, .f32⟩
  | .hbm, ⟨2, _⟩ => ⟨S4096x1024, .f32⟩
  | .hbm, ⟨3, _⟩ => ⟨S4096x9216, .bf16⟩
  | .hbm, ⟨4, _⟩ => ⟨S9216x1024, .f32⟩
  | .hbm, ⟨5, _⟩ => ⟨S9216x1024, .bf16⟩
  | .hbm, ⟨6, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxRefIdeal.lean ====
abbrev S4096x9216 : Shape := ⟨2, ![4096, 9216]⟩
abbrev S1024x9216 : Shape := ⟨2, ![1024, 9216]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S1024x9216, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x9216, .f32⟩
  | .hbm, ⟨6, _⟩ => ⟨S4096x1024, .f32⟩
  | .hbm, ⟨7, _⟩ => ⟨S4096x1024, .f32⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== InDw.lean ====
abbrev S4096x1024 : Shape := ⟨2, ![4096, 1024]⟩
abbrev S4096x9216 : Shape := ⟨2, ![4096, 9216]⟩
abbrev S9216x1024 : Shape := ⟨2, ![9216, 1024]⟩
abbrev S1024x1152 : Shape := ⟨2, ![1024, 1152]⟩
abbrev S1024x1024 : Shape := ⟨2, ![1024, 1024]⟩
abbrev S1152x1024 : Shape := ⟨2, ![1152, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x9216, .f32⟩
  | .hbm, ⟨2, _⟩ => ⟨S4096x9216, .bf16⟩
  | .hbm, ⟨3, _⟩ => ⟨S4096x1024, .bf16⟩
  | .hbm, ⟨4, _⟩ => ⟨S9216x1024, .bf16⟩
  | .local _ .vmem, ⟨0, _⟩ => ⟨S1024x1152, .bf16⟩
  | .local _ .vmem, ⟨1, _⟩ => ⟨S1024x1152, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x1024 : Shape := ⟨2, ![4096, 1024]⟩
abbrev S4096x9216 : Shape := ⟨2, ![4096, 9216]⟩
abbrev S_ : Shape := ⟨0, ![]⟩
abbrev S1024x9216 : Shape := ⟨2, ![1024, 9216]⟩
abbrev S9216x1024 : Shape := ⟨2, ![9216, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x9216, .f32⟩
  | .hbm, ⟨2, _⟩ => ⟨S_, .f32⟩
  | .hbm, ⟨3, _⟩ => ⟨S1024x9216, .f32⟩
  | .hbm, ⟨4, _⟩ => ⟨S4096x9216, .f32⟩
  | .hbm, ⟨5, _⟩ => ⟨S9216x1024, .f32⟩
  | .hbm, ⟨6, _⟩ => ⟨S1024x9216, .f32⟩
  | .hbm, ⟨7, _⟩ => ⟨S9216x1024, .f32⟩
  | .hbm, ⟨8, _⟩ => ⟨S9216x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDx.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjDw.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InQkv.lean ====
abbrev S4096x1024 : Shape := ⟨2, ![4096, 1024]⟩
abbrev S1024x3072 : Shape := ⟨2, ![1024, 3072]⟩
abbrev S3072x1024 : Shape := ⟨2, ![3072, 1024]⟩
abbrev S4096x3072 : Shape := ⟨2, ![4096, 3072]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S3072x1024, .f32⟩
  | .hbm, ⟨4, _⟩ => ⟨S3072x1024, .bf16⟩
  | .hbm, ⟨5, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQkvRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InGate.lean ====
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .f32⟩
  | .hbm, ⟨4, _⟩ => ⟨S1024x1024, .bf16⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGateRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InGl.lean ====
abbrev S4096x1024 : Shape := ⟨2, ![4096, 1024]⟩
abbrev S1024x2048 : Shape := ⟨2, ![1024, 2048]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S2048x1024, .f32⟩
  | .hbm, ⟨4, _⟩ => ⟨S2048x1024, .bf16⟩
  | .hbm, ⟨5, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGlRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjOut.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== FfnUp.lean ====
abbrev S4096x1024 : Shape := ⟨2, ![4096, 1024]⟩
abbrev S1024x5632 : Shape := ⟨2, ![1024, 5632]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S5632x1024, .f32⟩
  | .hbm, ⟨4, _⟩ => ⟨S5632x1024, .bf16⟩
  | .hbm, ⟨5, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Merge.lean ====
abbrev S4096x1024 : Shape := ⟨2, ![4096, 1024]⟩
abbrev S4096x2048 : Shape := ⟨2, ![4096, 2048]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .bf16⟩
  | .hbm, ⟨4, _⟩ => ⟨S4096x1024, .bf16⟩
  | .hbm, ⟨5, _⟩ => ⟨S4096x2048, .bf16⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeRefIdeal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== MergeBwd.lean ====
abbrev S4096x1024 : Shape := ⟨2, ![4096, 1024]⟩
abbrev S4096x2048 : Shape := ⟨2, ![4096, 2048]⟩
abbrev S512x1024 : Shape := ⟨2, ![512, 1024]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x2048, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeBwdRefIdeal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x2048, .f32⟩
  | .hbm, ⟨28, _⟩ => ⟨S4096x2048, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .bf16⟩
  | .hbm, ⟨33, _⟩ => ⟨S4096x1024, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Post.lean ====
abbrev S4096x1024 : Shape := ⟨2, ![4096, 1024]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x128, .f32⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostRefIdeal.lean ====
abbrev S4096x1024 : Shape := ⟨2, ![4096, 1024]⟩
abbrev S1x128 : Shape := ⟨2, ![1, 128]⟩
abbrev S4096x8x128 : Shape := ⟨3, ![4096, 8, 128]⟩
abbrev S128 : Shape := ⟨1, ![128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x128, .f32⟩
  | .hbm, ⟨3, _⟩ => ⟨S4096x8x128, .f32⟩
  | .hbm, ⟨4, _⟩ => ⟨S4096x8x128, .f32⟩
  | .hbm, ⟨5, _⟩ => ⟨S128, .f32⟩
  | .hbm, ⟨6, _⟩ => ⟨S4096x8x128, .f32⟩
  | .hbm, ⟨7, _⟩ => ⟨S_, .f32⟩
  | .hbm, ⟨8, _⟩ => ⟨S4096x8, .f32⟩
  | .hbm, ⟨9, _⟩ => ⟨S4096x8x1, .f32⟩
  | .hbm, ⟨10, _⟩ => ⟨S_, .f32⟩
  | .hbm, ⟨11, _⟩ => ⟨S4096x8x1, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S4096x8x1, .f32⟩
  | .hbm, ⟨17, _⟩ => ⟨S4096x8x128, .f32⟩
  | .hbm, ⟨18, _⟩ => ⟨S4096x8x128, .f32⟩
  | .hbm, ⟨19, _⟩ => ⟨S1x1x128, .f32⟩
  | .hbm, ⟨20, _⟩ => ⟨S4096x8x128, .f32⟩
  | .hbm, ⟨21, _⟩ => ⟨S4096x8x128, .f32⟩
  | .hbm, ⟨22, _⟩ => ⟨S4096x8x128, .f32⟩
  | .hbm, ⟨23, _⟩ => ⟨S4096x8x128, .f32⟩
  | .hbm, ⟨24, _⟩ => ⟨S_, .f32⟩
  | .hbm, ⟨25, _⟩ => ⟨S4096x8x128, .f32⟩
  | .hbm, ⟨26, _⟩ => ⟨S4096x8x128, .f32⟩
  | .hbm, ⟨27, _⟩ => ⟨S_, .f32⟩
  | .hbm, ⟨28, _⟩ => ⟨S4096x8x128, .f32⟩
  | .hbm, ⟨29, _⟩ => ⟨S4096x8x128, .f32⟩
  | .hbm, ⟨30, _⟩ => ⟨S4096x8x128, .f32⟩
  | .hbm, ⟨31, _⟩ => ⟨S4096x8x128, .f32⟩
  | .hbm, ⟨32, _⟩ => ⟨S4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== PostBwd.lean ====
abbrev S4096x1024 : Shape := ⟨2, ![4096, 1024]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .hbm, ⟨4, _⟩ => ⟨S4096x1024, .bf16⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x128, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PostBwdRefIdeal.lean ====
abbrev S4096x1024 : Shape := ⟨2, ![4096, 1024]⟩
abbrev S1x128 : Shape := ⟨2, ![1, 128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S128 : Shape := ⟨1, ![128]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .hbm, ⟨4, _⟩ => ⟨S4096x8x128, .f32⟩
  | .hbm, ⟨5, _⟩ => ⟨S4096x8x128, .f32⟩
  | .hbm, ⟨6, _⟩ => ⟨S4096x8x128, .f32⟩
  | .hbm, ⟨7, _⟩ => ⟨S_, .f32⟩
  | .hbm, ⟨8, _⟩ => ⟨S4096x8, .f32⟩
  | .hbm, ⟨9, _⟩ => ⟨S4096x8x1, .f32⟩
  | .hbm, ⟨10, _⟩ => ⟨S_, .f32⟩
  | .hbm, ⟨11, _⟩ => ⟨S4096x8x1, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S_, .f32⟩
  | .hbm, ⟨19, _⟩ => ⟨S4096x8x1, .f32⟩
  | .hbm, ⟨20, _⟩ => ⟨S4096x8x1, .f32⟩
  | .hbm, ⟨21, _⟩ => ⟨S4096x8x128, .f32⟩
  | .hbm, ⟨22, _⟩ => ⟨S4096x8x128, .f32⟩
  | .hbm, ⟨23, _⟩ => ⟨S1x1x128, .f32⟩
  | .hbm, ⟨24, _⟩ => ⟨S4096x8x128, .f32⟩
  | .hbm, ⟨25, _⟩ => ⟨S4096x8x128, .f32⟩
  | .hbm, ⟨26, _⟩ => ⟨S4096x8x128, .f32⟩
  | .hbm, ⟨27, _⟩ => ⟨S4096x8x128, .f32⟩
  | .hbm, ⟨28, _⟩ => ⟨S_, .f32⟩
  | .hbm, ⟨29, _⟩ => ⟨S4096x8x128, .f32⟩
  | .hbm, ⟨30, _⟩ => ⟨S4096x8x128, .f32⟩
  | .hbm, ⟨31, _⟩ => ⟨S_, .f32⟩
  | .hbm, ⟨32, _⟩ => ⟨S4096x8x128, .f32⟩
  | .hbm, ⟨33, _⟩ => ⟨S4096x8x128, .f32⟩
  | .hbm, ⟨34, _⟩ => ⟨S_, .f32⟩
  | .hbm, ⟨35, _⟩ => ⟨S4096x8x128, .f32⟩
  | .hbm, ⟨36, _⟩ => ⟨S4096x8x128, .f32⟩
  | .hbm, ⟨37, _⟩ => ⟨S4096x8x128, .f32⟩
  | .hbm, ⟨38, _⟩ => ⟨S4096x8x128, .f32⟩
  | .hbm, ⟨39, _⟩ => ⟨S4096x8x128, .f32⟩
  | .hbm, ⟨40, _⟩ => ⟨S4096x8x128, .f32⟩
  | .hbm, ⟨41, _⟩ => ⟨S4096x8x128, .f32⟩
  | .hbm, ⟨42, _⟩ => ⟨S4096x8x128, .f32⟩
  | .hbm, ⟨43, _⟩ => ⟨S4096x8x128, .f32⟩
  | .hbm, ⟨44, _⟩ => ⟨S4096x8x128, .f32⟩
  | .hbm, ⟨45, _⟩ => ⟨S4096x8x128, .f32⟩
  | .hbm, ⟨46, _⟩ => ⟨S4096x8x128, .f32⟩
  | .hbm, ⟨47, _⟩ => ⟨S4096x8x128, .f32⟩
  | .hbm, ⟨48, _⟩ => ⟨S_, .f32⟩
  | .hbm, ⟨49, _⟩ => ⟨S128, .f32⟩
  | .hbm, ⟨50, _⟩ => ⟨S1x1x128, .f32⟩
  | .hbm, ⟨51, _⟩ => ⟨S4096x8x128, .f32⟩
  | .hbm, ⟨52, _⟩ => ⟨S4096x8x128, .f32⟩
  | .hbm, ⟨53, _⟩ => ⟨S_, .f32⟩
  | .hbm, ⟨54, _⟩ => ⟨S128, .f32⟩
  | .hbm, ⟨55, _⟩ => ⟨S1x128, .f32⟩
  | .hbm, ⟨56, _⟩ => ⟨S4096x8x128, .f32⟩
  | .hbm, ⟨57, _⟩ => ⟨S_, .f32⟩
  | .hbm, ⟨58, _⟩ => ⟨S4096x8, .f32⟩
  | .hbm, ⟨59, _⟩ => ⟨S4096x8x1, .f32⟩
  | .hbm, ⟨60, _⟩ => ⟨S4096x8x128, .f32⟩
  | .hbm, ⟨61, _⟩ => ⟨S4096x8x128, .f32⟩
  | .hbm, ⟨62, _⟩ => ⟨S4096x8x1, .f32⟩
  | .hbm, ⟨63, _⟩ => ⟨S_, .f32⟩
  | .hbm, ⟨64, _⟩ => ⟨S4096x8x1, .f32⟩
  | .hbm, ⟨65, _⟩ => ⟨S4096x8x1, .f32⟩
  | .hbm, ⟨66, _⟩ => ⟨S_, .f32⟩
  | .hbm, ⟨67, _⟩ => ⟨S4096x8, .f32⟩
  | .hbm, ⟨68, _⟩ => ⟨S4096x8x128, .f32⟩
  | .hbm, ⟨69, _⟩ => ⟨S4096x8x128, .f32⟩
  | .hbm, ⟨70, _⟩ => ⟨S4096x8x128, .f32⟩
  | .hbm, ⟨71, _⟩ => ⟨S4096x8x128, .f32⟩
  | .hbm, ⟨72, _⟩ => ⟨S4096x8x128, .f32⟩
  | .hbm, ⟨73, _⟩ => ⟨S4096x1024, .f32⟩
  | .hbm, ⟨74, _⟩ => ⟨S4096x1024, .f32⟩
  | .hbm, ⟨75, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== FfnConvBwd.lean ====
abbrev S4096x2816 : Shape := ⟨2, ![4096, 2816]⟩
abbrev S3x5632 : Shape := ⟨2, ![3, 5632]⟩
abbrev S4096x5632 : Shape := ⟨2, ![4096, 5632]⟩
abbrev S512x1408 : Shape := ⟨2, ![512, 1408]⟩
abbrev S16x1408 : Shape := ⟨2, ![16, 1408]⟩
abbrev S3x1408 : Shape := ⟨2, ![3, 1408]⟩
abbrev S512x128 : Shape := ⟨2, ![512, 128]⟩
abbrev S16x128 : Shape := ⟨2, ![16, 128]⟩
abbrev S3x128 : Shape := ⟨2, ![3, 128]⟩
abbrev S1x128 : Shape := ⟨2, ![1, 128]⟩
abbrev S8x128 : Shape := ⟨2, ![8, 128]⟩
abbrev S504x128 : Shape := ⟨2, ![504, 128]⟩

abbrev nBuf : Space → Nat
  | .hbm => 6
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x5632, .f32⟩
  | .hbm, ⟨3, _⟩ => ⟨S4096x2816, .bf16⟩
  | .hbm, ⟨4, _⟩ => ⟨S4096x2816, .bf16⟩
  | .hbm, ⟨5, _⟩ => ⟨S4096x5632, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S16x1408, .bf16⟩
  | .local _ .vmem, ⟨5, _⟩ => ⟨S16x1408, .bf16⟩
  | .local _ .vmem, ⟨6, _⟩ => ⟨S16x1408, .bf16⟩
  | .local _ .vmem, ⟨7, _⟩ => ⟨S16x1408, .bf16⟩
  | .local _ .vmem, ⟨8, _⟩ => ⟨S3x1408, .f32⟩
  | .local _ .vmem, ⟨9, _⟩ => ⟨S3x1408, .f32⟩
  | .local _ .vmem, ⟨10, _⟩ => ⟨S512x1408, .bf16⟩
  | .local _ .vmem, ⟨11, _⟩ => ⟨S512x1408, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let v3 : BitVec 32 := Scalar.subi arg1 c0_i32
  let c0_i32_0 : BitVec 32 := 0#32
  let c1_i32_1 : BitVec 32 := 1#32
  let v4 : BitVec 32 := Scalar.maxsi c0_i32_0 v3
  let v5 : BitVec 32 := Scalar.minsi c1_i32_1 v4
  let c0_i32_2 : BitVec 32 := 0#32
  ![v2.toNat, v5.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c2_i32 : BitVec 32 := 2#32
  let v3 : BitVec 32 := Scalar.subi arg1 c2_i32
  let c0_i32 : BitVec 32 := 0#32
  let c1_i32_0 : BitVec 32 := 1#32
  let v4 : BitVec 32 := Scalar.maxsi c0_i32 v3
  let v5 : BitVec 32 := Scalar.minsi c1_i32_0 v4
  let c0_i32_1 : BitVec 32 := 0#32
  ![v2.toNat, v5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnConvBwdRefIdeal.lean ====
abbrev S4096x2816 : Shape := ⟨2, ![4096, 2816]⟩
abbrev S3x5632 : Shape := ⟨2, ![3, 5632]⟩
abbrev S4096x5632 : Shape := ⟨2, ![4096, 5632]⟩
abbrev S_ : Shape := ⟨0, ![]⟩
abbrev S2x5632 : Shape := ⟨2, ![2, 5632]⟩
abbrev S1x5632 : Shape := ⟨2, ![1, 5632]⟩
abbrev S5632 : Shape := ⟨1, ![5632]⟩
abbrev S4098x5632 : Shape := ⟨2, ![4098, 5632]⟩

abbrev nBuf : Space → Nat
  | .hbm => 32
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x5632, .f32⟩
  | .hbm, ⟨3, _⟩ => ⟨S4096x5632, .f32⟩
  | .hbm, ⟨4, _⟩ => ⟨S_, .f32⟩
  | .hbm, ⟨5, _⟩ => ⟨S2x5632, .f32⟩
  | .hbm, ⟨6, _⟩ => ⟨S1x5632, .f32⟩
  | .hbm, ⟨7, _⟩ => ⟨S5632, .f32⟩
  | .hbm, ⟨8, _⟩ => ⟨S1x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4098x5632, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4098x5632, .f32⟩
  | .hbm, ⟨23, _⟩ => ⟨S4098x5632, .f32⟩
  | .hbm, ⟨24, _⟩ => ⟨S4096x5632, .f32⟩
  | .hbm, ⟨25, _⟩ => ⟨S4096x5632, .f32⟩
  | .hbm, ⟨26, _⟩ => ⟨S_, .f32⟩
  | .hbm, ⟨27, _⟩ => ⟨S4098x5632, .f32⟩
  | .hbm, ⟨28, _⟩ => ⟨S4098x5632, .f32⟩
  | .hbm, ⟨29, _⟩ => ⟨S2x5632, .f32⟩
  | .hbm, ⟨30, _⟩ => ⟨S4096x5632, .f32⟩
  | .hbm, ⟨31, _⟩ => ⟨S4096x5632, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== DnConvBwd.lean ====
abbrev S4096x3072 : Shape := ⟨2, ![4096, 3072]⟩
abbrev S4x3072 : Shape := ⟨2, ![4, 3072]⟩
abbrev S512x1024 : Shape := ⟨2, ![512, 1024]⟩
abbrev S16x1024 : Shape := ⟨2, ![16, 1024]⟩
abbrev S4x1024 : Shape := ⟨2, ![4, 1024]⟩
abbrev S512x128 : Shape := ⟨2, ![512, 128]⟩
abbrev S16x128 : Shape := ⟨2, ![16, 128]⟩
abbrev S4x128 : Shape := ⟨2, ![4, 128]⟩
abbrev S1x128 : Shape := ⟨2, ![1, 128]⟩
abbrev S8x128 : Shape := ⟨2, ![8, 128]⟩
abbrev S504x128 : Shape := ⟨2, ![504, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x3072, .bf16⟩
  | .hbm, ⟨3, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x1024, .f32⟩
  | .local _ .vmem, ⟨5, _⟩ => ⟨S4x1024, .f32⟩
  | .local _ .vmem, ⟨6, _⟩ => ⟨S512x1024, .bf16⟩
  | .local _ .vmem, ⟨7, _⟩ => ⟨S512x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let v3 : BitVec 32 := Scalar.subi arg1 c0_i32
  let c0_i32_0 : BitVec 32 := 0#32
  let c2_i32 : BitVec 32 := 2#32
  let v4 : BitVec 32 := Scalar.maxsi c0_i32_0 v3
  let v5 : BitVec 32 := Scalar.minsi c2_i32 v4
  let c0_i32_1 : BitVec 32 := 0#32
  ![v2.toNat, v5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnConvBwdRefIdeal.lean ====
abbrev S4096x3072 : Shape := ⟨2, ![4096, 3072]⟩
abbrev S4x3072 : Shape := ⟨2, ![4, 3072]⟩
abbrev S_ : Shape := ⟨0, ![]⟩
abbrev S3x3072 : Shape := ⟨2, ![3, 3072]⟩
abbrev S1x3072 : Shape := ⟨2, ![1, 3072]⟩
abbrev S3072 : Shape := ⟨1, ![3072]⟩
abbrev S4099x3072 : Shape := ⟨2, ![4099, 3072]⟩

abbrev nBuf : Space → Nat
  | .hbm => 40
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S_, .f32⟩
  | .hbm, ⟨3, _⟩ => ⟨S3x3072, .f32⟩
  | .hbm, ⟨4, _⟩ => ⟨S1x3072, .f32⟩
  | .hbm, ⟨5, _⟩ => ⟨S3072, .f32⟩
  | .hbm, ⟨6, _⟩ => ⟨S1x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S1x3072, .f32⟩
  | .hbm, ⟨11, _⟩ => ⟨S3072, .f32⟩
  | .hbm, ⟨12, _⟩ => ⟨S1x3072, .f32⟩
  | .hbm, ⟨13, _⟩ => ⟨S1x3072, .f32⟩
  | .hbm, ⟨14, _⟩ => ⟨S3072, .f32⟩
  | .hbm, ⟨15, _⟩ => ⟨S1x3072, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S_, .f32⟩
  | .hbm, ⟨21, _⟩ => ⟨S4099x3072, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4099x3072, .f32⟩
  | .hbm, ⟨26, _⟩ => ⟨S4099x3072, .f32⟩
  | .hbm, ⟨27, _⟩ => ⟨S4096x3072, .f32⟩
  | .hbm, ⟨28, _⟩ => ⟨S4096x3072, .f32⟩
  | .hbm, ⟨29, _⟩ => ⟨S_, .f32⟩
  | .hbm, ⟨30, _⟩ => ⟨S4099x3072, .f32⟩
  | .hbm, ⟨31, _⟩ => ⟨S4099x3072, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4099x3072, .f32⟩
  | .hbm, ⟨36, _⟩ => ⟨S4099x3072, .f32⟩
  | .hbm, ⟨37, _⟩ => ⟨S3x3072, .f32⟩
  | .hbm, ⟨38, _⟩ => ⟨S4096x3072, .f32⟩
  | .hbm, ⟨39, _⟩ => ⟨S4096x3072, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== FfnAct.lean ====
abbrev S4096x5632 : Shape := ⟨2, ![4096, 5632]⟩
abbrev S3x5632 : Shape := ⟨2, ![3, 5632]⟩
abbrev S4096x2816 : Shape := ⟨2, ![4096, 2816]⟩
abbrev S512x1408 : Shape := ⟨2, ![512, 1408]⟩
abbrev S16x1408 : Shape := ⟨2, ![16, 1408]⟩
abbrev S3x1408 : Shape := ⟨2, ![3, 1408]⟩
abbrev S512x128 : Shape := ⟨2, ![512, 128]⟩
abbrev S16x128 : Shape := ⟨2, ![16, 128]⟩
abbrev S3x128 : Shape := ⟨2, ![3, 128]⟩
abbrev S8x128 : Shape := ⟨2, ![8, 128]⟩
abbrev S1x128 : Shape := ⟨2, ![1, 128]⟩
abbrev S504x128 : Shape := ⟨2, ![504, 128]⟩

abbrev nBuf : Space → Nat
  | .hbm => 4
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S4096x5632, .bf16⟩
  | .hbm, ⟨3, _⟩ => ⟨S4096x2816, .bf16⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S512x1408, .bf16⟩
  | .local _ .vmem, ⟨5, _⟩ => ⟨S512x1408, .bf16⟩
  | .local _ .vmem, ⟨6, _⟩ => ⟨S16x1408, .bf16⟩
  | .local _ .vmem, ⟨7, _⟩ => ⟨S16x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S512x1408, .bf16⟩
  | .local _ .vmem, ⟨13, _⟩ => ⟨S512x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg1 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg1 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnActRefIdeal.lean ====
abbrev S4096x5632 : Shape := ⟨2, ![4096, 5632]⟩
abbrev S3x5632 : Shape := ⟨2, ![3, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096x2816 : Shape := ⟨2, ![4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S_, .f32⟩
  | .hbm, ⟨3, _⟩ => ⟨S2x5632, .f32⟩
  | .hbm, ⟨4, _⟩ => ⟨S4098x5632, .f32⟩
  | .hbm, ⟨5, _⟩ => ⟨S1x5632, .f32⟩
  | .hbm, ⟨6, _⟩ => ⟨S5632, .f32⟩
  | .hbm, ⟨7, _⟩ => ⟨S4096x5632, .f32⟩
  | .hbm, ⟨8, _⟩ => ⟨S1x5632, .f32⟩
  | .hbm, ⟨9, _⟩ => ⟨S4096x5632, .f32⟩
  | .hbm, ⟨10, _⟩ => ⟨S4096x5632, .f32⟩
  | .hbm, ⟨11, _⟩ => ⟨S1x5632, .f32⟩
  | .hbm, ⟨12, _⟩ => ⟨S5632, .f32⟩
  | .hbm, ⟨13, _⟩ => ⟨S4096x5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S1x5632, .f32⟩
  | .hbm, ⟨19, _⟩ => ⟨S5632, .f32⟩
  | .hbm, ⟨20, _⟩ => ⟨S4096x5632, .f32⟩
  | .hbm, ⟨21, _⟩ => ⟨S1x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== FfnActBwd.lean ====
abbrev S4096x2816 : Shape := ⟨2, ![4096, 2816]⟩
abbrev S4096x5632 : Shape := ⟨2, ![4096, 5632]⟩
abbrev S3x5632 : Shape := ⟨2, ![3, 5632]⟩
abbrev S3x2816 : Shape := ⟨2, ![3, 2816]⟩
abbrev S512x1408 : Shape := ⟨2, ![512, 1408]⟩
abbrev S16x1408 : Shape := ⟨2, ![16, 1408]⟩
abbrev S3x1408 : Shape := ⟨2, ![3, 1408]⟩
abbrev S256x128 : Shape := ⟨2, ![256, 128]⟩
abbrev S3x128 : Shape := ⟨2, ![3, 128]⟩
abbrev S8x128 : Shape := ⟨2, ![8, 128]⟩
abbrev S16x128 : Shape := ⟨2, ![16, 128]⟩
abbrev S1x128 : Shape := ⟨2, ![1, 128]⟩
abbrev S248x128 : Shape := ⟨2, ![248, 128]⟩
abbrev S128 : Shape := ⟨1, ![128]⟩

abbrev nBuf : Space → Nat
  | .hbm => 9
  | .vmem => 22
  | .smem => 0
  | _ => 0

abbrev bufTy : (tb : Table) → Fin (tcTables nBuf tb) → BufTy
  | .hbm, ⟨0, _⟩ => ⟨S4096x2816, .f32⟩
  | .hbm, ⟨1, _⟩ => ⟨S4096x5632, .f32⟩
  | .hbm, ⟨2, _⟩ => ⟨S3x5632, .f32⟩
  | .hbm, ⟨3, _⟩ => ⟨S4096x2816, .bf16⟩
  | .hbm, ⟨4, _⟩ => ⟨S4096x5632, .bf16⟩
  | .hbm, ⟨5, _⟩ => ⟨S4096x2816, .bf16⟩
  | .hbm, ⟨6, _⟩ => ⟨S4096x2816, .bf16⟩
  | .hbm, ⟨7, _⟩ => ⟨S3x2816, .f32⟩
  | .hbm, ⟨8, _⟩ => ⟨S3x2816, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S16x1408, .bf16⟩
  | .local _ .vmem, ⟨5, _⟩ => ⟨S16x1408, .bf16⟩
  | .local _ .vmem, ⟨6, _⟩ => ⟨S512x1408, .bf16⟩
  | .local _ .vmem, ⟨7, _⟩ => ⟨S512x1408, .bf16⟩
  | .local _ .vmem, ⟨8, _⟩ => ⟨S16x1408, .bf16⟩
  | .local _ .vmem, ⟨9, _⟩ => ⟨S16x1408, .bf16⟩
  | .local _ .vmem, ⟨10, _⟩ => ⟨S3x1408, .f32⟩
  | .local _ .vmem, ⟨11, _⟩ => ⟨S3x1408, .f32⟩
  | .local _ .vmem, ⟨12, _⟩ => ⟨S3x1408, .f32⟩
  | .local _ .vmem, ⟨13, _⟩ => ⟨S3x1408, .f32⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S3x1408, .f32⟩
  | .local _ .vmem, ⟨19, _⟩ => ⟨S3x1408, .f32⟩
  | .local _ .vmem, ⟨20, _⟩ => ⟨S3x1408, .f32⟩
  | .local _ .vmem, ⟨21, _⟩ => ⟨S3x1408, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnActBwdRefIdeal.lean ====
abbrev S4096x2816 : Shape := ⟨2, ![4096, 2816]⟩
abbrev S4096x5632 : Shape := ⟨2, ![4096, 5632]⟩
abbrev S3x5632 : Shape := ⟨2, ![3, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S3x2816 : Shape := ⟨2, ![3, 2816]⟩

abbrev nBuf : Space → Nat
  | .hbm => 84
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x5632, .f32⟩
  | .hbm, ⟨2, _⟩ => ⟨S3x5632, .f32⟩
  | .hbm, ⟨3, _⟩ => ⟨S_, .f32⟩
  | .hbm, ⟨4, _⟩ => ⟨S2x5632, .f32⟩
  | .hbm, ⟨5, _⟩ => ⟨S4098x5632, .f32⟩
  | .hbm, ⟨6, _⟩ => ⟨S1x5632, .f32⟩
  | .hbm, ⟨7, _⟩ => ⟨S5632, .f32⟩
  | .hbm, ⟨8, _⟩ => ⟨S4096x5632, .f32⟩
  | .hbm, ⟨9, _⟩ => ⟨S1x5632, .f32⟩
  | .hbm, ⟨10, _⟩ => ⟨S4096x5632, .f32⟩
  | .hbm, ⟨11, _⟩ => ⟨S4096x5632, .f32⟩
  | .hbm, ⟨12, _⟩ => ⟨S1x5632, .f32⟩
  | .hbm, ⟨13, _⟩ => ⟨S5632, .f32⟩
  | .hbm, ⟨14, _⟩ => ⟨S4096x5632, .f32⟩
  | .hbm, ⟨15, _⟩ => ⟨S1x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S1x5632, .f32⟩
  | .hbm, ⟨20, _⟩ => ⟨S5632, .f32⟩
  | .hbm, ⟨21, _⟩ => ⟨S4096x5632, .f32⟩
  | .hbm, ⟨22, _⟩ => ⟨S1x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x5632, .f32⟩
  | .hbm, ⟨49, _⟩ => ⟨S4096x5632, .f32⟩
  | .hbm, ⟨50, _⟩ => ⟨S_, .f32⟩
  | .hbm, ⟨51, _⟩ => ⟨S5632, .f32⟩
  | .hbm, ⟨52, _⟩ => ⟨S1x5632, .f32⟩
  | .hbm, ⟨53, _⟩ => ⟨S_, .f32⟩
  | .hbm, ⟨54, _⟩ => ⟨S5632, .f32⟩
  | .hbm, ⟨55, _⟩ => ⟨S1x5632, .f32⟩
  | .hbm, ⟨56, _⟩ => ⟨S_, .f32⟩
  | .hbm, ⟨57, _⟩ => ⟨S3x5632, .f32⟩
  | .hbm, ⟨58, _⟩ => ⟨S4096x5632, .f32⟩
  | .hbm, ⟨59, _⟩ => ⟨S_, .f32⟩
  | .hbm, ⟨60, _⟩ => ⟨S5632, .f32⟩
  | .hbm, ⟨61, _⟩ => ⟨S1x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S3x5632, .f32⟩
  | .hbm, ⟨67, _⟩ => ⟨S3x5632, .f32⟩
  | .hbm, ⟨68, _⟩ => ⟨S4096x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S_, .f32⟩
  | .hbm, ⟨76, _⟩ => ⟨S3x5632, .f32⟩
  | .hbm, ⟨77, _⟩ => ⟨S3x5632, .f32⟩
  | .hbm, ⟨78, _⟩ => ⟨S4096x2816, .f32⟩
  | .hbm, ⟨79, _⟩ => ⟨S4096x2816, .f32⟩
  | .hbm, ⟨80, _⟩ => ⟨S3x2816, .f32⟩
  | .hbm, ⟨81, _⟩ => ⟨S3x2816, .f32⟩
  | .hbm, ⟨82, _⟩ => ⟨S4096x2816, .bf16⟩
  | .hbm, ⟨83, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v24_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v24_1 : Ref sig .tc := ⟨.hbm, 39, rfl⟩
abbrev main_v24_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_0 : Ref sig .tc := ⟨.hbm, 50, rfl⟩
abbrev main_v31 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== DnPre.lean ====
abbrev S4096x3072 : Shape := ⟨2, ![4096, 3072]⟩
abbrev S4x3072 : Shape := ⟨2, ![4, 3072]⟩
abbrev S512x1024 : Shape := ⟨2, ![512, 1024]⟩
abbrev S16x1024 : Shape := ⟨2, ![16, 1024]⟩
abbrev S4x1024 : Shape := ⟨2, ![4, 1024]⟩
abbrev S512x128 : Shape := ⟨2, ![512, 128]⟩
abbrev S16x128 : Shape := ⟨2, ![16, 128]⟩
abbrev S4x128 : Shape := ⟨2, ![4, 128]⟩
abbrev S8x128 : Shape := ⟨2, ![8, 128]⟩
abbrev S1x128 : Shape := ⟨2, ![1, 128]⟩
abbrev S504x128 : Shape := ⟨2, ![504, 128]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x3072, .bf16⟩
  | .hbm, ⟨3, _⟩ => ⟨S4096x3072, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x1024, .f32⟩
  | .local _ .vmem, ⟨5, _⟩ => ⟨S4x1024, .f32⟩
  | .local _ .vmem, ⟨6, _⟩ => ⟨S512x1024, .f32⟩
  | .local _ .vmem, ⟨7, _⟩ => ⟨S512x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnPreRefIdeal.lean ====
abbrev S4096x3072 : Shape := ⟨2, ![4096, 3072]⟩
abbrev S4x3072 : Shape := ⟨2, ![4, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩
abbrev S4096x1024 : Shape := ⟨2, ![4096, 1024]⟩
abbrev S4096x8x128 : Shape := ⟨3, ![4096, 8, 128]⟩
abbrev S4096x8 : Shape := ⟨2, ![4096, 8]⟩
abbrev S4096x8x1 : Shape := ⟨3, ![4096, 8, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S_, .f32⟩
  | .hbm, ⟨3, _⟩ => ⟨S3x3072, .f32⟩
  | .hbm, ⟨4, _⟩ => ⟨S4099x3072, .f32⟩
  | .hbm, ⟨5, _⟩ => ⟨S1x3072, .f32⟩
  | .hbm, ⟨6, _⟩ => ⟨S3072, .f32⟩
  | .hbm, ⟨7, _⟩ => ⟨S4096x3072, .f32⟩
  | .hbm, ⟨8, _⟩ => ⟨S1x3072, .f32⟩
  | .hbm, ⟨9, _⟩ => ⟨S4096x3072, .f32⟩
  | .hbm, ⟨10, _⟩ => ⟨S4096x3072, .f32⟩
  | .hbm, ⟨11, _⟩ => ⟨S1x3072, .f32⟩
  | .hbm, ⟨12, _⟩ => ⟨S3072, .f32⟩
  | .hbm, ⟨13, _⟩ => ⟨S4096x3072, .f32⟩
  | .hbm, ⟨14, _⟩ => ⟨S1x3072, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S1x3072, .f32⟩
  | .hbm, ⟨19, _⟩ => ⟨S3072, .f32⟩
  | .hbm, ⟨20, _⟩ => ⟨S4096x3072, .f32⟩
  | .hbm, ⟨21, _⟩ => ⟨S1x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S1x3072, .f32⟩
  | .hbm, ⟨26, _⟩ => ⟨S3072, .f32⟩
  | .hbm, ⟨27, _⟩ => ⟨S4096x3072, .f32⟩
  | .hbm, ⟨28, _⟩ => ⟨S1x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4096x3072, .f32⟩
  | .hbm, ⟨36, _⟩ => ⟨S4096x3072, .f32⟩
  | .hbm, ⟨37, _⟩ => ⟨S_, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x8x128, .f32⟩
  | .hbm, ⟨45, _⟩ => ⟨S4096x8x128, .f32⟩
  | .hbm, ⟨46, _⟩ => ⟨S_, .f32⟩
  | .hbm, ⟨47, _⟩ => ⟨S4096x8, .f32⟩
  | .hbm, ⟨48, _⟩ => ⟨S4096x8x1, .f32⟩
  | .hbm, ⟨49, _⟩ => ⟨S_, .f32⟩
  | .hbm, ⟨50, _⟩ => ⟨S4096x8x1, .f32⟩
  | .hbm, ⟨51, _⟩ => ⟨S4096x8x1, .f32⟩
  | .hbm, ⟨52, _⟩ => ⟨S4096x8x1, .f32⟩
  | .hbm, ⟨53, _⟩ => ⟨S4096x8x128, .f32⟩
  | .hbm, ⟨54, _⟩ => ⟨S4096x8x128, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x8x128, .f32⟩
  | .hbm, ⟨60, _⟩ => ⟨S4096x8x128, .f32⟩
  | .hbm, ⟨61, _⟩ => ⟨S_, .f32⟩
  | .hbm, ⟨62, _⟩ => ⟨S4096x8, .f32⟩
  | .hbm, ⟨63, _⟩ => ⟨S4096x8x1, .f32⟩
  | .hbm, ⟨64, _⟩ => ⟨S_, .f32⟩
  | .hbm, ⟨65, _⟩ => ⟨S4096x8x1, .f32⟩
  | .hbm, ⟨66, _⟩ => ⟨S4096x8x1, .f32⟩
  | .hbm, ⟨67, _⟩ => ⟨S4096x8x1, .f32⟩
  | .hbm, ⟨68, _⟩ => ⟨S4096x8x128, .f32⟩
  | .hbm, ⟨69, _⟩ => ⟨S4096x8x128, .f32⟩
  | .hbm, ⟨70, _⟩ => ⟨S4096x1024, .f32⟩
  | .hbm, ⟨71, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_0 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== DnPreBwd.lean ====
abbrev S4096x1024 : Shape := ⟨2, ![4096, 1024]⟩
abbrev S4096x3072 : Shape := ⟨2, ![4096, 3072]⟩
abbrev S4x3072 : Shape := ⟨2, ![4, 3072]⟩
abbrev S512x1024 : Shape := ⟨2, ![512, 1024]⟩
abbrev S16x1024 : Shape := ⟨2, ![16, 1024]⟩
abbrev S4x1024 : Shape := ⟨2, ![4, 1024]⟩
abbrev S256x128 : Shape := ⟨2, ![256, 128]⟩
abbrev S4x128 : Shape := ⟨2, ![4, 128]⟩
abbrev S8x128 : Shape := ⟨2, ![8, 128]⟩
abbrev S16x128 : Shape := ⟨2, ![16, 128]⟩
abbrev S1x128 : Shape := ⟨2, ![1, 128]⟩
abbrev S248x128 : Shape := ⟨2, ![248, 128]⟩
abbrev S256 : Shape := ⟨1, ![256]⟩
abbrev S256x1 : Shape := ⟨2, ![256, 1]⟩
abbrev S128 : Shape := ⟨1, ![128]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x3072, .f32⟩
  | .hbm, ⟨4, _⟩ => ⟨S4x3072, .f32⟩
  | .hbm, ⟨5, _⟩ => ⟨S4096x3072, .bf16⟩
  | .hbm, ⟨6, _⟩ => ⟨S4096x3072, .bf16⟩
  | .hbm, ⟨7, _⟩ => ⟨S4x3072, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S4x1024, .f32⟩
  | .local _ .vmem, ⟨11, _⟩ => ⟨S4x1024, .f32⟩
  | .local _ .vmem, ⟨12, _⟩ => ⟨S512x1024, .bf16⟩
  | .local _ .vmem, ⟨13, _⟩ => ⟨S512x1024, .bf16⟩
  | .local _ .vmem, ⟨14, _⟩ => ⟨S4x1024, .f32⟩
  | .local _ .vmem, ⟨15, _⟩ => ⟨S4x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DnPreBwdRefIdeal.lean ====
abbrev S4096x1024 : Shape := ⟨2, ![4096, 1024]⟩
abbrev S4096x3072 : Shape := ⟨2, ![4096, 3072]⟩
abbrev S4x3072 : Shape := ⟨2, ![4, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩
abbrev S4096x8x128 : Shape := ⟨3, ![4096, 8, 128]⟩
abbrev S4096x8 : Shape := ⟨2, ![4096, 8]⟩
abbrev S4096x8x1 : Shape := ⟨3, ![4096, 8, 1]⟩

abbrev nBuf : Space → Nat
  | .hbm => 166
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x3072, .f32⟩
  | 4 => ⟨S4x3072, .f32⟩
  | 5 => ⟨S_, .f32⟩
  | 6 => ⟨S3x3072, .f32⟩
  | 7 => ⟨S4099x3072, .f32⟩
  | 8 => ⟨S1x3072, .f32⟩
  | 9 => ⟨S3072, .f32⟩
  | 10 => ⟨S4096x3072, .f32⟩
  | 11 => ⟨S1x3072, .f32⟩
  | 12 => ⟨S4096x3072, .f32⟩
  | 13 => ⟨S4096x3072, .f32⟩
  | 14 => ⟨S1x3072, .f32⟩
  | 15 => ⟨S3072, .f32⟩
  | 16 => ⟨S4096x3072, .f32⟩
  | 17 => ⟨S1x3072, .f32⟩
  | 18 => ⟨S4096x3072, .f32⟩
  | 19 => ⟨S4096x3072, .f32⟩
  | 20 => ⟨S4096x3072, .f32⟩
  | 21 => ⟨S1x3072, .f32⟩
  | 22 => ⟨S3072, .f32⟩
  | 23 => ⟨S4096x3072, .f32⟩
  | 24 => ⟨S1x3072, .f32⟩
  | 25 => ⟨S4096x3072, .f32⟩
  | 26 => ⟨S4096x3072, .f32⟩
  | 27 => ⟨S4096x3072, .f32⟩
  | 28 => ⟨S1x3072, .f32⟩
  | 29 => ⟨S3072, .f32⟩
  | 30 => ⟨S4096x3072, .f32⟩
  | 31 => ⟨S1x3072, .f32⟩
  | 32 => ⟨S4096x3072, .f32⟩
  | 33 => ⟨S4096x3072, .f32⟩
  | 34 => ⟨S4096x3072, .f32⟩
  | 35 => ⟨S4096x3072, .f32⟩
  | 36 => ⟨S4096x3072, .f32⟩
  | 37 => ⟨S_, .f32⟩
  | 38 => ⟨S4096x3072, .f32⟩
  | 39 => ⟨S4096x3072, .f32⟩
  | 40 => ⟨S_, .f32⟩
  | 41 => ⟨S4096x3072, .f32⟩
  | 42 => ⟨S4096x3072, .f32⟩
  | 43 => ⟨S_, .f32⟩
  | 44 => ⟨S4096x3072, .f32⟩
  | 45 => ⟨S4096x3072, .f32⟩
  | 46 => ⟨S4096x3072, .f32⟩
  | 47 => ⟨S4096x3072, .f32⟩
  | 48 => ⟨S4096x1024, .f32⟩
  | 49 => ⟨S4096x1024, .f32⟩
  | 50 => ⟨S4096x1024, .f32⟩
  | 51 => ⟨S4096x8x128, .f32⟩
  | 52 => ⟨S4096x8x128, .f32⟩
  | 53 => ⟨S_, .f32⟩
  | 54 => ⟨S4096x8, .f32⟩
  | 55 => ⟨S4096x8x1, .f32⟩
  | 56 => ⟨S_, .f32⟩
  | 57 => ⟨S4096x8x1, .f32⟩
  | 58 => ⟨S4096x8x1, .f32⟩
  | 59 => ⟨S4096x8x1, .f32⟩
  | 60 => ⟨S4096x8x1, .f32⟩
  | 61 => ⟨S_, .f32⟩
  | 62 => ⟨S4096x8x1, .f32⟩
  | 63 => ⟨S4096x8x1, .f32⟩
  | 64 => ⟨S4096x8x128, .f32⟩
  | 65 => ⟨S4096x8x128, .f32⟩
  | 66 => ⟨S4096x1024, .f32⟩
  | 67 => ⟨S_, .f32⟩
  | 68 => ⟨S4096x1024, .f32⟩
  | 69 => ⟨S4096x1024, .f32⟩
  | 70 => ⟨S4096x8x128, .f32⟩
  | 71 => ⟨S4096x8x128, .f32⟩
  | 72 => ⟨S_, .f32⟩
  | 73 => ⟨S4096x8, .f32⟩
  | 74 => ⟨S4096x8x1, .f32⟩
  | 75 => ⟨S_, .f32⟩
  | 76 => ⟨S4096x8x1, .f32⟩
  | 77 => ⟨S4096x8x1, .f32⟩
  | 78 => ⟨S4096x8x1, .f32⟩
  | 79 => ⟨S4096x8x1, .f32⟩
  | 80 => ⟨S_, .f32⟩
  | 81 => ⟨S4096x8x1, .f32⟩
  | 82 => ⟨S4096x8x1, .f32⟩
  | 83 => ⟨S4096x8x128, .f32⟩
  | 84 => ⟨S4096x8x128, .f32⟩
  | 85 => ⟨S4096x1024, .f32⟩
  | 86 => ⟨S4096x8x128, .f32⟩
  | 87 => ⟨S4096x8x128, .f32⟩
  | 88 => ⟨S_, .f32⟩
  | 89 => ⟨S4096x8, .f32⟩
  | 90 => ⟨S4096x8x1, .f32⟩
  | 91 => ⟨S4096x8x128, .f32⟩
  | 92 => ⟨S4096x8x128, .f32⟩
  | 93 => ⟨S4096x8x1, .f32⟩
  | 94 => ⟨S_, .f32⟩
  | 95 => ⟨S4096x8, .f32⟩
  | 96 => ⟨S4096x8x128, .f32⟩
  | 97 => ⟨S4096x8x128, .f32⟩
  | 98 => ⟨S4096x8x128, .f32⟩
  | 99 => ⟨S4096x8x128, .f32⟩
  | 100 => ⟨S4096x8x128, .f32⟩
  | 101 => ⟨S4096x1024, .f32⟩
  | 102 => ⟨S_, .f32⟩
  | 103 => ⟨S4096x1024, .f32⟩
  | 104 => ⟨S4096x1024, .f32⟩
  | 105 => ⟨S4096x8x128, .f32⟩
  | 106 => ⟨S4096x8x128, .f32⟩
  | 107 => ⟨S_, .f32⟩
  | 108 => ⟨S4096x8, .f32⟩
  | 109 => ⟨S4096x8x1, .f32⟩
  | 110 => ⟨S4096x8x128, .f32⟩
  | 111 => ⟨S4096x8x128, .f32⟩
  | 112 => ⟨S4096x8x1, .f32⟩
  | 113 => ⟨S_, .f32⟩
  | 114 => ⟨S4096x8, .f32⟩
  | 115 => ⟨S4096x8x128, .f32⟩
  | 116 => ⟨S4096x8x128, .f32⟩
  | 117 => ⟨S4096x8x128, .f32⟩
  | 118 => ⟨S4096x8x128, .f32⟩
  | 119 => ⟨S4096x8x128, .f32⟩
  | 120 => ⟨S4096x1024, .f32⟩
  | 121 => ⟨S4096x3072, .f32⟩
  | 122 => ⟨S4096x3072, .f32⟩
  | 123 => ⟨S4096x3072, .f32⟩
  | 124 => ⟨S4096x3072, .f32⟩
  | 125 => ⟨S4096x3072, .f32⟩
  | 126 => ⟨S4096x3072, .bf16⟩
  | 127 => ⟨S4096x3072, .f32⟩
  | _ => ⟨S4096x1024, .f32⟩

abbrev hbmTy0_1 (i : Nat) : BufTy := match i % 128 with
  | 0 => ⟨S_, .f32⟩
  | 1 => ⟨S3072, .f32⟩
  | 2 => ⟨S1x3072, .f32⟩
  | 3 => ⟨S_, .f32⟩
  | 4 => ⟨S3072, .f32⟩
  | 5 => ⟨S1x3072, .f32⟩
  | 6 => ⟨S_, .f32⟩
  | 7 => ⟨S4x3072, .f32⟩
  | 8 => ⟨S4096x3072, .f32⟩
  | 9 => ⟨S_, .f32⟩
  | 10 => ⟨S3072, .f32⟩
  | 11 => ⟨S1x3072, .f32⟩
  | 12 => ⟨S_, .f32⟩
  | 13 => ⟨S3072, .f32⟩
  | 14 => ⟨S1x3072, .f32⟩
  | 15 => ⟨S_, .f32⟩
  | 16 => ⟨S4x3072, .f32⟩
  | 17 => ⟨S4x3072, .f32⟩
  | 18 => ⟨S4096x3072, .f32⟩
  | 19 => ⟨S_, .f32⟩
  | 20 => ⟨S3072, .f32⟩
  | 21 => ⟨S1x3072, .f32⟩
  | 22 => ⟨S_, .f32⟩
  | 23 => ⟨S3072, .f32⟩
  | 24 => ⟨S1x3072, .f32⟩
  | 25 => ⟨S_, .f32⟩
  | 26 => ⟨S4x3072, .f32⟩
  | 27 => ⟨S4x3072, .f32⟩
  | 28 => ⟨S4096x3072, .f32⟩
  | 29 => ⟨S_, .f32⟩
  | 30 => ⟨S3072, .f32⟩
  | 31 => ⟨S1x3072, .f32⟩
  | 32 => ⟨S_, .f32⟩
  | 33 => ⟨S3072, .f32⟩
  | 34 => ⟨S1x3072, .f32⟩
  | 35 => ⟨S_, .f32⟩
  | 36 => ⟨S4x3072, .f32⟩
  | 37 => ⟨S4x3072, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v29_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v29_1 : Ref sig .tc := ⟨.hbm, 46, rfl⟩
abbrev main_v29_0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_0 : Ref sig .tc := ⟨.hbm, 53, rfl⟩
abbrev main_v35 : Ref sig .tc := ⟨.hbm, 54, rfl⟩
abbrev main_v36 : Ref sig .tc := ⟨.hbm, 55, rfl⟩
abbrev main_cst_1 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_cst_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_7 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_8 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_9 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_10 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_11 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_12 : Ref sig .tc := ⟨.hbm, 128, rfl⟩
abbrev main_v95 : Ref sig .tc := ⟨.hbm, 129, rfl⟩
abbrev main_v96 : Ref sig .tc := ⟨.hbm, 130, rfl⟩
abbrev main_cst_13 : Ref sig .tc := ⟨.hbm, 131, rfl⟩
abbrev main_v97 : Ref sig .tc := ⟨.hbm, 132, rfl⟩
abbrev main_v98 : Ref sig .tc := ⟨.hbm, 133, rfl⟩
abbrev main_cst_14 : Ref sig .tc := ⟨.hbm, 134, rfl⟩
abbrev main_v99 : Ref sig .tc := ⟨.hbm, 135, rfl⟩
abbrev main_v100 : Ref sig .tc := ⟨.hbm, 136, rfl⟩
abbrev main_cst_15 : Ref sig .tc := ⟨.hbm, 137, rfl⟩
abbrev main_v101 : Ref sig .tc := ⟨.hbm, 138, rfl⟩
abbrev main_v102 : Ref sig .tc := ⟨.hbm, 139, rfl⟩
abbrev main_cst_16 : Ref sig .tc := ⟨.hbm, 140, rfl⟩
abbrev main_v103 : Ref sig .tc := ⟨.hbm, 141, rfl⟩
abbrev main_v104 : Ref sig .tc := ⟨.hbm, 142, rfl⟩
abbrev main_cst_17 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_18 : Ref sig .tc := ⟨.hbm, 147, rfl⟩
abbrev main_v108 : Ref sig .tc := ⟨.hbm, 148, rfl⟩
abbrev main_v109 : Ref sig .tc := ⟨.hbm, 149, rfl⟩
abbrev main_cst_19 : Ref sig .tc := ⟨.hbm, 150, rfl⟩
abbrev main_v110 : Ref sig .tc := ⟨.hbm, 151, rfl⟩
abbrev main_v111 : Ref sig .tc := ⟨.hbm, 152, rfl⟩
abbrev main_cst_20 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_21 : Ref sig .tc := ⟨.hbm, 157, rfl⟩
abbrev main_v115 : Ref sig .tc := ⟨.hbm, 158, rfl⟩
abbrev main_v116 : Ref sig .tc := ⟨.hbm, 159, rfl⟩
abbrev main_cst_22 : Ref sig .tc := ⟨.hbm, 160, rfl⟩
abbrev main_v117 : Ref sig .tc := ⟨.hbm, 161, rfl⟩
abbrev main_v118 : Ref sig .tc := ⟨.hbm, 162, rfl⟩
abbrev main_cst_23 : Ref sig .tc := ⟨.hbm, 163, rfl⟩
abbrev main_v119 : Ref sig .tc := ⟨.hbm, 164, rfl⟩
abbrev main_v120 : Ref sig .tc := ⟨.hbm, 165, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.Blocked.lean ====
/- Sums over an axis taken block by block, and matrices read at natural numbers. -/
module

public import Idealize.ShloMosaic.Lib.Pipeline.ValueKit.Point
public import Idealize.ShloMosaic.Lib.Claim

@[expose] public section

noncomputable section

namespace Blocked

open Idealize.ShloMosaic

/-- The matrix at row `i` and column `j`, zero outside. -/
def at2 {M N : ℕ} (A : (⟨2, ![M, N]⟩ : Shape).Idx → EReal) (i j : ℕ) : EReal :=
  if h : i < M ∧ j < N then A (ix2 ⟨i, h.1⟩ ⟨j, h.2⟩) else 0

theorem at2_lt {M N : ℕ} (A : (⟨2, ![M, N]⟩ : Shape).Idx → EReal) {i j : ℕ} (hi : i < M) (hj : j < N) :
    at2 A i j = A (ix2 ⟨i, hi⟩ ⟨j, hj⟩) := dif_pos ⟨hi, hj⟩

theorem at2_fin {M N : ℕ} (A : (⟨2, ![M, N]⟩ : Shape).Idx → EReal) (i : Fin M) (j : Fin N) :
    at2 A i.val j.val = A (ix2 i j) := dif_pos ⟨i.isLt, j.isLt⟩

/-- The sum of the first `n` terms. -/
def psum (f : ℕ → EReal) (n : ℕ) : EReal := ∑ k ∈ Finset.range n, f k

theorem psum_fin (f : ℕ → EReal) (n : ℕ) : psum f n = ∑ k : Fin n, f k.val := Finset.sum_range f

/-- The first block after nothing. -/
theorem psum_first (f : ℕ → EReal) (n : ℕ) : 0 + ∑ q : Fin n, f (0 + q.val) = psum f n := by
  rw [psum_fin, zero_add]
  exact Finset.sum_congr rfl fun q _ => by rw [Nat.zero_add]

/-- One more block of `n` terms. -/
theorem psum_next (f : ℕ → EReal) (n l : ℕ) : psum f (n * l) + ∑ q : Fin n, f (n * l + q.val) = psum f (n * (l + 1)) := by
  unfold psum
  rw [Nat.mul_succ, Finset.sum_range_add, Finset.sum_range (fun k => f (n * l + k))]

/-- An accumulator that is reset at the first of every `nk` points, and to which each point adds its block of `n`
    terms, holds the sum of its run's first blocks. -/
theorem acc_run {N : ℕ} (nk n : ℕ) (S : (t : ℕ) → t < N → EReal) (f : ℕ → ℕ → EReal)
    (hA : ∀ t h, t % nk = 0 → S t h = 0 + ∑ q : Fin n, f (t / nk) (n * (t % nk) + q.val))
    (hB : ∀ t h, ¬ t % nk = 0 → S t h = S (t - 1) (Nat.lt_of_le_of_lt (Nat.sub_le _ _) h) + ∑ q : Fin n, f (t / nk) (n * (t % nk) + q.val)) :
    ∀ t h, S t h = psum (f (t / nk)) (n * (t % nk + 1)) := by
  intro t
  induction t with
  | zero =>
    intro h
    rw [hA 0 h (Nat.zero_mod _), Nat.zero_mod, ← psum_next, Nat.mul_zero]
    rfl
  | succ t ih =>
    intro h
    by_cases h0 : (t + 1) % nk = 0
    · rw [hA _ h h0, h0, ← psum_next, Nat.mul_zero]
      rfl
    · have hd : (t + 1) / nk = t / nk := Nat.succ_div_of_not_dvd fun hd => h0 (Nat.mod_eq_zero_of_dvd hd)
      have hm : (t + 1) % nk = t % nk + 1 := by
        have e1 := Nat.div_add_mod (t + 1) nk
        have e2 := Nat.div_add_mod t nk
        rw [hd] at e1
        omega
      rw [hB _ h h0, hd, hm]
      exact (congrArg (fun z : EReal => z + _) (ih (Nat.lt_of_succ_lt h))).trans (psum_next _ _ _)

end Blocked

end
-- ==== Proof.DownDxValue.lean ====
/- The gradient of the down projection's input is one product. -/
module

public import proofs.«01_k».proof.Proof.Gen.DownDxIdeal.Value
public import proofs.«01_k».proof.Proof.Blocked

@[expose] public section

set_option maxRecDepth 16384

noncomputable section

namespace Cert.DownDxIdeal.Product

open Cert.DownDxIdeal Cert.DownDxIdeal.Gen Idealize.ShloMosaic Idealize.ShloMosaic.TcCoe Idealize.SL.Sem Blocked

section
variable (c : Dev nD) (i : grid0.Coords) (a3 : Memref sig .tc .vmem S1024x1024 .f32) (h3 : a3.IsWhole) (a4 : Memref sig .tc .vmem S1408x1024 .bf16) (h4 : a4.IsWhole)
  (a5 : Memref sig .tc .vmem S1024x1408 .bf16) (h5 : a5.IsWhole) (a6 : Memref sig .tc .vmem S1024x1408 .f32) (h6 : a6.IsWhole)
  (x0 : Vec Ideal S1024x1024 .f32) (x1 : Vec Ideal S1408x1024 .bf16) (s : Vec Ideal S1024x1408 .f32)

/-- Each point resets the accumulator, adds its product and stores it. -/
theorem out_A (h : cond0_0 i) (h' : cond0_1 i) : out0_A_2 c i a3 h3 a4 h4 a5 h5 a6 h6 h h' x0 x1 = k0_pay3 (k0_pay2 k0_pay1 x0 x1) := by
  frame_out

theorem pay_apply (a : Fin 1024) (b : Fin 1408) : k0_pay2 s x0 x1 (ix2 a b) = s (ix2 a b) + ∑ q : Fin 1024, x0 (ix2 a q) * x1 (ix2 b q) := by
  pointwise [k0_pay2]

theorem zero_apply (a : Fin 1024) (b : Fin 1408) : (k0_pay1 (F := Ideal)) (ix2 a b) = (0 : EReal) := by
  pointwise [k0_pay1]

theorem cast_apply (a : Fin 1024) (b : Fin 1408) : k0_pay3 s (ix2 a b) = s (ix2 a b) := by
  pointwise [k0_pay3]
end

variable (m : (ℓ : Loc nD τ sig) → Buf (Elt Ideal) ℓ)

theorem idx0 : ∀ t : Fin cfg0.N, win0_0.index t = ![t.val / 2, 0] := by decide +kernel
theorem idx1 : ∀ t : Fin cfg0.N, win0_1.index t = ![t.val % 2, 0] := by decide +kernel
theorem idx2 : ∀ t : Fin cfg0.N, win0_2.index t = ![t.val / 2, t.val % 2] := by decide +kernel

theorem emb1 (t : Fin cfg0.N) (b : Fin 1408) (q : Fin 1024) (h1 : 1408 * (t.val % 2) + b.val < 2816) :
    (win0_1.blk t).view.emb (ix2 b q) = ix2 ⟨1408 * (t.val % 2) + b.val, h1⟩ q := by
  blk_ext [idx1 t]

theorem blk0 (c : Dev nD) (t : Fin cfg0.N) (a q : Fin 1024) :
    iblk m c 0 t (ix2 a q) = at2 (m ((c.tc : Thread nD τ).loc main_arg0)) (1024 * (t.val / 2) + a.val) q.val := by
  have hN : t.val < 8 := lt_of_lt_of_eq t.isLt N_0
  rw [at2_lt _ (by omega) q.isLt]
  blk_simp [iblk]
  entry_read
  blk_ext [idx0 t]

theorem blk1 (c : Dev nD) (t : Fin cfg0.N) (b : Fin 1408) (q : Fin 1024) :
    iblk m c 1 t (ix2 b q) = at2 (m ((c.tc : Thread nD τ).loc main_arg1)) (1408 * (t.val % 2) + b.val) q.val := by
  have hN : t.val < 8 := lt_of_lt_of_eq t.isLt N_0
  rw [at2_lt _ (by omega) (by omega)]
  blk_simp [iblk]
  entry_read
  rw [emb1 _ _ _ (by omega)]
  pointwise

/-- The product of the arguments. -/
def result (A : (⟨2, ![4096, 1024]⟩ : Shape).Idx → EReal) (B : (⟨2, ![2816, 1024]⟩ : Shape).Idx → EReal) : Vec Ideal S4096x2816 .bf16 := fun y =>
  ∑ k : Fin 1024, A (ix2 (y 0 : Fin 4096) k) * B (ix2 (y 1 : Fin 2816) k)

theorem emb2 (t : Fin cfg0.N) (a : Fin 1024) (b : Fin 1408) (h0 : 1024 * (t.val / 2) + a.val < 4096) (h1 : 1408 * (t.val % 2) + b.val < 2816) :
    (win0_2.blk t).view.emb (ix2 a b) = ix2 ⟨1024 * (t.val / 2) + a.val, h0⟩ ⟨1408 * (t.val % 2) + b.val, h1⟩ := by
  blk_ext [idx2 t]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1024) (b : Fin 1408), y = ix2 a b := ⟨y 0, y 1, eq_ix2 y⟩
  have hN : t.val < 8 := lt_of_lt_of_eq t.isLt N_0
  blk_simp
  rw [after0_2, outsAt0, out_A, emb2 _ _ _ (by omega) (by omega)]
  refine (cast_apply _ a b).trans ((pay_apply _ _ _ a b).trans ?_)
  rw [zero_apply, zero_add]
  exact Finset.sum_congr rfl fun k _ => congrArg₂ (fun x y : EReal => x * y) ((blk0 m c t a k).trans (at2_lt _ _ _)) ((blk1 m c t b k).trans (at2_lt _ _ _))

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.DownDxIdeal.Product

end
-- ==== Proof.DownDwValue.lean ====
/- The gradient of the down projection's weights is one product. -/
module

public import proofs.«01_k».proof.Proof.Gen.DownDwIdeal.Value
public import proofs.«01_k».proof.Proof.Blocked

@[expose] public section

set_option maxRecDepth 16384

noncomputable section

namespace Cert.DownDwIdeal.Product

open Cert.DownDwIdeal Cert.DownDwIdeal.Gen Idealize.ShloMosaic Idealize.ShloMosaic.TcCoe Idealize.SL.Sem Blocked

section
variable (c : Dev nD) (i : grid0.Coords) (a3 : Memref sig .tc .vmem S1024x1408 .bf16) (h3 : a3.IsWhole) (a4 : Memref sig .tc .vmem S1024x1024 .f32) (h4 : a4.IsWhole)
  (a5 : Memref sig .tc .vmem S1408x1024 .bf16) (h5 : a5.IsWhole) (a6 : Memref sig .tc .vmem S1408x1024 .f32) (h6 : a6.IsWhole)
  (x0 : Vec Ideal S1024x1408 .bf16) (x1 : Vec Ideal S1024x1024 .f32) (s : Vec Ideal S1408x1024 .f32)

/-- The first point of a run leaves the first block's product. -/
theorem sout_A (h : cond0_0 i) (h' : ¬cond0_1 i) : sout0_A_0 c i a3 h3 a4 h4 a5 h5 a6 h6 h h' x0 x1 = k0_pay2 k0_pay1 x0 x1 := by
  frame_out

/-- A later point adds its block's product. -/
theorem sout_B (h : ¬cond0_0 i) (h' : ¬cond0_1 i) : sout0_B_0 c i a3 h3 a4 h4 a5 h5 a6 h6 h h' x0 x1 s = k0_pay2 s x0 x1 := by
  frame_out

theorem sout_C (h : ¬cond0_0 i) (h' : cond0_1 i) : sout0_C_0 c i a3 h3 a4 h4 a5 h5 a6 h6 h h' x0 x1 s = k0_pay2 s x0 x1 := by
  frame_out

/-- The last point of a run stores what it accumulated. -/
theorem out_C (h : ¬cond0_0 i) (h' : cond0_1 i) : out0_C_2 c i a3 h3 a4 h4 a5 h5 a6 h6 h h' x0 x1 s = k0_pay3 (k0_pay2 s x0 x1) := by
  frame_out

theorem pay_apply (a : Fin 1408) (b : Fin 1024) : k0_pay2 s x0 x1 (ix2 a b) = s (ix2 a b) + ∑ q : Fin 1024, x0 (ix2 q a) * x1 (ix2 q b) := by
  pointwise [k0_pay2]

theorem zero_apply (a : Fin 1408) (b : Fin 1024) : (k0_pay1 (F := Ideal)) (ix2 a b) = (0 : EReal) := by
  pointwise [k0_pay1]

theorem cast_apply (a : Fin 1408) (b : Fin 1024) : k0_pay3 s (ix2 a b) = s (ix2 a b) := by
  pointwise [k0_pay3]
end

variable (m : (ℓ : Loc nD τ sig) → Buf (Elt Ideal) ℓ)

theorem idx0 : ∀ t : Fin cfg0.N, win0_0.index t = ![t.val % 4, t.val / 4] := by decide +kernel
theorem idx1 : ∀ t : Fin cfg0.N, win0_1.index t = ![t.val % 4, 0] := by decide +kernel
theorem idx2 : ∀ t : Fin cfg0.N, win0_2.index t = ![t.val / 4, 0] := by decide +kernel

/-- The factors of element `(r, s)`'s terms. -/
def term (c : Dev nD) (r s k : ℕ) : EReal :=
  at2 (m ((c.tc : Thread nD τ).loc main_arg0)) k r * at2 (m ((c.tc : Thread nD τ).loc main_arg1)) k s

theorem emb0 (t : Fin cfg0.N) (q : Fin 1024) (a : Fin 1408) (h0 : 1024 * (t.val % 4) + q.val < 4096) (h1 : 1408 * (t.val / 4) + a.val < 2816) :
    (win0_0.blk t).view.emb (ix2 q a) = ix2 ⟨1024 * (t.val % 4) + q.val, h0⟩ ⟨1408 * (t.val / 4) + a.val, h1⟩ := by
  blk_ext [idx0 t]

theorem blk0 (c : Dev nD) (t : Fin cfg0.N) (q : Fin 1024) (a : Fin 1408) :
    iblk m c 0 t (ix2 q a) = at2 (m ((c.tc : Thread nD τ).loc main_arg0)) (1024 * (t.val % 4) + q.val) (1408 * (t.val / 4) + a.val) := by
  have hN : t.val < 8 := lt_of_lt_of_eq t.isLt N_0
  rw [at2_lt _ (by omega) (by omega)]
  blk_simp [iblk]
  entry_read
  rw [emb0]
  · pointwise
  all_goals omega

theorem blk1 (c : Dev nD) (t : Fin cfg0.N) (q : Fin 1024) (b : Fin 1024) :
    iblk m c 1 t (ix2 q b) = at2 (m ((c.tc : Thread nD τ).loc main_arg1)) (1024 * (t.val % 4) + q.val) b.val := by
  have hN : t.val < 8 := lt_of_lt_of_eq t.isLt N_0
  rw [at2_lt _ (by omega) (by omega)]
  blk_simp [iblk]
  entry_read
  blk_ext [idx1 t]

theorem block (c : Dev nD) (t : Fin cfg0.N) (s : Vec Ideal S1408x1024 .f32) (a : Fin 1408) (b : Fin 1024) :
    k0_pay2 s (iblk m c 0 t) (iblk m c 1 t) (ix2 a b)
      = s (ix2 a b) + ∑ q : Fin 1024, term m c (1408 * (t.val / 4) + a.val) b.val (1024 * (t.val % 4) + q.val) := by
  refine (pay_apply _ _ s a b).trans (congrArg (fun z : EReal => s (ix2 a b) + z) (Finset.sum_congr rfl fun q _ => ?_))
  exact congrArg₂ (fun x y : EReal => x * y) (blk0 m c t q a) (blk1 m c t q b)

/-- What the accumulator holds after point `t`. -/
theorem acc (c : Dev nD) (a : Fin 1408) (b : Fin 1024) (t : ℕ) (h : t < cfg0.N) :
    (outsAt0 m c t h).2 (ix2 a b) = psum (term m c (1408 * (t / 4) + a.val) b.val) (1024 * (t % 4 + 1)) := by
  refine acc_run 4 1024 (fun t h => (outsAt0 m c t h).2 (ix2 a b)) (fun g => term m c (1408 * g + a.val) b.val) (fun t h h0 => ?_) (fun t h h0 => ?_) t h
  · rw [outsAt0_A m c ⟨t, h⟩ h0 (by dsimp only; omega)]
    dsimp only
    rw [sout_A, block, zero_apply]
  · by_cases h1 : t % 4 = 3
    · rw [outsAt0_C m c ⟨t, h⟩ h0 h1]
      dsimp only
      rw [sout_C, block]
    · rw [outsAt0_B m c ⟨t, h⟩ h0 h1]
      dsimp only
      rw [sout_B, block]

/-- The product of the arguments over their first axes. -/
def result (A : (⟨2, ![4096, 2816]⟩ : Shape).Idx → EReal) (B : (⟨2, ![4096, 1024]⟩ : Shape).Idx → EReal) : Vec Ideal S2816x1024 .bf16 := fun y =>
  ∑ k : Fin 4096, A (ix2 k (y 0 : Fin 2816)) * B (ix2 k (y 1 : Fin 1024))

theorem emb2 (t : Fin cfg0.N) (a : Fin 1408) (b : Fin 1024) (h0 : 1408 * (t.val / 4) + a.val < 2816) :
    (win0_2.blk t).view.emb (ix2 a b) = ix2 ⟨1408 * (t.val / 4) + a.val, h0⟩ b := by
  blk_ext [idx2 t]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1408) (b : Fin 1024), y = ix2 a b := ⟨y 0, y 1, eq_ix2 y⟩
  have hN : t.val < 8 := lt_of_lt_of_eq t.isLt N_0
  have h1 : t.val % 4 = 3 := (flush0_2 t).mp hf
  have h0 : ¬ t.val % 4 = 0 := by omega
  have hs := acc m c a b t.val t.isLt
  rw [outsAt0_C m c t h0 h1] at hs
  dsimp only at hs
  rw [sout_C] at hs
  blk_simp
  rw [after0_2, outsAt0_C m c t h0 h1]
  dsimp only
  rw [out_C, cast_apply, emb2 _ _ _ (by omega)]
  refine hs.trans ?_
  rw [h1, psum_fin]
  exact Finset.sum_congr rfl fun k _ => by
    unfold term
    rw [at2_lt _ k.isLt (by omega), at2_fin]
    rfl

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.DownDwIdeal.Product

end
-- ==== Proof.UpDxValue.lean ====
/- The gradient of the up projection's input is one product. -/
module

public import proofs.«01_k».proof.Proof.Gen.UpDxIdeal.Value
public import proofs.«01_k».proof.Proof.Blocked

@[expose] public section

set_option maxRecDepth 16384

noncomputable section

namespace Cert.UpDxIdeal.Product

open Cert.UpDxIdeal Cert.UpDxIdeal.Gen Idealize.ShloMosaic Idealize.ShloMosaic.TcCoe Idealize.SL.Sem Blocked

section
variable (c : Dev nD) (i : grid0.Coords) (a3 : Memref sig .tc .vmem S1024x1408 .bf16) (h3 : a3.IsWhole) (a4 : Memref sig .tc .vmem S1408x1024 .bf16) (h4 : a4.IsWhole)
  (a5 : Memref sig .tc .vmem S1024x1024 .f32) (h5 : a5.IsWhole) (a6 : Memref sig .tc .vmem S1024x1024 .f32) (h6 : a6.IsWhole)
  (x0 : Vec Ideal S1024x1408 .bf16) (x1 : Vec Ideal S1408x1024 .bf16) (s : Vec Ideal S1024x1024 .f32)

/-- The first point of a run leaves the first block's product. -/
theorem sout_A (h : cond0_0 i) (h' : ¬cond0_1 i) : sout0_A_0 c i a3 h3 a4 h4 a5 h5 a6 h6 h h' x0 x1 = k0_pay2 k0_pay1 x0 x1 := by
  frame_out

/-- A later point adds its block's product. -/
theorem sout_B (h : ¬cond0_0 i) (h' : ¬cond0_1 i) : sout0_B_0 c i a3 h3 a4 h4 a5 h5 a6 h6 h h' x0 x1 s = k0_pay2 s x0 x1 := by
  frame_out

theorem sout_C (h : ¬cond0_0 i) (h' : cond0_1 i) : sout0_C_0 c i a3 h3 a4 h4 a5 h5 a6 h6 h h' x0 x1 s = k0_pay2 s x0 x1 := by
  frame_out

/-- The last point of a run stores what it accumulated. -/
theorem out_C (h : ¬cond0_0 i) (h' : cond0_1 i) : out0_C_2 c i a3 h3 a4 h4 a5 h5 a6 h6 h h' x0 x1 s = k0_pay2 s x0 x1 := by
  frame_out

theorem pay_apply (a b : Fin 1024) : k0_pay2 s x0 x1 (ix2 a b) = s (ix2 a b) + ∑ q : Fin 1408, x0 (ix2 a q) * x1 (ix2 q b) := by
  pointwise [k0_pay2]

theorem zero_apply (a b : Fin 1024) : (k0_pay1 (F := Ideal)) (ix2 a b) = (0 : EReal) := by
  pointwise [k0_pay1]
end

variable (m : (ℓ : Loc nD τ sig) → Buf (Elt Ideal) ℓ)

theorem idx0 : ∀ t : Fin cfg0.N, win0_0.index t = ![t.val / 4, t.val % 4] := by decide +kernel
theorem idx1 : ∀ t : Fin cfg0.N, win0_1.index t = ![t.val % 4, 0] := by decide +kernel
theorem idx2 : ∀ t : Fin cfg0.N, win0_2.index t = ![t.val / 4, 0] := by decide +kernel

/-- The factors of element `(r, s)`'s terms. -/
def term (c : Dev nD) (r s k : ℕ) : EReal :=
  at2 (m ((c.tc : Thread nD τ).loc main_arg0)) r k * at2 (m ((c.tc : Thread nD τ).loc main_arg1)) s k

theorem emb0 (t : Fin cfg0.N) (a : Fin 1024) (q : Fin 1408) (h0 : 1024 * (t.val / 4) + a.val < 4096) (h1 : 1408 * (t.val % 4) + q.val < 5632) :
    (win0_0.blk t).view.emb (ix2 a q) = ix2 ⟨1024 * (t.val / 4) + a.val, h0⟩ ⟨1408 * (t.val % 4) + q.val, h1⟩ := by
  blk_ext [idx0 t]

theorem emb1 (t : Fin cfg0.N) (q : Fin 1408) (b : Fin 1024) (h1 : 1408 * (t.val % 4) + q.val < 5632) :
    (win0_1.blk t).view.emb (ix2 q b) = ix2 ⟨1408 * (t.val % 4) + q.val, h1⟩ b := by
  blk_ext [idx1 t]

theorem blk0 (c : Dev nD) (t : Fin cfg0.N) (a : Fin 1024) (q : Fin 1408) :
    iblk m c 0 t (ix2 a q) = at2 (m ((c.tc : Thread nD τ).loc main_arg0)) (1024 * (t.val / 4) + a.val) (1408 * (t.val % 4) + q.val) := by
  have hN : t.val < 16 := lt_of_lt_of_eq t.isLt N_0
  rw [at2_lt _ (by omega) (by omega)]
  blk_simp [iblk]
  entry_read
  rw [emb0]
  · pointwise
  all_goals omega

theorem blk1 (c : Dev nD) (t : Fin cfg0.N) (q : Fin 1408) (b : Fin 1024) :
    iblk m c 1 t (ix2 q b) = at2 (m ((c.tc : Thread nD τ).loc main_arg1)) b.val (1408 * (t.val % 4) + q.val) := by
  have hN : t.val < 16 := lt_of_lt_of_eq t.isLt N_0
  rw [at2_lt _ (by omega) (by omega)]
  blk_simp [iblk]
  entry_read
  rw [emb1]
  · pointwise
  all_goals omega

theorem block (c : Dev nD) (t : Fin cfg0.N) (s : Vec Ideal S1024x1024 .f32) (a b : Fin 1024) :
    k0_pay2 s (iblk m c 0 t) (iblk m c 1 t) (ix2 a b)
      = s (ix2 a b) + ∑ q : Fin 1408, term m c (1024 * (t.val / 4) + a.val) b.val (1408 * (t.val % 4) + q.val) := by
  refine (pay_apply _ _ s a b).trans (congrArg (fun z : EReal => s (ix2 a b) + z) (Finset.sum_congr rfl fun q _ => ?_))
  exact congrArg₂ (fun x y : EReal => x * y) (blk0 m c t a q) (blk1 m c t q b)

/-- What the accumulator holds after point `t`. -/
theorem acc (c : Dev nD) (a b : Fin 1024) (t : ℕ) (h : t < cfg0.N) :
    (outsAt0 m c t h).2 (ix2 a b) = psum (term m c (1024 * (t / 4) + a.val) b.val) (1408 * (t % 4 + 1)) := by
  refine acc_run 4 1408 (fun t h => (outsAt0 m c t h).2 (ix2 a b)) (fun g => term m c (1024 * g + a.val) b.val) (fun t h h0 => ?_) (fun t h h0 => ?_) t h
  · rw [outsAt0_A m c ⟨t, h⟩ h0 (by dsimp only; omega)]
    dsimp only
    rw [sout_A, block, zero_apply]
  · by_cases h1 : t % 4 = 3
    · rw [outsAt0_C m c ⟨t, h⟩ h0 h1]
      dsimp only
      rw [sout_C, block]
    · rw [outsAt0_B m c ⟨t, h⟩ h0 h1]
      dsimp only
      rw [sout_B, block]

/-- The product of the arguments over their second axes. -/
def result (A : (⟨2, ![4096, 5632]⟩ : Shape).Idx → EReal) (B : (⟨2, ![1024, 5632]⟩ : Shape).Idx → EReal) : Vec Ideal S4096x1024 .f32 := fun y =>
  ∑ k : Fin 5632, A (ix2 (y 0 : Fin 4096) k) * B (ix2 (y 1 : Fin 1024) k)

theorem emb2 (t : Fin cfg0.N) (a b : Fin 1024) (h0 : 1024 * (t.val / 4) + a.val < 4096) :
    (win0_2.blk t).view.emb (ix2 a b) = ix2 ⟨1024 * (t.val / 4) + a.val, h0⟩ b := by
  blk_ext [idx2 t]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a b : Fin 1024), y = ix2 a b := ⟨y 0, y 1, eq_ix2 y⟩
  have hN : t.val < 16 := lt_of_lt_of_eq t.isLt N_0
  have h1 : t.val % 4 = 3 := (flush0_2 t).mp hf
  have h0 : ¬ t.val % 4 = 0 := by omega
  have hs := acc m c a b t.val t.isLt
  rw [outsAt0_C m c t h0 h1] at hs
  dsimp only at hs
  rw [sout_C] at hs
  blk_simp
  rw [after0_2, outsAt0_C m c t h0 h1]
  dsimp only
  rw [out_C, emb2 _ _ _ (by omega)]
  refine hs.trans ?_
  rw [h1, psum_fin]
  exact Finset.sum_congr rfl fun k _ => by
    unfold term
    rw [at2_lt _ (by omega) k.isLt, at2_fin]
    rfl

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.UpDxIdeal.Product

end
-- ==== Proof.UpDwValue.lean ====
/- The gradient of the up projection's weights is one product. -/
module

public import proofs.«01_k».proof.Proof.Gen.UpDwIdeal.Value
public import proofs.«01_k».proof.Proof.Blocked

@[expose] public section

set_option maxRecDepth 16384

noncomputable section

namespace Cert.UpDwIdeal.Product

open Cert.UpDwIdeal Cert.UpDwIdeal.Gen Idealize.ShloMosaic Idealize.ShloMosaic.TcCoe Idealize.SL.Sem Blocked

section
variable (c : Dev nD) (i : grid0.Coords) (a3 : Memref sig .tc .vmem S1024x1408 .bf16) (h3 : a3.IsWhole) (a4 : Memref sig .tc .vmem S1024x1024 .bf16) (h4 : a4.IsWhole)
  (a5 : Memref sig .tc .vmem S1408x1024 .bf16) (h5 : a5.IsWhole) (a6 : Memref sig .tc .vmem S1408x1024 .f32) (h6 : a6.IsWhole)
  (x0 : Vec Ideal S1024x1408 .bf16) (x1 : Vec Ideal S1024x1024 .bf16) (s : Vec Ideal S1408x1024 .f32)

/-- The first point of a run leaves the first block's product. -/
theorem sout_A (h : cond0_0 i) (h' : ¬cond0_1 i) : sout0_A_0 c i a3 h3 a4 h4 a5 h5 a6 h6 h h' x0 x1 = k0_pay2 k0_pay1 x0 x1 := by
  frame_out

/-- A later point adds its block's product. -/
theorem sout_B (h : ¬cond0_0 i) (h' : ¬cond0_1 i) : sout0_B_0 c i a3 h3 a4 h4 a5 h5 a6 h6 h h' x0 x1 s = k0_pay2 s x0 x1 := by
  frame_out

theorem sout_C (h : ¬cond0_0 i) (h' : cond0_1 i) : sout0_C_0 c i a3 h3 a4 h4 a5 h5 a6 h6 h h' x0 x1 s = k0_pay2 s x0 x1 := by
  frame_out

/-- The last point of a run stores what it accumulated. -/
theorem out_C (h : ¬cond0_0 i) (h' : cond0_1 i) : out0_C_2 c i a3 h3 a4 h4 a5 h5 a6 h6 h h' x0 x1 s = k0_pay3 (k0_pay2 s x0 x1) := by
  frame_out

theorem pay_apply (a : Fin 1408) (b : Fin 1024) : k0_pay2 s x0 x1 (ix2 a b) = s (ix2 a b) + ∑ q : Fin 1024, x0 (ix2 q a) * x1 (ix2 q b) := by
  pointwise [k0_pay2]

theorem zero_apply (a : Fin 1408) (b : Fin 1024) : (k0_pay1 (F := Ideal)) (ix2 a b) = (0 : EReal) := by
  pointwise [k0_pay1]

theorem cast_apply (a : Fin 1408) (b : Fin 1024) : k0_pay3 s (ix2 a b) = s (ix2 a b) := by
  pointwise [k0_pay3]
end

variable (m : (ℓ : Loc nD τ sig) → Buf (Elt Ideal) ℓ)

theorem idx0 : ∀ t : Fin cfg0.N, win0_0.index t = ![t.val % 4, t.val / 4] := by decide +kernel
theorem idx1 : ∀ t : Fin cfg0.N, win0_1.index t = ![t.val % 4, 0] := by decide +kernel
theorem idx2 : ∀ t : Fin cfg0.N, win0_2.index t = ![t.val / 4, 0] := by decide +kernel

/-- The factors of element `(r, s)`'s terms. -/
def term (c : Dev nD) (r s k : ℕ) : EReal :=
  at2 (m ((c.tc : Thread nD τ).loc main_arg1)) k r * at2 (m ((c.tc : Thread nD τ).loc main_arg0)) k s

theorem emb0 (t : Fin cfg0.N) (q : Fin 1024) (a : Fin 1408) (h0 : 1024 * (t.val % 4) + q.val < 4096) (h1 : 1408 * (t.val / 4) + a.val < 5632) :
    (win0_0.blk t).view.emb (ix2 q a) = ix2 ⟨1024 * (t.val % 4) + q.val, h0⟩ ⟨1408 * (t.val / 4) + a.val, h1⟩ := by
  blk_ext [idx0 t]

theorem emb1 (t : Fin cfg0.N) (q : Fin 1024) (b : Fin 1024) (h1 : 1024 * (t.val % 4) + q.val < 4096) :
    (win0_1.blk t).view.emb (ix2 q b) = ix2 ⟨1024 * (t.val % 4) + q.val, h1⟩ b := by
  blk_ext [idx1 t]

theorem blk0 (c : Dev nD) (t : Fin cfg0.N) (q : Fin 1024) (a : Fin 1408) :
    iblk m c 0 t (ix2 q a) = at2 (m ((c.tc : Thread nD τ).loc main_arg1)) (1024 * (t.val % 4) + q.val) (1408 * (t.val / 4) + a.val) := by
  have hN : t.val < 16 := lt_of_lt_of_eq t.isLt N_0
  rw [at2_lt _ (by omega) (by omega)]
  blk_simp [iblk]
  entry_read
  rw [emb0]
  · pointwise
  all_goals omega

theorem blk1 (c : Dev nD) (t : Fin cfg0.N) (q : Fin 1024) (b : Fin 1024) :
    iblk m c 1 t (ix2 q b) = at2 (m ((c.tc : Thread nD τ).loc main_arg0)) (1024 * (t.val % 4) + q.val) b.val := by
  have hN : t.val < 16 := lt_of_lt_of_eq t.isLt N_0
  rw [at2_lt _ (by omega) (by omega)]
  blk_simp [iblk]
  entry_read
  rw [emb1]
  · pointwise
  all_goals omega

theorem block (c : Dev nD) (t : Fin cfg0.N) (s : Vec Ideal S1408x1024 .f32) (a : Fin 1408) (b : Fin 1024) :
    k0_pay2 s (iblk m c 0 t) (iblk m c 1 t) (ix2 a b)
      = s (ix2 a b) + ∑ q : Fin 1024, term m c (1408 * (t.val / 4) + a.val) b.val (1024 * (t.val % 4) + q.val) := by
  refine (pay_apply _ _ s a b).trans (congrArg (fun z : EReal => s (ix2 a b) + z) (Finset.sum_congr rfl fun q _ => ?_))
  exact congrArg₂ (fun x y : EReal => x * y) (blk0 m c t q a) (blk1 m c t q b)

/-- What the accumulator holds after point `t`. -/
theorem acc (c : Dev nD) (a : Fin 1408) (b : Fin 1024) (t : ℕ) (h : t < cfg0.N) :
    (outsAt0 m c t h).2 (ix2 a b) = psum (term m c (1408 * (t / 4) + a.val) b.val) (1024 * (t % 4 + 1)) := by
  refine acc_run 4 1024 (fun t h => (outsAt0 m c t h).2 (ix2 a b)) (fun g => term m c (1408 * g + a.val) b.val) (fun t h h0 => ?_) (fun t h h0 => ?_) t h
  · rw [outsAt0_A m c ⟨t, h⟩ h0 (by dsimp only; omega)]
    dsimp only
    rw [sout_A, block, zero_apply]
  · by_cases h1 : t % 4 = 3
    · rw [outsAt0_C m c ⟨t, h⟩ h0 h1]
      dsimp only
      rw [sout_C, block]
    · rw [outsAt0_B m c ⟨t, h⟩ h0 h1]
      dsimp only
      rw [sout_B, block]

/-- The product of the arguments over their first axes. -/
def result (A : (⟨2, ![4096, 5632]⟩ : Shape).Idx → EReal) (B : (⟨2, ![4096, 1024]⟩ : Shape).Idx → EReal) : Vec Ideal S5632x1024 .bf16 := fun y =>
  ∑ k : Fin 4096, A (ix2 k (y 0 : Fin 5632)) * B (ix2 k (y 1 : Fin 1024))

theorem emb2 (t : Fin cfg0.N) (a : Fin 1408) (b : Fin 1024) (h0 : 1408 * (t.val / 4) + a.val < 5632) :
    (win0_2.blk t).view.emb (ix2 a b) = ix2 ⟨1408 * (t.val / 4) + a.val, h0⟩ b := by
  blk_ext [idx2 t]

theorem final (c : Dev nD) : (dats m 0 c).arrAt 2 cfg0.N = result (m ((c.tc : Thread nD τ).loc main_arg1)) (m ((c.tc : Thread nD τ).loc main_arg0)) := by
  refine (dats m 0 c).arrAt_eq_of_covers 2 _ (by decide +kernel) fun t hf y => ?_
  obtain ⟨a, b, rfl⟩ : ∃ (a : Fin 1408) (b : Fin 1024), y = ix2 a b := ⟨y 0, y 1, eq_ix2 y⟩
  have hN : t.val < 16 := lt_of_lt_of_eq t.isLt N_0
  have h1 : t.val % 4 = 3 := (flush0_2 t).mp hf
  have h0 : ¬ t.val % 4 = 0 := by omega
  have hs := acc m c a b t.val t.isLt
  rw [outsAt0_C m c t h0 h1] at hs
  dsimp only at hs
  rw [sout_C] at hs
  blk_simp
  rw [after0_2, outsAt0_C m c t h0 h1]
  dsimp only
  rw [out_C, cast_apply, emb2 _ _ _ (by omega)]
  refine hs.trans ?_
  rw [h1, psum_fin]
  exact Finset.sum_congr rfl fun k _ => by
    unfold term
    rw [at2_lt _ k.isLt (by omega), at2_fin]
    rfl

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v2) = result (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.UpDwIdeal.Product

end
-- ==== Proof.InDxValue.lean ====
/- The gradient of the input projection's input is one product and what is added to it. -/
module

public import proofs.«01_k».proof.Proof.Gen.InDxIdeal.Value
public import proofs.«01_k».proof.Proof.Blocked

@[expose] public section

set_option maxRecDepth 16384

noncomputable section

namespace Cert.InDxIdeal.Product

open Cert.InDxIdeal Cert.InDxIdeal.Gen Idealize.ShloMosaic Idealize.ShloMosaic.TcCoe Idealize.SL.Sem Blocked

section
variable (c : Dev nD) (i : grid0.Coords) (a3 : Memref sig .tc .vmem S1024x1536 .bf16) (h3 : a3.IsWhole) (a4 : Memref sig .tc .vmem S1536x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x0 : Vec Ideal S1024x1536 .bf16) (x1 : Vec Ideal S1536x1024 .bf16) (x2 s : Vec Ideal S1024x1024 .f32)

/-- The first point of a run leaves the first block's product. -/
theorem sout_A (h : cond0_0 i) (h' : ¬cond0_1 i) : sout0_A_0 c i a3 h3 a4 h4 a5 h5 a6 h6 a7 h7 h h' x0 x1 x2 = k0_pay2 k0_pay1 x0 x1 := by
  frame_out

/-- A later point adds its block's product. -/
theorem sout_B (h : ¬cond0_0 i) (h' : ¬cond0_1 i) : sout0_B_0 c i a3 h3 a4 h4 a5 h5 a6 h6 a7 h7 h h' x0 x1 x2 s = k0_pay2 s x0 x1 := by
  frame_out

theorem sout_C (h : ¬cond0_0 i) (h' : cond0_1 i) : sout0_C_0 c i a3 h3 a4 h4 a5 h5 a6 h6 a7 h7 h h' x0 x1 x2 s = k0_pay2 s x0 x1 := by
  frame_out

/-- The last point of a run stores what it accumulated. -/
theorem out_C (h : ¬cond0_0 i) (h' : cond0_1 i) : out0_C_3 c i a3 h3 a4 h4 a5 h5 a6 h6 a7 h7 h h' x0 x1 x2 s = k0_pay3 (k0_pay2 s x0 x1) x2 := by
  frame_out

theorem pay_apply (a b : Fin 1024) : k0_pay2 s x0 x1 (ix2 a b) = s (ix2 a b) + ∑ q : Fin 1536, x0 (ix2 a q) * x1 (ix2 q b) := by
  pointwise [k0_pay2]

theorem zero_apply (a b : Fin 1024) : (k0_pay1 (F := Ideal)) (ix2 a b) = (0 : EReal) := by
  pointwise [k0_pay1]

theorem add_apply (a b : Fin 1024) : k0_pay3 s x2 (ix2 a b) = s (ix2 a b) + x2 (ix2 a b) := by
  pointwise [k0_pay3]
end

variable (m : (ℓ : Loc nD τ sig) → Buf (Elt Ideal) ℓ)

theorem idx0 : ∀ t : Fin cfg0.N, win0_0.index t = ![t.val / 6, t.val % 6] := by decide +kernel
theorem idx1 : ∀ t : Fin cfg0.N, win0_1.index t = ![t.val % 6, 0] := by decide +kernel
theorem idx2 : ∀ t : Fin cfg0.N, win0_2.index t = ![t.val / 6, 0] := by decide +kernel
theorem idx3 : ∀ t : Fin cfg0.N, win0_3.index t = ![t.val / 6, 0] := by decide +kernel

/-- The factors of element `(r, s)`'s terms. -/
def term (c : Dev nD) (r s k : ℕ) : EReal :=
  at2 (m ((c.tc : Thread nD τ).loc main_arg0)) r k * at2 (m ((c.tc : Thread nD τ).loc main_arg1)) s k

theorem emb0 (t : Fin cfg0.N) (a : Fin 1024) (q : Fin 1536) (h0 : 1024 * (t.val / 6) + a.val < 4096) (h1 : 1536 * (t.val % 6) + q.val < 9216) :
    (win0_0.blk t).view.emb (ix2 a q) = ix2 ⟨1024 * (t.val / 6) + a.val, h0⟩ ⟨1536 * (t.val % 6) + q.val, h1⟩ := by
  blk_ext [idx0 t]

theorem emb1 (t : Fin cfg0.N) (q : Fin 1536) (b : Fin 1024) (h1 : 1536 * (t.val % 6) + q.val < 9216) :
    (win0_1.blk t).view.emb (ix2 q b) = ix2 ⟨1536 * (t.val % 6) + q.val, h1⟩ b := by
  blk_ext [idx1 t]

theorem blk0 (c : Dev nD) (t : Fin cfg0.N) (a : Fin 1024) (q : Fin 1536) :
    iblk m c 0 t (ix2 a q) = at2 (m ((c.tc : Thread nD τ).loc main_arg0)) (1024 * (t.val / 6) + a.val) (1536 * (t.val % 6) + q.val) := by
  have hN : t.val < 24 := lt_of_lt_of_eq t.isLt N_0
  rw [at2_lt _ (by omega) (by omega)]
  blk_simp [iblk]
  entry_read
  rw [emb0]
  · pointwise
  all_goals omega

theorem blk1 (c : Dev nD) (t : Fin cfg0.N) (q : Fin 1536) (b : Fin 1024) :
    iblk m c 1 t (ix2 q b) = at2 (m ((c.tc : Thread nD τ).loc main_arg1)) b.val (1536 * (t.val % 6) + q.val) := by
  have hN : t.val < 24 := lt_of_lt_of_eq t.isLt N_0
  rw [at2_lt _ (by omega) (by omega)]
  blk_simp [iblk]
  entry_read
  rw [emb1]
  · pointwise
  all_goals omega

theorem block (c : Dev nD) (t : Fin cfg0.N) (s : Vec Ideal S1024x1024 .f32) (a b : Fin 1024) :
    k0_pay2 s (iblk m c 0 t) (iblk m c 1 t) (ix2 a b)
      = s (ix2 a b) + ∑ q : Fin 1536, term m c (1024 * (t.val / 6) + a.val) b.val (1536 * (t.val % 6) + q.val) := by
  refine (pay_apply _ _ s a b).trans (congrArg (fun z : EReal => s (ix2 a b) + z) (Finset.sum_congr rfl fun q _ => ?_))
  exact congrArg₂ (fun x y : EReal => x * y) (blk0 m c t a q) (blk1 m c t q b)

/-- What the accumulator holds after point `t`. -/
theorem acc (c : Dev nD) (a b : Fin 1024) (t : ℕ) (h : t < cfg0.N) :
    (outsAt0 m c t h).2 (ix2 a b) = psum (term m c (1024 * (t / 6) + a.val) b.val) (1536 * (t % 6 + 1)) := by
  refine acc_run 6 1536 (fun t h => (outsAt0 m c t h).2 (ix2 a b)) (fun g => term m c (1024 * g + a.val) b.val) (fun t h h0 => ?_) (fun t h h0 => ?_) t h
  · rw [outsAt0_A m c ⟨t, h⟩ h0 (by dsimp only; omega)]
    dsimp only
    rw [sout_A, block, zero_apply]
  · by_cases h1 : t % 6 = 5
    · rw [outsAt0_C m c ⟨t, h⟩ h0 h1]
      dsimp only
      rw [sout_C, block]
    · rw [outsAt0_B m c ⟨t, h⟩ h0 h1]
      dsimp only
      rw [sout_B, block]

/-- The product of the arguments over their second axes, and what is added. -/
def result (A : (⟨2, ![4096, 9216]⟩ : Shape).Idx → EReal) (B : (⟨2, ![1024, 9216]⟩ : Shape).Idx → EReal)
    (R : (⟨2, ![4096, 1024]⟩ : Shape).Idx → EReal) : Vec Ideal S4096x1024 .f32 := fun y =>
  (∑ k : Fin 9216, A (ix2 (y 0 : Fin 4096) k) * B (ix2 (y 1 : Fin 1024) k)) + R (ix2 (y 0 : Fin 4096) (y 1 : Fin 1024))

theorem blk2 (c : Dev nD) (t : Fin cfg0.N) (a b : Fin 1024) (h0 : 1024 * (t.val / 6) + a.val < 4096) :
    iblk m c 2 t (ix2 a b) = m ((c.tc : Thread nD τ).loc main_arg2) (ix2 ⟨1024 * (t.val / 6) + a.val, h0⟩ b) := by
  blk_simp [iblk]
  entry_read
  blk_ext [idx2 t]

theorem emb3 (t : Fin cfg0.N) (a b : Fin 1024) (h0 : 1024 * (t.val / 6) + a.val < 4096) :
    (win0_3.blk t).view.emb (ix2 a b) = ix2 ⟨1024 * (t.val / 6) + a.val, h0⟩ b := by
  blk_ext [idx3 t]

theorem final (c : Dev nD) : (dats m 0 c).arrAt 3 cfg0.N = result (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨a, b, rfl⟩ : ∃ (a b : Fin 1024), y = ix2 a b := ⟨y 0, y 1, eq_ix2 y⟩
  have hN : t.val < 24 := lt_of_lt_of_eq t.isLt N_0
  have h1 : t.val % 6 = 5 := (flush0_3 t).mp hf
  have h0 : ¬ t.val % 6 = 0 := by omega
  have hs := acc m c a b t.val t.isLt
  rw [outsAt0_C m c t h0 h1] at hs
  dsimp only at hs
  rw [sout_C] at hs
  blk_simp
  rw [after0_3, outsAt0_C m c t h0 h1]
  dsimp only
  rw [out_C, add_apply, emb3 _ _ _ (by omega)]
  refine congrArg₂ (fun x y : EReal => x + y) (hs.trans ?_) (blk2 m c t a b _)
  rw [h1, psum_fin]
  exact Finset.sum_congr rfl fun k _ => by
    unfold term
    rw [at2_lt _ (by omega) k.isLt, at2_fin]
    rfl

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.InDxIdeal.Product

end
-- ==== Proof.InDwValue.lean ====
/- The gradient of the input projection's weights is one product. -/
module

public import proofs.«01_k».proof.Proof.Gen.InDwIdeal.Value
public import proofs.«01_k».proof.Proof.Blocked

@[expose] public section

set_option maxRecDepth 16384

noncomputable section

namespace Cert.InDwIdeal.Product

open Cert.InDwIdeal Cert.InDwIdeal.Gen Idealize.ShloMosaic Idealize.ShloMosaic.TcCoe Idealize.SL.Sem Blocked

section
variable (c : Dev nD) (i : grid0.Coords) (a3 : Memref sig .tc .vmem S1024x1152 .bf16) (h3 : a3.IsWhole) (a4 : Memref sig .tc .vmem S1024x1024 .bf16) (h4 : a4.IsWhole)
  (a5 : Memref sig .tc .vmem S1152x1024 .bf16) (h5 : a5.IsWhole) (a6 : Memref sig .tc .vmem S1152x1024 .f32) (h6 : a6.IsWhole)
  (x0 : Vec Ideal S1024x1152 .bf16) (x1 : Vec Ideal S1024x1024 .bf16) (s : Vec Ideal S1152x1024 .f32)

/-- The first point of a run leaves the first block's product. -/
theorem sout_A (h : cond0_0 i) (h' : ¬cond0_1 i) : sout0_A_0 c i a3 h3 a4 h4 a5 h5 a6 h6 h h' x0 x1 = k0_pay2 k0_pay1 x0 x1 := by
  frame_out

/-- A later point adds its block's product. -/
theorem sout_B (h : ¬cond0_0 i) (h' : ¬cond0_1 i) : sout0_B_0 c i a3 h3 a4 h4 a5 h5 a6 h6 h h' x0 x1 s = k0_pay2 s x0 x1 := by
  frame_out

theorem sout_C (h : ¬cond0_0 i) (h' : cond0_1 i) : sout0_C_0 c i a3 h3 a4 h4 a5 h5 a6 h6 h h' x0 x1 s = k0_pay2 s x0 x1 := by
  frame_out

/-- The last point of a run stores what it accumulated. -/
theorem out_C (h : ¬cond0_0 i) (h' : cond0_1 i) : out0_C_2 c i a3 h3 a4 h4 a5 h5 a6 h6 h h' x0 x1 s = k0_pay3 (k0_pay2 s x0 x1) := by
  frame_out

theorem pay_apply (a : Fin 1152) (b : Fin 1024) : k0_pay2 s x0 x1 (ix2 a b) = s (ix2 a b) + ∑ q : Fin 1024, x0 (ix2 q a) * x1 (ix2 q b) := by
  pointwise [k0_pay2]

theorem zero_apply (a : Fin 1152) (b : Fin 1024) : (k0_pay1 (F := Ideal)) (ix2 a b) = (0 : EReal) := by
  pointwise [k0_pay1]

theorem cast_apply (a : Fin 1152) (b : Fin 1024) : k0_pay3 s (ix2 a b) = s (ix2 a b) := by
  pointwise [k0_pay3]
end

variable (m : (ℓ : Loc nD τ sig) → Buf (Elt Ideal) ℓ)

theorem idx0 : ∀ t : Fin cfg0.N, win0_0.index t = ![t.val % 4, t.val / 4] := by decide +kernel
theorem idx1 : ∀ t : Fin cfg0.N, win0_1.index t = ![t.val % 4, 0] := by decide +kernel
theorem idx2 : ∀ t : Fin cfg0.N, win0_2.index t = ![t.val / 4, 0] := by decide +kernel

/-- The factors of element `(r, s)`'s terms. -/
def term (c : Dev nD) (r s k : ℕ) : EReal :=
  at2 (m ((c.tc : Thread nD τ).loc main_arg1)) k r * at2 (m ((c.tc : Thread nD τ).loc main_arg0)) k s

theorem emb0 (t : Fin cfg0.N) (q : Fin 1024) (a : Fin 1152) (h0 : 1024 * (t.val % 4) + q.val < 4096) (h1 : 1152 * (t.val / 4) + a.val < 9216) :
    (win0_0.blk t).view.emb (ix2 q a) = ix2 ⟨1024 * (t.val % 4) + q.val, h0⟩ ⟨1152 * (t.val / 4) + a.val, h1⟩ := by
  blk_ext [idx0 t]

theorem emb1 (t : Fin cfg0.N) (q : Fin 1024) (b : Fin 1024) (h1 : 1024 * (t.val % 4) + q.val < 4096) :
    (win0_1.blk t).view.emb (ix2 q b) = ix2 ⟨1024 * (t.val % 4) + q.val, h1⟩ b := by
  blk_ext [idx1 t]

theorem blk0 (c : Dev nD) (t : Fin cfg0.N) (q : Fin 1024) (a : Fin 1152) :
    iblk m c 0 t (ix2 q a) = at2 (m ((c.tc : Thread nD τ).loc main_arg1)) (1024 * (t.val % 4) + q.val) (1152 * (t.val / 4) + a.val) := by
  have hN : t.val < 32 := lt_of_lt_of_eq t.isLt N_0
  rw [at2_lt _ (by omega) (by omega)]
  blk_simp [iblk]
  entry_read
  rw [emb0]
  · pointwise
  all_goals omega

theorem blk1 (c : Dev nD) (t : Fin cfg0.N) (q : Fin 1024) (b : Fin 1024) :
    iblk m c 1 t (ix2 q b) = at2 (m ((c.tc : Thread nD τ).loc main_arg0)) (1024 * (t.val % 4) + q.val) b.val := by
  have hN : t.val < 32 := lt_of_lt_of_eq t.isLt N_0
  rw [at2_lt _ (by omega) (by omega)]
  blk_simp [iblk]
  entry_read
  rw [emb1]
  · pointwise
  all_goals omega

theorem block (c : Dev nD) (t : Fin cfg0.N) (s : Vec Ideal S1152x1024 .f32) (a : Fin 1152) (b : Fin 1024) :
    k0_pay2 s (iblk m c 0 t) (iblk m c 1 t) (ix2 a b)
      = s (ix2 a b) + ∑ q : Fin 1024, term m c (1152 * (t.val / 4) + a.val) b.val (1024 * (t.val % 4) + q.val) := by
  refine (pay_apply _ _ s a b).trans (congrArg (fun z : EReal => s (ix2 a b) + z) (Finset.sum_congr rfl fun q _ => ?_))
  exact congrArg₂ (fun x y : EReal => x * y) (blk0 m c t q a) (blk1 m c t q b)

/-- What the accumulator holds after point `t`. -/
theorem acc (c : Dev nD) (a : Fin 1152) (b : Fin 1024) (t : ℕ) (h : t < cfg0.N) :
    (outsAt0 m c t h).2 (ix2 a b) = psum (term m c (1152 * (t / 4) + a.val) b.val) (1024 * (t % 4 + 1)) := by
  refine acc_run 4 1024 (fun t h => (outsAt0 m c t h).2 (ix2 a b)) (fun g => term m c (1152 * g + a.val) b.val) (fun t h h0 => ?_) (fun t h h0 => ?_) t h
  · rw [outsAt0_A m c ⟨t, h⟩ h0 (by dsimp only; omega)]
    dsimp only
    rw [sout_A, block, zero_apply]
  · by_cases h1 : t % 4 = 3
    · rw [outsAt0_C m c ⟨t, h⟩ h0 h1]
      dsimp only
      rw [sout_C, block]
    · rw [outsAt0_B m c ⟨t, h⟩ h0 h1]
      dsimp only
      rw [sout_B, block]

/-- The product of the arguments over their first axes. -/
def result (A : (⟨2, ![4096, 9216]⟩ : Shape).Idx → EReal) (B : (⟨2, ![4096, 1024]⟩ : Shape).Idx → EReal) : Vec Ideal S9216x1024 .bf16 := fun y =>
  ∑ k : Fin 4096, A (ix2 k (y 0 : Fin 9216)) * B (ix2 k (y 1 : Fin 1024))

theorem emb2 (t : Fin cfg0.N) (a : Fin 1152) (b : Fin 1024) (h0 : 1152 * (t.val / 4) + a.val < 9216) :
    (win0_2.blk t).view.emb (ix2 a b) = ix2 ⟨1152 * (t.val / 4) + a.val, h0⟩ b := by
  blk_ext [idx2 t]

theorem final (c : Dev nD) : (dats m 0 c).arrAt 2 cfg0.N = result (m ((c.tc : Thread nD τ).loc main_arg1)) (m ((c.tc : Thread nD τ).loc main_arg0)) := by
  refine (dats m 0 c).arrAt_eq_of_covers 2 _ (by decide +kernel) fun t hf y => ?_
  obtain ⟨a, b, rfl⟩ : ∃ (a : Fin 1152) (b : Fin 1024), y = ix2 a b := ⟨y 0, y 1, eq_ix2 y⟩
  have hN : t.val < 32 := lt_of_lt_of_eq t.isLt N_0
  have h1 : t.val % 4 = 3 := (flush0_2 t).mp hf
  have h0 : ¬ t.val % 4 = 0 := by omega
  have hs := acc m c a b t.val t.isLt
  rw [outsAt0_C m c t h0 h1] at hs
  dsimp only at hs
  rw [sout_C] at hs
  blk_simp
  rw [after0_2, outsAt0_C m c t h0 h1]
  dsimp only
  rw [out_C, cast_apply, emb2 _ _ _ (by omega)]
  refine hs.trans ?_
  rw [h1, psum_fin]
  exact Finset.sum_congr rfl fun k _ => by
    unfold term
    rw [at2_lt _ k.isLt (by omega), at2_fin]
    rfl

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v2) = result (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.InDwIdeal.Product

end
-- ==== Proof.OutDxValue.lean ====
/- The gradient of the output projection's input is one product. -/
module

public import proofs.«01_k».proof.Proof.Gen.OutDxIdeal.Value
public import proofs.«01_k».proof.Proof.Blocked

@[expose] public section

set_option maxRecDepth 16384

noncomputable section

namespace Cert.OutDxIdeal.Product

open Cert.OutDxIdeal Cert.OutDxIdeal.Gen Idealize.ShloMosaic Idealize.ShloMosaic.TcCoe Idealize.SL.Sem Blocked

section
variable (c : Dev nD) (i : grid0.Coords) (a3 : Memref sig .tc .vmem S1024x1024 .f32) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S1024x1024 .f32) (x1 : Vec Ideal S1024x1024 .bf16) (s : Vec Ideal S1024x1024 .f32)

/-- Each point resets the accumulator, adds its product and stores it. -/
theorem out_A (h : cond0_0 i) (h' : cond0_1 i) : out0_A_2 c i a3 h3 a4 h4 a5 h5 a6 h6 h h' x0 x1 = k0_pay3 (k0_pay2 k0_pay1 x0 x1) := by
  frame_out

theorem pay_apply (a : Fin 1024) (b : Fin 1024) : k0_pay2 s x0 x1 (ix2 a b) = s (ix2 a b) + ∑ q : Fin 1024, x0 (ix2 a q) * x1 (ix2 b q) := by
  pointwise [k0_pay2]

theorem zero_apply (a : Fin 1024) (b : Fin 1024) : (k0_pay1 (F := Ideal)) (ix2 a b) = (0 : EReal) := by
  pointwise [k0_pay1]

theorem cast_apply (a : Fin 1024) (b : Fin 1024) : k0_pay3 s (ix2 a b) = s (ix2 a b) := by
  pointwise [k0_pay3]
end

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

theorem emb1 (t : Fin cfg0.N) (b : Fin 1024) (q : Fin 1024) :
    (win0_1.blk t).view.emb (ix2 b q) = ix2 b q := by
  blk_ext [idx1 t]

theorem blk0 (c : Dev nD) (t : Fin cfg0.N) (a q : Fin 1024) :
    iblk m c 0 t (ix2 a q) = at2 (m ((c.tc : Thread nD τ).loc main_arg0)) (1024 * t.val + a.val) q.val := by
  have hN : t.val < 4 := lt_of_lt_of_eq t.isLt N_0
  rw [at2_lt _ (by omega) q.isLt]
  blk_simp [iblk]
  entry_read
  blk_ext [idx0 t]

theorem blk1 (c : Dev nD) (t : Fin cfg0.N) (b : Fin 1024) (q : Fin 1024) :
    iblk m c 1 t (ix2 b q) = at2 (m ((c.tc : Thread nD τ).loc main_arg1)) (b.val) q.val := by
  have hN : t.val < 4 := lt_of_lt_of_eq t.isLt N_0
  rw [at2_lt _ (by omega) (by omega)]
  blk_simp [iblk]
  entry_read
  rw [emb1]
  pointwise

/-- The product of the arguments. -/
def result (A : (⟨2, ![4096, 1024]⟩ : Shape).Idx → EReal) (B : (⟨2, ![1024, 1024]⟩ : Shape).Idx → EReal) : Vec Ideal S4096x1024 .bf16 := fun y =>
  ∑ k : Fin 1024, A (ix2 (y 0 : Fin 4096) k) * B (ix2 (y 1 : Fin 1024) k)

theorem emb2 (t : Fin cfg0.N) (a : Fin 1024) (b : Fin 1024) (h0 : 1024 * t.val + a.val < 4096) :
    (win0_2.blk t).view.emb (ix2 a b) = ix2 ⟨1024 * t.val + a.val, h0⟩ b := by
  blk_ext [idx2 t]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, eq_ix2 y⟩
  have hN : t.val < 4 := lt_of_lt_of_eq t.isLt N_0
  blk_simp
  rw [after0_2, outsAt0, out_A, emb2 _ _ _ (by omega)]
  refine (cast_apply _ a b).trans ((pay_apply _ _ _ a b).trans ?_)
  rw [zero_apply, zero_add]
  exact Finset.sum_congr rfl fun k _ => congrArg₂ (fun x y : EReal => x * y) ((blk0 m c t a k).trans (at2_lt _ _ _)) ((blk1 m c t b k).trans (at2_lt _ _ _))

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.OutDxIdeal.Product

end
-- ==== Proof.OutDwValue.lean ====
/- The gradient of the output projection's weights is one product. -/
module

public import proofs.«01_k».proof.Proof.Gen.OutDwIdeal.Value
public import proofs.«01_k».proof.Proof.Blocked

@[expose] public section

set_option maxRecDepth 16384

noncomputable section

namespace Cert.OutDwIdeal.Product

open Cert.OutDwIdeal Cert.OutDwIdeal.Gen Idealize.ShloMosaic Idealize.ShloMosaic.TcCoe Idealize.SL.Sem Blocked

section
variable (c : Dev nD) (i : grid0.Coords) (a3 : Memref sig .tc .vmem S1024x1024 .bf16) (h3 : a3.IsWhole) (a4 : Memref sig .tc .vmem S1024x1024 .f32) (h4 : a4.IsWhole)
  (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .f32) (s : Vec Ideal S1024x1024 .f32)

/-- The first point of a run leaves the first block's product. -/
theorem sout_A (h : cond0_0 i) (h' : ¬cond0_1 i) : sout0_A_0 c i a3 h3 a4 h4 a5 h5 a6 h6 h h' x0 x1 = k0_pay2 k0_pay1 x0 x1 := by
  frame_out

/-- A later point adds its block's product. -/
theorem sout_B (h : ¬cond0_0 i) (h' : ¬cond0_1 i) : sout0_B_0 c i a3 h3 a4 h4 a5 h5 a6 h6 h h' x0 x1 s = k0_pay2 s x0 x1 := by
  frame_out

theorem sout_C (h : ¬cond0_0 i) (h' : cond0_1 i) : sout0_C_0 c i a3 h3 a4 h4 a5 h5 a6 h6 h h' x0 x1 s = k0_pay2 s x0 x1 := by
  frame_out

/-- The last point of a run stores what it accumulated. -/
theorem out_C (h : ¬cond0_0 i) (h' : cond0_1 i) : out0_C_2 c i a3 h3 a4 h4 a5 h5 a6 h6 h h' x0 x1 s = k0_pay3 (k0_pay2 s x0 x1) := by
  frame_out

theorem pay_apply (a : Fin 1024) (b : Fin 1024) : k0_pay2 s x0 x1 (ix2 a b) = s (ix2 a b) + ∑ q : Fin 1024, x0 (ix2 q a) * x1 (ix2 q b) := by
  pointwise [k0_pay2]

theorem zero_apply (a : Fin 1024) (b : Fin 1024) : (k0_pay1 (F := Ideal)) (ix2 a b) = (0 : EReal) := by
  pointwise [k0_pay1]

theorem cast_apply (a : Fin 1024) (b : Fin 1024) : k0_pay3 s (ix2 a b) = s (ix2 a b) := by
  pointwise [k0_pay3]
end

variable (m : (ℓ : Loc nD τ sig) → Buf (Elt Ideal) ℓ)

theorem idx0 : ∀ t : Fin cfg0.N, win0_0.index t = ![t.val % 4, t.val / 4] := by decide +kernel
theorem idx1 : ∀ t : Fin cfg0.N, win0_1.index t = ![t.val % 4, 0] := by decide +kernel
theorem idx2 : ∀ t : Fin cfg0.N, win0_2.index t = ![t.val / 4, 0] := by decide +kernel

/-- The factors of element `(r, s)`'s terms. -/
def term (c : Dev nD) (r s k : ℕ) : EReal :=
  at2 (m ((c.tc : Thread nD τ).loc main_arg0)) k r * at2 (m ((c.tc : Thread nD τ).loc main_arg1)) k s

theorem emb0 (t : Fin cfg0.N) (q : Fin 1024) (a : Fin 1024) (h0 : 1024 * (t.val % 4) + q.val < 4096) (h1 : 1024 * (t.val / 4) + a.val < 1024) :
    (win0_0.blk t).view.emb (ix2 q a) = ix2 ⟨1024 * (t.val % 4) + q.val, h0⟩ ⟨1024 * (t.val / 4) + a.val, h1⟩ := by
  blk_ext [idx0 t]

theorem blk0 (c : Dev nD) (t : Fin cfg0.N) (q : Fin 1024) (a : Fin 1024) :
    iblk m c 0 t (ix2 q a) = at2 (m ((c.tc : Thread nD τ).loc main_arg0)) (1024 * (t.val % 4) + q.val) (1024 * (t.val / 4) + a.val) := by
  have hN : t.val < 4 := lt_of_lt_of_eq t.isLt N_0
  rw [at2_lt _ (by omega) (by omega)]
  blk_simp [iblk]
  entry_read
  rw [emb0]
  · pointwise
  all_goals omega

theorem blk1 (c : Dev nD) (t : Fin cfg0.N) (q : Fin 1024) (b : Fin 1024) :
    iblk m c 1 t (ix2 q b) = at2 (m ((c.tc : Thread nD τ).loc main_arg1)) (1024 * (t.val % 4) + q.val) b.val := by
  have hN : t.val < 4 := lt_of_lt_of_eq t.isLt N_0
  rw [at2_lt _ (by omega) (by omega)]
  blk_simp [iblk]
  entry_read
  blk_ext [idx1 t]

theorem block (c : Dev nD) (t : Fin cfg0.N) (s : Vec Ideal S1024x1024 .f32) (a : Fin 1024) (b : Fin 1024) :
    k0_pay2 s (iblk m c 0 t) (iblk m c 1 t) (ix2 a b)
      = s (ix2 a b) + ∑ q : Fin 1024, term m c (1024 * (t.val / 4) + a.val) b.val (1024 * (t.val % 4) + q.val) := by
  refine (pay_apply _ _ s a b).trans (congrArg (fun z : EReal => s (ix2 a b) + z) (Finset.sum_congr rfl fun q _ => ?_))
  exact congrArg₂ (fun x y : EReal => x * y) (blk0 m c t q a) (blk1 m c t q b)

/-- What the accumulator holds after point `t`. -/
theorem acc (c : Dev nD) (a : Fin 1024) (b : Fin 1024) (t : ℕ) (h : t < cfg0.N) :
    (outsAt0 m c t h).2 (ix2 a b) = psum (term m c (1024 * (t / 4) + a.val) b.val) (1024 * (t % 4 + 1)) := by
  refine acc_run 4 1024 (fun t h => (outsAt0 m c t h).2 (ix2 a b)) (fun g => term m c (1024 * g + a.val) b.val) (fun t h h0 => ?_) (fun t h h0 => ?_) t h
  · rw [outsAt0_A m c ⟨t, h⟩ h0 (by dsimp only; omega)]
    dsimp only
    rw [sout_A, block, zero_apply]
  · by_cases h1 : t % 4 = 3
    · rw [outsAt0_C m c ⟨t, h⟩ h0 h1]
      dsimp only
      rw [sout_C, block]
    · rw [outsAt0_B m c ⟨t, h⟩ h0 h1]
      dsimp only
      rw [sout_B, block]

/-- The product of the arguments over their first axes. -/
def result (A : (⟨2, ![4096, 1024]⟩ : Shape).Idx → EReal) (B : (⟨2, ![4096, 1024]⟩ : Shape).Idx → EReal) : Vec Ideal S1024x1024 .bf16 := fun y =>
  ∑ k : Fin 4096, A (ix2 k (y 0 : Fin 1024)) * B (ix2 k (y 1 : Fin 1024))

theorem emb2 (t : Fin cfg0.N) (a : Fin 1024) (b : Fin 1024) (h0 : 1024 * (t.val / 4) + a.val < 1024) :
    (win0_2.blk t).view.emb (ix2 a b) = ix2 ⟨1024 * (t.val / 4) + a.val, h0⟩ b := by
  blk_ext [idx2 t]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, eq_ix2 y⟩
  have hN : t.val < 4 := lt_of_lt_of_eq t.isLt N_0
  have h1 : t.val % 4 = 3 := (flush0_2 t).mp hf
  have h0 : ¬ t.val % 4 = 0 := by omega
  have hs := acc m c a b t.val t.isLt
  rw [outsAt0_C m c t h0 h1] at hs
  dsimp only at hs
  rw [sout_C] at hs
  blk_simp
  rw [after0_2, outsAt0_C m c t h0 h1]
  dsimp only
  rw [out_C, cast_apply, emb2 _ _ _ (by omega)]
  refine hs.trans ?_
  rw [h1, psum_fin]
  exact Finset.sum_congr rfl fun k _ => by
    unfold term
    rw [at2_lt _ k.isLt (by omega), at2_fin]
    rfl

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.OutDwIdeal.Product

end
-- ==== Proof.ProjDxValue.lean ====
/- The gradient of a head projection's input is one product. -/
module

public import proofs.«01_k».proof.Proof.Gen.ProjDxIdeal.Value
public import proofs.«01_k».proof.Proof.Blocked

@[expose] public section

set_option maxRecDepth 16384

noncomputable section

namespace Cert.ProjDxIdeal.Product

open Cert.ProjDxIdeal Cert.ProjDxIdeal.Gen Idealize.ShloMosaic Idealize.ShloMosaic.TcCoe Idealize.SL.Sem Blocked

section
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (s : Vec Ideal S1024x1024 .f32)

/-- Each point resets the accumulator, adds its product and stores it. -/
theorem out_A (h : cond0_0 i) (h' : cond0_1 i) : out0_A_2 c i a3 h3 a4 h4 a5 h5 a6 h6 h h' x0 x1 = k0_pay3 (k0_pay2 k0_pay1 x0 x1) := by
  frame_out

theorem pay_apply (a : Fin 1024) (b : Fin 1024) : k0_pay2 s x0 x1 (ix2 a b) = s (ix2 a b) + ∑ q : Fin 1024, x0 (ix2 a q) * x1 (ix2 b q) := by
  pointwise [k0_pay2]

theorem zero_apply (a : Fin 1024) (b : Fin 1024) : (k0_pay1 (F := Ideal)) (ix2 a b) = (0 : EReal) := by
  pointwise [k0_pay1]

theorem cast_apply (a : Fin 1024) (b : Fin 1024) : k0_pay3 s (ix2 a b) = s (ix2 a b) := by
  pointwise [k0_pay3]
end

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

theorem emb0 (t : Fin cfg0.N) (a q : Fin 1024) (h0 : 1024 * t.val + a.val < 4096) :
    (win0_0.blk t).view.emb (ix2 a q) = ix2 ⟨1024 * t.val + a.val, h0⟩ q := by
  blk_ext [idx0 t]

theorem emb1 (t : Fin cfg0.N) (b : Fin 1024) (q : Fin 1024) :
    (win0_1.blk t).view.emb (ix2 b q) = ix2 b q := by
  blk_ext [idx1 t]

theorem blk0 (c : Dev nD) (t : Fin cfg0.N) (a q : Fin 1024) :
    iblk m c 0 t (ix2 a q) = at2 (m ((c.tc : Thread nD τ).loc main_arg0)) (1024 * t.val + a.val) q.val := by
  have hN : t.val < 4 := lt_of_lt_of_eq t.isLt N_0
  rw [at2_lt _ (by omega) q.isLt]
  blk_simp [iblk]
  entry_read
  rw [emb0 _ _ _ (by omega)]
  pointwise

theorem blk1 (c : Dev nD) (t : Fin cfg0.N) (b : Fin 1024) (q : Fin 1024) :
    iblk m c 1 t (ix2 b q) = at2 (m ((c.tc : Thread nD τ).loc main_arg1)) (b.val) q.val := by
  have hN : t.val < 4 := lt_of_lt_of_eq t.isLt N_0
  rw [at2_lt _ (by omega) (by omega)]
  blk_simp [iblk]
  entry_read
  rw [emb1]
  pointwise

/-- The product of the arguments. -/
def result (A : (⟨2, ![4096, 1024]⟩ : Shape).Idx → EReal) (B : (⟨2, ![1024, 1024]⟩ : Shape).Idx → EReal) : Vec Ideal S4096x1024 .bf16 := fun y =>
  ∑ k : Fin 1024, A (ix2 (y 0 : Fin 4096) k) * B (ix2 (y 1 : Fin 1024) k)

theorem emb2 (t : Fin cfg0.N) (a : Fin 1024) (b : Fin 1024) (h0 : 1024 * t.val + a.val < 4096) :
    (win0_2.blk t).view.emb (ix2 a b) = ix2 ⟨1024 * t.val + a.val, h0⟩ b := by
  blk_ext [idx2 t]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, eq_ix2 y⟩
  have hN : t.val < 4 := lt_of_lt_of_eq t.isLt N_0
  blk_simp
  rw [after0_2, outsAt0, out_A, emb2 _ _ _ (by omega)]
  refine (cast_apply _ a b).trans ((pay_apply _ _ _ a b).trans ?_)
  rw [zero_apply, zero_add]
  exact Finset.sum_congr rfl fun k _ => congrArg₂ (fun x y : EReal => x * y) ((blk0 m c t a k).trans (at2_lt _ _ _)) ((blk1 m c t b k).trans (at2_lt _ _ _))

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v2) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.ProjDxIdeal.Product

end
-- ==== Proof.ProjDwValue.lean ====
/- The gradient of a head projection's weight is one product. -/
module

public import proofs.«01_k».proof.Proof.Gen.ProjDwIdeal.Value
public import proofs.«01_k».proof.Proof.Blocked

@[expose] public section

set_option maxRecDepth 16384

noncomputable section

namespace Cert.ProjDwIdeal.Product

open Cert.ProjDwIdeal Cert.ProjDwIdeal.Gen Idealize.ShloMosaic Idealize.ShloMosaic.TcCoe Idealize.SL.Sem Blocked

section
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (s : Vec Ideal S1024x1024 .f32)

/-- The first point of a run leaves the first block's product. -/
theorem sout_A (h : cond0_0 i) (h' : ¬cond0_1 i) : sout0_A_0 c i a3 h3 a4 h4 a5 h5 a6 h6 h h' x0 x1 = k0_pay2 k0_pay1 x0 x1 := by
  frame_out

/-- A later point adds its block's product. -/
theorem sout_B (h : ¬cond0_0 i) (h' : ¬cond0_1 i) : sout0_B_0 c i a3 h3 a4 h4 a5 h5 a6 h6 h h' x0 x1 s = k0_pay2 s x0 x1 := by
  frame_out

theorem sout_C (h : ¬cond0_0 i) (h' : cond0_1 i) : sout0_C_0 c i a3 h3 a4 h4 a5 h5 a6 h6 h h' x0 x1 s = k0_pay2 s x0 x1 := by
  frame_out

/-- The last point of a run stores what it accumulated. -/
theorem out_C (h : ¬cond0_0 i) (h' : cond0_1 i) : out0_C_2 c i a3 h3 a4 h4 a5 h5 a6 h6 h h' x0 x1 s = k0_pay3 (k0_pay2 s x0 x1) := by
  frame_out

theorem pay_apply (a : Fin 1024) (b : Fin 1024) : k0_pay2 s x0 x1 (ix2 a b) = s (ix2 a b) + ∑ q : Fin 1024, x0 (ix2 q a) * x1 (ix2 q b) := by
  pointwise [k0_pay2]

theorem zero_apply (a : Fin 1024) (b : Fin 1024) : (k0_pay1 (F := Ideal)) (ix2 a b) = (0 : EReal) := by
  pointwise [k0_pay1]

theorem cast_apply (a : Fin 1024) (b : Fin 1024) : k0_pay3 s (ix2 a b) = s (ix2 a b) := by
  pointwise [k0_pay3]
end

variable (m : (ℓ : Loc nD τ sig) → Buf (Elt Ideal) ℓ)

theorem idx0 : ∀ t : Fin cfg0.N, win0_0.index t = ![t.val % 4, t.val / 4] := by decide +kernel
theorem idx1 : ∀ t : Fin cfg0.N, win0_1.index t = ![t.val % 4, 0] := by decide +kernel
theorem idx2 : ∀ t : Fin cfg0.N, win0_2.index t = ![t.val / 4, 0] := by decide +kernel

/-- The factors of element `(r, s)`'s terms. -/
def term (c : Dev nD) (r s k : ℕ) : EReal :=
  at2 (m ((c.tc : Thread nD τ).loc main_arg0)) k r * at2 (m ((c.tc : Thread nD τ).loc main_arg1)) k s

theorem emb0 (t : Fin cfg0.N) (q : Fin 1024) (a : Fin 1024) (h0 : 1024 * (t.val % 4) + q.val < 4096) (h1 : 1024 * (t.val / 4) + a.val < 1024) :
    (win0_0.blk t).view.emb (ix2 q a) = ix2 ⟨1024 * (t.val % 4) + q.val, h0⟩ ⟨1024 * (t.val / 4) + a.val, h1⟩ := by
  blk_ext [idx0 t]

theorem emb1 (t : Fin cfg0.N) (q b : Fin 1024) (h0 : 1024 * (t.val % 4) + q.val < 4096) :
    (win0_1.blk t).view.emb (ix2 q b) = ix2 ⟨1024 * (t.val % 4) + q.val, h0⟩ b := by
  blk_ext [idx1 t]

theorem blk0 (c : Dev nD) (t : Fin cfg0.N) (q : Fin 1024) (a : Fin 1024) :
    iblk m c 0 t (ix2 q a) = at2 (m ((c.tc : Thread nD τ).loc main_arg0)) (1024 * (t.val % 4) + q.val) (1024 * (t.val / 4) + a.val) := by
  have hN : t.val < 4 := lt_of_lt_of_eq t.isLt N_0
  rw [at2_lt _ (by omega) (by omega)]
  blk_simp [iblk]
  entry_read
  rw [emb0]
  · pointwise
  all_goals omega

theorem blk1 (c : Dev nD) (t : Fin cfg0.N) (q : Fin 1024) (b : Fin 1024) :
    iblk m c 1 t (ix2 q b) = at2 (m ((c.tc : Thread nD τ).loc main_arg1)) (1024 * (t.val % 4) + q.val) b.val := by
  have hN : t.val < 4 := lt_of_lt_of_eq t.isLt N_0
  rw [at2_lt _ (by omega) (by omega)]
  blk_simp [iblk]
  entry_read
  rw [emb1]
  · pointwise
  all_goals omega

theorem block (c : Dev nD) (t : Fin cfg0.N) (s : Vec Ideal S1024x1024 .f32) (a : Fin 1024) (b : Fin 1024) :
    k0_pay2 s (iblk m c 0 t) (iblk m c 1 t) (ix2 a b)
      = s (ix2 a b) + ∑ q : Fin 1024, term m c (1024 * (t.val / 4) + a.val) b.val (1024 * (t.val % 4) + q.val) := by
  refine (pay_apply _ _ s a b).trans (congrArg (fun z : EReal => s (ix2 a b) + z) (Finset.sum_congr rfl fun q _ => ?_))
  exact congrArg₂ (fun x y : EReal => x * y) (blk0 m c t q a) (blk1 m c t q b)

/-- What the accumulator holds after point `t`. -/
theorem acc (c : Dev nD) (a : Fin 1024) (b : Fin 1024) (t : ℕ) (h : t < cfg0.N) :
    (outsAt0 m c t h).2 (ix2 a b) = psum (term m c (1024 * (t / 4) + a.val) b.val) (1024 * (t % 4 + 1)) := by
  refine acc_run 4 1024 (fun t h => (outsAt0 m c t h).2 (ix2 a b)) (fun g => term m c (1024 * g + a.val) b.val) (fun t h h0 => ?_) (fun t h h0 => ?_) t h
  · rw [outsAt0_A m c ⟨t, h⟩ h0 (by dsimp only; omega)]
    dsimp only
    rw [sout_A, block, zero_apply]
  · by_cases h1 : t % 4 = 3
    · rw [outsAt0_C m c ⟨t, h⟩ h0 h1]
      dsimp only
      rw [sout_C, block]
    · rw [outsAt0_B m c ⟨t, h⟩ h0 h1]
      dsimp only
      rw [sout_B, block]

/-- The product of the arguments over their first axes. -/
def result (A : (⟨2, ![4096, 1024]⟩ : Shape).Idx → EReal) (B : (⟨2, ![4096, 1024]⟩ : Shape).Idx → EReal) : Vec Ideal S1024x1024 .bf16 := fun y =>
  ∑ k : Fin 4096, A (ix2 k (y 0 : Fin 1024)) * B (ix2 k (y 1 : Fin 1024))

theorem emb2 (t : Fin cfg0.N) (a : Fin 1024) (b : Fin 1024) (h0 : 1024 * (t.val / 4) + a.val < 1024) :
    (win0_2.blk t).view.emb (ix2 a b) = ix2 ⟨1024 * (t.val / 4) + a.val, h0⟩ b := by
  blk_ext [idx2 t]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, eq_ix2 y⟩
  have hN : t.val < 4 := lt_of_lt_of_eq t.isLt N_0
  have h1 : t.val % 4 = 3 := (flush0_2 t).mp hf
  have h0 : ¬ t.val % 4 = 0 := by omega
  have hs := acc m c a b t.val t.isLt
  rw [outsAt0_C m c t h0 h1] at hs
  dsimp only at hs
  rw [sout_C] at hs
  blk_simp
  rw [after0_2, outsAt0_C m c t h0 h1]
  dsimp only
  rw [out_C, cast_apply, emb2 _ _ _ (by omega)]
  refine hs.trans ?_
  rw [h1, psum_fin]
  exact Finset.sum_congr rfl fun k _ => by
    unfold term
    rw [at2_lt _ k.isLt (by omega), at2_fin]
    rfl

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v2) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.ProjDwIdeal.Product

end
-- ==== Proof.InQkvValue.lean ====
/- The projection to queries, keys and values is one product. -/
module

public import proofs.«01_k».proof.Proof.Gen.InQkvIdeal.Value
public import proofs.«01_k».proof.Proof.Blocked

@[expose] public section

set_option maxRecDepth 16384

noncomputable section

namespace Cert.InQkvIdeal.Product

open Cert.InQkvIdeal Cert.InQkvIdeal.Gen Idealize.ShloMosaic Idealize.ShloMosaic.TcCoe Idealize.SL.Sem Blocked

section
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (s : Vec Ideal S1024x1024 .f32)

/-- Each point resets the accumulator, adds its product and stores it. -/
theorem out_A (h : cond0_0 i) (h' : cond0_1 i) : out0_A_2 c i a3 h3 a4 h4 a5 h5 a6 h6 h h' x0 x1 = k0_pay3 (k0_pay2 k0_pay1 x0 x1) := by
  frame_out

theorem pay_apply (a : Fin 1024) (b : Fin 1024) : k0_pay2 s x0 x1 (ix2 a b) = s (ix2 a b) + ∑ q : Fin 1024, x0 (ix2 a q) * x1 (ix2 b q) := by
  pointwise [k0_pay2]

theorem zero_apply (a : Fin 1024) (b : Fin 1024) : (k0_pay1 (F := Ideal)) (ix2 a b) = (0 : EReal) := by
  pointwise [k0_pay1]

theorem cast_apply (a : Fin 1024) (b : Fin 1024) : k0_pay3 s (ix2 a b) = s (ix2 a b) := by
  pointwise [k0_pay3]
end

variable (m : (ℓ : Loc nD τ sig) → Buf (Elt Ideal) ℓ)

theorem idx0 : ∀ t : Fin cfg0.N, win0_0.index t = ![t.val / 3, 0] := by decide +kernel
theorem idx1 : ∀ t : Fin cfg0.N, win0_1.index t = ![t.val % 3, 0] := by decide +kernel
theorem idx2 : ∀ t : Fin cfg0.N, win0_2.index t = ![t.val / 3, t.val % 3] := by decide +kernel

theorem emb0 (t : Fin cfg0.N) (a q : Fin 1024) (h0 : 1024 * (t.val / 3) + a.val < 4096) :
    (win0_0.blk t).view.emb (ix2 a q) = ix2 ⟨1024 * (t.val / 3) + a.val, h0⟩ q := by
  blk_ext [idx0 t]

theorem emb1 (t : Fin cfg0.N) (b : Fin 1024) (q : Fin 1024) (h1 : 1024 * (t.val % 3) + b.val < 3072) :
    (win0_1.blk t).view.emb (ix2 b q) = ix2 ⟨1024 * (t.val % 3) + b.val, h1⟩ q := by
  blk_ext [idx1 t]

theorem blk0 (c : Dev nD) (t : Fin cfg0.N) (a q : Fin 1024) :
    iblk m c 0 t (ix2 a q) = at2 (m ((c.tc : Thread nD τ).loc main_arg0)) (1024 * (t.val / 3) + a.val) q.val := by
  have hN : t.val < 12 := lt_of_lt_of_eq t.isLt N_0
  rw [at2_lt _ (by omega) q.isLt]
  blk_simp [iblk]
  entry_read
  rw [emb0 _ _ _ (by omega)]
  pointwise

theorem blk1 (c : Dev nD) (t : Fin cfg0.N) (b : Fin 1024) (q : Fin 1024) :
    iblk m c 1 t (ix2 b q) = at2 (m ((c.tc : Thread nD τ).loc main_arg1)) q.val (1024 * (t.val % 3) + b.val) := by
  have hN : t.val < 12 := lt_of_lt_of_eq t.isLt N_0
  rw [at2_lt _ (by omega) (by omega)]
  blk_simp [iblk]
  entry_read
  rw [emb1 _ _ _ (by omega)]
  pointwise

/-- The product of the arguments. -/
def result (A : (⟨2, ![4096, 1024]⟩ : Shape).Idx → EReal) (B : (⟨2, ![1024, 3072]⟩ : Shape).Idx → EReal) : Vec Ideal S4096x3072 .bf16 := fun y =>
  ∑ k : Fin 1024, A (ix2 (y 0 : Fin 4096) k) * B (ix2 k (y 1 : Fin 3072))

theorem emb2 (t : Fin cfg0.N) (a : Fin 1024) (b : Fin 1024) (h0 : 1024 * (t.val / 3) + a.val < 4096) (h1 : 1024 * (t.val % 3) + b.val < 3072) :
    (win0_2.blk t).view.emb (ix2 a b) = ix2 ⟨1024 * (t.val / 3) + a.val, h0⟩ ⟨1024 * (t.val % 3) + b.val, h1⟩ := by
  blk_ext [idx2 t]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, eq_ix2 y⟩
  have hN : t.val < 12 := lt_of_lt_of_eq t.isLt N_0
  blk_simp
  rw [after0_2, outsAt0, out_A, emb2 _ _ _ (by omega) (by omega)]
  refine (cast_apply _ a b).trans ((pay_apply _ _ _ a b).trans ?_)
  rw [zero_apply, zero_add]
  exact Finset.sum_congr rfl fun k _ => congrArg₂ (fun x y : EReal => x * y) ((blk0 m c t a k).trans (at2_lt _ _ _)) ((blk1 m c t b k).trans (at2_lt _ _ _))

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.InQkvIdeal.Product

end
-- ==== Proof.InGateValue.lean ====
/- The projection to the delta rule's gate is one product. -/
module

public import proofs.«01_k».proof.Proof.Gen.InGateIdeal.Value
public import proofs.«01_k».proof.Proof.Blocked

@[expose] public section

set_option maxRecDepth 16384

noncomputable section

namespace Cert.InGateIdeal.Product

open Cert.InGateIdeal Cert.InGateIdeal.Gen Idealize.ShloMosaic Idealize.ShloMosaic.TcCoe Idealize.SL.Sem Blocked

section
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (s : Vec Ideal S1024x1024 .f32)

/-- Each point resets the accumulator, adds its product and stores it. -/
theorem out_A (h : cond0_0 i) (h' : cond0_1 i) : out0_A_2 c i a3 h3 a4 h4 a5 h5 a6 h6 h h' x0 x1 = k0_pay3 (k0_pay2 k0_pay1 x0 x1) := by
  frame_out

theorem pay_apply (a : Fin 1024) (b : Fin 1024) : k0_pay2 s x0 x1 (ix2 a b) = s (ix2 a b) + ∑ q : Fin 1024, x0 (ix2 a q) * x1 (ix2 b q) := by
  pointwise [k0_pay2]

theorem zero_apply (a : Fin 1024) (b : Fin 1024) : (k0_pay1 (F := Ideal)) (ix2 a b) = (0 : EReal) := by
  pointwise [k0_pay1]

theorem cast_apply (a : Fin 1024) (b : Fin 1024) : k0_pay3 s (ix2 a b) = s (ix2 a b) := by
  pointwise [k0_pay3]
end

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

theorem emb0 (t : Fin cfg0.N) (a q : Fin 1024) (h0 : 1024 * t.val + a.val < 4096) :
    (win0_0.blk t).view.emb (ix2 a q) = ix2 ⟨1024 * t.val + a.val, h0⟩ q := by
  blk_ext [idx0 t]

theorem emb1 (t : Fin cfg0.N) (b : Fin 1024) (q : Fin 1024) :
    (win0_1.blk t).view.emb (ix2 b q) = ix2 b q := by
  blk_ext [idx1 t]

theorem blk0 (c : Dev nD) (t : Fin cfg0.N) (a q : Fin 1024) :
    iblk m c 0 t (ix2 a q) = at2 (m ((c.tc : Thread nD τ).loc main_arg0)) (1024 * t.val + a.val) q.val := by
  have hN : t.val < 4 := lt_of_lt_of_eq t.isLt N_0
  rw [at2_lt _ (by omega) q.isLt]
  blk_simp [iblk]
  entry_read
  rw [emb0 _ _ _ (by omega)]
  pointwise

theorem blk1 (c : Dev nD) (t : Fin cfg0.N) (b : Fin 1024) (q : Fin 1024) :
    iblk m c 1 t (ix2 b q) = at2 (m ((c.tc : Thread nD τ).loc main_arg1)) q.val (b.val) := by
  have hN : t.val < 4 := lt_of_lt_of_eq t.isLt N_0
  rw [at2_lt _ (by omega) (by omega)]
  blk_simp [iblk]
  entry_read
  rw [emb1]
  pointwise

/-- The product of the arguments. -/
def result (A : (⟨2, ![4096, 1024]⟩ : Shape).Idx → EReal) (B : (⟨2, ![1024, 1024]⟩ : Shape).Idx → EReal) : Vec Ideal S4096x1024 .bf16 := fun y =>
  ∑ k : Fin 1024, A (ix2 (y 0 : Fin 4096) k) * B (ix2 k (y 1 : Fin 1024))

theorem emb2 (t : Fin cfg0.N) (a : Fin 1024) (b : Fin 1024) (h0 : 1024 * t.val + a.val < 4096) :
    (win0_2.blk t).view.emb (ix2 a b) = ix2 ⟨1024 * t.val + a.val, h0⟩ b := by
  blk_ext [idx2 t]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, eq_ix2 y⟩
  have hN : t.val < 4 := lt_of_lt_of_eq t.isLt N_0
  blk_simp
  rw [after0_2, outsAt0, out_A, emb2 _ _ _ (by omega)]
  refine (cast_apply _ a b).trans ((pay_apply _ _ _ a b).trans ?_)
  rw [zero_apply, zero_add]
  exact Finset.sum_congr rfl fun k _ => congrArg₂ (fun x y : EReal => x * y) ((blk0 m c t a k).trans (at2_lt _ _ _)) ((blk1 m c t b k).trans (at2_lt _ _ _))

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.InGateIdeal.Product

end
-- ==== Proof.InGlValue.lean ====
/- The projection to the merge gates is one product. -/
module

public import proofs.«01_k».proof.Proof.Gen.InGlIdeal.Value
public import proofs.«01_k».proof.Proof.Blocked

@[expose] public section

set_option maxRecDepth 16384

noncomputable section

namespace Cert.InGlIdeal.Product

open Cert.InGlIdeal Cert.InGlIdeal.Gen Idealize.ShloMosaic Idealize.ShloMosaic.TcCoe Idealize.SL.Sem Blocked

section
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (s : Vec Ideal S1024x1024 .f32)

/-- Each point resets the accumulator, adds its product and stores it. -/
theorem out_A (h : cond0_0 i) (h' : cond0_1 i) : out0_A_2 c i a3 h3 a4 h4 a5 h5 a6 h6 h h' x0 x1 = k0_pay3 (k0_pay2 k0_pay1 x0 x1) := by
  frame_out

theorem pay_apply (a : Fin 1024) (b : Fin 1024) : k0_pay2 s x0 x1 (ix2 a b) = s (ix2 a b) + ∑ q : Fin 1024, x0 (ix2 a q) * x1 (ix2 b q) := by
  pointwise [k0_pay2]

theorem zero_apply (a : Fin 1024) (b : Fin 1024) : (k0_pay1 (F := Ideal)) (ix2 a b) = (0 : EReal) := by
  pointwise [k0_pay1]

theorem cast_apply (a : Fin 1024) (b : Fin 1024) : k0_pay3 s (ix2 a b) = s (ix2 a b) := by
  pointwise [k0_pay3]
end

variable (m : (ℓ : Loc nD τ sig) → Buf (Elt Ideal) ℓ)

theorem idx0 : ∀ t : Fin cfg0.N, win0_0.index t = ![t.val / 2, 0] := by decide +kernel
theorem idx1 : ∀ t : Fin cfg0.N, win0_1.index t = ![t.val % 2, 0] := by decide +kernel
theorem idx2 : ∀ t : Fin cfg0.N, win0_2.index t = ![t.val / 2, t.val % 2] := by decide +kernel

theorem emb0 (t : Fin cfg0.N) (a q : Fin 1024) (h0 : 1024 * (t.val / 2) + a.val < 4096) :
    (win0_0.blk t).view.emb (ix2 a q) = ix2 ⟨1024 * (t.val / 2) + a.val, h0⟩ q := by
  blk_ext [idx0 t]

theorem emb1 (t : Fin cfg0.N) (b : Fin 1024) (q : Fin 1024) (h1 : 1024 * (t.val % 2) + b.val < 2048) :
    (win0_1.blk t).view.emb (ix2 b q) = ix2 ⟨1024 * (t.val % 2) + b.val, h1⟩ q := by
  blk_ext [idx1 t]

theorem blk0 (c : Dev nD) (t : Fin cfg0.N) (a q : Fin 1024) :
    iblk m c 0 t (ix2 a q) = at2 (m ((c.tc : Thread nD τ).loc main_arg0)) (1024 * (t.val / 2) + a.val) q.val := by
  have hN : t.val < 8 := lt_of_lt_of_eq t.isLt N_0
  rw [at2_lt _ (by omega) q.isLt]
  blk_simp [iblk]
  entry_read
  rw [emb0 _ _ _ (by omega)]
  pointwise

theorem blk1 (c : Dev nD) (t : Fin cfg0.N) (b : Fin 1024) (q : Fin 1024) :
    iblk m c 1 t (ix2 b q) = at2 (m ((c.tc : Thread nD τ).loc main_arg1)) q.val (1024 * (t.val % 2) + b.val) := by
  have hN : t.val < 8 := lt_of_lt_of_eq t.isLt N_0
  rw [at2_lt _ (by omega) (by omega)]
  blk_simp [iblk]
  entry_read
  rw [emb1 _ _ _ (by omega)]
  pointwise

/-- The product of the arguments. -/
def result (A : (⟨2, ![4096, 1024]⟩ : Shape).Idx → EReal) (B : (⟨2, ![1024, 2048]⟩ : Shape).Idx → EReal) : Vec Ideal S4096x2048 .bf16 := fun y =>
  ∑ k : Fin 1024, A (ix2 (y 0 : Fin 4096) k) * B (ix2 k (y 1 : Fin 2048))

theorem emb2 (t : Fin cfg0.N) (a : Fin 1024) (b : Fin 1024) (h0 : 1024 * (t.val / 2) + a.val < 4096) (h1 : 1024 * (t.val % 2) + b.val < 2048) :
    (win0_2.blk t).view.emb (ix2 a b) = ix2 ⟨1024 * (t.val / 2) + a.val, h0⟩ ⟨1024 * (t.val % 2) + b.val, h1⟩ := by
  blk_ext [idx2 t]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, eq_ix2 y⟩
  have hN : t.val < 8 := lt_of_lt_of_eq t.isLt N_0
  blk_simp
  rw [after0_2, outsAt0, out_A, emb2 _ _ _ (by omega) (by omega)]
  refine (cast_apply _ a b).trans ((pay_apply _ _ _ a b).trans ?_)
  rw [zero_apply, zero_add]
  exact Finset.sum_congr rfl fun k _ => congrArg₂ (fun x y : EReal => x * y) ((blk0 m c t a k).trans (at2_lt _ _ _)) ((blk1 m c t b k).trans (at2_lt _ _ _))

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.InGlIdeal.Product

end
-- ==== Proof.ProjOutValue.lean ====
/- A head projection is one product. -/
module

public import proofs.«01_k».proof.Proof.Gen.ProjOutIdeal.Value
public import proofs.«01_k».proof.Proof.Blocked

@[expose] public section

set_option maxRecDepth 16384

noncomputable section

namespace Cert.ProjOutIdeal.Product

open Cert.ProjOutIdeal Cert.ProjOutIdeal.Gen Idealize.ShloMosaic Idealize.ShloMosaic.TcCoe Idealize.SL.Sem Blocked

section
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (s : Vec Ideal S1024x1024 .f32)

/-- Each point resets the accumulator, adds its product and stores it. -/
theorem out_A (h : cond0_0 i) (h' : cond0_1 i) : out0_A_2 c i a3 h3 a4 h4 a5 h5 a6 h6 h h' x0 x1 = k0_pay3 (k0_pay2 k0_pay1 x0 x1) := by
  frame_out

theorem pay_apply (a : Fin 1024) (b : Fin 1024) : k0_pay2 s x0 x1 (ix2 a b) = s (ix2 a b) + ∑ q : Fin 1024, x0 (ix2 a q) * x1 (ix2 q b) := by
  pointwise [k0_pay2]

theorem zero_apply (a : Fin 1024) (b : Fin 1024) : (k0_pay1 (F := Ideal)) (ix2 a b) = (0 : EReal) := by
  pointwise [k0_pay1]

theorem cast_apply (a : Fin 1024) (b : Fin 1024) : k0_pay3 s (ix2 a b) = s (ix2 a b) := by
  pointwise [k0_pay3]
end

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

theorem emb0 (t : Fin cfg0.N) (a q : Fin 1024) (h0 : 1024 * t.val + a.val < 4096) :
    (win0_0.blk t).view.emb (ix2 a q) = ix2 ⟨1024 * t.val + a.val, h0⟩ q := by
  blk_ext [idx0 t]

theorem emb1 (t : Fin cfg0.N) (b : Fin 1024) (q : Fin 1024) :
    (win0_1.blk t).view.emb (ix2 q b) = ix2 q b := by
  blk_ext [idx1 t]

theorem blk0 (c : Dev nD) (t : Fin cfg0.N) (a q : Fin 1024) :
    iblk m c 0 t (ix2 a q) = at2 (m ((c.tc : Thread nD τ).loc main_arg0)) (1024 * t.val + a.val) q.val := by
  have hN : t.val < 4 := lt_of_lt_of_eq t.isLt N_0
  rw [at2_lt _ (by omega) q.isLt]
  blk_simp [iblk]
  entry_read
  rw [emb0 _ _ _ (by omega)]
  pointwise

theorem blk1 (c : Dev nD) (t : Fin cfg0.N) (b : Fin 1024) (q : Fin 1024) :
    iblk m c 1 t (ix2 q b) = at2 (m ((c.tc : Thread nD τ).loc main_arg1)) q.val (b.val) := by
  have hN : t.val < 4 := lt_of_lt_of_eq t.isLt N_0
  rw [at2_lt _ (by omega) (by omega)]
  blk_simp [iblk]
  entry_read
  rw [emb1]
  pointwise

/-- The product of the arguments. -/
def result (A : (⟨2, ![4096, 1024]⟩ : Shape).Idx → EReal) (B : (⟨2, ![1024, 1024]⟩ : Shape).Idx → EReal) : Vec Ideal S4096x1024 .bf16 := fun y =>
  ∑ k : Fin 1024, A (ix2 (y 0 : Fin 4096) k) * B (ix2 k (y 1 : Fin 1024))

theorem emb2 (t : Fin cfg0.N) (a : Fin 1024) (b : Fin 1024) (h0 : 1024 * t.val + a.val < 4096) :
    (win0_2.blk t).view.emb (ix2 a b) = ix2 ⟨1024 * t.val + a.val, h0⟩ b := by
  blk_ext [idx2 t]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, eq_ix2 y⟩
  have hN : t.val < 4 := lt_of_lt_of_eq t.isLt N_0
  blk_simp
  rw [after0_2, outsAt0, out_A, emb2 _ _ _ (by omega)]
  refine (cast_apply _ a b).trans ((pay_apply _ _ _ a b).trans ?_)
  rw [zero_apply, zero_add]
  exact Finset.sum_congr rfl fun k _ => congrArg₂ (fun x y : EReal => x * y) ((blk0 m c t a k).trans (at2_lt _ _ _)) ((blk1 m c t b k).trans (at2_lt _ _ _))

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v2) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.ProjOutIdeal.Product

end
-- ==== Proof.OutProjValue.lean ====
/- The output projection is one product, added to the residual stream. -/
module

public import proofs.«01_k».proof.Proof.Gen.OutProjIdeal.Value
public import proofs.«01_k».proof.Proof.Blocked

@[expose] public section

set_option maxRecDepth 16384

noncomputable section

namespace Cert.OutProjIdeal.Product

open Cert.OutProjIdeal Cert.OutProjIdeal.Gen Idealize.ShloMosaic Idealize.ShloMosaic.TcCoe Idealize.SL.Sem Blocked

section
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x0 : Vec Ideal S1024x1024 .bf16) (x1 : Vec Ideal S1024x1024 .bf16) (x2 s : Vec Ideal S1024x1024 .f32)

/-- Each point resets the accumulator, adds its product and stores it and what is added. -/
theorem out_A (h : cond0_0 i) (h' : cond0_1 i) : out0_A_3 c i a3 h3 a4 h4 a5 h5 a6 h6 a7 h7 h h' x0 x1 x2 = k0_pay3 (k0_pay2 k0_pay1 x0 x1) x2 := by
  frame_out

theorem pay_apply (a : Fin 1024) (b : Fin 1024) : k0_pay2 s x0 x1 (ix2 a b) = s (ix2 a b) + ∑ q : Fin 1024, x0 (ix2 a q) * x1 (ix2 q b) := by
  pointwise [k0_pay2]

theorem zero_apply (a : Fin 1024) (b : Fin 1024) : (k0_pay1 (F := Ideal)) (ix2 a b) = (0 : EReal) := by
  pointwise [k0_pay1]

theorem add_apply (a b : Fin 1024) : k0_pay3 s x2 (ix2 a b) = s (ix2 a b) + x2 (ix2 a b) := by
  pointwise [k0_pay3]
end

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel

theorem emb0 (t : Fin cfg0.N) (a q : Fin 1024) (h0 : 1024 * t.val + a.val < 4096) :
    (win0_0.blk t).view.emb (ix2 a q) = ix2 ⟨1024 * t.val + a.val, h0⟩ q := by
  blk_ext [idx0 t]

theorem emb1 (t : Fin cfg0.N) (b : Fin 1024) (q : Fin 1024) :
    (win0_1.blk t).view.emb (ix2 q b) = ix2 q b := by
  blk_ext [idx1 t]

theorem blk0 (c : Dev nD) (t : Fin cfg0.N) (a q : Fin 1024) :
    iblk m c 0 t (ix2 a q) = at2 (m ((c.tc : Thread nD τ).loc main_arg0)) (1024 * t.val + a.val) q.val := by
  have hN : t.val < 4 := lt_of_lt_of_eq t.isLt N_0
  rw [at2_lt _ (by omega) q.isLt]
  blk_simp [iblk]
  entry_read
  rw [emb0 _ _ _ (by omega)]
  pointwise

theorem blk1 (c : Dev nD) (t : Fin cfg0.N) (b : Fin 1024) (q : Fin 1024) :
    iblk m c 1 t (ix2 q b) = at2 (m ((c.tc : Thread nD τ).loc main_arg1)) q.val (b.val) := by
  have hN : t.val < 4 := lt_of_lt_of_eq t.isLt N_0
  rw [at2_lt _ (by omega) (by omega)]
  blk_simp [iblk]
  entry_read
  rw [emb1]
  pointwise

/-- The product of the arguments, and what is added. -/
def result (A : (⟨2, ![4096, 1024]⟩ : Shape).Idx → EReal) (B : (⟨2, ![1024, 1024]⟩ : Shape).Idx → EReal)
    (R : (⟨2, ![4096, 1024]⟩ : Shape).Idx → EReal) : Vec Ideal S4096x1024 .f32 := fun y =>
  (∑ k : Fin 1024, A (ix2 (y 0 : Fin 4096) k) * B (ix2 k (y 1 : Fin 1024))) + R (ix2 (y 0 : Fin 4096) (y 1 : Fin 1024))

theorem blk2 (c : Dev nD) (t : Fin cfg0.N) (a b : Fin 1024) (h0 : 1024 * t.val + a.val < 4096) :
    iblk m c 2 t (ix2 a b) = m ((c.tc : Thread nD τ).loc main_arg2) (ix2 ⟨1024 * t.val + a.val, h0⟩ b) := by
  blk_simp [iblk]
  entry_read
  blk_ext [idx2 t]

theorem emb3 (t : Fin cfg0.N) (a b : Fin 1024) (h0 : 1024 * t.val + a.val < 4096) :
    (win0_3.blk t).view.emb (ix2 a b) = ix2 ⟨1024 * t.val + a.val, h0⟩ b := by
  blk_ext [idx3 t]

theorem final (c : Dev nD) : (dats m 0 c).arrAt 3 cfg0.N = result (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨a, b, rfl⟩ : ∃ (a b : Fin 1024), y = ix2 a b := ⟨y 0, y 1, eq_ix2 y⟩
  have hN : t.val < 4 := lt_of_lt_of_eq t.isLt N_0
  blk_simp
  rw [after0_3, outsAt0, out_A, emb3 _ _ _ (by omega), add_apply]
  refine congrArg₂ (fun x y : EReal => x + y) ((pay_apply _ _ _ a b).trans ?_) (blk2 m c t a b _)
  rw [zero_apply, zero_add]
  exact Finset.sum_congr rfl fun k _ => congrArg₂ (fun x y : EReal => x * y) ((blk0 m c t a k).trans (at2_lt _ _ _)) ((blk1 m c t b k).trans (at2_lt _ _ _))

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v2) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.OutProjIdeal.Product

end
-- ==== Proof.FfnUpValue.lean ====
/- The up projection is one product. -/
module

public import proofs.«01_k».proof.Proof.Gen.FfnUpIdeal.Value
public import proofs.«01_k».proof.Proof.Blocked

@[expose] public section

set_option maxRecDepth 16384

noncomputable section

namespace Cert.FfnUpIdeal.Product

open Cert.FfnUpIdeal Cert.FfnUpIdeal.Gen Idealize.ShloMosaic Idealize.ShloMosaic.TcCoe Idealize.SL.Sem Blocked

section
variable (c : Dev nD) (i : grid0.Coords) (a3 : Memref sig .tc .vmem S1024x1024 .bf16) (h3 : a3.IsWhole) (a4 : Memref sig .tc .vmem S1408x1024 .bf16) (h4 : a4.IsWhole)
  (a5 : Memref sig .tc .vmem S1024x1408 .bf16) (h5 : a5.IsWhole) (a6 : Memref sig .tc .vmem S1024x1408 .f32) (h6 : a6.IsWhole)
  (x0 : Vec Ideal S1024x1024 .bf16) (x1 : Vec Ideal S1408x1024 .bf16) (s : Vec Ideal S1024x1408 .f32)

/-- Each point resets the accumulator, adds its product and stores it. -/
theorem out_A (h : cond0_0 i) (h' : cond0_1 i) : out0_A_2 c i a3 h3 a4 h4 a5 h5 a6 h6 h h' x0 x1 = k0_pay3 (k0_pay2 k0_pay1 x0 x1) := by
  frame_out

theorem pay_apply (a : Fin 1024) (b : Fin 1408) : k0_pay2 s x0 x1 (ix2 a b) = s (ix2 a b) + ∑ q : Fin 1024, x0 (ix2 a q) * x1 (ix2 b q) := by
  pointwise [k0_pay2]

theorem zero_apply (a : Fin 1024) (b : Fin 1408) : (k0_pay1 (F := Ideal)) (ix2 a b) = (0 : EReal) := by
  pointwise [k0_pay1]

theorem cast_apply (a : Fin 1024) (b : Fin 1408) : k0_pay3 s (ix2 a b) = s (ix2 a b) := by
  pointwise [k0_pay3]
end

variable (m : (ℓ : Loc nD τ sig) → Buf (Elt Ideal) ℓ)

theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, t.val % 4] := by decide +kernel

theorem emb0 (t : Fin cfg0.N) (a q : Fin 1024) (h0 : 1024 * (t.val / 4) + a.val < 4096) :
    (win0_0.blk t).view.emb (ix2 a q) = ix2 ⟨1024 * (t.val / 4) + a.val, h0⟩ q := by
  blk_ext [idx0 t]

theorem emb1 (t : Fin cfg0.N) (b : Fin 1408) (q : Fin 1024) (h1 : 1408 * (t.val % 4) + b.val < 5632) :
    (win0_1.blk t).view.emb (ix2 b q) = ix2 ⟨1408 * (t.val % 4) + b.val, h1⟩ q := by
  blk_ext [idx1 t]

theorem blk0 (c : Dev nD) (t : Fin cfg0.N) (a q : Fin 1024) :
    iblk m c 0 t (ix2 a q) = at2 (m ((c.tc : Thread nD τ).loc main_arg0)) (1024 * (t.val / 4) + a.val) q.val := by
  have hN : t.val < 16 := lt_of_lt_of_eq t.isLt N_0
  rw [at2_lt _ (by omega) q.isLt]
  blk_simp [iblk]
  entry_read
  rw [emb0 _ _ _ (by omega)]
  pointwise

theorem blk1 (c : Dev nD) (t : Fin cfg0.N) (b : Fin 1408) (q : Fin 1024) :
    iblk m c 1 t (ix2 b q) = at2 (m ((c.tc : Thread nD τ).loc main_arg1)) q.val (1408 * (t.val % 4) + b.val) := by
  have hN : t.val < 16 := lt_of_lt_of_eq t.isLt N_0
  rw [at2_lt _ (by omega) (by omega)]
  blk_simp [iblk]
  entry_read
  rw [emb1 _ _ _ (by omega)]
  pointwise

/-- The product of the arguments. -/
def result (A : (⟨2, ![4096, 1024]⟩ : Shape).Idx → EReal) (B : (⟨2, ![1024, 5632]⟩ : Shape).Idx → EReal) : Vec Ideal S4096x5632 .bf16 := fun y =>
  ∑ k : Fin 1024, A (ix2 (y 0 : Fin 4096) k) * B (ix2 k (y 1 : Fin 5632))

theorem emb2 (t : Fin cfg0.N) (a : Fin 1024) (b : Fin 1408) (h0 : 1024 * (t.val / 4) + a.val < 4096) (h1 : 1408 * (t.val % 4) + b.val < 5632) :
    (win0_2.blk t).view.emb (ix2 a b) = ix2 ⟨1024 * (t.val / 4) + a.val, h0⟩ ⟨1408 * (t.val % 4) + b.val, h1⟩ := by
  blk_ext [idx2 t]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1024) (b : Fin 1408), y = ix2 a b := ⟨y 0, y 1, eq_ix2 y⟩
  have hN : t.val < 16 := lt_of_lt_of_eq t.isLt N_0
  blk_simp
  rw [after0_2, outsAt0, out_A, emb2 _ _ _ (by omega) (by omega)]
  refine (cast_apply _ a b).trans ((pay_apply _ _ _ a b).trans ?_)
  rw [zero_apply, zero_add]
  exact Finset.sum_congr rfl fun k _ => congrArg₂ (fun x y : EReal => x * y) ((blk0 m c t a k).trans (at2_lt _ _ _)) ((blk1 m c t b k).trans (at2_lt _ _ _))

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.FfnUpIdeal.Product

end
-- ==== Proof.FfnDownValue.lean ====
/- The down projection is one product, added to the residual stream. -/
module

public import proofs.«01_k».proof.Proof.Gen.FfnDownIdeal.Value
public import proofs.«01_k».proof.Proof.Blocked

@[expose] public section

set_option maxRecDepth 16384

noncomputable section

namespace Cert.FfnDownIdeal.Product

open Cert.FfnDownIdeal Cert.FfnDownIdeal.Gen Idealize.ShloMosaic Idealize.ShloMosaic.TcCoe Idealize.SL.Sem Blocked

section
variable (c : Dev nD) (i : grid0.Coords) (a3 : Memref sig .tc .vmem S1024x1408 .bf16) (h3 : a3.IsWhole) (a4 : Memref sig .tc .vmem S1408x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x0 : Vec Ideal S1024x1408 .bf16) (x1 : Vec Ideal S1408x1024 .bf16) (x2 s : Vec Ideal S1024x1024 .f32)

/-- The first point of a run leaves the first block's product. -/
theorem sout_A (h : cond0_0 i) (h' : ¬cond0_1 i) : sout0_A_0 c i a3 h3 a4 h4 a5 h5 a6 h6 a7 h7 h h' x0 x1 x2 = k0_pay2 k0_pay1 x0 x1 := by
  frame_out

/-- The later point adds its block's product. -/
theorem sout_B (h : ¬cond0_0 i) (h' : cond0_1 i) : sout0_B_0 c i a3 h3 a4 h4 a5 h5 a6 h6 a7 h7 h h' x0 x1 x2 s = k0_pay2 s x0 x1 := by
  frame_out

/-- The last point of a run stores what it accumulated. -/
theorem out_B (h : ¬cond0_0 i) (h' : cond0_1 i) : out0_B_3 c i a3 h3 a4 h4 a5 h5 a6 h6 a7 h7 h h' x0 x1 x2 s = k0_pay3 (k0_pay2 s x0 x1) x2 := by
  frame_out

theorem pay_apply (a b : Fin 1024) : k0_pay2 s x0 x1 (ix2 a b) = s (ix2 a b) + ∑ q : Fin 1408, x0 (ix2 a q) * x1 (ix2 q b) := by
  pointwise [k0_pay2]

theorem zero_apply (a b : Fin 1024) : (k0_pay1 (F := Ideal)) (ix2 a b) = (0 : EReal) := by
  pointwise [k0_pay1]

theorem add_apply (a b : Fin 1024) : k0_pay3 s x2 (ix2 a b) = s (ix2 a b) + x2 (ix2 a b) := by
  pointwise [k0_pay3]
end

variable (m : (ℓ : Loc nD τ sig) → Buf (Elt Ideal) ℓ)

theorem idx0 : ∀ t : Fin cfg0.N, win0_0.index t = ![t.val / 2, t.val % 2] := by decide +kernel
theorem idx1 : ∀ t : Fin cfg0.N, win0_1.index t = ![t.val % 2, 0] := by decide +kernel
theorem idx2 : ∀ t : Fin cfg0.N, win0_2.index t = ![t.val / 2, 0] := by decide +kernel
theorem idx3 : ∀ t : Fin cfg0.N, win0_3.index t = ![t.val / 2, 0] := by decide +kernel

/-- The factors of element `(r, s)`'s terms. -/
def term (c : Dev nD) (r s k : ℕ) : EReal :=
  at2 (m ((c.tc : Thread nD τ).loc main_arg0)) r k * at2 (m ((c.tc : Thread nD τ).loc main_arg1)) k s

theorem emb0 (t : Fin cfg0.N) (a : Fin 1024) (q : Fin 1408) (h0 : 1024 * (t.val / 2) + a.val < 4096) (h1 : 1408 * (t.val % 2) + q.val < 2816) :
    (win0_0.blk t).view.emb (ix2 a q) = ix2 ⟨1024 * (t.val / 2) + a.val, h0⟩ ⟨1408 * (t.val % 2) + q.val, h1⟩ := by
  blk_ext [idx0 t]

theorem emb1 (t : Fin cfg0.N) (q : Fin 1408) (b : Fin 1024) (h1 : 1408 * (t.val % 2) + q.val < 2816) :
    (win0_1.blk t).view.emb (ix2 q b) = ix2 ⟨1408 * (t.val % 2) + q.val, h1⟩ b := by
  blk_ext [idx1 t]

theorem blk0 (c : Dev nD) (t : Fin cfg0.N) (a : Fin 1024) (q : Fin 1408) :
    iblk m c 0 t (ix2 a q) = at2 (m ((c.tc : Thread nD τ).loc main_arg0)) (1024 * (t.val / 2) + a.val) (1408 * (t.val % 2) + q.val) := by
  have hN : t.val < 8 := lt_of_lt_of_eq t.isLt N_0
  rw [at2_lt _ (by omega) (by omega)]
  blk_simp [iblk]
  entry_read
  rw [emb0]
  · pointwise
  all_goals omega

theorem blk1 (c : Dev nD) (t : Fin cfg0.N) (q : Fin 1408) (b : Fin 1024) :
    iblk m c 1 t (ix2 q b) = at2 (m ((c.tc : Thread nD τ).loc main_arg1)) (1408 * (t.val % 2) + q.val) b.val := by
  have hN : t.val < 8 := lt_of_lt_of_eq t.isLt N_0
  rw [at2_lt _ (by omega) (by omega)]
  blk_simp [iblk]
  entry_read
  rw [emb1]
  · pointwise
  all_goals omega

theorem block (c : Dev nD) (t : Fin cfg0.N) (s : Vec Ideal S1024x1024 .f32) (a b : Fin 1024) :
    k0_pay2 s (iblk m c 0 t) (iblk m c 1 t) (ix2 a b)
      = s (ix2 a b) + ∑ q : Fin 1408, term m c (1024 * (t.val / 2) + a.val) b.val (1408 * (t.val % 2) + q.val) := by
  refine (pay_apply _ _ s a b).trans (congrArg (fun z : EReal => s (ix2 a b) + z) (Finset.sum_congr rfl fun q _ => ?_))
  exact congrArg₂ (fun x y : EReal => x * y) (blk0 m c t a q) (blk1 m c t q b)

/-- What the accumulator holds after point `t`. -/
theorem acc (c : Dev nD) (a b : Fin 1024) (t : ℕ) (h : t < cfg0.N) :
    (outsAt0 m c t h).2 (ix2 a b) = psum (term m c (1024 * (t / 2) + a.val) b.val) (1408 * (t % 2 + 1)) := by
  refine acc_run 2 1408 (fun t h => (outsAt0 m c t h).2 (ix2 a b)) (fun g => term m c (1024 * g + a.val) b.val) (fun t h h0 => ?_) (fun t h h0 => ?_) t h
  · rw [outsAt0_A m c ⟨t, h⟩ h0 (by dsimp only; omega)]
    dsimp only
    rw [sout_A, block, zero_apply]
  · rw [outsAt0_B m c ⟨t, h⟩ h0 (by dsimp only; omega)]
    dsimp only
    rw [sout_B, block]

/-- The product of the arguments and what is added. -/
def result (A : (⟨2, ![4096, 2816]⟩ : Shape).Idx → EReal) (B : (⟨2, ![2816, 1024]⟩ : Shape).Idx → EReal)
    (R : (⟨2, ![4096, 1024]⟩ : Shape).Idx → EReal) : Vec Ideal S4096x1024 .f32 := fun y =>
  (∑ k : Fin 2816, A (ix2 (y 0 : Fin 4096) k) * B (ix2 k (y 1 : Fin 1024))) + R (ix2 (y 0 : Fin 4096) (y 1 : Fin 1024))

theorem blk2 (c : Dev nD) (t : Fin cfg0.N) (a b : Fin 1024) (h0 : 1024 * (t.val / 2) + a.val < 4096) :
    iblk m c 2 t (ix2 a b) = m ((c.tc : Thread nD τ).loc main_arg2) (ix2 ⟨1024 * (t.val / 2) + a.val, h0⟩ b) := by
  blk_simp [iblk]
  entry_read
  blk_ext [idx2 t]

theorem emb3 (t : Fin cfg0.N) (a b : Fin 1024) (h0 : 1024 * (t.val / 2) + a.val < 4096) :
    (win0_3.blk t).view.emb (ix2 a b) = ix2 ⟨1024 * (t.val / 2) + a.val, h0⟩ b := by
  blk_ext [idx3 t]

theorem final (c : Dev nD) : (dats m 0 c).arrAt 3 cfg0.N = result (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨a, b, rfl⟩ : ∃ (a b : Fin 1024), y = ix2 a b := ⟨y 0, y 1, eq_ix2 y⟩
  have hN : t.val < 8 := lt_of_lt_of_eq t.isLt N_0
  have h1 : t.val % 2 = 1 := (flush0_3 t).mp hf
  have h0 : ¬ t.val % 2 = 0 := by omega
  have hs := acc m c a b t.val t.isLt
  rw [outsAt0_B m c t h0 h1] at hs
  dsimp only at hs
  rw [sout_B] at hs
  blk_simp
  rw [after0_3, outsAt0_B m c t h0 h1]
  dsimp only
  rw [out_B, add_apply, emb3 _ _ _ (by omega)]
  refine congrArg₂ (fun x y : EReal => x + y) (hs.trans ?_) (blk2 m c t a b _)
  rw [h1, psum_fin]
  exact Finset.sum_congr rfl fun k _ => by
    unfold term
    rw [at2_lt _ (by omega) k.isLt, at2_fin]
    rfl

variable (ρ : Dev nD → PrngReg)

/-- THE KERNEL'S RUN: its result is the product, its arguments unchanged. -/
theorem run : θ_run (defs (F := Ideal)) (onTc (τ := τ) (main (F := Ideal))) ⟨m, fun _ => 0, ρ⟩ fun r => ∀ c : Dev nD,
      r.2.mem ((c.tc : Thread nD τ).loc main_v2) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.FfnDownIdeal.Product

end
-- ==== Proof.Products.lean ====
/- The products of the step: each program's value against its reference's, and the references' frames. -/
module

public import proofs.«01_k».proof.Defs
public import proofs.«01_k».proof.Proof.Gen.DownDxIdeal
public import proofs.«01_k».proof.Proof.Gen.DownDxRefIdeal
public import proofs.«01_k».proof.Proof.Gen.DownDxRefIdeal.Run
public import proofs.«01_k».proof.Proof.DownDxValue
public import proofs.«01_k».proof.Proof.Gen.DownDwIdeal
public import proofs.«01_k».proof.Proof.Gen.DownDwRefIdeal
public import proofs.«01_k».proof.Proof.Gen.DownDwRefIdeal.Run
public import proofs.«01_k».proof.Proof.DownDwValue
public import proofs.«01_k».proof.Proof.Gen.UpDxIdeal
public import proofs.«01_k».proof.Proof.Gen.UpDxRefIdeal
public import proofs.«01_k».proof.Proof.Gen.UpDxRefIdeal.Run
public import proofs.«01_k».proof.Proof.UpDxValue
public import proofs.«01_k».proof.Proof.Gen.UpDwIdeal
public import proofs.«01_k».proof.Proof.Gen.UpDwRefIdeal
public import proofs.«01_k».proof.Proof.Gen.UpDwRefIdeal.Run
public import proofs.«01_k».proof.Proof.UpDwValue
public import proofs.«01_k».proof.Proof.Gen.InDxIdeal
public import proofs.«01_k».proof.Proof.Gen.InDxRefIdeal
public import proofs.«01_k».proof.Proof.Gen.InDxRefIdeal.Run
public import proofs.«01_k».proof.Proof.InDxValue
public import proofs.«01_k».proof.Proof.Gen.InDwIdeal
public import proofs.«01_k».proof.Proof.Gen.InDwRefIdeal
public import proofs.«01_k».proof.Proof.Gen.InDwRefIdeal.Run
public import proofs.«01_k».proof.Proof.InDwValue
public import proofs.«01_k».proof.Proof.Gen.OutDxIdeal
public import proofs.«01_k».proof.Proof.Gen.OutDxRefIdeal
public import proofs.«01_k».proof.Proof.Gen.OutDxRefIdeal.Run
public import proofs.«01_k».proof.Proof.OutDxValue
public import proofs.«01_k».proof.Proof.Gen.OutDwIdeal
public import proofs.«01_k».proof.Proof.Gen.OutDwRefIdeal
public import proofs.«01_k».proof.Proof.Gen.OutDwRefIdeal.Run
public import proofs.«01_k».proof.Proof.OutDwValue
public import proofs.«01_k».proof.Proof.Gen.ProjDxIdeal
public import proofs.«01_k».proof.Proof.Gen.ProjDxRefIdeal
public import proofs.«01_k».proof.Proof.Gen.ProjDxRefIdeal.Run
public import proofs.«01_k».proof.Proof.ProjDxValue
public import proofs.«01_k».proof.Proof.Gen.ProjDwIdeal
public import proofs.«01_k».proof.Proof.Gen.ProjDwRefIdeal
public import proofs.«01_k».proof.Proof.Gen.ProjDwRefIdeal.Run
public import proofs.«01_k».proof.Proof.ProjDwValue
public import proofs.«01_k».proof.Proof.Gen.InQkvIdeal
public import proofs.«01_k».proof.Proof.Gen.InQkvRefIdeal
public import proofs.«01_k».proof.Proof.Gen.InQkvRefIdeal.Run
public import proofs.«01_k».proof.Proof.InQkvValue
public import proofs.«01_k».proof.Proof.Gen.InGateIdeal
public import proofs.«01_k».proof.Proof.Gen.InGateRefIdeal
public import proofs.«01_k».proof.Proof.Gen.InGateRefIdeal.Run
public import proofs.«01_k».proof.Proof.InGateValue
public import proofs.«01_k».proof.Proof.Gen.InGlIdeal
public import proofs.«01_k».proof.Proof.Gen.InGlRefIdeal
public import proofs.«01_k».proof.Proof.Gen.InGlRefIdeal.Run
public import proofs.«01_k».proof.Proof.InGlValue
public import proofs.«01_k».proof.Proof.Gen.ProjOutIdeal
public import proofs.«01_k».proof.Proof.Gen.ProjOutRefIdeal
public import proofs.«01_k».proof.Proof.Gen.ProjOutRefIdeal.Run
public import proofs.«01_k».proof.Proof.ProjOutValue
public import proofs.«01_k».proof.Proof.Gen.OutProjIdeal
public import proofs.«01_k».proof.Proof.Gen.OutProjRefIdeal
public import proofs.«01_k».proof.Proof.Gen.OutProjRefIdeal.Run
public import proofs.«01_k».proof.Proof.OutProjValue
public import proofs.«01_k».proof.Proof.Gen.FfnUpIdeal
public import proofs.«01_k».proof.Proof.Gen.FfnUpRefIdeal
public import proofs.«01_k».proof.Proof.Gen.FfnUpRefIdeal.Run
public import proofs.«01_k».proof.Proof.FfnUpValue
public import proofs.«01_k».proof.Proof.Gen.FfnDownIdeal
public import proofs.«01_k».proof.Proof.Gen.FfnDownRefIdeal
public import proofs.«01_k».proof.Proof.Gen.FfnDownRefIdeal.Run
public import proofs.«01_k».proof.Proof.FfnDownValue
public import Idealize.ShloMosaic.Adequacy
public import Idealize.ShloMosaic.Init
public import Idealize.ShloMosaic.Lib.Quiescent

@[expose] public section

noncomputable section

namespace Cert.Proof.Products

open Idealize.ShloMosaic Idealize.SL.Sem

/-- The reference of the gradient of the down projection's input leaves its arguments unchanged. -/
theorem frameDownDx : Cert.quiescent_DownDxRefIdeal (hDownDxRefIdeal := Cert.DownDxRefIdeal.Gen.facts) := fun m ρ _ =>
  (θ_run _ _ _).mono (fun r h => ⟨fun c => (h c).2, sem_eq_zero_of_no_sems (by decide) _⟩) (Cert.DownDxRefIdeal.Value.run m ρ)

/-- The gradient of the down projection's input is the reference's. -/
theorem valueDownDx : Cert.algebraic_DownDxIdeal_DownDxRefIdeal (hDownDxIdeal := Cert.DownDxIdeal.Gen.facts)
    (hDownDxRefIdeal := Cert.DownDxRefIdeal.Gen.facts) := fun m ρ m' ρ' _ hag => by
  refine ⟨fun c => _, Cert.DownDxIdeal.Product.run m ρ,
    (θ_run _ _ _).mono (fun r h c => ⟨(h c).1.trans ?_, (h c).2⟩) (Cert.DownDxRefIdeal.Value.run m' ρ')⟩
  rw [(hag c).1, (hag c).2]
  funext y
  obtain ⟨a, b, rfl⟩ : ∃ (a : Fin 4096) (b : Fin 2816), y = ix2 a b := ⟨y 0, y 1, eq_ix2 y⟩
  unfold Cert.DownDxIdeal.Product.result
  pointwise

/-- The reference of the gradient of the down projection's weight leaves its arguments unchanged. -/
theorem frameDownDw : Cert.quiescent_DownDwRefIdeal (hDownDwRefIdeal := Cert.DownDwRefIdeal.Gen.facts) := fun m ρ _ =>
  (θ_run _ _ _).mono (fun r h => ⟨fun c => (h c).2, sem_eq_zero_of_no_sems (by decide) _⟩) (Cert.DownDwRefIdeal.Value.run m ρ)

/-- The gradient of the down projection's weight is the reference's. -/
theorem valueDownDw : Cert.algebraic_DownDwIdeal_DownDwRefIdeal (hDownDwIdeal := Cert.DownDwIdeal.Gen.facts)
    (hDownDwRefIdeal := Cert.DownDwRefIdeal.Gen.facts) := fun m ρ m' ρ' _ hag => by
  refine ⟨fun c => _, Cert.DownDwIdeal.Product.run m ρ,
    (θ_run _ _ _).mono (fun r h c => ⟨(h c).1.trans ?_, (h c).2⟩) (Cert.DownDwRefIdeal.Value.run m' ρ')⟩
  rw [(hag c).1, (hag c).2]
  funext y
  obtain ⟨a, b, rfl⟩ : ∃ (a : Fin 2816) (b : Fin 1024), y = ix2 a b := ⟨y 0, y 1, eq_ix2 y⟩
  unfold Cert.DownDwIdeal.Product.result
  pointwise
  exact Finset.sum_congr rfl fun k _ => mul_comm _ _

/-- The reference of the gradient of the up projection's input leaves its arguments unchanged. -/
theorem frameUpDx : Cert.quiescent_UpDxRefIdeal (hUpDxRefIdeal := Cert.UpDxRefIdeal.Gen.facts) := fun m ρ _ =>
  (θ_run _ _ _).mono (fun r h => ⟨fun c => (h c).2, sem_eq_zero_of_no_sems (by decide) _⟩) (Cert.UpDxRefIdeal.Value.run m ρ)

/-- The gradient of the up projection's input is the reference's. -/
theorem valueUpDx : Cert.algebraic_UpDxIdeal_UpDxRefIdeal (hUpDxIdeal := Cert.UpDxIdeal.Gen.facts)
    (hUpDxRefIdeal := Cert.UpDxRefIdeal.Gen.facts) := fun m ρ m' ρ' _ hag => by
  refine ⟨fun c => _, Cert.UpDxIdeal.Product.run m ρ,
    (θ_run _ _ _).mono (fun r h c => ⟨(h c).1.trans ?_, (h c).2⟩) (Cert.UpDxRefIdeal.Value.run m' ρ')⟩
  rw [(hag c).1, (hag c).2]
  funext y
  obtain ⟨a, b, rfl⟩ : ∃ (a : Fin 4096) (b : Fin 1024), y = ix2 a b := ⟨y 0, y 1, eq_ix2 y⟩
  unfold Cert.UpDxIdeal.Product.result
  pointwise

/-- The reference of the gradient of the up projection's weight leaves its arguments unchanged. -/
theorem frameUpDw : Cert.quiescent_UpDwRefIdeal (hUpDwRefIdeal := Cert.UpDwRefIdeal.Gen.facts) := fun m ρ _ =>
  (θ_run _ _ _).mono (fun r h => ⟨fun c => (h c).2, sem_eq_zero_of_no_sems (by decide) _⟩) (Cert.UpDwRefIdeal.Value.run m ρ)

/-- The gradient of the up projection's weight is the reference's. -/
theorem valueUpDw : Cert.algebraic_UpDwIdeal_UpDwRefIdeal (hUpDwIdeal := Cert.UpDwIdeal.Gen.facts)
    (hUpDwRefIdeal := Cert.UpDwRefIdeal.Gen.facts) := fun m ρ m' ρ' _ hag => by
  refine ⟨fun c => _, Cert.UpDwIdeal.Product.run m ρ,
    (θ_run _ _ _).mono (fun r h c => ⟨(h c).1.trans ?_, (h c).2⟩) (Cert.UpDwRefIdeal.Value.run m' ρ')⟩
  rw [(hag c).1, (hag c).2]
  funext y
  obtain ⟨a, b, rfl⟩ : ∃ (a : Fin 5632) (b : Fin 1024), y = ix2 a b := ⟨y 0, y 1, eq_ix2 y⟩
  unfold Cert.UpDwIdeal.Product.result
  pointwise

/-- The reference of the gradient of the block's input leaves its arguments unchanged. -/
theorem frameInDx : Cert.quiescent_InDxRefIdeal (hInDxRefIdeal := Cert.InDxRefIdeal.Gen.facts) := fun m ρ _ =>
  (θ_run _ _ _).mono (fun r h => ⟨fun c => (h c).2, sem_eq_zero_of_no_sems (by decide) _⟩) (Cert.InDxRefIdeal.Value.run m ρ)

/-- The gradient of the block's input is the reference's. -/
theorem valueInDx : Cert.algebraic_InDxIdeal_InDxRefIdeal (hInDxIdeal := Cert.InDxIdeal.Gen.facts)
    (hInDxRefIdeal := Cert.InDxRefIdeal.Gen.facts) := fun m ρ m' ρ' _ hag => by
  refine ⟨fun c => _, Cert.InDxIdeal.Product.run m ρ,
    (θ_run _ _ _).mono (fun r h c => ⟨(h c).1.trans ?_, (h c).2⟩) (Cert.InDxRefIdeal.Value.run m' ρ')⟩
  rw [(hag c).1, (hag c).2.1, (hag c).2.2]
  funext y
  obtain ⟨a, b, rfl⟩ : ∃ (a : Fin 4096) (b : Fin 1024), y = ix2 a b := ⟨y 0, y 1, eq_ix2 y⟩
  unfold Cert.InDxIdeal.Product.result
  pointwise

/-- The reference of the gradient of the input projection's weight leaves its arguments unchanged. -/
theorem frameInDw : Cert.quiescent_InDwRefIdeal (hInDwRefIdeal := Cert.InDwRefIdeal.Gen.facts) := fun m ρ _ =>
  (θ_run _ _ _).mono (fun r h => ⟨fun c => (h c).2, sem_eq_zero_of_no_sems (by decide) _⟩) (Cert.InDwRefIdeal.Value.run m ρ)

/-- The gradient of the input projection's weight is the reference's. -/
theorem valueInDw : Cert.algebraic_InDwIdeal_InDwRefIdeal (hInDwIdeal := Cert.InDwIdeal.Gen.facts)
    (hInDwRefIdeal := Cert.InDwRefIdeal.Gen.facts) := fun m ρ m' ρ' _ hag => by
  refine ⟨fun c => _, Cert.InDwIdeal.Product.run m ρ,
    (θ_run _ _ _).mono (fun r h c => ⟨(h c).1.trans ?_, (h c).2⟩) (Cert.InDwRefIdeal.Value.run m' ρ')⟩
  rw [(hag c).1, (hag c).2]
  funext y
  obtain ⟨a, b, rfl⟩ : ∃ (a : Fin 9216) (b : Fin 1024), y = ix2 a b := ⟨y 0, y 1, eq_ix2 y⟩
  unfold Cert.InDwIdeal.Product.result
  pointwise

/-- The reference of the gradient of the output projection's input leaves its arguments unchanged. -/
theorem frameOutDx : Cert.quiescent_OutDxRefIdeal (hOutDxRefIdeal := Cert.OutDxRefIdeal.Gen.facts) := fun m ρ _ =>
  (θ_run _ _ _).mono (fun r h => ⟨fun c => (h c).2, sem_eq_zero_of_no_sems (by decide) _⟩) (Cert.OutDxRefIdeal.Value.run m ρ)

/-- The gradient of the output projection's input is the reference's. -/
theorem valueOutDx : Cert.algebraic_OutDxIdeal_OutDxRefIdeal (hOutDxIdeal := Cert.OutDxIdeal.Gen.facts)
    (hOutDxRefIdeal := Cert.OutDxRefIdeal.Gen.facts) := fun m ρ m' ρ' _ hag => by
  refine ⟨fun c => _, Cert.OutDxIdeal.Product.run m ρ,
    (θ_run _ _ _).mono (fun r h c => ⟨(h c).1.trans ?_, (h c).2⟩) (Cert.OutDxRefIdeal.Value.run m' ρ')⟩
  rw [(hag c).1, (hag c).2]
  funext y
  obtain ⟨a, b, rfl⟩ : ∃ (a : Fin 4096) (b : Fin 1024), y = ix2 a b := ⟨y 0, y 1, eq_ix2 y⟩
  unfold Cert.OutDxIdeal.Product.result
  pointwise

/-- The reference of the gradient of the output projection's weight leaves its arguments unchanged. -/
theorem frameOutDw : Cert.quiescent_OutDwRefIdeal (hOutDwRefIdeal := Cert.OutDwRefIdeal.Gen.facts) := fun m ρ _ =>
  (θ_run _ _ _).mono (fun r h => ⟨fun c => (h c).2, sem_eq_zero_of_no_sems (by decide) _⟩) (Cert.OutDwRefIdeal.Value.run m ρ)

/-- The gradient of the output projection's weight is the reference's. -/
theorem valueOutDw : Cert.algebraic_OutDwIdeal_OutDwRefIdeal (hOutDwIdeal := Cert.OutDwIdeal.Gen.facts)
    (hOutDwRefIdeal := Cert.OutDwRefIdeal.Gen.facts) := fun m ρ m' ρ' _ hag => by
  refine ⟨fun c => _, Cert.OutDwIdeal.Product.run m ρ,
    (θ_run _ _ _).mono (fun r h c => ⟨(h c).1.trans ?_, (h c).2⟩) (Cert.OutDwRefIdeal.Value.run m' ρ')⟩
  rw [(hag c).1, (hag c).2]
  funext y
  obtain ⟨a, b, rfl⟩ : ∃ (a : Fin 1024) (b : Fin 1024), y = ix2 a b := ⟨y 0, y 1, eq_ix2 y⟩
  unfold Cert.OutDwIdeal.Product.result
  pointwise
  exact Finset.sum_congr rfl fun k _ => mul_comm _ _

/-- The reference of the gradient of a head projection's input leaves its arguments unchanged. -/
theorem frameProjDx : Cert.quiescent_ProjDxRefIdeal (hProjDxRefIdeal := Cert.ProjDxRefIdeal.Gen.facts) := fun m ρ _ =>
  (θ_run _ _ _).mono (fun r h => ⟨fun c => (h c).2, sem_eq_zero_of_no_sems (by decide) _⟩) (Cert.ProjDxRefIdeal.Value.run m ρ)

/-- The gradient of a head projection's input is the reference's. -/
theorem valueProjDx : Cert.algebraic_ProjDxIdeal_ProjDxRefIdeal (hProjDxIdeal := Cert.ProjDxIdeal.Gen.facts)
    (hProjDxRefIdeal := Cert.ProjDxRefIdeal.Gen.facts) := fun m ρ m' ρ' _ hag => by
  refine ⟨fun c => _, Cert.ProjDxIdeal.Product.run m ρ,
    (θ_run _ _ _).mono (fun r h c => ⟨(h c).1.trans ?_, (h c).2⟩) (Cert.ProjDxRefIdeal.Value.run m' ρ')⟩
  rw [(hag c).1, (hag c).2]
  funext y
  obtain ⟨a, b, rfl⟩ : ∃ (a : Fin 4096) (b : Fin 1024), y = ix2 a b := ⟨y 0, y 1, eq_ix2 y⟩
  unfold Cert.ProjDxIdeal.Product.result
  pointwise

/-- The reference of the gradient of a head projection's weight leaves its arguments unchanged. -/
theorem frameProjDw : Cert.quiescent_ProjDwRefIdeal (hProjDwRefIdeal := Cert.ProjDwRefIdeal.Gen.facts) := fun m ρ _ =>
  (θ_run _ _ _).mono (fun r h => ⟨fun c => (h c).2, sem_eq_zero_of_no_sems (by decide) _⟩) (Cert.ProjDwRefIdeal.Value.run m ρ)

/-- The gradient of a head projection's weight is the reference's. -/
theorem valueProjDw : Cert.algebraic_ProjDwIdeal_ProjDwRefIdeal (hProjDwIdeal := Cert.ProjDwIdeal.Gen.facts)
    (hProjDwRefIdeal := Cert.ProjDwRefIdeal.Gen.facts) := fun m ρ m' ρ' _ hag => by
  refine ⟨fun c => _, Cert.ProjDwIdeal.Product.run m ρ,
    (θ_run _ _ _).mono (fun r h c => ⟨(h c).1.trans ?_, (h c).2⟩) (Cert.ProjDwRefIdeal.Value.run m' ρ')⟩
  rw [(hag c).1, (hag c).2]
  funext y
  obtain ⟨a, b, rfl⟩ : ∃ (a : Fin 1024) (b : Fin 1024), y = ix2 a b := ⟨y 0, y 1, eq_ix2 y⟩
  unfold Cert.ProjDwIdeal.Product.result
  pointwise
  exact Finset.sum_congr rfl fun k _ => mul_comm _ _

/-- The reference of the input projection to queries, keys and values leaves its arguments unchanged. -/
theorem frameInQkv : Cert.quiescent_InQkvRefIdeal (hInQkvRefIdeal := Cert.InQkvRefIdeal.Gen.facts) := fun m ρ _ =>
  (θ_run _ _ _).mono (fun r h => ⟨fun c => (h c).2, sem_eq_zero_of_no_sems (by decide) _⟩) (Cert.InQkvRefIdeal.Value.run m ρ)

/-- The input projection to queries, keys and values is the reference's. -/
theorem valueInQkv : Cert.algebraic_InQkvIdeal_InQkvRefIdeal (hInQkvIdeal := Cert.InQkvIdeal.Gen.facts)
    (hInQkvRefIdeal := Cert.InQkvRefIdeal.Gen.facts) := fun m ρ m' ρ' _ hag => by
  refine ⟨fun c => _, Cert.InQkvIdeal.Product.run m ρ,
    (θ_run _ _ _).mono (fun r h c => ⟨(h c).1.trans ?_, (h c).2⟩) (Cert.InQkvRefIdeal.Value.run m' ρ')⟩
  rw [(hag c).1, (hag c).2]
  funext y
  obtain ⟨a, b, rfl⟩ : ∃ (a : Fin 4096) (b : Fin 3072), y = ix2 a b := ⟨y 0, y 1, eq_ix2 y⟩
  unfold Cert.InQkvIdeal.Product.result
  pointwise

/-- The reference of the input projection to the delta rule's gate leaves its arguments unchanged. -/
theorem frameInGate : Cert.quiescent_InGateRefIdeal (hInGateRefIdeal := Cert.InGateRefIdeal.Gen.facts) := fun m ρ _ =>
  (θ_run _ _ _).mono (fun r h => ⟨fun c => (h c).2, sem_eq_zero_of_no_sems (by decide) _⟩) (Cert.InGateRefIdeal.Value.run m ρ)

/-- The input projection to the delta rule's gate is the reference's. -/
theorem valueInGate : Cert.algebraic_InGateIdeal_InGateRefIdeal (hInGateIdeal := Cert.InGateIdeal.Gen.facts)
    (hInGateRefIdeal := Cert.InGateRefIdeal.Gen.facts) := fun m ρ m' ρ' _ hag => by
  refine ⟨fun c => _, Cert.InGateIdeal.Product.run m ρ,
    (θ_run _ _ _).mono (fun r h c => ⟨(h c).1.trans ?_, (h c).2⟩) (Cert.InGateRefIdeal.Value.run m' ρ')⟩
  rw [(hag c).1, (hag c).2]
  funext y
  obtain ⟨a, b, rfl⟩ : ∃ (a : Fin 4096) (b : Fin 1024), y = ix2 a b := ⟨y 0, y 1, eq_ix2 y⟩
  unfold Cert.InGateIdeal.Product.result
  pointwise

/-- The reference of the input projection to the merge gates leaves its arguments unchanged. -/
theorem frameInGl : Cert.quiescent_InGlRefIdeal (hInGlRefIdeal := Cert.InGlRefIdeal.Gen.facts) := fun m ρ _ =>
  (θ_run _ _ _).mono (fun r h => ⟨fun c => (h c).2, sem_eq_zero_of_no_sems (by decide) _⟩) (Cert.InGlRefIdeal.Value.run m ρ)

/-- The input projection to the merge gates is the reference's. -/
theorem valueInGl : Cert.algebraic_InGlIdeal_InGlRefIdeal (hInGlIdeal := Cert.InGlIdeal.Gen.facts)
    (hInGlRefIdeal := Cert.InGlRefIdeal.Gen.facts) := fun m ρ m' ρ' _ hag => by
  refine ⟨fun c => _, Cert.InGlIdeal.Product.run m ρ,
    (θ_run _ _ _).mono (fun r h c => ⟨(h c).1.trans ?_, (h c).2⟩) (Cert.InGlRefIdeal.Value.run m' ρ')⟩
  rw [(hag c).1, (hag c).2]
  funext y
  obtain ⟨a, b, rfl⟩ : ∃ (a : Fin 4096) (b : Fin 2048), y = ix2 a b := ⟨y 0, y 1, eq_ix2 y⟩
  unfold Cert.InGlIdeal.Product.result
  pointwise

/-- The reference of the head projection leaves its arguments unchanged. -/
theorem frameProjOut : Cert.quiescent_ProjOutRefIdeal (hProjOutRefIdeal := Cert.ProjOutRefIdeal.Gen.facts) := fun m ρ _ =>
  (θ_run _ _ _).mono (fun r h => ⟨fun c => (h c).2, sem_eq_zero_of_no_sems (by decide) _⟩) (Cert.ProjOutRefIdeal.Value.run m ρ)

/-- The head projection is the reference's. -/
theorem valueProjOut : Cert.algebraic_ProjOutIdeal_ProjOutRefIdeal (hProjOutIdeal := Cert.ProjOutIdeal.Gen.facts)
    (hProjOutRefIdeal := Cert.ProjOutRefIdeal.Gen.facts) := fun m ρ m' ρ' _ hag => by
  refine ⟨fun c => _, Cert.ProjOutIdeal.Product.run m ρ,
    (θ_run _ _ _).mono (fun r h c => ⟨(h c).1.trans ?_, (h c).2⟩) (Cert.ProjOutRefIdeal.Value.run m' ρ')⟩
  rw [(hag c).1, (hag c).2]
  funext y
  obtain ⟨a, b, rfl⟩ : ∃ (a : Fin 4096) (b : Fin 1024), y = ix2 a b := ⟨y 0, y 1, eq_ix2 y⟩
  unfold Cert.ProjOutIdeal.Product.result
  pointwise

/-- The reference of the output projection leaves its arguments unchanged. -/
theorem frameOutProj : Cert.quiescent_OutProjRefIdeal (hOutProjRefIdeal := Cert.OutProjRefIdeal.Gen.facts) := fun m ρ _ =>
  (θ_run _ _ _).mono (fun r h => ⟨fun c => (h c).2, sem_eq_zero_of_no_sems (by decide) _⟩) (Cert.OutProjRefIdeal.Value.run m ρ)

/-- The output projection is the reference's. -/
theorem valueOutProj : Cert.algebraic_OutProjIdeal_OutProjRefIdeal (hOutProjIdeal := Cert.OutProjIdeal.Gen.facts)
    (hOutProjRefIdeal := Cert.OutProjRefIdeal.Gen.facts) := fun m ρ m' ρ' _ hag => by
  refine ⟨fun c => _, Cert.OutProjIdeal.Product.run m ρ,
    (θ_run _ _ _).mono (fun r h c => ⟨(h c).1.trans ?_, (h c).2⟩) (Cert.OutProjRefIdeal.Value.run m' ρ')⟩
  rw [(hag c).1, (hag c).2.1, (hag c).2.2]
  funext y
  obtain ⟨a, b, rfl⟩ : ∃ (a : Fin 4096) (b : Fin 1024), y = ix2 a b := ⟨y 0, y 1, eq_ix2 y⟩
  unfold Cert.OutProjIdeal.Product.result
  pointwise
  exact add_comm _ _

/-- The reference of the up projection leaves its arguments unchanged. -/
theorem frameFfnUp : Cert.quiescent_FfnUpRefIdeal (hFfnUpRefIdeal := Cert.FfnUpRefIdeal.Gen.facts) := fun m ρ _ =>
  (θ_run _ _ _).mono (fun r h => ⟨fun c => (h c).2, sem_eq_zero_of_no_sems (by decide) _⟩) (Cert.FfnUpRefIdeal.Value.run m ρ)

/-- The up projection is the reference's. -/
theorem valueFfnUp : Cert.algebraic_FfnUpIdeal_FfnUpRefIdeal (hFfnUpIdeal := Cert.FfnUpIdeal.Gen.facts)
    (hFfnUpRefIdeal := Cert.FfnUpRefIdeal.Gen.facts) := fun m ρ m' ρ' _ hag => by
  refine ⟨fun c => _, Cert.FfnUpIdeal.Product.run m ρ,
    (θ_run _ _ _).mono (fun r h c => ⟨(h c).1.trans ?_, (h c).2⟩) (Cert.FfnUpRefIdeal.Value.run m' ρ')⟩
  rw [(hag c).1, (hag c).2]
  funext y
  obtain ⟨a, b, rfl⟩ : ∃ (a : Fin 4096) (b : Fin 5632), y = ix2 a b := ⟨y 0, y 1, eq_ix2 y⟩
  unfold Cert.FfnUpIdeal.Product.result
  pointwise

/-- The reference of the down projection leaves its arguments unchanged. -/
theorem frameFfnDown : Cert.quiescent_FfnDownRefIdeal (hFfnDownRefIdeal := Cert.FfnDownRefIdeal.Gen.facts) := fun m ρ _ =>
  (θ_run _ _ _).mono (fun r h => ⟨fun c => (h c).2, sem_eq_zero_of_no_sems (by decide) _⟩) (Cert.FfnDownRefIdeal.Value.run m ρ)

/-- The down projection is the reference's. -/
theorem valueFfnDown : Cert.algebraic_FfnDownIdeal_FfnDownRefIdeal (hFfnDownIdeal := Cert.FfnDownIdeal.Gen.facts)
    (hFfnDownRefIdeal := Cert.FfnDownRefIdeal.Gen.facts) := fun m ρ m' ρ' _ hag => by
  refine ⟨fun c => _, Cert.FfnDownIdeal.Product.run m ρ,
    (θ_run _ _ _).mono (fun r h c => ⟨(h c).1.trans ?_, (h c).2⟩) (Cert.FfnDownRefIdeal.Value.run m' ρ')⟩
  rw [(hag c).1, (hag c).2.1, (hag c).2.2]
  funext y
  obtain ⟨a, b, rfl⟩ : ∃ (a : Fin 4096) (b : Fin 1024), y = ix2 a b := ⟨y 0, y 1, eq_ix2 y⟩
  unfold Cert.FfnDownIdeal.Product.result
  pointwise
  exact add_comm _ _

end Cert.Proof.Products

end
-- ==== Proof.Gate.lean ====
/- The gates of the merge: the logistic function as the kernels take it, and its two halves of columns. -/
module

public import Idealize.ShloMosaic.Lib.Pipeline.ValueKit.Point
public import Idealize.ShloMosaic.Lib.Claim

@[expose] public section

noncomputable section

namespace Gate

open Idealize.ShloMosaic

/-- The gate of `x`. -/
def gate (x : EReal) : EReal := Ideal.div 1 (1 + Ideal.exp (0 - x))

theorem gate_neg (x : EReal) : Ideal.div 1 (1 + Ideal.exp (-x)) = gate x := by
  rw [gate, sub_eq_add_neg, zero_add]

/-- The first half of the gates. -/
def left (G : (⟨2, ![4096, 2048]⟩ : Shape).Idx → EReal) (i : Fin 4096) (j : Fin 1024) : EReal :=
  gate (G (ix2 i ⟨j.val, by omega⟩))

/-- The second half of the gates. -/
def right (G : (⟨2, ![4096, 2048]⟩ : Shape).Idx → EReal) (i : Fin 4096) (j : Fin 1024) : EReal :=
  gate (G (ix2 i ⟨1024 + j.val, by omega⟩))

/-- The logistic function's derivative from its value, times a product of two factors. -/
theorem logit (d p s : EReal) : d * p * s * (1 - s) = d * p * (s * (1 - s)) := mul_assoc _ _ _

end Gate

end
-- ==== Proof.MergeValue.lean ====
/- The gated merge, entry by entry. -/
module

public import proofs.«01_k».proof.Proof.Gen.MergeIdeal.Value
public import proofs.«01_k».proof.Proof.Gate

@[expose] public section

set_option maxRecDepth 16384

noncomputable section

namespace Cert.MergeIdeal.Entries

open Cert.MergeIdeal Cert.MergeIdeal.Gen Idealize.ShloMosaic Idealize.ShloMosaic.TcCoe Idealize.SL.Sem Gate

section
variable (x0 x1 x2 x3 : Vec Ideal S512x1024 .bf16)

theorem out4 : out0_4 x0 x1 x2 x3 = k0_pay1 x2 x3 x0 x1 := by
  frame_out

theorem out4_apply (a : Fin 512) (b : Fin 1024) : out0_4 x0 x1 x2 x3 (ix2 a b)
    = gate (x2 (ix2 a b)) * x0 (ix2 a b) + gate (x3 (ix2 a b)) * x1 (ix2 a b) := by
  rw [out4]
  pointwise [k0_pay1]
  rfl
end

variable (m : (ℓ : Loc nD τ sig) → Buf (Elt Ideal) ℓ)

theorem idx0 : ∀ t : Fin cfg0.N, win0_0.index t = ![t.val, 0] := by decide +kernel

theorem blk0 (c : Dev nD) (t : Fin cfg0.N) (a : Fin 512) (b : Fin 1024) (h : 512 * t.val + a.val < 4096) :
    iblk m c 0 t (ix2 a b) = m ((c.tc : Thread nD τ).loc main_arg0) (ix2 ⟨512 * t.val + a.val, h⟩ b) := by
  blk_simp [iblk]
  entry_read
  blk_ext [idx0 t]

theorem idx1 : ∀ t : Fin cfg0.N, win0_1.index t = ![t.val, 0] := by decide +kernel

theorem blk1 (c : Dev nD) (t : Fin cfg0.N) (a : Fin 512) (b : Fin 1024) (h : 512 * t.val + a.val < 4096) :
    iblk m c 1 t (ix2 a b) = m ((c.tc : Thread nD τ).loc main_arg1) (ix2 ⟨512 * t.val + a.val, h⟩ b) := by
  blk_simp [iblk]
  entry_read
  blk_ext [idx1 t]

theorem idx2 : ∀ t : Fin cfg0.N, win0_2.index t = ![t.val, 0] := by decide +kernel

theorem blk2 (c : Dev nD) (t : Fin cfg0.N) (a : Fin 512) (b : Fin 1024) (h : 512 * t.val + a.val < 4096) :
    iblk m c 2 t (ix2 a b) = m ((c.tc : Thread nD τ).loc main_arg2) (ix2 ⟨512 * t.val + a.val, h⟩ ⟨b.val, by omega⟩) := by
  blk_simp [iblk]
  entry_read
  blk_ext [idx2 t]

theorem idx3 : ∀ t : Fin cfg0.N, win0_3.index t = ![t.val, 1] := by decide +kernel

theorem blk3 (c : Dev nD) (t : Fin cfg0.N) (a : Fin 512) (b : Fin 1024) (h : 512 * t.val + a.val < 4096) :
    iblk m c 3 t (ix2 a b) = m ((c.tc : Thread nD τ).loc main_arg2) (ix2 ⟨512 * t.val + a.val, h⟩ ⟨1024 + b.val, by omega⟩) := by
  blk_simp [iblk]
  entry_read
  blk_ext [idx3 t]

theorem idx4 : ∀ t : Fin cfg0.N, win0_4.index t = ![t.val, 0] := by decide +kernel

theorem emb4 (t : Fin cfg0.N) (a : Fin 512) (b : Fin 1024) (h : 512 * t.val + a.val < 4096) :
    (win0_4.blk t).view.emb (ix2 a b) = ix2 ⟨512 * t.val + a.val, h⟩ b := by
  blk_ext [idx4 t]

/-- Each branch times its gate, added. -/
def result (P Q : (⟨2, ![4096, 1024]⟩ : Shape).Idx → EReal) (G : (⟨2, ![4096, 2048]⟩ : Shape).Idx → EReal) :
    Vec Ideal S4096x1024 .bf16 := fun y =>
  left G (y 0 : Fin 4096) (y 1 : Fin 1024) * P (ix2 (y 0 : Fin 4096) (y 1 : Fin 1024))
    + right G (y 0 : Fin 4096) (y 1 : Fin 1024) * Q (ix2 (y 0 : Fin 4096) (y 1 : Fin 1024))

theorem final (c : Dev nD) : (dats m 0 c).arrAt 4 cfg0.N = result (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  obtain ⟨a, b, rfl⟩ : ∃ (a : Fin 512) (b : Fin 1024), y = ix2 a b := ⟨y 0, y 1, eq_ix2 y⟩
  have hN : t.val < 8 := lt_of_lt_of_eq t.isLt N_0
  have h : 512 * t.val + a.val < 4096 := by omega
  blk_simp
  rw [after0_4, emb4 _ _ _ h, out4_apply, blk0 m c t a b h, blk1 m c t a b h, blk2 m c t a b h, blk3 m c t a b h]
  rfl

variable (ρ : Dev nD → PrngReg)

/-- THE KERNEL'S RUN: its result is the merge, its arguments unchanged. -/
theorem run : θ_run (defs (F := Ideal)) (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.MergeIdeal.Entries

end
-- ==== Proof.MergeBwdValue.lean ====
/- The gradient of the gated merge, entry by entry. -/
module

public import proofs.«01_k».proof.Proof.Gen.MergeBwdIdeal.Value
public import proofs.«01_k».proof.Proof.Gate

@[expose] public section

set_option maxRecDepth 16384

noncomputable section

namespace Cert.MergeBwdIdeal.Entries

open Cert.MergeBwdIdeal Cert.MergeBwdIdeal.Gen Idealize.ShloMosaic Idealize.ShloMosaic.TcCoe Idealize.SL.Sem Gate

section
variable (x0 x1 x2 x3 x4 : Vec Ideal S512x1024 .bf16)

theorem out5 : out0_5 x0 x1 x2 x3 x4 = k0_pay6 x0 x3 := by
  frame_out

theorem out5_apply (a : Fin 512) (b : Fin 1024) : out0_5 x0 x1 x2 x3 x4 (ix2 a b) = x0 (ix2 a b) * gate (x3 (ix2 a b)) := by
  rw [out5]
  pointwise [k0_pay6, k0_pay3, k0_pay4]
  rfl

theorem out6 : out0_6 x0 x1 x2 x3 x4 = k0_pay7 x0 x4 := by
  frame_out

theorem out6_apply (a : Fin 512) (b : Fin 1024) : out0_6 x0 x1 x2 x3 x4 (ix2 a b) = x0 (ix2 a b) * gate (x4 (ix2 a b)) := by
  rw [out6]
  pointwise [k0_pay7, k0_pay3, k0_pay5]
  rfl

theorem out7 : out0_7 x0 x1 x2 x3 x4 = k0_pay1 (k0_pay8 x0 x3 x1) := by
  frame_out

theorem out7_apply (a : Fin 512) (b : Fin 1024) : out0_7 x0 x1 x2 x3 x4 (ix2 a b) = x0 (ix2 a b) * x1 (ix2 a b) * gate (x3 (ix2 a b)) * (1 - gate (x3 (ix2 a b))) := by
  rw [out7]
  pointwise [k0_pay1, k0_pay8, k0_pay3, k0_pay4]
  rfl

theorem out8 : out0_8 x0 x1 x2 x3 x4 = k0_pay2 (k0_pay3 x0) (k0_pay5 x4) x2 := by
  frame_out

theorem out8_apply (a : Fin 512) (b : Fin 1024) : out0_8 x0 x1 x2 x3 x4 (ix2 a b) = x0 (ix2 a b) * x2 (ix2 a b) * gate (x4 (ix2 a b)) * (1 - gate (x4 (ix2 a b))) := by
  rw [out8]
  pointwise [k0_pay2, k0_pay3, k0_pay5]
  rfl

end

variable (m : (ℓ : Loc nD τ sig) → Buf (Elt Ideal) ℓ)

theorem idx0 : ∀ t : Fin cfg0.N, win0_0.index t = ![t.val, 0] := by decide +kernel

theorem blk0 (c : Dev nD) (t : Fin cfg0.N) (a : Fin 512) (b : Fin 1024) (h : 512 * t.val + a.val < 4096) :
    iblk m c 0 t (ix2 a b) = m ((c.tc : Thread nD τ).loc main_arg0) (ix2 ⟨512 * t.val + a.val, h⟩ b) := by
  blk_simp [iblk]
  entry_read
  blk_ext [idx0 t]

theorem idx1 : ∀ t : Fin cfg0.N, win0_1.index t = ![t.val, 0] := by decide +kernel

theorem blk1 (c : Dev nD) (t : Fin cfg0.N) (a : Fin 512) (b : Fin 1024) (h : 512 * t.val + a.val < 4096) :
    iblk m c 1 t (ix2 a b) = m ((c.tc : Thread nD τ).loc main_arg1) (ix2 ⟨512 * t.val + a.val, h⟩ b) := by
  blk_simp [iblk]
  entry_read
  blk_ext [idx1 t]

theorem idx2 : ∀ t : Fin cfg0.N, win0_2.index t = ![t.val, 0] := by decide +kernel

theorem blk2 (c : Dev nD) (t : Fin cfg0.N) (a : Fin 512) (b : Fin 1024) (h : 512 * t.val + a.val < 4096) :
    iblk m c 2 t (ix2 a b) = m ((c.tc : Thread nD τ).loc main_arg2) (ix2 ⟨512 * t.val + a.val, h⟩ b) := by
  blk_simp [iblk]
  entry_read
  blk_ext [idx2 t]

theorem idx3 : ∀ t : Fin cfg0.N, win0_3.index t = ![t.val, 0] := by decide +kernel

theorem blk3 (c : Dev nD) (t : Fin cfg0.N) (a : Fin 512) (b : Fin 1024) (h : 512 * t.val + a.val < 4096) :
    iblk m c 3 t (ix2 a b) = m ((c.tc : Thread nD τ).loc main_arg3) (ix2 ⟨512 * t.val + a.val, h⟩ ⟨b.val, by omega⟩) := by
  blk_simp [iblk]
  entry_read
  blk_ext [idx3 t]

theorem idx4 : ∀ t : Fin cfg0.N, win0_4.index t = ![t.val, 1] := by decide +kernel

theorem blk4 (c : Dev nD) (t : Fin cfg0.N) (a : Fin 512) (b : Fin 1024) (h : 512 * t.val + a.val < 4096) :
    iblk m c 4 t (ix2 a b) = m ((c.tc : Thread nD τ).loc main_arg3) (ix2 ⟨512 * t.val + a.val, h⟩ ⟨1024 + b.val, by omega⟩) := by
  blk_simp [iblk]
  entry_read
  blk_ext [idx4 t]

theorem idx5 : ∀ t : Fin cfg0.N, win0_5.index t = ![t.val, 0] := by decide +kernel

theorem emb5 (t : Fin cfg0.N) (a : Fin 512) (b : Fin 1024) (h : 512 * t.val + a.val < 4096) :
    (win0_5.blk t).view.emb (ix2 a b) = ix2 ⟨512 * t.val + a.val, h⟩ b := by
  blk_ext [idx5 t]

theorem idx6 : ∀ t : Fin cfg0.N, win0_6.index t = ![t.val, 0] := by decide +kernel

theorem emb6 (t : Fin cfg0.N) (a : Fin 512) (b : Fin 1024) (h : 512 * t.val + a.val < 4096) :
    (win0_6.blk t).view.emb (ix2 a b) = ix2 ⟨512 * t.val + a.val, h⟩ b := by
  blk_ext [idx6 t]

theorem idx7 : ∀ t : Fin cfg0.N, win0_7.index t = ![t.val, 0] := by decide +kernel

theorem emb7 (t : Fin cfg0.N) (a : Fin 512) (b : Fin 1024) (h : 512 * t.val + a.val < 4096) :
    (win0_7.blk t).view.emb (ix2 a b) = ix2 ⟨512 * t.val + a.val, h⟩ b := by
  blk_ext [idx7 t]

theorem idx8 : ∀ t : Fin cfg0.N, win0_8.index t = ![t.val, 0] := by decide +kernel

theorem emb8 (t : Fin cfg0.N) (a : Fin 512) (b : Fin 1024) (h : 512 * t.val + a.val < 4096) :
    (win0_8.blk t).view.emb (ix2 a b) = ix2 ⟨512 * t.val + a.val, h⟩ b := by
  blk_ext [idx8 t]

/-- A projection's gradient: the cotangent times its gate. -/
def leftProj (D : (⟨2, ![4096, 1024]⟩ : Shape).Idx → EReal) (G : (⟨2, ![4096, 2048]⟩ : Shape).Idx → EReal) : Vec Ideal S4096x1024 .bf16 := fun y =>
  D (ix2 (y 0 : Fin 4096) (y 1 : Fin 1024)) * left G (y 0 : Fin 4096) (y 1 : Fin 1024)

/-- A gate's gradient: the cotangent times its projection, times the logistic function's derivative. -/
def leftLogit (D P : (⟨2, ![4096, 1024]⟩ : Shape).Idx → EReal) (G : (⟨2, ![4096, 2048]⟩ : Shape).Idx → EReal) : Vec Ideal S4096x1024 .bf16 := fun y =>
  D (ix2 (y 0 : Fin 4096) (y 1 : Fin 1024)) * P (ix2 (y 0 : Fin 4096) (y 1 : Fin 1024)) * left G (y 0 : Fin 4096) (y 1 : Fin 1024)
    * (1 - left G (y 0 : Fin 4096) (y 1 : Fin 1024))

/-- A projection's gradient: the cotangent times its gate. -/
def rightProj (D : (⟨2, ![4096, 1024]⟩ : Shape).Idx → EReal) (G : (⟨2, ![4096, 2048]⟩ : Shape).Idx → EReal) : Vec Ideal S4096x1024 .bf16 := fun y =>
  D (ix2 (y 0 : Fin 4096) (y 1 : Fin 1024)) * right G (y 0 : Fin 4096) (y 1 : Fin 1024)

/-- A gate's gradient: the cotangent times its projection, times the logistic function's derivative. -/
def rightLogit (D P : (⟨2, ![4096, 1024]⟩ : Shape).Idx → EReal) (G : (⟨2, ![4096, 2048]⟩ : Shape).Idx → EReal) : Vec Ideal S4096x1024 .bf16 := fun y =>
  D (ix2 (y 0 : Fin 4096) (y 1 : Fin 1024)) * P (ix2 (y 0 : Fin 4096) (y 1 : Fin 1024)) * right G (y 0 : Fin 4096) (y 1 : Fin 1024)
    * (1 - right G (y 0 : Fin 4096) (y 1 : Fin 1024))

theorem final5 (c : Dev nD) : (dats m 0 c).arrAt 5 cfg0.N = leftProj (m ((c.tc : Thread nD τ).loc main_arg0)) (m ((c.tc : Thread nD τ).loc main_arg3)) := by
  refine (dats m 0 c).arrAt_eq_of_covers 5 _ (by decide +kernel) fun t hf y => ?_
  obtain ⟨a, b, rfl⟩ : ∃ (a : Fin 512) (b : Fin 1024), y = ix2 a b := ⟨y 0, y 1, eq_ix2 y⟩
  have hN : t.val < 8 := lt_of_lt_of_eq t.isLt N_0
  have h : 512 * t.val + a.val < 4096 := by omega
  blk_simp
  rw [after0_5, emb5 _ _ _ h, out5_apply, blk0 m c t a b h, blk3 m c t a b h]
  rfl

theorem final6 (c : Dev nD) : (dats m 0 c).arrAt 6 cfg0.N = rightProj (m ((c.tc : Thread nD τ).loc main_arg0)) (m ((c.tc : Thread nD τ).loc main_arg3)) := by
  refine (dats m 0 c).arrAt_eq_of_covers 6 _ (by decide +kernel) fun t hf y => ?_
  obtain ⟨a, b, rfl⟩ : ∃ (a : Fin 512) (b : Fin 1024), y = ix2 a b := ⟨y 0, y 1, eq_ix2 y⟩
  have hN : t.val < 8 := lt_of_lt_of_eq t.isLt N_0
  have h : 512 * t.val + a.val < 4096 := by omega
  blk_simp
  rw [after0_6, emb6 _ _ _ h, out6_apply, blk0 m c t a b h, blk4 m c t a b h]
  rfl

theorem final7 (c : Dev nD) : (dats m 0 c).arrAt 7 cfg0.N = leftLogit (m ((c.tc : Thread nD τ).loc main_arg0)) (m ((c.tc : Thread nD τ).loc main_arg1)) (m ((c.tc : Thread nD τ).loc main_arg3)) := by
  refine (dats m 0 c).arrAt_eq_of_covers 7 _ (by decide +kernel) fun t hf y => ?_
  obtain ⟨a, b, rfl⟩ : ∃ (a : Fin 512) (b : Fin 1024), y = ix2 a b := ⟨y 0, y 1, eq_ix2 y⟩
  have hN : t.val < 8 := lt_of_lt_of_eq t.isLt N_0
  have h : 512 * t.val + a.val < 4096 := by omega
  blk_simp
  rw [after0_7, emb7 _ _ _ h, out7_apply, blk0 m c t a b h, blk1 m c t a b h, blk3 m c t a b h]
  rfl

theorem final8 (c : Dev nD) : (dats m 0 c).arrAt 8 cfg0.N = rightLogit (m ((c.tc : Thread nD τ).loc main_arg0)) (m ((c.tc : Thread nD τ).loc main_arg2)) (m ((c.tc : Thread nD τ).loc main_arg3)) := by
  refine (dats m 0 c).arrAt_eq_of_covers 8 _ (by decide +kernel) fun t hf y => ?_
  obtain ⟨a, b, rfl⟩ : ∃ (a : Fin 512) (b : Fin 1024), y = ix2 a b := ⟨y 0, y 1, eq_ix2 y⟩
  have hN : t.val < 8 := lt_of_lt_of_eq t.isLt N_0
  have h : 512 * t.val + a.val < 4096 := by omega
  blk_simp
  rw [after0_8, emb8 _ _ _ h, out8_apply, blk0 m c t a b h, blk2 m c t a b h, blk4 m c t a b h]
  rfl

variable (ρ : Dev nD → PrngReg)

/-- THE KERNEL'S RUN: its four results, its arguments unchanged. -/
theorem run : θ_run (defs (F := Ideal)) (onTc (τ := τ) (main (F := Ideal))) ⟨m, fun _ => 0, ρ⟩ fun r => ∀ c : Dev nD,
      r.2.mem ((c.tc : Thread nD τ).loc main_v4_0) = leftProj (m ((c.tc : Thread nD τ).loc main_arg0)) (m ((c.tc : Thread nD τ).loc main_arg3))
      ∧ r.2.mem ((c.tc : Thread nD τ).loc main_v4_1) = rightProj (m ((c.tc : Thread nD τ).loc main_arg0)) (m ((c.tc : Thread nD τ).loc main_arg3))
      ∧ r.2.mem ((c.tc : Thread nD τ).loc main_v4_2) = leftLogit (m ((c.tc : Thread nD τ).loc main_arg0)) (m ((c.tc : Thread nD τ).loc main_arg1)) (m ((c.tc : Thread nD τ).loc main_arg3))
      ∧ r.2.mem ((c.tc : Thread nD τ).loc main_v4_3) = rightLogit (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end Cert.MergeBwdIdeal.Entries

end
-- ==== Proof.Merges.lean ====
/- The gated merge and its gradient: each program's value against its reference's, and the references' frames. -/
module

public import proofs.«01_k».proof.Defs
public import proofs.«01_k».proof.Proof.Gen.MergeIdeal
public import proofs.«01_k».proof.Proof.Gen.MergeRefIdeal
public import proofs.«01_k».proof.Proof.Gen.MergeRefIdeal.Run
public import proofs.«01_k».proof.Proof.MergeValue
public import proofs.«01_k».proof.Proof.Gen.MergeBwdIdeal
public import proofs.«01_k».proof.Proof.Gen.MergeBwdRefIdeal
public import proofs.«01_k».proof.Proof.Gen.MergeBwdRefIdeal.Run
public import proofs.«01_k».proof.Proof.MergeBwdValue

@[expose] public section

set_option maxRecDepth 16384

noncomputable section

namespace Cert.Proof.Merges

open Idealize.ShloMosaic Idealize.ShloMosaic.TcCoe Idealize.SL.Sem Gate

/-- The reference of the merge leaves its arguments unchanged. -/
theorem frameMerge : Cert.quiescent_MergeRefIdeal (hMergeRefIdeal := Cert.MergeRefIdeal.Gen.facts) := fun m ρ _ =>
  (θ_run _ _ _).mono (fun r h => ⟨fun c => (h c).2, sem_eq_zero_of_no_sems (by decide) _⟩) (Cert.MergeRefIdeal.Value.run m ρ)

/-- The merge is the reference's. -/
theorem valueMerge : Cert.algebraic_MergeIdeal_MergeRefIdeal (hMergeIdeal := Cert.MergeIdeal.Gen.facts)
    (hMergeRefIdeal := Cert.MergeRefIdeal.Gen.facts) := fun m ρ m' ρ' _ hag => by
  refine ⟨fun c => _, Cert.MergeIdeal.Entries.run m ρ,
    (θ_run _ _ _).mono (fun r h c => ⟨(h c).1.trans ?_, (h c).2⟩) (Cert.MergeRefIdeal.Value.run m' ρ')⟩
  rw [(hag c).1, (hag c).2.1, (hag c).2.2]
  funext y
  obtain ⟨a, b, rfl⟩ : ∃ (a : Fin 4096) (b : Fin 1024), y = ix2 a b := ⟨y 0, y 1, eq_ix2 y⟩
  unfold Cert.MergeIdeal.Entries.result left right
  pointwise
  simp only [gate_neg]

/-- The reference of the merge's gradient leaves its arguments unchanged. -/
theorem frameMergeBwd : Cert.quiescent_MergeBwdRefIdeal (hMergeBwdRefIdeal := Cert.MergeBwdRefIdeal.Gen.facts) := fun m ρ _ =>
  (θ_run _ _ _).mono (fun r h => ⟨fun c => (h c).2.2.2.2, sem_eq_zero_of_no_sems (by decide) _⟩) (Cert.MergeBwdRefIdeal.Value.run m ρ)

/-- The gradients of the merge are the reference's. -/
theorem valueMergeBwd : Cert.algebraic_MergeBwdIdeal_MergeBwdRefIdeal (hMergeBwdIdeal := Cert.MergeBwdIdeal.Gen.facts)
    (hMergeBwdRefIdeal := Cert.MergeBwdRefIdeal.Gen.facts) := fun m ρ m' ρ' _ hag => by
  refine ⟨fun c => _, fun c => _, fun c => _, fun c => _, Cert.MergeBwdIdeal.Entries.run m ρ,
    (θ_run _ _ _).mono (fun r h c => ⟨(h c).1.trans (funext fun y => ?_), (h c).2.1.trans (funext fun y => ?_),
      (h c).2.2.1.trans (funext fun y => ?_), (h c).2.2.2.1.trans (funext fun y => ?_), (h c).2.2.2.2⟩) (Cert.MergeBwdRefIdeal.Value.run m' ρ')⟩
  all_goals
    rw [(hag c).1, (hag c).2.2.2]
    obtain ⟨a, b, rfl⟩ : ∃ (a : Fin 4096) (b : Fin 1024), y = ix2 a b := ⟨y 0, y 1, eq_ix2 y⟩
  · unfold Cert.MergeBwdIdeal.Entries.leftProj left
    pointwise
    rw [gate_neg]
    exact mul_comm _ _
  · unfold Cert.MergeBwdIdeal.Entries.rightProj right
    pointwise
    rw [gate_neg]
    exact mul_comm _ _
  · rw [(hag c).2.1]
    unfold Cert.MergeBwdIdeal.Entries.leftLogit left
    pointwise
    rw [gate_neg]
    exact (logit _ _ _).symm
  · rw [(hag c).2.2.1]
    unfold Cert.MergeBwdIdeal.Entries.rightLogit right
    pointwise
    rw [gate_neg]
    exact (logit _ _ _).symm

end Cert.Proof.Merges

end
-- ==== Proof.Rms.lean ====
/- Division by the root of a mean of squares, and its derivative, over the extended reals. -/
module

public import Idealize.ShloMosaic.Lib.Pipeline.ValueKit.Point
public import Idealize.ShloMosaic.Lib.Claim

@[expose] public section

noncomputable section

namespace Rms

open Idealize.ShloMosaic

/-- The small number under the root. -/
theorem small : ∃ e : ℝ, 0 < e ∧ Ideal.ofBits .f32 897988541#32 = (e : EReal) := by
  refine ⟨(8796093 : ℝ) * 2 ^ (-43 : ℤ), by positivity, ?_⟩
  simp [Ideal.ofBits, Ideal.ieee, -EReal.coe_mul]

theorem half : Ideal.ofBits .f32 3204448256#32 = ((-(1 / 2) : ℝ) : EReal) := by
  simp [Ideal.ofBits, Ideal.ieee, -EReal.coe_mul, -EReal.coe_neg]
  norm_num

theorem n1024 : Ideal.ofBits .f32 1149239296#32 = ((1024 : ℝ) : EReal) := by
  simp [Ideal.ofBits, Ideal.ieee, -EReal.coe_mul]
  norm_num

theorem n128 : Ideal.ofBits .f32 1124073472#32 = ((128 : ℝ) : EReal) := by
  simp [Ideal.ofBits, Ideal.ieee, -EReal.coe_mul]
  norm_num

/-- The mean of the squares of `n` numbers, the divisor `N`, with `e` added. -/
def ms {n : ℕ} (N e : EReal) (f : Fin n → EReal) : EReal := Ideal.div (∑ k, f k * f k) N + e

/-- The reciprocal root of a row's mean square, as the program takes it. -/
def inv (f : Fin 1024 → EReal) : EReal :=
  Ideal.rsqrt (ms (Ideal.ofBits .f32 1149239296#32) (Ideal.ofBits .f32 897988541#32) f)

/-- A row's mean, as the program takes it. -/
def mean (f : Fin 1024 → EReal) : EReal := Ideal.div (∑ k, f k) (Ideal.ofBits .f32 1149239296#32)

theorem sq_nonneg (x : EReal) : 0 ≤ x * x := by
  induction x with
  | bot => simp
  | top => simp
  | coe x => exact_mod_cast mul_self_nonneg x

/-- The reciprocal root is zero, the mean being infinite, or a positive real whose square is the mean's reciprocal. -/
theorem root {n : ℕ} {N e : ℝ} (hN : 0 < N) (he : 0 < e) (f : Fin n → EReal) :
    (Ideal.rsqrt (ms N e f) = 0 ∧ ms N e f = ⊤) ∨
      ∃ v : ℝ, 0 < v ∧ ms N e f = (v : EReal) ∧ Ideal.rsqrt (ms N e f) = ((Real.sqrt v)⁻¹ : ℝ) := by
  have hs : (0 : EReal) ≤ ∑ k, f k * f k := Finset.sum_nonneg fun k _ => sq_nonneg _
  unfold ms
  rw [Ideal.div_coe hN.ne']
  generalize (∑ k, f k * f k) = s at hs
  induction s with
  | bot => simp at hs
  | top =>
    left
    rw [EReal.top_mul_coe_of_pos (by positivity), EReal.top_add_coe]
    exact ⟨rfl, rfl⟩
  | coe s =>
    right
    have h0 : (0 : ℝ) ≤ s := by exact_mod_cast hs
    have hv : 0 < s * (1 / N) + e := by positivity
    have h : ((s : ℝ) : EReal) * ((1 / N : ℝ) : EReal) + (e : EReal) = ((s * (1 / N) + e : ℝ) : EReal) := by push_cast; rfl
    refine ⟨s * (1 / N) + e, hv, h, ?_⟩
    rw [h, Ideal.rsqrt_coe, if_neg (not_lt.mpr hv.le), if_neg hv.ne']

theorem mul_sum {n : ℕ} {r : ℝ} (hr : 0 ≤ r) (f : Fin n → EReal) : (r : EReal) * ∑ k, f k = ∑ k, (r : EReal) * f k := by
  induction (Finset.univ : Finset (Fin n)) using Finset.cons_induction with
  | empty => simp
  | cons a s h ih =>
    rw [Finset.sum_cons, Finset.sum_cons, EReal.left_distrib_of_nonneg_of_ne_top (by exact_mod_cast hr) (EReal.coe_ne_top r), ih]

theorem twice (u : EReal) (k : ℝ) : u * (k : EReal) + u * (k : EReal) = u * ((k + k : ℝ) : EReal) := by
  induction u with
  | coe u => exact_mod_cast (mul_add u k k).symm
  | top =>
    rcases lt_trichotomy k 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy k 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- THE DERIVATIVE OF THE NORM: the kernel's form, the root taken out, is the chain rule's, the root's derivative taken from
    its value; `A` is the cotangent's entry, `x` the row's, and the sums are over the row. -/
theorem grad {n : ℕ} {N e : ℝ} (hN : 0 < N) (he : 0 < e) (f g : Fin n → EReal) (A x : EReal) :
    Ideal.rsqrt (ms N e f) * (A - x * Ideal.rsqrt (ms N e f) * Ideal.div (∑ k, g k * (f k * Ideal.rsqrt (ms N e f))) N)
      = A * Ideal.rsqrt (ms N e f)
        + x * Ideal.div ((∑ k, f k * g k) * (((-(1 / 2) : ℝ) : EReal) * Ideal.div (Ideal.rsqrt (ms N e f)) (ms N e f))) N
        + Ideal.div ((∑ k, f k * g k) * (((-(1 / 2) : ℝ) : EReal) * Ideal.div (Ideal.rsqrt (ms N e f)) (ms N e f))) N * x := by
  rcases root hN he f with ⟨h, h'⟩ | ⟨v, hv, h, h'⟩
  · rw [h, h', Ideal.div_coe hN.ne', Ideal.div_coe hN.ne']
    simp [Ideal.div]
  · rw [h', h, Ideal.div_coe hv.ne']
    set r : ℝ := (Real.sqrt v)⁻¹ with hr
    have r0 : 0 ≤ r := by positivity
    have hS : (∑ k, g k * (f k * (r : EReal))) = (r : EReal) * ∑ k, f k * g k := by
      rw [mul_sum r0]
      refine Finset.sum_congr rfl fun k _ => ?_
      rw [← mul_assoc, mul_comm (g k), mul_comm (r : EReal)]
    rw [hS]
    generalize (∑ k, f k * g k) = S
    have e1 : x * ((S * (((-(1 / 2) : ℝ) : EReal) * ((r : EReal) * ((1 / v : ℝ) : EReal)))) * ((1 / N : ℝ) : EReal))
        = x * S * ((-(1 / 2) * (r * (1 / v)) * (1 / N) : ℝ) : EReal) := by
      push_cast
      simp only [mul_assoc]
    have e2 : (r : EReal) * (x * (r : EReal) * ((r : EReal) * S * ((1 / N : ℝ) : EReal))) = x * S * ((r * r * r * (1 / N) : ℝ) : EReal) := by
      push_cast
      ac_rfl
    rw [Ideal.div_coe hN.ne', Ideal.div_coe hN.ne', mul_comm _ x, add_assoc, e1, twice,
      sub_eq_add_neg, EReal.left_distrib_of_nonneg_of_ne_top (by exact_mod_cast r0) (EReal.coe_ne_top r), mul_neg, e2, mul_comm A,
      ← mul_neg, ← EReal.coe_neg]
    have hv' : r * r = 1 / v := by
      rw [hr, ← mul_inv, Real.mul_self_sqrt hv.le, one_div]
    congr 3
    rw [← hv']
    ring

/-- The same as the programs take the numbers. -/
theorem grad_row (f g : Fin 1024 → EReal) (A x : EReal) :
    inv f * (A - x * inv f * mean fun k => g k * (f k * inv f))
      = A * inv f
        + x * Ideal.div ((∑ k, f k * g k) * (Ideal.ofBits .f32 3204448256#32
          * Ideal.div (inv f) (ms (Ideal.ofBits .f32 1149239296#32) (Ideal.ofBits .f32 897988541#32) f))) (Ideal.ofBits .f32 1149239296#32)
        + Ideal.div ((∑ k, f k * g k) * (Ideal.ofBits .f32 3204448256#32
          * Ideal.div (inv f) (ms (Ideal.ofBits .f32 1149239296#32) (Ideal.ofBits .f32 897988541#32) f))) (Ideal.ofBits .f32 1149239296#32) * x := by
  obtain ⟨e, he, h⟩ := small
  unfold inv mean
  rw [n1024, half, h]
  exact grad (by norm_num) he f g A x

end Rms

end
-- ==== Proof.NormValue.lean ====
/- The norm, entry by entry. -/
module

public import proofs.«01_k».proof.Proof.Gen.NormIdeal.Value
public import proofs.«01_k».proof.Proof.Rms

@[expose] public section

set_option maxRecDepth 16384

noncomputable section

namespace Cert.NormIdeal.Entries

open Cert.NormIdeal Cert.NormIdeal.Gen Idealize.ShloMosaic Idealize.ShloMosaic.TcCoe Idealize.SL.Sem Rms

theorem out2 (x0 : Vec Ideal S512x1024 .f32) (x1 : Vec Ideal S1x1024 .f32) : out0_2 x0 x1 = k0_pay1 x0 x1 := by
  frame_out

theorem out2_apply (x0 : Vec Ideal S512x1024 .f32) (x1 : Vec Ideal S1x1024 .f32) (a : Fin 512) (b : Fin 1024) :
    out0_2 x0 x1 (ix2 a b) = x0 (ix2 a b) * inv (fun k => x0 (ix2 a k)) * x1 (ix2 0 b) := by
  rw [out2]
  pointwise [k0_pay1]
  rfl

variable (m : (ℓ : Loc nD τ sig) → Buf (Elt Ideal) ℓ)

theorem idx0 : ∀ t : Fin cfg0.N, win0_0.index t = ![t.val, 0] := by decide +kernel

theorem blk0 (c : Dev nD) (t : Fin cfg0.N) (a : Fin 512) (b : Fin 1024) (h : 512 * t.val + a.val < 4096) :
    iblk m c 0 t (ix2 a b) = m ((c.tc : Thread nD τ).loc main_arg0) (ix2 ⟨512 * t.val + a.val, h⟩ b) := by
  blk_simp [iblk]
  entry_read
  blk_ext [idx0 t]

theorem idx1 : ∀ t : Fin cfg0.N, win0_1.index t = ![0, 0] := by decide +kernel

theorem blk1 (c : Dev nD) (t : Fin cfg0.N) (b : Fin 1024) :
    iblk m c 1 t (ix2 0 b) = m ((c.tc : Thread nD τ).loc main_arg1) (ix2 0 b) := by
  blk_simp [iblk]
  entry_read
  blk_ext [idx1 t]

theorem idx2 : ∀ t : Fin cfg0.N, win0_2.index t = ![t.val, 0] := by decide +kernel

theorem emb2 (t : Fin cfg0.N) (a : Fin 512) (b : Fin 1024) (h : 512 * t.val + a.val < 4096) :
    (win0_2.blk t).view.emb (ix2 a b) = ix2 ⟨512 * t.val + a.val, h⟩ b := by
  blk_ext [idx2 t]

/-- Each row divided by the root of its mean square, times the weights. -/
def result (X : (⟨2, ![4096, 1024]⟩ : Shape).Idx → EReal) (W : (⟨2, ![1, 1024]⟩ : Shape).Idx → EReal) : Vec Ideal S4096x1024 .bf16 := fun y =>
  X (ix2 (y 0 : Fin 4096) (y 1 : Fin 1024)) * inv (fun k => X (ix2 (y 0 : Fin 4096) k)) * W (ix2 0 (y 1 : Fin 1024))

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 512) (b : Fin 1024), y = ix2 a b := ⟨y 0, y 1, eq_ix2 y⟩
  have hN : t.val < 8 := lt_of_lt_of_eq t.isLt N_0
  have h : 512 * t.val + a.val < 4096 := by omega
  blk_simp
  rw [after0_2, emb2 _ _ _ h, out2_apply, blk0 m c t a b h, blk1 m c t b, funext fun k => blk0 m c t a k h]
  rfl

variable (ρ : Dev nD → PrngReg)

/-- THE KERNEL'S RUN: its result is the norm, its arguments unchanged. -/
theorem run : θ_run (defs (F := Ideal)) (onTc (τ := τ) (main (F := Ideal))) ⟨m, fun _ => 0, ρ⟩ fun r => ∀ c : Dev nD,
      r.2.mem ((c.tc : Thread nD τ).loc main_v0) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.NormIdeal.Entries

end
-- ==== Proof.NormBwdValue.lean ====
/- The gradients of the norm, entry by entry. -/
module

public import proofs.«01_k».proof.Proof.Gen.NormBwdIdeal.Value
public import proofs.«01_k».proof.Proof.Rms
public import proofs.«01_k».proof.Proof.Blocked

@[expose] public section

set_option maxRecDepth 16384

noncomputable section

namespace Cert.NormBwdIdeal.Entries

open Cert.NormBwdIdeal Cert.NormBwdIdeal.Gen Idealize.ShloMosaic Idealize.ShloMosaic.TcCoe Idealize.SL.Sem Rms Blocked

section
variable (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole)
  (a4 : Memref sig .tc .vmem S512x1024 .f32) (h4 : a4.IsWhole) (a5 : Memref sig .tc .vmem S512x1024 .f32) (h5 : a5.IsWhole) (a6 : Memref sig .tc .vmem S1x1024 .f32) (h6 : a6.IsWhole)
  (x0 x1 : Vec Ideal S512x1024 .f32) (x2 : Vec Ideal S1x1024 .f32) (x3 : Vec Ideal S512x1024 .f32) (s : Vec Ideal S1x1024 .f32)

theorem out_A4 (h : cond0_0 i) : out0_A_4 c i a1 h1 a2 h2 a3 h3 a4 h4 a5 h5 a6 h6 h x0 x1 x2 x3 = k0_pay3 x1 x0 x2 x3 := by
  frame_out

theorem out_B4 (h : ¬cond0_0 i) : out0_B_4 c i a1 h1 a2 h2 a3 h3 a4 h4 a5 h5 a6 h6 h x0 x1 x2 x3 s = k0_pay3 x1 x0 x2 x3 := by
  frame_out

/-- The first point's rows, from zero. -/
theorem out_A5 (h : cond0_0 i) : out0_A_5 c i a1 h1 a2 h2 a3 h3 a4 h4 a5 h5 a6 h6 h x0 x1 x2 x3 = k0_pay5 x1 x0 (k0_pay4 (F := Ideal)) := by
  frame_out

/-- A later point adds its rows. -/
theorem out_B5 (h : ¬cond0_0 i) : out0_B_5 c i a1 h1 a2 h2 a3 h3 a4 h4 a5 h5 a6 h6 h x0 x1 x2 x3 s = k0_pay5 x1 x0 s := by
  frame_out

theorem pay3_apply (a : Fin 512) (b : Fin 1024) : k0_pay3 x1 x0 x2 x3 (ix2 a b) = x3 (ix2 a b)
    + inv (fun k => x1 (ix2 a k)) * (x0 (ix2 a b) * x2 (ix2 0 b) - x1 (ix2 a b) * inv (fun k => x1 (ix2 a k))
      * mean (fun k => x0 (ix2 a k) * x2 (ix2 0 k) * (x1 (ix2 a k) * inv (fun k => x1 (ix2 a k))))) := by
  pointwise [k0_pay3, k0_pay2, k0_pay1]
  rfl

theorem pay5_apply (b : Fin 1024) : k0_pay5 x1 x0 s (ix2 0 b) = s (ix2 0 b)
    + ∑ q : Fin 512, x0 (ix2 q b) * (x1 (ix2 q b) * inv (fun k => x1 (ix2 q k))) := by
  pointwise [k0_pay5, k0_pay2, k0_pay1]
  rfl

theorem zero_apply (b : Fin 1024) : (k0_pay4 (F := Ideal)) (ix2 0 b) = (0 : EReal) := by
  pointwise [k0_pay4]
end

variable (m : (ℓ : Loc nD τ sig) → Buf (Elt Ideal) ℓ)

theorem idx0 : ∀ t : Fin cfg0.N, win0_0.index t = ![t.val, 0] := by decide +kernel

theorem blk0 (c : Dev nD) (t : Fin cfg0.N) (a : Fin 512) (b : Fin 1024) (h : 512 * t.val + a.val < 4096) :
    iblk m c 0 t (ix2 a b) = m ((c.tc : Thread nD τ).loc main_arg0) (ix2 ⟨512 * t.val + a.val, h⟩ b) := by
  blk_simp [iblk]
  entry_read
  blk_ext [idx0 t]

theorem idx1 : ∀ t : Fin cfg0.N, win0_1.index t = ![t.val, 0] := by decide +kernel

theorem blk1 (c : Dev nD) (t : Fin cfg0.N) (a : Fin 512) (b : Fin 1024) (h : 512 * t.val + a.val < 4096) :
    iblk m c 1 t (ix2 a b) = m ((c.tc : Thread nD τ).loc main_arg1) (ix2 ⟨512 * t.val + a.val, h⟩ b) := by
  blk_simp [iblk]
  entry_read
  blk_ext [idx1 t]

theorem idx2 : ∀ t : Fin cfg0.N, win0_2.index t = ![0, 0] := by decide +kernel

theorem blk2 (c : Dev nD) (t : Fin cfg0.N) (b : Fin 1024) :
    iblk m c 2 t (ix2 0 b) = m ((c.tc : Thread nD τ).loc main_arg2) (ix2 0 b) := by
  blk_simp [iblk]
  entry_read
  blk_ext [idx2 t]

theorem idx3 : ∀ t : Fin cfg0.N, win0_3.index t = ![t.val, 0] := by decide +kernel

theorem blk3 (c : Dev nD) (t : Fin cfg0.N) (a : Fin 512) (b : Fin 1024) (h : 512 * t.val + a.val < 4096) :
    iblk m c 3 t (ix2 a b) = m ((c.tc : Thread nD τ).loc main_arg3) (ix2 ⟨512 * t.val + a.val, h⟩ b) := by
  blk_simp [iblk]
  entry_read
  blk_ext [idx3 t]

theorem idx4 : ∀ t : Fin cfg0.N, win0_4.index t = ![t.val, 0] := by decide +kernel

theorem emb4 (t : Fin cfg0.N) (a : Fin 512) (b : Fin 1024) (h : 512 * t.val + a.val < 4096) :
    (win0_4.blk t).view.emb (ix2 a b) = ix2 ⟨512 * t.val + a.val, h⟩ b := by
  blk_ext [idx4 t]

theorem idx5 : ∀ t : Fin cfg0.N, win0_5.index t = ![0, 0] := by decide +kernel

theorem emb5 (t : Fin cfg0.N) (b : Fin 1024) : (win0_5.blk t).view.emb (ix2 0 b) = ix2 0 b := by
  blk_ext [idx5 t]

/-- The input's gradient, the residual's added. -/
def dx (G X : (⟨2, ![4096, 1024]⟩ : Shape).Idx → EReal) (W : (⟨2, ![1, 1024]⟩ : Shape).Idx → EReal) (D : (⟨2, ![4096, 1024]⟩ : Shape).Idx → EReal) :
    Vec Ideal S4096x1024 .f32 := fun y =>
  D (ix2 (y 0 : Fin 4096) (y 1 : Fin 1024)) + inv (fun k => X (ix2 (y 0 : Fin 4096) k)) * (G (ix2 (y 0 : Fin 4096) (y 1 : Fin 1024)) * W (ix2 0 (y 1 : Fin 1024))
    - X (ix2 (y 0 : Fin 4096) (y 1 : Fin 1024)) * inv (fun k => X (ix2 (y 0 : Fin 4096) k))
      * mean (fun k => G (ix2 (y 0 : Fin 4096) k) * W (ix2 0 k) * (X (ix2 (y 0 : Fin 4096) k) * inv (fun k => X (ix2 (y 0 : Fin 4096) k)))))

/-- A row's term of a weight's gradient. -/
def term (G X : (⟨2, ![4096, 1024]⟩ : Shape).Idx → EReal) (b : Fin 1024) (k : ℕ) : EReal :=
  if h : k < 4096 then G (ix2 ⟨k, h⟩ b) * (X (ix2 ⟨k, h⟩ b) * inv (fun j => X (ix2 ⟨k, h⟩ j))) else 0

/-- The weights' gradient. -/
def dw (G X : (⟨2, ![4096, 1024]⟩ : Shape).Idx → EReal) : Vec Ideal S1x1024 .f32 := fun y =>
  ∑ k : Fin 4096, G (ix2 k (y 1 : Fin 1024)) * (X (ix2 k (y 1 : Fin 1024)) * inv (fun j => X (ix2 k j)))

theorem dw_apply (G X : (⟨2, ![4096, 1024]⟩ : Shape).Idx → EReal) (b : Fin 1024) : dw G X (ix2 0 b) = psum (term G X b) 4096 := by
  rw [psum_fin]
  refine Finset.sum_congr rfl fun k _ => ?_
  rw [term, dif_pos k.isLt]
  rfl

theorem out4_at (c : Dev nD) (t : Fin cfg0.N) : (outsAt0 m c t.val t.isLt).1 = k0_pay3 (iblk m c 1 t) (iblk m c 0 t) (iblk m c 2 t) (iblk m c 3 t) := by
  by_cases h0 : t.val % 8 = 0
  · rw [outsAt0_A m c t h0]
    dsimp only
    rw [out_A4]
  · rw [outsAt0_B m c t h0]
    dsimp only
    rw [out_B4]

theorem final4 (c : Dev nD) : (dats m 0 c).arrAt 4 cfg0.N = dx (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨a, b, rfl⟩ : ∃ (a : Fin 512) (b : Fin 1024), y = ix2 a b := ⟨y 0, y 1, eq_ix2 y⟩
  have hN : t.val < 8 := lt_of_lt_of_eq t.isLt N_0
  have h : 512 * t.val + a.val < 4096 := by omega
  blk_simp
  rw [after0_4, emb4 _ _ _ h, out4_at, pay3_apply]
  simp only [blk0 m c t a _ h, blk1 m c t a _ h, blk2 m c t, blk3 m c t a b h]
  rfl

theorem block (c : Dev nD) (t : Fin cfg0.N) (s : Vec Ideal S1x1024 .f32) (b : Fin 1024) :
    k0_pay5 (iblk m c 1 t) (iblk m c 0 t) s (ix2 0 b) = s (ix2 0 b) + ∑ q : Fin 512, term (m ((c.tc : Thread nD τ).loc main_arg0)) (m ((c.tc : Thread nD τ).loc main_arg1)) b (512 * (t.val % 8) + q.val) := by
  have hN : t.val < 8 := lt_of_lt_of_eq t.isLt N_0
  refine (pay5_apply _ _ s b).trans (congrArg (fun z : EReal => s (ix2 0 b) + z) (Finset.sum_congr rfl fun q _ => ?_))
  have h : 512 * t.val + q.val < 4096 := by omega
  simp only [blk0 m c t q _ h, blk1 m c t q _ h]
  unfold term
  simp only [Nat.mod_eq_of_lt hN]
  rw [dif_pos h]

/-- What the weights' gradient holds after point `t`. -/
theorem acc (c : Dev nD) (b : Fin 1024) (t : ℕ) (h : t < cfg0.N) :
    (outsAt0 m c t h).2 (ix2 0 b) = psum (term (m ((c.tc : Thread nD τ).loc main_arg0)) (m ((c.tc : Thread nD τ).loc main_arg1)) b) (512 * (t % 8 + 1)) := by
  refine acc_run 8 512 (fun t h => (outsAt0 m c t h).2 (ix2 0 b)) (fun _ => term (m ((c.tc : Thread nD τ).loc main_arg0)) (m ((c.tc : Thread nD τ).loc main_arg1)) b) (fun t h h0 => ?_) (fun t h h0 => ?_) t h
  · rw [outsAt0_A m c ⟨t, h⟩ h0]
    dsimp only
    rw [out_A5, block, zero_apply]
  · rw [outsAt0_B m c ⟨t, h⟩ h0]
    dsimp only
    rw [out_B5, block]

theorem final5 (c : Dev nD) : (dats m 0 c).arrAt 5 cfg0.N = dw (m ((c.tc : Thread nD τ).loc main_arg0)) (m ((c.tc : Thread nD τ).loc main_arg1)) := by
  refine (dats m 0 c).arrAt_eq_of_covers 5 _ (by decide +kernel) fun t hf y => ?_
  obtain ⟨b, rfl⟩ : ∃ b : Fin 1024, y = ix2 0 b := ⟨y 1, (eq_ix2 y).trans (congrArg (fun z => ix2 z (y 1)) (Subsingleton.elim _ _))⟩
  have hN : t.val < 8 := lt_of_lt_of_eq t.isLt N_0
  have h7 : t.val % 8 = 7 := by have := (flush0_5 t).mp hf; omega
  blk_simp
  rw [after0_5, emb5, acc, h7, dw_apply]

variable (ρ : Dev nD → PrngReg)

/-- THE KERNEL'S RUN: its two gradients, its arguments unchanged. -/
theorem run : θ_run (defs (F := Ideal)) (onTc (τ := τ) (main (F := Ideal))) ⟨m, fun _ => 0, ρ⟩ fun r => ∀ c : Dev nD,
      r.2.mem ((c.tc : Thread nD τ).loc main_v0_0) = dx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final4 m c), (h c).2.1.trans (final5 m c), (h c).2.2⟩) (Value.run_blocks m ρ)

end Cert.NormBwdIdeal.Entries

end
-- ==== Proof.Norms.lean ====
/- The norm and its gradients: each program's value against its reference's, and the references' frames. -/
module

public import proofs.«01_k».proof.Defs
public import proofs.«01_k».proof.Proof.Gen.NormIdeal
public import proofs.«01_k».proof.Proof.Gen.NormRefIdeal
public import proofs.«01_k».proof.Proof.Gen.NormRefIdeal.Run
public import proofs.«01_k».proof.Proof.NormValue
public import proofs.«01_k».proof.Proof.Gen.NormBwdIdeal
public import proofs.«01_k».proof.Proof.Gen.NormBwdRefIdeal
public import proofs.«01_k».proof.Proof.Gen.NormBwdRefIdeal.Run
public import proofs.«01_k».proof.Proof.NormBwdValue

@[expose] public section

set_option maxRecDepth 16384

noncomputable section

namespace Cert.Proof.Norms

open Idealize.ShloMosaic Idealize.ShloMosaic.TcCoe Idealize.SL.Sem Rms

/-- The reference of the norm leaves its arguments unchanged. -/
theorem frameNorm : Cert.quiescent_NormRefIdeal (hNormRefIdeal := Cert.NormRefIdeal.Gen.facts) := fun m ρ _ =>
  (θ_run _ _ _).mono (fun r h => ⟨fun c => (h c).2, sem_eq_zero_of_no_sems (by decide) _⟩) (Cert.NormRefIdeal.Value.run m ρ)

/-- The norm is the reference's. -/
theorem valueNorm : Cert.algebraic_NormIdeal_NormRefIdeal (hNormIdeal := Cert.NormIdeal.Gen.facts)
    (hNormRefIdeal := Cert.NormRefIdeal.Gen.facts) := fun m ρ m' ρ' _ hag => by
  refine ⟨fun c => _, Cert.NormIdeal.Entries.run m ρ,
    (θ_run _ _ _).mono (fun r h c => ⟨(h c).1.trans ?_, (h c).2⟩) (Cert.NormRefIdeal.Value.run m' ρ')⟩
  rw [(hag c).1, (hag c).2]
  funext y
  obtain ⟨a, b, rfl⟩ : ∃ (a : Fin 4096) (b : Fin 1024), y = ix2 a b := ⟨y 0, y 1, eq_ix2 y⟩
  unfold Cert.NormIdeal.Entries.result
  pointwise
  rfl

/-- The reference of the norm's gradients leaves its arguments unchanged. -/
theorem frameNormBwd : Cert.quiescent_NormBwdRefIdeal (hNormBwdRefIdeal := Cert.NormBwdRefIdeal.Gen.facts) := fun m ρ _ =>
  (θ_run _ _ _).mono (fun r h => ⟨fun c => (h c).2.2, sem_eq_zero_of_no_sems (by decide) _⟩) (Cert.NormBwdRefIdeal.Value.run m ρ)

/-- The gradients of the norm are the reference's. -/
theorem valueNormBwd : Cert.algebraic_NormBwdIdeal_NormBwdRefIdeal (hNormBwdIdeal := Cert.NormBwdIdeal.Gen.facts)
    (hNormBwdRefIdeal := Cert.NormBwdRefIdeal.Gen.facts) := fun m ρ m' ρ' _ hag => by
  refine ⟨fun c => _, fun c => _, Cert.NormBwdIdeal.Entries.run m ρ,
    (θ_run _ _ _).mono (fun r h c => ⟨(h c).1.trans (funext fun y => ?_), (h c).2.1.trans (funext fun y => ?_), (h c).2.2⟩)
      (Cert.NormBwdRefIdeal.Value.run m' ρ')⟩
  · rw [(hag c).1, (hag c).2.1, (hag c).2.2.1, (hag c).2.2.2]
    obtain ⟨a, b, rfl⟩ : ∃ (a : Fin 4096) (b : Fin 1024), y = ix2 a b := ⟨y 0, y 1, eq_ix2 y⟩
    unfold Cert.NormBwdIdeal.Entries.dx
    pointwise
    simp only [Fin.sum_univ_one]
    exact congrArg _ (grad_row (fun k => m (c.tc.loc Cert.NormBwdIdeal.main_arg1) (ix2 a k)) _ _ _).symm
  · rw [(hag c).1, (hag c).2.1]
    obtain ⟨b, rfl⟩ : ∃ b : Fin 1024, y = ix2 0 b := ⟨y 1, (eq_ix2 y).trans (congrArg (fun z => ix2 z (y 1)) (Subsingleton.elim _ _))⟩
    unfold Cert.NormBwdIdeal.Entries.dw
    pointwise
    exact Finset.sum_congr rfl fun k _ => mul_comm _ _

end Cert.Proof.Norms

end
-- ==== Proof.Scan.lean ====
/- The backward scan as a recursion on the extended reals: one chunk of one head, the state gradient
   after any number of chunks from the last one down, and both recursions' equality on finite inputs
   (the reference sums the negated products, the kernel subtracts their sum). -/
module

public import Idealize.ShloMosaic.Lib.Pointwise

@[expose] public section

noncomputable section

namespace Cert.Scan

open Idealize.ShloMosaic

/-- What the scan reads, chunk by chunk and head by head: the incoming gradient, the written keys, the
    decayed keys and queries, the chunk's attention, the chunk's decay. -/
structure Inp where
  o : Fin 64 → Fin 8 → Fin 64 → Fin 128 → EReal
  w : Fin 64 → Fin 8 → Fin 64 → Fin 128 → EReal
  k : Fin 64 → Fin 8 → Fin 64 → Fin 128 → EReal
  q : Fin 64 → Fin 8 → Fin 64 → Fin 128 → EReal
  a : Fin 64 → Fin 8 → Fin 64 → Fin 64 → EReal
  γ : Fin 64 → Fin 8 → EReal

/-- A state gradient of one head. -/
abbrev Mat := Fin 128 → Fin 128 → EReal

/-- The gradient of chunk `g`'s written values, the state gradient `S` coming in. -/
def dvn (I : Inp) (g : Fin 64) (h : Fin 8) (S : Mat) (i : Fin 64) (e : Fin 128) : EReal :=
  (∑ s, I.a g h s i * I.o g h s e) + ∑ d, I.k g h i d * S d e

/-- The state gradient that leaves chunk `g`. -/
def step (I : Inp) (g : Fin 64) (h : Fin 8) (S : Mat) : Mat := fun d e =>
  ((∑ s, I.q g h s d * I.o g h s e) + I.γ g h * S d e) - ∑ s, I.w g h s d * dvn I g h S s e

/-- The chunk the scan takes `n`-th. -/
def rev (n : ℕ) : Fin 64 := ⟨63 - n, by omega⟩

/-- The state gradient after `n` chunks. -/
def state (I : Inp) (h : Fin 8) : ℕ → Mat
  | 0 => fun _ _ => 0
  | n + 1 => step I (rev n) h (state I h n)

/-- Row `i` of chunk `g`. -/
def row (g i : Fin 64) : Fin 4096 := ⟨64 * g.val + i.val, by omega⟩
/-- Column `e` of head `h`. -/
def col (h : Fin 8) (e : Fin 128) : Fin 1024 := ⟨128 * h.val + e.val, by omega⟩
/-- Head `h`'s lane of the gates. -/
def lane (h : Fin 8) : Fin 128 := ⟨h.val, by omega⟩

/-- The scan's inputs of the six argument arrays. -/
def inp (o q k w : (⟨2, ![4096, 1024]⟩ : Shape).Idx → EReal) (a : (⟨3, ![8, 4096, 64]⟩ : Shape).Idx → EReal)
    (g : (⟨2, ![4096, 128]⟩ : Shape).Idx → EReal) : Inp where
  o n h i d := o (ix2 (row n i) (col h d))
  w n h i d := w (ix2 (row n i) (col h d))
  k n h i d := k (ix2 (row n i) (col h d)) * Ideal.exp (g (ix2 (row n 63) (lane h)) - g (ix2 (row n i) (lane h)))
  q n h i d := q (ix2 (row n i) (col h d)) * Ideal.exp (g (ix2 (row n i) (lane h)))
  a n h i s := a (ix3 h (row n i) s)
  γ n h := Ideal.exp (g (ix2 (row n 63) (lane h)))

/-- An extended real that is a real. -/
def Fin' (x : EReal) : Prop := ∃ r : ℝ, x = (r : EReal)

theorem Fin'.add {x y : EReal} : Fin' x → Fin' y → Fin' (x + y) := by
  rintro ⟨a, rfl⟩ ⟨b, rfl⟩; exact ⟨a + b, (EReal.coe_add a b).symm⟩
theorem Fin'.sub {x y : EReal} : Fin' x → Fin' y → Fin' (x - y) := by
  rintro ⟨a, rfl⟩ ⟨b, rfl⟩; exact ⟨a - b, (EReal.coe_sub a b).symm⟩
theorem Fin'.mul {x y : EReal} : Fin' x → Fin' y → Fin' (x * y) := by
  rintro ⟨a, rfl⟩ ⟨b, rfl⟩; exact ⟨a * b, (EReal.coe_mul a b).symm⟩
theorem Fin'.zero : Fin' 0 := ⟨0, EReal.coe_zero.symm⟩
theorem Fin'.sum {ι : Type*} (s : Finset ι) (f : ι → EReal) (h : ∀ i ∈ s, Fin' (f i)) : Fin' (∑ i ∈ s, f i) :=
  Finset.sum_induction f Fin' (fun _ _ => Fin'.add) Fin'.zero h
theorem Fin'.exp {x : EReal} : Fin' x → Fin' (Ideal.exp x) := by
  rintro ⟨a, rfl⟩; exact ⟨Real.exp a, rfl⟩

/-- On reals the sum of the negated products is the negated sum. -/
theorem sum_neg {ι : Type*} (s : Finset ι) (f g : ι → EReal) (hf : ∀ i ∈ s, Fin' (f i)) (hg : ∀ i ∈ s, Fin' (g i)) :
    ∑ i ∈ s, (-g i) * f i = -∑ i ∈ s, f i * g i := by
  classical
  induction s using Finset.induction_on with
  | empty => simp
  | insert a s ha ih =>
    rw [Finset.sum_insert ha, Finset.sum_insert ha, ih (fun i hi => hf i (Finset.mem_insert_of_mem hi)) (fun i hi => hg i (Finset.mem_insert_of_mem hi))]
    obtain ⟨x, hx⟩ := hf a (Finset.mem_insert_self a s)
    obtain ⟨y, hy⟩ := hg a (Finset.mem_insert_self a s)
    obtain ⟨z, hz⟩ := Fin'.sum s (fun i => f i * g i) fun i hi => (hf i (Finset.mem_insert_of_mem hi)).mul (hg i (Finset.mem_insert_of_mem hi))
    rw [hx, hy, hz]
    norm_cast
    ring_nf

/-- Every input is a real. -/
structure Inp.Finite (I : Inp) : Prop where
  o : ∀ g h i d, Fin' (I.o g h i d)
  w : ∀ g h i d, Fin' (I.w g h i d)
  k : ∀ g h i d, Fin' (I.k g h i d)
  q : ∀ g h i d, Fin' (I.q g h i d)
  a : ∀ g h i s, Fin' (I.a g h i s)
  γ : ∀ g h, Fin' (I.γ g h)

theorem inp_finite (o q k w : (⟨2, ![4096, 1024]⟩ : Shape).Idx → EReal) (a : (⟨3, ![8, 4096, 64]⟩ : Shape).Idx → EReal)
    (g : (⟨2, ![4096, 128]⟩ : Shape).Idx → EReal) (ho : ∀ i, Fin' (o i)) (hq : ∀ i, Fin' (q i)) (hk : ∀ i, Fin' (k i))
    (hw : ∀ i, Fin' (w i)) (ha : ∀ i, Fin' (a i)) (hg : ∀ i, Fin' (g i)) : (inp o q k w a g).Finite where
  o _ _ _ _ := ho _
  w _ _ _ _ := hw _
  k _ _ _ _ := (hk _).mul ((hg _).sub (hg _)).exp
  q _ _ _ _ := (hq _).mul (hg _).exp
  a _ _ _ _ := ha _
  γ _ _ := (hg _).exp

variable {I : Inp} (H : I.Finite)
include H

theorem dvn_finite (g : Fin 64) (h : Fin 8) (S : Mat) (hS : ∀ d e, Fin' (S d e)) (i : Fin 64) (e : Fin 128) : Fin' (dvn I g h S i e) :=
  (Fin'.sum _ _ fun s _ => (H.a g h s i).mul (H.o g h s e)).add (Fin'.sum _ _ fun d _ => (H.k g h i d).mul (hS d e))

theorem step_finite (g : Fin 64) (h : Fin 8) (S : Mat) (hS : ∀ d e, Fin' (S d e)) (d e : Fin 128) : Fin' (step I g h S d e) :=
  ((Fin'.sum _ _ fun s _ => (H.q g h s d).mul (H.o g h s e)).add ((H.γ g h).mul (hS d e))).sub
    (Fin'.sum _ _ fun s _ => (H.w g h s d).mul (dvn_finite H g h S hS s e))

theorem state_finite (h : Fin 8) : ∀ n d e, Fin' (state I h n d e)
  | 0, _, _ => Fin'.zero
  | n + 1, d, e => step_finite H (rev n) h _ (state_finite h n) d e

/-- One chunk as the reference writes it. -/
theorem step_ref (g : Fin 64) (h : Fin 8) (S : Mat) (hS : ∀ d e, Fin' (S d e)) (d e : Fin 128) :
    (S d e * I.γ g h + ∑ s, I.o g h s e * I.q g h s d) + ∑ s, (-dvn I g h S s e) * I.w g h s d = step I g h S d e := by
  rw [sum_neg _ _ _ (fun s _ => H.w g h s d) (fun s _ => dvn_finite H g h S hS s e)]
  unfold step
  rw [sub_eq_add_neg, mul_comm (S d e), add_comm (I.γ g h * S d e)]
  congr 2
  exact Finset.sum_congr rfl fun s _ => mul_comm _ _

end Cert.Scan
-- ==== Proof.Pre.lean ====
/- What the precondition says of an argument: each of its elements is a real. -/
module

public import proofs.«01_k».proof.Defs
public import proofs.«01_k».proof.Proof.Scan
public import Idealize.ShloMosaic.Lib.Pointwise

@[expose] public section

noncomputable section

namespace Cert.Pre_finite

open Idealize.ShloMosaic

instance facts : Facts where
  bcast_S_S4096x1024 := by decide
  bcast_S_S8x4096x64 := by decide
  bcast_S_S4096x128 := by decide

theorem infty : (FloatOps.ofBits .f32 0x7F800000#32 : Ideal .f32) = (⊤ : EReal) := by
  show Ideal.ieee 8 23 0x7F800000#32 = ⊤
  simp [Ideal.ieee]

theorem real_of_abs_lt (x : EReal) (h : max x (-x) < ⊤) : Scan.Fin' x := by
  induction x with
  | bot => simp at h
  | top => simp at h
  | coe r => exact ⟨r, rfl⟩

theorem elt {s : Shape} (x : FVec Ideal s .f32) (hb : S_.BroadcastsInDim s (![] : Fin 0 → Fin s.rank))
    (h : cmpf .olt (Host.absf x) (broadcastInDim s ![] hb (constant S_ .f32 0x7F800000#32)) = fun _ => 1#1) (i : s.Idx) : Scan.Fin' (x i) := by
  have h1 := congrFun h i
  have h2 : BitVec.ofBool (decide (max (x i : EReal) (-(x i : EReal)) < (FloatOps.ofBits .f32 0x7F800000#32 : Ideal .f32))) = 1#1 := h1
  rw [infty] at h2
  refine real_of_abs_lt _ ?_
  by_contra hc
  rw [decide_eq_false hc] at h2
  exact absurd h2 (by decide)

variable (m : (ℓ : Loc Cert.KernelIdeal.nD Cert.KernelIdeal.τ Cert.KernelIdeal.sig) → Buf (Elt Ideal) ℓ)

theorem args (h : Pre_KernelIdeal_finite m) (c : Dev Cert.KernelIdeal.nD) :
    (∀ i : S4096x1024.Idx, Scan.Fin' (m ((c.tc : Thread Cert.KernelIdeal.nD Cert.KernelIdeal.τ).loc Cert.KernelIdeal.main_arg0) i))
    ∧ (∀ i : S4096x1024.Idx, Scan.Fin' (m ((c.tc : Thread Cert.KernelIdeal.nD Cert.KernelIdeal.τ).loc Cert.KernelIdeal.main_arg1) i))
    ∧ (∀ i : S4096x1024.Idx, Scan.Fin' (m ((c.tc : Thread Cert.KernelIdeal.nD Cert.KernelIdeal.τ).loc Cert.KernelIdeal.main_arg2) i))
    ∧ (∀ i : S4096x1024.Idx, Scan.Fin' (m ((c.tc : Thread Cert.KernelIdeal.nD Cert.KernelIdeal.τ).loc Cert.KernelIdeal.main_arg3) i))
    ∧ (∀ i : S8x4096x64.Idx, Scan.Fin' (m ((c.tc : Thread Cert.KernelIdeal.nD Cert.KernelIdeal.τ).loc Cert.KernelIdeal.main_arg4) i))
    ∧ (∀ i : S4096x128.Idx, Scan.Fin' (m ((c.tc : Thread Cert.KernelIdeal.nD Cert.KernelIdeal.τ).loc Cert.KernelIdeal.main_arg5) i)) :=
  ⟨elt _ _ (h c).1, elt _ _ (h c).2.1, elt _ _ (h c).2.2.1, elt _ _ (h c).2.2.2.1, elt _ _ (h c).2.2.2.2.1, elt _ _ (h c).2.2.2.2.2⟩

end Cert.Pre_finite
-- ==== Proof.Heads.lean ====
/- The columns of a head: 8 heads of 128 lanes side by side, and the norm of a head's row. -/
module

public import proofs.«01_k».proof.Proof.Rms
public import Idealize.ShloMosaic.Lib.Pointwise

@[expose] public section

noncomputable section

namespace Heads

open Idealize.ShloMosaic

/-- The lane of a column in its head. -/
def lane (j : Fin 1024) : Fin 128 := ⟨j.val % 128, by omega⟩

/-- The column of lane `k` in the head of column `j`. -/
def mate (j : Fin 1024) (k : Fin 128) : Fin 1024 := ⟨j.val / 128 * 128 + k.val, by omega⟩

/-- The reciprocal root of a head's mean square. -/
def inv (f : Fin 128 → EReal) : EReal :=
  Ideal.rsqrt (Rms.ms (Ideal.ofBits .f32 1124073472#32) (Ideal.ofBits .f32 897988541#32) f)

/-- The mean of a head's row. -/
def mean (f : Fin 128 → EReal) : EReal := Ideal.div (∑ k, f k) (Ideal.ofBits .f32 1124073472#32)

theorem mate_lane (j : Fin 1024) : mate j (lane j) = j :=
  Fin.ext (by show j.val / 128 * 128 + j.val % 128 = j.val; omega)

theorem lane_of {o : ℕ} (ho : o % 128 = 0) (b : Fin 128) (h : o + b.val < 1024) : lane ⟨o + b.val, h⟩ = b :=
  Fin.ext (by show (o + b.val) % 128 = b.val; omega)

theorem mate_of {o : ℕ} (ho : o % 128 = 0) (b k : Fin 128) (h : o + b.val < 1024) (h' : o + k.val < 1024) :
    mate ⟨o + b.val, h⟩ k = ⟨o + k.val, h'⟩ :=
  Fin.ext (by show (o + b.val) / 128 * 128 + k.val = o + k.val; omega)

section
variable {n0 n1 n2 : ℕ} {t : Shape} (h : (⟨3, ![n0, n1, n2]⟩ : Shape).ReducesTo [0, 1] t)
include h

theorem two_lt : 0 < t.rank := (show t.rank = 1 from h.1) ▸ (by decide)

theorem two_size : t.size ⟨0, two_lt h⟩ = n2 := h.2 ⟨0, two_lt h⟩

/-- Which entries a sum over the first two of three axes takes. -/
theorem two_fiber (j : t.Idx) (i : (⟨3, ![n0, n1, n2]⟩ : Shape).Idx) :
    h.drop i = j ↔ ∃ k : Fin n0 × Fin n1, ix3 k.1 k.2 ⟨(j ⟨0, two_lt h⟩).val, Shape.coordLt (j ⟨0, two_lt h⟩) (two_size h)⟩ = i := by
  constructor
  · intro e
    refine ⟨(i 0, i 1), ?_⟩
    funext a
    apply Fin.ext
    match a with
    | ⟨0, _⟩ => rfl
    | ⟨1, _⟩ => rfl
    | ⟨2, _⟩ => exact (congrArg Fin.val (congrFun e ⟨0, two_lt h⟩)).symm
  · rintro ⟨k, rfl⟩
    funext b
    apply Fin.ext
    match b with
    | ⟨0, _⟩ => rfl
    | ⟨_ + 1, hb⟩ => exact absurd hb (by have := (show t.rank = 1 from h.1); omega)

theorem two_sum (v : (⟨3, ![n0, n1, n2]⟩ : Shape).Idx → EReal) (j : t.Idx) :
    ∑ i ∈ Finset.univ.filter (fun i => h.drop i = j), v i
      = ∑ a : Fin n0, ∑ b : Fin n1, v (ix3 a b ⟨(j ⟨0, two_lt h⟩).val, Shape.coordLt (j ⟨0, two_lt h⟩) (two_size h)⟩) := by
  refine (Finset.sum_filter_eq_sum_of_fiber _ (fun k : Fin n0 × Fin n1 => ix3 k.1 k.2 ⟨(j ⟨0, two_lt h⟩).val, Shape.coordLt (j ⟨0, two_lt h⟩) (two_size h)⟩)
    (fun _ _ e => Prod.ext (congrFun e 0) (congrFun e 1)) (two_fiber h j) v).trans ?_
  simp only [Fintype.sum_prod_type]

/-- A sum over the first two of three axes. -/
@[pointwise] theorem two (v : (⟨3, ![n0, n1, n2]⟩ : Shape).Idx → EReal) (init : EReal) (j : t.Idx) :
    Ideal.hostReduceAdd h v init j
      = init + ∑ a : Fin n0, ∑ b : Fin n1, v (ix3 a b ⟨(j ⟨0, two_lt h⟩).val, Shape.coordLt (j ⟨0, two_lt h⟩) (two_size h)⟩) :=
  congrArg (init + ·) (two_sum h v j)
end

end Heads

end
-- ==== Proof.PostValue.lean ====
/- The norm and gate of the delta rule's output, entry by entry. -/
module

public import proofs.«01_k».proof.Proof.Gen.PostIdeal.Value
public import proofs.«01_k».proof.Proof.Heads
public import proofs.«01_k».proof.Proof.Gate

@[expose] public section

set_option maxRecDepth 16384

noncomputable section

namespace Cert.PostIdeal.Entries

open Cert.PostIdeal Cert.PostIdeal.Gen Idealize.ShloMosaic Idealize.ShloMosaic.TcCoe Idealize.SL.Sem Heads

/-- One entry, from its row of a head. -/
def entry (f : Fin 128 → EReal) (g w : EReal) (d : Fin 128) : EReal := f d * inv f * w * (g * Gate.gate g)

/-- A block's entries. -/
def whole (x0 : Vec Ideal S512x1024 .f32) (x1 : Vec Ideal S512x1024 .bf16) (x2 : Vec Ideal S1x128 .f32) : Vec Ideal S512x1024 .bf16 := fun y =>
  entry (fun k => x0 (ix2 (y 0 : Fin 512) (mate (y 1 : Fin 1024) k))) (x1 y) (x2 (ix2 0 (lane (y 1 : Fin 1024)))) (lane (y 1 : Fin 1024))

theorem whole_at (x0 : Vec Ideal S512x1024 .f32) (x1 : Vec Ideal S512x1024 .bf16) (x2 : Vec Ideal S1x128 .f32) (o : ℕ) (ho : o % 128 = 0) (h : o + 128 ≤ 1024)
    (inb : ∀ q, (![0, o] : Fin 2 → ℕ) q + S512x128.size q ≤ S512x1024.size q) (a : Fin 512) (b : Fin 128) :
    whole x0 x1 x2 ((Rect.unit (s := S512x1024) ![0, o] S512x128.size inb).emb (ix2 a b))
      = entry (fun k => x0 (ix2 a ⟨o + k.val, by omega⟩)) (x1 (ix2 a ⟨o + b.val, by omega⟩)) (x2 (ix2 0 b)) b := by
  have e : (Rect.unit (s := S512x1024) ![0, o] S512x128.size inb).emb (ix2 a b) = ix2 a ⟨o + b.val, by omega⟩ := by
    funext q
    apply Fin.ext
    rw [Rect.emb_apply]
    match q with
    | 0 => show 0 + 1 * a.val = a.val; omega
    | 1 => show o + 1 * b.val = o + b.val; omega
  rw [e]
  show entry (fun k => x0 (ix2 a (mate ⟨o + b.val, by omega⟩ k))) (x1 (ix2 a ⟨o + b.val, by omega⟩)) (x2 (ix2 0 (lane ⟨o + b.val, by omega⟩))) (lane ⟨o + b.val, by omega⟩) = _
  rw [lane_of ho, funext fun k => congrArg (fun j => x0 (ix2 a j)) (mate_of ho b k (by omega) (by omega))]

theorem out3 (x0 : Vec Ideal S512x1024 .f32) (x1 : Vec Ideal S512x1024 .bf16) (x2 : Vec Ideal S1x128 .f32) : out0_3 x0 x1 x2 = whole x0 x1 x2 := by
  funext y
  unfold out0_3
  refine View.canon_apply_of_pieces (whole x0 x1 x2) _ ?_ y (cover0_3 _ _ _ _ _ _ _ _ y)
  intro p hp
  simp only [List.mem_cons, List.not_mem_nil, or_false] at hp
  rcases hp with rfl | rfl | rfl | rfl | rfl | rfl | rfl | rfl
  all_goals
    intro x
    obtain ⟨a, b, rfl⟩ : ∃ (a : Fin 512) (b : Fin 128), x = ix2 a b := ⟨x 0, x 1, eq_ix2 x⟩
    refine Eq.trans ?_ (whole_at x0 x1 x2 _ (by decide) (by decide) (by decide) a b).symm
    pointwise [k0_pay1, k0_pay2, k0_pay3, k0_pay4, k0_pay5, k0_pay6, k0_pay7, k0_pay8, k0_pay9, k0_pay10, k0_pay11, k0_pay12, k0_pay13, k0_pay14, k0_pay15, k0_pay16]
    rfl

variable (m : (ℓ : Loc nD τ sig) → Buf (Elt Ideal) ℓ)

theorem idx0 : ∀ t : Fin cfg0.N, win0_0.index t = ![t.val, 0] := by decide +kernel

theorem blk0 (c : Dev nD) (t : Fin cfg0.N) (a : Fin 512) (b : Fin 1024) (h : 512 * t.val + a.val < 4096) :
    iblk m c 0 t (ix2 a b) = m ((c.tc : Thread nD τ).loc main_arg0) (ix2 ⟨512 * t.val + a.val, h⟩ b) := by
  blk_simp [iblk]
  entry_read
  blk_ext [idx0 t]

theorem idx1 : ∀ t : Fin cfg0.N, win0_1.index t = ![t.val, 0] := by decide +kernel

theorem blk1 (c : Dev nD) (t : Fin cfg0.N) (a : Fin 512) (b : Fin 1024) (h : 512 * t.val + a.val < 4096) :
    iblk m c 1 t (ix2 a b) = m ((c.tc : Thread nD τ).loc main_arg1) (ix2 ⟨512 * t.val + a.val, h⟩ b) := by
  blk_simp [iblk]
  entry_read
  blk_ext [idx1 t]

theorem idx2 : ∀ t : Fin cfg0.N, win0_2.index t = ![0, 0] := by decide +kernel

theorem blk2 (c : Dev nD) (t : Fin cfg0.N) (b : Fin 128) :
    iblk m c 2 t (ix2 0 b) = m ((c.tc : Thread nD τ).loc main_arg2) (ix2 0 b) := by
  blk_simp [iblk]
  entry_read
  blk_ext [idx2 t]

theorem idx3 : ∀ t : Fin cfg0.N, win0_3.index t = ![t.val, 0] := by decide +kernel

theorem emb3 (t : Fin cfg0.N) (a : Fin 512) (b : Fin 1024) (h : 512 * t.val + a.val < 4096) :
    (win0_3.blk t).view.emb (ix2 a b) = ix2 ⟨512 * t.val + a.val, h⟩ b := by
  blk_ext [idx3 t]

/-- Each head's row divided by the root of its mean square, times the weights and the gate. -/
def result (X G : (⟨2, ![4096, 1024]⟩ : Shape).Idx → EReal) (W : (⟨2, ![1, 128]⟩ : Shape).Idx → EReal) : Vec Ideal S4096x1024 .bf16 := fun y =>
  entry (fun k => X (ix2 (y 0 : Fin 4096) (mate (y 1 : Fin 1024) k))) (G (ix2 (y 0 : Fin 4096) (y 1 : Fin 1024))) (W (ix2 0 (lane (y 1 : Fin 1024)))) (lane (y 1 : Fin 1024))

theorem final (c : Dev nD) : (dats m 0 c).arrAt 3 cfg0.N = result (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨a, b, rfl⟩ : ∃ (a : Fin 512) (b : Fin 1024), y = ix2 a b := ⟨y 0, y 1, eq_ix2 y⟩
  have hN : t.val < 8 := lt_of_lt_of_eq t.isLt N_0
  have h : 512 * t.val + a.val < 4096 := by omega
  blk_simp
  rw [after0_3, emb3 _ _ _ h, out3]
  show entry (fun k => iblk m c 0 t (ix2 a (mate b k))) (iblk m c 1 t (ix2 a b)) (iblk m c 2 t (ix2 0 (lane b))) (lane b) = _
  rw [blk1 m c t a b h, blk2 m c t (lane b), funext fun k => blk0 m c t a (mate b k) h]
  rfl

variable (ρ : Dev nD → PrngReg)

/-- THE KERNEL'S RUN: its result is the gated norm, its arguments unchanged. -/
theorem run : θ_run (defs (F := Ideal)) (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.PostIdeal.Entries

end
-- ==== Proof.PostBwdValue.lean ====
/- The gradients of the norm and gate of the delta rule's output, entry by entry. -/
module

public import proofs.«01_k».proof.Proof.Gen.PostBwdIdeal.Value
public import proofs.«01_k».proof.Proof.Heads
public import proofs.«01_k».proof.Proof.Gate
public import proofs.«01_k».proof.Proof.Blocked

@[expose] public section

set_option maxRecDepth 16384

noncomputable section

namespace Cert.PostBwdIdeal.Entries

open Cert.PostBwdIdeal Cert.PostBwdIdeal.Gen Idealize.ShloMosaic Idealize.ShloMosaic.TcCoe Idealize.SL.Sem Heads Blocked

/-- The incoming gradient with the gate, of a head's row. -/
def dn (G Z : Fin 128 → EReal) (k : Fin 128) : EReal := G k * (Z k * Gate.gate (Z k))

/-- One entry of the input's gradient, from its row of a head: `f` the input's, `G` the incoming gradient's, `Z` the gate's. -/
def entryX (f G Z W : Fin 128 → EReal) (d : Fin 128) : EReal :=
  inv f * (dn G Z d * W d - f d * inv f * mean fun k => dn G Z k * W k * (f k * inv f))

/-- One entry of the gate's gradient. -/
def entryG (f G Z W : Fin 128 → EReal) (d : Fin 128) : EReal :=
  G d * (f d * inv f) * W d * (Gate.gate (Z d) * (1 + Z d * (1 - Gate.gate (Z d))))

section
variable (x0 : Vec Ideal S512x1024 .bf16) (x1 : Vec Ideal S512x1024 .f32) (x2 : Vec Ideal S512x1024 .bf16) (x3 : Vec Ideal S1x128 .f32) (s : Vec Ideal S1x128 .f32)

/-- A block's entries of a result, from the entries of a head's row. -/
def whole (E : (f G Z W : Fin 128 → EReal) → Fin 128 → EReal) : S512x1024.Idx → EReal := fun y =>
  E (fun k => x1 (ix2 (y 0 : Fin 512) (mate (y 1 : Fin 1024) k))) (fun k => x0 (ix2 (y 0 : Fin 512) (mate (y 1 : Fin 1024) k)))
    (fun k => x2 (ix2 (y 0 : Fin 512) (mate (y 1 : Fin 1024) k))) (fun k => x3 (ix2 0 k)) (lane (y 1 : Fin 1024))

/-- The block of the input's gradient. -/
def wholeX : Vec Ideal S512x1024 .f32 := whole x0 x1 x2 x3 entryX

/-- The block of the gate's gradient. -/
def wholeG : Vec Ideal S512x1024 .bf16 := whole x0 x1 x2 x3 entryG

theorem whole_at (E : (f G Z W : Fin 128 → EReal) → Fin 128 → EReal) (o : ℕ) (ho : o % 128 = 0) (h : o + 128 ≤ 1024)
    (inb : ∀ q, (![0, o] : Fin 2 → ℕ) q + S512x128.size q ≤ S512x1024.size q) (a : Fin 512) (b : Fin 128) :
    whole x0 x1 x2 x3 E ((Rect.unit (s := S512x1024) ![0, o] S512x128.size inb).emb (ix2 a b))
      = E (fun k => x1 (ix2 a ⟨o + k.val, by omega⟩)) (fun k => x0 (ix2 a ⟨o + k.val, by omega⟩))
          (fun k => x2 (ix2 a ⟨o + k.val, by omega⟩)) (fun k => x3 (ix2 0 k)) b := by
  have e : (Rect.unit (s := S512x1024) ![0, o] S512x128.size inb).emb (ix2 a b) = ix2 a ⟨o + b.val, by omega⟩ := by
    funext q
    apply Fin.ext
    rw [Rect.emb_apply]
    match q with
    | 0 => show 0 + 1 * a.val = a.val; omega
    | 1 => show o + 1 * b.val = o + b.val; omega
  rw [e]
  show E (fun k => x1 (ix2 a (mate ⟨o + b.val, by omega⟩ k))) (fun k => x0 (ix2 a (mate ⟨o + b.val, by omega⟩ k)))
    (fun k => x2 (ix2 a (mate ⟨o + b.val, by omega⟩ k))) (fun k => x3 (ix2 0 k)) (lane ⟨o + b.val, by omega⟩) = _
  simp only [lane_of ho, fun k => mate_of ho b k (by omega) (by omega)]

variable (c : Dev nD) (i : grid0.Coords) (a1 : Memref sig .tc .vmem S512x1024 .bf16) (h1 : a1.IsWhole) (a2 : Memref sig .tc .vmem S512x1024 .f32) (h2 : a2.IsWhole) (a3 : Memref sig .tc .vmem S512x1024 .bf16) (h3 : a3.IsWhole)
  (a4 : Memref sig .tc .vmem S1x128 .f32) (h4 : a4.IsWhole) (a5 : Memref sig .tc .vmem S512x1024 .f32) (h5 : a5.IsWhole) (a6 : Memref sig .tc .vmem S512x1024 .bf16) (h6 : a6.IsWhole) (a7 : Memref sig .tc .vmem S1x128 .f32) (h7 : a7.IsWhole)

theorem out4 : (∀ h, out0_A_4 c i a1 h1 a2 h2 a3 h3 a4 h4 a5 h5 a6 h6 a7 h7 h x0 x1 x2 x3 = (wholeX x0 x1 x2 x3))
    ∧ ∀ h, out0_B_4 c i a1 h1 a2 h2 a3 h3 a4 h4 a5 h5 a6 h6 a7 h7 h x0 x1 x2 x3 s = (wholeX x0 x1 x2 x3) := by
  constructor
  all_goals
    intro h
    frame_out
    funext y
    refine View.canon_apply_of_pieces (wholeX x0 x1 x2 x3) _ ?_ y (View.cover_of_tiled (s := S512x1024) _ S512x128.size (by rfl) y)
    intro p hp
    simp only [List.mem_cons, List.not_mem_nil, or_false] at hp
    rcases hp with rfl | rfl | rfl | rfl | rfl | rfl | rfl | rfl
    all_goals
      intro x
      obtain ⟨a, b, rfl⟩ : ∃ (a : Fin 512) (b : Fin 128), x = ix2 a b := ⟨x 0, x 1, eq_ix2 x⟩
      refine Eq.trans ?_ (whole_at x0 x1 x2 x3 entryX _ (by decide) (by decide) (by decide) a b).symm
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
      rfl

theorem out5 : (∀ h, out0_A_5 c i a1 h1 a2 h2 a3 h3 a4 h4 a5 h5 a6 h6 a7 h7 h x0 x1 x2 x3 = (wholeG x0 x1 x2 x3))
    ∧ ∀ h, out0_B_5 c i a1 h1 a2 h2 a3 h3 a4 h4 a5 h5 a6 h6 a7 h7 h x0 x1 x2 x3 s = (wholeG x0 x1 x2 x3) := by
  constructor
  all_goals
    intro h
    frame_out
    funext y
    refine View.canon_apply_of_pieces (wholeG x0 x1 x2 x3) _ ?_ y (View.cover_of_tiled (s := S512x1024) _ S512x128.size (by rfl) y)
    intro p hp
    simp only [List.mem_cons, List.not_mem_nil, or_false] at hp
    rcases hp with rfl | rfl | rfl | rfl | rfl | rfl | rfl | rfl
    all_goals
      intro x
      obtain ⟨a, b, rfl⟩ : ∃ (a : Fin 512) (b : Fin 128), x = ix2 a b := ⟨x 0, x 1, eq_ix2 x⟩
      refine Eq.trans ?_ (whole_at x0 x1 x2 x3 entryG _ (by decide) (by decide) (by decide) a b).symm
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
      rfl

theorem out_A4 (h : cond0_0 i) : out0_A_4 c i a1 h1 a2 h2 a3 h3 a4 h4 a5 h5 a6 h6 a7 h7 h x0 x1 x2 x3 = wholeX x0 x1 x2 x3 := (out4 x0 x1 x2 x3 (fun _ => (0 : EReal)) c i a1 h1 a2 h2 a3 h3 a4 h4 a5 h5 a6 h6 a7 h7).1 h

theorem out_B4 (h : ¬cond0_0 i) : out0_B_4 c i a1 h1 a2 h2 a3 h3 a4 h4 a5 h5 a6 h6 a7 h7 h x0 x1 x2 x3 s = wholeX x0 x1 x2 x3 := (out4 x0 x1 x2 x3 s c i a1 h1 a2 h2 a3 h3 a4 h4 a5 h5 a6 h6 a7 h7).2 h

theorem out_A5 (h : cond0_0 i) : out0_A_5 c i a1 h1 a2 h2 a3 h3 a4 h4 a5 h5 a6 h6 a7 h7 h x0 x1 x2 x3 = wholeG x0 x1 x2 x3 := (out5 x0 x1 x2 x3 (fun _ => (0 : EReal)) c i a1 h1 a2 h2 a3 h3 a4 h4 a5 h5 a6 h6 a7 h7).1 h

theorem out_B5 (h : ¬cond0_0 i) : out0_B_5 c i a1 h1 a2 h2 a3 h3 a4 h4 a5 h5 a6 h6 a7 h7 h x0 x1 x2 x3 s = wholeG x0 x1 x2 x3 := (out5 x0 x1 x2 x3 s c i a1 h1 a2 h2 a3 h3 a4 h4 a5 h5 a6 h6 a7 h7).2 h

/-- The column of lane `k` of head `h`. -/
def col (h : Fin 8) (k : Fin 128) : Fin 1024 := ⟨h.val * 128 + k.val, by omega⟩

/-- One entry's part of the weights' gradient. -/
def part (f G Z : Fin 128 → EReal) (d : Fin 128) : EReal := dn G Z d * (f d * inv f)

/-- A row's part. -/
def row (X G Z : Fin 1024 → EReal) (d : Fin 128) : EReal :=
  ∑ h : Fin 8, part (fun k => X (col h k)) (fun k => G (col h k)) (fun k => Z (col h k)) d

theorem col_zero (k : Fin 128) : col 0 k = ⟨k.val, by omega⟩ := Fin.ext (show 0 * 128 + k.val = k.val by omega)

theorem out_A6 (b : Fin 128) (h : cond0_0 i) : out0_A_6 c i a1 h1 a2 h2 a3 h3 a4 h4 a5 h5 a6 h6 a7 h7 h x0 x1 x2 x3 (ix2 0 b)
    = ∑ q : Fin 512, row (fun j => x1 (ix2 q j)) (fun j => x0 (ix2 q j)) (fun j => x2 (ix2 q j)) b := by
  frame_out
  unfold row
  rw [Finset.sum_comm, Fin.sum_univ_eight]
  simp only [col_zero]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
  rfl

theorem out_B6 (b : Fin 128) (h : ¬cond0_0 i) : out0_B_6 c i a1 h1 a2 h2 a3 h3 a4 h4 a5 h5 a6 h6 a7 h7 h x0 x1 x2 x3 s (ix2 0 b)
    = s (ix2 0 b) + ∑ q : Fin 512, row (fun j => x1 (ix2 q j)) (fun j => x0 (ix2 q j)) (fun j => x2 (ix2 q j)) b := by
  frame_out
  unfold row
  rw [Finset.sum_comm, Fin.sum_univ_eight]
  simp only [col_zero]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
  rfl
end

variable (m : (ℓ : Loc nD τ sig) → Buf (Elt Ideal) ℓ)

theorem idx0 : ∀ t : Fin cfg0.N, win0_0.index t = ![t.val, 0] := by decide +kernel

theorem blk0 (c : Dev nD) (t : Fin cfg0.N) (a : Fin 512) (b : Fin 1024) (h : 512 * t.val + a.val < 4096) :
    iblk m c 0 t (ix2 a b) = m ((c.tc : Thread nD τ).loc main_arg0) (ix2 ⟨512 * t.val + a.val, h⟩ b) := by
  blk_simp [iblk]
  entry_read
  blk_ext [idx0 t]

theorem idx1 : ∀ t : Fin cfg0.N, win0_1.index t = ![t.val, 0] := by decide +kernel

theorem blk1 (c : Dev nD) (t : Fin cfg0.N) (a : Fin 512) (b : Fin 1024) (h : 512 * t.val + a.val < 4096) :
    iblk m c 1 t (ix2 a b) = m ((c.tc : Thread nD τ).loc main_arg1) (ix2 ⟨512 * t.val + a.val, h⟩ b) := by
  blk_simp [iblk]
  entry_read
  blk_ext [idx1 t]

theorem idx2 : ∀ t : Fin cfg0.N, win0_2.index t = ![t.val, 0] := by decide +kernel

theorem blk2 (c : Dev nD) (t : Fin cfg0.N) (a : Fin 512) (b : Fin 1024) (h : 512 * t.val + a.val < 4096) :
    iblk m c 2 t (ix2 a b) = m ((c.tc : Thread nD τ).loc main_arg2) (ix2 ⟨512 * t.val + a.val, h⟩ b) := by
  blk_simp [iblk]
  entry_read
  blk_ext [idx2 t]

theorem idx3 : ∀ t : Fin cfg0.N, win0_3.index t = ![0, 0] := by decide +kernel

theorem blk3 (c : Dev nD) (t : Fin cfg0.N) (b : Fin 128) :
    iblk m c 3 t (ix2 0 b) = m ((c.tc : Thread nD τ).loc main_arg3) (ix2 0 b) := by
  blk_simp [iblk]
  entry_read
  blk_ext [idx3 t]

theorem idx4 : ∀ t : Fin cfg0.N, win0_4.index t = ![t.val, 0] := by decide +kernel

theorem emb4 (t : Fin cfg0.N) (a : Fin 512) (b : Fin 1024) (h : 512 * t.val + a.val < 4096) :
    (win0_4.blk t).view.emb (ix2 a b) = ix2 ⟨512 * t.val + a.val, h⟩ b := by
  blk_ext [idx4 t]

theorem idx5 : ∀ t : Fin cfg0.N, win0_5.index t = ![t.val, 0] := by decide +kernel

theorem emb5 (t : Fin cfg0.N) (a : Fin 512) (b : Fin 1024) (h : 512 * t.val + a.val < 4096) :
    (win0_5.blk t).view.emb (ix2 a b) = ix2 ⟨512 * t.val + a.val, h⟩ b := by
  blk_ext [idx5 t]

theorem idx6 : ∀ t : Fin cfg0.N, win0_6.index t = ![0, 0] := by decide +kernel

theorem emb6 (t : Fin cfg0.N) (b : Fin 128) : (win0_6.blk t).view.emb (ix2 0 b) = ix2 0 b := by
  blk_ext [idx6 t]

/-- Every entry of a result, from the entries of a head's row. -/
def every (E : (f G Z W : Fin 128 → EReal) → Fin 128 → EReal) (G X Z : (⟨2, ![4096, 1024]⟩ : Shape).Idx → EReal) (W : (⟨2, ![1, 128]⟩ : Shape).Idx → EReal) (a : Fin 4096) (b : Fin 1024) : EReal :=
  E (fun k => X (ix2 a (mate b k))) (fun k => G (ix2 a (mate b k))) (fun k => Z (ix2 a (mate b k))) (fun k => W (ix2 0 k)) (lane b)

/-- The input's gradient. -/
def dx (G X Z : (⟨2, ![4096, 1024]⟩ : Shape).Idx → EReal) (W : (⟨2, ![1, 128]⟩ : Shape).Idx → EReal) : Vec Ideal S4096x1024 .f32 := fun y =>
  every entryX G X Z W (y 0 : Fin 4096) (y 1 : Fin 1024)

/-- The gate's gradient. -/
def dg (G X Z : (⟨2, ![4096, 1024]⟩ : Shape).Idx → EReal) (W : (⟨2, ![1, 128]⟩ : Shape).Idx → EReal) : Vec Ideal S4096x1024 .bf16 := fun y =>
  every entryG G X Z W (y 0 : Fin 4096) (y 1 : Fin 1024)

/-- A row's term of a weight's gradient. -/
def term (G X Z : (⟨2, ![4096, 1024]⟩ : Shape).Idx → EReal) (b : Fin 128) (k : ℕ) : EReal :=
  if h : k < 4096 then row (fun j => X (ix2 ⟨k, h⟩ j)) (fun j => G (ix2 ⟨k, h⟩ j)) (fun j => Z (ix2 ⟨k, h⟩ j)) b else 0

/-- The weights' gradient. -/
def dw (G X Z : (⟨2, ![4096, 1024]⟩ : Shape).Idx → EReal) : Vec Ideal S1x128 .f32 := fun y =>
  ∑ k : Fin 4096, row (fun j => X (ix2 k j)) (fun j => G (ix2 k j)) (fun j => Z (ix2 k j)) (y 1 : Fin 128)

theorem dw_apply (G X Z : (⟨2, ![4096, 1024]⟩ : Shape).Idx → EReal) (b : Fin 128) : dw G X Z (ix2 0 b) = psum (term G X Z b) 4096 := by
  rw [psum_fin]
  refine Finset.sum_congr rfl fun k _ => ?_
  rw [term, dif_pos k.isLt]
  rfl

theorem outs_at (c : Dev nD) (t : Fin cfg0.N) : (outsAt0 m c t.val t.isLt).1 = wholeX (iblk m c 0 t) (iblk m c 1 t) (iblk m c 2 t) (iblk m c 3 t)
    ∧ (outsAt0 m c t.val t.isLt).2.1 = wholeG (iblk m c 0 t) (iblk m c 1 t) (iblk m c 2 t) (iblk m c 3 t) := by
  by_cases h0 : t.val % 8 = 0
  · rw [outsAt0_A m c t h0]
    dsimp only
    rw [out_A4, out_A5]
    exact ⟨rfl, rfl⟩
  · rw [outsAt0_B m c t h0]
    dsimp only
    rw [out_B4, out_B5]
    exact ⟨rfl, rfl⟩

theorem whole_block (E : (f G Z W : Fin 128 → EReal) → Fin 128 → EReal) (c : Dev nD) (t : Fin cfg0.N) (a : Fin 512) (b : Fin 1024) (h : 512 * t.val + a.val < 4096) :
    whole (iblk m c 0 t) (iblk m c 1 t) (iblk m c 2 t) (iblk m c 3 t) E (ix2 a b) = every E (m ((c.tc : Thread nD τ).loc main_arg0)) (m ((c.tc : Thread nD τ).loc main_arg1)) (m ((c.tc : Thread nD τ).loc main_arg2)) (m ((c.tc : Thread nD τ).loc main_arg3)) ⟨512 * t.val + a.val, h⟩ b := by
  show E (fun k => iblk m c 1 t (ix2 a (mate b k))) (fun k => iblk m c 0 t (ix2 a (mate b k))) (fun k => iblk m c 2 t (ix2 a (mate b k))) (fun k => iblk m c 3 t (ix2 0 k)) (lane b) = _
  rw [funext fun k => blk1 m c t a (mate b k) h, funext fun k => blk0 m c t a (mate b k) h, funext fun k => blk2 m c t a (mate b k) h, funext fun k => blk3 m c t k]
  rfl

theorem final4 (c : Dev nD) : (dats m 0 c).arrAt 4 cfg0.N = dx (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨a, b, rfl⟩ : ∃ (a : Fin 512) (b : Fin 1024), y = ix2 a b := ⟨y 0, y 1, eq_ix2 y⟩
  have hN : t.val < 8 := lt_of_lt_of_eq t.isLt N_0
  have h : 512 * t.val + a.val < 4096 := by omega
  blk_simp
  rw [after0_4, emb4 _ _ _ h, (outs_at m c t).1]
  exact whole_block m _ c t a b h

theorem final5 (c : Dev nD) : (dats m 0 c).arrAt 5 cfg0.N = dg (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  obtain ⟨a, b, rfl⟩ : ∃ (a : Fin 512) (b : Fin 1024), y = ix2 a b := ⟨y 0, y 1, eq_ix2 y⟩
  have hN : t.val < 8 := lt_of_lt_of_eq t.isLt N_0
  have h : 512 * t.val + a.val < 4096 := by omega
  blk_simp
  rw [after0_5, emb5 _ _ _ h, (outs_at m c t).2]
  exact whole_block m _ c t a b h

theorem block (c : Dev nD) (t : Fin cfg0.N) (b : Fin 128) :
    ∑ q : Fin 512, row (fun j => iblk m c 1 t (ix2 q j)) (fun j => iblk m c 0 t (ix2 q j)) (fun j => iblk m c 2 t (ix2 q j)) b
      = ∑ q : Fin 512, term (m ((c.tc : Thread nD τ).loc main_arg0)) (m ((c.tc : Thread nD τ).loc main_arg1)) (m ((c.tc : Thread nD τ).loc main_arg2)) b (512 * (t.val % 8) + q.val) := by
  have hN : t.val < 8 := lt_of_lt_of_eq t.isLt N_0
  refine Finset.sum_congr rfl fun q _ => ?_
  have h : 512 * t.val + q.val < 4096 := by omega
  rw [funext fun j => blk1 m c t q j h, funext fun j => blk0 m c t q j h, funext fun j => blk2 m c t q j h]
  unfold term
  simp only [Nat.mod_eq_of_lt hN]
  rw [dif_pos h]

/-- What the weights' gradient holds after point `t`. -/
theorem acc (c : Dev nD) (b : Fin 128) (t : ℕ) (h : t < cfg0.N) :
    (outsAt0 m c t h).2.2 (ix2 0 b) = psum (term (m ((c.tc : Thread nD τ).loc main_arg0)) (m ((c.tc : Thread nD τ).loc main_arg1)) (m ((c.tc : Thread nD τ).loc main_arg2)) b) (512 * (t % 8 + 1)) := by
  refine acc_run 8 512 (fun t h => (outsAt0 m c t h).2.2 (ix2 0 b)) (fun _ => term (m ((c.tc : Thread nD τ).loc main_arg0)) (m ((c.tc : Thread nD τ).loc main_arg1)) (m ((c.tc : Thread nD τ).loc main_arg2)) b) (fun t h h0 => ?_) (fun t h h0 => ?_) t h
  · rw [outsAt0_A m c ⟨t, h⟩ h0]
    dsimp only
    rw [out_A6, block, zero_add]
  · rw [outsAt0_B m c ⟨t, h⟩ h0]
    dsimp only
    rw [out_B6, block]

theorem final6 (c : Dev nD) : (dats m 0 c).arrAt 6 cfg0.N = dw (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  obtain ⟨b, rfl⟩ : ∃ b : Fin 128, y = ix2 0 b := ⟨y 1, (eq_ix2 y).trans (congrArg (fun z => ix2 z (y 1)) (Subsingleton.elim _ _))⟩
  have hN : t.val < 8 := lt_of_lt_of_eq t.isLt N_0
  have h7 : t.val % 8 = 7 := by have := (flush0_6 t).mp hf; omega
  blk_simp
  rw [after0_6, emb6, acc, h7, dw_apply]

variable (ρ : Dev nD → PrngReg)

/-- THE KERNEL'S RUN: its three gradients, its arguments unchanged. -/
theorem run : θ_run (defs (F := Ideal)) (onTc (τ := τ) (main (F := Ideal))) ⟨m, fun _ => 0, ρ⟩ fun r => ∀ c : Dev nD,
      r.2.mem ((c.tc : Thread nD τ).loc main_v2_0) = dx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v2_1) = dg (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v2_2) = dw (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final4 m c), (h c).2.1.trans (final5 m c), (h c).2.2.1.trans (final6 m c), (h c).2.2.2⟩) (Value.run_blocks m ρ)

end Cert.PostBwdIdeal.Entries

end
-- ==== Proof.Posts.lean ====
/- The norm and gate of the delta rule's output and their gradients: each program's value against its reference's, and the references' frames. -/
module

public import proofs.«01_k».proof.Defs
public import proofs.«01_k».proof.Proof.Pre
public import proofs.«01_k».proof.Proof.Gen.PostIdeal
public import proofs.«01_k».proof.Proof.Gen.PostRefIdeal
public import proofs.«01_k».proof.Proof.Gen.PostRefIdeal.Run
public import proofs.«01_k».proof.Proof.PostValue
public import proofs.«01_k».proof.Proof.Gen.PostBwdIdeal
public import proofs.«01_k».proof.Proof.Gen.PostBwdRefIdeal
public import proofs.«01_k».proof.Proof.Gen.PostBwdRefIdeal.Run
public import proofs.«01_k».proof.Proof.PostBwdValue

@[expose] public section

set_option maxRecDepth 16384

noncomputable section

namespace Cert.Pre_finite_post

open Idealize.ShloMosaic

instance facts : Facts where
  bcast_S_S4096x1024 := by decide
  bcast_S_S1x128 := by decide

variable (m : (ℓ : Loc Cert.PostBwdIdeal.nD Cert.PostBwdIdeal.τ Cert.PostBwdIdeal.sig) → Buf (Elt Ideal) ℓ)

theorem args (h : Pre_PostBwdIdeal_finite_post m) (c : Dev Cert.PostBwdIdeal.nD) :
    (∀ i : S4096x1024.Idx, Scan.Fin' (m ((c.tc : Thread Cert.PostBwdIdeal.nD Cert.PostBwdIdeal.τ).loc Cert.PostBwdIdeal.main_arg0) i))
    ∧ (∀ i : S4096x1024.Idx, Scan.Fin' (m ((c.tc : Thread Cert.PostBwdIdeal.nD Cert.PostBwdIdeal.τ).loc Cert.PostBwdIdeal.main_arg1) i))
    ∧ (∀ i : S1x128.Idx, Scan.Fin' (m ((c.tc : Thread Cert.PostBwdIdeal.nD Cert.PostBwdIdeal.τ).loc Cert.PostBwdIdeal.main_arg3) i)) :=
  ⟨Cert.Pre_finite.elt _ _ (h c).1, Cert.Pre_finite.elt _ _ (h c).2.1, Cert.Pre_finite.elt _ _ (h c).2.2⟩

end Cert.Pre_finite_post

namespace Cert.Proof.Posts

open Idealize.ShloMosaic Idealize.ShloMosaic.TcCoe Idealize.SL.Sem Heads Gate

/-- The derivative of the gated line: the kernel's product is the sum of the product rule, the factor before it a real. -/
theorem line (p : ℝ) (g : EReal) : (p : EReal) * (gate g * (1 + g * (1 - gate g))) = (p : EReal) * gate g + g * (p : EReal) * (gate g * (1 - gate g)) := by
  induction g with
  | bot =>
    have h : gate ⊥ = 0 := by
      unfold gate
      rw [show (0 : EReal) - ⊥ = ⊤ from rfl, show Ideal.exp ⊤ = ⊤ from rfl, show (1 : EReal) + ⊤ = ⊤ from rfl]
      simp [Ideal.div]
    simp [h]
  | top =>
    have h : gate ⊤ = 1 := by
      unfold gate
      rw [show (0 : EReal) - ⊤ = ⊥ from rfl, show Ideal.exp ⊥ = 0 from rfl]
      simpa using Ideal.div_coe (x := 1) (y := 1) one_ne_zero
    have e : (1 : EReal) - 1 = 0 := by rw [← EReal.coe_one, ← EReal.coe_sub, sub_self, EReal.coe_zero]
    simp [h, e]
  | coe g =>
    have h : ∃ s : ℝ, gate (g : EReal) = (s : EReal) := by
      refine ⟨1 * (1 / (1 + Real.exp (0 - g))), ?_⟩
      unfold gate
      rw [show (0 : EReal) - (g : EReal) = ((0 - g : ℝ) : EReal) by push_cast; rfl, Ideal.exp_coe,
        show (1 : EReal) + ((Real.exp (0 - g) : ℝ) : EReal) = ((1 + Real.exp (0 - g) : ℝ) : EReal) by push_cast; rfl,
        Ideal.div_coe (by positivity)]
      push_cast
      rfl
    obtain ⟨s, h⟩ := h
    rw [h]
    norm_cast
    ring

/-- The same with the factor's own factors. -/
theorem line_of {x r w d : EReal} (hx : Scan.Fin' x) (hr : Scan.Fin' r) (hw : Scan.Fin' w) (hd : Scan.Fin' d) (g : EReal) :
    x * r * w * d * gate g + g * (x * r * w * d) * (gate g * (1 - gate g)) = d * (x * r) * w * (gate g * (1 + g * (1 - gate g))) := by
  obtain ⟨x, rfl⟩ := hx
  obtain ⟨r, rfl⟩ := hr
  obtain ⟨w, rfl⟩ := hw
  obtain ⟨d, rfl⟩ := hd
  rw [show ((d : ℝ) : EReal) * ((x : EReal) * (r : EReal)) * (w : EReal) = ((x * r * w * d : ℝ) : EReal) by push_cast; ac_rfl,
    show ((x : ℝ) : EReal) * (r : EReal) * (w : EReal) * (d : EReal) = ((x * r * w * d : ℝ) : EReal) by push_cast; rfl]
  exact (line _ g).symm

/-- The reciprocal root of a head's mean square is a real. -/
theorem inv_real (f : Fin 128 → EReal) : Scan.Fin' (inv f) := by
  obtain ⟨e, he, h⟩ := Rms.small
  unfold Heads.inv
  rw [Rms.n128, h]
  rcases Rms.root (by norm_num : (0 : ℝ) < 128) he f with ⟨h, _⟩ | ⟨v, _, _, h⟩
  · exact ⟨0, h⟩
  · exact ⟨_, h⟩

/-- The derivative of a head's norm, as the programs take the numbers. -/
theorem grad_row (f g : Fin 128 → EReal) (A x : EReal) :
    inv f * (A - x * inv f * mean fun k => g k * (f k * inv f))
      = A * inv f
        + x * Ideal.div ((∑ k, f k * g k) * (Ideal.ofBits .f32 3204448256#32
          * Ideal.div (inv f) (Rms.ms (Ideal.ofBits .f32 1124073472#32) (Ideal.ofBits .f32 897988541#32) f))) (Ideal.ofBits .f32 1124073472#32)
        + Ideal.div ((∑ k, f k * g k) * (Ideal.ofBits .f32 3204448256#32
          * Ideal.div (inv f) (Rms.ms (Ideal.ofBits .f32 1124073472#32) (Ideal.ofBits .f32 897988541#32) f))) (Ideal.ofBits .f32 1124073472#32) * x := by
  obtain ⟨e, he, h⟩ := Rms.small
  unfold Heads.inv mean
  rw [Rms.n128, Rms.half, h]
  exact Rms.grad (by norm_num) he f g A x

/-- The reference of the gated norm leaves its arguments unchanged. -/
theorem framePost : Cert.quiescent_PostRefIdeal (hPostRefIdeal := Cert.PostRefIdeal.Gen.facts) := fun m ρ _ =>
  (θ_run _ _ _).mono (fun r h => ⟨fun c => (h c).2, sem_eq_zero_of_no_sems (by decide) _⟩) (Cert.PostRefIdeal.Value.run m ρ)

/-- The gated norm is the reference's. -/
theorem valuePost : Cert.algebraic_PostIdeal_PostRefIdeal (hPostIdeal := Cert.PostIdeal.Gen.facts)
    (hPostRefIdeal := Cert.PostRefIdeal.Gen.facts) := fun m ρ m' ρ' _ hag => by
  refine ⟨fun c => _, Cert.PostIdeal.Entries.run m ρ,
    (θ_run _ _ _).mono (fun r h c => ⟨(h c).1.trans ?_, (h c).2⟩) (Cert.PostRefIdeal.Value.run m' ρ')⟩
  rw [(hag c).1, (hag c).2.1, (hag c).2.2]
  funext y
  obtain ⟨a, b, rfl⟩ : ∃ (a : Fin 4096) (b : Fin 1024), y = ix2 a b := ⟨y 0, y 1, eq_ix2 y⟩
  unfold Cert.PostIdeal.Entries.result
  pointwise
  simp only [gate_neg]
  unfold Cert.PostIdeal.Entries.entry
  simp only [mate_lane]
  rfl

/-- The reference of the gated norm's gradients leaves its arguments unchanged. -/
theorem framePostBwd : Cert.quiescent_PostBwdRefIdeal (hPostBwdRefIdeal := Cert.PostBwdRefIdeal.Gen.facts) := fun m ρ _ =>
  (θ_run _ _ _).mono (fun r h => ⟨fun c => (h c).2.2.2, sem_eq_zero_of_no_sems (by decide) _⟩) (Cert.PostBwdRefIdeal.Value.run m ρ)

/-- The gradients of the gated norm are the reference's. -/
theorem valuePostBwd : Cert.algebraic_PostBwdIdeal_PostBwdRefIdeal_pre_finite_post (hPostBwdIdeal := Cert.PostBwdIdeal.Gen.facts)
    (hPostBwdRefIdeal := Cert.PostBwdRefIdeal.Gen.facts) (hPre_finite_post := Cert.Pre_finite_post.facts) := fun m ρ m' ρ' hpre hag => by
  refine ⟨fun c => _, fun c => _, fun c => _, Cert.PostBwdIdeal.Entries.run m ρ,
    (θ_run _ _ _).mono (fun r h c => ⟨(h c).1.trans (funext fun y => ?_), (h c).2.1.trans (funext fun y => ?_), (h c).2.2.1.trans (funext fun y => ?_), (h c).2.2.2⟩)
      (Cert.PostBwdRefIdeal.Value.run m' ρ')⟩
  · unfold Cert.PostBwdRefIdeal.Value.res_main_v45
    rw [(hag c).1, (hag c).2.1, (hag c).2.2.1, (hag c).2.2.2]
    obtain ⟨a, b, rfl⟩ : ∃ (a : Fin 4096) (b : Fin 1024), y = ix2 a b := ⟨y 0, y 1, eq_ix2 y⟩
    unfold Cert.PostBwdIdeal.Entries.dx
    pointwise
    simp only [Fin.sum_univ_one, gate_neg]
    unfold Cert.PostBwdIdeal.Entries.every Cert.PostBwdIdeal.Entries.entryX Cert.PostBwdIdeal.Entries.dn
    simp only [mate_lane]
    exact (grad_row (fun k => m (c.tc.loc Cert.PostBwdIdeal.main_arg1) (ix2 a (mate b k))) _ _ _).symm
  · obtain ⟨hdy, ho, hw⟩ := Cert.Pre_finite_post.args m hpre c
    rw [(hag c).1, (hag c).2.1, (hag c).2.2.1, (hag c).2.2.2]
    obtain ⟨a, b, rfl⟩ : ∃ (a : Fin 4096) (b : Fin 1024), y = ix2 a b := ⟨y 0, y 1, eq_ix2 y⟩
    unfold Cert.PostBwdIdeal.Entries.dg
    pointwise
    simp only [gate_neg]
    unfold Cert.PostBwdIdeal.Entries.every Cert.PostBwdIdeal.Entries.entryG
    simp only [mate_lane]
    exact line_of (ho _) (inv_real _) (hw _) (hdy _) _
  · rw [(hag c).1, (hag c).2.1, (hag c).2.2.1]
    obtain ⟨b, rfl⟩ : ∃ b : Fin 128, y = ix2 0 b := ⟨y 1, (eq_ix2 y).trans (congrArg (fun z => ix2 z (y 1)) (Subsingleton.elim _ _))⟩
    unfold Cert.PostBwdIdeal.Entries.dw
    pointwise
    simp only [Fin.sum_univ_one, gate_neg]
    exact Finset.sum_congr rfl fun q _ => Finset.sum_congr rfl fun h _ => mul_comm _ _

end Cert.Proof.Posts

end
-- ==== Proof.Shift.lean ====
/- Rows moved up across a block's end. -/
module

public import proofs.«01_k».proof.Proof.Blocked

@[expose] public section

noncomputable section

namespace Shift

open Idealize.ShloMosaic Blocked

/-- Row `a` of block `i` of eight and of the rows after it: `c` the block, `n` the first rows of the next, zeros after the last. -/
def below (i : ℕ) (c : Fin 512 → EReal) (n : Fin 16 → EReal) (a : ℕ) : EReal :=
  if h : a < 512 then c ⟨a, h⟩ else if i = 7 then 0 else if h' : a - 512 < 16 then n ⟨a - 512, h'⟩ else 0

theorem below_lt (i : ℕ) (c : Fin 512 → EReal) (n : Fin 16 → EReal) {a : ℕ} (h : a < 512) : below i c n a = c ⟨a, h⟩ := dif_pos h

theorem below_last {i : ℕ} (hi : i = 7) (c : Fin 512 → EReal) (n : Fin 16 → EReal) {a : ℕ} (h : ¬a < 512) : below i c n a = 0 := by
  rw [below, dif_neg h, if_pos hi]

theorem below_next {i : ℕ} (hi : ¬i = 7) (c : Fin 512 → EReal) (n : Fin 16 → EReal) (k : ℕ) (h : k < 16) : below i c n (512 + k) = n ⟨k, h⟩ := by
  rw [below, dif_neg (by omega), if_neg hi, dif_pos (by omega)]
  exact congrArg n (Fin.ext (by show 512 + k - 512 = k; omega))

theorem below_ge {i : ℕ} (hi : ¬i = 7) (c : Fin 512 → EReal) (n : Fin 16 → EReal) {a : ℕ} (h : ¬a < 512) (h' : a - 512 < 16) : below i c n a = n ⟨a - 512, h'⟩ := by
  rw [below, dif_neg h, if_neg hi, dif_pos h']

theorem word_last {i : ℕ} (hi : i < 8) : Scalar.cmpi .eq (BitVec.ofNat 32 i) 7#32 = BitVec.ofBool (decide (i = 7)) := by
  interval_cases i <;> decide

theorem up_one {i : ℕ} (hi : i < 8) {c : Fin 512 → EReal} {n : Fin 16 → EReal} {a : Fin 512} :
    (if _h : a.val < 504 then c ⟨(a.val + 512 - 511) % 512, Nat.mod_lt _ (by decide)⟩ else (Scalar.select (IntOp.cmpi .eq (BitVec.ofNat 32 (a.val - 504)) 7#32) (Scalar.select (Scalar.cmpi .eq (BitVec.ofNat 32 i) 7#32) 0 (n 0)) (c ⟨(504 + (a.val - 504) + 512 - 511) % 512, Nat.mod_lt _ (by decide)⟩))) = below i c n (a.val + 1) := by
  obtain ⟨a, ha⟩ := a
  dsimp only
  split
  · rw [below_lt _ _ _ (by omega)]
    exact congrArg c (Fin.ext (by show (a + 512 - 511) % 512 = a + 1; omega))
  · rw [word_last hi]
    interval_cases a
    all_goals
      by_cases h7 : i = 7
      · first
          | (rw [below_last h7 _ _ (by decide)]; simp [h7, Scalar.select, IntOp.cmpi])
          | (rw [below_lt _ _ _ (by decide)]; rfl)
      · first
          | (rw [below_lt _ _ _ (by decide)]; rfl)
          | (refine Eq.trans ?_ (below_ge h7 c n (by decide) (by decide)).symm; simp [h7, Scalar.select, IntOp.cmpi])

theorem up_two {i : ℕ} (hi : i < 8) {c : Fin 512 → EReal} {n : Fin 16 → EReal} {a : Fin 512} :
    (if _h : a.val < 504 then c ⟨(a.val + 512 - 510) % 512, Nat.mod_lt _ (by decide)⟩ else (Scalar.select (IntOp.cmpi .eq (BitVec.ofNat 32 (a.val - 504)) 7#32) (Scalar.select (Scalar.cmpi .eq (BitVec.ofNat 32 i) 7#32) 0 (n 1)) (Scalar.select (IntOp.cmpi .eq (BitVec.ofNat 32 (a.val - 504)) 6#32) (Scalar.select (Scalar.cmpi .eq (BitVec.ofNat 32 i) 7#32) 0 (n 0)) (c ⟨(504 + (a.val - 504) + 512 - 510) % 512, Nat.mod_lt _ (by decide)⟩)))) = below i c n (a.val + 2) := by
  obtain ⟨a, ha⟩ := a
  dsimp only
  split
  · rw [below_lt _ _ _ (by omega)]
    exact congrArg c (Fin.ext (by show (a + 512 - 510) % 512 = a + 2; omega))
  · rw [word_last hi]
    interval_cases a
    all_goals
      by_cases h7 : i = 7
      · first
          | (rw [below_last h7 _ _ (by decide)]; simp [h7, Scalar.select, IntOp.cmpi])
          | (rw [below_lt _ _ _ (by decide)]; rfl)
      · first
          | (rw [below_lt _ _ _ (by decide)]; rfl)
          | (refine Eq.trans ?_ (below_ge h7 c n (by decide) (by decide)).symm; simp [h7, Scalar.select, IntOp.cmpi])

theorem up_three {i : ℕ} (hi : i < 8) {c : Fin 512 → EReal} {n : Fin 16 → EReal} {a : Fin 512} :
    (if _h : a.val < 504 then c ⟨(a.val + 512 - 509) % 512, Nat.mod_lt _ (by decide)⟩ else (Scalar.select (IntOp.cmpi .eq (BitVec.ofNat 32 (a.val - 504)) 7#32) (Scalar.select (Scalar.cmpi .eq (BitVec.ofNat 32 i) 7#32) 0 (n 2)) (Scalar.select (IntOp.cmpi .eq (BitVec.ofNat 32 (a.val - 504)) 6#32) (Scalar.select (Scalar.cmpi .eq (BitVec.ofNat 32 i) 7#32) 0 (n 1)) (Scalar.select (IntOp.cmpi .eq (BitVec.ofNat 32 (a.val - 504)) 5#32) (Scalar.select (Scalar.cmpi .eq (BitVec.ofNat 32 i) 7#32) 0 (n 0)) (c ⟨(504 + (a.val - 504) + 512 - 509) % 512, Nat.mod_lt _ (by decide)⟩))))) = below i c n (a.val + 3) := by
  obtain ⟨a, ha⟩ := a
  dsimp only
  split
  · rw [below_lt _ _ _ (by omega)]
    exact congrArg c (Fin.ext (by show (a + 512 - 509) % 512 = a + 3; omega))
  · rw [word_last hi]
    interval_cases a
    all_goals
      by_cases h7 : i = 7
      · first
          | (rw [below_last h7 _ _ (by decide)]; simp [h7, Scalar.select, IntOp.cmpi])
          | (rw [below_lt _ _ _ (by decide)]; rfl)
      · first
          | (rw [below_lt _ _ _ (by decide)]; rfl)
          | (refine Eq.trans ?_ (below_ge h7 c n (by decide) (by decide)).symm; simp [h7, Scalar.select, IntOp.cmpi])

/-- The rows from a block on are the matrix's, zeros after its last. -/
theorem below_rows {N : ℕ} (A : (⟨2, ![4096, N]⟩ : Shape).Idx → EReal) (c : Fin 512 → EReal) (n : Fin 16 → EReal) {i : ℕ} (hi : i < 8) {j : ℕ} (hj : j < N)
    (hc : ∀ (k : Fin 512) (h : 512 * i + k.val < 4096), c k = A (ix2 ⟨512 * i + k.val, h⟩ ⟨j, hj⟩))
    (hn : ∀ (k : Fin 16) (h : 512 * (i + 1) + k.val < 4096), n k = A (ix2 ⟨512 * (i + 1) + k.val, h⟩ ⟨j, hj⟩)) (a : ℕ) (ha : a < 515) :
    below i c n a = at2 A (512 * i + a) j := by
  by_cases h : a < 512
  · rw [below_lt _ _ _ h, at2_lt A (by omega) hj, hc _ (by show 512 * i + a < 4096; omega)]
  · by_cases h7 : i = 7
    · rw [below_last h7 _ _ h, at2, dif_neg (by omega)]
    · obtain ⟨k, rfl⟩ : ∃ k, a = 512 + k := ⟨a - 512, by omega⟩
      rw [below_next h7 _ _ k (by omega), at2_lt A (by omega) hj, hn _ (by show 512 * (i + 1) + k < 4096; omega)]
      exact congrArg A (congrArg (fun z => ix2 z _) (Fin.ext (by show 512 * (i + 1) + k = 512 * i + (512 + k); omega)))

/-- A row's product with a weight, zero outside the matrix. -/
theorem row_at {M N : ℕ} (A : (⟨2, ![M, N]⟩ : Shape).Idx → EReal) (w : EReal) (b : Fin N) {P : Prop} [Decidable P] {n k : ℕ} (e : n = k) (h : P ↔ k < M) (g : P → n < M) :
    (if p : P then w * A (ix2 ⟨n, g p⟩ b) else 0) = w * at2 A k b.val := by
  subst e
  by_cases hP : P
  · rw [dif_pos hP, at2_lt A (h.mp hP) b.isLt]
  · rw [dif_neg hP, at2, dif_neg fun x => hP (h.mpr x.1), mul_zero]

end Shift

end
-- ==== Proof.DnConvBwdValue.lean ====
/- The gradient of the delta rule's causal convolution in its input, entry by entry. -/
module

public import proofs.«01_k».proof.Proof.Gen.DnConvBwdIdeal.Value
public import proofs.«01_k».proof.Proof.Shift

@[expose] public section

set_option maxRecDepth 16384

noncomputable section

namespace Cert.DnConvBwdIdeal.Entries

open Cert.DnConvBwdIdeal Cert.DnConvBwdIdeal.Gen Idealize.ShloMosaic Idealize.ShloMosaic.TcCoe Idealize.SL.Sem Blocked Shift

/-- What the program computes on 128 lanes: `c` the rows, `n` the first rows of the next block, `w` the weights. -/
def strip (i : grid0.Coords) (c : Vec Ideal S512x128 .bf16) (n : Vec Ideal S16x128 .bf16) (w : Vec Ideal S4x128 .f32) : FVec Ideal S512x128 .bf16 :=
  k0_pay8 (iota .tc S512x128 32 [0] iota_S512x128_d0_w32) (k0_pay2 c) (k0_pay3 i n) w (k0_pay4 i c n w) (k0_pay5 w) (k0_pay6 c) (k0_pay7 i c n)

theorem strip_apply (i : grid0.Coords) (c : Vec Ideal S512x128 .bf16) (n : Vec Ideal S16x128 .bf16) (w : Vec Ideal S4x128 .f32) (a : Fin 512) (b : Fin 128) :
    strip i c n w (ix2 a b) = w (ix2 3 b) * c (ix2 a b)
      + w (ix2 2 b) * below (i 0).val (fun k => c (ix2 k b)) (fun k => n (ix2 k b)) (a.val + 1)
      + w (ix2 1 b) * below (i 0).val (fun k => c (ix2 k b)) (fun k => n (ix2 k b)) (a.val + 2)
      + w (ix2 0 b) * below (i 0).val (fun k => c (ix2 k b)) (fun k => n (ix2 k b)) (a.val + 3) := by
  have hi : (i 0).val < 8 := (i 0).isLt
  unfold strip
  pointwise [k0_pay1, k0_pay2, k0_pay3, k0_pay4, k0_pay5, k0_pay6, k0_pay7, k0_pay8]
  exact congrArg₂ (· + ·) (congrArg₂ (· + ·) (congrArg (_ + ·) (congrArg (_ * ·) (up_one hi (c := fun k => c (ix2 k b)) (n := fun k => n (ix2 k b)) (a := a))))
    (congrArg (_ * ·) (up_two hi (c := fun k => c (ix2 k b)) (n := fun k => n (ix2 k b)) (a := a))))
    (congrArg (_ * ·) (up_three hi (c := fun k => c (ix2 k b)) (n := fun k => n (ix2 k b)) (a := a)))

theorem out_strips (i : grid0.Coords) (x0 : Vec Ideal S512x1024 .bf16) (x1 : Vec Ideal S16x1024 .bf16) (x2 : Vec Ideal S4x1024 .f32) :
    out0_3 i x0 x1 x2 = View.canon [⟨r0_21, strip i (View.ld x0 r0_21) (View.ld x1 r0_22) (View.ld x2 r0_23)⟩, ⟨r0_18, strip i (View.ld x0 r0_18) (View.ld x1 r0_19) (View.ld x2 r0_20)⟩, ⟨r0_15, strip i (View.ld x0 r0_15) (View.ld x1 r0_16) (View.ld x2 r0_17)⟩, ⟨r0_12, strip i (View.ld x0 r0_12) (View.ld x1 r0_13) (View.ld x2 r0_14)⟩, ⟨r0_9, strip i (View.ld x0 r0_9) (View.ld x1 r0_10) (View.ld x2 r0_11)⟩, ⟨r0_6, strip i (View.ld x0 r0_6) (View.ld x1 r0_7) (View.ld x2 r0_8)⟩, ⟨r0_3, strip i (View.ld x0 r0_3) (View.ld x1 r0_4) (View.ld x2 r0_5)⟩, ⟨r0_0, strip i (View.ld x0 r0_0) (View.ld x1 r0_1) (View.ld x2 r0_2)⟩] := by
  rfl

/-- A block of the result. -/
def whole (i : grid0.Coords) (x0 : Vec Ideal S512x1024 .bf16) (x1 : Vec Ideal S16x1024 .bf16) (x2 : Vec Ideal S4x1024 .f32) : Vec Ideal S512x1024 .bf16 := fun y =>
  x2 (ix2 3 (y 1 : Fin 1024)) * x0 (ix2 (y 0 : Fin 512) (y 1 : Fin 1024))
    + x2 (ix2 2 (y 1 : Fin 1024)) * below (i 0).val (fun k => x0 (ix2 k (y 1 : Fin 1024))) (fun k => x1 (ix2 k (y 1 : Fin 1024))) ((y 0 : Fin 512).val + 1)
    + x2 (ix2 1 (y 1 : Fin 1024)) * below (i 0).val (fun k => x0 (ix2 k (y 1 : Fin 1024))) (fun k => x1 (ix2 k (y 1 : Fin 1024))) ((y 0 : Fin 512).val + 2)
    + x2 (ix2 0 (y 1 : Fin 1024)) * below (i 0).val (fun k => x0 (ix2 k (y 1 : Fin 1024))) (fun k => x1 (ix2 k (y 1 : Fin 1024))) ((y 0 : Fin 512).val + 3)

theorem emb_col {R : ℕ} (o : ℕ) (h : o + 128 ≤ 1024) (inb : ∀ q, (![0, o] : Fin 2 → ℕ) q + (![R, 128] : Fin 2 → ℕ) q ≤ (![R, 1024] : Fin 2 → ℕ) q) (a : Fin R) (b : Fin 128) :
    (Rect.unit (s := ⟨2, ![R, 1024]⟩) ![0, o] ![R, 128] inb).emb (ix2 a b) = ix2 a ⟨o + b.val, by omega⟩ := by
  funext q
  apply Fin.ext
  rw [Rect.emb_apply]
  match q with
  | 0 => show 0 + 1 * a.val = a.val; omega
  | 1 => show o + 1 * b.val = o + b.val; omega

theorem whole_at (i : grid0.Coords) (x0 : Vec Ideal S512x1024 .bf16) (x1 : Vec Ideal S16x1024 .bf16) (x2 : Vec Ideal S4x1024 .f32) (o : ℕ) (h : o + 128 ≤ 1024)
    (h0 : ∀ q, (![0, o] : Fin 2 → ℕ) q + S512x128.size q ≤ S512x1024.size q)
    (h1 : ∀ q, (![0, o] : Fin 2 → ℕ) q + S16x128.size q ≤ S16x1024.size q)
    (h2 : ∀ q, (![0, o] : Fin 2 → ℕ) q + S4x128.size q ≤ S4x1024.size q) (x : S512x128.Idx) :
    strip i (View.ld x0 (Rect.unit (s := S512x1024) ![0, o] S512x128.size h0)) (View.ld x1 (Rect.unit (s := S16x1024) ![0, o] S16x128.size h1))
      (View.ld x2 (Rect.unit (s := S4x1024) ![0, o] S4x128.size h2)) x = whole i x0 x1 x2 ((Rect.unit (s := S512x1024) ![0, o] S512x128.size h0).emb x) := by
  obtain ⟨a, b, rfl⟩ : ∃ (a : Fin 512) (b : Fin 128), x = ix2 a b := ⟨x 0, x 1, eq_ix2 x⟩
  rw [strip_apply]
  have e0 : ∀ k : Fin 512, View.ld x0 (Rect.unit (s := S512x1024) ![0, o] S512x128.size h0) (ix2 k b) = x0 (ix2 k ⟨o + b.val, by omega⟩) :=
    fun k => congrArg x0 (emb_col o h h0 k b)
  have e1 : ∀ k : Fin 16, View.ld x1 (Rect.unit (s := S16x1024) ![0, o] S16x128.size h1) (ix2 k b) = x1 (ix2 k ⟨o + b.val, by omega⟩) :=
    fun k => congrArg x1 (emb_col o h h1 k b)
  have e2 : ∀ k : Fin 4, View.ld x2 (Rect.unit (s := S4x1024) ![0, o] S4x128.size h2) (ix2 k b) = x2 (ix2 k ⟨o + b.val, by omega⟩) :=
    fun k => congrArg x2 (emb_col o h h2 k b)
  simp only [e0, e1, e2]
  exact (congrArg (whole i x0 x1 x2) (emb_col o h h0 a b)).symm

theorem out3 (i : grid0.Coords) (x0 : Vec Ideal S512x1024 .bf16) (x1 : Vec Ideal S16x1024 .bf16) (x2 : Vec Ideal S4x1024 .f32) :
    out0_3 i x0 x1 x2 = whole i x0 x1 x2 := by
  rw [out_strips]
  funext y
  refine View.canon_apply_of_pieces (whole i x0 x1 x2) _ ?_ y (cover0_3 _ _ _ _ _ _ _ _ y)
  intro p hp
  simp only [List.mem_cons, List.not_mem_nil, or_false] at hp
  rcases hp with rfl | rfl | rfl | rfl | rfl | rfl | rfl | rfl
  all_goals exact fun x => whole_at i x0 x1 x2 _ (by decide) (by decide) (by decide) (by decide) x

variable (m : (ℓ : Loc nD τ sig) → Buf (Elt Ideal) ℓ)

theorem coord : ∀ t : Fin cfg0.N, ((grid0.coords t) 0).val = t.val / 3 := by decide +kernel

theorem idx0 : ∀ t : Fin cfg0.N, win0_0.index t = ![t.val / 3, t.val % 3] := by decide +kernel

theorem blk0 (c : Dev nD) (t : Fin cfg0.N) (a : Fin 512) (b : Fin 1024) (h : 512 * (t.val / 3) + a.val < 4096) :
    iblk m c 0 t (ix2 a b) = m ((c.tc : Thread nD τ).loc main_arg0) (ix2 ⟨512 * (t.val / 3) + a.val, h⟩ ⟨1024 * (t.val % 3) + b.val, by omega⟩) := by
  blk_simp [iblk]
  entry_read
  blk_ext [idx0 t]

theorem idx1 : ∀ t : Fin cfg0.N, win0_1.index t = ![min ((t.val / 3 + 1) * 32) 255, t.val % 3] := by decide +kernel

theorem blk1 (c : Dev nD) (t : Fin cfg0.N) (a : Fin 16) (b : Fin 1024) (h : 512 * (t.val / 3 + 1) + a.val < 4096) :
    iblk m c 1 t (ix2 a b) = m ((c.tc : Thread nD τ).loc main_arg0) (ix2 ⟨512 * (t.val / 3 + 1) + a.val, h⟩ ⟨1024 * (t.val % 3) + b.val, by omega⟩) := by
  have hm : min ((t.val / 3 + 1) * 32) 255 = (t.val / 3 + 1) * 32 := by omega
  blk_simp [iblk]
  entry_read
  blk_ext [(idx1 t).trans (congrArg (fun z => ![z, t.val % 3]) hm)]

theorem idx2 : ∀ t : Fin cfg0.N, win0_2.index t = ![0, t.val % 3] := by decide +kernel

theorem blk2 (c : Dev nD) (t : Fin cfg0.N) (a : Fin 4) (b : Fin 1024) :
    iblk m c 2 t (ix2 a b) = m ((c.tc : Thread nD τ).loc main_arg1) (ix2 a ⟨1024 * (t.val % 3) + b.val, by omega⟩) := by
  blk_simp [iblk]
  entry_read
  blk_ext [idx2 t]

theorem idx3 : ∀ t : Fin cfg0.N, win0_3.index t = ![t.val / 3, t.val % 3] := by decide +kernel

theorem emb3 (t : Fin cfg0.N) (a : Fin 512) (b : Fin 1024) (h : 512 * (t.val / 3) + a.val < 4096) :
    (win0_3.blk t).view.emb (ix2 a b) = ix2 ⟨512 * (t.val / 3) + a.val, h⟩ ⟨1024 * (t.val % 3) + b.val, by omega⟩ := by
  blk_ext [idx3 t]

/-- The gradient: at each row the rows from it on, each with the weight it had. -/
def result (D : (⟨2, ![4096, 3072]⟩ : Shape).Idx → EReal) (W : (⟨2, ![4, 3072]⟩ : Shape).Idx → EReal) : Vec Ideal S4096x3072 .bf16 := fun y =>
  W (ix2 3 (y 1 : Fin 3072)) * D (ix2 (y 0 : Fin 4096) (y 1 : Fin 3072))
    + W (ix2 2 (y 1 : Fin 3072)) * at2 D ((y 0 : Fin 4096).val + 1) (y 1 : Fin 3072).val
    + W (ix2 1 (y 1 : Fin 3072)) * at2 D ((y 0 : Fin 4096).val + 2) (y 1 : Fin 3072).val
    + W (ix2 0 (y 1 : Fin 3072)) * at2 D ((y 0 : Fin 4096).val + 3) (y 1 : Fin 3072).val

theorem below_block (c : Dev nD) (t : Fin cfg0.N) (a : ℕ) (ha : a < 515) (b : Fin 1024) :
    below ((grid0.coords t) 0).val (fun k => iblk m c 0 t (ix2 k b)) (fun k => iblk m c 1 t (ix2 k b)) a
      = at2 (m ((c.tc : Thread nD τ).loc main_arg0)) (512 * (t.val / 3) + a) (1024 * (t.val % 3) + b.val) := by
  have hN : t.val < 24 := lt_of_lt_of_eq t.isLt N_0
  rw [coord]
  exact below_rows _ _ _ (by omega) (by omega) (fun k h => blk0 m c t k b h) (fun k h => blk1 m c t k b h) a ha

theorem final (c : Dev nD) : (dats m 0 c).arrAt 3 cfg0.N = result (m ((c.tc : Thread nD τ).loc main_arg0)) (m ((c.tc : Thread nD τ).loc main_arg1)) := by
  refine (dats m 0 c).arrAt_eq_of_covers 3 _ (by decide +kernel) fun t hf y => ?_
  obtain ⟨a, b, rfl⟩ : ∃ (a : Fin 512) (b : Fin 1024), y = ix2 a b := ⟨y 0, y 1, eq_ix2 y⟩
  have hN : t.val < 24 := lt_of_lt_of_eq t.isLt N_0
  have h : 512 * (t.val / 3) + a.val < 4096 := by omega
  blk_simp
  rw [after0_3, emb3 _ _ _ h, out3]
  unfold whole
  dsimp only [ix2_0, ix2_1]
  rw [below_block m c t _ (by omega), below_block m c t _ (by omega), below_block m c t _ (by omega), blk0 m c t a b h]
  simp only [blk2]
  rfl

variable (ρ : Dev nD → PrngReg)

/-- THE KERNEL'S RUN: its result is the gradient, its arguments unchanged. -/
theorem run : θ_run (defs (F := Ideal)) (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.DnConvBwdIdeal.Entries

end
-- ==== Proof.FfnConvBwdValue.lean ====
/- The gradient of ConvFFN's causal convolution in its input, entry by entry. -/
module

public import proofs.«01_k».proof.Proof.Gen.FfnConvBwdIdeal.Value
public import proofs.«01_k».proof.Proof.Shift

@[expose] public section

set_option maxRecDepth 16384

noncomputable section

namespace Cert.FfnConvBwdIdeal.Entries

open Cert.FfnConvBwdIdeal Cert.FfnConvBwdIdeal.Gen Idealize.ShloMosaic Idealize.ShloMosaic.TcCoe Idealize.SL.Sem Blocked Shift

/-- What the program computes on 128 lanes: `c` and `d` the rows of the two parts, `n` and `p` the first rows of their next
    blocks, `w` the weights. -/
def strip (i : grid0.Coords) (c d : Vec Ideal S512x128 .bf16) (n p : Vec Ideal S16x128 .bf16) (w : Vec Ideal S3x128 .f32) : FVec Ideal S512x128 .bf16 :=
  k0_pay10 (iota .tc S512x128 32 [0] iota_S512x128_d0_w32) (k0_pay8 (BitVec.ofNat 32 (i 1).val) c d)
    (k0_pay9 (BitVec.ofNat 32 (i 0).val) (BitVec.ofNat 32 (i 1).val) n p) w

/-- The part that a block of columns is of. -/
def part (j : ℕ) (x y : EReal) : EReal := if 2 ≤ j then y else x

theorem word_part {j : ℕ} (hj : j < 4) (x y : EReal) : Scalar.select (Scalar.cmpi .sge (BitVec.ofNat 32 j) 2#32) y x = part j x y := by
  interval_cases j <;> rfl

theorem strip_apply (i : grid0.Coords) (c d : Vec Ideal S512x128 .bf16) (n p : Vec Ideal S16x128 .bf16) (w : Vec Ideal S3x128 .f32) (a : Fin 512) (b : Fin 128) :
    strip i c d n p w (ix2 a b) = w (ix2 2 b) * part (i 1).val (c (ix2 a b)) (d (ix2 a b))
      + w (ix2 1 b) * below (i 0).val (fun k => part (i 1).val (c (ix2 k b)) (d (ix2 k b))) (fun k => part (i 1).val (n (ix2 k b)) (p (ix2 k b))) (a.val + 1)
      + w (ix2 0 b) * below (i 0).val (fun k => part (i 1).val (c (ix2 k b)) (d (ix2 k b))) (fun k => part (i 1).val (n (ix2 k b)) (p (ix2 k b))) (a.val + 2) := by
  have hi : (i 0).val < 8 := (i 0).isLt
  have hj : (i 1).val < 4 := (i 1).isLt
  unfold strip
  pointwise [k0_pay8, k0_pay9, k0_pay10]
  simp only [word_part hj]
  exact congrArg₂ (· + ·) (congrArg (_ + ·) (congrArg (_ * ·) (up_one hi (c := fun k => part (i 1).val (c (ix2 k b)) (d (ix2 k b))) (n := fun k => part (i 1).val (n (ix2 k b)) (p (ix2 k b))) (a := a))))
    (congrArg (_ * ·) (up_two hi (c := fun k => part (i 1).val (c (ix2 k b)) (d (ix2 k b))) (n := fun k => part (i 1).val (n (ix2 k b)) (p (ix2 k b))) (a := a)))

theorem out_strips (i : grid0.Coords) (x0 x1 : Vec Ideal S512x1408 .bf16) (x2 x3 : Vec Ideal S16x1408 .bf16) (x4 : Vec Ideal S3x1408 .f32) :
    out0_5 i x0 x1 x2 x3 x4 = View.canon [⟨r0_30, strip i (View.ld x0 r0_30) (View.ld x1 r0_30) (View.ld x2 r0_31) (View.ld x3 r0_31) (View.ld x4 r0_32)⟩, ⟨r0_27, strip i (View.ld x0 r0_27) (View.ld x1 r0_27) (View.ld x2 r0_28) (View.ld x3 r0_28) (View.ld x4 r0_29)⟩, ⟨r0_24, strip i (View.ld x0 r0_24) (View.ld x1 r0_24) (View.ld x2 r0_25) (View.ld x3 r0_25) (View.ld x4 r0_26)⟩, ⟨r0_21, strip i (View.ld x0 r0_21) (View.ld x1 r0_21) (View.ld x2 r0_22) (View.ld x3 r0_22) (View.ld x4 r0_23)⟩, ⟨r0_18, strip i (View.ld x0 r0_18) (View.ld x1 r0_18) (View.ld x2 r0_19) (View.ld x3 r0_19) (View.ld x4 r0_20)⟩, ⟨r0_15, strip i (View.ld x0 r0_15) (View.ld x1 r0_15) (View.ld x2 r0_16) (View.ld x3 r0_16) (View.ld x4 r0_17)⟩, ⟨r0_12, strip i (View.ld x0 r0_12) (View.ld x1 r0_12) (View.ld x2 r0_13) (View.ld x3 r0_13) (View.ld x4 r0_14)⟩, ⟨r0_9, strip i (View.ld x0 r0_9) (View.ld x1 r0_9) (View.ld x2 r0_10) (View.ld x3 r0_10) (View.ld x4 r0_11)⟩, ⟨r0_6, strip i (View.ld x0 r0_6) (View.ld x1 r0_6) (View.ld x2 r0_7) (View.ld x3 r0_7) (View.ld x4 r0_8)⟩, ⟨r0_3, strip i (View.ld x0 r0_3) (View.ld x1 r0_3) (View.ld x2 r0_4) (View.ld x3 r0_4) (View.ld x4 r0_5)⟩, ⟨r0_0, strip i (View.ld x0 r0_0) (View.ld x1 r0_0) (View.ld x2 r0_1) (View.ld x3 r0_1) (View.ld x4 r0_2)⟩] := by
  rfl

/-- A column's rows, of the part that the block is of. -/
def rows {R : ℕ} (i : grid0.Coords) (x y : (⟨2, ![R, 1408]⟩ : Shape).Idx → EReal) (b : Fin 1408) (k : Fin R) : EReal :=
  part (i 1).val (x (ix2 k b)) (y (ix2 k b))

/-- A block of the result. -/
def whole (i : grid0.Coords) (x0 x1 : Vec Ideal S512x1408 .bf16) (x2 x3 : Vec Ideal S16x1408 .bf16) (x4 : Vec Ideal S3x1408 .f32) : Vec Ideal S512x1408 .bf16 := fun y =>
  x4 (ix2 2 (y 1 : Fin 1408)) * rows i x0 x1 (y 1 : Fin 1408) (y 0 : Fin 512)
    + x4 (ix2 1 (y 1 : Fin 1408)) * below (i 0).val (rows i x0 x1 (y 1 : Fin 1408)) (rows i x2 x3 (y 1 : Fin 1408)) ((y 0 : Fin 512).val + 1)
    + x4 (ix2 0 (y 1 : Fin 1408)) * below (i 0).val (rows i x0 x1 (y 1 : Fin 1408)) (rows i x2 x3 (y 1 : Fin 1408)) ((y 0 : Fin 512).val + 2)

theorem emb_col {R : ℕ} (o : ℕ) (h : o + 128 ≤ 1408) (inb : ∀ q, (![0, o] : Fin 2 → ℕ) q + (![R, 128] : Fin 2 → ℕ) q ≤ (![R, 1408] : Fin 2 → ℕ) q) (a : Fin R) (b : Fin 128) :
    (Rect.unit (s := ⟨2, ![R, 1408]⟩) ![0, o] ![R, 128] inb).emb (ix2 a b) = ix2 a ⟨o + b.val, by omega⟩ := by
  funext q
  apply Fin.ext
  rw [Rect.emb_apply]
  match q with
  | 0 => show 0 + 1 * a.val = a.val; omega
  | 1 => show o + 1 * b.val = o + b.val; omega

theorem whole_at (i : grid0.Coords) (x0 x1 : Vec Ideal S512x1408 .bf16) (x2 x3 : Vec Ideal S16x1408 .bf16) (x4 : Vec Ideal S3x1408 .f32) (o : ℕ) (h : o + 128 ≤ 1408)
    (h0 : ∀ q, (![0, o] : Fin 2 → ℕ) q + S512x128.size q ≤ S512x1408.size q)
    (h1 : ∀ q, (![0, o] : Fin 2 → ℕ) q + S16x128.size q ≤ S16x1408.size q)
    (h2 : ∀ q, (![0, o] : Fin 2 → ℕ) q + S3x128.size q ≤ S3x1408.size q) (x : S512x128.Idx) :
    strip i (View.ld x0 (Rect.unit (s := S512x1408) ![0, o] S512x128.size h0)) (View.ld x1 (Rect.unit (s := S512x1408) ![0, o] S512x128.size h0))
      (View.ld x2 (Rect.unit (s := S16x1408) ![0, o] S16x128.size h1)) (View.ld x3 (Rect.unit (s := S16x1408) ![0, o] S16x128.size h1))
      (View.ld x4 (Rect.unit (s := S3x1408) ![0, o] S3x128.size h2)) x = whole i x0 x1 x2 x3 x4 ((Rect.unit (s := S512x1408) ![0, o] S512x128.size h0).emb x) := by
  obtain ⟨a, b, rfl⟩ : ∃ (a : Fin 512) (b : Fin 128), x = ix2 a b := ⟨x 0, x 1, eq_ix2 x⟩
  rw [strip_apply]
  have e0 : ∀ (z : Vec Ideal S512x1408 .bf16) (k : Fin 512), View.ld z (Rect.unit (s := S512x1408) ![0, o] S512x128.size h0) (ix2 k b) = z (ix2 k ⟨o + b.val, by omega⟩) :=
    fun z k => congrArg z (emb_col o h h0 k b)
  have e1 : ∀ (z : Vec Ideal S16x1408 .bf16) (k : Fin 16), View.ld z (Rect.unit (s := S16x1408) ![0, o] S16x128.size h1) (ix2 k b) = z (ix2 k ⟨o + b.val, by omega⟩) :=
    fun z k => congrArg z (emb_col o h h1 k b)
  have e2 : ∀ k : Fin 3, View.ld x4 (Rect.unit (s := S3x1408) ![0, o] S3x128.size h2) (ix2 k b) = x4 (ix2 k ⟨o + b.val, by omega⟩) :=
    fun k => congrArg x4 (emb_col o h h2 k b)
  have e00 := e0 x0
  have e01 := e0 x1
  have e12 := e1 x2
  have e13 := e1 x3
  simp only [e00, e01, e12, e13, e2]
  refine Eq.trans ?_ (congrArg (whole i x0 x1 x2 x3 x4) (emb_col o h h0 a b)).symm
  rfl

theorem out5 (i : grid0.Coords) (x0 x1 : Vec Ideal S512x1408 .bf16) (x2 x3 : Vec Ideal S16x1408 .bf16) (x4 : Vec Ideal S3x1408 .f32) :
    out0_5 i x0 x1 x2 x3 x4 = whole i x0 x1 x2 x3 x4 := by
  rw [out_strips]
  funext y
  refine View.canon_apply_of_pieces (whole i x0 x1 x2 x3 x4) _ ?_ y (cover0_5 _ _ _ _ _ _ _ _ _ _ _ y)
  intro p hp
  simp only [List.mem_cons, List.not_mem_nil, or_false] at hp
  rcases hp with rfl | rfl | rfl | rfl | rfl | rfl | rfl | rfl | rfl | rfl | rfl
  all_goals exact fun x => whole_at i x0 x1 x2 x3 x4 _ (by decide) (by decide) (by decide) (by decide) x

variable (m : (ℓ : Loc nD τ sig) → Buf (Elt Ideal) ℓ)

theorem coord : ∀ t : Fin cfg0.N, ((grid0.coords t) 0).val = t.val / 4 ∧ ((grid0.coords t) 1).val = t.val % 4 := by decide +kernel

/-- The two parts side by side. -/
def both (G U : (⟨2, ![4096, 2816]⟩ : Shape).Idx → EReal) : (⟨2, ![4096, 5632]⟩ : Shape).Idx → EReal := fun y =>
  if h : (y 1 : Fin 5632).val < 2816 then G (ix2 (y 0 : Fin 4096) ⟨(y 1 : Fin 5632).val, h⟩)
  else U (ix2 (y 0 : Fin 4096) ⟨(y 1 : Fin 5632).val - 2816, by have h5 : (y 1 : Fin 5632).val < 5632 := (y 1 : Fin 5632).isLt; omega⟩)

/-- An entry of the part that a block of columns is of. -/
theorem part_both (G U : (⟨2, ![4096, 2816]⟩ : Shape).Idx → EReal) (j : ℕ) (hj : j < 4) (a : Fin 4096) (b : Fin 1408)
    (h0 : 1408 * min j 1 + b.val < 2816) (h1 : 1408 * (j - 2) + b.val < 2816) (h : 1408 * j + b.val < 5632) :
    part j (G (ix2 a ⟨1408 * min j 1 + b.val, h0⟩)) (U (ix2 a ⟨1408 * (j - 2) + b.val, h1⟩)) = both G U (ix2 a ⟨1408 * j + b.val, h⟩) := by
  unfold part
  by_cases h2 : 2 ≤ j
  · rw [if_pos h2]
    refine Eq.trans ?_ (dif_neg (by show ¬(1408 * j + b.val < 2816); omega)).symm
    exact congrArg U (congrArg (ix2 a) (Fin.ext (by show 1408 * (j - 2) + b.val = 1408 * j + b.val - 2816; omega)))
  · rw [if_neg h2]
    have e : 1408 * min j 1 + b.val = 1408 * j + b.val := by omega
    refine Eq.trans ?_ (dif_pos (by show 1408 * j + b.val < 2816; omega)).symm
    exact congrArg G (congrArg (ix2 a) (Fin.ext e))

theorem idx0 : ∀ t : Fin cfg0.N, win0_0.index t = ![t.val / 4, min (t.val % 4) 1] := by decide +kernel

theorem blk0 (c : Dev nD) (t : Fin cfg0.N) (a : Fin 512) (b : Fin 1408) (h : 512 * (t.val / 4) + a.val < 4096) :
    iblk m c 0 t (ix2 a b) = m ((c.tc : Thread nD τ).loc main_arg0) (ix2 ⟨512 * (t.val / 4) + a.val, h⟩ ⟨1408 * min (t.val % 4) 1 + b.val, by omega⟩) := by
  blk_simp [iblk]
  entry_read
  blk_ext [idx0 t]

theorem idx1 : ∀ t : Fin cfg0.N, win0_1.index t = ![t.val / 4, t.val % 4 - 2] := by decide +kernel

theorem blk1 (c : Dev nD) (t : Fin cfg0.N) (a : Fin 512) (b : Fin 1408) (h : 512 * (t.val / 4) + a.val < 4096) :
    iblk m c 1 t (ix2 a b) = m ((c.tc : Thread nD τ).loc main_arg1) (ix2 ⟨512 * (t.val / 4) + a.val, h⟩ ⟨1408 * (t.val % 4 - 2) + b.val, by omega⟩) := by
  blk_simp [iblk]
  entry_read
  blk_ext [idx1 t]

theorem idx2 : ∀ t : Fin cfg0.N, win0_2.index t = ![min ((t.val / 4 + 1) * 32) 255, min (t.val % 4) 1] := by decide +kernel

theorem blk2 (c : Dev nD) (t : Fin cfg0.N) (a : Fin 16) (b : Fin 1408) (h : 512 * (t.val / 4 + 1) + a.val < 4096) :
    iblk m c 2 t (ix2 a b) = m ((c.tc : Thread nD τ).loc main_arg0) (ix2 ⟨512 * (t.val / 4 + 1) + a.val, h⟩ ⟨1408 * min (t.val % 4) 1 + b.val, by omega⟩) := by
  have hm : min ((t.val / 4 + 1) * 32) 255 = (t.val / 4 + 1) * 32 := by omega
  blk_simp [iblk]
  entry_read
  blk_ext [(idx2 t).trans (congrArg (fun z => ![z, min (t.val % 4) 1]) hm)]

theorem idx3 : ∀ t : Fin cfg0.N, win0_3.index t = ![min ((t.val / 4 + 1) * 32) 255, t.val % 4 - 2] := by decide +kernel

theorem blk3 (c : Dev nD) (t : Fin cfg0.N) (a : Fin 16) (b : Fin 1408) (h : 512 * (t.val / 4 + 1) + a.val < 4096) :
    iblk m c 3 t (ix2 a b) = m ((c.tc : Thread nD τ).loc main_arg1) (ix2 ⟨512 * (t.val / 4 + 1) + a.val, h⟩ ⟨1408 * (t.val % 4 - 2) + b.val, by omega⟩) := by
  have hm : min ((t.val / 4 + 1) * 32) 255 = (t.val / 4 + 1) * 32 := by omega
  blk_simp [iblk]
  entry_read
  blk_ext [(idx3 t).trans (congrArg (fun z => ![z, t.val % 4 - 2]) hm)]

theorem idx4 : ∀ t : Fin cfg0.N, win0_4.index t = ![0, t.val % 4] := by decide +kernel

theorem blk4 (c : Dev nD) (t : Fin cfg0.N) (a : Fin 3) (b : Fin 1408) :
    iblk m c 4 t (ix2 a b) = m ((c.tc : Thread nD τ).loc main_arg2) (ix2 a ⟨1408 * (t.val % 4) + b.val, by omega⟩) := by
  blk_simp [iblk]
  entry_read
  blk_ext [idx4 t]

theorem idx5 : ∀ t : Fin cfg0.N, win0_5.index t = ![t.val / 4, t.val % 4] := by decide +kernel

theorem emb5 (t : Fin cfg0.N) (a : Fin 512) (b : Fin 1408) (h : 512 * (t.val / 4) + a.val < 4096) :
    (win0_5.blk t).view.emb (ix2 a b) = ix2 ⟨512 * (t.val / 4) + a.val, h⟩ ⟨1408 * (t.val % 4) + b.val, by omega⟩ := by
  blk_ext [idx5 t]

/-- The gradient: at each row the rows from it on, each with the weight it had. -/
def result (D : (⟨2, ![4096, 5632]⟩ : Shape).Idx → EReal) (W : (⟨2, ![3, 5632]⟩ : Shape).Idx → EReal) : Vec Ideal S4096x5632 .bf16 := fun y =>
  W (ix2 2 (y 1 : Fin 5632)) * D (ix2 (y 0 : Fin 4096) (y 1 : Fin 5632))
    + W (ix2 1 (y 1 : Fin 5632)) * at2 D ((y 0 : Fin 4096).val + 1) (y 1 : Fin 5632).val
    + W (ix2 0 (y 1 : Fin 5632)) * at2 D ((y 0 : Fin 4096).val + 2) (y 1 : Fin 5632).val

theorem rows_block (c : Dev nD) (t : Fin cfg0.N) (b : Fin 1408) (k : Fin 512) (h : 512 * (t.val / 4) + k.val < 4096) :
    rows (grid0.coords t) (iblk m c 0 t) (iblk m c 1 t) b k
      = both (m ((c.tc : Thread nD τ).loc main_arg0)) (m ((c.tc : Thread nD τ).loc main_arg1)) (ix2 ⟨512 * (t.val / 4) + k.val, h⟩ ⟨1408 * (t.val % 4) + b.val, by omega⟩) := by
  unfold rows
  rw [(coord t).2, blk0 m c t k b h, blk1 m c t k b h]
  exact part_both _ _ _ (by omega) _ b _ _ _

theorem rows_next (c : Dev nD) (t : Fin cfg0.N) (b : Fin 1408) (k : Fin 16) (h : 512 * (t.val / 4 + 1) + k.val < 4096) :
    rows (grid0.coords t) (iblk m c 2 t) (iblk m c 3 t) b k
      = both (m ((c.tc : Thread nD τ).loc main_arg0)) (m ((c.tc : Thread nD τ).loc main_arg1)) (ix2 ⟨512 * (t.val / 4 + 1) + k.val, h⟩ ⟨1408 * (t.val % 4) + b.val, by omega⟩) := by
  unfold rows
  rw [(coord t).2, blk2 m c t k b h, blk3 m c t k b h]
  exact part_both _ _ _ (by omega) _ b _ _ _

theorem below_block (c : Dev nD) (t : Fin cfg0.N) (a : ℕ) (ha : a < 515) (b : Fin 1408) :
    below ((grid0.coords t) 0).val (rows (grid0.coords t) (iblk m c 0 t) (iblk m c 1 t) b) (rows (grid0.coords t) (iblk m c 2 t) (iblk m c 3 t) b) a
      = at2 (both (m ((c.tc : Thread nD τ).loc main_arg0)) (m ((c.tc : Thread nD τ).loc main_arg1))) (512 * (t.val / 4) + a) (1408 * (t.val % 4) + b.val) := by
  have hN : t.val < 32 := lt_of_lt_of_eq t.isLt N_0
  rw [(coord t).1]
  exact below_rows _ _ _ (by omega) (by omega) (fun k h => rows_block m c t b k h) (fun k h => rows_next m c t b k h) a ha

theorem final (c : Dev nD) : (dats m 0 c).arrAt 5 cfg0.N = result (both (m ((c.tc : Thread nD τ).loc main_arg0)) (m ((c.tc : Thread nD τ).loc main_arg1))) (m ((c.tc : Thread nD τ).loc main_arg2)) := by
  refine (dats m 0 c).arrAt_eq_of_covers 5 _ (by decide +kernel) fun t hf y => ?_
  obtain ⟨a, b, rfl⟩ : ∃ (a : Fin 512) (b : Fin 1408), y = ix2 a b := ⟨y 0, y 1, eq_ix2 y⟩
  have hN : t.val < 32 := lt_of_lt_of_eq t.isLt N_0
  have h : 512 * (t.val / 4) + a.val < 4096 := by omega
  blk_simp
  rw [after0_5, emb5 _ _ _ h, out5]
  unfold whole
  dsimp only [ix2_0, ix2_1]
  rw [below_block m c t _ (by omega), below_block m c t _ (by omega), rows_block m c t b a h]
  simp only [blk4]
  rfl

variable (ρ : Dev nD → PrngReg)

/-- THE KERNEL'S RUN: its result is the gradient, its arguments unchanged. -/
theorem run : θ_run (defs (F := Ideal)) (onTc (τ := τ) (main (F := Ideal))) ⟨m, fun _ => 0, ρ⟩ fun r => ∀ c : Dev nD,
      r.2.mem ((c.tc : Thread nD τ).loc main_v2) = result (both (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.FfnConvBwdIdeal.Entries

end
-- ==== Proof.Convs.lean ====
/- The gradients of the causal convolutions in their inputs: each program's value against its reference's, and the references' frames. -/
module

public import proofs.«01_k».proof.Defs
public import proofs.«01_k».proof.Proof.Gen.DnConvBwdIdeal
public import proofs.«01_k».proof.Proof.Gen.DnConvBwdRefIdeal
public import proofs.«01_k».proof.Proof.Gen.DnConvBwdRefIdeal.Run
public import proofs.«01_k».proof.Proof.DnConvBwdValue
public import proofs.«01_k».proof.Proof.Gen.FfnConvBwdIdeal
public import proofs.«01_k».proof.Proof.Gen.FfnConvBwdRefIdeal
public import proofs.«01_k».proof.Proof.Gen.FfnConvBwdRefIdeal.Run
public import proofs.«01_k».proof.Proof.FfnConvBwdValue

@[expose] public section

set_option maxRecDepth 16384

noncomputable section

namespace Cert.Proof.Convs

open Idealize.ShloMosaic Idealize.ShloMosaic.TcCoe Idealize.SL.Sem Blocked Shift

/-- The reference of the delta rule's convolution's gradient leaves its arguments unchanged. -/
theorem frameDnConvBwd : Cert.quiescent_DnConvBwdRefIdeal (hDnConvBwdRefIdeal := Cert.DnConvBwdRefIdeal.Gen.facts) := fun m ρ _ =>
  (θ_run _ _ _).mono (fun r h => ⟨fun c => (h c).2, sem_eq_zero_of_no_sems (by decide) _⟩) (Cert.DnConvBwdRefIdeal.Value.run m ρ)

/-- The gradient of the delta rule's convolution is the reference's. -/
theorem valueDnConvBwd : Cert.algebraic_DnConvBwdIdeal_DnConvBwdRefIdeal (hDnConvBwdIdeal := Cert.DnConvBwdIdeal.Gen.facts)
    (hDnConvBwdRefIdeal := Cert.DnConvBwdRefIdeal.Gen.facts) := fun m ρ m' ρ' _ hag => by
  refine ⟨fun c => _, Cert.DnConvBwdIdeal.Entries.run m ρ,
    (θ_run _ _ _).mono (fun r h c => ⟨(h c).1.trans ?_, (h c).2⟩) (Cert.DnConvBwdRefIdeal.Value.run m' ρ')⟩
  rw [(hag c).1, (hag c).2]
  funext y
  obtain ⟨a, b, rfl⟩ : ∃ (a : Fin 4096) (b : Fin 3072), y = ix2 a b := ⟨y 0, y 1, eq_ix2 y⟩
  pointwise
  exact congrArg₂ (· + ·) (congrArg₂ (· + ·) (congrArg (_ + ·) (row_at (M := 4096) (N := 3072) (k := a.val + 1) _ _ b (by omega) (by omega) (by omega)))
    (row_at (M := 4096) (N := 3072) (k := a.val + 2) _ _ b (by omega) (by omega) (by omega))) (row_at (M := 4096) (N := 3072) (k := a.val + 3) _ _ b (by omega) (by omega) (by omega))

/-- The reference of ConvFFN's convolution's gradient leaves its arguments unchanged. -/
theorem frameFfnConvBwd : Cert.quiescent_FfnConvBwdRefIdeal (hFfnConvBwdRefIdeal := Cert.FfnConvBwdRefIdeal.Gen.facts) := fun m ρ _ =>
  (θ_run _ _ _).mono (fun r h => ⟨fun c => (h c).2, sem_eq_zero_of_no_sems (by decide) _⟩) (Cert.FfnConvBwdRefIdeal.Value.run m ρ)

/-- The gradient of ConvFFN's convolution is the reference's. -/
theorem valueFfnConvBwd : Cert.algebraic_FfnConvBwdIdeal_FfnConvBwdRefIdeal (hFfnConvBwdIdeal := Cert.FfnConvBwdIdeal.Gen.facts)
    (hFfnConvBwdRefIdeal := Cert.FfnConvBwdRefIdeal.Gen.facts) := fun m ρ m' ρ' _ hag => by
  refine ⟨fun c => _, Cert.FfnConvBwdIdeal.Entries.run m ρ,
    (θ_run _ _ _).mono (fun r h c => ⟨(h c).1.trans ?_, (h c).2⟩) (Cert.FfnConvBwdRefIdeal.Value.run m' ρ')⟩
  rw [(hag c).1, (hag c).2.1, (hag c).2.2]
  funext y
  obtain ⟨a, b, rfl⟩ : ∃ (a : Fin 4096) (b : Fin 5632), y = ix2 a b := ⟨y 0, y 1, eq_ix2 y⟩
  pointwise
  exact congrArg₂ (· + ·) (congrArg (_ + ·) (row_at (M := 4096) (N := 5632) (k := a.val + 1) (Cert.FfnConvBwdIdeal.Entries.both _ _) _ b (by omega) (by omega) (by omega)))
    (row_at (M := 4096) (N := 5632) (k := a.val + 2) (Cert.FfnConvBwdIdeal.Entries.both _ _) _ b (by omega) (by omega) (by omega))

end Cert.Proof.Convs

end
-- ==== Proof.Above.lean ====
/- Rows moved down across a block's start. -/
module

public import proofs.«01_k».proof.Proof.Blocked
public import proofs.«01_k».proof.Proof.Gate

@[expose] public section

noncomputable section

namespace Above

open Idealize.ShloMosaic Blocked

/-- The row `s` above row `a` of a block `c`, `p` the sixteen rows before the block. -/
def above {R : ℕ} (s : ℕ) (c : Fin R → EReal) (p : Fin 16 → EReal) (a : Fin R) : EReal :=
  if s ≤ a.val then c ⟨a.val - s, by omega⟩ else p ⟨(16 + a.val - s) % 16, Nat.mod_lt _ (by decide)⟩

theorem mod_back {R a s : ℕ} (h : s ≤ a) (ha : a < R) : (a + R - s) % R = a - s := by
  rw [show a + R - s = a - s + R by omega, Nat.add_mod_right, Nat.mod_eq_of_lt (by omega)]

theorem down_one {R : ℕ} {c : Fin R → EReal} {p : Fin 16 → EReal} {a : Fin R} (hR : 8 ≤ R := by decide) :
    (if _h : a.val < 8 then (Scalar.select (IntOp.cmpi .eq (BitVec.ofNat 32 a.val) 0#32) (p 15) (c ⟨(a.val + R - 1) % R, Nat.mod_lt _ (by omega)⟩))
      else c ⟨(8 + (a.val - 8) + R - 1) % R, Nat.mod_lt _ (by omega)⟩) = above 1 c p a := by
  obtain ⟨a, ha⟩ := a
  dsimp only
  unfold above
  by_cases h : a < 8
  · rw [dif_pos h]
    interval_cases a
    all_goals
      first
        | (rw [if_neg (by dsimp only; omega)]; rfl)
        | (rw [if_pos (by dsimp only; omega)]; exact congrArg c (Fin.ext (mod_back (by omega) ha)))
  · rw [dif_neg h, if_pos (by dsimp only; omega)]
    exact congrArg c (Fin.ext ((mod_back (by omega) (by omega)).trans (by dsimp only; omega)))

theorem down_two {R : ℕ} {c : Fin R → EReal} {p : Fin 16 → EReal} {a : Fin R} (hR : 8 ≤ R := by decide) :
    (if _h : a.val < 8 then (Scalar.select (IntOp.cmpi .eq (BitVec.ofNat 32 a.val) 1#32) (p 15) (Scalar.select (IntOp.cmpi .eq (BitVec.ofNat 32 a.val) 0#32) (p 14) (c ⟨(a.val + R - 2) % R, Nat.mod_lt _ (by omega)⟩)))
      else c ⟨(8 + (a.val - 8) + R - 2) % R, Nat.mod_lt _ (by omega)⟩) = above 2 c p a := by
  obtain ⟨a, ha⟩ := a
  dsimp only
  unfold above
  by_cases h : a < 8
  · rw [dif_pos h]
    interval_cases a
    all_goals
      first
        | (rw [if_neg (by dsimp only; omega)]; rfl)
        | (rw [if_pos (by dsimp only; omega)]; exact congrArg c (Fin.ext (mod_back (by omega) ha)))
  · rw [dif_neg h, if_pos (by dsimp only; omega)]
    exact congrArg c (Fin.ext ((mod_back (by omega) (by omega)).trans (by dsimp only; omega)))

theorem down_three {R : ℕ} {c : Fin R → EReal} {p : Fin 16 → EReal} {a : Fin R} (hR : 8 ≤ R := by decide) :
    (if _h : a.val < 8 then (Scalar.select (IntOp.cmpi .eq (BitVec.ofNat 32 a.val) 2#32) (p 15) (Scalar.select (IntOp.cmpi .eq (BitVec.ofNat 32 a.val) 1#32) (p 14) (Scalar.select (IntOp.cmpi .eq (BitVec.ofNat 32 a.val) 0#32) (p 13) (c ⟨(a.val + R - 3) % R, Nat.mod_lt _ (by omega)⟩))))
      else c ⟨(8 + (a.val - 8) + R - 3) % R, Nat.mod_lt _ (by omega)⟩) = above 3 c p a := by
  obtain ⟨a, ha⟩ := a
  dsimp only
  unfold above
  by_cases h : a < 8
  · rw [dif_pos h]
    interval_cases a
    all_goals
      first
        | (rw [if_neg (by dsimp only; omega)]; rfl)
        | (rw [if_pos (by dsimp only; omega)]; exact congrArg c (Fin.ext (mod_back (by omega) ha)))
  · rw [dif_neg h, if_pos (by dsimp only; omega)]
    exact congrArg c (Fin.ext ((mod_back (by omega) (by omega)).trans (by dsimp only; omega)))

/-- The rows before the first block are zeros. -/
def mask (i : ℕ) (x : EReal) : EReal := if i = 0 then 0 else x

theorem word_mask {i : ℕ} (hi : i < 8) (x : EReal) : Scalar.select (Scalar.cmpi .eq (BitVec.ofNat 32 i) 0#32) 0 x = mask i x := by
  interval_cases i <;> rfl

/-- The row `s` above row `n` of a matrix, zero above its first. -/
def back {M N : ℕ} (A : (⟨2, ![M, N]⟩ : Shape).Idx → EReal) (s n : ℕ) (b : ℕ) : EReal := if s ≤ n then at2 A (n - s) b else 0

/-- The rows above those of a block are the matrix's, zeros before its first. -/
theorem above_rows {R N o : ℕ} (A : (⟨2, ![4096, N]⟩ : Shape).Idx → EReal) (c : Fin R → EReal) (p : Fin 16 → EReal) {j : ℕ} (hj : j < N) (ho : o + R ≤ 4096)
    (hc : ∀ (k : Fin R), c k = A (ix2 ⟨o + k.val, by omega⟩ ⟨j, hj⟩))
    (h0 : o = 0 → ∀ k, p k = 0) (hp : ∀ (h : 16 ≤ o) (k : Fin 16), p k = A (ix2 ⟨o - 16 + k.val, by omega⟩ ⟨j, hj⟩)) (h16 : o = 0 ∨ 16 ≤ o)
    {s : ℕ} (hs : s ≤ 16) (a : Fin R) : above s c p a = back A s (o + a.val) j := by
  have ha := a.isLt
  unfold above back
  by_cases h : s ≤ a.val
  · rw [if_pos h, if_pos (by omega), at2_lt A (by omega) hj, hc]
    exact congrArg A (congrArg (fun z => ix2 z _) (Fin.ext (by show o + (a.val - s) = o + a.val - s; omega)))
  · rw [if_neg h]
    rcases h16 with h1 | h1
    · rw [h0 h1, if_neg (by omega)]
    · rw [hp h1, if_pos (by omega), at2_lt A (by omega) hj]
      refine congrArg A (congrArg (fun z => ix2 z _) (Fin.ext ?_))
      show o - 16 + (16 + a.val - s) % 16 = o + a.val - s
      by_cases hz : s = 0
      · omega
      · rw [Nat.mod_eq_of_lt (by omega)]; omega

/-- A causal convolution with three weights at row `a` of a block. -/
def conv3 {R : ℕ} (w : Fin 3 → EReal) (c : Fin R → EReal) (p : Fin 16 → EReal) (a : Fin R) : EReal :=
  w 0 * above 2 c p a + w 1 * above 1 c p a + w 2 * c a

/-- A causal convolution with three weights at a row of the matrix. -/
def cconv3 {M N : ℕ} (A : (⟨2, ![M, N]⟩ : Shape).Idx → EReal) (W : (⟨2, ![3, N]⟩ : Shape).Idx → EReal) (n : ℕ) (b : Fin N) : EReal :=
  W (ix2 0 b) * back A 2 n b.val + W (ix2 1 b) * back A 1 n b.val + W (ix2 2 b) * back A 0 n b.val

theorem above_zero {R : ℕ} (c : Fin R → EReal) (p : Fin 16 → EReal) (a : Fin R) : above 0 c p a = c a := by
  rw [above, if_pos (Nat.zero_le _)]
  rfl

/-- The rows above a block's row are the matrix's. -/
theorem above_block {N i : ℕ} (A : (⟨2, ![4096, N]⟩ : Shape).Idx → EReal) {c : Fin 512 → EReal} {p : Fin 16 → EReal} {j : ℕ} (hj : j < N) (hi' : 512 * i + 512 ≤ 4096)
    (hc : ∀ (k : Fin 512), c k = A (ix2 ⟨512 * i + k.val, by omega⟩ ⟨j, hj⟩))
    (hp : ∀ (k : Fin 16) (h : 16 ≤ 512 * i), p k = A (ix2 ⟨512 * i - 16 + k.val, by omega⟩ ⟨j, hj⟩)) {s : ℕ} (hs : s ≤ 16) (a : Fin 512) :
    above s c (fun k => mask i (p k)) a = back A s (512 * i + a.val) j :=
  above_rows A c _ hj (by omega) hc (fun h k => if_pos (by omega)) (fun h k => (if_neg (by omega)).trans (hp k h)) (by omega) hs a

/-- The rows above one of a block's first half. -/
theorem above_top {s : ℕ} (c : Fin 512 → EReal) (p : Fin 16 → EReal) (a : Fin 256) : above s (fun k : Fin 256 => c ⟨k.val, by omega⟩) p a = above s c p ⟨a.val, by omega⟩ := rfl

/-- The rows above one of a block's second half, the sixteen rows before it the first half's last. -/
theorem above_bot {s : ℕ} (hs : s ≤ 16) (c : Fin 512 → EReal) (p : Fin 16 → EReal) (a : Fin 256) :
    above s (fun k : Fin 256 => c ⟨256 + k.val, by omega⟩) (fun k : Fin 16 => c ⟨240 + k.val, by omega⟩) a = above s c p ⟨256 + a.val, by omega⟩ := by
  unfold above
  rw [if_pos (show s ≤ 256 + a.val by omega)]
  by_cases h : s ≤ a.val
  · rw [if_pos h]
    exact congrArg c (Fin.ext (by show 256 + (a.val - s) = 256 + a.val - s; omega))
  · rw [if_neg h]
    exact congrArg c (Fin.ext (by show 240 + (16 + a.val - s) % 16 = 256 + a.val - s; rw [Nat.mod_eq_of_lt (by omega)]; omega))

/-- The convolution at a block's row is the matrix's. -/
theorem conv3_rows {N i : ℕ} (A : (⟨2, ![4096, N]⟩ : Shape).Idx → EReal) (W : (⟨2, ![3, N]⟩ : Shape).Idx → EReal) {w : Fin 3 → EReal} {c : Fin 512 → EReal} {p : Fin 16 → EReal} {j : ℕ} (hj : j < N)
    (hi : i < 8) (hi' : 512 * i + 512 ≤ 4096)
    (hc : ∀ (k : Fin 512), c k = A (ix2 ⟨512 * i + k.val, by omega⟩ ⟨j, hj⟩))
    (hp : ∀ (k : Fin 16) (h : 16 ≤ 512 * i), p k = A (ix2 ⟨512 * i - 16 + k.val, by omega⟩ ⟨j, hj⟩)) (hw : ∀ k : Fin 3, w k = W (ix2 k ⟨j, hj⟩)) (a : Fin 512) :
    conv3 w c (fun k => mask i (p k)) a = cconv3 A W (512 * i + a.val) ⟨j, hj⟩ := by
  have hs : ∀ s, s ≤ 16 → above s c (fun k => mask i (p k)) a = back A s (512 * i + a.val) j := fun s hs =>
    above_rows A c _ hj (by omega) hc (fun h k => if_pos (by omega)) (fun h k => (if_neg (by omega)).trans (hp k h)) (by omega) hs a
  unfold conv3 cconv3
  rw [hs 2 (by decide), hs 1 (by decide), ← above_zero c (fun k => mask i (p k)) a, hs 0 (by decide), hw, hw, hw]

/-- A value through its own gate. -/
def silu (x : EReal) : EReal := x * Gate.gate x

/-- A column of the gated half, in the whole. -/
def lo (b : Fin 2816) : Fin 5632 := ⟨b.val, by omega⟩

/-- A column of the other half, in the whole. -/
def hi (b : Fin 2816) : Fin 5632 := ⟨2816 + b.val, by omega⟩

/-- A row of the matrix with zeros put before it. -/
theorem row_back {M N s : ℕ} (A : (⟨2, ![M, N]⟩ : Shape).Idx → EReal) (b : Fin N) {a : ℕ} (ha : a < M) {P : Prop} [Decidable P] {n : ℕ} (h : P ↔ ¬s ≤ a) (e : n = a - s) (g : ¬P → n < M) :
    (if p : P then 0 else A (ix2 ⟨n, g p⟩ b)) = back A s a b.val := by
  subst e
  unfold back
  by_cases hP : P
  · rw [dif_pos hP, if_neg (h.mp hP)]
  · rw [dif_neg hP, if_pos (not_not.mp fun x => hP (h.mpr x)), at2_lt A (by omega) b.isLt]

theorem back_zero {M N : ℕ} (A : (⟨2, ![M, N]⟩ : Shape).Idx → EReal) (a : Fin M) (b : Fin N) : back A 0 a.val b.val = A (ix2 a b) := by
  rw [back, if_pos (Nat.zero_le _)]
  exact at2_fin A a b

/-- A causal convolution of three weights over the matrix with two rows of zeros put before it. -/
theorem pad3 {M N : ℕ} (A : (⟨2, ![M, N]⟩ : Shape).Idx → EReal) (W : (⟨2, ![3, N]⟩ : Shape).Idx → EReal) (a : Fin M) (b : Fin N) :
    W (ix2 0 b) * (if h : a.val < 2 then 0 else A (ix2 ⟨a.val - 2, by omega⟩ b)) + W (ix2 1 b) * (if h : 1 + a.val < 2 then 0 else A (ix2 ⟨1 + a.val - 2, by omega⟩ b))
      + W (ix2 2 b) * A (ix2 a b) = cconv3 A W a.val b := by
  unfold cconv3
  rw [row_back A b a.isLt (s := 2) (by omega) rfl, row_back A b a.isLt (s := 1) (by omega) (by omega), back_zero]

/-- A convolution on one of a block's halves. -/
theorem conv3_top (w : Fin 3 → EReal) (c : Fin 512 → EReal) (p : Fin 16 → EReal) (a : Fin 256) : conv3 w (fun k : Fin 256 => c ⟨k.val, by omega⟩) p a = conv3 w c p ⟨a.val, by omega⟩ := rfl

theorem conv3_bot (w : Fin 3 → EReal) (c : Fin 512 → EReal) (p : Fin 16 → EReal) (a : Fin 256) :
    conv3 w (fun k : Fin 256 => c ⟨256 + k.val, by omega⟩) (fun k : Fin 16 => c ⟨240 + k.val, by omega⟩) a = conv3 w c p ⟨256 + a.val, by omega⟩ := by
  unfold conv3
  rw [above_bot (by decide) c p, above_bot (by decide) c p]

/-- The gated part's gradient from the two convolutions `g`, `u` and the result's gradient `e`. -/
def dgate (g u e : EReal) : EReal := e * u * (Gate.gate g * (1 + g * (1 - Gate.gate g)))

/-- The other part's gradient. -/
def dother (g e : EReal) : EReal := e * (g * Gate.gate g)

/-- The sum over a block's rows in its two halves. -/
theorem sum_halves (f : Fin 512 → EReal) : (∑ a : Fin 256, f ⟨a.val, by omega⟩) + ∑ a : Fin 256, f ⟨256 + a.val, by omega⟩ = ∑ a : Fin 512, f a :=
  (Fin.sum_univ_add (a := 256) (b := 256) f).symm

/-- The sum over 256 rows in eights. -/
theorem sum_eights (f : ℕ → EReal) : (∑ x : Fin 8, ∑ r ∈ Finset.range 32, f (8 * r + x.val)) = ∑ k : Fin 256, f k.val := by
  rw [Finset.sum_comm, Finset.sum_range (fun r => ∑ x : Fin 8, f (8 * r + x.val)), ← Fintype.sum_prod_type' (fun (r : Fin 32) (x : Fin 8) => f (8 * r.val + x.val))]
  exact Fintype.sum_equiv (finProdFinEquiv (m := 32) (n := 8)) _ _ fun p => congrArg f (by show 8 * p.1.val + p.2.val = p.2.val + 8 * p.1.val; omega)

theorem back_real {M N : ℕ} {A : (⟨2, ![M, N]⟩ : Shape).Idx → EReal} {P : EReal → Prop} (h0 : P 0) {b : Fin N} (h : ∀ a : Fin M, P (A (ix2 a b))) (s n : ℕ) : P (back A s n b.val) := by
  unfold back at2
  split
  · split
    · exact h _
    · exact h0
  · exact h0

/-- The sums the reference takes for a convolution's three weights, row `k` of its result. -/
theorem taps3 {N : ℕ} (E A : (⟨2, ![4096, N]⟩ : Shape).Idx → EReal) (k : Fin 3) (j : ℕ) (hj : j < N) :
    ((if _h : (2 ≤ k.val ∧ k.val - 2 < 1) ∧ j < N then ∑ _x : Fin 1, ∑ x : Fin 4096, E (ix2 x ⟨j, hj⟩) * A (ix2 x ⟨j, hj⟩) else 0)
      + if _h : (1 ≤ k.val ∧ k.val - 1 < 1) ∧ j < N then ∑ _x : Fin 1, ∑ x : Fin 4096, E (ix2 x ⟨j, hj⟩) * (if h : 1 + x.val < 2 then 0 else A (ix2 ⟨1 + x.val - 2, by omega⟩ ⟨j, hj⟩)) else 0)
      + (if _h : k.val < 1 ∧ j < N then ∑ _x : Fin 1, ((∑ x : Fin 2, E (ix2 ⟨x.val, by omega⟩ ⟨j, hj⟩) * 0) + ∑ x : Fin 4094, E (ix2 ⟨2 + x.val, by omega⟩ ⟨j, hj⟩) * A (ix2 ⟨x.val, by omega⟩ ⟨j, hj⟩)) else 0)
    = ∑ n : Fin 4096, E (ix2 n ⟨j, hj⟩) * back A (2 - k.val) n.val j := by
  match k with
  | 2 =>
    rw [dif_pos ⟨⟨by decide, by decide⟩, hj⟩, dif_neg (by simp), dif_neg (by simp), add_zero, add_zero, Fin.sum_univ_one]
    exact Finset.sum_congr rfl fun n _ => congrArg (E (ix2 n ⟨j, hj⟩) * ·) (back_zero A n ⟨j, hj⟩).symm
  | 1 =>
    rw [dif_neg (by simp), dif_pos ⟨⟨by decide, by decide⟩, hj⟩, dif_neg (by simp), zero_add, add_zero, Fin.sum_univ_one]
    exact Finset.sum_congr rfl fun n _ => congrArg (E (ix2 n ⟨j, hj⟩) * ·) (row_back A ⟨j, hj⟩ n.isLt (P := 1 + n.val < 2) (n := 1 + n.val - 2) (s := 1) (by omega) (by omega) (fun h => by omega))
  | 0 =>
    rw [dif_neg (by simp), dif_neg (by simp), dif_pos ⟨by decide, hj⟩, zero_add, zero_add, Fin.sum_univ_one]
    refine Eq.trans ?_ (Fin.sum_univ_add (a := 2) (b := 4094) (fun n : Fin 4096 => E (ix2 n ⟨j, hj⟩) * back A 2 n.val j)).symm
    refine congrArg₂ (· + ·) (Finset.sum_congr rfl fun x _ => congrArg (E (ix2 ⟨x.val, by omega⟩ ⟨j, hj⟩) * ·) ?_) (Finset.sum_congr rfl fun x _ => congrArg (E (ix2 ⟨2 + x.val, by omega⟩ ⟨j, hj⟩) * ·) ?_)
    · exact (if_neg (by show ¬ 2 ≤ x.val; omega)).symm
    · show _ = if 2 ≤ 2 + x.val then at2 A (2 + x.val - 2) j else 0
      rw [if_pos (by omega), at2, dif_pos ⟨by omega, hj⟩]
      exact congrArg (fun z => A (ix2 z ⟨j, hj⟩)) (Fin.ext (by show x.val = 2 + x.val - 2; omega))

end Above

end
-- ==== Proof.FfnActValue.lean ====
/- ConvFFN's causal convolution and its gate, entry by entry. -/
module

public import proofs.«01_k».proof.Proof.Gen.FfnActIdeal.Value
public import proofs.«01_k».proof.Proof.Above

@[expose] public section

set_option maxRecDepth 16384

noncomputable section

namespace Cert.FfnActIdeal.Entries

open Cert.FfnActIdeal Cert.FfnActIdeal.Gen Idealize.ShloMosaic Idealize.ShloMosaic.TcCoe Idealize.SL.Sem Blocked Above

/-- The rows' numbers. -/
def rowNo : IVec S512x128 32 := iota .tc S512x128 32 [0] iota_S512x128_d0_w32

/-- A block's rows moved down by one, the last row before the block in front. -/
def down1 (c : FVec Ideal S512x128 .f32) (p : FVec Ideal S16x128 .f32) : FVec Ideal S512x128 .f32 :=
  concatenate S512x128 0 [⟨S8x128, select (cmpi .eq (extractStridedSlice S8x128 ![0, 0] rowNo slices_S512x128_o0_0_S8x128) (broadcast S8x128 0#32))
      (broadcastTo S8x128 (shapeCast S1x128 (extractStridedSlice S1x128 ![15, 0] p slices_S16x128_o15_0_S1x128) shapeCasts_S1x128_S1x128) broadcasts_S1x128_S8x128)
      (extractStridedSlice S8x128 ![0, 0] (dynamicRotate 0 1#32 none c rotates_S512x128_d0) slices_S512x128_o0_0_S8x128)⟩,
    ⟨S504x128, extractStridedSlice S504x128 ![8, 0] (dynamicRotate 0 1#32 none c rotates_S512x128_d0) slices_S512x128_o8_0_S504x128⟩] concatenates_S8x128_S504x128_S512x128_d0

/-- A block's rows moved down by two, the last two rows before the block in front. -/
def down2 (c : FVec Ideal S512x128 .f32) (p : FVec Ideal S16x128 .f32) : FVec Ideal S512x128 .f32 :=
  concatenate S512x128 0 [⟨S8x128, select (cmpi .eq (extractStridedSlice S8x128 ![0, 0] rowNo slices_S512x128_o0_0_S8x128) (broadcast S8x128 1#32))
      (broadcastTo S8x128 (shapeCast S1x128 (extractStridedSlice S1x128 ![15, 0] p slices_S16x128_o15_0_S1x128) shapeCasts_S1x128_S1x128) broadcasts_S1x128_S8x128)
      (select (cmpi .eq (extractStridedSlice S8x128 ![0, 0] rowNo slices_S512x128_o0_0_S8x128) (broadcast S8x128 0#32))
        (broadcastTo S8x128 (shapeCast S1x128 (extractStridedSlice S1x128 ![14, 0] p slices_S16x128_o14_0_S1x128) shapeCasts_S1x128_S1x128) broadcasts_S1x128_S8x128)
        (extractStridedSlice S8x128 ![0, 0] (dynamicRotate 0 2#32 none c rotates_S512x128_d0) slices_S512x128_o0_0_S8x128))⟩,
    ⟨S504x128, extractStridedSlice S504x128 ![8, 0] (dynamicRotate 0 2#32 none c rotates_S512x128_d0) slices_S512x128_o8_0_S504x128⟩] concatenates_S8x128_S504x128_S512x128_d0

theorem down1_apply (c : FVec Ideal S512x128 .f32) (p : FVec Ideal S16x128 .f32) (a : Fin 512) (b : Fin 128) :
    down1 c p (ix2 a b) = above 1 (fun k => c (ix2 k b)) (fun k => p (ix2 k b)) a := by
  unfold down1 rowNo
  pointwise
  exact down_one (R := 512) (c := fun k => c (ix2 k b)) (p := fun k => p (ix2 k b)) (a := a) (by decide)

theorem down2_apply (c : FVec Ideal S512x128 .f32) (p : FVec Ideal S16x128 .f32) (a : Fin 512) (b : Fin 128) :
    down2 c p (ix2 a b) = above 2 (fun k => c (ix2 k b)) (fun k => p (ix2 k b)) a := by
  unfold down2 rowNo
  pointwise
  exact down_two (R := 512) (c := fun k => c (ix2 k b)) (p := fun k => p (ix2 k b)) (a := a) (by decide)

/-- The causal convolution of a block's rows: `c` the rows, `p` those before, `w` the three weights. -/
def conv (c : FVec Ideal S512x128 .f32) (p : FVec Ideal S16x128 .f32) (w : Vec Ideal S3x128 .f32) : FVec Ideal S512x128 .f32 :=
  addf (addf (mulf (broadcastTo S512x128 (extractStridedSlice S1x128 ![0, 0] w slices_S3x128_o0_0_S1x128) broadcasts_S1x128_S512x128) (down2 c p))
      (mulf (broadcastTo S512x128 (extractStridedSlice S1x128 ![1, 0] w slices_S3x128_o1_0_S1x128) broadcasts_S1x128_S512x128) (down1 c p)))
    (mulf (broadcastTo S512x128 (extractStridedSlice S1x128 ![2, 0] w slices_S3x128_o2_0_S1x128) broadcasts_S1x128_S512x128) c)

/-- The rows as the program takes them up. -/
def take (c : Vec Ideal S512x128 .bf16) : FVec Ideal S512x128 .f32 := extf .f32 (shapeCast S512x128 c shapeCasts_S512x128_S512x128) bitsLt_bf16_f32

/-- The rows before the block, zeros before the first. -/
def before (i : grid0.Coords) (p : Vec Ideal S16x128 .bf16) : FVec Ideal S16x128 .f32 :=
  Scalar.select (Scalar.cmpi .eq (BitVec.ofNat 32 (i 0).val) 0#32) (broadcast S16x128 (Scalar.ofBits .f32 0x00000000#32)) (extf .f32 (shapeCast S16x128 p shapeCasts_S16x128_S16x128) bitsLt_bf16_f32)

/-- What the program computes on 128 lanes from the two parts' rows `c`, `d`, the rows before them `p`, `q` and the weights `w`, `v`. -/
def strip (i : grid0.Coords) (c d : Vec Ideal S512x128 .bf16) (p q : Vec Ideal S16x128 .bf16) (w v : Vec Ideal S3x128 .f32) : FVec Ideal S512x128 .bf16 :=
  truncf .bf16 (mulf (mulf (conv (take c) (before i p) w) (divf (broadcast S512x128 (Scalar.ofBits .f32 0x3F800000#32)) (addf (broadcast S512x128 (Scalar.ofBits .f32 0x3F800000#32))
    (exp (subf (broadcast S512x128 (Scalar.ofBits .f32 0x00000000#32)) (conv (take c) (before i p) w)))))) (conv (take d) (before i q) v)) bitsLt_bf16_f32

theorem out_strips (i : grid0.Coords) (x0 : Vec Ideal S512x1408 .bf16) (x1 : Vec Ideal S16x1408 .bf16) (x2 : Vec Ideal S512x1408 .bf16) (x3 : Vec Ideal S16x1408 .bf16) (x4 x5 : Vec Ideal S3x1408 .f32) :
    out0_6 i x0 x1 x2 x3 x4 x5 = View.canon [⟨r0_31, strip i (View.ld x0 r0_31) (View.ld x2 r0_31) (View.ld x1 r0_30) (View.ld x3 r0_30) (View.ld x4 r0_32) (View.ld x5 r0_32)⟩, ⟨r0_28, strip i (View.ld x0 r0_28) (View.ld x2 r0_28) (View.ld x1 r0_27) (View.ld x3 r0_27) (View.ld x4 r0_29) (View.ld x5 r0_29)⟩, ⟨r0_25, strip i (View.ld x0 r0_25) (View.ld x2 r0_25) (View.ld x1 r0_24) (View.ld x3 r0_24) (View.ld x4 r0_26) (View.ld x5 r0_26)⟩, ⟨r0_22, strip i (View.ld x0 r0_22) (View.ld x2 r0_22) (View.ld x1 r0_21) (View.ld x3 r0_21) (View.ld x4 r0_23) (View.ld x5 r0_23)⟩, ⟨r0_19, strip i (View.ld x0 r0_19) (View.ld x2 r0_19) (View.ld x1 r0_18) (View.ld x3 r0_18) (View.ld x4 r0_20) (View.ld x5 r0_20)⟩, ⟨r0_16, strip i (View.ld x0 r0_16) (View.ld x2 r0_16) (View.ld x1 r0_15) (View.ld x3 r0_15) (View.ld x4 r0_17) (View.ld x5 r0_17)⟩, ⟨r0_13, strip i (View.ld x0 r0_13) (View.ld x2 r0_13) (View.ld x1 r0_12) (View.ld x3 r0_12) (View.ld x4 r0_14) (View.ld x5 r0_14)⟩, ⟨r0_10, strip i (View.ld x0 r0_10) (View.ld x2 r0_10) (View.ld x1 r0_9) (View.ld x3 r0_9) (View.ld x4 r0_11) (View.ld x5 r0_11)⟩, ⟨r0_7, strip i (View.ld x0 r0_7) (View.ld x2 r0_7) (View.ld x1 r0_6) (View.ld x3 r0_6) (View.ld x4 r0_8) (View.ld x5 r0_8)⟩, ⟨r0_4, strip i (View.ld x0 r0_4) (View.ld x2 r0_4) (View.ld x1 r0_3) (View.ld x3 r0_3) (View.ld x4 r0_5) (View.ld x5 r0_5)⟩, ⟨r0_1, strip i (View.ld x0 r0_1) (View.ld x2 r0_1) (View.ld x1 r0_0) (View.ld x3 r0_0) (View.ld x4 r0_2) (View.ld x5 r0_2)⟩] := by
  rfl

theorem take_apply (c : Vec Ideal S512x128 .bf16) (y : S512x128.Idx) : take c y = c y := by
  unfold take
  pointwise

theorem before_apply (i : grid0.Coords) (p : Vec Ideal S16x128 .bf16) (y : S16x128.Idx) : before i p y = mask (i 0).val (p y) := by
  have hi : (i 0).val < 8 := (i 0).isLt
  unfold before
  refine Eq.trans ?_ (word_mask hi _)
  pointwise

theorem conv_apply (c : FVec Ideal S512x128 .f32) (p : FVec Ideal S16x128 .f32) (w : Vec Ideal S3x128 .f32) (a : Fin 512) (b : Fin 128) :
    conv c p w (ix2 a b) = conv3 (fun k => w (ix2 k b)) (fun k => c (ix2 k b)) (fun k => p (ix2 k b)) a := by
  unfold conv conv3
  rw [← down1_apply c p a b, ← down2_apply c p a b]
  pointwise

theorem strip_apply (i : grid0.Coords) (c d : Vec Ideal S512x128 .bf16) (p q : Vec Ideal S16x128 .bf16) (w v : Vec Ideal S3x128 .f32) (a : Fin 512) (b : Fin 128) :
    strip i c d p q w v (ix2 a b) = silu (conv3 (fun k => w (ix2 k b)) (fun k => c (ix2 k b)) (fun k => mask (i 0).val (p (ix2 k b))) a)
      * conv3 (fun k => v (ix2 k b)) (fun k => d (ix2 k b)) (fun k => mask (i 0).val (q (ix2 k b))) a := by
  have h1 := conv_apply (take c) (before i p) w a b
  have h2 := conv_apply (take d) (before i q) v a b
  simp only [take_apply, before_apply] at h1 h2
  rw [← h1, ← h2]
  unfold strip silu Gate.gate
  pointwise

/-- A block of the result: `X`, `U` the two parts' rows, `P`, `Q` the rows before them, `W`, `V` the weights. -/
def whole (i : grid0.Coords) (x0 : Vec Ideal S512x1408 .bf16) (x1 : Vec Ideal S16x1408 .bf16) (x2 : Vec Ideal S512x1408 .bf16) (x3 : Vec Ideal S16x1408 .bf16) (x4 x5 : Vec Ideal S3x1408 .f32) : Vec Ideal S512x1408 .bf16 := fun y =>
  silu (conv3 (fun k => x4 (ix2 k (y 1 : Fin 1408))) (fun k => x0 (ix2 k (y 1 : Fin 1408))) (fun k => mask (i 0).val (x1 (ix2 k (y 1 : Fin 1408)))) (y 0 : Fin 512))
    * conv3 (fun k => x5 (ix2 k (y 1 : Fin 1408))) (fun k => x2 (ix2 k (y 1 : Fin 1408))) (fun k => mask (i 0).val (x3 (ix2 k (y 1 : Fin 1408)))) (y 0 : Fin 512)

theorem emb_col {R : ℕ} (o : ℕ) (h : o + 128 ≤ 1408) (inb : ∀ q, (![0, o] : Fin 2 → ℕ) q + (![R, 128] : Fin 2 → ℕ) q ≤ (![R, 1408] : Fin 2 → ℕ) q) (a : Fin R) (b : Fin 128) :
    (Rect.unit (s := ⟨2, ![R, 1408]⟩) ![0, o] ![R, 128] inb).emb (ix2 a b) = ix2 a ⟨o + b.val, by omega⟩ := by
  funext q
  apply Fin.ext
  rw [Rect.emb_apply]
  match q with
  | 0 => show 0 + 1 * a.val = a.val; omega
  | 1 => show o + 1 * b.val = o + b.val; omega

theorem whole_at (i : grid0.Coords) (x0 : Vec Ideal S512x1408 .bf16) (x1 : Vec Ideal S16x1408 .bf16) (x2 : Vec Ideal S512x1408 .bf16) (x3 : Vec Ideal S16x1408 .bf16) (x4 x5 : Vec Ideal S3x1408 .f32) (o : ℕ) (h : o + 128 ≤ 1408)
    (h0 : ∀ q, (![0, o] : Fin 2 → ℕ) q + S512x128.size q ≤ S512x1408.size q)
    (h1 : ∀ q, (![0, o] : Fin 2 → ℕ) q + S16x128.size q ≤ S16x1408.size q)
    (h2 : ∀ q, (![0, o] : Fin 2 → ℕ) q + S3x128.size q ≤ S3x1408.size q) (x : S512x128.Idx) :
    strip i (View.ld x0 (Rect.unit (s := S512x1408) ![0, o] S512x128.size h0)) (View.ld x2 (Rect.unit (s := S512x1408) ![0, o] S512x128.size h0))
      (View.ld x1 (Rect.unit (s := S16x1408) ![0, o] S16x128.size h1)) (View.ld x3 (Rect.unit (s := S16x1408) ![0, o] S16x128.size h1))
      (View.ld x4 (Rect.unit (s := S3x1408) ![0, o] S3x128.size h2)) (View.ld x5 (Rect.unit (s := S3x1408) ![0, o] S3x128.size h2)) x = whole i x0 x1 x2 x3 x4 x5 ((Rect.unit (s := S512x1408) ![0, o] S512x128.size h0).emb x) := by
  obtain ⟨a, b, rfl⟩ : ∃ (a : Fin 512) (b : Fin 128), x = ix2 a b := ⟨x 0, x 1, eq_ix2 x⟩
  rw [strip_apply]
  have e0 : ∀ (z : Vec Ideal S512x1408 .bf16) (k : Fin 512), View.ld z (Rect.unit (s := S512x1408) ![0, o] S512x128.size h0) (ix2 k b) = z (ix2 k ⟨o + b.val, by omega⟩) :=
    fun z k => congrArg z (emb_col o h h0 k b)
  have e1 : ∀ (z : Vec Ideal S16x1408 .bf16) (k : Fin 16), View.ld z (Rect.unit (s := S16x1408) ![0, o] S16x128.size h1) (ix2 k b) = z (ix2 k ⟨o + b.val, by omega⟩) :=
    fun z k => congrArg z (emb_col o h h1 k b)
  have e2 : ∀ (z : Vec Ideal S3x1408 .f32) (k : Fin 3), View.ld z (Rect.unit (s := S3x1408) ![0, o] S3x128.size h2) (ix2 k b) = z (ix2 k ⟨o + b.val, by omega⟩) :=
    fun z k => congrArg z (emb_col o h h2 k b)
  have e00 := e0 x0
  have e02 := e0 x2
  have e11 := e1 x1
  have e13 := e1 x3
  have e24 := e2 x4
  have e25 := e2 x5
  simp only [e00, e02, e11, e13, e24, e25]
  refine Eq.trans ?_ (congrArg (whole i x0 x1 x2 x3 x4 x5) (emb_col o h h0 a b)).symm
  rfl

theorem out6 (i : grid0.Coords) (x0 : Vec Ideal S512x1408 .bf16) (x1 : Vec Ideal S16x1408 .bf16) (x2 : Vec Ideal S512x1408 .bf16) (x3 : Vec Ideal S16x1408 .bf16) (x4 x5 : Vec Ideal S3x1408 .f32) :
    out0_6 i x0 x1 x2 x3 x4 x5 = whole i x0 x1 x2 x3 x4 x5 := by
  rw [out_strips]
  funext y
  refine View.canon_apply_of_pieces (whole i x0 x1 x2 x3 x4 x5) _ ?_ y (cover0_6 _ _ _ _ _ _ _ _ _ _ _ y)
  intro p hp
  simp only [List.mem_cons, List.not_mem_nil, or_false] at hp
  rcases hp with rfl | rfl | rfl | rfl | rfl | rfl | rfl | rfl | rfl | rfl | rfl
  all_goals exact fun x => whole_at i x0 x1 x2 x3 x4 x5 _ (by decide) (by decide) (by decide) (by decide) x

variable (m : (ℓ : Loc nD τ sig) → Buf (Elt Ideal) ℓ)

theorem coord : ∀ t : Fin cfg0.N, ((grid0.coords t) 0).val = t.val / 2 := by decide +kernel

theorem idx0 : ∀ t : Fin cfg0.N, win0_0.index t = ![t.val / 2, t.val % 2] := by decide +kernel

theorem blk0 (c : Dev nD) (t : Fin cfg0.N) (a : Fin 512) (b : Fin 1408) (h : 512 * (t.val / 2) + a.val < 4096) :
    iblk m c 0 t (ix2 a b) = m ((c.tc : Thread nD τ).loc main_arg0) (ix2 ⟨512 * (t.val / 2) + a.val, h⟩ ⟨1408 * (t.val % 2) + b.val, by omega⟩) := by
  blk_simp [iblk]
  entry_read
  blk_ext [idx0 t]

theorem idx2 : ∀ t : Fin cfg0.N, win0_2.index t = ![t.val / 2, t.val % 2 + 2] := by decide +kernel

theorem blk2 (c : Dev nD) (t : Fin cfg0.N) (a : Fin 512) (b : Fin 1408) (h : 512 * (t.val / 2) + a.val < 4096) :
    iblk m c 2 t (ix2 a b) = m ((c.tc : Thread nD τ).loc main_arg0) (ix2 ⟨512 * (t.val / 2) + a.val, h⟩ ⟨1408 * (t.val % 2 + 2) + b.val, by omega⟩) := by
  blk_simp [iblk]
  entry_read
  blk_ext [idx2 t]

theorem idx1 : ∀ t : Fin cfg0.N, win0_1.index t = ![t.val / 2 * 32 - 1, t.val % 2] := by decide +kernel

theorem blk1 (c : Dev nD) (t : Fin cfg0.N) (a : Fin 16) (b : Fin 1408) (h : 16 ≤ 512 * (t.val / 2)) :
    iblk m c 1 t (ix2 a b) = m ((c.tc : Thread nD τ).loc main_arg0) (ix2 ⟨512 * (t.val / 2) - 16 + a.val, by have hN : t.val < 16 := lt_of_lt_of_eq t.isLt N_0; omega⟩ ⟨1408 * (t.val % 2) + b.val, by omega⟩) := by
  have e : 512 * (t.val / 2) - 16 = 16 * (t.val / 2 * 32 - 1) := by omega
  simp only [e]
  blk_simp [iblk]
  entry_read
  blk_ext [idx1 t]

theorem idx3 : ∀ t : Fin cfg0.N, win0_3.index t = ![t.val / 2 * 32 - 1, t.val % 2 + 2] := by decide +kernel

theorem blk3 (c : Dev nD) (t : Fin cfg0.N) (a : Fin 16) (b : Fin 1408) (h : 16 ≤ 512 * (t.val / 2)) :
    iblk m c 3 t (ix2 a b) = m ((c.tc : Thread nD τ).loc main_arg0) (ix2 ⟨512 * (t.val / 2) - 16 + a.val, by have hN : t.val < 16 := lt_of_lt_of_eq t.isLt N_0; omega⟩ ⟨1408 * (t.val % 2 + 2) + b.val, by omega⟩) := by
  have e : 512 * (t.val / 2) - 16 = 16 * (t.val / 2 * 32 - 1) := by omega
  simp only [e]
  blk_simp [iblk]
  entry_read
  blk_ext [idx3 t]

theorem idx4 : ∀ t : Fin cfg0.N, win0_4.index t = ![0, t.val % 2] := by decide +kernel

theorem blk4 (c : Dev nD) (t : Fin cfg0.N) (a : Fin 3) (b : Fin 1408) :
    iblk m c 4 t (ix2 a b) = m ((c.tc : Thread nD τ).loc main_arg1) (ix2 a ⟨1408 * (t.val % 2) + b.val, by omega⟩) := by
  blk_simp [iblk]
  entry_read
  blk_ext [idx4 t]

theorem idx5 : ∀ t : Fin cfg0.N, win0_5.index t = ![0, t.val % 2 + 2] := by decide +kernel

theorem blk5 (c : Dev nD) (t : Fin cfg0.N) (a : Fin 3) (b : Fin 1408) :
    iblk m c 5 t (ix2 a b) = m ((c.tc : Thread nD τ).loc main_arg1) (ix2 a ⟨1408 * (t.val % 2 + 2) + b.val, by omega⟩) := by
  blk_simp [iblk]
  entry_read
  blk_ext [idx5 t]

theorem idx6 : ∀ t : Fin cfg0.N, win0_6.index t = ![t.val / 2, t.val % 2] := by decide +kernel

theorem emb6 (t : Fin cfg0.N) (a : Fin 512) (b : Fin 1408) (h : 512 * (t.val / 2) + a.val < 4096) :
    (win0_6.blk t).view.emb (ix2 a b) = ix2 ⟨512 * (t.val / 2) + a.val, h⟩ ⟨1408 * (t.val % 2) + b.val, by omega⟩ := by
  blk_ext [idx6 t]

/-- The activation: the gated part's convolution through its gate, times the other part's. -/
def result (A : (⟨2, ![4096, 5632]⟩ : Shape).Idx → EReal) (W : (⟨2, ![3, 5632]⟩ : Shape).Idx → EReal) : Vec Ideal S4096x2816 .bf16 := fun y =>
  silu (cconv3 A W (y 0 : Fin 4096).val (lo (y 1 : Fin 2816))) * cconv3 A W (y 0 : Fin 4096).val (hi (y 1 : Fin 2816))

theorem final (c : Dev nD) : (dats m 0 c).arrAt 6 cfg0.N = result (m ((c.tc : Thread nD τ).loc main_arg0)) (m ((c.tc : Thread nD τ).loc main_arg1)) := by
  refine (dats m 0 c).arrAt_eq_of_covers 6 _ (by decide +kernel) fun t hf y => ?_
  obtain ⟨a, b, rfl⟩ : ∃ (a : Fin 512) (b : Fin 1408), y = ix2 a b := ⟨y 0, y 1, eq_ix2 y⟩
  have hN : t.val < 16 := lt_of_lt_of_eq t.isLt N_0
  have h : 512 * (t.val / 2) + a.val < 4096 := by omega
  blk_simp
  rw [after0_6, emb6 _ _ _ h, out6]
  unfold whole result
  dsimp only [ix2_0, ix2_1]
  rw [coord t]
  refine congrArg₂ (fun x y => silu x * y) ?_ ?_
  · exact conv3_rows (m ((c.tc : Thread nD τ).loc main_arg0)) (m ((c.tc : Thread nD τ).loc main_arg1)) (j := 1408 * (t.val % 2) + b.val) (by omega) (by omega) (by omega) (fun k => blk0 m c t k b (by omega))
      (fun k h => blk1 m c t k b (by omega)) (fun k => blk4 m c t k b) a
  · refine Eq.trans (conv3_rows (m ((c.tc : Thread nD τ).loc main_arg0)) (m ((c.tc : Thread nD τ).loc main_arg1)) (j := 1408 * (t.val % 2 + 2) + b.val) (by omega) (by omega) (by omega) (fun k => blk2 m c t k b (by omega))
      (fun k h => blk3 m c t k b (by omega)) (fun k => blk5 m c t k b) a) (congrArg (cconv3 _ _ _) (Fin.ext ?_))
    show 1408 * (t.val % 2 + 2) + b.val = 2816 + (1408 * (t.val % 2) + b.val)
    omega

variable (ρ : Dev nD → PrngReg)

/-- THE KERNEL'S RUN: its result is the activation, its arguments unchanged. -/
theorem run : θ_run (defs (F := Ideal)) (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.FfnActIdeal.Entries

end
-- ==== Proof.FfnActBwdStrips.lean ====
/- The gradient of ConvFFN's activation: what the program computes on 128 lanes, and its four results' stores from that. -/
module

public import proofs.«01_k».proof.Proof.Gen.FfnActBwdIdeal.Value
public import Idealize.ShloMosaic.Lib.Pipeline.ReadBack
public import proofs.«01_k».proof.Proof.Above

@[expose] public section

set_option maxRecDepth 16384

noncomputable section

namespace Cert.FfnActBwdIdeal.Entries

open Cert.FfnActBwdIdeal Cert.FfnActBwdIdeal.Gen Idealize.ShloMosaic Idealize.ShloMosaic.TcCoe Idealize.SL.Sem Blocked Above

/-- The rows' numbers. -/
def rowNo : IVec S256x128 32 := iota .tc S256x128 32 [0] iota_S256x128_d0_w32

/-- A block's rows moved down by one, the last row before the block in front. -/
def down1 (c : FVec Ideal S256x128 .f32) (p : FVec Ideal S16x128 .f32) : FVec Ideal S256x128 .f32 :=
  concatenate S256x128 0 [⟨S8x128, (select (cmpi .eq (extractStridedSlice S8x128 ![0, 0] rowNo slices_S256x128_o0_0_S8x128) (broadcast S8x128 0#32))
      (broadcastTo S8x128 (shapeCast S1x128 (extractStridedSlice S1x128 ![15, 0] p slices_S16x128_o15_0_S1x128) shapeCasts_S1x128_S1x128) broadcasts_S1x128_S8x128)
      (extractStridedSlice S8x128 ![0, 0] (dynamicRotate 0 1#32 none c rotates_S256x128_d0) slices_S256x128_o0_0_S8x128))⟩,
    ⟨S248x128, extractStridedSlice S248x128 ![8, 0] (dynamicRotate 0 1#32 none c rotates_S256x128_d0) slices_S256x128_o8_0_S248x128⟩] concatenates_S8x128_S248x128_S256x128_d0

theorem down1_apply (c : FVec Ideal S256x128 .f32) (p : FVec Ideal S16x128 .f32) (a : Fin 256) (b : Fin 128) :
    down1 c p (ix2 a b) = above 1 (fun k => c (ix2 k b)) (fun k => p (ix2 k b)) a := by
  unfold down1 rowNo
  pointwise
  exact down_one (R := 256) (c := fun k => c (ix2 k b)) (p := fun k => p (ix2 k b)) (a := a) (by decide)

/-- A block's rows moved down by two, the last two rows before the block in front. -/
def down2 (c : FVec Ideal S256x128 .f32) (p : FVec Ideal S16x128 .f32) : FVec Ideal S256x128 .f32 :=
  concatenate S256x128 0 [⟨S8x128, (select (cmpi .eq (extractStridedSlice S8x128 ![0, 0] rowNo slices_S256x128_o0_0_S8x128) (broadcast S8x128 1#32))
      (broadcastTo S8x128 (shapeCast S1x128 (extractStridedSlice S1x128 ![15, 0] p slices_S16x128_o15_0_S1x128) shapeCasts_S1x128_S1x128) broadcasts_S1x128_S8x128)
      (select (cmpi .eq (extractStridedSlice S8x128 ![0, 0] rowNo slices_S256x128_o0_0_S8x128) (broadcast S8x128 0#32))
      (broadcastTo S8x128 (shapeCast S1x128 (extractStridedSlice S1x128 ![14, 0] p slices_S16x128_o14_0_S1x128) shapeCasts_S1x128_S1x128) broadcasts_S1x128_S8x128)
      (extractStridedSlice S8x128 ![0, 0] (dynamicRotate 0 2#32 none c rotates_S256x128_d0) slices_S256x128_o0_0_S8x128)))⟩,
    ⟨S248x128, extractStridedSlice S248x128 ![8, 0] (dynamicRotate 0 2#32 none c rotates_S256x128_d0) slices_S256x128_o8_0_S248x128⟩] concatenates_S8x128_S248x128_S256x128_d0

theorem down2_apply (c : FVec Ideal S256x128 .f32) (p : FVec Ideal S16x128 .f32) (a : Fin 256) (b : Fin 128) :
    down2 c p (ix2 a b) = above 2 (fun k => c (ix2 k b)) (fun k => p (ix2 k b)) a := by
  unfold down2 rowNo
  pointwise
  exact down_two (R := 256) (c := fun k => c (ix2 k b)) (p := fun k => p (ix2 k b)) (a := a) (by decide)

/-- A weight along the rows. -/
def wide0 (w : Vec Ideal S3x128 .f32) : FVec Ideal S256x128 .f32 := broadcastTo S256x128 (extractStridedSlice S1x128 ![0, 0] w slices_S3x128_o0_0_S1x128) broadcasts_S1x128_S256x128
def wide1 (w : Vec Ideal S3x128 .f32) : FVec Ideal S256x128 .f32 := broadcastTo S256x128 (extractStridedSlice S1x128 ![1, 0] w slices_S3x128_o1_0_S1x128) broadcasts_S1x128_S256x128
def wide2 (w : Vec Ideal S3x128 .f32) : FVec Ideal S256x128 .f32 := broadcastTo S256x128 (extractStridedSlice S1x128 ![2, 0] w slices_S3x128_o2_0_S1x128) broadcasts_S1x128_S256x128

/-- The causal convolution of a block's rows: `c` the rows, `p` those before, `w` the three weights. -/
def conv (c : FVec Ideal S256x128 .f32) (p : FVec Ideal S16x128 .f32) (w : Vec Ideal S3x128 .f32) : FVec Ideal S256x128 .f32 :=
  addf (addf (mulf (wide0 w) (down2 c p)) (mulf (wide1 w) (down1 c p))) (mulf (wide2 w) c)

/-- The rows as the program takes them up. -/
def take (c : Vec Ideal S256x128 .bf16) : FVec Ideal S256x128 .f32 := extf .f32 (shapeCast S256x128 c shapeCasts_S256x128_S256x128) bitsLt_bf16_f32

def take16 (p : Vec Ideal S16x128 .bf16) : FVec Ideal S16x128 .f32 := extf .f32 (shapeCast S16x128 p shapeCasts_S16x128_S16x128) bitsLt_bf16_f32

/-- The rows before the block, zeros before the first. -/
def before (i : grid0.Coords) (p : Vec Ideal S16x128 .bf16) : FVec Ideal S16x128 .f32 :=
  Scalar.select (Scalar.cmpi .eq (BitVec.ofNat 32 (i 1).val) 0#32) (broadcast S16x128 (Scalar.ofBits .f32 0x00000000#32)) (take16 p)

def one : FVec Ideal S256x128 .f32 := broadcast S256x128 (Scalar.ofBits .f32 0x3F800000#32)

/-- The gate. -/
def sigma (x : FVec Ideal S256x128 .f32) : FVec Ideal S256x128 .f32 := divf one (addf one (exp (subf (broadcast S256x128 (Scalar.ofBits .f32 0x00000000#32)) x)))

/-- The gated part's gradient from the two convolutions. -/
def gateG (g u e : FVec Ideal S256x128 .f32) : FVec Ideal S256x128 .f32 := mulf (mulf e u) (mulf (sigma g) (addf one (mulf g (subf one (sigma g)))))

/-- The other part's gradient. -/
def gateU (g e : FVec Ideal S256x128 .f32) : FVec Ideal S256x128 .f32 := mulf e (mulf g (sigma g))

/-- Eight rows' sums, the first `n + 1` eights of rows. -/
def fold (a : FVec Ideal S256x128 .f32) : (n : ℕ) → n < 32 → FVec Ideal S8x128 .f32
  | 0, _ => extractStridedSlice S8x128 ![0, 0] a slices_S256x128_o0_0_S8x128
  | n + 1, h => addf (fold a n (by omega)) (extractStridedSlice S8x128 ![8 * (n + 1), 0] a (fits n h))
where
  fits (n : ℕ) (h : n + 1 < 32) : S256x128.Slices ![8 * (n + 1), 0] S8x128 :=
    ⟨rfl, fun q => by match q with | 0 => show 8 * (n + 1) + 8 ≤ 256; omega | 1 => show 0 + 128 ≤ 128; omega⟩

/-- A row of the weights' gradients, `A` and `B` the two halves' terms added to it. -/
def addRow (x : Vec Ideal S1x128 .f32) (A B : FVec Ideal S256x128 .f32) : FVec Ideal S1x128 .f32 :=
  addf (shapeCast S1x128 x shapeCasts_S1x128_S1x128) (shapeCast S1x128 (multiReduction .add [0] S128 (addf (addf (broadcast S8x128 (Scalar.ofBits .f32 0x00000000#32)) (fold A 31 (by decide))) (fold B 31 (by decide)))
    0x00000000#32 reduces_S8x128_S128 (.inl rfl) rfl) shapeCasts_S128_S1x128)

/-- Rows `r` to `r + n` of 128 columns from `o` on are in the block. -/
theorem fit {r n R o : ℕ} (hr : r + n ≤ R) (h : o + 128 ≤ 1408) : ∀ q, (![r, o] : Fin 2 → ℕ) q + (![n, 128] : Fin 2 → ℕ) q ≤ (![R, 1408] : Fin 2 → ℕ) q := by
  intro q
  match q with
  | 0 => exact hr
  | 1 => exact h

section Store

variable (i : grid0.Coords) (x0 x1 : Vec Ideal S512x1408 .bf16) (x2 : Vec Ideal S16x1408 .bf16) (x3 : Vec Ideal S512x1408 .bf16) (x4 : Vec Ideal S16x1408 .bf16) (x5 x6 : Vec Ideal S3x1408 .f32)

/-- The first and the second half of a block's rows, on 128 lanes. -/
def top (x : Vec Ideal S512x1408 .bf16) (o : ℕ) (h : o + 128 ≤ 1408) : Vec Ideal S256x128 .bf16 := View.ld x (Rect.unit (s := S512x1408) ![0, o] ![256, 128] (fit (by decide) h))
def bot (x : Vec Ideal S512x1408 .bf16) (o : ℕ) (h : o + 128 ≤ 1408) : Vec Ideal S256x128 .bf16 := View.ld x (Rect.unit (s := S512x1408) ![256, o] ![256, 128] (fit (by decide) h))

/-- The rows before each half. -/
def preTop (x : Vec Ideal S16x1408 .bf16) (o : ℕ) (h : o + 128 ≤ 1408) : FVec Ideal S16x128 .f32 := before i (View.ld x (Rect.unit (s := S16x1408) ![0, o] ![16, 128] (fit (by decide) h)))
def preBot (x : Vec Ideal S512x1408 .bf16) (o : ℕ) (h : o + 128 ≤ 1408) : FVec Ideal S16x128 .f32 := take16 (View.ld x (Rect.unit (s := S512x1408) ![240, o] ![16, 128] (fit (by decide) h)))

def lanes (w : Vec Ideal S3x1408 .f32) (o : ℕ) (h : o + 128 ≤ 1408) : Vec Ideal S3x128 .f32 := View.ld w (Rect.unit (s := S3x1408) ![0, o] ![3, 128] (fit (by decide) h))

/-- The two parts' convolutions on each half. -/
def gTop (o : ℕ) (h : o + 128 ≤ 1408) := conv (take (top x1 o h)) (preTop i x2 o h) (lanes x5 o h)
def gBot (o : ℕ) (h : o + 128 ≤ 1408) := conv (take (bot x1 o h)) (preBot x1 o h) (lanes x5 o h)
def uTop (o : ℕ) (h : o + 128 ≤ 1408) := conv (take (top x3 o h)) (preTop i x4 o h) (lanes x6 o h)
def uBot (o : ℕ) (h : o + 128 ≤ 1408) := conv (take (bot x3 o h)) (preBot x3 o h) (lanes x6 o h)

/-- The two parts' gradients on each half. -/
def dgTop (o : ℕ) (h : o + 128 ≤ 1408) := gateG (gTop i x1 x2 x5 o h) (uTop i x3 x4 x6 o h) (take (top x0 o h))
def dgBot (o : ℕ) (h : o + 128 ≤ 1408) := gateG (gBot x1 x5 o h) (uBot x3 x6 o h) (take (bot x0 o h))
def duTop (o : ℕ) (h : o + 128 ≤ 1408) := gateU (gTop i x1 x2 x5 o h) (take (top x0 o h))
def duBot (o : ℕ) (h : o + 128 ≤ 1408) := gateU (gBot x1 x5 o h) (take (bot x0 o h))

/-- The stores of 128 lanes of the gated part's gradient. -/
def storeG (o : ℕ) (h : o + 128 ≤ 1408) : List (View.Piece (Elt Ideal) S512x1408 .bf16) :=
  [⟨Rect.unit (s := S512x1408) ![256, o] ![256, 128] (fit (by decide) h), truncf .bf16 (dgBot x0 x1 x3 x5 x6 o h) bitsLt_bf16_f32⟩,
   ⟨Rect.unit (s := S512x1408) ![0, o] ![256, 128] (fit (by decide) h), truncf .bf16 (dgTop i x0 x1 x2 x3 x4 x5 x6 o h) bitsLt_bf16_f32⟩]

/-- The stores of 128 lanes of the other part's gradient. -/
def storeU (o : ℕ) (h : o + 128 ≤ 1408) : List (View.Piece (Elt Ideal) S512x1408 .bf16) :=
  [⟨Rect.unit (s := S512x1408) ![256, o] ![256, 128] (fit (by decide) h), truncf .bf16 (duBot x0 x1 x5 o h) bitsLt_bf16_f32⟩,
   ⟨Rect.unit (s := S512x1408) ![0, o] ![256, 128] (fit (by decide) h), truncf .bf16 (duTop i x0 x1 x2 x5 o h) bitsLt_bf16_f32⟩]

/-- The stores of 128 lanes of a weights' gradient, from the terms of each half: `c` the halves' rows, `p` the rows before. -/
def storeW (xo : Vec Ideal S3x1408 .f32) (dT dB cT cB : FVec Ideal S256x128 .f32) (pT pB : FVec Ideal S16x128 .f32) (o : ℕ) (h : o + 128 ≤ 1408) : List (View.Piece (Elt Ideal) S3x1408 .f32) :=
  [⟨Rect.unit (s := S3x1408) ![2, o] ![1, 128] (fit (by decide) h), addRow (View.ld xo (Rect.unit (s := S3x1408) ![2, o] ![1, 128] (fit (by decide) h))) (mulf dT cT) (mulf dB cB)⟩,
   ⟨Rect.unit (s := S3x1408) ![1, o] ![1, 128] (fit (by decide) h), addRow (View.ld xo (Rect.unit (s := S3x1408) ![1, o] ![1, 128] (fit (by decide) h))) (mulf dT (down1 cT pT)) (mulf dB (down1 cB pB))⟩,
   ⟨Rect.unit (s := S3x1408) ![0, o] ![1, 128] (fit (by decide) h), addRow (View.ld xo (Rect.unit (s := S3x1408) ![0, o] ![1, 128] (fit (by decide) h))) (mulf dT (down2 cT pT)) (mulf dB (down2 cB pB))⟩]

def storeWG (xo : Vec Ideal S3x1408 .f32) (o : ℕ) (h : o + 128 ≤ 1408) : List (View.Piece (Elt Ideal) S3x1408 .f32) :=
  storeW xo (dgTop i x0 x1 x2 x3 x4 x5 x6 o h) (dgBot x0 x1 x3 x5 x6 o h) (take (top x1 o h)) (take (bot x1 o h)) (preTop i x2 o h) (preBot x1 o h) o h

def storeWU (xo : Vec Ideal S3x1408 .f32) (o : ℕ) (h : o + 128 ≤ 1408) : List (View.Piece (Elt Ideal) S3x1408 .f32) :=
  storeW xo (duTop i x0 x1 x2 x5 o h) (duBot x0 x1 x5 o h) (take (top x3 o h)) (take (bot x3 o h)) (preTop i x4 o h) (preBot x3 o h) o h

/-- The stores of the first `n` columns of lanes, the last first. -/
def cols {S : Shape} {e : EltTy} (f : (o : ℕ) → o + 128 ≤ 1408 → List (View.Piece (Elt Ideal) S e)) : (n : ℕ) → n ≤ 11 → List (View.Piece (Elt Ideal) S e)
  | 0, _ => []
  | n + 1, h => f (128 * n) (by omega) ++ cols f n (by omega)

end Store

theorem stores_A7 (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S16x1408 .bf16) (harg4 : arg4.IsWhole) (arg5 : Memref sig .tc .vmem S512x1408 .bf16) (harg5 : arg5.IsWhole) (arg6 : Memref sig .tc .vmem S16x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S3x1408 .f32) (harg11 : arg11.IsWhole) (arg12 : Memref sig .tc .vmem S3x1408 .f32) (harg12 : arg12.IsWhole) (hc0 : cond0_0 i)
    (x0 : Vec Ideal S512x1408 .bf16) (x1 : Vec Ideal S512x1408 .bf16) (x2 : Vec Ideal S16x1408 .bf16) (x3 : Vec Ideal S512x1408 .bf16) (x4 : Vec Ideal S16x1408 .bf16) (x5 : Vec Ideal S3x1408 .f32) (x6 : Vec Ideal S3x1408 .f32) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6 = View.canon (cols (storeG i x0 x1 x2 x3 x4 x5 x6) 11 (by decide)) := by
  frame_out
  rfl

theorem stores_B7 (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S16x1408 .bf16) (harg4 : arg4.IsWhole) (arg5 : Memref sig .tc .vmem S512x1408 .bf16) (harg5 : arg5.IsWhole) (arg6 : Memref sig .tc .vmem S16x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S3x1408 .f32) (harg11 : arg11.IsWhole) (arg12 : Memref sig .tc .vmem S3x1408 .f32) (harg12 : arg12.IsWhole) (hc0 : ¬cond0_0 i)
    (x0 : Vec Ideal S512x1408 .bf16) (x1 : Vec Ideal S512x1408 .bf16) (x2 : Vec Ideal S16x1408 .bf16) (x3 : Vec Ideal S512x1408 .bf16) (x4 : Vec Ideal S16x1408 .bf16) (x5 : Vec Ideal S3x1408 .f32) (x6 : Vec Ideal S3x1408 .f32) (xo9 : Vec Ideal S3x1408 .f32) (xo10 : Vec Ideal S3x1408 .f32) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xo9 xo10 = View.canon (cols (storeG i x0 x1 x2 x3 x4 x5 x6) 11 (by decide)) := by
  frame_out
  rfl

theorem stores_A8 (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S16x1408 .bf16) (harg4 : arg4.IsWhole) (arg5 : Memref sig .tc .vmem S512x1408 .bf16) (harg5 : arg5.IsWhole) (arg6 : Memref sig .tc .vmem S16x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S3x1408 .f32) (harg11 : arg11.IsWhole) (arg12 : Memref sig .tc .vmem S3x1408 .f32) (harg12 : arg12.IsWhole) (hc0 : cond0_0 i)
    (x0 : Vec Ideal S512x1408 .bf16) (x1 : Vec Ideal S512x1408 .bf16) (x2 : Vec Ideal S16x1408 .bf16) (x3 : Vec Ideal S512x1408 .bf16) (x4 : Vec Ideal S16x1408 .bf16) (x5 : Vec Ideal S3x1408 .f32) (x6 : Vec Ideal S3x1408 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 = View.canon (cols (storeU i x0 x1 x2 x5) 11 (by decide)) := by
  frame_out
  rfl

theorem stores_B8 (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S16x1408 .bf16) (harg4 : arg4.IsWhole) (arg5 : Memref sig .tc .vmem S512x1408 .bf16) (harg5 : arg5.IsWhole) (arg6 : Memref sig .tc .vmem S16x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S3x1408 .f32) (harg11 : arg11.IsWhole) (arg12 : Memref sig .tc .vmem S3x1408 .f32) (harg12 : arg12.IsWhole) (hc0 : ¬cond0_0 i)
    (x0 : Vec Ideal S512x1408 .bf16) (x1 : Vec Ideal S512x1408 .bf16) (x2 : Vec Ideal S16x1408 .bf16) (x3 : Vec Ideal S512x1408 .bf16) (x4 : Vec Ideal S16x1408 .bf16) (x5 : Vec Ideal S3x1408 .f32) (x6 : Vec Ideal S3x1408 .f32) (xo9 : Vec Ideal S3x1408 .f32) (xo10 : Vec Ideal S3x1408 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 xo9 xo10 = View.canon (cols (storeU i x0 x1 x2 x5) 11 (by decide)) := by
  frame_out
  rfl

theorem stores_A9 (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S16x1408 .bf16) (harg4 : arg4.IsWhole) (arg5 : Memref sig .tc .vmem S512x1408 .bf16) (harg5 : arg5.IsWhole) (arg6 : Memref sig .tc .vmem S16x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S3x1408 .f32) (harg11 : arg11.IsWhole) (arg12 : Memref sig .tc .vmem S3x1408 .f32) (harg12 : arg12.IsWhole) (hc0 : cond0_0 i)
    (x0 : Vec Ideal S512x1408 .bf16) (x1 : Vec Ideal S512x1408 .bf16) (x2 : Vec Ideal S16x1408 .bf16) (x3 : Vec Ideal S512x1408 .bf16) (x4 : Vec Ideal S16x1408 .bf16) (x5 : Vec Ideal S3x1408 .f32) (x6 : Vec Ideal S3x1408 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 = View.canon (cols (storeWG i x0 x1 x2 x3 x4 x5 x6 (k0_pay2 (F := Ideal))) 11 (by decide) ++ [⟨Rect.unit (s := S3x1408) ![0, 0] S3x1408.size inb_S3x1408_S3x1408_0_0, (k0_pay2 (F := Ideal))⟩]) := by
  frame_open
  simp (disch := decide) only [↓ View.readCov_skip, ↓ View.readCov_cons_toLoadRect, ↓ View.readCov_fill]
  frame_out
  rfl

theorem stores_B9 (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S16x1408 .bf16) (harg4 : arg4.IsWhole) (arg5 : Memref sig .tc .vmem S512x1408 .bf16) (harg5 : arg5.IsWhole) (arg6 : Memref sig .tc .vmem S16x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S3x1408 .f32) (harg11 : arg11.IsWhole) (arg12 : Memref sig .tc .vmem S3x1408 .f32) (harg12 : arg12.IsWhole) (hc0 : ¬cond0_0 i)
    (x0 : Vec Ideal S512x1408 .bf16) (x1 : Vec Ideal S512x1408 .bf16) (x2 : Vec Ideal S16x1408 .bf16) (x3 : Vec Ideal S512x1408 .bf16) (x4 : Vec Ideal S16x1408 .bf16) (x5 : Vec Ideal S3x1408 .f32) (x6 : Vec Ideal S3x1408 .f32) (xo9 : Vec Ideal S3x1408 .f32) (xo10 : Vec Ideal S3x1408 .f32) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 xo9 xo10 = View.canon (cols (storeWG i x0 x1 x2 x3 x4 x5 x6 xo9) 11 (by decide)) := by
  frame_out
  rfl

theorem stores_A10 (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S16x1408 .bf16) (harg4 : arg4.IsWhole) (arg5 : Memref sig .tc .vmem S512x1408 .bf16) (harg5 : arg5.IsWhole) (arg6 : Memref sig .tc .vmem S16x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S3x1408 .f32) (harg11 : arg11.IsWhole) (arg12 : Memref sig .tc .vmem S3x1408 .f32) (harg12 : arg12.IsWhole) (hc0 : cond0_0 i)
    (x0 : Vec Ideal S512x1408 .bf16) (x1 : Vec Ideal S512x1408 .bf16) (x2 : Vec Ideal S16x1408 .bf16) (x3 : Vec Ideal S512x1408 .bf16) (x4 : Vec Ideal S16x1408 .bf16) (x5 : Vec Ideal S3x1408 .f32) (x6 : Vec Ideal S3x1408 .f32) :
    out0_A_10 c i arg2 harg2 arg3 harg3 arg4 harg4 arg5 harg5 arg6 harg6 arg7 harg7 arg8 harg8 arg9 harg9 arg10 harg10 arg11 harg11 arg12 harg12 hc0 x0 x1 x2 x3 x4 x5 x6 = View.canon (cols (storeWU i x0 x1 x2 x3 x4 x5 (k0_pay3 (F := Ideal))) 11 (by decide) ++ [⟨Rect.unit (s := S3x1408) ![0, 0] S3x1408.size inb_S3x1408_S3x1408_0_0, (k0_pay3 (F := Ideal))⟩]) := by
  frame_open
  simp (disch := decide) only [↓ View.readCov_skip, ↓ View.readCov_cons_toLoadRect, ↓ View.readCov_fill]
  frame_out
  rfl

theorem stores_B10 (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S16x1408 .bf16) (harg4 : arg4.IsWhole) (arg5 : Memref sig .tc .vmem S512x1408 .bf16) (harg5 : arg5.IsWhole) (arg6 : Memref sig .tc .vmem S16x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S3x1408 .f32) (harg11 : arg11.IsWhole) (arg12 : Memref sig .tc .vmem S3x1408 .f32) (harg12 : arg12.IsWhole) (hc0 : ¬cond0_0 i)
    (x0 : Vec Ideal S512x1408 .bf16) (x1 : Vec Ideal S512x1408 .bf16) (x2 : Vec Ideal S16x1408 .bf16) (x3 : Vec Ideal S512x1408 .bf16) (x4 : Vec Ideal S16x1408 .bf16) (x5 : Vec Ideal S3x1408 .f32) (x6 : Vec Ideal S3x1408 .f32) (xo9 : Vec Ideal S3x1408 .f32) (xo10 : Vec Ideal S3x1408 .f32) :
    out0_B_10 c i arg2 harg2 arg3 harg3 arg4 harg4 arg5 harg5 arg6 harg6 arg7 harg7 arg8 harg8 arg9 harg9 arg10 harg10 arg11 harg11 arg12 harg12 hc0 x0 x1 x2 x3 x4 x5 x6 xo9 xo10 = View.canon (cols (storeWU i x0 x1 x2 x3 x4 x5 xo10) 11 (by decide)) := by
  frame_out
  rfl

end Cert.FfnActBwdIdeal.Entries

end
-- ==== Proof.FfnActBwdValue.lean ====
/- The gradient of ConvFFN's activation, entry by entry. -/
module

public import proofs.«01_k».proof.Proof.FfnActBwdStrips

@[expose] public section

set_option maxRecDepth 16384

noncomputable section

namespace Cert.FfnActBwdIdeal.Entries

open Cert.FfnActBwdIdeal Cert.FfnActBwdIdeal.Gen Idealize.ShloMosaic Idealize.ShloMosaic.TcCoe Idealize.SL.Sem Blocked Above

theorem take_apply (c : Vec Ideal S256x128 .bf16) (y : S256x128.Idx) : take c y = c y := by
  unfold take
  pointwise

theorem take16_apply (c : Vec Ideal S16x128 .bf16) (y : S16x128.Idx) : take16 c y = c y := by
  unfold take16
  pointwise

theorem before_apply (i : grid0.Coords) (p : Vec Ideal S16x128 .bf16) (y : S16x128.Idx) : before i p y = mask (i 1).val (p y) := by
  have hi : (i 1).val < 8 := (i 1).isLt
  unfold before
  refine Eq.trans ?_ (word_mask hi _)
  rw [← take16_apply p y]
  pointwise

theorem conv_apply (c : FVec Ideal S256x128 .f32) (p : FVec Ideal S16x128 .f32) (w : Vec Ideal S3x128 .f32) (a : Fin 256) (b : Fin 128) :
    conv c p w (ix2 a b) = conv3 (fun k => w (ix2 k b)) (fun k => c (ix2 k b)) (fun k => p (ix2 k b)) a := by
  unfold conv conv3 wide0 wide1 wide2
  rw [← down1_apply c p a b, ← down2_apply c p a b]
  pointwise

theorem sigma_apply (x : FVec Ideal S256x128 .f32) (y : S256x128.Idx) : sigma x y = Gate.gate (x y) := by
  unfold sigma one Gate.gate
  pointwise

theorem gateG_apply (g u e : FVec Ideal S256x128 .f32) (y : S256x128.Idx) : gateG g u e y = dgate (g y) (u y) (e y) := by
  unfold dgate
  rw [← sigma_apply g y]
  unfold gateG one
  pointwise

theorem gateU_apply (g e : FVec Ideal S256x128 .f32) (y : S256x128.Idx) : gateU g e y = dother (g y) (e y) := by
  unfold dother
  rw [← sigma_apply g y]
  unfold gateU
  pointwise

/-- The entries of a column by the rows' numbers. -/
def entry (a : FVec Ideal S256x128 .f32) (b : Fin 128) (k : ℕ) : EReal := if h : k < 256 then a (ix2 ⟨k, h⟩ b) else 0

theorem fold_apply (a : FVec Ideal S256x128 .f32) (x : Fin 8) (b : Fin 128) : ∀ (n : ℕ) (h : n < 32), fold a n h (ix2 x b) = ∑ r ∈ Finset.range (n + 1), entry a b (8 * r + x.val)
  | 0, h => by
    rw [Finset.sum_range_one, entry, dif_pos (by omega)]
    refine congrArg a (funext fun q => Fin.ext ?_)
    match q with
    | 0 => show 0 + x.val = 8 * 0 + x.val; omega
    | 1 => show 0 + b.val = b.val; omega
  | n + 1, h => by
    rw [Finset.sum_range_succ, ← fold_apply a x b n (by omega), entry, dif_pos (by omega)]
    refine congrArg (fold a n (by omega) (ix2 x b) + ·) (congrArg a (funext fun q => Fin.ext ?_))
    match q with
    | 0 => rfl
    | 1 => show 0 + b.val = b.val; omega

theorem addRow_apply (x : Vec Ideal S1x128 .f32) (A B : FVec Ideal S256x128 .f32) (b : Fin 128) :
    addRow x A B (ix2 0 b) = x (ix2 0 b) + ((∑ a : Fin 256, A (ix2 a b)) + ∑ a : Fin 256, B (ix2 a b)) := by
  have e : ∀ C : FVec Ideal S256x128 .f32, (∑ a : Fin 256, C (ix2 a b)) = ∑ x : Fin 8, fold C 31 (by decide) (ix2 x b) := fun C => by
    simp only [fold_apply]
    rw [sum_eights]
    exact Finset.sum_congr rfl fun k _ => by rw [entry, dif_pos k.isLt]
  rw [e, e, ← Finset.sum_add_distrib]
  unfold addRow
  pointwise

/-- An index of a rectangle of 128 lanes. -/
theorem emb_at {R n : ℕ} (r o : ℕ) (hr : r + n ≤ R) (h : o + 128 ≤ 1408) (a : Fin n) (b : Fin 128) :
    (Rect.unit (s := ⟨2, ![R, 1408]⟩) ![r, o] ![n, 128] (fit hr h)).emb (ix2 a b) = ix2 ⟨r + a.val, by omega⟩ ⟨o + b.val, by omega⟩ := by
  funext q
  apply Fin.ext
  rw [Rect.emb_apply]
  match q with
  | 0 => show r + 1 * a.val = r + a.val; omega
  | 1 => show o + 1 * b.val = o + b.val; omega

theorem emb_zero {R n : ℕ} (o : ℕ) (hr : 0 + n ≤ R) (h : o + 128 ≤ 1408) (a : Fin n) (b : Fin 128) :
    (Rect.unit (s := ⟨2, ![R, 1408]⟩) ![0, o] ![n, 128] (fit hr h)).emb (ix2 a b) = ix2 ⟨a.val, by omega⟩ ⟨o + b.val, by omega⟩ :=
  (emb_at 0 o hr h a b).trans (congrArg (fun z => ix2 z _) (Fin.ext (Nat.zero_add _)))

theorem cols_all {S : Shape} {e : EltTy} {f : (o : ℕ) → o + 128 ≤ 1408 → List (View.Piece (Elt Ideal) S e)} {P : View.Piece (Elt Ideal) S e → Prop} (hf : ∀ o h, ∀ p ∈ f o h, P p) :
    ∀ n hn, ∀ p ∈ cols f n hn, P p
  | 0, _, _, hp => absurd hp List.not_mem_nil
  | n + 1, _, p, hp => (List.mem_append.mp hp).elim (hf _ _ p) (cols_all hf n _ p)

theorem cols_mem {S : Shape} {e : EltTy} {f : (o : ℕ) → o + 128 ≤ 1408 → List (View.Piece (Elt Ideal) S e)} {k : ℕ} (hk : k < 11) {p : View.Piece (Elt Ideal) S e} (hp : p ∈ f (128 * k) (by omega)) :
    ∀ n hn, k < n → p ∈ cols f n hn
  | 0, _, h => absurd h (Nat.not_lt_zero k)
  | n + 1, hn, h => List.mem_append.mpr ((Nat.lt_succ_iff_lt_or_eq.mp h).elim (fun h => .inr (cols_mem hk hp n _ h)) (fun h => by subst h; exact .inl hp))

/-- A column of the block by its lanes' number and its lane. -/
theorem col_split (j : Fin 1408) : ∃ (k : ℕ) (b : Fin 128) (h : k < 11), j = ⟨128 * k + b.val, by omega⟩ :=
  ⟨j.val / 128, ⟨j.val % 128, Nat.mod_lt _ (by decide)⟩, by omega, Fin.ext (by show j.val = 128 * (j.val / 128) + j.val % 128; omega)⟩

theorem emb_mem {s : Shape} (r : Rect s) (x : r.shape.Idx) : r.emb x ∈ r.set := by
  rw [← Rect.map_emb_univ]
  exact Finset.mem_map_of_mem _ (Finset.mem_univ x)

/-- The stores of a block's two halves. -/
def pair (T B : (o : ℕ) → o + 128 ≤ 1408 → FVec Ideal S256x128 .bf16) (o : ℕ) (h : o + 128 ≤ 1408) : List (View.Piece (Elt Ideal) S512x1408 .bf16) :=
  [⟨Rect.unit (s := S512x1408) ![256, o] ![256, 128] (fit (by decide) h), B o h⟩, ⟨Rect.unit (s := S512x1408) ![0, o] ![256, 128] (fit (by decide) h), T o h⟩]

/-- What the stores of the two halves leave. -/
theorem canon_pair (T B : (o : ℕ) → o + 128 ≤ 1408 → FVec Ideal S256x128 .bf16) (G : Vec Ideal S512x1408 .bf16)
    (hT : ∀ o h (a : Fin 256) (b : Fin 128), T o h (ix2 a b) = G (ix2 ⟨a.val, by omega⟩ ⟨o + b.val, by omega⟩))
    (hB : ∀ o h (a : Fin 256) (b : Fin 128), B o h (ix2 a b) = G (ix2 ⟨256 + a.val, by omega⟩ ⟨o + b.val, by omega⟩)) :
    View.canon (cols (pair T B) 11 (by decide)) = G := by
  funext y
  refine View.canon_apply_of_pieces G _ (cols_all (fun o h p hp => ?_) 11 _) y ?_
  · unfold pair at hp
    simp only [List.mem_cons, List.not_mem_nil, or_false] at hp
    rcases hp with rfl | rfl
    · intro x
      obtain ⟨a, b, rfl⟩ : ∃ (a : Fin 256) (b : Fin 128), x = ix2 a b := ⟨x 0, x 1, eq_ix2 x⟩
      exact (hB o h a b).trans (congrArg G (emb_at 256 o (by decide) h a b)).symm
    · intro x
      obtain ⟨a, b, rfl⟩ : ∃ (a : Fin 256) (b : Fin 128), x = ix2 a b := ⟨x 0, x 1, eq_ix2 x⟩
      exact (hT o h a b).trans (congrArg G (emb_zero o (by decide) h a b)).symm
  · obtain ⟨a, j, rfl⟩ : ∃ (a : Fin 512) (j : Fin 1408), y = ix2 a j := ⟨y 0, y 1, eq_ix2 y⟩
    obtain ⟨k, b, hk, rfl⟩ := col_split j
    by_cases ha : a.val < 256
    · refine ⟨⟨Rect.unit (s := S512x1408) ![0, 128 * k] ![256, 128] (fit (by decide) (by omega)), T (128 * k) (by omega)⟩, cols_mem hk (.tail _ (.head _)) 11 _ hk, ?_⟩
      exact (emb_zero (R := 512) (n := 256) (128 * k) (by decide) (by omega) ⟨a.val, ha⟩ b) ▸ emb_mem (Rect.unit (s := S512x1408) ![0, 128 * k] ![256, 128] (fit (by decide) (by omega))) (ix2 ⟨a.val, ha⟩ b)
    · refine ⟨⟨Rect.unit (s := S512x1408) ![256, 128 * k] ![256, 128] (fit (by decide) (by omega)), B (128 * k) (by omega)⟩, cols_mem hk (.head _) 11 _ hk, ?_⟩
      have e := (emb_at (R := 512) (n := 256) 256 (128 * k) (by decide) (by omega) ⟨a.val - 256, by omega⟩ b).trans
        (congrArg (fun z : Fin 512 => ix2 z (⟨128 * k + b.val, by omega⟩ : Fin 1408)) (Fin.ext (show 256 + (a.val - 256) = a.val by omega) : _ = a))
      exact e ▸ emb_mem (Rect.unit (s := S512x1408) ![256, 128 * k] ![256, 128] (fit (by decide) (by omega))) (ix2 ⟨a.val - 256, by omega⟩ b)

/-- The stores of the weights' three rows. -/
def three (R : Fin 3 → (o : ℕ) → o + 128 ≤ 1408 → FVec Ideal S1x128 .f32) (o : ℕ) (h : o + 128 ≤ 1408) : List (View.Piece (Elt Ideal) S3x1408 .f32) :=
  [⟨Rect.unit (s := S3x1408) ![2, o] ![1, 128] (fit (by decide) h), R 2 o h⟩, ⟨Rect.unit (s := S3x1408) ![1, o] ![1, 128] (fit (by decide) h), R 1 o h⟩,
    ⟨Rect.unit (s := S3x1408) ![0, o] ![1, 128] (fit (by decide) h), R 0 o h⟩]

/-- What the stores of the three rows leave, whatever was stored before. -/
theorem canon_three (R : Fin 3 → (o : ℕ) → o + 128 ≤ 1408 → FVec Ideal S1x128 .f32) (G : Vec Ideal S3x1408 .f32) (L : List (View.Piece (Elt Ideal) S3x1408 .f32))
    (hR : ∀ k o h (b : Fin 128), R k o h (ix2 0 b) = G (ix2 k ⟨o + b.val, by omega⟩)) :
    View.canon (cols (three R) 11 (by decide) ++ L) = G := by
  funext y
  have at_row : ∀ (k : Fin 3) (o : ℕ) (h : o + 128 ≤ 1408) (b : Fin 128) (hk : k.val + 1 ≤ 3), (Rect.unit (s := S3x1408) ![k.val, o] ![1, 128] (fit hk h)).emb (ix2 0 b) = ix2 k ⟨o + b.val, by omega⟩ :=
    fun k o h b hk => emb_at (R := 3) (n := 1) k.val o hk h 0 b
  have row : ∀ (k : Fin 3) (o : ℕ) (h : o + 128 ≤ 1408) (hk : k.val + 1 ≤ 3) (x : S1x128.Idx), R k o h x = G ((Rect.unit (s := S3x1408) ![k.val, o] ![1, 128] (fit hk h)).emb x) := fun k o h hk x => by
    obtain ⟨b, rfl⟩ : ∃ b : Fin 128, x = ix2 0 b := ⟨x 1, (eq_ix2 x).trans (congrArg (fun z => ix2 z (x 1)) (Subsingleton.elim _ _))⟩
    exact (hR k o h b).trans (congrArg G (at_row k o h b hk)).symm
  refine View.canon_append_of_pieces G L _ (cols_all (fun o h p hp => ?_) 11 _) y ?_
  · unfold three at hp
    simp only [List.mem_cons, List.not_mem_nil, or_false] at hp
    rcases hp with rfl | rfl | rfl
    · exact row 2 o h (by decide)
    · exact row 1 o h (by decide)
    · exact row 0 o h (by decide)
  · obtain ⟨a, j, rfl⟩ : ∃ (a : Fin 3) (j : Fin 1408), y = ix2 a j := ⟨y 0, y 1, eq_ix2 y⟩
    obtain ⟨k, b, hk, rfl⟩ := col_split j
    have hm : ∀ (r : Fin 3) (hr : r.val + 1 ≤ 3), (ix2 r ⟨128 * k + b.val, by omega⟩ : S3x1408.Idx) ∈ (Rect.unit (s := S3x1408) ![r.val, 128 * k] ![1, 128] (fit hr (by omega))).set := fun r hr =>
      at_row r (128 * k) (by omega) b hr ▸ emb_mem (Rect.unit (s := S3x1408) ![r.val, 128 * k] ![1, 128] (fit hr (by omega))) (ix2 0 b)
    match a with
    | 0 => exact ⟨⟨Rect.unit (s := S3x1408) ![0, 128 * k] ![1, 128] (fit (by decide) (by omega)), R 0 (128 * k) (by omega)⟩, cols_mem hk (.tail _ (.tail _ (.head _))) 11 _ hk, hm 0 (by decide)⟩
    | 1 => exact ⟨⟨Rect.unit (s := S3x1408) ![1, 128 * k] ![1, 128] (fit (by decide) (by omega)), R 1 (128 * k) (by omega)⟩, cols_mem hk (.tail _ (.head _)) 11 _ hk, hm 1 (by decide)⟩
    | 2 => exact ⟨⟨Rect.unit (s := S3x1408) ![2, 128 * k] ![1, 128] (fit (by decide) (by omega)), R 2 (128 * k) (by omega)⟩, cols_mem hk (.head _) 11 _ hk, hm 2 (by decide)⟩

section Block

variable (i : grid0.Coords) (x0 x1 : Vec Ideal S512x1408 .bf16) (x2 : Vec Ideal S16x1408 .bf16) (x3 : Vec Ideal S512x1408 .bf16) (x4 : Vec Ideal S16x1408 .bf16) (x5 x6 : Vec Ideal S3x1408 .f32)

theorem top_apply (x : Vec Ideal S512x1408 .bf16) (o : ℕ) (h : o + 128 ≤ 1408) (a : Fin 256) (b : Fin 128) : take (top x o h) (ix2 a b) = x (ix2 ⟨a.val, by omega⟩ ⟨o + b.val, by omega⟩) :=
  (take_apply _ _).trans (congrArg x (emb_zero o (by decide) h a b))

theorem bot_apply (x : Vec Ideal S512x1408 .bf16) (o : ℕ) (h : o + 128 ≤ 1408) (a : Fin 256) (b : Fin 128) : take (bot x o h) (ix2 a b) = x (ix2 ⟨256 + a.val, by omega⟩ ⟨o + b.val, by omega⟩) :=
  (take_apply _ _).trans (congrArg x (emb_at 256 o (by decide) h a b))

theorem preTop_apply (p : Vec Ideal S16x1408 .bf16) (o : ℕ) (h : o + 128 ≤ 1408) (a : Fin 16) (b : Fin 128) : preTop i p o h (ix2 a b) = mask (i 1).val (p (ix2 a ⟨o + b.val, by omega⟩)) :=
  (before_apply _ _ _).trans (congrArg (fun z => mask (i 1).val (p z)) (emb_zero o (by decide) h a b))

theorem preBot_apply (x : Vec Ideal S512x1408 .bf16) (o : ℕ) (h : o + 128 ≤ 1408) (a : Fin 16) (b : Fin 128) : preBot x o h (ix2 a b) = x (ix2 ⟨240 + a.val, by omega⟩ ⟨o + b.val, by omega⟩) :=
  (take16_apply _ _).trans (congrArg x (emb_at 240 o (by decide) h a b))

theorem lanes_apply (w : Vec Ideal S3x1408 .f32) (o : ℕ) (h : o + 128 ≤ 1408) (a : Fin 3) (b : Fin 128) : lanes w o h (ix2 a b) = w (ix2 a ⟨o + b.val, by omega⟩) :=
  congrArg w (emb_zero o (by decide) h a b)

/-- A part's convolution at row `a` and column `j` of a block: `x` its rows, `p` the rows before, `w` the weights. -/
def part (n : ℕ) (x : Vec Ideal S512x1408 .bf16) (p : Vec Ideal S16x1408 .bf16) (w : Vec Ideal S3x1408 .f32) (j : Fin 1408) (a : Fin 512) : EReal :=
  conv3 (fun k => w (ix2 k j)) (fun k => x (ix2 k j)) (fun k => mask n (p (ix2 k j))) a

theorem part_top (x : Vec Ideal S512x1408 .bf16) (p : Vec Ideal S16x1408 .bf16) (w : Vec Ideal S3x1408 .f32) (o : ℕ) (h : o + 128 ≤ 1408) (a : Fin 256) (b : Fin 128) :
    conv (take (top x o h)) (preTop i p o h) (lanes w o h) (ix2 a b) = part (i 1).val x p w ⟨o + b.val, by omega⟩ ⟨a.val, by omega⟩ := by
  rw [conv_apply, funext fun k => top_apply x o h k b, funext fun k => preTop_apply i p o h k b, funext fun k => lanes_apply w o h k b]
  rfl

theorem part_bot (n : ℕ) (x : Vec Ideal S512x1408 .bf16) (p : Vec Ideal S16x1408 .bf16) (w : Vec Ideal S3x1408 .f32) (o : ℕ) (h : o + 128 ≤ 1408) (a : Fin 256) (b : Fin 128) :
    conv (take (bot x o h)) (preBot x o h) (lanes w o h) (ix2 a b) = part n x p w ⟨o + b.val, by omega⟩ ⟨256 + a.val, by omega⟩ := by
  rw [conv_apply, funext fun k => bot_apply x o h k b, funext fun k => preBot_apply x o h k b, funext fun k => lanes_apply w o h k b]
  exact conv3_bot (fun k => w (ix2 k ⟨o + b.val, by omega⟩)) (fun k => x (ix2 k ⟨o + b.val, by omega⟩)) (fun k => mask n (p (ix2 k ⟨o + b.val, by omega⟩))) a

/-- The two parts' gradients at a block's row and column. -/
def rowG (n : ℕ) (j : Fin 1408) (a : Fin 512) : EReal := dgate (part n x1 x2 x5 j a) (part n x3 x4 x6 j a) (x0 (ix2 a j))
def rowU (n : ℕ) (j : Fin 1408) (a : Fin 512) : EReal := dother (part n x1 x2 x5 j a) (x0 (ix2 a j))

theorem dgTop_apply (o : ℕ) (h : o + 128 ≤ 1408) (a : Fin 256) (b : Fin 128) : dgTop i x0 x1 x2 x3 x4 x5 x6 o h (ix2 a b) = rowG x0 x1 x2 x3 x4 x5 x6 (i 1).val ⟨o + b.val, by omega⟩ ⟨a.val, by omega⟩ := by
  unfold dgTop gTop uTop
  rw [gateG_apply, part_top, part_top, top_apply]
  rfl

theorem dgBot_apply (o : ℕ) (h : o + 128 ≤ 1408) (a : Fin 256) (b : Fin 128) : dgBot x0 x1 x3 x5 x6 o h (ix2 a b) = rowG x0 x1 x2 x3 x4 x5 x6 (i 1).val ⟨o + b.val, by omega⟩ ⟨256 + a.val, by omega⟩ := by
  unfold dgBot gBot uBot
  rw [gateG_apply, part_bot (i 1).val x1 x2, part_bot (i 1).val x3 x4, bot_apply]
  rfl

theorem duTop_apply (o : ℕ) (h : o + 128 ≤ 1408) (a : Fin 256) (b : Fin 128) : duTop i x0 x1 x2 x5 o h (ix2 a b) = rowU x0 x1 x2 x5 (i 1).val ⟨o + b.val, by omega⟩ ⟨a.val, by omega⟩ := by
  unfold duTop gTop
  rw [gateU_apply, part_top, top_apply]
  rfl

theorem duBot_apply (o : ℕ) (h : o + 128 ≤ 1408) (a : Fin 256) (b : Fin 128) : duBot x0 x1 x5 o h (ix2 a b) = rowU x0 x1 x2 x5 (i 1).val ⟨o + b.val, by omega⟩ ⟨256 + a.val, by omega⟩ := by
  unfold duBot gBot
  rw [gateU_apply, part_bot (i 1).val x1 x2, bot_apply]
  rfl

theorem trunc_apply (v : FVec Ideal S256x128 .f32) (y : S256x128.Idx) : truncf .bf16 v bitsLt_bf16_f32 y = v y := by
  pointwise

/-- A block of each part's gradient. -/
def wholeG : Vec Ideal S512x1408 .bf16 := fun y => rowG x0 x1 x2 x3 x4 x5 x6 (i 1).val (y 1 : Fin 1408) (y 0 : Fin 512)
def wholeU : Vec Ideal S512x1408 .bf16 := fun y => rowU x0 x1 x2 x5 (i 1).val (y 1 : Fin 1408) (y 0 : Fin 512)

theorem canon_G : View.canon (cols (storeG i x0 x1 x2 x3 x4 x5 x6) 11 (by decide)) = wholeG i x0 x1 x2 x3 x4 x5 x6 :=
  canon_pair (fun o h => truncf .bf16 (dgTop i x0 x1 x2 x3 x4 x5 x6 o h) bitsLt_bf16_f32) (fun o h => truncf .bf16 (dgBot x0 x1 x3 x5 x6 o h) bitsLt_bf16_f32) _
    (fun o h a b => (trunc_apply _ _).trans (dgTop_apply i x0 x1 x2 x3 x4 x5 x6 o h a b)) (fun o h a b => (trunc_apply _ _).trans (dgBot_apply i x0 x1 x2 x3 x4 x5 x6 o h a b))

theorem canon_U : View.canon (cols (storeU i x0 x1 x2 x5) 11 (by decide)) = wholeU i x0 x1 x2 x5 :=
  canon_pair (fun o h => truncf .bf16 (duTop i x0 x1 x2 x5 o h) bitsLt_bf16_f32) (fun o h => truncf .bf16 (duBot x0 x1 x5 o h) bitsLt_bf16_f32) _
    (fun o h a b => (trunc_apply _ _).trans (duTop_apply i x0 x1 x2 x5 o h a b)) (fun o h a b => (trunc_apply _ _).trans (duBot_apply i x0 x1 x2 x5 o h a b))

/-- The rows weight `k` multiplies. -/
def tap (k : Fin 3) (c : FVec Ideal S256x128 .f32) (p : FVec Ideal S16x128 .f32) : FVec Ideal S256x128 .f32 :=
  match k with
  | 0 => down2 c p
  | 1 => down1 c p
  | 2 => c

theorem tap_apply (k : Fin 3) (c : FVec Ideal S256x128 .f32) (p : FVec Ideal S16x128 .f32) (a : Fin 256) (b : Fin 128) :
    tap k c p (ix2 a b) = above (2 - k.val) (fun k => c (ix2 k b)) (fun k => p (ix2 k b)) a :=
  match k with
  | 0 => down2_apply c p a b
  | 1 => down1_apply c p a b
  | 2 => (above_zero (fun k => c (ix2 k b)) (fun k => p (ix2 k b)) a).symm

/-- The weights' gradient after a block whose rows' gradients are `d`: `xo` what it was before. -/
def wholeW (n : ℕ) (xo : Vec Ideal S3x1408 .f32) (d : Fin 1408 → Fin 512 → EReal) (x : Vec Ideal S512x1408 .bf16) (p : Vec Ideal S16x1408 .bf16) : Vec Ideal S3x1408 .f32 := fun y =>
  xo y + ∑ a : Fin 512, d (y 1 : Fin 1408) a * above (2 - (y 0 : Fin 3).val) (fun k => x (ix2 k (y 1 : Fin 1408))) (fun k => mask n (p (ix2 k (y 1 : Fin 1408)))) a

theorem canon_W (xo : Vec Ideal S3x1408 .f32) (dT dB : (o : ℕ) → o + 128 ≤ 1408 → FVec Ideal S256x128 .f32) (x : Vec Ideal S512x1408 .bf16) (p : Vec Ideal S16x1408 .bf16) (d : Fin 1408 → Fin 512 → EReal)
    (hT : ∀ o h (a : Fin 256) (b : Fin 128), dT o h (ix2 a b) = d ⟨o + b.val, by omega⟩ ⟨a.val, by omega⟩)
    (hB : ∀ o h (a : Fin 256) (b : Fin 128), dB o h (ix2 a b) = d ⟨o + b.val, by omega⟩ ⟨256 + a.val, by omega⟩) (L : List (View.Piece (Elt Ideal) S3x1408 .f32)) :
    View.canon (cols (fun o h => storeW xo (dT o h) (dB o h) (take (top x o h)) (take (bot x o h)) (preTop i p o h) (preBot x o h) o h) 11 (by decide) ++ L) = wholeW (i 1).val xo d x p := by
  refine canon_three (fun k o h => addRow (View.ld xo (Rect.unit (s := S3x1408) ![k.val, o] ![1, 128] (fit (by omega) h)))
    (mulf (dT o h) (tap k (take (top x o h)) (preTop i p o h))) (mulf (dB o h) (tap k (take (bot x o h)) (preBot x o h)))) _ L fun k o h b => ?_
  have mul : ∀ (u v : FVec Ideal S256x128 .f32) (y : S256x128.Idx), mulf u v y = u y * v y := fun u v y => by pointwise
  obtain ⟨f, hf⟩ : ∃ f : Fin 512 → EReal, ∀ a, f a = d ⟨o + b.val, by omega⟩ a * above (2 - k.val) (fun k => x (ix2 k ⟨o + b.val, by omega⟩)) (fun k => mask (i 1).val (p (ix2 k ⟨o + b.val, by omega⟩))) a := ⟨_, fun _ => rfl⟩
  have e1 : ∀ a : Fin 256, mulf (dT o h) (tap k (take (top x o h)) (preTop i p o h)) (ix2 a b) = f ⟨a.val, by omega⟩ := fun a => by
    rw [mul, hT, tap_apply, funext fun k => top_apply x o h k b, funext fun k => preTop_apply i p o h k b, hf]
    rfl
  have e2 : ∀ a : Fin 256, mulf (dB o h) (tap k (take (bot x o h)) (preBot x o h)) (ix2 a b) = f ⟨256 + a.val, by omega⟩ := fun a => by
    rw [mul, hB, tap_apply, funext fun k => bot_apply x o h k b, funext fun k => preBot_apply x o h k b, hf]
    exact congrArg (d _ _ * ·) (above_bot (by omega) (fun k => x (ix2 k ⟨o + b.val, by omega⟩)) (fun k => mask (i 1).val (p (ix2 k ⟨o + b.val, by omega⟩))) a)
  rw [addRow_apply, Finset.sum_congr rfl fun a _ => e1 a, Finset.sum_congr rfl fun a _ => e2 a, sum_halves, Finset.sum_congr rfl fun a _ => hf a]
  exact congrArg (· + _) (congrArg xo (emb_at (R := 3) (n := 1) k.val o (by omega) h 0 b))

theorem canon_WG (xo : Vec Ideal S3x1408 .f32) (L : List (View.Piece (Elt Ideal) S3x1408 .f32)) :
    View.canon (cols (storeWG i x0 x1 x2 x3 x4 x5 x6 xo) 11 (by decide) ++ L) = wholeW (i 1).val xo (rowG x0 x1 x2 x3 x4 x5 x6 (i 1).val) x1 x2 :=
  canon_W i xo (dgTop i x0 x1 x2 x3 x4 x5 x6) (dgBot x0 x1 x3 x5 x6) x1 x2 _ (dgTop_apply i x0 x1 x2 x3 x4 x5 x6) (dgBot_apply i x0 x1 x2 x3 x4 x5 x6) L

theorem canon_WU (xo : Vec Ideal S3x1408 .f32) (L : List (View.Piece (Elt Ideal) S3x1408 .f32)) :
    View.canon (cols (storeWU i x0 x1 x2 x3 x4 x5 xo) 11 (by decide) ++ L) = wholeW (i 1).val xo (rowU x0 x1 x2 x5 (i 1).val) x3 x4 :=
  canon_W i xo (duTop i x0 x1 x2 x5) (duBot x0 x1 x5) x3 x4 _ (duTop_apply i x0 x1 x2 x5) (duBot_apply i x0 x1 x2 x5) L

end Block

variable (m : (ℓ : Loc nD τ sig) → Buf (Elt Ideal) ℓ)

theorem coord : ∀ t : Fin cfg0.N, ((grid0.coords t) 1).val = t.val % 8 := by decide +kernel

theorem idx0 : ∀ t : Fin cfg0.N, win0_0.index t = ![t.val % 8, t.val / 8] := by decide +kernel

theorem blk0 (c : Dev nD) (t : Fin cfg0.N) (a : Fin 512) (b : Fin 1408) :
    iblk m c 0 t (ix2 a b) = m ((c.tc : Thread nD τ).loc main_arg0) (ix2 ⟨512 * (t.val % 8) + a.val, by omega⟩ ⟨1408 * (t.val / 8) + b.val, by have hN : t.val < 16 := lt_of_lt_of_eq t.isLt N_0; omega⟩) := by
  blk_simp [iblk]
  entry_read
  blk_ext [idx0 t]

theorem idx1 : ∀ t : Fin cfg0.N, win0_1.index t = ![t.val % 8, t.val / 8] := by decide +kernel

theorem blk1 (c : Dev nD) (t : Fin cfg0.N) (a : Fin 512) (b : Fin 1408) :
    iblk m c 1 t (ix2 a b) = m ((c.tc : Thread nD τ).loc main_arg1) (ix2 ⟨512 * (t.val % 8) + a.val, by omega⟩ ⟨1408 * (t.val / 8) + b.val, by have hN : t.val < 16 := lt_of_lt_of_eq t.isLt N_0; omega⟩) := by
  blk_simp [iblk]
  entry_read
  blk_ext [idx1 t]

theorem idx2 : ∀ t : Fin cfg0.N, win0_2.index t = ![t.val % 8 * 32 - 1, t.val / 8] := by decide +kernel

theorem blk2 (c : Dev nD) (t : Fin cfg0.N) (a : Fin 16) (b : Fin 1408) (h : 16 ≤ 512 * (t.val % 8)) :
    iblk m c 2 t (ix2 a b) = m ((c.tc : Thread nD τ).loc main_arg1) (ix2 ⟨512 * (t.val % 8) - 16 + a.val, by omega⟩ ⟨1408 * (t.val / 8) + b.val, by have hN : t.val < 16 := lt_of_lt_of_eq t.isLt N_0; omega⟩) := by
  have e : 512 * (t.val % 8) - 16 = 16 * (t.val % 8 * 32 - 1) := by omega
  simp only [e]
  blk_simp [iblk]
  entry_read
  blk_ext [idx2 t]

theorem idx3 : ∀ t : Fin cfg0.N, win0_3.index t = ![t.val % 8, t.val / 8 + 2] := by decide +kernel

theorem blk3 (c : Dev nD) (t : Fin cfg0.N) (a : Fin 512) (b : Fin 1408) :
    iblk m c 3 t (ix2 a b) = m ((c.tc : Thread nD τ).loc main_arg1) (ix2 ⟨512 * (t.val % 8) + a.val, by omega⟩ ⟨1408 * (t.val / 8 + 2) + b.val, by have hN : t.val < 16 := lt_of_lt_of_eq t.isLt N_0; omega⟩) := by
  blk_simp [iblk]
  entry_read
  blk_ext [idx3 t]

theorem idx4 : ∀ t : Fin cfg0.N, win0_4.index t = ![t.val % 8 * 32 - 1, t.val / 8 + 2] := by decide +kernel

theorem blk4 (c : Dev nD) (t : Fin cfg0.N) (a : Fin 16) (b : Fin 1408) (h : 16 ≤ 512 * (t.val % 8)) :
    iblk m c 4 t (ix2 a b) = m ((c.tc : Thread nD τ).loc main_arg1) (ix2 ⟨512 * (t.val % 8) - 16 + a.val, by omega⟩ ⟨1408 * (t.val / 8 + 2) + b.val, by have hN : t.val < 16 := lt_of_lt_of_eq t.isLt N_0; omega⟩) := by
  have e : 512 * (t.val % 8) - 16 = 16 * (t.val % 8 * 32 - 1) := by omega
  simp only [e]
  blk_simp [iblk]
  entry_read
  blk_ext [idx4 t]

theorem idx5 : ∀ t : Fin cfg0.N, win0_5.index t = ![0, t.val / 8] := by decide +kernel

theorem blk5 (c : Dev nD) (t : Fin cfg0.N) (a : Fin 3) (b : Fin 1408) :
    iblk m c 5 t (ix2 a b) = m ((c.tc : Thread nD τ).loc main_arg2) (ix2 a ⟨1408 * (t.val / 8) + b.val, by have hN : t.val < 16 := lt_of_lt_of_eq t.isLt N_0; omega⟩) := by
  blk_simp [iblk]
  entry_read
  blk_ext [idx5 t]

theorem idx6 : ∀ t : Fin cfg0.N, win0_6.index t = ![0, t.val / 8 + 2] := by decide +kernel

theorem blk6 (c : Dev nD) (t : Fin cfg0.N) (a : Fin 3) (b : Fin 1408) :
    iblk m c 6 t (ix2 a b) = m ((c.tc : Thread nD τ).loc main_arg2) (ix2 a ⟨1408 * (t.val / 8 + 2) + b.val, by have hN : t.val < 16 := lt_of_lt_of_eq t.isLt N_0; omega⟩) := by
  blk_simp [iblk]
  entry_read
  blk_ext [idx6 t]

theorem idx7 : ∀ t : Fin cfg0.N, win0_7.index t = ![t.val % 8, t.val / 8] := by decide +kernel

theorem emb7 (t : Fin cfg0.N) (a : Fin 512) (b : Fin 1408) : (win0_7.blk t).view.emb (ix2 a b) = ix2 ⟨512 * (t.val % 8) + a.val, by omega⟩ ⟨1408 * (t.val / 8) + b.val, by have hN : t.val < 16 := lt_of_lt_of_eq t.isLt N_0; omega⟩ := by
  blk_ext [idx7 t]

theorem idx8 : ∀ t : Fin cfg0.N, win0_8.index t = ![t.val % 8, t.val / 8] := by decide +kernel

theorem emb8 (t : Fin cfg0.N) (a : Fin 512) (b : Fin 1408) : (win0_8.blk t).view.emb (ix2 a b) = ix2 ⟨512 * (t.val % 8) + a.val, by omega⟩ ⟨1408 * (t.val / 8) + b.val, by have hN : t.val < 16 := lt_of_lt_of_eq t.isLt N_0; omega⟩ := by
  blk_ext [idx8 t]

theorem idx9 : ∀ t : Fin cfg0.N, win0_9.index t = ![0, t.val / 8] := by decide +kernel

theorem emb9 (t : Fin cfg0.N) (a : Fin 3) (b : Fin 1408) : (win0_9.blk t).view.emb (ix2 a b) = ix2 a ⟨1408 * (t.val / 8) + b.val, by have hN : t.val < 16 := lt_of_lt_of_eq t.isLt N_0; omega⟩ := by
  blk_ext [idx9 t]

theorem idx10 : ∀ t : Fin cfg0.N, win0_10.index t = ![0, t.val / 8] := by decide +kernel

theorem emb10 (t : Fin cfg0.N) (a : Fin 3) (b : Fin 1408) : (win0_10.blk t).view.emb (ix2 a b) = ix2 a ⟨1408 * (t.val / 8) + b.val, by have hN : t.val < 16 := lt_of_lt_of_eq t.isLt N_0; omega⟩ := by
  blk_ext [idx10 t]

section Result

variable (D : (⟨2, ![4096, 2816]⟩ : Shape).Idx → EReal) (A : (⟨2, ![4096, 5632]⟩ : Shape).Idx → EReal) (W : (⟨2, ![3, 5632]⟩ : Shape).Idx → EReal)

/-- The gated part's gradient: `D` the result's, `A` the two parts' rows, `W` the weights. -/
def dG (n : Fin 4096) (b : Fin 2816) : EReal := dgate (cconv3 A W n.val (lo b)) (cconv3 A W n.val (hi b)) (D (ix2 n b))

/-- The other part's gradient. -/
def dU (n : Fin 4096) (b : Fin 2816) : EReal := dother (cconv3 A W n.val (lo b)) (D (ix2 n b))

/-- The weights' gradient over the columns `s` from the rows' `d`. -/
def dW (d : Fin 4096 → Fin 2816 → EReal) (s : Fin 2816 → Fin 5632) (k : Fin 3) (b : Fin 2816) : EReal := ∑ n : Fin 4096, d n b * back A (2 - k.val) n.val (s b).val

/-- A row's term of it, by its number. -/
def term (d : Fin 4096 → Fin 2816 → EReal) (s : Fin 2816 → Fin 5632) (k : Fin 3) (b n : ℕ) : EReal :=
  if h : n < 4096 ∧ b < 2816 then d ⟨n, h.1⟩ ⟨b, h.2⟩ * back A (2 - k.val) n (s ⟨b, h.2⟩).val else 0

theorem dW_apply (d : Fin 4096 → Fin 2816 → EReal) (s : Fin 2816 → Fin 5632) (k : Fin 3) (b : Fin 2816) : dW A d s k b = psum (term A d s k b.val) 4096 := by
  rw [psum_fin]
  exact Finset.sum_congr rfl fun n _ => by rw [term, dif_pos ⟨n.isLt, b.isLt⟩]

end Result

theorem hi_col {j b : ℕ} (h : 1408 * j + b < 2816) (h' : 1408 * (j + 2) + b < 5632) : (⟨1408 * (j + 2) + b, h'⟩ : Fin 5632) = hi ⟨1408 * j + b, h⟩ :=
  Fin.ext (by show 1408 * (j + 2) + b = 2816 + (1408 * j + b); omega)

theorem part_lo (c : Dev nD) (t : Fin cfg0.N) (a : Fin 512) (b : Fin 1408) (h : 1408 * (t.val / 8) + b.val < 2816) :
    part (t.val % 8) (iblk m c 1 t) (iblk m c 2 t) (iblk m c 5 t) b a = cconv3 (m ((c.tc : Thread nD τ).loc main_arg1)) (m ((c.tc : Thread nD τ).loc main_arg2)) (512 * (t.val % 8) + a.val) (lo ⟨1408 * (t.val / 8) + b.val, h⟩) :=
  conv3_rows (m ((c.tc : Thread nD τ).loc main_arg1)) (m ((c.tc : Thread nD τ).loc main_arg2)) (j := 1408 * (t.val / 8) + b.val) (by omega) (by omega) (by omega) (fun k => blk1 m c t k b) (fun k h => blk2 m c t k b h) (fun k => blk5 m c t k b) a

theorem part_hi (c : Dev nD) (t : Fin cfg0.N) (a : Fin 512) (b : Fin 1408) (h : 1408 * (t.val / 8) + b.val < 2816) :
    part (t.val % 8) (iblk m c 3 t) (iblk m c 4 t) (iblk m c 6 t) b a = cconv3 (m ((c.tc : Thread nD τ).loc main_arg1)) (m ((c.tc : Thread nD τ).loc main_arg2)) (512 * (t.val % 8) + a.val) (hi ⟨1408 * (t.val / 8) + b.val, h⟩) :=
  (conv3_rows (m ((c.tc : Thread nD τ).loc main_arg1)) (m ((c.tc : Thread nD τ).loc main_arg2)) (j := 1408 * (t.val / 8 + 2) + b.val) (by omega) (by omega) (by omega) (fun k => blk3 m c t k b) (fun k h => blk4 m c t k b h) (fun k => blk6 m c t k b) a).trans
    (congrArg (cconv3 _ _ _) (hi_col h (by omega)))

theorem rowG_at (c : Dev nD) (t : Fin cfg0.N) (a : Fin 512) (b : Fin 1408) (h : 1408 * (t.val / 8) + b.val < 2816) :
    rowG (iblk m c 0 t) (iblk m c 1 t) (iblk m c 2 t) (iblk m c 3 t) (iblk m c 4 t) (iblk m c 5 t) (iblk m c 6 t) (t.val % 8) b a = dG (m ((c.tc : Thread nD τ).loc main_arg0)) (m ((c.tc : Thread nD τ).loc main_arg1)) (m ((c.tc : Thread nD τ).loc main_arg2)) ⟨512 * (t.val % 8) + a.val, by omega⟩ ⟨1408 * (t.val / 8) + b.val, h⟩ := by
  unfold rowG dG
  rw [part_lo m c t a b h, part_hi m c t a b h, blk0 m c t a b]

theorem rowU_at (c : Dev nD) (t : Fin cfg0.N) (a : Fin 512) (b : Fin 1408) (h : 1408 * (t.val / 8) + b.val < 2816) :
    rowU (iblk m c 0 t) (iblk m c 1 t) (iblk m c 2 t) (iblk m c 5 t) (t.val % 8) b a = dU (m ((c.tc : Thread nD τ).loc main_arg0)) (m ((c.tc : Thread nD τ).loc main_arg1)) (m ((c.tc : Thread nD τ).loc main_arg2)) ⟨512 * (t.val % 8) + a.val, by omega⟩ ⟨1408 * (t.val / 8) + b.val, h⟩ := by
  unfold rowU dU
  rw [part_lo m c t a b h, blk0 m c t a b]

theorem outs_at (c : Dev nD) (t : Fin cfg0.N) : (outsAt0 m c t.val t.isLt).1 = wholeG (grid0.coords t) (iblk m c 0 t) (iblk m c 1 t) (iblk m c 2 t) (iblk m c 3 t) (iblk m c 4 t) (iblk m c 5 t) (iblk m c 6 t)
    ∧ (outsAt0 m c t.val t.isLt).2.1 = wholeU (grid0.coords t) (iblk m c 0 t) (iblk m c 1 t) (iblk m c 2 t) (iblk m c 5 t) := by
  by_cases h0 : t.val % 8 = 0
  · rw [outsAt0_A m c t h0]
    dsimp only
    rw [stores_A7, stores_A8]
    exact ⟨canon_G _ _ _ _ _ _ _ _, canon_U _ _ _ _ _⟩
  · rw [outsAt0_B m c t h0]
    dsimp only
    rw [stores_B7, stores_B8]
    exact ⟨canon_G _ _ _ _ _ _ _ _, canon_U _ _ _ _ _⟩

theorem block_lo (c : Dev nD) (t : Fin cfg0.N) (xo : Vec Ideal S3x1408 .f32) (k : Fin 3) (b : Fin 1408) :
    wholeW ((grid0.coords t) 1).val xo (rowG (iblk m c 0 t) (iblk m c 1 t) (iblk m c 2 t) (iblk m c 3 t) (iblk m c 4 t) (iblk m c 5 t) (iblk m c 6 t) ((grid0.coords t) 1).val) (iblk m c 1 t) (iblk m c 2 t) (ix2 k b)
      = xo (ix2 k b) + ∑ q : Fin 512, term (m ((c.tc : Thread nD τ).loc main_arg1)) (dG (m ((c.tc : Thread nD τ).loc main_arg0)) (m ((c.tc : Thread nD τ).loc main_arg1)) (m ((c.tc : Thread nD τ).loc main_arg2))) lo k (1408 * (t.val / 8) + b.val) (512 * (t.val % 8) + q.val) := by
  have hN : t.val < 16 := lt_of_lt_of_eq t.isLt N_0
  have h : 1408 * (t.val / 8) + b.val < 2816 := by omega
  rw [coord t]
  refine congrArg (xo (ix2 k b) + ·) (Finset.sum_congr rfl fun q _ => ?_)
  rw [term, dif_pos ⟨by omega, h⟩]
  refine congrArg₂ (· * ·) (rowG_at m c t q b h) ?_
  exact above_block (m ((c.tc : Thread nD τ).loc main_arg1)) (j := 1408 * (t.val / 8) + b.val) (by omega) (by omega) (fun k => blk1 m c t k b) (fun k h => blk2 m c t k b h) (by omega) q

theorem block_hi (c : Dev nD) (t : Fin cfg0.N) (xo : Vec Ideal S3x1408 .f32) (k : Fin 3) (b : Fin 1408) :
    wholeW ((grid0.coords t) 1).val xo (rowU (iblk m c 0 t) (iblk m c 1 t) (iblk m c 2 t) (iblk m c 5 t) ((grid0.coords t) 1).val) (iblk m c 3 t) (iblk m c 4 t) (ix2 k b)
      = xo (ix2 k b) + ∑ q : Fin 512, term (m ((c.tc : Thread nD τ).loc main_arg1)) (dU (m ((c.tc : Thread nD τ).loc main_arg0)) (m ((c.tc : Thread nD τ).loc main_arg1)) (m ((c.tc : Thread nD τ).loc main_arg2))) hi k (1408 * (t.val / 8) + b.val) (512 * (t.val % 8) + q.val) := by
  have hN : t.val < 16 := lt_of_lt_of_eq t.isLt N_0
  have h : 1408 * (t.val / 8) + b.val < 2816 := by omega
  rw [coord t]
  refine congrArg (xo (ix2 k b) + ·) (Finset.sum_congr rfl fun q _ => ?_)
  rw [term, dif_pos ⟨by omega, h⟩]
  refine congrArg₂ (· * ·) (rowU_at m c t q b h) ?_
  refine (above_block (m ((c.tc : Thread nD τ).loc main_arg1)) (j := 1408 * (t.val / 8 + 2) + b.val) (by omega) (by omega) (fun k => blk3 m c t k b) (fun k h => blk4 m c t k b h) (by omega) q).trans ?_
  exact congrArg (back _ _ _) (congrArg Fin.val (hi_col h (by omega)))

theorem zero_lo (y : S3x1408.Idx) : k0_pay2 (F := Ideal) y = 0 := by
  unfold k0_pay2
  pointwise

theorem zero_hi (y : S3x1408.Idx) : k0_pay3 (F := Ideal) y = 0 := by
  unfold k0_pay3
  pointwise

theorem acc_lo (c : Dev nD) (k : Fin 3) (b : Fin 1408) (t : ℕ) (h : t < cfg0.N) :
    (outsAt0 m c t h).2.2.1 (ix2 k b) = psum (term (m ((c.tc : Thread nD τ).loc main_arg1)) (dG (m ((c.tc : Thread nD τ).loc main_arg0)) (m ((c.tc : Thread nD τ).loc main_arg1)) (m ((c.tc : Thread nD τ).loc main_arg2))) lo k (1408 * (t / 8) + b.val)) (512 * (t % 8 + 1)) := by
  refine acc_run 8 512 (fun t h => (outsAt0 m c t h).2.2.1 (ix2 k b)) (fun j => term (m ((c.tc : Thread nD τ).loc main_arg1)) (dG (m ((c.tc : Thread nD τ).loc main_arg0)) (m ((c.tc : Thread nD τ).loc main_arg1)) (m ((c.tc : Thread nD τ).loc main_arg2))) lo k (1408 * j + b.val)) (fun t h h0 => ?_) (fun t h h0 => ?_) t h
  · rw [outsAt0_A m c ⟨t, h⟩ h0]
    dsimp only
    rw [stores_A9, canon_WG, block_lo m c ⟨t, h⟩, zero_lo]
  · rw [outsAt0_B m c ⟨t, h⟩ h0]
    dsimp only
    rw [stores_B9, ← List.append_nil (cols _ 11 _), canon_WG, block_lo m c ⟨t, h⟩]

theorem acc_hi (c : Dev nD) (k : Fin 3) (b : Fin 1408) (t : ℕ) (h : t < cfg0.N) :
    (outsAt0 m c t h).2.2.2 (ix2 k b) = psum (term (m ((c.tc : Thread nD τ).loc main_arg1)) (dU (m ((c.tc : Thread nD τ).loc main_arg0)) (m ((c.tc : Thread nD τ).loc main_arg1)) (m ((c.tc : Thread nD τ).loc main_arg2))) hi k (1408 * (t / 8) + b.val)) (512 * (t % 8 + 1)) := by
  refine acc_run 8 512 (fun t h => (outsAt0 m c t h).2.2.2 (ix2 k b)) (fun j => term (m ((c.tc : Thread nD τ).loc main_arg1)) (dU (m ((c.tc : Thread nD τ).loc main_arg0)) (m ((c.tc : Thread nD τ).loc main_arg1)) (m ((c.tc : Thread nD τ).loc main_arg2))) hi k (1408 * j + b.val)) (fun t h h0 => ?_) (fun t h h0 => ?_) t h
  · rw [outsAt0_A m c ⟨t, h⟩ h0]
    dsimp only
    rw [stores_A10, canon_WU, block_hi m c ⟨t, h⟩, zero_hi]
  · rw [outsAt0_B m c ⟨t, h⟩ h0]
    dsimp only
    rw [stores_B10, ← List.append_nil (cols _ 11 _), canon_WU, block_hi m c ⟨t, h⟩]

theorem final7 (c : Dev nD) : (dats m 0 c).arrAt 7 cfg0.N = (fun y => dG (m ((c.tc : Thread nD τ).loc main_arg0)) (m ((c.tc : Thread nD τ).loc main_arg1)) (m ((c.tc : Thread nD τ).loc main_arg2)) (y 0 : Fin 4096) (y 1 : Fin 2816) : Vec Ideal S4096x2816 .bf16) := by
  refine (dats m 0 c).arrAt_eq_of_covers 7 _ (by decide +kernel) fun t hf y => ?_
  obtain ⟨a, b, rfl⟩ : ∃ (a : Fin 512) (b : Fin 1408), y = ix2 a b := ⟨y 0, y 1, eq_ix2 y⟩
  have hN : t.val < 16 := lt_of_lt_of_eq t.isLt N_0
  blk_simp
  rw [after0_7, emb7, (outs_at m c t).1]
  refine Eq.trans ?_ (rowG_at m c t a b (by omega))
  rw [← coord t]
  rfl

theorem final8 (c : Dev nD) : (dats m 0 c).arrAt 8 cfg0.N = (fun y => dU (m ((c.tc : Thread nD τ).loc main_arg0)) (m ((c.tc : Thread nD τ).loc main_arg1)) (m ((c.tc : Thread nD τ).loc main_arg2)) (y 0 : Fin 4096) (y 1 : Fin 2816) : Vec Ideal S4096x2816 .bf16) := by
  refine (dats m 0 c).arrAt_eq_of_covers 8 _ (by decide +kernel) fun t hf y => ?_
  obtain ⟨a, b, rfl⟩ : ∃ (a : Fin 512) (b : Fin 1408), y = ix2 a b := ⟨y 0, y 1, eq_ix2 y⟩
  have hN : t.val < 16 := lt_of_lt_of_eq t.isLt N_0
  blk_simp
  rw [after0_8, emb8, (outs_at m c t).2]
  refine Eq.trans ?_ (rowU_at m c t a b (by omega))
  rw [← coord t]
  rfl

theorem final9 (c : Dev nD) : (dats m 0 c).arrAt 9 cfg0.N = (fun y => dW (m ((c.tc : Thread nD τ).loc main_arg1)) (dG (m ((c.tc : Thread nD τ).loc main_arg0)) (m ((c.tc : Thread nD τ).loc main_arg1)) (m ((c.tc : Thread nD τ).loc main_arg2))) lo (y 0 : Fin 3) (y 1 : Fin 2816) : Vec Ideal S3x2816 .f32) := by
  refine (dats m 0 c).arrAt_eq_of_covers 9 _ (by decide +kernel) fun t hf y => ?_
  obtain ⟨a, b, rfl⟩ : ∃ (a : Fin 3) (b : Fin 1408), y = ix2 a b := ⟨y 0, y 1, eq_ix2 y⟩
  have hN : t.val < 16 := lt_of_lt_of_eq t.isLt N_0
  have h7 : t.val % 8 = 7 := (flush0_9 t).mp hf
  blk_simp
  rw [after0_9, emb9, acc_lo, h7]
  exact (dW_apply _ _ _ a ⟨1408 * (t.val / 8) + b.val, by omega⟩).symm

theorem final10 (c : Dev nD) : (dats m 0 c).arrAt 10 cfg0.N = (fun y => dW (m ((c.tc : Thread nD τ).loc main_arg1)) (dU (m ((c.tc : Thread nD τ).loc main_arg0)) (m ((c.tc : Thread nD τ).loc main_arg1)) (m ((c.tc : Thread nD τ).loc main_arg2))) hi (y 0 : Fin 3) (y 1 : Fin 2816) : Vec Ideal S3x2816 .f32) := by
  refine (dats m 0 c).arrAt_eq_of_covers 10 _ (by decide +kernel) fun t hf y => ?_
  obtain ⟨a, b, rfl⟩ : ∃ (a : Fin 3) (b : Fin 1408), y = ix2 a b := ⟨y 0, y 1, eq_ix2 y⟩
  have hN : t.val < 16 := lt_of_lt_of_eq t.isLt N_0
  have h7 : t.val % 8 = 7 := (flush0_10 t).mp hf
  blk_simp
  rw [after0_10, emb10, acc_hi, h7]
  exact (dW_apply _ _ _ a ⟨1408 * (t.val / 8) + b.val, by omega⟩).symm

variable (ρ : Dev nD → PrngReg)

/-- THE KERNEL'S RUN: its four gradients, its arguments unchanged. -/
theorem run : θ_run (defs (F := Ideal)) (onTc (τ := τ) (main (F := Ideal))) ⟨m, fun _ => 0, ρ⟩ fun r => ∀ c : Dev nD,
      r.2.mem ((c.tc : Thread nD τ).loc main_v2_0) = (fun y => dG (m ((c.tc : Thread nD τ).loc main_arg0)) (m ((c.tc : Thread nD τ).loc main_arg1)) (m ((c.tc : Thread nD τ).loc main_arg2)) (y 0 : Fin 4096) (y 1 : Fin 2816) : Vec Ideal S4096x2816 .bf16)
      ∧ r.2.mem ((c.tc : Thread nD τ).loc main_v2_1) = (fun y => dU (m ((c.tc : Thread nD τ).loc main_arg0)) (m ((c.tc : Thread nD τ).loc main_arg1)) (m ((c.tc : Thread nD τ).loc main_arg2)) (y 0 : Fin 4096) (y 1 : Fin 2816) : Vec Ideal S4096x2816 .bf16)
      ∧ r.2.mem ((c.tc : Thread nD τ).loc main_v2_2) = (fun y => dW (m ((c.tc : Thread nD τ).loc main_arg1)) (dG (m ((c.tc : Thread nD τ).loc main_arg0)) (m ((c.tc : Thread nD τ).loc main_arg1)) (m ((c.tc : Thread nD τ).loc main_arg2))) lo (y 0 : Fin 3) (y 1 : Fin 2816) : Vec Ideal S3x2816 .f32)
      ∧ r.2.mem ((c.tc : Thread nD τ).loc main_v2_3) = (fun y => dW (m ((c.tc : Thread nD τ).loc main_arg1)) (dU (m ((c.tc : Thread nD τ).loc main_arg0)) (m ((c.tc : Thread nD τ).loc main_arg1)) (m ((c.tc : Thread nD τ).loc main_arg2))) hi (y 0 : Fin 3) (y 1 : Fin 2816) : Vec Ideal S3x2816 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final7 m c), (h c).2.1.trans (final8 m c), (h c).2.2.1.trans (final9 m c), (h c).2.2.2.1.trans (final10 m c), (h c).2.2.2.2⟩) (Value.run_blocks m ρ)

end Cert.FfnActBwdIdeal.Entries

end
-- ==== Proof.Acts.lean ====
/- The convolutions with their activations: each program's result is its reference's. -/
module

public import proofs.«01_k».proof.Defs
public import proofs.«01_k».proof.Proof.Gen.FfnActIdeal
public import proofs.«01_k».proof.Proof.Gen.FfnActRefIdeal
public import proofs.«01_k».proof.Proof.Gen.FfnActRefIdeal.Run
public import proofs.«01_k».proof.Proof.FfnActValue
public import proofs.«01_k».proof.Proof.Gen.FfnActBwdRefIdeal.Run
public import proofs.«01_k».proof.Proof.FfnActBwdValue
public import proofs.«01_k».proof.Proof.Posts

@[expose] public section

set_option maxRecDepth 16384

noncomputable section

namespace Cert.Pre_finite_ffn

open Idealize.ShloMosaic Idealize.ShloMosaic.TcCoe Blocked Above

instance facts : Facts where
  slices_S4096x5632_S4096x2816_0_2816 := by decide
  slices_S3x5632_S3x2816_0_2816 := by decide
  bcast_S_S4096x2816 := by decide
  bcast_S_S3x2816 := by decide

variable (m : (ℓ : Loc Cert.FfnActBwdIdeal.nD Cert.FfnActBwdIdeal.τ Cert.FfnActBwdIdeal.sig) → Buf (Elt Ideal) ℓ)

theorem args (h : Pre_FfnActBwdIdeal_finite_ffn m) (c : Dev Cert.FfnActBwdIdeal.nD) :
    (∀ i : S4096x2816.Idx, Scan.Fin' (m ((c.tc : Thread Cert.FfnActBwdIdeal.nD Cert.FfnActBwdIdeal.τ).loc Cert.FfnActBwdIdeal.main_arg0) i))
    ∧ (∀ (a : Fin 4096) (b : Fin 2816), Scan.Fin' (m ((c.tc : Thread Cert.FfnActBwdIdeal.nD Cert.FfnActBwdIdeal.τ).loc Cert.FfnActBwdIdeal.main_arg1) (ix2 a (hi b))))
    ∧ (∀ (a : Fin 3) (b : Fin 2816), Scan.Fin' (m ((c.tc : Thread Cert.FfnActBwdIdeal.nD Cert.FfnActBwdIdeal.τ).loc Cert.FfnActBwdIdeal.main_arg2) (ix2 a (hi b)))) := by
  refine ⟨Cert.Pre_finite.elt _ _ (h c).1, fun a b => ?_, fun a b => ?_⟩
  · have e := Cert.Pre_finite.elt _ _ (h c).2.1 (ix2 a b)
    revert e
    pointwise
    exact fun e => e
  · have e := Cert.Pre_finite.elt _ _ (h c).2.2 (ix2 a b)
    revert e
    pointwise
    exact fun e => e

end Cert.Pre_finite_ffn

namespace Cert.Proof.Acts

open Idealize.ShloMosaic Idealize.ShloMosaic.TcCoe Idealize.SL.Sem Blocked Above

/-- The reference of ConvFFN's activation leaves its arguments unchanged. -/
theorem frameFfnAct : Cert.quiescent_FfnActRefIdeal (hFfnActRefIdeal := Cert.FfnActRefIdeal.Gen.facts) := fun m ρ _ =>
  (θ_run _ _ _).mono (fun r h => ⟨fun c => (h c).2, sem_eq_zero_of_no_sems (by decide) _⟩) (Cert.FfnActRefIdeal.Value.run m ρ)

/-- ConvFFN's activation is the reference's. -/
theorem valueFfnAct : Cert.algebraic_FfnActIdeal_FfnActRefIdeal (hFfnActIdeal := Cert.FfnActIdeal.Gen.facts)
    (hFfnActRefIdeal := Cert.FfnActRefIdeal.Gen.facts) := fun m ρ m' ρ' _ hag => by
  refine ⟨fun c => _, Cert.FfnActIdeal.Entries.run m ρ,
    (θ_run _ _ _).mono (fun r h c => ⟨(h c).1.trans ?_, (h c).2⟩) (Cert.FfnActRefIdeal.Value.run m' ρ')⟩
  unfold Cert.FfnActRefIdeal.Value.res_main_v26
  rw [(hag c).1, (hag c).2]
  funext y
  obtain ⟨a, b, rfl⟩ : ∃ (a : Fin 4096) (b : Fin 2816), y = ix2 a b := ⟨y 0, y 1, eq_ix2 y⟩
  pointwise
  rw [pad3 (m (c.tc.loc Cert.FfnActIdeal.main_arg0)) (m (c.tc.loc Cert.FfnActIdeal.main_arg1)) a ⟨b.val, by omega⟩,
    pad3 (m (c.tc.loc Cert.FfnActIdeal.main_arg0)) (m (c.tc.loc Cert.FfnActIdeal.main_arg1)) a ⟨2816 + b.val, by omega⟩, Gate.gate_neg]
  rfl

/-- The derivative of the gated part: the kernel's product is the sum of the product rule. -/
theorem dgate_of {u e : EReal} (hu : Scan.Fin' u) (he : Scan.Fin' e) (g : EReal) :
    e * u * Gate.gate g + g * (e * u) * (Gate.gate g * (1 - Gate.gate g)) = dgate g u e := by
  obtain ⟨p, hp⟩ := Scan.Fin'.mul he hu
  unfold dgate
  rw [hp]
  exact (Posts.line p g).symm

theorem cconv3_real {M N : ℕ} {A : (⟨2, ![M, N]⟩ : Shape).Idx → EReal} {W : (⟨2, ![3, N]⟩ : Shape).Idx → EReal} {b : Fin N} (h : ∀ a : Fin M, Scan.Fin' (A (ix2 a b)))
    (hw : ∀ k : Fin 3, Scan.Fin' (W (ix2 k b))) (n : ℕ) : Scan.Fin' (cconv3 A W n b) :=
  (((hw 0).mul (back_real Scan.Fin'.zero h 2 n)).add ((hw 1).mul (back_real Scan.Fin'.zero h 1 n))).add ((hw 2).mul (back_real Scan.Fin'.zero h 0 n))

/-- The reference of its gradients leaves its arguments unchanged. -/
theorem frameFfnActBwd : Cert.quiescent_FfnActBwdRefIdeal (hFfnActBwdRefIdeal := Cert.FfnActBwdRefIdeal.Gen.facts) := fun m ρ _ =>
  (θ_run _ _ _).mono (fun r h => ⟨fun c => (h c).2.2.2.2, sem_eq_zero_of_no_sems (by decide) _⟩) (Cert.FfnActBwdRefIdeal.Value.run m ρ)

open Cert.FfnActBwdRefIdeal in
/-- The gradients of ConvFFN's activation are the reference's. -/
theorem valueFfnActBwd : Cert.algebraic_FfnActBwdIdeal_FfnActBwdRefIdeal_pre_finite_ffn (hFfnActBwdIdeal := Cert.FfnActBwdIdeal.Gen.facts)
    (hFfnActBwdRefIdeal := Cert.FfnActBwdRefIdeal.Gen.facts) (hPre_finite_ffn := Cert.Pre_finite_ffn.facts) := fun m ρ m' ρ' hpre hag => by
  refine ⟨fun c => _, fun c => _, fun c => _, fun c => _, Cert.FfnActBwdIdeal.Entries.run m ρ,
    (θ_run _ _ _).mono (fun r h c => ⟨(h c).1.trans (funext fun y => ?_), (h c).2.1.trans (funext fun y => ?_), (h c).2.2.1.trans (funext fun y => ?_), (h c).2.2.2.1.trans (funext fun y => ?_), (h c).2.2.2.2⟩)
      (Cert.FfnActBwdRefIdeal.Value.run m' ρ')⟩
  · unfold Cert.FfnActBwdRefIdeal.Value.res_main_v54
    rw [(hag c).1, (hag c).2.1, (hag c).2.2]
    obtain ⟨a, b, rfl⟩ : ∃ (a : Fin 4096) (b : Fin 2816), y = ix2 a b := ⟨y 0, y 1, eq_ix2 y⟩
    obtain ⟨hd, hu, hw⟩ := Cert.Pre_finite_ffn.args m hpre c
    pointwise
    rw [pad3 (m (c.tc.loc Cert.FfnActBwdIdeal.main_arg1)) (m (c.tc.loc Cert.FfnActBwdIdeal.main_arg2)) a ⟨b.val, by omega⟩,
      pad3 (m (c.tc.loc Cert.FfnActBwdIdeal.main_arg1)) (m (c.tc.loc Cert.FfnActBwdIdeal.main_arg2)) a ⟨2816 + b.val, by omega⟩, Gate.gate_neg]
    exact dgate_of (cconv3_real (fun a => hu a b) (fun k => hw k b) _) (hd _) _
  · unfold Cert.FfnActBwdRefIdeal.Value.res_main_v55
    rw [(hag c).1, (hag c).2.1, (hag c).2.2]
    obtain ⟨a, b, rfl⟩ : ∃ (a : Fin 4096) (b : Fin 2816), y = ix2 a b := ⟨y 0, y 1, eq_ix2 y⟩
    pointwise
    rw [pad3 (m (c.tc.loc Cert.FfnActBwdIdeal.main_arg1)) (m (c.tc.loc Cert.FfnActBwdIdeal.main_arg2)) a ⟨b.val, by omega⟩, Gate.gate_neg]
    unfold Cert.FfnActBwdIdeal.Entries.dU dother
    exact @mul_comm EReal _ _ _
  · unfold Cert.FfnActBwdRefIdeal.Value.res_main_v52
    rw [(hag c).1, (hag c).2.1, (hag c).2.2]
    obtain ⟨k, b, rfl⟩ : ∃ (k : Fin 3) (b : Fin 2816), y = ix2 k b := ⟨y 0, y 1, eq_ix2 y⟩
    obtain ⟨hd, hu, hw⟩ := Cert.Pre_finite_ffn.args m hpre c
    generalize hE : concatenate S4096x5632 1 _ _ = E
    pointwise
    refine (taps3 E (m (c.tc.loc Cert.FfnActBwdIdeal.main_arg1)) k b.val (by omega)).trans (Finset.sum_congr rfl fun a _ => congrArg (· * _) ?_)
    rw [← hE]
    pointwise
    rw [pad3 (m (c.tc.loc Cert.FfnActBwdIdeal.main_arg1)) (m (c.tc.loc Cert.FfnActBwdIdeal.main_arg2)) a ⟨b.val, by omega⟩,
      pad3 (m (c.tc.loc Cert.FfnActBwdIdeal.main_arg1)) (m (c.tc.loc Cert.FfnActBwdIdeal.main_arg2)) a ⟨2816 + b.val, by omega⟩, Gate.gate_neg]
    exact dgate_of (cconv3_real (fun a => hu a b) (fun k => hw k b) _) (hd _) _
  · unfold Cert.FfnActBwdRefIdeal.Value.res_main_v53
    rw [(hag c).1, (hag c).2.1, (hag c).2.2]
    obtain ⟨k, b, rfl⟩ : ∃ (k : Fin 3) (b : Fin 2816), y = ix2 k b := ⟨y 0, y 1, eq_ix2 y⟩
    generalize hE : concatenate S4096x5632 1 _ _ = E
    pointwise
    refine (taps3 E (m (c.tc.loc Cert.FfnActBwdIdeal.main_arg1)) k (2816 + b.val) (by omega)).trans (Finset.sum_congr rfl fun a _ => congrArg (· * _) ?_)
    rw [← hE]
    pointwise
    rw [pad3 (m (c.tc.loc Cert.FfnActBwdIdeal.main_arg1)) (m (c.tc.loc Cert.FfnActBwdIdeal.main_arg2)) a ⟨b.val, by omega⟩, Gate.gate_neg]
    unfold Cert.FfnActBwdIdeal.Entries.dU dother
    exact @mul_comm EReal _ _ _

end Cert.Proof.Acts

end
-- ==== Proof.Above4.lean ====
/- The causal convolution of four weights, and the scale of a head's row. -/
module

public import proofs.«01_k».proof.Proof.Above
public import proofs.«01_k».proof.Proof.Heads

@[expose] public section

noncomputable section

namespace Above

open Idealize.ShloMosaic Blocked

/-- A causal convolution with four weights at row `a` of a block. -/
def conv4 {R : ℕ} (w : Fin 4 → EReal) (c : Fin R → EReal) (p : Fin 16 → EReal) (a : Fin R) : EReal :=
  w 0 * above 3 c p a + w 1 * above 2 c p a + w 2 * above 1 c p a + w 3 * c a

/-- A causal convolution with four weights at a row of the matrix. -/
def cconv4 {M N : ℕ} (A : (⟨2, ![M, N]⟩ : Shape).Idx → EReal) (W : (⟨2, ![4, N]⟩ : Shape).Idx → EReal) (n : ℕ) (b : Fin N) : EReal :=
  W (ix2 0 b) * back A 3 n b.val + W (ix2 1 b) * back A 2 n b.val + W (ix2 2 b) * back A 1 n b.val + W (ix2 3 b) * back A 0 n b.val

/-- The convolution at a block's row is the matrix's. -/
theorem conv4_rows {N i : ℕ} (A : (⟨2, ![4096, N]⟩ : Shape).Idx → EReal) (W : (⟨2, ![4, N]⟩ : Shape).Idx → EReal) {w : Fin 4 → EReal} {c : Fin 512 → EReal} {p : Fin 16 → EReal} {j : ℕ} (hj : j < N)
    (hi' : 512 * i + 512 ≤ 4096)
    (hc : ∀ (k : Fin 512), c k = A (ix2 ⟨512 * i + k.val, by omega⟩ ⟨j, hj⟩))
    (hp : ∀ (k : Fin 16) (h : 16 ≤ 512 * i), p k = A (ix2 ⟨512 * i - 16 + k.val, by omega⟩ ⟨j, hj⟩)) (hw : ∀ k : Fin 4, w k = W (ix2 k ⟨j, hj⟩)) (a : Fin 512) :
    conv4 w c (fun k => mask i (p k)) a = cconv4 A W (512 * i + a.val) ⟨j, hj⟩ := by
  have hs : ∀ s, s ≤ 16 → above s c (fun k => mask i (p k)) a = back A s (512 * i + a.val) j := fun s hs => above_block A hj hi' hc hp hs a
  unfold conv4 cconv4
  rw [hs 3 (by decide), hs 2 (by decide), hs 1 (by decide), ← above_zero c (fun k => mask i (p k)) a, hs 0 (by decide), hw, hw, hw, hw]

/-- A causal convolution of four weights over the matrix with three rows of zeros put before it. -/
theorem pad4 {M N : ℕ} (A : (⟨2, ![M, N]⟩ : Shape).Idx → EReal) (W : (⟨2, ![4, N]⟩ : Shape).Idx → EReal) (a : Fin M) (b : Fin N) :
    W (ix2 0 b) * (if h : a.val < 3 then 0 else A (ix2 ⟨a.val - 3, by omega⟩ b)) + W (ix2 1 b) * (if h : 1 + a.val < 3 then 0 else A (ix2 ⟨1 + a.val - 3, by omega⟩ b))
      + W (ix2 2 b) * (if h : 2 + a.val < 3 then 0 else A (ix2 ⟨2 + a.val - 3, by omega⟩ b)) + W (ix2 3 b) * A (ix2 a b) = cconv4 A W a.val b := by
  unfold cconv4
  rw [row_back A b a.isLt (s := 3) (by omega) rfl, row_back A b a.isLt (s := 2) (by omega) (by omega), row_back A b a.isLt (s := 1) (by omega) (by omega), back_zero]

/-- A convolution on one of a block's halves. -/
theorem conv4_top (w : Fin 4 → EReal) (c : Fin 512 → EReal) (p : Fin 16 → EReal) (a : Fin 256) : conv4 w (fun k : Fin 256 => c ⟨k.val, by omega⟩) p a = conv4 w c p ⟨a.val, by omega⟩ := rfl

theorem conv4_bot (w : Fin 4 → EReal) (c : Fin 512 → EReal) (p : Fin 16 → EReal) (a : Fin 256) :
    conv4 w (fun k : Fin 256 => c ⟨256 + k.val, by omega⟩) (fun k : Fin 16 => c ⟨240 + k.val, by omega⟩) a = conv4 w c p ⟨256 + a.val, by omega⟩ := by
  unfold conv4
  rw [above_bot (by decide) c p, above_bot (by decide) c p, above_bot (by decide) c p]

/-- One over the length of a head's row. -/
def unit (f : Fin 128 → EReal) : EReal := Ideal.rsqrt ((∑ k, f k * f k) + Ideal.ofBits .f32 0x358637BD#32)

/-- What a head's row is scaled by: in the first part by one over its length and the scale, in the second by one over its length, in the third not. -/
def part (j : ℕ) (r : EReal) : EReal := if j = 0 then r * Ideal.ofBits .f32 0x3DB504F3#32 else if j = 1 then r else 1

theorem word_part {j : ℕ} (hj : j < 3) (x y z : EReal) :
    Scalar.select (Scalar.cmpi .eq (BitVec.ofNat 32 j) 0#32) x (Scalar.select (Scalar.cmpi .eq (BitVec.ofNat 32 j) 1#32) y z) = if j = 0 then x else if j = 1 then y else z := by
  interval_cases j <;> rfl

/-- The column of lane `k` in the head of column `b`, of three parts. -/
def mate3 (b : Fin 3072) (k : Fin 128) : Fin 3072 := ⟨b.val / 128 * 128 + k.val, by omega⟩

theorem mate3_of {j : ℕ} (b : Fin 1024) (h : 1024 * j + b.val < 3072) (k : Fin 128) :
    mate3 ⟨1024 * j + b.val, h⟩ k = ⟨1024 * j + (Heads.mate b k).val, by show 1024 * j + (b.val / 128 * 128 + k.val) < 3072; omega⟩ :=
  Fin.ext (by show (1024 * j + b.val) / 128 * 128 + k.val = 1024 * j + (b.val / 128 * 128 + k.val); omega)

end Above

end
-- ==== Proof.DnPreValue.lean ====
/- DeltaNet's causal convolution, its activation and the heads' scaling, entry by entry. -/
module

public import proofs.«01_k».proof.Proof.Gen.DnPreIdeal.Value
public import proofs.«01_k».proof.Proof.Above4

@[expose] public section

set_option maxRecDepth 16384

noncomputable section

namespace Cert.DnPreIdeal.Entries

open Cert.DnPreIdeal Cert.DnPreIdeal.Gen Idealize.ShloMosaic Idealize.ShloMosaic.TcCoe Idealize.SL.Sem Blocked Above

/-- The rows' numbers. -/
def rowNo : IVec S512x128 32 := iota .tc S512x128 32 [0] iota_S512x128_d0_w32

/-- A block's rows moved down by one, the last row before the block in front. -/
def down1 (c : FVec Ideal S512x128 .f32) (p : FVec Ideal S16x128 .f32) : FVec Ideal S512x128 .f32 :=
  concatenate S512x128 0 [⟨S8x128, (select (cmpi .eq (extractStridedSlice S8x128 ![0, 0] rowNo slices_S512x128_o0_0_S8x128) (broadcast S8x128 0#32))
      (broadcastTo S8x128 (shapeCast S1x128 (extractStridedSlice S1x128 ![15, 0] p slices_S16x128_o15_0_S1x128) shapeCasts_S1x128_S1x128) broadcasts_S1x128_S8x128)
      (extractStridedSlice S8x128 ![0, 0] (dynamicRotate 0 1#32 none c rotates_S512x128_d0) slices_S512x128_o0_0_S8x128))⟩,
    ⟨S504x128, extractStridedSlice S504x128 ![8, 0] (dynamicRotate 0 1#32 none c rotates_S512x128_d0) slices_S512x128_o8_0_S504x128⟩] concatenates_S8x128_S504x128_S512x128_d0

theorem down1_apply (c : FVec Ideal S512x128 .f32) (p : FVec Ideal S16x128 .f32) (a : Fin 512) (b : Fin 128) :
    down1 c p (ix2 a b) = above 1 (fun k => c (ix2 k b)) (fun k => p (ix2 k b)) a := by
  unfold down1 rowNo
  pointwise
  exact down_one (R := 512) (c := fun k => c (ix2 k b)) (p := fun k => p (ix2 k b)) (a := a) (by decide)

/-- A block's rows moved down by two, the last two rows before the block in front. -/
def down2 (c : FVec Ideal S512x128 .f32) (p : FVec Ideal S16x128 .f32) : FVec Ideal S512x128 .f32 :=
  concatenate S512x128 0 [⟨S8x128, (select (cmpi .eq (extractStridedSlice S8x128 ![0, 0] rowNo slices_S512x128_o0_0_S8x128) (broadcast S8x128 1#32))
      (broadcastTo S8x128 (shapeCast S1x128 (extractStridedSlice S1x128 ![15, 0] p slices_S16x128_o15_0_S1x128) shapeCasts_S1x128_S1x128) broadcasts_S1x128_S8x128)
      (select (cmpi .eq (extractStridedSlice S8x128 ![0, 0] rowNo slices_S512x128_o0_0_S8x128) (broadcast S8x128 0#32))
      (broadcastTo S8x128 (shapeCast S1x128 (extractStridedSlice S1x128 ![14, 0] p slices_S16x128_o14_0_S1x128) shapeCasts_S1x128_S1x128) broadcasts_S1x128_S8x128)
      (extractStridedSlice S8x128 ![0, 0] (dynamicRotate 0 2#32 none c rotates_S512x128_d0) slices_S512x128_o0_0_S8x128)))⟩,
    ⟨S504x128, extractStridedSlice S504x128 ![8, 0] (dynamicRotate 0 2#32 none c rotates_S512x128_d0) slices_S512x128_o8_0_S504x128⟩] concatenates_S8x128_S504x128_S512x128_d0

theorem down2_apply (c : FVec Ideal S512x128 .f32) (p : FVec Ideal S16x128 .f32) (a : Fin 512) (b : Fin 128) :
    down2 c p (ix2 a b) = above 2 (fun k => c (ix2 k b)) (fun k => p (ix2 k b)) a := by
  unfold down2 rowNo
  pointwise
  exact down_two (R := 512) (c := fun k => c (ix2 k b)) (p := fun k => p (ix2 k b)) (a := a) (by decide)

/-- A block's rows moved down by three, the last three rows before the block in front. -/
def down3 (c : FVec Ideal S512x128 .f32) (p : FVec Ideal S16x128 .f32) : FVec Ideal S512x128 .f32 :=
  concatenate S512x128 0 [⟨S8x128, (select (cmpi .eq (extractStridedSlice S8x128 ![0, 0] rowNo slices_S512x128_o0_0_S8x128) (broadcast S8x128 2#32))
      (broadcastTo S8x128 (shapeCast S1x128 (extractStridedSlice S1x128 ![15, 0] p slices_S16x128_o15_0_S1x128) shapeCasts_S1x128_S1x128) broadcasts_S1x128_S8x128)
      (select (cmpi .eq (extractStridedSlice S8x128 ![0, 0] rowNo slices_S512x128_o0_0_S8x128) (broadcast S8x128 1#32))
      (broadcastTo S8x128 (shapeCast S1x128 (extractStridedSlice S1x128 ![14, 0] p slices_S16x128_o14_0_S1x128) shapeCasts_S1x128_S1x128) broadcasts_S1x128_S8x128)
      (select (cmpi .eq (extractStridedSlice S8x128 ![0, 0] rowNo slices_S512x128_o0_0_S8x128) (broadcast S8x128 0#32))
      (broadcastTo S8x128 (shapeCast S1x128 (extractStridedSlice S1x128 ![13, 0] p slices_S16x128_o13_0_S1x128) shapeCasts_S1x128_S1x128) broadcasts_S1x128_S8x128)
      (extractStridedSlice S8x128 ![0, 0] (dynamicRotate 0 3#32 none c rotates_S512x128_d0) slices_S512x128_o0_0_S8x128))))⟩,
    ⟨S504x128, extractStridedSlice S504x128 ![8, 0] (dynamicRotate 0 3#32 none c rotates_S512x128_d0) slices_S512x128_o8_0_S504x128⟩] concatenates_S8x128_S504x128_S512x128_d0

theorem down3_apply (c : FVec Ideal S512x128 .f32) (p : FVec Ideal S16x128 .f32) (a : Fin 512) (b : Fin 128) :
    down3 c p (ix2 a b) = above 3 (fun k => c (ix2 k b)) (fun k => p (ix2 k b)) a := by
  unfold down3 rowNo
  pointwise
  exact down_three (R := 512) (c := fun k => c (ix2 k b)) (p := fun k => p (ix2 k b)) (a := a) (by decide)

/-- The causal convolution of a block's rows: `c` the rows, `p` those before, `w` the four weights. -/
def conv (c : FVec Ideal S512x128 .f32) (p : FVec Ideal S16x128 .f32) (w : Vec Ideal S4x128 .f32) : FVec Ideal S512x128 .f32 :=
  addf (addf (addf (mulf (broadcastTo S512x128 (extractStridedSlice S1x128 ![0, 0] w slices_S4x128_o0_0_S1x128) broadcasts_S1x128_S512x128) (down3 c p))
      (mulf (broadcastTo S512x128 (extractStridedSlice S1x128 ![1, 0] w slices_S4x128_o1_0_S1x128) broadcasts_S1x128_S512x128) (down2 c p)))
      (mulf (broadcastTo S512x128 (extractStridedSlice S1x128 ![2, 0] w slices_S4x128_o2_0_S1x128) broadcasts_S1x128_S512x128) (down1 c p)))
    (mulf (broadcastTo S512x128 (extractStridedSlice S1x128 ![3, 0] w slices_S4x128_o3_0_S1x128) broadcasts_S1x128_S512x128) c)

/-- The rows as the program takes them up. -/
def take (c : Vec Ideal S512x128 .bf16) : FVec Ideal S512x128 .f32 := extf .f32 (shapeCast S512x128 c shapeCasts_S512x128_S512x128) bitsLt_bf16_f32

/-- The rows before the block, zeros before the first. -/
def before (i : grid0.Coords) (p : Vec Ideal S16x128 .bf16) : FVec Ideal S16x128 .f32 :=
  Scalar.select (Scalar.cmpi .eq (BitVec.ofNat 32 (i 0).val) 0#32) (broadcast S16x128 (Scalar.ofBits .f32 0x00000000#32)) (extf .f32 (shapeCast S16x128 p shapeCasts_S16x128_S16x128) bitsLt_bf16_f32)

/-- A value through its own gate. -/
def act (c : FVec Ideal S512x128 .f32) : FVec Ideal S512x128 .f32 :=
  mulf c (divf (broadcast S512x128 (Scalar.ofBits .f32 0x3F800000#32)) (addf (broadcast S512x128 (Scalar.ofBits .f32 0x3F800000#32))
    (exp (subf (broadcast S512x128 (Scalar.ofBits .f32 0x00000000#32)) c))))

/-- One over each row's length. -/
def root (s : FVec Ideal S512x128 .f32) : FVec Ideal S512x1 .f32 :=
  rsqrt (addf (shapeCast S512x1 (multiReduction .add [1] S512 (mulf s s) 0x00000000#32 reduces_S512x128_S512 (.inl rfl) rfl) shapeCasts_S512_S512x1) (broadcast S512x1 (Scalar.ofBits .f32 0x358637BD#32)))

/-- What the rows are scaled by. -/
def factor (i : grid0.Coords) (r : FVec Ideal S512x1 .f32) : FVec Ideal S512x1 .f32 :=
  Scalar.select (Scalar.cmpi .eq (BitVec.ofNat 32 (i 1).val) 0#32) (mulf r (broadcast S512x1 (Scalar.ofBits .f32 0x3DB504F3#32)))
    (Scalar.select (Scalar.cmpi .eq (BitVec.ofNat 32 (i 1).val) 1#32) r (broadcast S512x1 (Scalar.ofBits .f32 0x3F800000#32)))

/-- The rows scaled. -/
def scaled (i : grid0.Coords) (s : FVec Ideal S512x128 .f32) : FVec Ideal S512x128 .f32 :=
  mulf s (broadcastTo S512x128 (factor i (root s)) broadcasts_S512x1_S512x128)

/-- What the program computes on a head's lanes from the rows `c`, the rows before them `p` and the weights `w`. -/
def strip (i : grid0.Coords) (c : Vec Ideal S512x128 .bf16) (p : Vec Ideal S16x128 .bf16) (w : Vec Ideal S4x128 .f32) : FVec Ideal S512x128 .f32 :=
  scaled i (act (conv (take c) (before i p) w))

theorem out_strips (i : grid0.Coords) (x0 : Vec Ideal S512x1024 .bf16) (x1 : Vec Ideal S16x1024 .bf16) (x2 : Vec Ideal S4x1024 .f32) :
    out0_3 i x0 x1 x2 = View.canon [⟨r0_22, strip i (View.ld x0 r0_22) (View.ld x1 r0_21) (View.ld x2 r0_23)⟩, ⟨r0_19, strip i (View.ld x0 r0_19) (View.ld x1 r0_18) (View.ld x2 r0_20)⟩, ⟨r0_16, strip i (View.ld x0 r0_16) (View.ld x1 r0_15) (View.ld x2 r0_17)⟩, ⟨r0_13, strip i (View.ld x0 r0_13) (View.ld x1 r0_12) (View.ld x2 r0_14)⟩, ⟨r0_10, strip i (View.ld x0 r0_10) (View.ld x1 r0_9) (View.ld x2 r0_11)⟩, ⟨r0_7, strip i (View.ld x0 r0_7) (View.ld x1 r0_6) (View.ld x2 r0_8)⟩, ⟨r0_4, strip i (View.ld x0 r0_4) (View.ld x1 r0_3) (View.ld x2 r0_5)⟩, ⟨r0_1, strip i (View.ld x0 r0_1) (View.ld x1 r0_0) (View.ld x2 r0_2)⟩] := by
  rfl

theorem take_apply (c : Vec Ideal S512x128 .bf16) (y : S512x128.Idx) : take c y = c y := by
  unfold take
  pointwise

theorem before_apply (i : grid0.Coords) (p : Vec Ideal S16x128 .bf16) (y : S16x128.Idx) : before i p y = mask (i 0).val (p y) := by
  have hi : (i 0).val < 8 := (i 0).isLt
  unfold before
  refine Eq.trans ?_ (word_mask hi _)
  pointwise

theorem conv_apply (c : FVec Ideal S512x128 .f32) (p : FVec Ideal S16x128 .f32) (w : Vec Ideal S4x128 .f32) (a : Fin 512) (b : Fin 128) :
    conv c p w (ix2 a b) = conv4 (fun k => w (ix2 k b)) (fun k => c (ix2 k b)) (fun k => p (ix2 k b)) a := by
  unfold conv conv4
  rw [← down1_apply c p a b, ← down2_apply c p a b, ← down3_apply c p a b]
  pointwise

theorem act_apply (c : FVec Ideal S512x128 .f32) (y : S512x128.Idx) : act c y = silu (c y) := by
  unfold act silu Gate.gate
  pointwise

theorem root_apply (s : FVec Ideal S512x128 .f32) (a : Fin 512) (u : Fin 1) : root s (ix2 a u) = unit (fun k => s (ix2 a k)) := by
  unfold root unit
  pointwise

theorem factor_apply (i : grid0.Coords) (r : FVec Ideal S512x1 .f32) (y : S512x1.Idx) : factor i r y = part (i 1).val (r y) := by
  have hi : (i 1).val < 3 := (i 1).isLt
  unfold factor part
  refine Eq.trans ?_ (word_part hi _ _ _)
  pointwise

theorem scaled_apply (i : grid0.Coords) (s : FVec Ideal S512x128 .f32) (a : Fin 512) (b : Fin 128) :
    scaled i s (ix2 a b) = s (ix2 a b) * part (i 1).val (unit (fun k => s (ix2 a k))) := by
  rw [← root_apply s a 0, ← factor_apply]
  unfold scaled
  pointwise

theorem strip_apply (i : grid0.Coords) (c : Vec Ideal S512x128 .bf16) (p : Vec Ideal S16x128 .bf16) (w : Vec Ideal S4x128 .f32) (a : Fin 512) (b : Fin 128) :
    strip i c p w (ix2 a b) = silu (conv4 (fun k => w (ix2 k b)) (fun k => c (ix2 k b)) (fun k => mask (i 0).val (p (ix2 k b))) a)
      * part (i 1).val (unit fun l => silu (conv4 (fun k => w (ix2 k l)) (fun k => c (ix2 k l)) (fun k => mask (i 0).val (p (ix2 k l))) a)) := by
  unfold strip
  rw [scaled_apply]
  simp only [act_apply, conv_apply, take_apply, before_apply]

/-- A block of the result: `x0` the rows, `x1` the rows before them, `x2` the weights. -/
def whole (i : grid0.Coords) (x0 : Vec Ideal S512x1024 .bf16) (x1 : Vec Ideal S16x1024 .bf16) (x2 : Vec Ideal S4x1024 .f32) : Vec Ideal S512x1024 .f32 := fun y =>
  silu (conv4 (fun k => x2 (ix2 k (y 1 : Fin 1024))) (fun k => x0 (ix2 k (y 1 : Fin 1024))) (fun k => mask (i 0).val (x1 (ix2 k (y 1 : Fin 1024)))) (y 0 : Fin 512))
    * part (i 1).val (unit fun l => silu (conv4 (fun k => x2 (ix2 k (Heads.mate (y 1 : Fin 1024) l))) (fun k => x0 (ix2 k (Heads.mate (y 1 : Fin 1024) l)))
      (fun k => mask (i 0).val (x1 (ix2 k (Heads.mate (y 1 : Fin 1024) l)))) (y 0 : Fin 512)))

theorem emb_col {R : ℕ} (o : ℕ) (h : o + 128 ≤ 1024) (inb : ∀ q, (![0, o] : Fin 2 → ℕ) q + (![R, 128] : Fin 2 → ℕ) q ≤ (![R, 1024] : Fin 2 → ℕ) q) (a : Fin R) (b : Fin 128) :
    (Rect.unit (s := ⟨2, ![R, 1024]⟩) ![0, o] ![R, 128] inb).emb (ix2 a b) = ix2 a ⟨o + b.val, by omega⟩ := by
  funext q
  apply Fin.ext
  rw [Rect.emb_apply]
  match q with
  | 0 => show 0 + 1 * a.val = a.val; omega
  | 1 => show o + 1 * b.val = o + b.val; omega

theorem whole_at (i : grid0.Coords) (x0 : Vec Ideal S512x1024 .bf16) (x1 : Vec Ideal S16x1024 .bf16) (x2 : Vec Ideal S4x1024 .f32) (o : ℕ) (h : o + 128 ≤ 1024) (ho : o % 128 = 0)
    (h0 : ∀ q, (![0, o] : Fin 2 → ℕ) q + S512x128.size q ≤ S512x1024.size q)
    (h1 : ∀ q, (![0, o] : Fin 2 → ℕ) q + S16x128.size q ≤ S16x1024.size q)
    (h2 : ∀ q, (![0, o] : Fin 2 → ℕ) q + S4x128.size q ≤ S4x1024.size q) (x : S512x128.Idx) :
    strip i (View.ld x0 (Rect.unit (s := S512x1024) ![0, o] S512x128.size h0)) (View.ld x1 (Rect.unit (s := S16x1024) ![0, o] S16x128.size h1))
      (View.ld x2 (Rect.unit (s := S4x1024) ![0, o] S4x128.size h2)) x = whole i x0 x1 x2 ((Rect.unit (s := S512x1024) ![0, o] S512x128.size h0).emb x) := by
  obtain ⟨a, b, rfl⟩ : ∃ (a : Fin 512) (b : Fin 128), x = ix2 a b := ⟨x 0, x 1, eq_ix2 x⟩
  rw [strip_apply]
  have e0 : ∀ (k : Fin 512) (l : Fin 128), View.ld x0 (Rect.unit (s := S512x1024) ![0, o] S512x128.size h0) (ix2 k l) = x0 (ix2 k ⟨o + l.val, by omega⟩) :=
    fun k l => congrArg x0 (emb_col o h h0 k l)
  have e1 : ∀ (k : Fin 16) (l : Fin 128), View.ld x1 (Rect.unit (s := S16x1024) ![0, o] S16x128.size h1) (ix2 k l) = x1 (ix2 k ⟨o + l.val, by omega⟩) :=
    fun k l => congrArg x1 (emb_col o h h1 k l)
  have e2 : ∀ (k : Fin 4) (l : Fin 128), View.ld x2 (Rect.unit (s := S4x1024) ![0, o] S4x128.size h2) (ix2 k l) = x2 (ix2 k ⟨o + l.val, by omega⟩) :=
    fun k l => congrArg x2 (emb_col o h h2 k l)
  simp only [e0, e1, e2]
  refine Eq.trans ?_ (congrArg (whole i x0 x1 x2) (emb_col o h h0 a b)).symm
  unfold whole
  dsimp only [ix2_0, ix2_1]
  have em : ∀ l : Fin 128, Heads.mate ⟨o + b.val, by omega⟩ l = ⟨o + l.val, by omega⟩ := fun l => Heads.mate_of ho b l _ _
  simp only [em]

theorem out3 (i : grid0.Coords) (x0 : Vec Ideal S512x1024 .bf16) (x1 : Vec Ideal S16x1024 .bf16) (x2 : Vec Ideal S4x1024 .f32) :
    out0_3 i x0 x1 x2 = whole i x0 x1 x2 := by
  rw [out_strips]
  funext y
  refine View.canon_apply_of_pieces (whole i x0 x1 x2) _ ?_ y (cover0_3 _ _ _ _ _ _ _ _ y)
  intro p hp
  simp only [List.mem_cons, List.not_mem_nil, or_false] at hp
  rcases hp with rfl | rfl | rfl | rfl | rfl | rfl | rfl | rfl
  all_goals exact fun x => whole_at i x0 x1 x2 _ (by decide) (by decide) (by decide) (by decide) (by decide) x

variable (m : (ℓ : Loc nD τ sig) → Buf (Elt Ideal) ℓ)

theorem coord : ∀ t : Fin cfg0.N, ((grid0.coords t) 0).val = t.val / 3 := by decide +kernel

theorem coord1 : ∀ t : Fin cfg0.N, ((grid0.coords t) 1).val = t.val % 3 := by decide +kernel

theorem idx0 : ∀ t : Fin cfg0.N, win0_0.index t = ![t.val / 3, t.val % 3] := by decide +kernel

theorem blk0 (c : Dev nD) (t : Fin cfg0.N) (a : Fin 512) (b : Fin 1024) (h : 512 * (t.val / 3) + a.val < 4096) :
    iblk m c 0 t (ix2 a b) = m ((c.tc : Thread nD τ).loc main_arg0) (ix2 ⟨512 * (t.val / 3) + a.val, h⟩ ⟨1024 * (t.val % 3) + b.val, by omega⟩) := by
  blk_simp [iblk]
  entry_read
  blk_ext [idx0 t]

theorem idx1 : ∀ t : Fin cfg0.N, win0_1.index t = ![t.val / 3 * 32 - 1, t.val % 3] := by decide +kernel

theorem blk1 (c : Dev nD) (t : Fin cfg0.N) (a : Fin 16) (b : Fin 1024) (h : 16 ≤ 512 * (t.val / 3)) :
    iblk m c 1 t (ix2 a b) = m ((c.tc : Thread nD τ).loc main_arg0) (ix2 ⟨512 * (t.val / 3) - 16 + a.val, by have hN : t.val < 24 := lt_of_lt_of_eq t.isLt N_0; omega⟩ ⟨1024 * (t.val % 3) + b.val, by omega⟩) := by
  have e : 512 * (t.val / 3) - 16 = 16 * (t.val / 3 * 32 - 1) := by omega
  simp only [e]
  blk_simp [iblk]
  entry_read
  blk_ext [idx1 t]

theorem idx2 : ∀ t : Fin cfg0.N, win0_2.index t = ![0, t.val % 3] := by decide +kernel

theorem blk2 (c : Dev nD) (t : Fin cfg0.N) (a : Fin 4) (b : Fin 1024) :
    iblk m c 2 t (ix2 a b) = m ((c.tc : Thread nD τ).loc main_arg1) (ix2 a ⟨1024 * (t.val % 3) + b.val, by omega⟩) := by
  blk_simp [iblk]
  entry_read
  blk_ext [idx2 t]

theorem idx3 : ∀ t : Fin cfg0.N, win0_3.index t = ![t.val / 3, t.val % 3] := by decide +kernel

theorem emb3 (t : Fin cfg0.N) (a : Fin 512) (b : Fin 1024) (h : 512 * (t.val / 3) + a.val < 4096) :
    (win0_3.blk t).view.emb (ix2 a b) = ix2 ⟨512 * (t.val / 3) + a.val, h⟩ ⟨1024 * (t.val % 3) + b.val, by omega⟩ := by
  blk_ext [idx3 t]

/-- The convolution through its gate, each head's row scaled. -/
def result (A : (⟨2, ![4096, 3072]⟩ : Shape).Idx → EReal) (W : (⟨2, ![4, 3072]⟩ : Shape).Idx → EReal) : Vec Ideal S4096x3072 .f32 := fun y =>
  silu (cconv4 A W (y 0 : Fin 4096).val (y 1 : Fin 3072)) * part ((y 1 : Fin 3072).val / 1024) (unit fun l => silu (cconv4 A W (y 0 : Fin 4096).val (mate3 (y 1 : Fin 3072) l)))

theorem final (c : Dev nD) : (dats m 0 c).arrAt 3 cfg0.N = result (m ((c.tc : Thread nD τ).loc main_arg0)) (m ((c.tc : Thread nD τ).loc main_arg1)) := by
  refine (dats m 0 c).arrAt_eq_of_covers 3 _ (by decide +kernel) fun t hf y => ?_
  obtain ⟨a, b, rfl⟩ : ∃ (a : Fin 512) (b : Fin 1024), y = ix2 a b := ⟨y 0, y 1, eq_ix2 y⟩
  have hN : t.val < 24 := lt_of_lt_of_eq t.isLt N_0
  have h : 512 * (t.val / 3) + a.val < 4096 := by omega
  blk_simp
  rw [after0_3, emb3 _ _ _ h, out3]
  unfold whole result
  dsimp only [ix2_0, ix2_1]
  rw [coord t, coord1 t, show (1024 * (t.val % 3) + b.val) / 1024 = t.val % 3 by omega]
  have hr : ∀ b' : Fin 1024, conv4 (fun k => iblk m c 2 t (ix2 k b')) (fun k => iblk m c 0 t (ix2 k b')) (fun k => mask (t.val / 3) (iblk m c 1 t (ix2 k b'))) a
      = cconv4 (m ((c.tc : Thread nD τ).loc main_arg0)) (m ((c.tc : Thread nD τ).loc main_arg1)) (512 * (t.val / 3) + a.val) ⟨1024 * (t.val % 3) + b'.val, by omega⟩ := fun b' =>
    conv4_rows (m ((c.tc : Thread nD τ).loc main_arg0)) (m ((c.tc : Thread nD τ).loc main_arg1)) (j := 1024 * (t.val % 3) + b'.val) (by omega) (by omega) (fun k => blk0 m c t k b' (by omega))
      (fun k h => blk1 m c t k b' (by omega)) (fun k => blk2 m c t k b') a
  refine congrArg₂ (fun x (y : Fin 128 → EReal) => silu x * part (t.val % 3) (unit y)) (hr b) (funext fun l => ?_)
  exact congrArg silu ((hr (Heads.mate b l)).trans (congrArg (cconv4 _ _ _) (mate3_of b (by omega) l).symm))

variable (ρ : Dev nD → PrngReg)

/-- THE KERNEL'S RUN: its result is the heads scaled, its arguments unchanged. -/
theorem run : θ_run (defs (F := Ideal)) (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.DnPreIdeal.Entries

end
-- ==== Proof.Pres.lean ====
/- DeltaNet's convolutions with the heads' scaling: each program's result is its reference's. -/
module

public import proofs.«01_k».proof.Defs
public import proofs.«01_k».proof.Proof.Gen.DnPreRefIdeal
public import proofs.«01_k».proof.Proof.Gen.DnPreRefIdeal.Run
public import proofs.«01_k».proof.Proof.DnPreValue
public import proofs.«01_k».proof.Proof.Gen.DnPreIdeal

@[expose] public section

set_option maxRecDepth 16384

noncomputable section

namespace Cert.Proof.Pres

open Idealize.ShloMosaic Idealize.ShloMosaic.TcCoe Idealize.SL.Sem Blocked Above

/-- The reference of DeltaNet's convolution leaves its arguments unchanged. -/
theorem frameDnPre : Cert.quiescent_DnPreRefIdeal (hDnPreRefIdeal := Cert.DnPreRefIdeal.Gen.facts) := fun m ρ _ =>
  (θ_run _ _ _).mono (fun r h => ⟨fun c => (h c).2, sem_eq_zero_of_no_sems (by decide) _⟩) (Cert.DnPreRefIdeal.Value.run m ρ)

/-- The reference's three parts side by side, each head's row scaled. -/
theorem heads (S : (⟨2, ![4096, 3072]⟩ : Shape).Idx → EReal) (a : Fin 4096) (b : Fin 3072) :
    (if h : b.val < 1024 then S (ix2 a ⟨b.val / 128 * 128 + b.val % 128, by omega⟩) *
          Ideal.rsqrt ((∑ x : Fin 128, S (ix2 a ⟨b.val / 128 * 128 + x.val, by omega⟩) * S (ix2 a ⟨b.val / 128 * 128 + x.val, by omega⟩)) + Ideal.ofBits .f32 897988541#32) * Ideal.ofBits .f32 1035273459#32
      else if h : b.val - 1024 < 1024 then S (ix2 a ⟨1024 + ((b.val - 1024) / 128 * 128 + (b.val - 1024) % 128), by omega⟩) *
          Ideal.rsqrt ((∑ x : Fin 128, S (ix2 a ⟨1024 + ((b.val - 1024) / 128 * 128 + x.val), by omega⟩) * S (ix2 a ⟨1024 + ((b.val - 1024) / 128 * 128 + x.val), by omega⟩)) + Ideal.ofBits .f32 897988541#32)
      else S (ix2 a ⟨2048 + (b.val - 1024 - 1024), by omega⟩))
    = S (ix2 a b) * part (b.val / 1024) (unit fun k => S (ix2 a (mate3 b k))) := by
  unfold part unit
  by_cases h : b.val < 1024
  · have e : (⟨b.val / 128 * 128 + b.val % 128, by omega⟩ : Fin 3072) = b := Fin.ext (by dsimp only; omega)
    rw [dif_pos h, if_pos (by omega), e]
    exact mul_assoc (G := EReal) _ _ _
  · rw [dif_neg h, if_neg (by omega)]
    by_cases h' : b.val - 1024 < 1024
    · have e : (⟨1024 + ((b.val - 1024) / 128 * 128 + (b.val - 1024) % 128), by omega⟩ : Fin 3072) = b := Fin.ext (by dsimp only; omega)
      have em : ∀ x : Fin 128, (⟨1024 + ((b.val - 1024) / 128 * 128 + x.val), by omega⟩ : Fin 3072) = mate3 b x := fun x => Fin.ext (by show _ = b.val / 128 * 128 + x.val; dsimp only; omega)
      rw [dif_pos h', if_pos (by omega), e]
      simp only [em]
    · have e : (⟨2048 + (b.val - 1024 - 1024), by omega⟩ : Fin 3072) = b := Fin.ext (by dsimp only; omega)
      rw [dif_neg h', if_neg (by omega), e, mul_one]

/-- DeltaNet's convolution with the heads' scaling is the reference's. -/
theorem valueDnPre : Cert.algebraic_DnPreIdeal_DnPreRefIdeal (hDnPreIdeal := Cert.DnPreIdeal.Gen.facts)
    (hDnPreRefIdeal := Cert.DnPreRefIdeal.Gen.facts) := fun m ρ m' ρ' _ hag => by
  refine ⟨fun c => _, Cert.DnPreIdeal.Entries.run m ρ,
    (θ_run _ _ _).mono (fun r h c => ⟨(h c).1.trans ?_, (h c).2⟩) (Cert.DnPreRefIdeal.Value.run m' ρ')⟩
  unfold Cert.DnPreRefIdeal.Value.res_main_v55
  rw [(hag c).1, (hag c).2]
  funext y
  obtain ⟨a, b, rfl⟩ : ∃ (a : Fin 4096) (b : Fin 3072), y = ix2 a b := ⟨y 0, y 1, eq_ix2 y⟩
  generalize hS : (mulf (addf (addf (addf _ _) _) _) _ : FVec Ideal Cert.DnPreRefIdeal.S4096x3072 .f32) = S
  have hs : ∀ b : Fin 3072, S (ix2 a b) = silu (cconv4 (m (c.tc.loc Cert.DnPreIdeal.main_arg0)) (m (c.tc.loc Cert.DnPreIdeal.main_arg1)) a.val b) := fun b => by
    rw [← hS]
    pointwise
    rw [pad4 (m (c.tc.loc Cert.DnPreIdeal.main_arg0)) (m (c.tc.loc Cert.DnPreIdeal.main_arg1)) a b, Gate.gate_neg]
    rfl
  pointwise
  refine (heads S a b).trans ?_
  unfold Cert.DnPreIdeal.Entries.result
  dsimp only [ix2_0, ix2_1]
  simp only [hs]

end Cert.Proof.Pres

end
-- ==== Proof.DnPreBwdStrips.lean ====
/- The gradient of DeltaNet's activation: what the program computes on a head's lanes, and its two results' stores from that. -/
module

public import proofs.«01_k».proof.Proof.Gen.DnPreBwdIdeal.Value
public import Idealize.ShloMosaic.Lib.Pipeline.ReadBack
public import proofs.«01_k».proof.Proof.Above4

@[expose] public section

set_option maxRecDepth 16384

noncomputable section

namespace Cert.DnPreBwdIdeal.Entries

open Cert.DnPreBwdIdeal Cert.DnPreBwdIdeal.Gen Idealize.ShloMosaic Idealize.ShloMosaic.TcCoe Idealize.SL.Sem Blocked Above

/-- The rows' numbers. -/
def rowNo : IVec S256x128 32 := iota .tc S256x128 32 [0] iota_S256x128_d0_w32

/-- A block's rows moved down by one, the last row before the block in front. -/
def down1 (c : FVec Ideal S256x128 .f32) (p : FVec Ideal S16x128 .f32) : FVec Ideal S256x128 .f32 :=
  concatenate S256x128 0 [⟨S8x128, (select (cmpi .eq (extractStridedSlice S8x128 ![0, 0] rowNo slices_S256x128_o0_0_S8x128) (broadcast S8x128 0#32))
      (broadcastTo S8x128 (shapeCast S1x128 (extractStridedSlice S1x128 ![15, 0] p slices_S16x128_o15_0_S1x128) shapeCasts_S1x128_S1x128) broadcasts_S1x128_S8x128)
      (extractStridedSlice S8x128 ![0, 0] (dynamicRotate 0 1#32 none c rotates_S256x128_d0) slices_S256x128_o0_0_S8x128))⟩,
    ⟨S248x128, extractStridedSlice S248x128 ![8, 0] (dynamicRotate 0 1#32 none c rotates_S256x128_d0) slices_S256x128_o8_0_S248x128⟩] concatenates_S8x128_S248x128_S256x128_d0

theorem down1_apply (c : FVec Ideal S256x128 .f32) (p : FVec Ideal S16x128 .f32) (a : Fin 256) (b : Fin 128) :
    down1 c p (ix2 a b) = above 1 (fun k => c (ix2 k b)) (fun k => p (ix2 k b)) a := by
  unfold down1 rowNo
  pointwise
  exact down_one (R := 256) (c := fun k => c (ix2 k b)) (p := fun k => p (ix2 k b)) (a := a) (by decide)

/-- A block's rows moved down by two, the last two rows before the block in front. -/
def down2 (c : FVec Ideal S256x128 .f32) (p : FVec Ideal S16x128 .f32) : FVec Ideal S256x128 .f32 :=
  concatenate S256x128 0 [⟨S8x128, (select (cmpi .eq (extractStridedSlice S8x128 ![0, 0] rowNo slices_S256x128_o0_0_S8x128) (broadcast S8x128 1#32))
      (broadcastTo S8x128 (shapeCast S1x128 (extractStridedSlice S1x128 ![15, 0] p slices_S16x128_o15_0_S1x128) shapeCasts_S1x128_S1x128) broadcasts_S1x128_S8x128)
      (select (cmpi .eq (extractStridedSlice S8x128 ![0, 0] rowNo slices_S256x128_o0_0_S8x128) (broadcast S8x128 0#32))
      (broadcastTo S8x128 (shapeCast S1x128 (extractStridedSlice S1x128 ![14, 0] p slices_S16x128_o14_0_S1x128) shapeCasts_S1x128_S1x128) broadcasts_S1x128_S8x128)
      (extractStridedSlice S8x128 ![0, 0] (dynamicRotate 0 2#32 none c rotates_S256x128_d0) slices_S256x128_o0_0_S8x128)))⟩,
    ⟨S248x128, extractStridedSlice S248x128 ![8, 0] (dynamicRotate 0 2#32 none c rotates_S256x128_d0) slices_S256x128_o8_0_S248x128⟩] concatenates_S8x128_S248x128_S256x128_d0

theorem down2_apply (c : FVec Ideal S256x128 .f32) (p : FVec Ideal S16x128 .f32) (a : Fin 256) (b : Fin 128) :
    down2 c p (ix2 a b) = above 2 (fun k => c (ix2 k b)) (fun k => p (ix2 k b)) a := by
  unfold down2 rowNo
  pointwise
  exact down_two (R := 256) (c := fun k => c (ix2 k b)) (p := fun k => p (ix2 k b)) (a := a) (by decide)

/-- A block's rows moved down by three, the last three rows before the block in front. -/
def down3 (c : FVec Ideal S256x128 .f32) (p : FVec Ideal S16x128 .f32) : FVec Ideal S256x128 .f32 :=
  concatenate S256x128 0 [⟨S8x128, (select (cmpi .eq (extractStridedSlice S8x128 ![0, 0] rowNo slices_S256x128_o0_0_S8x128) (broadcast S8x128 2#32))
      (broadcastTo S8x128 (shapeCast S1x128 (extractStridedSlice S1x128 ![15, 0] p slices_S16x128_o15_0_S1x128) shapeCasts_S1x128_S1x128) broadcasts_S1x128_S8x128)
      (select (cmpi .eq (extractStridedSlice S8x128 ![0, 0] rowNo slices_S256x128_o0_0_S8x128) (broadcast S8x128 1#32))
      (broadcastTo S8x128 (shapeCast S1x128 (extractStridedSlice S1x128 ![14, 0] p slices_S16x128_o14_0_S1x128) shapeCasts_S1x128_S1x128) broadcasts_S1x128_S8x128)
      (select (cmpi .eq (extractStridedSlice S8x128 ![0, 0] rowNo slices_S256x128_o0_0_S8x128) (broadcast S8x128 0#32))
      (broadcastTo S8x128 (shapeCast S1x128 (extractStridedSlice S1x128 ![13, 0] p slices_S16x128_o13_0_S1x128) shapeCasts_S1x128_S1x128) broadcasts_S1x128_S8x128)
      (extractStridedSlice S8x128 ![0, 0] (dynamicRotate 0 3#32 none c rotates_S256x128_d0) slices_S256x128_o0_0_S8x128))))⟩,
    ⟨S248x128, extractStridedSlice S248x128 ![8, 0] (dynamicRotate 0 3#32 none c rotates_S256x128_d0) slices_S256x128_o8_0_S248x128⟩] concatenates_S8x128_S248x128_S256x128_d0

theorem down3_apply (c : FVec Ideal S256x128 .f32) (p : FVec Ideal S16x128 .f32) (a : Fin 256) (b : Fin 128) :
    down3 c p (ix2 a b) = above 3 (fun k => c (ix2 k b)) (fun k => p (ix2 k b)) a := by
  unfold down3 rowNo
  pointwise
  exact down_three (R := 256) (c := fun k => c (ix2 k b)) (p := fun k => p (ix2 k b)) (a := a) (by decide)

/-- A weight along the rows. -/
def wide0 (w : Vec Ideal S4x128 .f32) : FVec Ideal S256x128 .f32 := broadcastTo S256x128 (extractStridedSlice S1x128 ![0, 0] w slices_S4x128_o0_0_S1x128) broadcasts_S1x128_S256x128
def wide1 (w : Vec Ideal S4x128 .f32) : FVec Ideal S256x128 .f32 := broadcastTo S256x128 (extractStridedSlice S1x128 ![1, 0] w slices_S4x128_o1_0_S1x128) broadcasts_S1x128_S256x128
def wide2 (w : Vec Ideal S4x128 .f32) : FVec Ideal S256x128 .f32 := broadcastTo S256x128 (extractStridedSlice S1x128 ![2, 0] w slices_S4x128_o2_0_S1x128) broadcasts_S1x128_S256x128
def wide3 (w : Vec Ideal S4x128 .f32) : FVec Ideal S256x128 .f32 := broadcastTo S256x128 (extractStridedSlice S1x128 ![3, 0] w slices_S4x128_o3_0_S1x128) broadcasts_S1x128_S256x128

/-- The causal convolution of a block's rows: `c` the rows, `p` those before, `w` the four weights. -/
def conv (c : FVec Ideal S256x128 .f32) (p : FVec Ideal S16x128 .f32) (w : Vec Ideal S4x128 .f32) : FVec Ideal S256x128 .f32 :=
  addf (addf (addf (mulf (wide0 w) (down3 c p)) (mulf (wide1 w) (down2 c p))) (mulf (wide2 w) (down1 c p))) (mulf (wide3 w) c)

/-- The rows as the program takes them up. -/
def take (c : Vec Ideal S256x128 .bf16) : FVec Ideal S256x128 .f32 := extf .f32 (shapeCast S256x128 c shapeCasts_S256x128_S256x128) bitsLt_bf16_f32

def take16 (p : Vec Ideal S16x128 .bf16) : FVec Ideal S16x128 .f32 := extf .f32 (shapeCast S16x128 p shapeCasts_S16x128_S16x128) bitsLt_bf16_f32

/-- The rows before the block, zeros before the first. -/
def prev (i : grid0.Coords) (p : Vec Ideal S16x128 .bf16) : FVec Ideal S16x128 .f32 :=
  Scalar.select (Scalar.cmpi .eq (BitVec.ofNat 32 (i 1).val) 0#32) (broadcast S16x128 (Scalar.ofBits .f32 0x00000000#32)) (take16 p)

def one : FVec Ideal S256x128 .f32 := broadcast S256x128 (Scalar.ofBits .f32 0x3F800000#32)

/-- The gate. -/
def sigma (x : FVec Ideal S256x128 .f32) : FVec Ideal S256x128 .f32 := divf one (addf one (exp (subf (broadcast S256x128 (Scalar.ofBits .f32 0x00000000#32)) x)))

/-- One over each row's length. -/
def root (s : FVec Ideal S256x128 .f32) : FVec Ideal S256x1 .f32 :=
  rsqrt (addf (shapeCast S256x1 (multiReduction .add [1] S256 (mulf s s) 0x00000000#32 reduces_S256x128_S256 (.inl rfl) rfl) shapeCasts_S256_S256x1) (broadcast S256x1 (Scalar.ofBits .f32 0x358637BD#32)))

/-- The gradient that comes in for the block's part. -/
def incoming (i : grid0.Coords) (q k v : Vec Ideal S256x128 .f32) : FVec Ideal S256x128 .f32 :=
  Scalar.select (Scalar.cmpi .eq (BitVec.ofNat 32 (i 0).val) 0#32) (mulf (q : FVec Ideal S256x128 .f32) (broadcast S256x128 (Scalar.ofBits .f32 0x3DB504F3#32)))
    (Scalar.select (Scalar.cmpi .eq (BitVec.ofNat 32 (i 0).val) 1#32) k v)

/-- The rows over their length. -/
def normed (s : FVec Ideal S256x128 .f32) : FVec Ideal S256x128 .f32 := mulf s (broadcastTo S256x128 (root s) broadcasts_S256x1_S256x128)

/-- The gradient through that. -/
def headGrad (s d : FVec Ideal S256x128 .f32) : FVec Ideal S256x128 .f32 :=
  mulf (broadcastTo S256x128 (root s) broadcasts_S256x1_S256x128) (subf d (mulf (normed s) (broadcastTo S256x128 (shapeCast S256x1 (multiReduction .add [1] S256 (mulf (normed s) d) 0x00000000#32 reduces_S256x128_S256 (.inl rfl) rfl)
    shapeCasts_S256_S256x1) broadcasts_S256x1_S256x128)))

/-- The gradient before the scaling. -/
def unscaled (i : grid0.Coords) (s d : FVec Ideal S256x128 .f32) : FVec Ideal S256x128 .f32 :=
  Scalar.select (Scalar.cmpi .slt (BitVec.ofNat 32 (i 0).val) 2#32) (headGrad s d) d

/-- The gradient before the activation, `c` what is activated. -/
def rowGrad (i : grid0.Coords) (c d : FVec Ideal S256x128 .f32) : FVec Ideal S256x128 .f32 :=
  mulf (unscaled i (mulf c (sigma c)) d) (mulf (sigma c) (addf one (mulf c (subf one (sigma c)))))

/-- Eight rows' sums, the first `n + 1` eights of rows. -/
def fold (a : FVec Ideal S256x128 .f32) : (n : ℕ) → n < 32 → FVec Ideal S8x128 .f32
  | 0, _ => extractStridedSlice S8x128 ![0, 0] a slices_S256x128_o0_0_S8x128
  | n + 1, h => addf (fold a n (by omega)) (extractStridedSlice S8x128 ![8 * (n + 1), 0] a (fits n h))
where
  fits (n : ℕ) (h : n + 1 < 32) : S256x128.Slices ![8 * (n + 1), 0] S8x128 :=
    ⟨rfl, fun q => by match q with | 0 => show 8 * (n + 1) + 8 ≤ 256; omega | 1 => show 0 + 128 ≤ 128; omega⟩

/-- A row of the weights' gradients, `A` and `B` the two halves' terms added to it. -/
def addRow (x : Vec Ideal S1x128 .f32) (A B : FVec Ideal S256x128 .f32) : FVec Ideal S1x128 .f32 :=
  addf (shapeCast S1x128 x shapeCasts_S1x128_S1x128) (shapeCast S1x128 (multiReduction .add [0] S128 (addf (addf (broadcast S8x128 (Scalar.ofBits .f32 0x00000000#32)) (fold A 31 (by decide))) (fold B 31 (by decide)))
    0x00000000#32 reduces_S8x128_S128 (.inl rfl) rfl) shapeCasts_S128_S1x128)

/-- Rows `r` to `r + n` of 128 columns from `o` on are in the block. -/
theorem fit {r n R o : ℕ} (hr : r + n ≤ R) (h : o + 128 ≤ 1024) : ∀ q, (![r, o] : Fin 2 → ℕ) q + (![n, 128] : Fin 2 → ℕ) q ≤ (![R, 1024] : Fin 2 → ℕ) q := by
  intro q
  match q with
  | 0 => exact hr
  | 1 => exact h

section Store

variable (i : grid0.Coords) (x0 x1 x2 : Vec Ideal S512x1024 .f32) (x3 : Vec Ideal S512x1024 .bf16) (x4 : Vec Ideal S16x1024 .bf16) (x5 : Vec Ideal S4x1024 .f32)

/-- The first and the second half of a block's rows, on a head's lanes. -/
def top {e : EltTy} (x : Vec Ideal S512x1024 e) (o : ℕ) (h : o + 128 ≤ 1024) : Vec Ideal S256x128 e := View.ld x (Rect.unit (s := S512x1024) ![0, o] ![256, 128] (fit (by decide) h))
def bot {e : EltTy} (x : Vec Ideal S512x1024 e) (o : ℕ) (h : o + 128 ≤ 1024) : Vec Ideal S256x128 e := View.ld x (Rect.unit (s := S512x1024) ![256, o] ![256, 128] (fit (by decide) h))

/-- The rows before each half. -/
def preTop (x : Vec Ideal S16x1024 .bf16) (o : ℕ) (h : o + 128 ≤ 1024) : FVec Ideal S16x128 .f32 := prev i (View.ld x (Rect.unit (s := S16x1024) ![0, o] ![16, 128] (fit (by decide) h)))
def preBot (x : Vec Ideal S512x1024 .bf16) (o : ℕ) (h : o + 128 ≤ 1024) : FVec Ideal S16x128 .f32 := take16 (View.ld x (Rect.unit (s := S512x1024) ![240, o] ![16, 128] (fit (by decide) h)))

def lanes (w : Vec Ideal S4x1024 .f32) (o : ℕ) (h : o + 128 ≤ 1024) : Vec Ideal S4x128 .f32 := View.ld w (Rect.unit (s := S4x1024) ![0, o] ![4, 128] (fit (by decide) h))

/-- The gradient on each half. -/
def dTop (o : ℕ) (h : o + 128 ≤ 1024) := rowGrad i (conv (take (top x3 o h)) (preTop i x4 o h) (lanes x5 o h)) (incoming i (top x0 o h) (top x1 o h) (top x2 o h))
def dBot (o : ℕ) (h : o + 128 ≤ 1024) := rowGrad i (conv (take (bot x3 o h)) (preBot x3 o h) (lanes x5 o h)) (incoming i (bot x0 o h) (bot x1 o h) (bot x2 o h))

/-- The stores of a head's lanes of it. -/
def storeD (o : ℕ) (h : o + 128 ≤ 1024) : List (View.Piece (Elt Ideal) S512x1024 .bf16) :=
  [⟨Rect.unit (s := S512x1024) ![256, o] ![256, 128] (fit (by decide) h), truncf .bf16 (dBot i x0 x1 x2 x3 x5 o h) bitsLt_bf16_f32⟩,
   ⟨Rect.unit (s := S512x1024) ![0, o] ![256, 128] (fit (by decide) h), truncf .bf16 (dTop i x0 x1 x2 x3 x4 x5 o h) bitsLt_bf16_f32⟩]

/-- The stores of a head's lanes of the weights' gradient, from the terms of each half: `c` the halves' rows, `p` the rows before. -/
def storeW (xo : Vec Ideal S4x1024 .f32) (dT dB cT cB : FVec Ideal S256x128 .f32) (pT pB : FVec Ideal S16x128 .f32) (o : ℕ) (h : o + 128 ≤ 1024) : List (View.Piece (Elt Ideal) S4x1024 .f32) :=
  [⟨Rect.unit (s := S4x1024) ![3, o] ![1, 128] (fit (by decide) h), addRow (View.ld xo (Rect.unit (s := S4x1024) ![3, o] ![1, 128] (fit (by decide) h))) (mulf dT cT) (mulf dB cB)⟩,
   ⟨Rect.unit (s := S4x1024) ![2, o] ![1, 128] (fit (by decide) h), addRow (View.ld xo (Rect.unit (s := S4x1024) ![2, o] ![1, 128] (fit (by decide) h))) (mulf dT (down1 cT pT)) (mulf dB (down1 cB pB))⟩,
   ⟨Rect.unit (s := S4x1024) ![1, o] ![1, 128] (fit (by decide) h), addRow (View.ld xo (Rect.unit (s := S4x1024) ![1, o] ![1, 128] (fit (by decide) h))) (mulf dT (down2 cT pT)) (mulf dB (down2 cB pB))⟩,
   ⟨Rect.unit (s := S4x1024) ![0, o] ![1, 128] (fit (by decide) h), addRow (View.ld xo (Rect.unit (s := S4x1024) ![0, o] ![1, 128] (fit (by decide) h))) (mulf dT (down3 cT pT)) (mulf dB (down3 cB pB))⟩]

def storeWD (xo : Vec Ideal S4x1024 .f32) (o : ℕ) (h : o + 128 ≤ 1024) : List (View.Piece (Elt Ideal) S4x1024 .f32) :=
  storeW xo (dTop i x0 x1 x2 x3 x4 x5 o h) (dBot i x0 x1 x2 x3 x5 o h) (take (top x3 o h)) (take (bot x3 o h)) (preTop i x4 o h) (preBot x3 o h) o h

/-- The stores of the first `n` heads, the last first. -/
def cols {S : Shape} {e : EltTy} (f : (o : ℕ) → o + 128 ≤ 1024 → List (View.Piece (Elt Ideal) S e)) : (n : ℕ) → n ≤ 8 → List (View.Piece (Elt Ideal) S e)
  | 0, _ => []
  | n + 1, h => f (128 * n) (by omega) ++ cols f n (by omega)

end Store

theorem stores_A6 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S4x1024 .f32) (harg7 : arg7.IsWhole) (arg8 : Memref sig .tc .vmem S512x1024 .bf16) (harg8 : arg8.IsWhole) (arg9 : Memref sig .tc .vmem S4x1024 .f32) (harg9 : arg9.IsWhole) (hc0 : cond0_0 i)
    (x0 : Vec Ideal S512x1024 .f32) (x1 : Vec Ideal S512x1024 .f32) (x2 : Vec Ideal S512x1024 .f32) (x3 : Vec Ideal S512x1024 .bf16) (x4 : Vec Ideal S16x1024 .bf16) (x5 : Vec Ideal S4x1024 .f32) :
    out0_A_6 c i arg2 harg2 arg3 harg3 arg4 harg4 arg5 harg5 arg6 harg6 arg7 harg7 arg8 harg8 arg9 harg9 hc0 x0 x1 x2 x3 x4 x5 = View.canon (cols (storeD i x0 x1 x2 x3 x4 x5) 8 (by decide)) := by
  frame_out
  rfl

theorem stores_B6 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S4x1024 .f32) (harg7 : arg7.IsWhole) (arg8 : Memref sig .tc .vmem S512x1024 .bf16) (harg8 : arg8.IsWhole) (arg9 : Memref sig .tc .vmem S4x1024 .f32) (harg9 : arg9.IsWhole) (hc0 : ¬cond0_0 i)
    (x0 : Vec Ideal S512x1024 .f32) (x1 : Vec Ideal S512x1024 .f32) (x2 : Vec Ideal S512x1024 .f32) (x3 : Vec Ideal S512x1024 .bf16) (x4 : Vec Ideal S16x1024 .bf16) (x5 : Vec Ideal S4x1024 .f32) (xo7 : Vec Ideal S4x1024 .f32) :
    out0_B_6 c i arg2 harg2 arg3 harg3 arg4 harg4 arg5 harg5 arg6 harg6 arg7 harg7 arg8 harg8 arg9 harg9 hc0 x0 x1 x2 x3 x4 x5 xo7 = View.canon (cols (storeD i x0 x1 x2 x3 x4 x5) 8 (by decide)) := by
  frame_out
  rfl

theorem stores_A7 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S4x1024 .f32) (harg7 : arg7.IsWhole) (arg8 : Memref sig .tc .vmem S512x1024 .bf16) (harg8 : arg8.IsWhole) (arg9 : Memref sig .tc .vmem S4x1024 .f32) (harg9 : arg9.IsWhole) (hc0 : cond0_0 i)
    (x0 : Vec Ideal S512x1024 .f32) (x1 : Vec Ideal S512x1024 .f32) (x2 : Vec Ideal S512x1024 .f32) (x3 : Vec Ideal S512x1024 .bf16) (x4 : Vec Ideal S16x1024 .bf16) (x5 : Vec Ideal S4x1024 .f32) :
    out0_A_7 c i arg2 harg2 arg3 harg3 arg4 harg4 arg5 harg5 arg6 harg6 arg7 harg7 arg8 harg8 arg9 harg9 hc0 x0 x1 x2 x3 x4 x5 = View.canon (cols (storeWD i x0 x1 x2 x3 x4 x5 (k0_pay2 (F := Ideal))) 8 (by decide) ++ [⟨Rect.unit (s := S4x1024) ![0, 0] S4x1024.size inb_S4x1024_S4x1024_0_0, (k0_pay2 (F := Ideal))⟩]) := by
  frame_open
  simp (disch := decide) only [↓ View.readCov_skip, ↓ View.readCov_cons_toLoadRect, ↓ View.readCov_fill]
  frame_out
  rfl

theorem stores_B7 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S4x1024 .f32) (harg7 : arg7.IsWhole) (arg8 : Memref sig .tc .vmem S512x1024 .bf16) (harg8 : arg8.IsWhole) (arg9 : Memref sig .tc .vmem S4x1024 .f32) (harg9 : arg9.IsWhole) (hc0 : ¬cond0_0 i)
    (x0 : Vec Ideal S512x1024 .f32) (x1 : Vec Ideal S512x1024 .f32) (x2 : Vec Ideal S512x1024 .f32) (x3 : Vec Ideal S512x1024 .bf16) (x4 : Vec Ideal S16x1024 .bf16) (x5 : Vec Ideal S4x1024 .f32) (xo7 : Vec Ideal S4x1024 .f32) :
    out0_B_7 c i arg2 harg2 arg3 harg3 arg4 harg4 arg5 harg5 arg6 harg6 arg7 harg7 arg8 harg8 arg9 harg9 hc0 x0 x1 x2 x3 x4 x5 xo7 = View.canon (cols (storeWD i x0 x1 x2 x3 x4 x5 xo7) 8 (by decide)) := by
  frame_out
  rfl

end Cert.DnPreBwdIdeal.Entries

end
-- ==== Proof.Above5.lean ====
/- The gradient of a head's scaling and of its activation. -/
module

public import proofs.«01_k».proof.Proof.Above4
public import proofs.«01_k».proof.Proof.Rms
public import proofs.«01_k».proof.Proof.Scan
public import proofs.«01_k».proof.Proof.Posts

@[expose] public section

noncomputable section

namespace Above

open Idealize.ShloMosaic Blocked

/-- The gradient through the division of a head's row by its length: `s` the row, `d` the result's gradient. -/
def headG (s d : Fin 128 → EReal) (l : Fin 128) : EReal := unit s * (d l - s l * unit s * ∑ k, s k * unit s * d k)

theorem div_one' (x : EReal) : Ideal.div x 1 = x := by
  simpa using Ideal.div_coe (x := x) (y := 1) one_ne_zero

theorem ms_one (e : EReal) (s : Fin 128 → EReal) : Rms.ms 1 e s = (∑ k, s k * s k) + e := by
  unfold Rms.ms
  rw [div_one']

/-- The chain rule's three terms are that gradient. -/
theorem headG_eq (s d : Fin 128 → EReal) (l : Fin 128) :
    d l * unit s + s l * ((∑ k, s k * d k) * (Ideal.ofBits .f32 3204448256#32 * Ideal.div (unit s) ((∑ k, s k * s k) + Ideal.ofBits .f32 897988541#32)))
      + (∑ k, s k * d k) * (Ideal.ofBits .f32 3204448256#32 * Ideal.div (unit s) ((∑ k, s k * s k) + Ideal.ofBits .f32 897988541#32)) * s l = headG s d l := by
  obtain ⟨e, he, h⟩ := Rms.small
  have g := Rms.grad (N := 1) one_pos he s d (d l) (s l)
  rw [← h, ← Rms.half] at g
  simp only [EReal.coe_one, ms_one, div_one'] at g
  refine g.symm.trans ?_
  unfold headG unit
  rw [Finset.sum_congr rfl fun k _ => mul_comm (d k) _]

/-- It is a real number where the result's gradient is, whatever the row. -/
theorem headG_real (s : Fin 128 → EReal) {d : Fin 128 → EReal} (hd : ∀ k, Cert.Scan.Fin' (d k)) (l : Fin 128) : Cert.Scan.Fin' (headG s d l) := by
  obtain ⟨e, he, h⟩ := Rms.small
  have hr := Rms.root (N := 1) one_pos he s
  rw [← h] at hr
  simp only [EReal.coe_one, ms_one] at hr
  unfold headG
  rcases hr with ⟨h0, _⟩ | ⟨v, _, hm, hu⟩
  · rw [show unit s = 0 from h0, zero_mul]
    exact Cert.Scan.Fin'.zero
  · have ht : (∑ k, s k * s k) ≠ ⊤ := fun e' => by
      rw [e', h, EReal.top_add_coe] at hm
      exact EReal.coe_ne_top v hm.symm
    have hs : ∀ k, Cert.Scan.Fin' (s k) := fun k => by
      have le : s k * s k ≤ ∑ k, s k * s k := Finset.single_le_sum (f := fun k => s k * s k) (fun i _ => Rms.sq_nonneg _) (Finset.mem_univ k)
      generalize s k = x at le
      induction x with
      | coe x => exact ⟨x, rfl⟩
      | top => exact absurd (top_le_iff.mp (by simpa using le)) ht
      | bot => exact absurd (top_le_iff.mp (by simpa using le)) ht
    have hu' : Cert.Scan.Fin' (unit s) := ⟨_, hu⟩
    exact hu'.mul ((hd l).sub (((hs l).mul hu').mul (Cert.Scan.Fin'.sum _ _ fun k _ => ((hs k).mul hu').mul (hd k))))

/-- The gradient that comes in for a part: the queries' through their scale, the keys' or the values'. -/
def pick (j : ℕ) (q k v : EReal) : EReal := if j = 0 then q * Ideal.ofBits .f32 0x3DB504F3#32 else if j = 1 then k else v

theorem pick_congr {j : ℕ} (hj : j < 3) {q k v q' k' v' : EReal} (h0 : j = 0 → q = q') (h1 : j = 1 → k = k') (h2 : j = 2 → v = v') : pick j q k v = pick j q' k' v' := by
  unfold pick
  by_cases e0 : j = 0
  · rw [if_pos e0, if_pos e0, h0 e0]
  · rw [if_neg e0, if_neg e0]
    by_cases e1 : j = 1
    · rw [if_pos e1, if_pos e1, h1 e1]
    · rw [if_neg e1, if_neg e1, h2 (by omega)]

theorem word_less {j : ℕ} (hj : j < 3) (x y : EReal) : Scalar.select (Scalar.cmpi .slt (BitVec.ofNat 32 j) 2#32) x y = if j < 2 then x else y := by
  interval_cases j <;> rfl

/-- The gradient before the scaling: of the queries and keys through it, of the values as it comes. -/
def before (j : ℕ) (s d : Fin 128 → EReal) (l : Fin 128) : EReal := if j < 2 then headG s d l else d l

/-- The gradient before the activation: `c` what is activated. -/
def line4 (j : ℕ) (c d : Fin 128 → EReal) (l : Fin 128) : EReal :=
  before j (fun k => silu (c k)) d l * (Gate.gate (c l) * (1 + c l * (1 - Gate.gate (c l))))

theorem line4_congr {j j' : ℕ} {c c' d d' : Fin 128 → EReal} {l l' : Fin 128} (hj : j = j') (hc : ∀ k, c k = c' k) (hd : ∀ k, d k = d' k) (hl : l = l') : line4 j c d l = line4 j' c' d' l' := by
  rw [hj, funext hc, funext hd, hl]

theorem before_real (j : ℕ) (s : Fin 128 → EReal) {d : Fin 128 → EReal} (hd : ∀ k, Cert.Scan.Fin' (d k)) (l : Fin 128) : Cert.Scan.Fin' (before j s d l) := by
  unfold before
  split
  · exact headG_real s hd l
  · exact hd l

/-- The product rule's sum is the kernel's product. -/
theorem line4_eq (j : ℕ) (c : Fin 128 → EReal) {d : Fin 128 → EReal} (hd : ∀ k, Cert.Scan.Fin' (d k)) (l : Fin 128) :
    before j (fun k => silu (c k)) d l * Gate.gate (c l) + c l * before j (fun k => silu (c k)) d l * (Gate.gate (c l) * (1 - Gate.gate (c l))) = line4 j c d l := by
  obtain ⟨p, hp⟩ := before_real j (fun k => silu (c k)) hd l
  unfold line4
  rw [hp]
  exact (Cert.Proof.Posts.line p (c l)).symm

/-- A column's lane in its head, and its number in its part. -/
def lane3 (b : Fin 3072) : Fin 128 := ⟨b.val % 128, by omega⟩

def col3 (b : Fin 3072) (k : Fin 128) : Fin 1024 := ⟨b.val % 1024 / 128 * 128 + k.val, by omega⟩

/-- The sums the reference takes for a convolution's four weights, row `k` of its result. -/
theorem taps4 {N : ℕ} (E T0 T1 T2 T3 A : (⟨2, ![4096, N]⟩ : Shape).Idx → EReal) (k : Fin 4) (b : Fin N)
    (h0 : ∀ n, T0 (ix2 n b) = back A 3 n.val b.val) (h1 : ∀ n, T1 (ix2 n b) = back A 2 n.val b.val) (h2 : ∀ n, T2 (ix2 n b) = back A 1 n.val b.val) (h3 : ∀ n, T3 (ix2 n b) = back A 0 n.val b.val) :
    (((if _h : (3 ≤ k.val ∧ k.val - 3 < 1) then ∑ _x : Fin 1, ∑ x : Fin 4096, E (ix2 x b) * T3 (ix2 x b) else 0)
      + if _h : (2 ≤ k.val ∧ k.val - 2 < 1) then ∑ _x : Fin 1, ∑ x : Fin 4096, E (ix2 x b) * T2 (ix2 x b) else 0)
      + if _h : (1 ≤ k.val ∧ k.val - 1 < 1) then ∑ _x : Fin 1, ∑ x : Fin 4096, E (ix2 x b) * T1 (ix2 x b) else 0)
      + (if _h : k.val < 1 then ∑ _x : Fin 1, ∑ x : Fin 4096, E (ix2 x b) * T0 (ix2 x b) else 0)
    = ∑ n : Fin 4096, E (ix2 n b) * back A (3 - k.val) n.val b.val := by
  match k with
  | 3 =>
    rw [dif_pos ⟨by decide, by decide⟩, dif_neg (by decide), dif_neg (by decide), dif_neg (by decide), add_zero, add_zero, add_zero, Fin.sum_univ_one]
    exact Finset.sum_congr rfl fun n _ => congrArg (E (ix2 n b) * ·) (h3 n)
  | 2 =>
    rw [dif_neg (by decide), dif_pos ⟨by decide, by decide⟩, dif_neg (by decide), dif_neg (by decide), zero_add, add_zero, add_zero, Fin.sum_univ_one]
    exact Finset.sum_congr rfl fun n _ => congrArg (E (ix2 n b) * ·) (h2 n)
  | 1 =>
    rw [dif_neg (by decide), dif_neg (by decide), dif_pos ⟨by decide, by decide⟩, dif_neg (by decide), zero_add, zero_add, add_zero, Fin.sum_univ_one]
    exact Finset.sum_congr rfl fun n _ => congrArg (E (ix2 n b) * ·) (h1 n)
  | 0 =>
    rw [dif_neg (by decide), dif_neg (by decide), dif_neg (by decide), dif_pos (by decide), zero_add, zero_add, zero_add, Fin.sum_univ_one]
    exact Finset.sum_congr rfl fun n _ => congrArg (E (ix2 n b) * ·) (h0 n)

end Above

end
-- ==== Proof.DnPreBwdValue.lean ====
/- The gradient of DeltaNet's activation and of the heads' scaling, entry by entry. -/
module

public import proofs.«01_k».proof.Proof.DnPreBwdStrips
public import proofs.«01_k».proof.Proof.Above5

@[expose] public section

set_option maxRecDepth 16384

noncomputable section

namespace Cert.DnPreBwdIdeal.Entries

open Cert.DnPreBwdIdeal Cert.DnPreBwdIdeal.Gen Idealize.ShloMosaic Idealize.ShloMosaic.TcCoe Idealize.SL.Sem Blocked Above

theorem take_apply (c : Vec Ideal S256x128 .bf16) (y : S256x128.Idx) : take c y = c y := by
  unfold take
  pointwise

theorem take16_apply (c : Vec Ideal S16x128 .bf16) (y : S16x128.Idx) : take16 c y = c y := by
  unfold take16
  pointwise

theorem prev_apply (i : grid0.Coords) (p : Vec Ideal S16x128 .bf16) (y : S16x128.Idx) : prev i p y = mask (i 1).val (p y) := by
  have hi : (i 1).val < 8 := (i 1).isLt
  unfold prev
  refine Eq.trans ?_ (word_mask hi _)
  rw [← take16_apply p y]
  pointwise

theorem conv_apply (c : FVec Ideal S256x128 .f32) (p : FVec Ideal S16x128 .f32) (w : Vec Ideal S4x128 .f32) (a : Fin 256) (b : Fin 128) :
    conv c p w (ix2 a b) = conv4 (fun k => w (ix2 k b)) (fun k => c (ix2 k b)) (fun k => p (ix2 k b)) a := by
  unfold conv conv4 wide0 wide1 wide2 wide3
  rw [← down1_apply c p a b, ← down2_apply c p a b, ← down3_apply c p a b]
  pointwise

theorem sigma_apply (x : FVec Ideal S256x128 .f32) (y : S256x128.Idx) : sigma x y = Gate.gate (x y) := by
  unfold sigma one Gate.gate
  pointwise

theorem root_apply (s : FVec Ideal S256x128 .f32) (a : Fin 256) (u : Fin 1) : root s (ix2 a u) = unit (fun k => s (ix2 a k)) := by
  unfold root unit
  pointwise

theorem normed_apply (s : FVec Ideal S256x128 .f32) (a : Fin 256) (b : Fin 128) : normed s (ix2 a b) = s (ix2 a b) * unit (fun k => s (ix2 a k)) := by
  rw [← root_apply s a 0]
  unfold normed
  pointwise

theorem headGrad_apply (s d : FVec Ideal S256x128 .f32) (a : Fin 256) (b : Fin 128) : headGrad s d (ix2 a b) = headG (fun k => s (ix2 a k)) (fun k => d (ix2 a k)) b := by
  have e : (∑ k, s (ix2 a k) * unit (fun k => s (ix2 a k)) * d (ix2 a k)) = ∑ k, normed s (ix2 a k) * d (ix2 a k) := Finset.sum_congr rfl fun k _ => by rw [normed_apply]
  unfold headG
  rw [e, ← normed_apply s a b, ← root_apply s a 0]
  unfold headGrad
  pointwise

theorem unscaled_apply (i : grid0.Coords) (s d : FVec Ideal S256x128 .f32) (a : Fin 256) (b : Fin 128) :
    unscaled i s d (ix2 a b) = before (i 0).val (fun k => s (ix2 a k)) (fun k => d (ix2 a k)) b := by
  have hi : (i 0).val < 3 := (i 0).isLt
  unfold before
  refine Eq.trans ?_ (word_less hi _ _)
  rw [← headGrad_apply]
  unfold unscaled
  pointwise

theorem incoming_apply (i : grid0.Coords) (q k v : Vec Ideal S256x128 .f32) (y : S256x128.Idx) : incoming i q k v y = pick (i 0).val (q y) (k y) (v y) := by
  have hi : (i 0).val < 3 := (i 0).isLt
  unfold pick
  refine Eq.trans ?_ (word_part hi _ _ _)
  unfold incoming
  pointwise

theorem silu_apply (c : FVec Ideal S256x128 .f32) (y : S256x128.Idx) : mulf c (sigma c) y = silu (c y) := by
  unfold silu
  rw [← sigma_apply c y]
  pointwise

theorem rowGrad_apply (i : grid0.Coords) (c d : FVec Ideal S256x128 .f32) (a : Fin 256) (b : Fin 128) :
    rowGrad i c d (ix2 a b) = line4 (i 0).val (fun l => c (ix2 a l)) (fun l => d (ix2 a l)) b := by
  unfold line4
  rw [← funext fun k => silu_apply c (ix2 a k), ← unscaled_apply i _ d a b, ← sigma_apply c (ix2 a b)]
  unfold rowGrad one
  pointwise

/-- The entries of a column by the rows' numbers. -/
def entry (a : FVec Ideal S256x128 .f32) (b : Fin 128) (k : ℕ) : EReal := if h : k < 256 then a (ix2 ⟨k, h⟩ b) else 0

theorem fold_apply (a : FVec Ideal S256x128 .f32) (x : Fin 8) (b : Fin 128) : ∀ (n : ℕ) (h : n < 32), fold a n h (ix2 x b) = ∑ r ∈ Finset.range (n + 1), entry a b (8 * r + x.val)
  | 0, h => by
    rw [Finset.sum_range_one, entry, dif_pos (by omega)]
    refine congrArg a (funext fun q => Fin.ext ?_)
    match q with
    | 0 => show 0 + x.val = 8 * 0 + x.val; omega
    | 1 => show 0 + b.val = b.val; omega
  | n + 1, h => by
    rw [Finset.sum_range_succ, ← fold_apply a x b n (by omega), entry, dif_pos (by omega)]
    refine congrArg (fold a n (by omega) (ix2 x b) + ·) (congrArg a (funext fun q => Fin.ext ?_))
    match q with
    | 0 => rfl
    | 1 => show 0 + b.val = b.val; omega

theorem addRow_apply (x : Vec Ideal S1x128 .f32) (A B : FVec Ideal S256x128 .f32) (b : Fin 128) :
    addRow x A B (ix2 0 b) = x (ix2 0 b) + ((∑ a : Fin 256, A (ix2 a b)) + ∑ a : Fin 256, B (ix2 a b)) := by
  have e : ∀ C : FVec Ideal S256x128 .f32, (∑ a : Fin 256, C (ix2 a b)) = ∑ x : Fin 8, fold C 31 (by decide) (ix2 x b) := fun C => by
    simp only [fold_apply]
    rw [sum_eights]
    exact Finset.sum_congr rfl fun k _ => by rw [entry, dif_pos k.isLt]
  rw [e, e, ← Finset.sum_add_distrib]
  unfold addRow
  pointwise

/-- An index of a rectangle of 128 lanes. -/
theorem emb_at {R n : ℕ} (r o : ℕ) (hr : r + n ≤ R) (h : o + 128 ≤ 1024) (a : Fin n) (b : Fin 128) :
    (Rect.unit (s := ⟨2, ![R, 1024]⟩) ![r, o] ![n, 128] (fit hr h)).emb (ix2 a b) = ix2 ⟨r + a.val, by omega⟩ ⟨o + b.val, by omega⟩ := by
  funext q
  apply Fin.ext
  rw [Rect.emb_apply]
  match q with
  | 0 => show r + 1 * a.val = r + a.val; omega
  | 1 => show o + 1 * b.val = o + b.val; omega

theorem emb_zero {R n : ℕ} (o : ℕ) (hr : 0 + n ≤ R) (h : o + 128 ≤ 1024) (a : Fin n) (b : Fin 128) :
    (Rect.unit (s := ⟨2, ![R, 1024]⟩) ![0, o] ![n, 128] (fit hr h)).emb (ix2 a b) = ix2 ⟨a.val, by omega⟩ ⟨o + b.val, by omega⟩ :=
  (emb_at 0 o hr h a b).trans (congrArg (fun z => ix2 z _) (Fin.ext (Nat.zero_add _)))

theorem cols_all {S : Shape} {e : EltTy} {f : (o : ℕ) → o + 128 ≤ 1024 → List (View.Piece (Elt Ideal) S e)} {P : View.Piece (Elt Ideal) S e → Prop} (hf : ∀ q h, ∀ p ∈ f (128 * q) h, P p) :
    ∀ n hn, ∀ p ∈ cols f n hn, P p
  | 0, _, _, hp => absurd hp List.not_mem_nil
  | n + 1, _, p, hp => (List.mem_append.mp hp).elim (hf _ _ p) (cols_all hf n _ p)

theorem cols_mem {S : Shape} {e : EltTy} {f : (o : ℕ) → o + 128 ≤ 1024 → List (View.Piece (Elt Ideal) S e)} {k : ℕ} (hk : k < 8) {p : View.Piece (Elt Ideal) S e} (hp : p ∈ f (128 * k) (by omega)) :
    ∀ n hn, k < n → p ∈ cols f n hn
  | 0, _, h => absurd h (Nat.not_lt_zero k)
  | n + 1, hn, h => List.mem_append.mpr ((Nat.lt_succ_iff_lt_or_eq.mp h).elim (fun h => .inr (cols_mem hk hp n _ h)) (fun h => by subst h; exact .inl hp))

/-- A column of the block by its lanes' number and its lane. -/
theorem col_split (j : Fin 1024) : ∃ (k : ℕ) (b : Fin 128) (h : k < 8), j = ⟨128 * k + b.val, by omega⟩ :=
  ⟨j.val / 128, ⟨j.val % 128, Nat.mod_lt _ (by decide)⟩, by omega, Fin.ext (by show j.val = 128 * (j.val / 128) + j.val % 128; omega)⟩

theorem emb_mem {s : Shape} (r : Rect s) (x : r.shape.Idx) : r.emb x ∈ r.set := by
  rw [← Rect.map_emb_univ]
  exact Finset.mem_map_of_mem _ (Finset.mem_univ x)

/-- The stores of a block's two halves. -/
def pair (T B : (o : ℕ) → o + 128 ≤ 1024 → FVec Ideal S256x128 .bf16) (o : ℕ) (h : o + 128 ≤ 1024) : List (View.Piece (Elt Ideal) S512x1024 .bf16) :=
  [⟨Rect.unit (s := S512x1024) ![256, o] ![256, 128] (fit (by decide) h), B o h⟩, ⟨Rect.unit (s := S512x1024) ![0, o] ![256, 128] (fit (by decide) h), T o h⟩]

/-- What the stores of the two halves leave. -/
theorem canon_pair (T B : (o : ℕ) → o + 128 ≤ 1024 → FVec Ideal S256x128 .bf16) (G : Vec Ideal S512x1024 .bf16)
    (hT : ∀ o h (a : Fin 256) (b : Fin 128), T (128 * o) h (ix2 a b) = G (ix2 ⟨a.val, by omega⟩ ⟨128 * o + b.val, by omega⟩))
    (hB : ∀ o h (a : Fin 256) (b : Fin 128), B (128 * o) h (ix2 a b) = G (ix2 ⟨256 + a.val, by omega⟩ ⟨128 * o + b.val, by omega⟩)) :
    View.canon (cols (pair T B) 8 (by decide)) = G := by
  funext y
  refine View.canon_apply_of_pieces G _ (cols_all (fun o h p hp => ?_) 8 _) y ?_
  · unfold pair at hp
    simp only [List.mem_cons, List.not_mem_nil, or_false] at hp
    rcases hp with rfl | rfl
    · intro x
      obtain ⟨a, b, rfl⟩ : ∃ (a : Fin 256) (b : Fin 128), x = ix2 a b := ⟨x 0, x 1, eq_ix2 x⟩
      exact (hB o h a b).trans (congrArg G (emb_at 256 (128 * o) (by decide) h a b)).symm
    · intro x
      obtain ⟨a, b, rfl⟩ : ∃ (a : Fin 256) (b : Fin 128), x = ix2 a b := ⟨x 0, x 1, eq_ix2 x⟩
      exact (hT o h a b).trans (congrArg G (emb_zero (128 * o) (by decide) h a b)).symm
  · obtain ⟨a, j, rfl⟩ : ∃ (a : Fin 512) (j : Fin 1024), y = ix2 a j := ⟨y 0, y 1, eq_ix2 y⟩
    obtain ⟨k, b, hk, rfl⟩ := col_split j
    by_cases ha : a.val < 256
    · refine ⟨⟨Rect.unit (s := S512x1024) ![0, 128 * k] ![256, 128] (fit (by decide) (by omega)), T (128 * k) (by omega)⟩, cols_mem hk (.tail _ (.head _)) 8 _ hk, ?_⟩
      exact (emb_zero (R := 512) (n := 256) (128 * k) (by decide) (by omega) ⟨a.val, ha⟩ b) ▸ emb_mem (Rect.unit (s := S512x1024) ![0, 128 * k] ![256, 128] (fit (by decide) (by omega))) (ix2 ⟨a.val, ha⟩ b)
    · refine ⟨⟨Rect.unit (s := S512x1024) ![256, 128 * k] ![256, 128] (fit (by decide) (by omega)), B (128 * k) (by omega)⟩, cols_mem hk (.head _) 8 _ hk, ?_⟩
      have e := (emb_at (R := 512) (n := 256) 256 (128 * k) (by decide) (by omega) ⟨a.val - 256, by omega⟩ b).trans
        (congrArg (fun z : Fin 512 => ix2 z (⟨128 * k + b.val, by omega⟩ : Fin 1024)) (Fin.ext (show 256 + (a.val - 256) = a.val by omega) : _ = a))
      exact e ▸ emb_mem (Rect.unit (s := S512x1024) ![256, 128 * k] ![256, 128] (fit (by decide) (by omega))) (ix2 ⟨a.val - 256, by omega⟩ b)

/-- The stores of the weights' four rows. -/
def four (R : Fin 4 → (o : ℕ) → o + 128 ≤ 1024 → FVec Ideal S1x128 .f32) (o : ℕ) (h : o + 128 ≤ 1024) : List (View.Piece (Elt Ideal) S4x1024 .f32) :=
  [⟨Rect.unit (s := S4x1024) ![3, o] ![1, 128] (fit (by decide) h), R 3 o h⟩, ⟨Rect.unit (s := S4x1024) ![2, o] ![1, 128] (fit (by decide) h), R 2 o h⟩,
    ⟨Rect.unit (s := S4x1024) ![1, o] ![1, 128] (fit (by decide) h), R 1 o h⟩, ⟨Rect.unit (s := S4x1024) ![0, o] ![1, 128] (fit (by decide) h), R 0 o h⟩]

/-- What the stores of the four rows leave, whatever was stored before. -/
theorem canon_four (R : Fin 4 → (o : ℕ) → o + 128 ≤ 1024 → FVec Ideal S1x128 .f32) (G : Vec Ideal S4x1024 .f32) (L : List (View.Piece (Elt Ideal) S4x1024 .f32))
    (hR : ∀ k q h (b : Fin 128), R k (128 * q) h (ix2 0 b) = G (ix2 k ⟨128 * q + b.val, by omega⟩)) :
    View.canon (cols (four R) 8 (by decide) ++ L) = G := by
  funext y
  have at_row : ∀ (k : Fin 4) (o : ℕ) (h : o + 128 ≤ 1024) (b : Fin 128) (hk : k.val + 1 ≤ 4), (Rect.unit (s := S4x1024) ![k.val, o] ![1, 128] (fit hk h)).emb (ix2 0 b) = ix2 k ⟨o + b.val, by omega⟩ :=
    fun k o h b hk => emb_at (R := 4) (n := 1) k.val o hk h 0 b
  have row : ∀ (k : Fin 4) (q : ℕ) (h : 128 * q + 128 ≤ 1024) (hk : k.val + 1 ≤ 4) (x : S1x128.Idx), R k (128 * q) h x = G ((Rect.unit (s := S4x1024) ![k.val, 128 * q] ![1, 128] (fit hk h)).emb x) := fun k q h hk x => by
    obtain ⟨b, rfl⟩ : ∃ b : Fin 128, x = ix2 0 b := ⟨x 1, (eq_ix2 x).trans (congrArg (fun z => ix2 z (x 1)) (Subsingleton.elim _ _))⟩
    exact (hR k q h b).trans (congrArg G (at_row k _ h b hk)).symm
  refine View.canon_append_of_pieces G L _ (cols_all (fun q h p hp => ?_) 8 _) y ?_
  · unfold four at hp
    simp only [List.mem_cons, List.not_mem_nil, or_false] at hp
    rcases hp with rfl | rfl | rfl | rfl
    · exact row 3 q h (by decide)
    · exact row 2 q h (by decide)
    · exact row 1 q h (by decide)
    · exact row 0 q h (by decide)
  · obtain ⟨a, j, rfl⟩ : ∃ (a : Fin 4) (j : Fin 1024), y = ix2 a j := ⟨y 0, y 1, eq_ix2 y⟩
    obtain ⟨k, b, hk, rfl⟩ := col_split j
    have hm : ∀ (r : Fin 4) (hr : r.val + 1 ≤ 4), (ix2 r ⟨128 * k + b.val, by omega⟩ : S4x1024.Idx) ∈ (Rect.unit (s := S4x1024) ![r.val, 128 * k] ![1, 128] (fit hr (by omega))).set := fun r hr =>
      at_row r (128 * k) (by omega) b hr ▸ emb_mem (Rect.unit (s := S4x1024) ![r.val, 128 * k] ![1, 128] (fit hr (by omega))) (ix2 0 b)
    match a with
    | 0 => exact ⟨⟨Rect.unit (s := S4x1024) ![0, 128 * k] ![1, 128] (fit (by decide) (by omega)), R 0 (128 * k) (by omega)⟩, cols_mem hk (.tail _ (.tail _ (.tail _ (.head _)))) 8 _ hk, hm 0 (by decide)⟩
    | 1 => exact ⟨⟨Rect.unit (s := S4x1024) ![1, 128 * k] ![1, 128] (fit (by decide) (by omega)), R 1 (128 * k) (by omega)⟩, cols_mem hk (.tail _ (.tail _ (.head _))) 8 _ hk, hm 1 (by decide)⟩
    | 2 => exact ⟨⟨Rect.unit (s := S4x1024) ![2, 128 * k] ![1, 128] (fit (by decide) (by omega)), R 2 (128 * k) (by omega)⟩, cols_mem hk (.tail _ (.head _)) 8 _ hk, hm 2 (by decide)⟩
    | 3 => exact ⟨⟨Rect.unit (s := S4x1024) ![3, 128 * k] ![1, 128] (fit (by decide) (by omega)), R 3 (128 * k) (by omega)⟩, cols_mem hk (.head _) 8 _ hk, hm 3 (by decide)⟩

section Block

variable (i : grid0.Coords) (x0 x1 x2 : Vec Ideal S512x1024 .f32) (x3 : Vec Ideal S512x1024 .bf16) (x4 : Vec Ideal S16x1024 .bf16) (x5 : Vec Ideal S4x1024 .f32)

theorem top_apply {e : EltTy} (x : Vec Ideal S512x1024 e) (o : ℕ) (h : o + 128 ≤ 1024) (a : Fin 256) (b : Fin 128) : top x o h (ix2 a b) = x (ix2 ⟨a.val, by omega⟩ ⟨o + b.val, by omega⟩) :=
  congrArg x (emb_zero o (by decide) h a b)

theorem bot_apply {e : EltTy} (x : Vec Ideal S512x1024 e) (o : ℕ) (h : o + 128 ≤ 1024) (a : Fin 256) (b : Fin 128) : bot x o h (ix2 a b) = x (ix2 ⟨256 + a.val, by omega⟩ ⟨o + b.val, by omega⟩) :=
  congrArg x (emb_at 256 o (by decide) h a b)

theorem preTop_apply (p : Vec Ideal S16x1024 .bf16) (o : ℕ) (h : o + 128 ≤ 1024) (a : Fin 16) (b : Fin 128) : preTop i p o h (ix2 a b) = mask (i 1).val (p (ix2 a ⟨o + b.val, by omega⟩)) :=
  (prev_apply _ _ _).trans (congrArg (fun z => mask (i 1).val (p z)) (emb_zero o (by decide) h a b))

theorem preBot_apply (x : Vec Ideal S512x1024 .bf16) (o : ℕ) (h : o + 128 ≤ 1024) (a : Fin 16) (b : Fin 128) : preBot x o h (ix2 a b) = x (ix2 ⟨240 + a.val, by omega⟩ ⟨o + b.val, by omega⟩) :=
  (take16_apply _ _).trans (congrArg x (emb_at 240 o (by decide) h a b))

theorem lanes_apply (w : Vec Ideal S4x1024 .f32) (o : ℕ) (h : o + 128 ≤ 1024) (a : Fin 4) (b : Fin 128) : lanes w o h (ix2 a b) = w (ix2 a ⟨o + b.val, by omega⟩) :=
  congrArg w (emb_zero o (by decide) h a b)

theorem takeTop_apply (x : Vec Ideal S512x1024 .bf16) (o : ℕ) (h : o + 128 ≤ 1024) (a : Fin 256) (b : Fin 128) : take (top x o h) (ix2 a b) = x (ix2 ⟨a.val, by omega⟩ ⟨o + b.val, by omega⟩) :=
  (take_apply _ _).trans (top_apply x o h a b)

theorem takeBot_apply (x : Vec Ideal S512x1024 .bf16) (o : ℕ) (h : o + 128 ≤ 1024) (a : Fin 256) (b : Fin 128) : take (bot x o h) (ix2 a b) = x (ix2 ⟨256 + a.val, by omega⟩ ⟨o + b.val, by omega⟩) :=
  (take_apply _ _).trans (bot_apply x o h a b)

/-- The convolution at row `a` and column `j` of a block: `x` its rows, `p` the rows before, `w` the weights. -/
def convAt (n : ℕ) (x : Vec Ideal S512x1024 .bf16) (p : Vec Ideal S16x1024 .bf16) (w : Vec Ideal S4x1024 .f32) (j : Fin 1024) (a : Fin 512) : EReal :=
  conv4 (fun k => w (ix2 k j)) (fun k => x (ix2 k j)) (fun k => mask n (p (ix2 k j))) a

theorem conv_top (x : Vec Ideal S512x1024 .bf16) (p : Vec Ideal S16x1024 .bf16) (w : Vec Ideal S4x1024 .f32) (o : ℕ) (h : o + 128 ≤ 1024) (a : Fin 256) (b : Fin 128) :
    conv (take (top x o h)) (preTop i p o h) (lanes w o h) (ix2 a b) = convAt (i 1).val x p w ⟨o + b.val, by omega⟩ ⟨a.val, by omega⟩ := by
  rw [conv_apply, funext fun k => takeTop_apply x o h k b, funext fun k => preTop_apply i p o h k b, funext fun k => lanes_apply w o h k b]
  rfl

theorem conv_bot (n : ℕ) (x : Vec Ideal S512x1024 .bf16) (p : Vec Ideal S16x1024 .bf16) (w : Vec Ideal S4x1024 .f32) (o : ℕ) (h : o + 128 ≤ 1024) (a : Fin 256) (b : Fin 128) :
    conv (take (bot x o h)) (preBot x o h) (lanes w o h) (ix2 a b) = convAt n x p w ⟨o + b.val, by omega⟩ ⟨256 + a.val, by omega⟩ := by
  rw [conv_apply, funext fun k => takeBot_apply x o h k b, funext fun k => preBot_apply x o h k b, funext fun k => lanes_apply w o h k b]
  exact conv4_bot (fun k => w (ix2 k ⟨o + b.val, by omega⟩)) (fun k => x (ix2 k ⟨o + b.val, by omega⟩)) (fun k => mask n (p (ix2 k ⟨o + b.val, by omega⟩))) a

/-- A column's lane in its head. -/
def lane (j : Fin 1024) : Fin 128 := ⟨j.val % 128, by omega⟩

/-- The gradient at a block's row and column, of part `p`. -/
def rowD (n p : ℕ) (j : Fin 1024) (a : Fin 512) : EReal :=
  line4 p (fun l => convAt n x3 x4 x5 (Heads.mate j l) a) (fun l => pick p (x0 (ix2 a (Heads.mate j l))) (x1 (ix2 a (Heads.mate j l))) (x2 (ix2 a (Heads.mate j l)))) (lane j)

theorem mate_at {q : ℕ} (h : 128 * q + 128 ≤ 1024) (b l : Fin 128) (h' : 128 * q + b.val < 1024) : Heads.mate ⟨128 * q + b.val, h'⟩ l = ⟨128 * q + l.val, by omega⟩ :=
  Fin.ext (by show (128 * q + b.val) / 128 * 128 + l.val = 128 * q + l.val; omega)

theorem lane_at {q : ℕ} (b : Fin 128) (h' : 128 * q + b.val < 1024) : lane ⟨128 * q + b.val, h'⟩ = b :=
  Fin.ext (by show (128 * q + b.val) % 128 = b.val; omega)

theorem dTop_apply (q : ℕ) (h : 128 * q + 128 ≤ 1024) (a : Fin 256) (b : Fin 128) :
    dTop i x0 x1 x2 x3 x4 x5 (128 * q) h (ix2 a b) = rowD x0 x1 x2 x3 x4 x5 (i 1).val (i 0).val ⟨128 * q + b.val, by omega⟩ ⟨a.val, by omega⟩ := by
  unfold dTop rowD
  simp only [rowGrad_apply, conv_top, incoming_apply, top_apply, mate_at h b, lane_at b]

theorem dBot_apply (q : ℕ) (h : 128 * q + 128 ≤ 1024) (a : Fin 256) (b : Fin 128) :
    dBot i x0 x1 x2 x3 x5 (128 * q) h (ix2 a b) = rowD x0 x1 x2 x3 x4 x5 (i 1).val (i 0).val ⟨128 * q + b.val, by omega⟩ ⟨256 + a.val, by omega⟩ := by
  unfold dBot rowD
  simp only [rowGrad_apply, conv_bot (i 1).val x3 x4, incoming_apply, bot_apply, mate_at h b, lane_at b]

theorem trunc_apply (v : FVec Ideal S256x128 .f32) (y : S256x128.Idx) : truncf .bf16 v bitsLt_bf16_f32 y = v y := by
  pointwise

/-- A block of the gradient. -/
def wholeD : Vec Ideal S512x1024 .bf16 := fun y => rowD x0 x1 x2 x3 x4 x5 (i 1).val (i 0).val (y 1 : Fin 1024) (y 0 : Fin 512)

theorem canon_D : View.canon (cols (storeD i x0 x1 x2 x3 x4 x5) 8 (by decide)) = wholeD i x0 x1 x2 x3 x4 x5 :=
  canon_pair (fun o h => truncf .bf16 (dTop i x0 x1 x2 x3 x4 x5 o h) bitsLt_bf16_f32) (fun o h => truncf .bf16 (dBot i x0 x1 x2 x3 x5 o h) bitsLt_bf16_f32) _
    (fun o h a b => (trunc_apply _ _).trans (dTop_apply i x0 x1 x2 x3 x4 x5 o h a b)) (fun o h a b => (trunc_apply _ _).trans (dBot_apply i x0 x1 x2 x3 x4 x5 o h a b))

/-- The rows weight `k` multiplies. -/
def tap (k : Fin 4) (c : FVec Ideal S256x128 .f32) (p : FVec Ideal S16x128 .f32) : FVec Ideal S256x128 .f32 :=
  match k with
  | 0 => down3 c p
  | 1 => down2 c p
  | 2 => down1 c p
  | 3 => c

theorem tap_apply (k : Fin 4) (c : FVec Ideal S256x128 .f32) (p : FVec Ideal S16x128 .f32) (a : Fin 256) (b : Fin 128) :
    tap k c p (ix2 a b) = above (3 - k.val) (fun k => c (ix2 k b)) (fun k => p (ix2 k b)) a :=
  match k with
  | 0 => down3_apply c p a b
  | 1 => down2_apply c p a b
  | 2 => down1_apply c p a b
  | 3 => (above_zero (fun k => c (ix2 k b)) (fun k => p (ix2 k b)) a).symm

/-- The weights' gradient after a block whose rows' gradients are `d`: `xo` what it was before. -/
def wholeW (n : ℕ) (xo : Vec Ideal S4x1024 .f32) (d : Fin 1024 → Fin 512 → EReal) (x : Vec Ideal S512x1024 .bf16) (p : Vec Ideal S16x1024 .bf16) : Vec Ideal S4x1024 .f32 := fun y =>
  xo y + ∑ a : Fin 512, d (y 1 : Fin 1024) a * above (3 - (y 0 : Fin 4).val) (fun k => x (ix2 k (y 1 : Fin 1024))) (fun k => mask n (p (ix2 k (y 1 : Fin 1024)))) a

theorem canon_W (xo : Vec Ideal S4x1024 .f32) (L : List (View.Piece (Elt Ideal) S4x1024 .f32)) :
    View.canon (cols (storeWD i x0 x1 x2 x3 x4 x5 xo) 8 (by decide) ++ L) = wholeW (i 1).val xo (rowD x0 x1 x2 x3 x4 x5 (i 1).val (i 0).val) x3 x4 := by
  refine canon_four (fun k o h => addRow (View.ld xo (Rect.unit (s := S4x1024) ![k.val, o] ![1, 128] (fit (by omega) h)))
    (mulf (dTop i x0 x1 x2 x3 x4 x5 o h) (tap k (take (top x3 o h)) (preTop i x4 o h))) (mulf (dBot i x0 x1 x2 x3 x5 o h) (tap k (take (bot x3 o h)) (preBot x3 o h)))) _ L fun k q h b => ?_
  have mul : ∀ (u v : FVec Ideal S256x128 .f32) (y : S256x128.Idx), mulf u v y = u y * v y := fun u v y => by pointwise
  obtain ⟨d, hd⟩ : ∃ d, d = rowD x0 x1 x2 x3 x4 x5 (i 1).val (i 0).val := ⟨_, rfl⟩
  obtain ⟨f, hf⟩ : ∃ f : Fin 512 → EReal, ∀ a, f a = d ⟨128 * q + b.val, by omega⟩ a * above (3 - k.val) (fun k => x3 (ix2 k ⟨128 * q + b.val, by omega⟩)) (fun k => mask (i 1).val (x4 (ix2 k ⟨128 * q + b.val, by omega⟩))) a := ⟨_, fun _ => rfl⟩
  have e1 : ∀ a : Fin 256, mulf (dTop i x0 x1 x2 x3 x4 x5 (128 * q) h) (tap k (take (top x3 (128 * q) h)) (preTop i x4 (128 * q) h)) (ix2 a b) = f ⟨a.val, by omega⟩ := fun a => by
    rw [mul, dTop_apply, ← hd, tap_apply, funext fun k => takeTop_apply x3 (128 * q) h k b, funext fun k => preTop_apply i x4 (128 * q) h k b, hf]
    rfl
  have e2 : ∀ a : Fin 256, mulf (dBot i x0 x1 x2 x3 x5 (128 * q) h) (tap k (take (bot x3 (128 * q) h)) (preBot x3 (128 * q) h)) (ix2 a b) = f ⟨256 + a.val, by omega⟩ := fun a => by
    rw [mul, dBot_apply i x0 x1 x2 x3 x4, ← hd, tap_apply, funext fun k => takeBot_apply x3 (128 * q) h k b, funext fun k => preBot_apply x3 (128 * q) h k b, hf]
    exact congrArg (d _ _ * ·) (above_bot (by omega) (fun k => x3 (ix2 k ⟨128 * q + b.val, by omega⟩)) (fun k => mask (i 1).val (x4 (ix2 k ⟨128 * q + b.val, by omega⟩))) a)
  rw [← hd, addRow_apply, Finset.sum_congr rfl fun a _ => e1 a, Finset.sum_congr rfl fun a _ => e2 a, sum_halves, Finset.sum_congr rfl fun a _ => hf a]
  exact congrArg (· + _) (congrArg xo (emb_at (R := 4) (n := 1) k.val (128 * q) (by omega) h 0 b))

end Block

variable (m : (ℓ : Loc nD τ sig) → Buf (Elt Ideal) ℓ)

theorem coord : ∀ t : Fin cfg0.N, ((grid0.coords t) 1).val = t.val % 8 := by decide +kernel

theorem coordPart : ∀ t : Fin cfg0.N, ((grid0.coords t) 0).val = t.val / 8 := by decide +kernel

theorem idx0 : ∀ t : Fin cfg0.N, t.val / 8 = 0 → win0_0.index t = ![t.val % 8, 0] := by decide +kernel

theorem blk0 (c : Dev nD) (t : Fin cfg0.N) (hp : t.val / 8 = 0) (a : Fin 512) (b : Fin 1024) :
    iblk m c 0 t (ix2 a b) = m ((c.tc : Thread nD τ).loc main_arg0) (ix2 ⟨512 * (t.val % 8) + a.val, by omega⟩ b) := by
  blk_simp [iblk]
  entry_read
  blk_ext [idx0 t hp]

theorem idx1 : ∀ t : Fin cfg0.N, t.val / 8 = 1 → win0_1.index t = ![t.val % 8, 0] := by decide +kernel

theorem blk1 (c : Dev nD) (t : Fin cfg0.N) (hp : t.val / 8 = 1) (a : Fin 512) (b : Fin 1024) :
    iblk m c 1 t (ix2 a b) = m ((c.tc : Thread nD τ).loc main_arg1) (ix2 ⟨512 * (t.val % 8) + a.val, by omega⟩ b) := by
  blk_simp [iblk]
  entry_read
  blk_ext [idx1 t hp]

theorem idx2 : ∀ t : Fin cfg0.N, t.val / 8 = 2 → win0_2.index t = ![t.val % 8, 0] := by decide +kernel

theorem blk2 (c : Dev nD) (t : Fin cfg0.N) (hp : t.val / 8 = 2) (a : Fin 512) (b : Fin 1024) :
    iblk m c 2 t (ix2 a b) = m ((c.tc : Thread nD τ).loc main_arg2) (ix2 ⟨512 * (t.val % 8) + a.val, by omega⟩ b) := by
  blk_simp [iblk]
  entry_read
  blk_ext [idx2 t hp]

theorem idx3 : ∀ t : Fin cfg0.N, win0_3.index t = ![t.val % 8, t.val / 8] := by decide +kernel

theorem blk3 (c : Dev nD) (t : Fin cfg0.N) (a : Fin 512) (b : Fin 1024) :
    iblk m c 3 t (ix2 a b) = m ((c.tc : Thread nD τ).loc main_arg3) (ix2 ⟨512 * (t.val % 8) + a.val, by omega⟩ ⟨1024 * (t.val / 8) + b.val, by have hN : t.val < 24 := lt_of_lt_of_eq t.isLt N_0; omega⟩) := by
  blk_simp [iblk]
  entry_read
  blk_ext [idx3 t]

theorem idx4 : ∀ t : Fin cfg0.N, win0_4.index t = ![t.val % 8 * 32 - 1, t.val / 8] := by decide +kernel

theorem blk4 (c : Dev nD) (t : Fin cfg0.N) (a : Fin 16) (b : Fin 1024) (h : 16 ≤ 512 * (t.val % 8)) :
    iblk m c 4 t (ix2 a b) = m ((c.tc : Thread nD τ).loc main_arg3) (ix2 ⟨512 * (t.val % 8) - 16 + a.val, by omega⟩ ⟨1024 * (t.val / 8) + b.val, by have hN : t.val < 24 := lt_of_lt_of_eq t.isLt N_0; omega⟩) := by
  have e : 512 * (t.val % 8) - 16 = 16 * (t.val % 8 * 32 - 1) := by omega
  simp only [e]
  blk_simp [iblk]
  entry_read
  blk_ext [idx4 t]

theorem idx5 : ∀ t : Fin cfg0.N, win0_5.index t = ![0, t.val / 8] := by decide +kernel

theorem blk5 (c : Dev nD) (t : Fin cfg0.N) (a : Fin 4) (b : Fin 1024) :
    iblk m c 5 t (ix2 a b) = m ((c.tc : Thread nD τ).loc main_arg4) (ix2 a ⟨1024 * (t.val / 8) + b.val, by have hN : t.val < 24 := lt_of_lt_of_eq t.isLt N_0; omega⟩) := by
  blk_simp [iblk]
  entry_read
  blk_ext [idx5 t]

theorem idx6 : ∀ t : Fin cfg0.N, win0_6.index t = ![t.val % 8, t.val / 8] := by decide +kernel

theorem emb6 (t : Fin cfg0.N) (a : Fin 512) (b : Fin 1024) : (win0_6.blk t).view.emb (ix2 a b) = ix2 ⟨512 * (t.val % 8) + a.val, by omega⟩ ⟨1024 * (t.val / 8) + b.val, by have hN : t.val < 24 := lt_of_lt_of_eq t.isLt N_0; omega⟩ := by
  blk_ext [idx6 t]

theorem idx7 : ∀ t : Fin cfg0.N, win0_7.index t = ![0, t.val / 8] := by decide +kernel

theorem emb7 (t : Fin cfg0.N) (a : Fin 4) (b : Fin 1024) : (win0_7.blk t).view.emb (ix2 a b) = ix2 a ⟨1024 * (t.val / 8) + b.val, by have hN : t.val < 24 := lt_of_lt_of_eq t.isLt N_0; omega⟩ := by
  blk_ext [idx7 t]

section Result

variable (Q K V : (⟨2, ![4096, 1024]⟩ : Shape).Idx → EReal) (A : (⟨2, ![4096, 3072]⟩ : Shape).Idx → EReal) (W : (⟨2, ![4, 3072]⟩ : Shape).Idx → EReal)

/-- The gradient before the activation: `Q`, `K`, `V` the three parts' gradients, `A` the rows, `W` the weights. -/
def dX (n : Fin 4096) (b : Fin 3072) : EReal :=
  line4 (b.val / 1024) (fun l => cconv4 A W n.val (mate3 b l)) (fun l => pick (b.val / 1024) (Q (ix2 n (col3 b l))) (K (ix2 n (col3 b l))) (V (ix2 n (col3 b l)))) (lane3 b)

/-- The weights' gradient from the rows' `d`. -/
def dW (d : Fin 4096 → Fin 3072 → EReal) (k : Fin 4) (b : Fin 3072) : EReal := ∑ n : Fin 4096, d n b * back A (3 - k.val) n.val b.val

/-- A row's term of it, by its number. -/
def term (d : Fin 4096 → Fin 3072 → EReal) (k : Fin 4) (b n : ℕ) : EReal :=
  if h : n < 4096 ∧ b < 3072 then d ⟨n, h.1⟩ ⟨b, h.2⟩ * back A (3 - k.val) n b else 0

theorem dW_apply (d : Fin 4096 → Fin 3072 → EReal) (k : Fin 4) (b : Fin 3072) : dW A d k b = psum (term A d k b.val) 4096 := by
  rw [psum_fin]
  exact Finset.sum_congr rfl fun n _ => by rw [term, dif_pos ⟨n.isLt, b.isLt⟩]

end Result

theorem conv_at (c : Dev nD) (t : Fin cfg0.N) (a : Fin 512) (b : Fin 1024) (h : 1024 * (t.val / 8) + b.val < 3072) :
    convAt (t.val % 8) (iblk m c 3 t) (iblk m c 4 t) (iblk m c 5 t) b a = cconv4 (m ((c.tc : Thread nD τ).loc main_arg3)) (m ((c.tc : Thread nD τ).loc main_arg4)) (512 * (t.val % 8) + a.val) ⟨1024 * (t.val / 8) + b.val, h⟩ :=
  conv4_rows (m ((c.tc : Thread nD τ).loc main_arg3)) (m ((c.tc : Thread nD τ).loc main_arg4)) (j := 1024 * (t.val / 8) + b.val) h (by omega) (fun k => blk3 m c t k b) (fun k h => blk4 m c t k b h) (fun k => blk5 m c t k b) a

theorem col3_at {j : ℕ} (b : Fin 1024) (h : 1024 * j + b.val < 3072) (l : Fin 128) : Heads.mate b l = col3 ⟨1024 * j + b.val, h⟩ l :=
  Fin.ext (by show b.val / 128 * 128 + l.val = (1024 * j + b.val) % 1024 / 128 * 128 + l.val; omega)

theorem rowD_at (c : Dev nD) (t : Fin cfg0.N) (a : Fin 512) (b : Fin 1024) (h : 1024 * (t.val / 8) + b.val < 3072) :
    rowD (iblk m c 0 t) (iblk m c 1 t) (iblk m c 2 t) (iblk m c 3 t) (iblk m c 4 t) (iblk m c 5 t) (t.val % 8) (t.val / 8) b a = dX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨512 * (t.val % 8) + a.val, by omega⟩ ⟨1024 * (t.val / 8) + b.val, h⟩ := by
  unfold rowD dX
  have hj : t.val / 8 = (1024 * (t.val / 8) + b.val) / 1024 := by omega
  refine line4_congr hj (fun l => (conv_at m c t a (Heads.mate b l) (by omega)).trans (congrArg (cconv4 _ _ _) (mate3_of b h l).symm)) (fun l => ?_) (Fin.ext ?_)
  · refine (pick_congr (by omega) (fun hp => ?_) (fun hp => ?_) (fun hp => ?_)).trans (congrArg (fun j => pick j _ _ _) hj)
    · exact (blk0 m c t hp a _).trans (congrArg (fun z => (m ((c.tc : Thread nD τ).loc main_arg0)) (ix2 _ z)) (col3_at b h l))
    · exact (blk1 m c t hp a _).trans (congrArg (fun z => (m ((c.tc : Thread nD τ).loc main_arg1)) (ix2 _ z)) (col3_at b h l))
    · exact (blk2 m c t hp a _).trans (congrArg (fun z => (m ((c.tc : Thread nD τ).loc main_arg2)) (ix2 _ z)) (col3_at b h l))
  · show b.val % 128 = (1024 * (t.val / 8) + b.val) % 128
    omega

theorem outs_at (c : Dev nD) (t : Fin cfg0.N) : (outsAt0 m c t.val t.isLt).1 = wholeD (grid0.coords t) (iblk m c 0 t) (iblk m c 1 t) (iblk m c 2 t) (iblk m c 3 t) (iblk m c 4 t) (iblk m c 5 t) := by
  by_cases h0 : t.val % 8 = 0
  · rw [outsAt0_A m c t h0]
    dsimp only
    rw [stores_A6]
    exact canon_D _ _ _ _ _ _ _
  · rw [outsAt0_B m c t h0]
    dsimp only
    rw [stores_B6]
    exact canon_D _ _ _ _ _ _ _

theorem block (c : Dev nD) (t : Fin cfg0.N) (xo : Vec Ideal S4x1024 .f32) (k : Fin 4) (b : Fin 1024) :
    wholeW ((grid0.coords t) 1).val xo (rowD (iblk m c 0 t) (iblk m c 1 t) (iblk m c 2 t) (iblk m c 3 t) (iblk m c 4 t) (iblk m c 5 t) ((grid0.coords t) 1).val ((grid0.coords t) 0).val) (iblk m c 3 t) (iblk m c 4 t) (ix2 k b)
      = xo (ix2 k b) + ∑ q : Fin 512, term (m ((c.tc : Thread nD τ).loc main_arg3)) (dX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) k (1024 * (t.val / 8) + b.val) (512 * (t.val % 8) + q.val) := by
  have hN : t.val < 24 := lt_of_lt_of_eq t.isLt N_0
  have h : 1024 * (t.val / 8) + b.val < 3072 := by omega
  rw [coord t, coordPart t]
  refine congrArg (xo (ix2 k b) + ·) (Finset.sum_congr rfl fun q _ => ?_)
  rw [term, dif_pos ⟨by omega, h⟩]
  refine congrArg₂ (· * ·) (rowD_at m c t q b h) ?_
  exact above_block (m ((c.tc : Thread nD τ).loc main_arg3)) (j := 1024 * (t.val / 8) + b.val) (by omega) (by omega) (fun k => blk3 m c t k b) (fun k h => blk4 m c t k b h) (by omega) q

theorem zero_at (y : S4x1024.Idx) : k0_pay2 (F := Ideal) y = 0 := by
  unfold k0_pay2
  pointwise

theorem acc (c : Dev nD) (k : Fin 4) (b : Fin 1024) (t : ℕ) (h : t < cfg0.N) :
    (outsAt0 m c t h).2 (ix2 k b) = psum (term (m ((c.tc : Thread nD τ).loc main_arg3)) (dX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) k (1024 * (t / 8) + b.val)) (512 * (t % 8 + 1)) := by
  refine acc_run 8 512 (fun t h => (outsAt0 m c t h).2 (ix2 k b)) (fun j => term (m ((c.tc : Thread nD τ).loc main_arg3)) (dX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) k (1024 * j + b.val)) (fun t h h0 => ?_) (fun t h h0 => ?_) t h
  · rw [outsAt0_A m c ⟨t, h⟩ h0]
    dsimp only
    rw [stores_A7, canon_W, block m c ⟨t, h⟩, zero_at]
  · rw [outsAt0_B m c ⟨t, h⟩ h0]
    dsimp only
    rw [stores_B7, ← List.append_nil (cols _ 8 _), canon_W, block m c ⟨t, h⟩]

theorem final6 (c : Dev nD) : (dats m 0 c).arrAt 6 cfg0.N = (fun y => dX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0 : Fin 4096) (y 1 : Fin 3072) : Vec Ideal S4096x3072 .bf16) := by
  refine (dats m 0 c).arrAt_eq_of_covers 6 _ (by decide +kernel) fun t hf y => ?_
  obtain ⟨a, b, rfl⟩ : ∃ (a : Fin 512) (b : Fin 1024), y = ix2 a b := ⟨y 0, y 1, eq_ix2 y⟩
  have hN : t.val < 24 := lt_of_lt_of_eq t.isLt N_0
  blk_simp
  rw [after0_6, emb6, outs_at m c t]
  refine Eq.trans ?_ (rowD_at m c t a b (by omega))
  rw [← coord t, ← coordPart t]
  rfl

theorem final7 (c : Dev nD) : (dats m 0 c).arrAt 7 cfg0.N = (fun y => dW (m ((c.tc : Thread nD τ).loc main_arg3)) (dX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (y 0 : Fin 4) (y 1 : Fin 3072) : Vec Ideal S4x3072 .f32) := by
  refine (dats m 0 c).arrAt_eq_of_covers 7 _ (by decide +kernel) fun t hf y => ?_
  obtain ⟨a, b, rfl⟩ : ∃ (a : Fin 4) (b : Fin 1024), y = ix2 a b := ⟨y 0, y 1, eq_ix2 y⟩
  have hN : t.val < 24 := lt_of_lt_of_eq t.isLt N_0
  have h7 : t.val % 8 = 7 := (flush0_7 t).mp hf
  blk_simp
  rw [after0_7, emb7, acc, h7]
  exact (dW_apply _ _ a ⟨1024 * (t.val / 8) + b.val, by omega⟩).symm

variable (ρ : Dev nD → PrngReg)

/-- THE KERNEL'S RUN: its two gradients, its arguments unchanged. -/
theorem run : θ_run (defs (F := Ideal)) (onTc (τ := τ) (main (F := Ideal))) ⟨m, fun _ => 0, ρ⟩ fun r => ∀ c : Dev nD,
      r.2.mem ((c.tc : Thread nD τ).loc main_v1_0) = (fun y => dX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0 : Fin 4096) (y 1 : Fin 3072) : Vec Ideal S4096x3072 .bf16)
      ∧ r.2.mem ((c.tc : Thread nD τ).loc main_v1_1) = (fun y => dW (m ((c.tc : Thread nD τ).loc main_arg3)) (dX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (y 0 : Fin 4) (y 1 : Fin 3072) : Vec Ideal S4x3072 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final6 m c), (h c).2.1.trans (final7 m c), (h c).2.2⟩) (Value.run_blocks m ρ)

end Cert.DnPreBwdIdeal.Entries

end
-- ==== Proof.PresBwd.lean ====
/- The gradient of what follows DeltaNet's convolution: the program's results are its reference's. -/
module

public import proofs.«01_k».proof.Defs
public import proofs.«01_k».proof.Proof.Gen.DnPreBwdIdeal
public import proofs.«01_k».proof.Proof.Gen.DnPreBwdRefIdeal
public import proofs.«01_k».proof.Proof.Gen.DnPreBwdRefIdeal.Run
public import proofs.«01_k».proof.Proof.DnPreBwdValue

@[expose] public section

set_option maxRecDepth 16384

noncomputable section

namespace Cert.Pre_finite_pre

open Idealize.ShloMosaic Idealize.ShloMosaic.TcCoe Blocked Above

instance facts : Facts where
  bcast_S_S4096x1024 := by decide

variable (m : (ℓ : Loc Cert.DnPreBwdIdeal.nD Cert.DnPreBwdIdeal.τ Cert.DnPreBwdIdeal.sig) → Buf (Elt Ideal) ℓ)

theorem args (h : Pre_DnPreBwdIdeal_finite_pre m) (c : Dev Cert.DnPreBwdIdeal.nD) :
    (∀ i : S4096x1024.Idx, Scan.Fin' (m ((c.tc : Thread Cert.DnPreBwdIdeal.nD Cert.DnPreBwdIdeal.τ).loc Cert.DnPreBwdIdeal.main_arg0) i))
    ∧ (∀ i : S4096x1024.Idx, Scan.Fin' (m ((c.tc : Thread Cert.DnPreBwdIdeal.nD Cert.DnPreBwdIdeal.τ).loc Cert.DnPreBwdIdeal.main_arg1) i))
    ∧ (∀ i : S4096x1024.Idx, Scan.Fin' (m ((c.tc : Thread Cert.DnPreBwdIdeal.nD Cert.DnPreBwdIdeal.τ).loc Cert.DnPreBwdIdeal.main_arg2) i)) :=
  ⟨Cert.Pre_finite.elt _ _ (h c).1, Cert.Pre_finite.elt _ _ (h c).2.1, Cert.Pre_finite.elt _ _ (h c).2.2⟩

end Cert.Pre_finite_pre

namespace Cert.Proof.PresBwd

open Idealize.ShloMosaic Idealize.ShloMosaic.TcCoe Idealize.SL.Sem Blocked Above Idealize.ShloMosaic.StableHlo

/-- The chain rule's three terms for a head's row. -/
def chain (s d : Fin 128 → EReal) (l : Fin 128) : EReal :=
  d l * unit s + s l * ((∑ k, s k * d k) * (Ideal.ofBits .f32 3204448256#32 * Ideal.div (unit s) ((∑ k, s k * s k) + Ideal.ofBits .f32 897988541#32)))
    + (∑ k, s k * d k) * (Ideal.ofBits .f32 3204448256#32 * Ideal.div (unit s) ((∑ k, s k * s k) + Ideal.ofBits .f32 897988541#32)) * s l

/-- The three parts the reference joins are one gradient, by the column's part. -/
theorem heads (Q K V : (⟨2, ![4096, 1024]⟩ : Shape).Idx → EReal) (S : (⟨2, ![4096, 3072]⟩ : Shape).Idx → EReal) (a : Fin 4096) (b : Fin 3072) :
    (if h : b.val < 1024 then chain (fun x => S (ix2 a ⟨b.val / 128 * 128 + x.val, by omega⟩)) (fun x => Q (ix2 a ⟨b.val / 128 * 128 + x.val, by omega⟩) * Ideal.ofBits .f32 1035273459#32) ⟨b.val % 128, by omega⟩
      else if h : b.val - 1024 < 1024 then chain (fun x => S (ix2 a ⟨1024 + ((b.val - 1024) / 128 * 128 + x.val), by omega⟩)) (fun x => K (ix2 a ⟨(b.val - 1024) / 128 * 128 + x.val, by omega⟩)) ⟨(b.val - 1024) % 128, by omega⟩
      else V (ix2 a ⟨b.val - 1024 - 1024, by omega⟩))
    = before (b.val / 1024) (fun k => S (ix2 a (mate3 b k))) (fun l => pick (b.val / 1024) (Q (ix2 a (col3 b l))) (K (ix2 a (col3 b l))) (V (ix2 a (col3 b l)))) (lane3 b) := by
  unfold before
  by_cases h : b.val < 1024
  · have es : (fun x : Fin 128 => S (ix2 a ⟨b.val / 128 * 128 + x.val, by omega⟩)) = fun k => S (ix2 a (mate3 b k)) := rfl
    have ed : (fun x : Fin 128 => Q (ix2 a ⟨b.val / 128 * 128 + x.val, by omega⟩) * Ideal.ofBits .f32 1035273459#32) = fun l => pick (b.val / 1024) (Q (ix2 a (col3 b l))) (K (ix2 a (col3 b l))) (V (ix2 a (col3 b l))) := funext fun x => by
      rw [pick, if_pos (by omega)]
      exact congrArg (fun z => Q (ix2 a z) * _) (Fin.ext (by show _ = b.val % 1024 / 128 * 128 + x.val; dsimp only; omega))
    rw [dif_pos h, if_pos (by omega), ← es, ← ed]
    exact headG_eq (fun x : Fin 128 => S (ix2 a ⟨b.val / 128 * 128 + x.val, by omega⟩)) (fun x : Fin 128 => Q (ix2 a ⟨b.val / 128 * 128 + x.val, by omega⟩) * Ideal.ofBits .f32 1035273459#32) (lane3 b)
  · rw [dif_neg h]
    by_cases h' : b.val - 1024 < 1024
    · have es : (fun x : Fin 128 => S (ix2 a ⟨1024 + ((b.val - 1024) / 128 * 128 + x.val), by omega⟩)) = fun k => S (ix2 a (mate3 b k)) := funext fun x =>
        congrArg (fun z => S (ix2 a z)) (Fin.ext (by show _ = b.val / 128 * 128 + x.val; dsimp only; omega))
      have ed : (fun x : Fin 128 => K (ix2 a ⟨(b.val - 1024) / 128 * 128 + x.val, by omega⟩)) = fun l => pick (b.val / 1024) (Q (ix2 a (col3 b l))) (K (ix2 a (col3 b l))) (V (ix2 a (col3 b l))) := funext fun x => by
        rw [pick, if_neg (by omega), if_pos (by omega)]
        exact congrArg (fun z => K (ix2 a z)) (Fin.ext (by show _ = b.val % 1024 / 128 * 128 + x.val; dsimp only; omega))
      have el : lane3 b = ⟨(b.val - 1024) % 128, by omega⟩ := Fin.ext (by show b.val % 128 = (b.val - 1024) % 128; omega)
      rw [dif_pos h', if_pos (by omega), ← es, ← ed, el]
      exact headG_eq (fun x : Fin 128 => S (ix2 a ⟨1024 + ((b.val - 1024) / 128 * 128 + x.val), by omega⟩)) (fun x : Fin 128 => K (ix2 a ⟨(b.val - 1024) / 128 * 128 + x.val, by omega⟩)) ⟨(b.val - 1024) % 128, by omega⟩
    · rw [dif_neg h', if_neg (by omega)]
      dsimp only
      rw [pick, if_neg (by omega), if_neg (by omega)]
      exact congrArg (fun z => V (ix2 a z)) (Fin.ext (by show _ = b.val % 1024 / 128 * 128 + b.val % 128; dsimp only; omega))

/-- The reference leaves its arguments unchanged. -/
theorem frameDnPreBwd : Cert.quiescent_DnPreBwdRefIdeal (hDnPreBwdRefIdeal := Cert.DnPreBwdRefIdeal.Gen.facts) := fun m ρ _ =>
  (θ_run _ _ _).mono (fun r h => ⟨fun c => (h c).2.2, sem_eq_zero_of_no_sems (by decide) _⟩) (Cert.DnPreBwdRefIdeal.Value.run m ρ)

section Reference

open Cert.DnPreBwdRefIdeal Cert.DnPreBwdRefIdeal.Gen Cert.DnPreBwdRefIdeal.Value

variable {V0 : Valuation τ sig (Elt Ideal)} {Q K V : Vec Ideal S4096x1024 .f32} {A : Vec Ideal S4096x3072 .f32} {W : Vec Ideal S4x3072 .f32}
  (h0 : V0 (Proc.devRef .tc main_arg0) = Q) (h1 : V0 (Proc.devRef .tc main_arg1) = K) (h2 : V0 (Proc.devRef .tc main_arg2) = V) (h3 : V0 (Proc.devRef .tc main_arg3) = A) (h4 : V0 (Proc.devRef .tc main_arg4) = W)

include h3 in
theorem back3 (a : Fin 4096) (b : Fin 3072) : res_main_v4 V0 (ix2 a b) = back A 3 a.val b.val := by
  unfold res_main_v4 res_main_v1
  rw [h3, ← row_back A b a.isLt (P := a.val < 3) (n := a.val - 3) (s := 3) (by omega) rfl (fun h => by omega)]
  pointwise

include h3 in
theorem back2 (a : Fin 4096) (b : Fin 3072) : res_main_v10 V0 (ix2 a b) = back A 2 a.val b.val := by
  unfold res_main_v10 res_main_v1
  rw [h3, ← row_back A b a.isLt (P := 1 + a.val < 3) (n := 1 + a.val - 3) (s := 2) (by omega) (by omega) (fun h => by omega)]
  pointwise

include h3 in
theorem back1 (a : Fin 4096) (b : Fin 3072) : res_main_v17 V0 (ix2 a b) = back A 1 a.val b.val := by
  unfold res_main_v17 res_main_v1
  rw [h3, ← row_back A b a.isLt (P := 2 + a.val < 3) (n := 2 + a.val - 3) (s := 1) (by omega) (by omega) (fun h => by omega)]
  pointwise

include h3 in
theorem back0 (a : Fin 4096) (b : Fin 3072) : res_main_v24 V0 (ix2 a b) = back A 0 a.val b.val := by
  unfold res_main_v24 res_main_v1
  rw [h3, back_zero]
  pointwise

include h3 h4 in
theorem conv_ref (a : Fin 4096) (b : Fin 3072) : res_main_v28 V0 (ix2 a b) = cconv4 A W a.val b := by
  unfold cconv4
  rw [← back3 h3, ← back2 h3, ← back1 h3, ← back0 h3]
  unfold res_main_v28
  rw [h4]
  pointwise

include h3 h4 in
theorem gate_ref (a : Fin 4096) (b : Fin 3072) : res_main_v29_2 V0 (ix2 a b) = Gate.gate (cconv4 A W a.val b) := by
  rw [← conv_ref h3 h4]
  unfold res_main_v29_2
  pointwise
  rw [Gate.gate_neg]

include h3 h4 in
theorem silu_ref (a : Fin 4096) (b : Fin 3072) : res_main_v29_0 V0 (ix2 a b) = silu (cconv4 A W a.val b) := by
  unfold silu
  rw [← gate_ref h3 h4, ← conv_ref h3 h4]
  unfold res_main_v29_0
  pointwise

include h0 h1 h2 in
theorem before_ref (a : Fin 4096) (b : Fin 3072) : res_main_v91 V0 (ix2 a b)
    = before (b.val / 1024) (fun k => res_main_v29_0 V0 (ix2 a (mate3 b k))) (fun l => pick (b.val / 1024) (Q (ix2 a (col3 b l))) (K (ix2 a (col3 b l))) (V (ix2 a (col3 b l)))) (lane3 b) := by
  unfold res_main_v91 res_main_v85 res_main_v77 res_main_v69 res_main_v61 res_main_v54 res_main_v53 res_main_v48 res_main_v39 res_main_v38 res_main_v33
  rw [h0, h1, h2]
  generalize res_main_v29_0 V0 = S
  pointwise
  simp only [Fin.sum_univ_one]
  exact heads Q K V S a b

theorem pick_real {j : ℕ} {q k v : EReal} (hq : Scan.Fin' q) (hk : Scan.Fin' k) (hv : Scan.Fin' v) : Scan.Fin' (pick j q k v) := by
  have h : Scan.Fin' (Ideal.ofBits .f32 0x3DB504F3#32) := ⟨(11863283 : ℝ) * 2 ^ (-27 : ℤ), by simp [Ideal.ofBits, Ideal.ieee, -EReal.coe_mul]⟩
  unfold pick
  split
  · exact hq.mul h
  · split
    · exact hk
    · exact hv

include h0 h1 h2 h3 h4 in
/-- The reference's gradient before the activation is the program's, where no incoming gradient is an infinity. -/
theorem row_ref (fq : ∀ i, Scan.Fin' (Q i)) (fk : ∀ i, Scan.Fin' (K i)) (fv : ∀ i, Scan.Fin' (V i)) (n : Fin 4096) (b : Fin 3072) :
    res_main_v92 V0 (ix2 n b) = Cert.DnPreBwdIdeal.Entries.dX Q K V A W n b := by
  have hm : mate3 b (lane3 b) = b := Fin.ext (by show b.val / 128 * 128 + b.val % 128 = b.val; omega)
  have g := line4_eq (b.val / 1024) (fun l => cconv4 A W n.val (mate3 b l)) (d := fun l => pick (b.val / 1024) (Q (ix2 n (col3 b l))) (K (ix2 n (col3 b l))) (V (ix2 n (col3 b l)))) (fun l => pick_real (fq _) (fk _) (fv _)) (lane3 b)
  have hs : (fun k => res_main_v29_0 V0 (ix2 n (mate3 b k))) = fun k => silu (cconv4 A W n.val (mate3 b k)) := funext fun k => silu_ref h3 h4 n _
  refine Eq.trans ?_ g
  simp only [hm]
  rw [← hs, ← before_ref h0 h1 h2 n b, ← gate_ref h3 h4, ← conv_ref h3 h4]
  unfold res_main_v92
  pointwise

end Reference

/-- The gradients of what follows DeltaNet's convolution are the reference's. -/
theorem valueDnPreBwd : Cert.algebraic_DnPreBwdIdeal_DnPreBwdRefIdeal_pre_finite_pre (hDnPreBwdIdeal := Cert.DnPreBwdIdeal.Gen.facts)
    (hDnPreBwdRefIdeal := Cert.DnPreBwdRefIdeal.Gen.facts) (hPre_finite_pre := Cert.Pre_finite_pre.facts) := fun m ρ m' ρ' hpre hag => by
  refine ⟨fun c => _, fun c => _, Cert.DnPreBwdIdeal.Entries.run m ρ,
    (θ_run _ _ _).mono (fun r h c => ⟨(h c).1.trans (funext fun y => ?_), (h c).2.1.trans (funext fun y => ?_), (h c).2.2⟩)
      (Cert.DnPreBwdRefIdeal.Value.run m' ρ')⟩
  · obtain ⟨fq, fk, fv⟩ := Cert.Pre_finite_pre.args m hpre c
    obtain ⟨a, b, rfl⟩ : ∃ (a : Fin 4096) (b : Fin 3072), y = ix2 a b := ⟨y 0, y 1, eq_ix2 y⟩
    exact row_ref (V0 := launchContents m' c) (hag c).1 (hag c).2.1 (hag c).2.2.1 (hag c).2.2.2.1 (hag c).2.2.2.2 fq fk fv a b
  · obtain ⟨fq, fk, fv⟩ := Cert.Pre_finite_pre.args m hpre c
    obtain ⟨k, b, rfl⟩ : ∃ (k : Fin 4) (b : Fin 3072), y = ix2 k b := ⟨y 0, y 1, eq_ix2 y⟩
    have g := row_ref (V0 := launchContents m' c) (hag c).1 (hag c).2.1 (hag c).2.2.1 (hag c).2.2.2.1 (hag c).2.2.2.2 fq fk fv
    have t0 := fun n => back3 (V0 := launchContents m' c) (hag c).2.2.2.1 n b
    have t1 := fun n => back2 (V0 := launchContents m' c) (hag c).2.2.2.1 n b
    have t2 := fun n => back1 (V0 := launchContents m' c) (hag c).2.2.2.1 n b
    have t3 := fun n => back0 (V0 := launchContents m' c) (hag c).2.2.2.1 n b
    generalize Cert.DnPreBwdRefIdeal.Value.res_main_v92 (launchContents m' c) = E at g ⊢
    generalize Cert.DnPreBwdRefIdeal.Value.res_main_v4 (launchContents m' c) = T0 at t0 ⊢
    generalize Cert.DnPreBwdRefIdeal.Value.res_main_v10 (launchContents m' c) = T1 at t1 ⊢
    generalize Cert.DnPreBwdRefIdeal.Value.res_main_v17 (launchContents m' c) = T2 at t2 ⊢
    generalize Cert.DnPreBwdRefIdeal.Value.res_main_v24 (launchContents m' c) = T3 at t3 ⊢
    pointwise
    refine (taps4 E T0 T1 T2 T3 _ k b t0 t1 t2 t3).trans (Finset.sum_congr rfl fun n _ => ?_)
    exact congrArg (· * _) (g n b)

end Cert.Proof.PresBwd

end
-- ==== Proof.LossValue.lean ====
/- The loss with its gradients, entry by entry. -/
module

public import proofs.«01_k».proof.Proof.Gen.LossIdeal.Value
public import proofs.«01_k».proof.Proof.Rms
public import proofs.«01_k».proof.Proof.Blocked

@[expose] public section

set_option maxRecDepth 16384

noncomputable section

namespace Cert.LossIdeal.Entries

open Cert.LossIdeal Cert.LossIdeal.Gen Idealize.ShloMosaic Idealize.ShloMosaic.TcCoe Idealize.SL.Sem Rms Blocked

section
variable (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole)
  (a4 : Memref sig .tc .vmem S512x1024 .f32) (h4 : a4.IsWhole) (a5 : Memref sig .tc .vmem S1x1024 .f32) (h5 : a5.IsWhole) (a6 : Memref sig .tc .vmem S1x1 .f32) (h6 : a6.IsWhole)
  (x0 x1 : Vec Ideal S512x1024 .f32) (x2 : Vec Ideal S1x1024 .f32) (s : Vec Ideal S1x1024 .f32) (l : Vec Ideal S1x1 .f32)

theorem out_A3 (h : cond0_0 i) : out0_A_3 c i a1 h1 a2 h2 a3 h3 a4 h4 a5 h5 a6 h6 h x0 x1 x2 = k0_pay7 x0 x2 x1 x2 := by
  frame_out

theorem out_B3 (h : ¬cond0_0 i) : out0_B_3 c i a1 h1 a2 h2 a3 h3 a4 h4 a5 h5 a6 h6 h x0 x1 x2 s l = k0_pay7 x0 x2 x1 x2 := by
  frame_out

/-- The first point's rows, from zero. -/
theorem out_A4 (h : cond0_0 i) : out0_A_4 c i a1 h1 a2 h2 a3 h3 a4 h4 a5 h5 a6 h6 h x0 x1 x2 = k0_pay1 (k0_pay4 x0) (k0_pay6 x0 x2 x1) (k0_pay10 (k0_pay8 (F := Ideal))) := by
  frame_out

/-- A later point adds its rows. -/
theorem out_B4 (h : ¬cond0_0 i) : out0_B_4 c i a1 h1 a2 h2 a3 h3 a4 h4 a5 h5 a6 h6 h x0 x1 x2 s l = k0_pay1 (k0_pay4 x0) (k0_pay6 x0 x2 x1) (k0_pay10 s) := by
  frame_out

theorem out_A5 (h : cond0_0 i) : out0_A_5 c i a1 h1 a2 h2 a3 h3 a4 h4 a5 h5 a6 h6 h x0 x1 x2 = k0_pay2 (k0_pay5 x0 x2 x1) (k0_pay9 (F := Ideal)) := by
  frame_out

theorem out_B5 (h : ¬cond0_0 i) : out0_B_5 c i a1 h1 a2 h2 a3 h3 a4 h4 a5 h5 a6 h6 h x0 x1 x2 s l = k0_pay2 (k0_pay5 x0 x2 x1) l := by
  frame_out
end

/-- A row's error: `f` the row, `w` the weights, `t` the target. -/
def err (f w t : Fin 1024 → EReal) (b : Fin 1024) : EReal := f b * inv f * w b - t b

/-- The gradient of the normed row. -/
def dn (f w t : Fin 1024 → EReal) (b : Fin 1024) : EReal := err f w t b * Ideal.ofBits .f32 0x3A800000#32

/-- The gradient of the row. -/
def dr (f w t : Fin 1024 → EReal) (b : Fin 1024) : EReal := inv f * (dn f w t b * w b - f b * inv f * mean fun k => dn f w t k * w k * (f k * inv f))

/-- The row's term of a weight's gradient. -/
def dv (f w t : Fin 1024 → EReal) (b : Fin 1024) : EReal := dn f w t b * (f b * inv f)

/-- The row's term of the loss. -/
def row (f w t : Fin 1024 → EReal) : EReal := (∑ k, err f w t k * err f w t k) * Ideal.ofBits .f32 0x3A000000#32

section
variable (x0 x1 : Vec Ideal S512x1024 .f32) (x2 : Vec Ideal S1x1024 .f32) (s : Vec Ideal S1x1024 .f32) (l : Vec Ideal S1x1 .f32)

theorem hat_apply (a : Fin 512) (b : Fin 1024) : k0_pay4 x0 (ix2 a b) = x0 (ix2 a b) * inv fun k => x0 (ix2 a k) := by
  pointwise [k0_pay4, k0_pay3]
  rfl

theorem err_apply (a : Fin 512) (b : Fin 1024) : k0_pay5 x0 x2 x1 (ix2 a b) = err (fun k => x0 (ix2 a k)) (fun k => x2 (ix2 0 k)) (fun k => x1 (ix2 a k)) b := by
  unfold err
  rw [← hat_apply]
  pointwise [k0_pay5]

theorem dn_apply (a : Fin 512) (b : Fin 1024) : k0_pay6 x0 x2 x1 (ix2 a b) = dn (fun k => x0 (ix2 a k)) (fun k => x2 (ix2 0 k)) (fun k => x1 (ix2 a k)) b := by
  unfold dn
  rw [← err_apply]
  pointwise [k0_pay6]

theorem dr_apply (a : Fin 512) (b : Fin 1024) : k0_pay7 x0 x2 x1 x2 (ix2 a b) = dr (fun k => x0 (ix2 a k)) (fun k => x2 (ix2 0 k)) (fun k => x1 (ix2 a k)) b := by
  unfold dr mean
  simp only [← dn_apply]
  pointwise [k0_pay7, k0_pay4, k0_pay3]
  rfl

theorem dv_apply (b : Fin 1024) : k0_pay1 (k0_pay4 x0) (k0_pay6 x0 x2 x1) (k0_pay10 s) (ix2 0 b) = s (ix2 0 b) + ∑ q : Fin 512, dv (fun k => x0 (ix2 q k)) (fun k => x2 (ix2 0 k)) (fun k => x1 (ix2 q k)) b := by
  unfold dv
  simp only [← dn_apply]
  pointwise [k0_pay1, k0_pay10]
  simp only [hat_apply]

theorem row_apply : k0_pay2 (k0_pay5 x0 x2 x1) l (ix2 0 0) = l (ix2 0 0) + ∑ q : Fin 512, row (fun k => x0 (ix2 q k)) (fun k => x2 (ix2 0 k)) (fun k => x1 (ix2 q k)) := by
  unfold row
  simp only [← err_apply]
  pointwise [k0_pay2]

theorem zero_apply (b : Fin 1024) : (k0_pay8 (F := Ideal)) (ix2 0 b) = (0 : EReal) := by
  pointwise [k0_pay8]

theorem zero_one : (k0_pay9 (F := Ideal)) (ix2 0 0) = (0 : EReal) := by
  pointwise [k0_pay9]
end

variable (m : (ℓ : Loc nD τ sig) → Buf (Elt Ideal) ℓ)

theorem idx0 : ∀ t : Fin cfg0.N, win0_0.index t = ![t.val, 0] := by decide +kernel

theorem blk0 (c : Dev nD) (t : Fin cfg0.N) (a : Fin 512) (b : Fin 1024) (h : 512 * t.val + a.val < 4096) :
    iblk m c 0 t (ix2 a b) = m ((c.tc : Thread nD τ).loc main_arg0) (ix2 ⟨512 * t.val + a.val, h⟩ b) := by
  blk_simp [iblk]
  entry_read
  blk_ext [idx0 t]

theorem idx1 : ∀ t : Fin cfg0.N, win0_1.index t = ![t.val, 0] := by decide +kernel

theorem blk1 (c : Dev nD) (t : Fin cfg0.N) (a : Fin 512) (b : Fin 1024) (h : 512 * t.val + a.val < 4096) :
    iblk m c 1 t (ix2 a b) = m ((c.tc : Thread nD τ).loc main_arg1) (ix2 ⟨512 * t.val + a.val, h⟩ b) := by
  blk_simp [iblk]
  entry_read
  blk_ext [idx1 t]

theorem idx2 : ∀ t : Fin cfg0.N, win0_2.index t = ![0, 0] := by decide +kernel

theorem blk2 (c : Dev nD) (t : Fin cfg0.N) (b : Fin 1024) :
    iblk m c 2 t (ix2 0 b) = m ((c.tc : Thread nD τ).loc main_arg2) (ix2 0 b) := by
  blk_simp [iblk]
  entry_read
  blk_ext [idx2 t]

theorem idx3 : ∀ t : Fin cfg0.N, win0_3.index t = ![t.val, 0] := by decide +kernel

theorem emb3 (t : Fin cfg0.N) (a : Fin 512) (b : Fin 1024) (h : 512 * t.val + a.val < 4096) :
    (win0_3.blk t).view.emb (ix2 a b) = ix2 ⟨512 * t.val + a.val, h⟩ b := by
  blk_ext [idx3 t]

theorem idx4 : ∀ t : Fin cfg0.N, win0_4.index t = ![0, 0] := by decide +kernel

theorem emb4 (t : Fin cfg0.N) (b : Fin 1024) : (win0_4.blk t).view.emb (ix2 0 b) = ix2 0 b := by
  blk_ext [idx4 t]

theorem idx5 : ∀ t : Fin cfg0.N, win0_5.index t = ![0, 0] := by decide +kernel

theorem emb5 (t : Fin cfg0.N) : (win0_5.blk t).view.emb (ix2 0 0) = ix2 0 0 := by
  blk_ext [idx5 t]

section Result

variable (X T : (⟨2, ![4096, 1024]⟩ : Shape).Idx → EReal) (W : (⟨2, ![1, 1024]⟩ : Shape).Idx → EReal)

/-- The input's gradient: `X` the input, `T` the target, `W` the weights. -/
def dx (n : Fin 4096) (b : Fin 1024) : EReal := dr (fun k => X (ix2 n k)) (fun k => W (ix2 0 k)) (fun k => T (ix2 n k)) b

/-- The weights' gradient. -/
def dw (b : Fin 1024) : EReal := ∑ n : Fin 4096, dv (fun k => X (ix2 n k)) (fun k => W (ix2 0 k)) (fun k => T (ix2 n k)) b

/-- The loss. -/
def loss : EReal := ∑ n : Fin 4096, row (fun k => X (ix2 n k)) (fun k => W (ix2 0 k)) (fun k => T (ix2 n k))

/-- A row's term of each, by its number. -/
def termW (b : Fin 1024) (n : ℕ) : EReal := if h : n < 4096 then dv (fun k => X (ix2 ⟨n, h⟩ k)) (fun k => W (ix2 0 k)) (fun k => T (ix2 ⟨n, h⟩ k)) b else 0

def termL (n : ℕ) : EReal := if h : n < 4096 then row (fun k => X (ix2 ⟨n, h⟩ k)) (fun k => W (ix2 0 k)) (fun k => T (ix2 ⟨n, h⟩ k)) else 0

theorem dw_apply (b : Fin 1024) : dw X T W b = psum (termW X T W b) 4096 := by
  rw [psum_fin]
  exact Finset.sum_congr rfl fun n _ => by rw [termW, dif_pos n.isLt]

theorem loss_apply : loss X T W = psum (termL X T W) 4096 := by
  rw [psum_fin]
  exact Finset.sum_congr rfl fun n _ => by rw [termL, dif_pos n.isLt]

end Result

theorem out3_at (c : Dev nD) (t : Fin cfg0.N) : (outsAt0 m c t.val t.isLt).1 = k0_pay7 (iblk m c 0 t) (iblk m c 2 t) (iblk m c 1 t) (iblk m c 2 t) := by
  by_cases h0 : t.val % 8 = 0
  · rw [outsAt0_A m c t h0]
    dsimp only
    rw [out_A3]
  · rw [outsAt0_B m c t h0]
    dsimp only
    rw [out_B3]

theorem final3 (c : Dev nD) : (dats m 0 c).arrAt 3 cfg0.N = (fun y => dx (m ((c.tc : Thread nD τ).loc main_arg0)) (m ((c.tc : Thread nD τ).loc main_arg1)) (m ((c.tc : Thread nD τ).loc main_arg2)) (y 0 : Fin 4096) (y 1 : Fin 1024) : Vec Ideal S4096x1024 .f32) := by
  refine (dats m 0 c).arrAt_eq_of_covers 3 _ (by decide +kernel) fun t hf y => ?_
  obtain ⟨a, b, rfl⟩ : ∃ (a : Fin 512) (b : Fin 1024), y = ix2 a b := ⟨y 0, y 1, eq_ix2 y⟩
  have hN : t.val < 8 := lt_of_lt_of_eq t.isLt N_0
  have h : 512 * t.val + a.val < 4096 := by omega
  blk_simp
  rw [after0_3, emb3 _ _ _ h, out3_at, dr_apply]
  simp only [blk0 m c t a _ h, blk1 m c t a _ h, blk2 m c t]
  rfl

theorem blockW (c : Dev nD) (t : Fin cfg0.N) (s : Vec Ideal S1x1024 .f32) (b : Fin 1024) :
    k0_pay1 (k0_pay4 (iblk m c 0 t)) (k0_pay6 (iblk m c 0 t) (iblk m c 2 t) (iblk m c 1 t)) (k0_pay10 s) (ix2 0 b) = s (ix2 0 b) + ∑ q : Fin 512, termW (m ((c.tc : Thread nD τ).loc main_arg0)) (m ((c.tc : Thread nD τ).loc main_arg1)) (m ((c.tc : Thread nD τ).loc main_arg2)) b (512 * (t.val % 8) + q.val) := by
  have hN : t.val < 8 := lt_of_lt_of_eq t.isLt N_0
  refine (dv_apply _ _ _ s b).trans (congrArg (fun z : EReal => s (ix2 0 b) + z) (Finset.sum_congr rfl fun q _ => ?_))
  have h : 512 * t.val + q.val < 4096 := by omega
  simp only [blk0 m c t q _ h, blk1 m c t q _ h, blk2 m c t]
  unfold termW
  simp only [Nat.mod_eq_of_lt hN]
  rw [dif_pos h]

theorem blockL (c : Dev nD) (t : Fin cfg0.N) (l : Vec Ideal S1x1 .f32) :
    k0_pay2 (k0_pay5 (iblk m c 0 t) (iblk m c 2 t) (iblk m c 1 t)) l (ix2 0 0) = l (ix2 0 0) + ∑ q : Fin 512, termL (m ((c.tc : Thread nD τ).loc main_arg0)) (m ((c.tc : Thread nD τ).loc main_arg1)) (m ((c.tc : Thread nD τ).loc main_arg2)) (512 * (t.val % 8) + q.val) := by
  have hN : t.val < 8 := lt_of_lt_of_eq t.isLt N_0
  refine (row_apply _ _ _ l).trans (congrArg (fun z : EReal => l (ix2 0 0) + z) (Finset.sum_congr rfl fun q _ => ?_))
  have h : 512 * t.val + q.val < 4096 := by omega
  simp only [blk0 m c t q _ h, blk1 m c t q _ h, blk2 m c t]
  unfold termL
  simp only [Nat.mod_eq_of_lt hN]
  rw [dif_pos h]

/-- What the weights' gradient holds after point `t`. -/
theorem accW (c : Dev nD) (b : Fin 1024) (t : ℕ) (h : t < cfg0.N) :
    (outsAt0 m c t h).2.1 (ix2 0 b) = psum (termW (m ((c.tc : Thread nD τ).loc main_arg0)) (m ((c.tc : Thread nD τ).loc main_arg1)) (m ((c.tc : Thread nD τ).loc main_arg2)) b) (512 * (t % 8 + 1)) := by
  refine acc_run 8 512 (fun t h => (outsAt0 m c t h).2.1 (ix2 0 b)) (fun _ => termW (m ((c.tc : Thread nD τ).loc main_arg0)) (m ((c.tc : Thread nD τ).loc main_arg1)) (m ((c.tc : Thread nD τ).loc main_arg2)) b) (fun t h h0 => ?_) (fun t h h0 => ?_) t h
  · rw [outsAt0_A m c ⟨t, h⟩ h0]
    dsimp only
    rw [out_A4, blockW, zero_apply]
  · rw [outsAt0_B m c ⟨t, h⟩ h0]
    dsimp only
    rw [out_B4, blockW]

/-- What the loss holds after point `t`. -/
theorem accL (c : Dev nD) (t : ℕ) (h : t < cfg0.N) :
    (outsAt0 m c t h).2.2 (ix2 0 0) = psum (termL (m ((c.tc : Thread nD τ).loc main_arg0)) (m ((c.tc : Thread nD τ).loc main_arg1)) (m ((c.tc : Thread nD τ).loc main_arg2))) (512 * (t % 8 + 1)) := by
  refine acc_run 8 512 (fun t h => (outsAt0 m c t h).2.2 (ix2 0 0)) (fun _ => termL (m ((c.tc : Thread nD τ).loc main_arg0)) (m ((c.tc : Thread nD τ).loc main_arg1)) (m ((c.tc : Thread nD τ).loc main_arg2))) (fun t h h0 => ?_) (fun t h h0 => ?_) t h
  · rw [outsAt0_A m c ⟨t, h⟩ h0]
    dsimp only
    rw [out_A5, blockL, zero_one]
  · rw [outsAt0_B m c ⟨t, h⟩ h0]
    dsimp only
    rw [out_B5, blockL]

theorem final4 (c : Dev nD) : (dats m 0 c).arrAt 4 cfg0.N = (fun y => dw (m ((c.tc : Thread nD τ).loc main_arg0)) (m ((c.tc : Thread nD τ).loc main_arg1)) (m ((c.tc : Thread nD τ).loc main_arg2)) (y 1 : Fin 1024) : Vec Ideal S1x1024 .f32) := by
  refine (dats m 0 c).arrAt_eq_of_covers 4 _ (by decide +kernel) fun t hf y => ?_
  obtain ⟨b, rfl⟩ : ∃ b : Fin 1024, y = ix2 0 b := ⟨y 1, (eq_ix2 y).trans (congrArg (fun z => ix2 z (y 1)) (Subsingleton.elim _ _))⟩
  have hN : t.val < 8 := lt_of_lt_of_eq t.isLt N_0
  have h7 : t.val % 8 = 7 := by have := (flush0_4 t).mp hf; omega
  blk_simp
  rw [after0_4, emb4, accW, h7]
  exact (dw_apply _ _ _ b).symm

theorem final5 (c : Dev nD) : (dats m 0 c).arrAt 5 cfg0.N = (fun _ => loss (m ((c.tc : Thread nD τ).loc main_arg0)) (m ((c.tc : Thread nD τ).loc main_arg1)) (m ((c.tc : Thread nD τ).loc main_arg2)) : Vec Ideal S1x1 .f32) := by
  refine (dats m 0 c).arrAt_eq_of_covers 5 _ (by decide +kernel) fun t hf y => ?_
  obtain rfl : y = ix2 0 0 := (eq_ix2 y).trans (congrArg₂ ix2 (Subsingleton.elim _ _) (Subsingleton.elim _ _))
  have hN : t.val < 8 := lt_of_lt_of_eq t.isLt N_0
  have h7 : t.val % 8 = 7 := by have := (flush0_5 t).mp hf; omega
  blk_simp
  rw [after0_5, accL, h7]
  exact (loss_apply _ _ _).symm

variable (ρ : Dev nD → PrngReg)

/-- THE KERNEL'S RUN: the two gradients and the loss, its arguments unchanged. -/
theorem run : θ_run (defs (F := Ideal)) (onTc (τ := τ) (main (F := Ideal))) ⟨m, fun _ => 0, ρ⟩ fun r => ∀ c : Dev nD,
      r.2.mem ((c.tc : Thread nD τ).loc main_v0_0) = (fun y => dx (m ((c.tc : Thread nD τ).loc main_arg0)) (m ((c.tc : Thread nD τ).loc main_arg1)) (m ((c.tc : Thread nD τ).loc main_arg2)) (y 0 : Fin 4096) (y 1 : Fin 1024) : Vec Ideal S4096x1024 .f32)
      ∧ r.2.mem ((c.tc : Thread nD τ).loc main_v0_1) = (fun y => dw (m ((c.tc : Thread nD τ).loc main_arg0)) (m ((c.tc : Thread nD τ).loc main_arg1)) (m ((c.tc : Thread nD τ).loc main_arg2)) (y 1 : Fin 1024) : Vec Ideal S1x1024 .f32)
      ∧ r.2.mem ((c.tc : Thread nD τ).loc main_v0_2) = (fun _ => loss (m ((c.tc : Thread nD τ).loc main_arg0)) (m ((c.tc : Thread nD τ).loc main_arg1)) (m ((c.tc : Thread nD τ).loc main_arg2)) : Vec Ideal S1x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final3 m c), (h c).2.1.trans (final4 m c), (h c).2.2.1.trans (final5 m c), (h c).2.2.2⟩) (Value.run_blocks m ρ)

end Cert.LossIdeal.Entries

end
-- ==== Proof.Losses.lean ====
/- The loss with its gradients: the program's results are its reference's. -/
module

public import proofs.«01_k».proof.Defs
public import proofs.«01_k».proof.Proof.Gen.LossIdeal
public import proofs.«01_k».proof.Proof.Gen.LossRefIdeal
public import proofs.«01_k».proof.Proof.Gen.LossRefIdeal.Run
public import proofs.«01_k».proof.Proof.LossValue

@[expose] public section

set_option maxRecDepth 16384

noncomputable section

namespace Cert.Proof.Losses

open Idealize.ShloMosaic Idealize.ShloMosaic.TcCoe Idealize.SL.Sem Blocked Rms Cert.LossIdeal.Entries

theorem one_half : Ideal.ofBits .f32 0x3F000000#32 = ((1 / 2 : ℝ) : EReal) := by
  simp [Ideal.ofBits, Ideal.ieee, -EReal.coe_mul]
  norm_num

theorem two : Ideal.ofBits .f32 0x40000000#32 = ((2 : ℝ) : EReal) := by
  simp [Ideal.ofBits, Ideal.ieee, -EReal.coe_mul]
  norm_num

theorem over1024 : Ideal.ofBits .f32 0x3A800000#32 = ((1 / 1024 : ℝ) : EReal) := by
  simp [Ideal.ofBits, Ideal.ieee, -EReal.coe_mul]
  norm_num

theorem over2048 : Ideal.ofBits .f32 0x3A000000#32 = ((1 / 2048 : ℝ) : EReal) := by
  simp [Ideal.ofBits, Ideal.ieee, -EReal.coe_mul]
  norm_num

/-- The gradient of half a mean of squares. -/
theorem half_square (e : EReal) : Ideal.div (Ideal.ofBits .f32 0x3F000000#32) (Ideal.ofBits .f32 1149239296#32) * (Ideal.ofBits .f32 0x40000000#32 * e) = e * Ideal.ofBits .f32 0x3A800000#32 := by
  rw [one_half, two, over1024, n1024, Ideal.div_coe (by norm_num), ← EReal.coe_mul, ← mul_assoc, ← EReal.coe_mul, mul_comm]
  norm_num

theorem half_div (x : EReal) : ((1 / 2 : ℝ) : EReal) * Ideal.div x (Ideal.ofBits .f32 1149239296#32) = x * Ideal.ofBits .f32 0x3A000000#32 := by
  rw [over2048, n1024, Ideal.div_coe (by norm_num), mul_comm, mul_assoc, ← EReal.coe_mul]
  norm_num

/-- The reference of the loss leaves its arguments unchanged. -/
theorem frameLoss : Cert.quiescent_LossRefIdeal (hLossRefIdeal := Cert.LossRefIdeal.Gen.facts) := fun m ρ _ =>
  (θ_run _ _ _).mono (fun r h => ⟨fun c => (h c).2.2.2, sem_eq_zero_of_no_sems (by decide) _⟩) (Cert.LossRefIdeal.Value.run m ρ)

/-- The loss and its gradients are the reference's. -/
theorem valueLoss : Cert.algebraic_LossIdeal_LossRefIdeal (hLossIdeal := Cert.LossIdeal.Gen.facts)
    (hLossRefIdeal := Cert.LossRefIdeal.Gen.facts) := fun m ρ m' ρ' _ hag => by
  refine ⟨fun c => _, fun c => _, fun c => _, Cert.LossIdeal.Entries.run m ρ,
    (θ_run _ _ _).mono (fun r h c => ⟨(h c).1.trans (funext fun y => ?_), (h c).2.1.trans (funext fun y => ?_), (h c).2.2.1.trans (funext fun y => ?_), (h c).2.2.2⟩)
      (Cert.LossRefIdeal.Value.run m' ρ')⟩
  · unfold Cert.LossRefIdeal.Value.res_main_v48
    rw [(hag c).1, (hag c).2.1, (hag c).2.2]
    obtain ⟨a, b, rfl⟩ : ∃ (a : Fin 4096) (b : Fin 1024), y = ix2 a b := ⟨y 0, y 1, eq_ix2 y⟩
    unfold dx dr dn err
    pointwise
    simp only [Fin.sum_univ_one, half_square]
    exact (grad_row (fun k => m (c.tc.loc Cert.LossIdeal.main_arg0) (ix2 a k)) _ _ _).symm
  · rw [(hag c).1, (hag c).2.1, (hag c).2.2]
    obtain ⟨b, rfl⟩ : ∃ b : Fin 1024, y = ix2 0 b := ⟨y 1, (eq_ix2 y).trans (congrArg (fun z => ix2 z (y 1)) (Subsingleton.elim _ _))⟩
    unfold dw dv dn err
    pointwise
    simp only [half_square]
    exact Finset.sum_congr rfl fun k _ => mul_comm _ _
  · rw [(hag c).1, (hag c).2.1, (hag c).2.2]
    obtain rfl : y = ix2 0 0 := (eq_ix2 y).trans (congrArg₂ ix2 (Subsingleton.elim _ _) (Subsingleton.elim _ _))
    unfold loss row err
    pointwise
    rw [one_half, mul_sum (by norm_num)]
    refine Finset.sum_congr rfl fun n _ => ?_
    exact half_div _

end Cert.Proof.Losses

end
-- ==== Proof.Chunk.lean ====
/- One grid point of the backward scan as a recursion over its eight chunks: what the kernel's body
   leaves for one chunk and one head (`dvnT`, `stepT`), the state after some of the chunks (`st`), and
   that the stores the body's run found are these values. -/
module

public import proofs.«01_k».proof.Proof.Gen.KernelIdeal.Value
public import Idealize.ShloMosaic.Lib.Pipeline.ValueKit

@[expose] public section

set_option maxRecDepth 16384

noncomputable section

namespace Cert.KernelIdeal.Chunk

open Cert.KernelIdeal Cert.KernelIdeal.Gen Idealize.ShloMosaic Idealize.ShloMosaic.TcCoe Idealize.SL.Sem

variable {F : FTy → Type} [FloatOps F]

theorem inb_row (k h : Fin 8) : ∀ a, (![64 * k.val, 128 * h.val] : Fin 2 → ℕ) a + S64x128.size a ≤ S512x1024.size a := by
  intro a; have := k.isLt; have := h.isLt
  match a with
  | 0 => show 64 * k.val + 64 ≤ 512; omega
  | 1 => show 128 * h.val + 128 ≤ 1024; omega

theorem inb_att (k h : Fin 8) : ∀ a, (![h.val, 64 * k.val, 0] : Fin 3 → ℕ) a + S1x64x64.size a ≤ S8x512x64.size a := by
  intro a; have := k.isLt; have := h.isLt
  match a with
  | 0 => show h.val + 1 ≤ 8; omega
  | 1 => show 64 * k.val + 64 ≤ 512; omega
  | 2 => show 0 + 64 ≤ 64; omega

theorem inb_gate (k : Fin 8) : ∀ a, (![64 * k.val + 63, 0] : Fin 2 → ℕ) a + S1x128.size a ≤ S512x128.size a := by
  intro a; have := k.isLt
  match a with
  | 0 => show 64 * k.val + 63 + 1 ≤ 512; omega
  | 1 => show 0 + 128 ≤ 128; omega

theorem inb_state (h : Fin 8) : ∀ a, (![h.val, 0, 0] : Fin 3 → ℕ) a + S1x128x128.size a ≤ S8x128x128.size a := by
  intro a; have := h.isLt
  match a with
  | 0 => show h.val + 1 ≤ 8; omega
  | 1 => show 0 + 128 ≤ 128; omega
  | 2 => show 0 + 128 ≤ 128; omega

theorem inb_hist (k h : Fin 8) : ∀ a, (![k.val, h.val, 0, 0] : Fin 4 → ℕ) a + S1x1x128x128.size a ≤ S8x8x128x128.size a := by
  intro a; have := k.isLt; have := h.isLt
  match a with
  | 0 => show k.val + 1 ≤ 8; omega
  | 1 => show h.val + 1 ≤ 8; omega
  | 2 => show 0 + 128 ≤ 128; omega
  | 3 => show 0 + 128 ≤ 128; omega

theorem slices_gate (h : Fin 8) : Shape.Slices S1x128 ![0, h.val] S1x1 := by
  have := h.isLt
  refine ⟨rfl, fun a => ?_⟩
  match a with
  | 0 => show 0 + 1 ≤ 1; omega
  | 1 => show h.val + 1 ≤ 128; omega

variable (X0 : Vec F S512x1024 .f32) (X1 X2 X3 : Vec F S512x1024 .bf16) (X4 : Vec F S8x512x64 .bf16) (X5 : Vec F S512x128 .f32)

/-- The gradient of one chunk's written values, from the state gradient that comes in. -/
def dvnT (k h : Fin 8) (S : FVec F S128x128 .f32) : FVec F S64x128 .f32 :=
  addf
    (matmul dot_S64x64_S64x128_S64x128_0_0_1_1_n_n none
      (shapeCast S64x64 (View.ld X4 (Rect.unit ![h.val, 64 * k.val, 0] S1x64x64.size (inb_att k h))) shapeCasts_S1x64x64_S64x64)
      (truncf .bf16 (View.ld X0 (Rect.unit ![64 * k.val, 128 * h.val] S64x128.size (inb_row k h))) bitsLt_bf16_f32)
      (constant S64x128 .f32 0x00000000#32))
    (matmul dot_S64x128_S128x128_S64x128_1_0_0_1_n_n none
      (shapeCast S64x128 (View.ld X2 (Rect.unit ![64 * k.val, 128 * h.val] S64x128.size (inb_row k h))) shapeCasts_S64x128_S64x128)
      (truncf .bf16 S bitsLt_bf16_f32)
      (constant S64x128 .f32 0x00000000#32))

/-- The state gradient that leaves one chunk. -/
def stepT (k h : Fin 8) (S : FVec F S128x128 .f32) : FVec F S128x128 .f32 :=
  subf
    (addf
      (matmul dot_S64x128_S64x128_S128x128_0_0_1_1_n_n none
        (shapeCast S64x128 (View.ld X3 (Rect.unit ![64 * k.val, 128 * h.val] S64x128.size (inb_row k h))) shapeCasts_S64x128_S64x128)
        (truncf .bf16 (View.ld X0 (Rect.unit ![64 * k.val, 128 * h.val] S64x128.size (inb_row k h))) bitsLt_bf16_f32)
        (constant S128x128 .f32 0x00000000#32))
      (mulf
        (broadcastTo S128x128
          (extractStridedSlice S1x1 ![0, h.val]
            (show FVec F S1x128 .f32 from exp (View.ld X5 (Rect.unit ![64 * k.val + 63, 0] S1x128.size (inb_gate k)))) (slices_gate h))
          broadcasts_S1x1_S128x128)
        S))
    (matmul dot_S64x128_S64x128_S128x128_0_0_1_1_n_n none
      (shapeCast S64x128 (View.ld X1 (Rect.unit ![64 * k.val, 128 * h.val] S64x128.size (inb_row k h))) shapeCasts_S64x128_S64x128)
      (truncf .bf16 (dvnT X0 X2 X4 k h S) bitsLt_bf16_f32)
      (constant S128x128 .f32 0x00000000#32))

/-- The chunk the body takes `n`-th. -/
def nth (n : ℕ) : Fin 8 := ⟨7 - n, by omega⟩

/-- Head `h`'s state gradient after the body's first `n` chunks, from `S`. -/
def st (h : Fin 8) (S : FVec F S128x128 .f32) : ℕ → FVec F S128x128 .f32
  | 0 => S
  | n + 1 => stepT X0 X1 X2 X3 X4 X5 (nth n) h (st h S n)

/-- Head `h` of a carried state. -/
def head (X : Vec F S8x128x128 .f32) (h : Fin 8) : FVec F S128x128 .f32 :=
  shapeCast S128x128 (View.ld X (Rect.unit ![h.val, 0, 0] S1x128x128.size (inb_state h))) shapeCasts_S1x128x128_S128x128

/-- The head a list's `n`-th store belongs to, the stores listed newest first. -/
def hd (n : Fin 64) : Fin 8 := ⟨7 - n.val % 8, by omega⟩
/-- The chunk a list's `n`-th store belongs to. -/
def ck (n : Fin 64) : Fin 8 := ⟨n.val / 8, by have := n.isLt; omega⟩
/-- The head of the `n`-th store of the carried state. -/
def hs (n : Fin 8) : Fin 8 := ⟨7 - n.val, by omega⟩

/-- The stores of the written values' gradient, newest first, the state's head `h` entering as `S h`. -/
def piecesV (S : Fin 8 → FVec F S128x128 .f32) : List (View.Piece (Elt F) S512x1024 .f32) :=
  List.ofFn fun n : Fin 64 => ⟨Rect.unit ![64 * (ck n).val, 128 * (hd n).val] S64x128.size (inb_row (ck n) (hd n)),
    dvnT X0 X2 X4 (ck n) (hd n) (st X0 X1 X2 X3 X4 X5 (hd n) (S (hd n)) (7 - (ck n).val))⟩

/-- The stores of the state gradients, newest first. -/
def piecesS (S : Fin 8 → FVec F S128x128 .f32) : List (View.Piece (Elt F) S8x8x128x128 .bf16) :=
  List.ofFn fun n : Fin 64 => ⟨Rect.unit ![(ck n).val, (hd n).val, 0, 0] S1x1x128x128.size (inb_hist (ck n) (hd n)),
    shapeCast S1x1x128x128 (truncf .bf16 (st X0 X1 X2 X3 X4 X5 (hd n) (S (hd n)) (7 - (ck n).val)) bitsLt_bf16_f32) shapeCasts_S128x128_S1x1x128x128⟩

/-- The stores of the state the point leaves, newest first. -/
def piecesC (S : Fin 8 → FVec F S128x128 .f32) : List (View.Piece (Elt F) S8x128x128 .f32) :=
  List.ofFn fun n : Fin 8 => ⟨Rect.unit ![(hs n).val, 0, 0] S1x128x128.size (inb_state (hs n)),
    shapeCast S1x128x128 (st X0 X1 X2 X3 X4 X5 (hs n) (S (hs n)) 8) shapeCasts_S128x128_S1x128x128⟩

theorem piecesB_6 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x512x64 .bf16) (harg5 : arg5.IsWhole) (arg6 : Memref sig .tc .vmem S512x128 .f32) (harg6 : arg6.IsWhole) (arg7 : Memref sig .tc .vmem S512x1024 .f32) (harg7 : arg7.IsWhole) (arg8 : Memref sig .tc .vmem S8x8x128x128 .bf16) (harg8 : arg8.IsWhole) (arg9 : Memref sig .tc .vmem S8x128x128 .f32) (harg9 : arg9.IsWhole) (hc0 : ¬cond0_0 i)
    (x0 : Vec F S512x1024 .f32) (x1 : Vec F S512x1024 .bf16) (x2 : Vec F S512x1024 .bf16) (x3 : Vec F S512x1024 .bf16) (x4 : Vec F S8x512x64 .bf16) (x5 : Vec F S512x128 .f32) (xs0 : Vec F S8x128x128 .f32) :
    (kernelRun0_B c i arg1 harg1 arg2 harg2 arg3 harg3 arg4 harg4 arg5 harg5 arg6 harg6 arg7 harg7 arg8 harg8 arg9 harg9 hc0 x0 x1 x2 x3 x4 x5 xs0).1 = piecesV (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (head (arg9.view.read (Elt F) (harg9.unread xs0))) := by
  sl_kernel_rfl

theorem piecesB_7 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x512x64 .bf16) (harg5 : arg5.IsWhole) (arg6 : Memref sig .tc .vmem S512x128 .f32) (harg6 : arg6.IsWhole) (arg7 : Memref sig .tc .vmem S512x1024 .f32) (harg7 : arg7.IsWhole) (arg8 : Memref sig .tc .vmem S8x8x128x128 .bf16) (harg8 : arg8.IsWhole) (arg9 : Memref sig .tc .vmem S8x128x128 .f32) (harg9 : arg9.IsWhole) (hc0 : ¬cond0_0 i)
    (x0 : Vec F S512x1024 .f32) (x1 : Vec F S512x1024 .bf16) (x2 : Vec F S512x1024 .bf16) (x3 : Vec F S512x1024 .bf16) (x4 : Vec F S8x512x64 .bf16) (x5 : Vec F S512x128 .f32) (xs0 : Vec F S8x128x128 .f32) :
    (kernelRun0_B c i arg1 harg1 arg2 harg2 arg3 harg3 arg4 harg4 arg5 harg5 arg6 harg6 arg7 harg7 arg8 harg8 arg9 harg9 hc0 x0 x1 x2 x3 x4 x5 xs0).2.1 = piecesS (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (head (arg9.view.read (Elt F) (harg9.unread xs0))) := by
  sl_kernel_rfl

theorem piecesB_c (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x512x64 .bf16) (harg5 : arg5.IsWhole) (arg6 : Memref sig .tc .vmem S512x128 .f32) (harg6 : arg6.IsWhole) (arg7 : Memref sig .tc .vmem S512x1024 .f32) (harg7 : arg7.IsWhole) (arg8 : Memref sig .tc .vmem S8x8x128x128 .bf16) (harg8 : arg8.IsWhole) (arg9 : Memref sig .tc .vmem S8x128x128 .f32) (harg9 : arg9.IsWhole) (hc0 : ¬cond0_0 i)
    (x0 : Vec F S512x1024 .f32) (x1 : Vec F S512x1024 .bf16) (x2 : Vec F S512x1024 .bf16) (x3 : Vec F S512x1024 .bf16) (x4 : Vec F S8x512x64 .bf16) (x5 : Vec F S512x128 .f32) (xs0 : Vec F S8x128x128 .f32) :
    (kernelRun0_B c i arg1 harg1 arg2 harg2 arg3 harg3 arg4 harg4 arg5 harg5 arg6 harg6 arg7 harg7 arg8 harg8 arg9 harg9 hc0 x0 x1 x2 x3 x4 x5 xs0).2.2.1 = piecesC (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (head (arg9.view.read (Elt F) (harg9.unread xs0))) := by
  sl_kernel_rfl

/-- The heads of the state that the resetting point loads back. -/
def startA (c : Dev nD) (arg9 : Memref sig .tc .vmem S8x128x128 .f32) : Fin 8 → FVec F S128x128 .f32 :=
  ![kernelRun0_A.sl.r c arg9, kernelRun0_A.sl.r_1 c arg9, kernelRun0_A.sl.r_2 c arg9, kernelRun0_A.sl.r_3 c arg9, kernelRun0_A.sl.r_4 c arg9, kernelRun0_A.sl.r_5 c arg9, kernelRun0_A.sl.r_6 c arg9, kernelRun0_A.sl.r_7 c arg9]

theorem piecesA_6 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x512x64 .bf16) (harg5 : arg5.IsWhole) (arg6 : Memref sig .tc .vmem S512x128 .f32) (harg6 : arg6.IsWhole) (arg7 : Memref sig .tc .vmem S512x1024 .f32) (harg7 : arg7.IsWhole) (arg8 : Memref sig .tc .vmem S8x8x128x128 .bf16) (harg8 : arg8.IsWhole) (arg9 : Memref sig .tc .vmem S8x128x128 .f32) (harg9 : arg9.IsWhole) (hc0 : cond0_0 i)
    (x0 : Vec F S512x1024 .f32) (x1 : Vec F S512x1024 .bf16) (x2 : Vec F S512x1024 .bf16) (x3 : Vec F S512x1024 .bf16) (x4 : Vec F S8x512x64 .bf16) (x5 : Vec F S512x128 .f32) :
    (kernelRun0_A c i arg1 harg1 arg2 harg2 arg3 harg3 arg4 harg4 arg5 harg5 arg6 harg6 arg7 harg7 arg8 harg8 arg9 harg9 hc0 x0 x1 x2 x3 x4 x5).1 = piecesV (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (startA c arg9) := by
  sl_kernel_rfl

theorem piecesA_7 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x512x64 .bf16) (harg5 : arg5.IsWhole) (arg6 : Memref sig .tc .vmem S512x128 .f32) (harg6 : arg6.IsWhole) (arg7 : Memref sig .tc .vmem S512x1024 .f32) (harg7 : arg7.IsWhole) (arg8 : Memref sig .tc .vmem S8x8x128x128 .bf16) (harg8 : arg8.IsWhole) (arg9 : Memref sig .tc .vmem S8x128x128 .f32) (harg9 : arg9.IsWhole) (hc0 : cond0_0 i)
    (x0 : Vec F S512x1024 .f32) (x1 : Vec F S512x1024 .bf16) (x2 : Vec F S512x1024 .bf16) (x3 : Vec F S512x1024 .bf16) (x4 : Vec F S8x512x64 .bf16) (x5 : Vec F S512x128 .f32) :
    (kernelRun0_A c i arg1 harg1 arg2 harg2 arg3 harg3 arg4 harg4 arg5 harg5 arg6 harg6 arg7 harg7 arg8 harg8 arg9 harg9 hc0 x0 x1 x2 x3 x4 x5).2.1 = piecesS (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (startA c arg9) := by
  sl_kernel_rfl

end Cert.KernelIdeal.Chunk
-- ==== Proof.Point.lean ====
/- What a grid point's stores leave, read at an index: the written values' gradient and the state
   gradients of each chunk and head, and the state the point hands on. -/
module

public import proofs.«01_k».proof.Proof.Chunk
public import Idealize.ShloMosaic.Lib.Pipeline.ReadBack
public import Idealize.ShloMosaic.Lib.Pipeline.CanonAppend
public import Idealize.ShloMosaic.Lib.Pointwise

@[expose] public section

set_option maxRecDepth 16384

noncomputable section

namespace Cert.KernelIdeal.Chunk

open Cert.KernelIdeal Cert.KernelIdeal.Gen Idealize.ShloMosaic Idealize.ShloMosaic.TcCoe Idealize.SL.Sem

variable {F : FTy → Type} [FloatOps F]

/-- Row `i` of a block's chunk `k`. -/
def rowOf (k : Fin 8) (i : Fin 64) : Fin 512 := ⟨64 * k.val + i.val, by omega⟩
/-- Column `e` of head `h`. -/
def colOf (h : Fin 8) (e : Fin 128) : Fin 1024 := ⟨128 * h.val + e.val, by omega⟩

section
variable (X0 : Vec F S512x1024 .f32) (X1 X2 X3 : Vec F S512x1024 .bf16) (X4 : Vec F S8x512x64 .bf16) (X5 : Vec F S512x128 .f32)

theorem canonV (S : Fin 8 → FVec F S128x128 .f32) (k h : Fin 8) (i : Fin 64) (e : Fin 128) :
    View.canon (piecesV X0 X1 X2 X3 X4 X5 S) (ix2 (rowOf k i) (colOf h e))
      = dvnT X0 X2 X4 k h (st X0 X1 X2 X3 X4 X5 h (S h) (7 - k.val)) (ix2 i e) := by
  unfold piecesV
  refine View.canon_ofFn_unit_eq_of_forall (S := S512x1024) (fun n : Fin 64 => ![64 * (ck n).val, 128 * (hd n).val]) S64x128.size
    (fun n => inb_row (ck n) (hd n)) _ (ix2 (rowOf k i) (colOf h e)) _ ?_ ?_
  · refine ⟨⟨8 * k.val + (7 - h.val), by omega⟩, fun a => ?_⟩
    match a with
    | 0 =>
      show 64 * ((8 * k.val + (7 - h.val)) / 8) ≤ 64 * k.val + i.val ∧ 64 * k.val + i.val < 64 * ((8 * k.val + (7 - h.val)) / 8) + 64
      omega
    | 1 =>
      show 128 * (7 - (8 * k.val + (7 - h.val)) % 8) ≤ 128 * h.val + e.val ∧ 128 * h.val + e.val < 128 * (7 - (8 * k.val + (7 - h.val)) % 8) + 128
      omega
  · intro n x hx
    obtain ⟨a, b, rfl⟩ : ∃ (a : Fin 64) (b : Fin 128), x = ix2 a b := ⟨x 0, x 1, eq_ix2 x⟩
    have h0 : 64 * k.val + i.val = 64 * (ck n).val + a.val := hx 0
    have h1 : 128 * h.val + e.val = 128 * (hd n).val + b.val := hx 1
    have hk : ck n = k := Fin.ext (by omega)
    have hh : hd n = h := Fin.ext (by omega)
    have hi : a = i := Fin.ext (by rw [hk] at h0; omega)
    have he : b = e := Fin.ext (by rw [hh] at h1; omega)
    rw [hk, hh, hi, he]

theorem canonS (S : Fin 8 → FVec F S128x128 .f32) (k h : Fin 8) (d e : Fin 128) :
    View.canon (piecesS X0 X1 X2 X3 X4 X5 S) (ix4 k h d e)
      = (truncf .bf16 (st X0 X1 X2 X3 X4 X5 h (S h) (7 - k.val)) bitsLt_bf16_f32) (ix2 d e) := by
  unfold piecesS
  refine View.canon_ofFn_unit_eq_of_forall (S := S8x8x128x128) (fun n : Fin 64 => ![(ck n).val, (hd n).val, 0, 0]) S1x1x128x128.size
    (fun n => inb_hist (ck n) (hd n)) _ (ix4 k h d e) _ ?_ ?_
  · refine ⟨⟨8 * k.val + (7 - h.val), by omega⟩, fun a => ?_⟩
    match a with
    | 0 =>
      show (8 * k.val + (7 - h.val)) / 8 ≤ k.val ∧ k.val < (8 * k.val + (7 - h.val)) / 8 + 1
      omega
    | 1 =>
      show 7 - (8 * k.val + (7 - h.val)) % 8 ≤ h.val ∧ h.val < 7 - (8 * k.val + (7 - h.val)) % 8 + 1
      omega
    | 2 => show 0 ≤ d.val ∧ d.val < 0 + 128; omega
    | 3 => show 0 ≤ e.val ∧ e.val < 0 + 128; omega
  · intro n x hx
    obtain ⟨z, w, a, b, rfl⟩ : ∃ (z w : Fin 1) (a b : Fin 128), x = ix4 z w a b := ⟨x 0, x 1, x 2, x 3, eq_ix4 x⟩
    have h0 : k.val = (ck n).val + z.val := hx 0
    have h1 : h.val = (hd n).val + w.val := hx 1
    have h2 : d.val = 0 + a.val := hx 2
    have h3 : e.val = 0 + b.val := hx 3
    have hk : ck n = k := Fin.ext (by omega)
    have hh : hd n = h := Fin.ext (by omega)
    have hi : a = d := Fin.ext (by omega)
    have he : b = e := Fin.ext (by omega)
    rw [hk, hh, hi, he]
    pointwise

/-- The state a point hands on, head by head. -/
def left (S : Fin 8 → FVec F S128x128 .f32) : Vec F S8x128x128 .f32 := fun y =>
  st X0 X1 X2 X3 X4 X5 (y 0 : Fin 8) (S (y 0 : Fin 8)) 8 (ix2 (y 1 : Fin 128) (y 2 : Fin 128))

theorem piecesC_left (S : Fin 8 → FVec F S128x128 .f32) :
    ∀ p ∈ piecesC X0 X1 X2 X3 X4 X5 S, ∀ x : p.1.shape.Idx, p.2 x = left X0 X1 X2 X3 X4 X5 S (p.1.emb x) := by
  intro p hp
  obtain ⟨n, rfl⟩ := (List.mem_ofFn).mp hp
  intro x
  obtain ⟨z, a, b, rfl⟩ : ∃ (z : Fin 1) (a b : Fin 128), x = ix3 z a b := ⟨x 0, x 1, x 2, eq_ix3 x⟩
  have he : (Rect.unit ![(hs n).val, 0, 0] S1x128x128.size (inb_state (hs n)) : Rect S8x128x128).emb (ix3 z a b) = ix3 (hs n) a b := by
    funext q
    apply Fin.ext
    rw [Rect.emb_apply]
    have hz : z.val = 0 := by omega
    match q with
    | 0 => show (hs n).val + 1 * z.val = (hs n).val; omega
    | 1 => show 0 + 1 * a.val = a.val; omega
    | 2 => show 0 + 1 * b.val = b.val; omega
  show (shapeCast S1x128x128 (st X0 X1 X2 X3 X4 X5 (hs n) (S (hs n)) 8) shapeCasts_S128x128_S1x128x128) (ix3 z a b) = left X0 X1 X2 X3 X4 X5 S ((Rect.unit ![(hs n).val, 0, 0] S1x128x128.size (inb_state (hs n)) : Rect S8x128x128).emb (ix3 z a b))
  rw [he]
  unfold left
  pointwise

theorem piecesC_cover (S : Fin 8 → FVec F S128x128 .f32) (y : S8x128x128.Idx) :
    ∃ p ∈ piecesC X0 X1 X2 X3 X4 X5 S, y ∈ p.1.set := by
  obtain ⟨h, a, b, rfl⟩ : ∃ (h : Fin 8) (a b : Fin 128), y = ix3 h a b := ⟨y 0, y 1, y 2, eq_ix3 y⟩
  refine ⟨_, List.mem_ofFn.mpr ⟨⟨7 - h.val, by omega⟩, rfl⟩, ?_⟩
  refine (Rect.mem_set_unit (s := S8x128x128) (inb := inb_state (hs ⟨7 - h.val, by omega⟩))).mpr fun q => ?_
  match q with
  | 0 => show 7 - (7 - h.val) ≤ h.val ∧ h.val < 7 - (7 - h.val) + 1; omega
  | 1 => show 0 ≤ a.val ∧ a.val < 0 + 128; omega
  | 2 => show 0 ≤ b.val ∧ b.val < 0 + 128; omega

theorem canonC (S : Fin 8 → FVec F S128x128 .f32) (L : List (View.Piece (Elt F) S8x128x128 .f32)) :
    View.canon (piecesC X0 X1 X2 X3 X4 X5 S ++ L) = left X0 X1 X2 X3 X4 X5 S :=
  funext fun y => View.canon_append_of_pieces (left X0 X1 X2 X3 X4 X5 S) L _ (piecesC_left X0 X1 X2 X3 X4 X5 S) y (piecesC_cover X0 X1 X2 X3 X4 X5 S y)

theorem cast_state (Y : Vec F S1x128x128 .f32) (a b : Fin 128) :
    shapeCast S128x128 Y shapeCasts_S1x128x128_S128x128 (ix2 a b) = Y (ix3 0 a b) := by
  pointwise

theorem head_apply (X : Vec F S8x128x128 .f32) (h : Fin 8) (a b : Fin 128) : head X h (ix2 a b) = X (ix3 h a b) := by
  refine (cast_state _ a b).trans ?_
  refine View.ld_unit_apply_of X _ _ _ _ _ fun q => ?_
  match q with
  | 0 => show h.val = h.val + 0; omega
  | 1 => show a.val = 0 + a.val; omega
  | 2 => show b.val = 0 + b.val; omega

theorem head_left (S : Fin 8 → FVec F S128x128 .f32) (h : Fin 8) :
    head (left X0 X1 X2 X3 X4 X5 S) h = st X0 X1 X2 X3 X4 X5 h (S h) 8 := by
  funext j
  obtain ⟨a, b, rfl⟩ : ∃ (a b : Fin 128), j = ix2 a b := ⟨j 0, j 1, eq_ix2 j⟩
  rw [head_apply]
  rfl
end

/-- The head of the zero state the resetting point stores first. -/
theorem startA_eq (c : Dev nD) (arg9 : Memref sig .tc .vmem S8x128x128 .f32) (h : Fin 8) :
    startA (F := F) c arg9 h = head k0_pay6 h := by
  have e : ∀ r : Rect S8x128x128, arg9.view.readCov (Val := Elt F) kernelRun0_A.sl.HS0_1 r.toLoadRect = View.ld (k0_pay6 (F := F)) r := fun r => by
    unfold kernelRun0_A.sl.HS0_1
    exact View.readCov_fill arg9.view _ _ _ r (by decide)
  match h with
  | 0 => exact congrArg (fun z : Vec F S1x128x128 .f32 => shapeCast S128x128 z shapeCasts_S1x128x128_S128x128) (e (Rect.unit ![0, 0, 0] S1x128x128.size (inb_state 0)))
  | 1 => exact congrArg (fun z : Vec F S1x128x128 .f32 => shapeCast S128x128 z shapeCasts_S1x128x128_S128x128) (e (Rect.unit ![1, 0, 0] S1x128x128.size (inb_state 1)))
  | 2 => exact congrArg (fun z : Vec F S1x128x128 .f32 => shapeCast S128x128 z shapeCasts_S1x128x128_S128x128) (e (Rect.unit ![2, 0, 0] S1x128x128.size (inb_state 2)))
  | 3 => exact congrArg (fun z : Vec F S1x128x128 .f32 => shapeCast S128x128 z shapeCasts_S1x128x128_S128x128) (e (Rect.unit ![3, 0, 0] S1x128x128.size (inb_state 3)))
  | 4 => exact congrArg (fun z : Vec F S1x128x128 .f32 => shapeCast S128x128 z shapeCasts_S1x128x128_S128x128) (e (Rect.unit ![4, 0, 0] S1x128x128.size (inb_state 4)))
  | 5 => exact congrArg (fun z : Vec F S1x128x128 .f32 => shapeCast S128x128 z shapeCasts_S1x128x128_S128x128) (e (Rect.unit ![5, 0, 0] S1x128x128.size (inb_state 5)))
  | 6 => exact congrArg (fun z : Vec F S1x128x128 .f32 => shapeCast S128x128 z shapeCasts_S1x128x128_S128x128) (e (Rect.unit ![6, 0, 0] S1x128x128.size (inb_state 6)))
  | 7 => exact congrArg (fun z : Vec F S1x128x128 .f32 => shapeCast S128x128 z shapeCasts_S1x128x128_S128x128) (e (Rect.unit ![7, 0, 0] S1x128x128.size (inb_state 7)))

theorem piecesA_c (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x512x64 .bf16) (harg5 : arg5.IsWhole) (arg6 : Memref sig .tc .vmem S512x128 .f32) (harg6 : arg6.IsWhole) (arg7 : Memref sig .tc .vmem S512x1024 .f32) (harg7 : arg7.IsWhole) (arg8 : Memref sig .tc .vmem S8x8x128x128 .bf16) (harg8 : arg8.IsWhole) (arg9 : Memref sig .tc .vmem S8x128x128 .f32) (harg9 : arg9.IsWhole) (hc0 : cond0_0 i)
    (x0 : Vec F S512x1024 .f32) (x1 : Vec F S512x1024 .bf16) (x2 : Vec F S512x1024 .bf16) (x3 : Vec F S512x1024 .bf16) (x4 : Vec F S8x512x64 .bf16) (x5 : Vec F S512x128 .f32) :
    (kernelRun0_A c i arg1 harg1 arg2 harg2 arg3 harg3 arg4 harg4 arg5 harg5 arg6 harg6 arg7 harg7 arg8 harg8 arg9 harg9 hc0 x0 x1 x2 x3 x4 x5).2.2.1 = piecesC (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (startA c arg9) ++ kernelRun0_A.sl.HS0_1 := by
  sl_kernel_rfl

theorem out0_A_6_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x512x64 .bf16) (harg5 : arg5.IsWhole) (arg6 : Memref sig .tc .vmem S512x128 .f32) (harg6 : arg6.IsWhole) (arg7 : Memref sig .tc .vmem S512x1024 .f32) (harg7 : arg7.IsWhole) (arg8 : Memref sig .tc .vmem S8x8x128x128 .bf16) (harg8 : arg8.IsWhole) (arg9 : Memref sig .tc .vmem S8x128x128 .f32) (harg9 : arg9.IsWhole) (hc0 : cond0_0 i)
    (x0 : Vec F S512x1024 .f32) (x1 : Vec F S512x1024 .bf16) (x2 : Vec F S512x1024 .bf16) (x3 : Vec F S512x1024 .bf16) (x4 : Vec F S8x512x64 .bf16) (x5 : Vec F S512x128 .f32) :
    out0_A_6 c i arg1 harg1 arg2 harg2 arg3 harg3 arg4 harg4 arg5 harg5 arg6 harg6 arg7 harg7 arg8 harg8 arg9 harg9 hc0 x0 x1 x2 x3 x4 x5 = View.canon (piecesV x0 x1 x2 x3 x4 x5 (head k0_pay6)) := by
  unfold out0_A_6
  rw [View.read_writes_junk_eq_canon, piecesA_6, harg1.read_unread, harg2.read_unread, harg3.read_unread, harg4.read_unread, harg5.read_unread, harg6.read_unread]
  rw [show startA (F := F) c arg9 = head k0_pay6 from funext (startA_eq c arg9)]

theorem out0_A_7_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x512x64 .bf16) (harg5 : arg5.IsWhole) (arg6 : Memref sig .tc .vmem S512x128 .f32) (harg6 : arg6.IsWhole) (arg7 : Memref sig .tc .vmem S512x1024 .f32) (harg7 : arg7.IsWhole) (arg8 : Memref sig .tc .vmem S8x8x128x128 .bf16) (harg8 : arg8.IsWhole) (arg9 : Memref sig .tc .vmem S8x128x128 .f32) (harg9 : arg9.IsWhole) (hc0 : cond0_0 i)
    (x0 : Vec F S512x1024 .f32) (x1 : Vec F S512x1024 .bf16) (x2 : Vec F S512x1024 .bf16) (x3 : Vec F S512x1024 .bf16) (x4 : Vec F S8x512x64 .bf16) (x5 : Vec F S512x128 .f32) :
    out0_A_7 c i arg1 harg1 arg2 harg2 arg3 harg3 arg4 harg4 arg5 harg5 arg6 harg6 arg7 harg7 arg8 harg8 arg9 harg9 hc0 x0 x1 x2 x3 x4 x5 = View.canon (piecesS x0 x1 x2 x3 x4 x5 (head k0_pay6)) := by
  unfold out0_A_7
  rw [View.read_writes_junk_eq_canon, piecesA_7, harg1.read_unread, harg2.read_unread, harg3.read_unread, harg4.read_unread, harg5.read_unread, harg6.read_unread]
  rw [show startA (F := F) c arg9 = head k0_pay6 from funext (startA_eq c arg9)]

theorem sout0_A_0_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x512x64 .bf16) (harg5 : arg5.IsWhole) (arg6 : Memref sig .tc .vmem S512x128 .f32) (harg6 : arg6.IsWhole) (arg7 : Memref sig .tc .vmem S512x1024 .f32) (harg7 : arg7.IsWhole) (arg8 : Memref sig .tc .vmem S8x8x128x128 .bf16) (harg8 : arg8.IsWhole) (arg9 : Memref sig .tc .vmem S8x128x128 .f32) (harg9 : arg9.IsWhole) (hc0 : cond0_0 i)
    (x0 : Vec F S512x1024 .f32) (x1 : Vec F S512x1024 .bf16) (x2 : Vec F S512x1024 .bf16) (x3 : Vec F S512x1024 .bf16) (x4 : Vec F S8x512x64 .bf16) (x5 : Vec F S512x128 .f32) :
    sout0_A_0 c i arg1 harg1 arg2 harg2 arg3 harg3 arg4 harg4 arg5 harg5 arg6 harg6 arg7 harg7 arg8 harg8 arg9 harg9 hc0 x0 x1 x2 x3 x4 x5 = left x0 x1 x2 x3 x4 x5 (head k0_pay6) := by
  unfold sout0_A_0
  rw [View.read_writes_junk_eq_canon, piecesA_c, canonC, harg1.read_unread, harg2.read_unread, harg3.read_unread, harg4.read_unread, harg5.read_unread, harg6.read_unread]
  rw [show startA (F := F) c arg9 = head k0_pay6 from funext (startA_eq c arg9)]

theorem out0_B_6_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x512x64 .bf16) (harg5 : arg5.IsWhole) (arg6 : Memref sig .tc .vmem S512x128 .f32) (harg6 : arg6.IsWhole) (arg7 : Memref sig .tc .vmem S512x1024 .f32) (harg7 : arg7.IsWhole) (arg8 : Memref sig .tc .vmem S8x8x128x128 .bf16) (harg8 : arg8.IsWhole) (arg9 : Memref sig .tc .vmem S8x128x128 .f32) (harg9 : arg9.IsWhole) (hc0 : ¬cond0_0 i)
    (x0 : Vec F S512x1024 .f32) (x1 : Vec F S512x1024 .bf16) (x2 : Vec F S512x1024 .bf16) (x3 : Vec F S512x1024 .bf16) (x4 : Vec F S8x512x64 .bf16) (x5 : Vec F S512x128 .f32) (xs0 : Vec F S8x128x128 .f32) :
    out0_B_6 c i arg1 harg1 arg2 harg2 arg3 harg3 arg4 harg4 arg5 harg5 arg6 harg6 arg7 harg7 arg8 harg8 arg9 harg9 hc0 x0 x1 x2 x3 x4 x5 xs0 = View.canon (piecesV x0 x1 x2 x3 x4 x5 (head xs0)) := by
  unfold out0_B_6
  rw [View.read_writes_junk_eq_canon, piecesB_6, harg1.read_unread, harg2.read_unread, harg3.read_unread, harg4.read_unread, harg5.read_unread, harg6.read_unread]
  rw [harg9.read_unread]

theorem out0_B_7_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x512x64 .bf16) (harg5 : arg5.IsWhole) (arg6 : Memref sig .tc .vmem S512x128 .f32) (harg6 : arg6.IsWhole) (arg7 : Memref sig .tc .vmem S512x1024 .f32) (harg7 : arg7.IsWhole) (arg8 : Memref sig .tc .vmem S8x8x128x128 .bf16) (harg8 : arg8.IsWhole) (arg9 : Memref sig .tc .vmem S8x128x128 .f32) (harg9 : arg9.IsWhole) (hc0 : ¬cond0_0 i)
    (x0 : Vec F S512x1024 .f32) (x1 : Vec F S512x1024 .bf16) (x2 : Vec F S512x1024 .bf16) (x3 : Vec F S512x1024 .bf16) (x4 : Vec F S8x512x64 .bf16) (x5 : Vec F S512x128 .f32) (xs0 : Vec F S8x128x128 .f32) :
    out0_B_7 c i arg1 harg1 arg2 harg2 arg3 harg3 arg4 harg4 arg5 harg5 arg6 harg6 arg7 harg7 arg8 harg8 arg9 harg9 hc0 x0 x1 x2 x3 x4 x5 xs0 = View.canon (piecesS x0 x1 x2 x3 x4 x5 (head xs0)) := by
  unfold out0_B_7
  rw [View.read_writes_junk_eq_canon, piecesB_7, harg1.read_unread, harg2.read_unread, harg3.read_unread, harg4.read_unread, harg5.read_unread, harg6.read_unread]
  rw [harg9.read_unread]

theorem sout0_B_0_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x512x64 .bf16) (harg5 : arg5.IsWhole) (arg6 : Memref sig .tc .vmem S512x128 .f32) (harg6 : arg6.IsWhole) (arg7 : Memref sig .tc .vmem S512x1024 .f32) (harg7 : arg7.IsWhole) (arg8 : Memref sig .tc .vmem S8x8x128x128 .bf16) (harg8 : arg8.IsWhole) (arg9 : Memref sig .tc .vmem S8x128x128 .f32) (harg9 : arg9.IsWhole) (hc0 : ¬cond0_0 i)
    (x0 : Vec F S512x1024 .f32) (x1 : Vec F S512x1024 .bf16) (x2 : Vec F S512x1024 .bf16) (x3 : Vec F S512x1024 .bf16) (x4 : Vec F S8x512x64 .bf16) (x5 : Vec F S512x128 .f32) (xs0 : Vec F S8x128x128 .f32) :
    sout0_B_0 c i arg1 harg1 arg2 harg2 arg3 harg3 arg4 harg4 arg5 harg5 arg6 harg6 arg7 harg7 arg8 harg8 arg9 harg9 hc0 x0 x1 x2 x3 x4 x5 xs0 = left x0 x1 x2 x3 x4 x5 (head xs0) := by
  unfold sout0_B_0
  rw [View.read_writes_junk_eq_canon, piecesB_c, ← List.append_nil (piecesC _ _ _ _ _ _ _), canonC, harg1.read_unread, harg2.read_unread, harg3.read_unread, harg4.read_unread, harg5.read_unread, harg6.read_unread]
  rw [harg9.read_unread]

end Cert.KernelIdeal.Chunk
-- ==== Proof.ChunkIdeal.lean ====
/- One chunk of the backward scan on the extended reals, read at an index: the products are sums over
   the contracted axis, the casts are the identity. -/
module

public import proofs.«01_k».proof.Proof.Point

@[expose] public section

set_option maxRecDepth 16384

noncomputable section

namespace Cert.KernelIdeal.Chunk

open Cert.KernelIdeal Cert.KernelIdeal.Gen Idealize.ShloMosaic Idealize.ShloMosaic.TcCoe Idealize.SL.Sem

theorem ld_row {e : EltTy} (X : Vec Ideal S512x1024 e) (k h : Fin 8) (i : Fin 64) (d : Fin 128) :
    View.ld X (Rect.unit ![64 * k.val, 128 * h.val] S64x128.size (inb_row k h)) (ix2 i d) = X (ix2 (rowOf k i) (colOf h d)) :=
  View.ld_unit_apply_of X _ _ _ _ _ fun q => match q with
    | 0 => rfl
    | 1 => rfl

theorem ld_att {e : EltTy} (X : Vec Ideal S8x512x64 e) (k h : Fin 8) (z : Fin 1) (i s : Fin 64) :
    View.ld X (Rect.unit ![h.val, 64 * k.val, 0] S1x64x64.size (inb_att k h)) (ix3 z i s) = X (ix3 h (rowOf k i) s) :=
  View.ld_unit_apply_of X _ _ _ _ _ fun q => match q with
    | 0 => by show h.val = h.val + z.val; omega
    | 1 => rfl
    | 2 => by show s.val = 0 + s.val; omega

theorem ld_gate {e : EltTy} (X : Vec Ideal S512x128 e) (k : Fin 8) (z : Fin 1) (d : Fin 128) :
    View.ld X (Rect.unit ![64 * k.val + 63, 0] S1x128.size (inb_gate k)) (ix2 z d) = X (ix2 (rowOf k 63) d) :=
  View.ld_unit_apply_of X _ _ _ _ _ fun q => match q with
    | 0 => by show 64 * k.val + 63 = 64 * k.val + 63 + z.val; omega
    | 1 => by show d.val = 0 + d.val; omega

theorem gate_col (Y : FVec Ideal S1x128 .f32) (h : Fin 8) (d e : Fin 128) :
    broadcastTo S128x128 (extractStridedSlice S1x1 ![0, h.val] Y (slices_gate h)) broadcasts_S1x1_S128x128 (ix2 d e)
      = Y (ix2 0 ⟨h.val, by omega⟩) := by
  pointwise

theorem dvn_sum (A : Vec Ideal S1x64x64 .bf16) (O : Vec Ideal S64x128 .f32) (K : Vec Ideal S64x128 .bf16) (S : FVec Ideal S128x128 .f32) (i : Fin 64) (e : Fin 128) :
    addf
    (matmul dot_S64x64_S64x128_S64x128_0_0_1_1_n_n none (show FVec Ideal S64x64 .bf16 from shapeCast S64x64 A shapeCasts_S1x64x64_S64x64)
      (truncf .bf16 O bitsLt_bf16_f32) (constant S64x128 .f32 0x00000000#32))
    (matmul dot_S64x128_S128x128_S64x128_1_0_0_1_n_n none (show FVec Ideal S64x128 .bf16 from shapeCast S64x128 K shapeCasts_S64x128_S64x128)
      (truncf .bf16 S bitsLt_bf16_f32) (constant S64x128 .f32 0x00000000#32)) (ix2 i e)
      = (∑ s : Fin 64, A (ix3 0 s i) * O (ix2 s e)) + ∑ d : Fin 128, K (ix2 i d) * S (ix2 d e) := by
  pointwise

theorem step_sum (O : Vec Ideal S64x128 .f32) (Q W : Vec Ideal S64x128 .bf16) (Y : Vec Ideal S1x128 .f32) (D : FVec Ideal S64x128 .f32) (S : FVec Ideal S128x128 .f32) (h : Fin 8) (d e : Fin 128) :
    subf
    (addf
      (matmul dot_S64x128_S64x128_S128x128_0_0_1_1_n_n none (show FVec Ideal S64x128 .bf16 from shapeCast S64x128 Q shapeCasts_S64x128_S64x128)
        (truncf .bf16 O bitsLt_bf16_f32) (constant S128x128 .f32 0x00000000#32))
      (mulf (broadcastTo S128x128 (extractStridedSlice S1x1 ![0, h.val] (show FVec Ideal S1x128 .f32 from exp Y) (slices_gate h)) broadcasts_S1x1_S128x128) S))
    (matmul dot_S64x128_S64x128_S128x128_0_0_1_1_n_n none (show FVec Ideal S64x128 .bf16 from shapeCast S64x128 W shapeCasts_S64x128_S64x128)
      (truncf .bf16 D bitsLt_bf16_f32) (constant S128x128 .f32 0x00000000#32)) (ix2 d e)
      = ((∑ s : Fin 64, Q (ix2 s d) * O (ix2 s e)) + Ideal.exp (Y (ix2 0 ⟨h.val, by omega⟩)) * S (ix2 d e))
        - ∑ s : Fin 64, W (ix2 s d) * D (ix2 s e) := by
  pointwise

variable (X0 : Vec Ideal S512x1024 .f32) (X1 X2 X3 : Vec Ideal S512x1024 .bf16) (X4 : Vec Ideal S8x512x64 .bf16) (X5 : Vec Ideal S512x128 .f32)

theorem dvnT_apply (k h : Fin 8) (S : FVec Ideal S128x128 .f32) (i : Fin 64) (e : Fin 128) :
    dvnT X0 X2 X4 k h S (ix2 i e)
      = (∑ s : Fin 64, X4 (ix3 h (rowOf k s) i) * X0 (ix2 (rowOf k s) (colOf h e)))
        + ∑ d : Fin 128, X2 (ix2 (rowOf k i) (colOf h d)) * S (ix2 d e) := by
  refine (dvn_sum (View.ld X4 (Rect.unit ![h.val, 64 * k.val, 0] S1x64x64.size (inb_att k h))) (View.ld X0 (Rect.unit ![64 * k.val, 128 * h.val] S64x128.size (inb_row k h)))
    (View.ld X2 (Rect.unit ![64 * k.val, 128 * h.val] S64x128.size (inb_row k h))) S i e).trans ?_
  congr 1
  · exact Finset.sum_congr rfl fun s _ => by rw [ld_row, ld_att]
  · exact Finset.sum_congr rfl fun s _ => by rw [ld_row]

theorem stepT_apply (k h : Fin 8) (S : FVec Ideal S128x128 .f32) (d e : Fin 128) :
    stepT X0 X1 X2 X3 X4 X5 k h S (ix2 d e)
      = ((∑ s : Fin 64, X3 (ix2 (rowOf k s) (colOf h d)) * X0 (ix2 (rowOf k s) (colOf h e)))
        + Ideal.exp (X5 (ix2 (rowOf k 63) ⟨h.val, by omega⟩)) * S (ix2 d e))
        - ∑ s : Fin 64, X1 (ix2 (rowOf k s) (colOf h d)) * dvnT X0 X2 X4 k h S (ix2 s e) := by
  refine (step_sum (View.ld X0 (Rect.unit ![64 * k.val, 128 * h.val] S64x128.size (inb_row k h))) (View.ld X3 (Rect.unit ![64 * k.val, 128 * h.val] S64x128.size (inb_row k h)))
    (View.ld X1 (Rect.unit ![64 * k.val, 128 * h.val] S64x128.size (inb_row k h))) (View.ld X5 (Rect.unit ![64 * k.val + 63, 0] S1x128.size (inb_gate k)))
    (dvnT X0 X2 X4 k h S) S h d e).trans ?_
  rw [ld_gate]
  congr 1
  · congr 1
    exact Finset.sum_congr rfl fun s _ => by rw [ld_row, ld_row]
  · exact Finset.sum_congr rfl fun s _ => by rw [ld_row]

end Cert.KernelIdeal.Chunk
-- ==== Proof.KernelScan.lean ====
/- The kernel's two results as the scan of its argument arrays. -/
module

public import proofs.«01_k».proof.Proof.ChunkIdeal
public import proofs.«01_k».proof.Proof.Scan
public import Idealize.ShloMosaic.Lib.Claim

@[expose] public section

set_option maxRecDepth 16384

noncomputable section

namespace Cert.KernelIdeal.Chunk

open Cert.KernelIdeal Cert.KernelIdeal.Gen Idealize.ShloMosaic Idealize.ShloMosaic.TcCoe Idealize.SL.Sem

variable (m : (ℓ : Loc nD τ sig) → Buf (Elt Ideal) ℓ)

/-- The scan's inputs of the launch contents. -/
def inpOf (c : Dev nD) : Scan.Inp :=
  Scan.inp (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The chunk that point `t` takes as its block's chunk `k`. -/
def chunkOf (t : Fin cfg0.N) (k : Fin 8) : Fin 64 := ⟨8 * (7 - t.val) + k.val, by omega⟩

theorem idx0 : ∀ t : Fin cfg0.N, win0_0.index t = ![7 - t.val, 0] := by decide +kernel
theorem idx1 : ∀ t : Fin cfg0.N, win0_1.index t = ![7 - t.val, 0] := by decide +kernel
theorem idx2 : ∀ t : Fin cfg0.N, win0_2.index t = ![7 - t.val, 0] := by decide +kernel
theorem idx3 : ∀ t : Fin cfg0.N, win0_3.index t = ![7 - t.val, 0] := by decide +kernel
theorem idx4 : ∀ t : Fin cfg0.N, win0_4.index t = ![0, 7 - t.val, 0] := by decide +kernel
theorem idx5 : ∀ t : Fin cfg0.N, win0_5.index t = ![7 - t.val, 0] := by decide +kernel
theorem idx6 : ∀ t : Fin cfg0.N, win0_6.index t = ![7 - t.val, 0] := by decide +kernel
theorem idx7 : ∀ t : Fin cfg0.N, win0_7.index t = ![7 - t.val, 0, 0, 0] := by decide +kernel

theorem blk0 (c : Dev nD) (t : Fin cfg0.N) (k h : Fin 8) (i : Fin 64) (d : Fin 128) :
    iblk m c 0 t (ix2 (rowOf k i) (colOf h d)) = (inpOf m c).o (chunkOf t k) h i d := by
  unfold inpOf Scan.inp
  blk_ext [iblk, V, idx0 t, rowOf, colOf, chunkOf, Scan.row, Scan.col]

theorem emb1 (t : Fin cfg0.N) (k h : Fin 8) (i : Fin 64) (d : Fin 128) :
    ((View.whole main_v14).slice (win0_1.rect t)).emb (ix2 (rowOf k i) (colOf h d)) = ix2 (Scan.row (chunkOf t k) i) (Scan.col h d) := by
  blk_ext [idx1 t, rowOf, colOf, chunkOf, Scan.row, Scan.col]

theorem blk1 (c : Dev nD) (t : Fin cfg0.N) (k h : Fin 8) (i : Fin 64) (d : Fin 128) :
    iblk m c 1 t (ix2 (rowOf k i) (colOf h d)) = (inpOf m c).w (chunkOf t k) h i d := by
  unfold inpOf Scan.inp
  blk_simp [iblk]
  entry_read
  rw [emb1]
  pointwise
  all_goals (reads_congr <;> blk_ext [Scan.row, Scan.col, Scan.lane])

theorem emb2 (t : Fin cfg0.N) (k h : Fin 8) (i : Fin 64) (d : Fin 128) :
    ((View.whole main_v15).slice (win0_2.rect t)).emb (ix2 (rowOf k i) (colOf h d)) = ix2 (Scan.row (chunkOf t k) i) (Scan.col h d) := by
  blk_ext [idx2 t, rowOf, colOf, chunkOf, Scan.row, Scan.col]

theorem blk2 (c : Dev nD) (t : Fin cfg0.N) (k h : Fin 8) (i : Fin 64) (d : Fin 128) :
    iblk m c 2 t (ix2 (rowOf k i) (colOf h d)) = (inpOf m c).k (chunkOf t k) h i d := by
  unfold inpOf Scan.inp
  blk_simp [iblk]
  entry_read
  rw [emb2]
  pointwise
  all_goals (reads_congr <;> blk_ext [Scan.row, Scan.col, Scan.lane])

theorem emb3 (t : Fin cfg0.N) (k h : Fin 8) (i : Fin 64) (d : Fin 128) :
    ((View.whole main_v16).slice (win0_3.rect t)).emb (ix2 (rowOf k i) (colOf h d)) = ix2 (Scan.row (chunkOf t k) i) (Scan.col h d) := by
  blk_ext [idx3 t, rowOf, colOf, chunkOf, Scan.row, Scan.col]

theorem blk3 (c : Dev nD) (t : Fin cfg0.N) (k h : Fin 8) (i : Fin 64) (d : Fin 128) :
    iblk m c 3 t (ix2 (rowOf k i) (colOf h d)) = (inpOf m c).q (chunkOf t k) h i d := by
  unfold inpOf Scan.inp
  blk_simp [iblk]
  entry_read
  rw [emb3]
  pointwise
  all_goals (reads_congr <;> blk_ext [Scan.row, Scan.col, Scan.lane])

theorem blk4 (c : Dev nD) (t : Fin cfg0.N) (k h : Fin 8) (i s : Fin 64) :
    iblk m c 4 t (ix3 h (rowOf k i) s) = (inpOf m c).a (chunkOf t k) h i s := by
  unfold inpOf Scan.inp
  blk_simp [iblk]
  entry_read
  pointwise
  blk_ext [idx4 t, rowOf, chunkOf, Scan.row]

theorem blk5 (c : Dev nD) (t : Fin cfg0.N) (k h : Fin 8) :
    iblk m c 5 t (ix2 (rowOf k 63) ⟨h.val, by omega⟩) = m ((c.tc : Thread nD τ).loc main_arg5) (ix2 (Scan.row (chunkOf t k) 63) (Scan.lane h)) := by
  blk_ext [iblk, V, idx5 t, rowOf, chunkOf, Scan.row, Scan.lane]

/-- What point `t` makes of one chunk, given the arrays' blocks. -/
theorem dvn_pt (c : Dev nD) (t : Fin cfg0.N) (k h : Fin 8) (S : FVec Ideal S128x128 .f32) (M : Scan.Mat) (hS : ∀ d e, S (ix2 d e) = M d e)
    (i : Fin 64) (e : Fin 128) :
    dvnT (iblk m c 0 t) (iblk m c 2 t) (iblk m c 4 t) k h S (ix2 i e) = Scan.dvn (inpOf m c) (chunkOf t k) h M i e := by
  rw [dvnT_apply]
  unfold Scan.dvn
  congr 1
  · exact Finset.sum_congr rfl fun s _ => by rw [blk4, blk0]
  · exact Finset.sum_congr rfl fun d _ => by rw [blk2, hS]

theorem gamma_pt (c : Dev nD) (t : Fin cfg0.N) (k h : Fin 8) :
    Ideal.exp (iblk m c 5 t (ix2 (rowOf k 63) ⟨h.val, by omega⟩)) = (inpOf m c).γ (chunkOf t k) h :=
  congrArg Ideal.exp (blk5 m c t k h)

theorem step_pt (c : Dev nD) (t : Fin cfg0.N) (k h : Fin 8) (S : FVec Ideal S128x128 .f32) (M : Scan.Mat) (hS : ∀ d e, S (ix2 d e) = M d e)
    (d e : Fin 128) :
    stepT (iblk m c 0 t) (iblk m c 1 t) (iblk m c 2 t) (iblk m c 3 t) (iblk m c 4 t) (iblk m c 5 t) k h S (ix2 d e)
      = Scan.step (inpOf m c) (chunkOf t k) h M d e := by
  refine (stepT_apply _ _ _ _ _ _ k h S d e).trans ?_
  unfold Scan.step
  refine congrArg₂ (fun x y : EReal => x - y) (congrArg₂ (fun x y : EReal => x + y) ?_ (congrArg₂ (fun x y : EReal => x * y) (gamma_pt m c t k h) (hS d e))) ?_
  · exact Finset.sum_congr rfl fun s _ => congrArg₂ (fun x y : EReal => x * y) (blk3 m c t k h s d) (blk0 m c t k h s e)
  · exact Finset.sum_congr rfl fun s _ => congrArg₂ (fun x y : EReal => x * y) (blk1 m c t k h s d) (dvn_pt m c t k h S M hS s e)

theorem st_pt (c : Dev nD) (t : Fin cfg0.N) (h : Fin 8) (S : FVec Ideal S128x128 .f32) (hS : ∀ d e, S (ix2 d e) = Scan.state (inpOf m c) h (8 * t.val) d e) :
    ∀ n ≤ 8, ∀ d e : Fin 128, st (iblk m c 0 t) (iblk m c 1 t) (iblk m c 2 t) (iblk m c 3 t) (iblk m c 4 t) (iblk m c 5 t) h S n (ix2 d e)
      = Scan.state (inpOf m c) h (8 * t.val + n) d e
  | 0, _ => hS
  | n + 1, hn => fun d e => by
    have ih := st_pt c t h S hS n (by omega)
    have hN : t.val < 8 := lt_of_lt_of_eq t.isLt N_0
    have hc : chunkOf t (nth n) = Scan.rev (8 * t.val + n) := Fin.ext (by
      show 8 * (7 - t.val) + (7 - n) = 63 - (8 * t.val + n)
      omega)
    refine (step_pt m c t (nth n) h _ _ ih d e).trans ?_
    rw [hc]
    rfl

theorem outs (c : Dev nD) : ∀ n (hn : n < cfg0.N), ∃ S : Fin 8 → FVec Ideal S128x128 .f32,
    (∀ h d e, S h (ix2 d e) = Scan.state (inpOf m c) h (8 * n) d e) ∧
    outsAt0 m c n hn =
      (View.canon (piecesV (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) S),
       View.canon (piecesS (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) S),
       left (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) S)
  | 0, hn => by
    refine ⟨head (k0_pay6 (F := Ideal)), fun h d e => ?_, ?_⟩
    · rw [head_apply]
      show _ = (0 : EReal)
      pointwise [k0_pay6]
    · rw [outsAt0_A m c ⟨0, hn⟩ rfl, out0_A_6_eq, out0_A_7_eq, sout0_A_0_eq]
  | n + 1, hn => by
    have hN : n + 1 < 8 := lt_of_lt_of_eq hn N_0
    obtain ⟨S, hS, hO⟩ := outs c n (Nat.lt_of_succ_lt hn)
    refine ⟨head (outsAt0 m c n (Nat.lt_of_succ_lt hn)).2.2, fun h d e => ?_, ?_⟩
    · rw [hO]
      dsimp only
      rw [head_left]
      exact st_pt m c ⟨n, _⟩ h (S h) (hS h) 8 le_rfl d e
    · have h0 : ¬ (n + 1) % 8 = 0 := by omega
      rw [outsAt0_B m c ⟨n + 1, hn⟩ h0, out0_B_6_eq, out0_B_7_eq, sout0_B_0_eq]
      rfl

/-- Each chunk's gradient of the written values, at the state gradient of the chunks after it, by row and lane. -/
def valGrad (I : Scan.Inp) (r : Fin 4096) (l : Fin 1024) : EReal :=
  Scan.dvn I ⟨r.val / 64, by omega⟩ ⟨l.val / 128, by omega⟩ (Scan.state I ⟨l.val / 128, by omega⟩ (63 - r.val / 64)) ⟨r.val % 64, by omega⟩ ⟨l.val % 128, by omega⟩

/-- The first result. -/
def res0 (I : Scan.Inp) : Vec Ideal S4096x1024 .f32 := fun y => valGrad I (y 0) (y 1)

/-- The second result: the state gradient that comes into each chunk. -/
def res1 (I : Scan.Inp) : Vec Ideal S64x8x128x128 .bf16 := fun y =>
  Scan.state I (y 1 : Fin 8) (63 - (y 0 : Fin 64).val) (y 2 : Fin 128) (y 3 : Fin 128)

theorem res1_at (I : Scan.Inp) (g : Fin 64) (h : Fin 8) (d e : Fin 128) :
    res1 I (ix4 g h d e) = Scan.state I h (63 - g.val) d e := rfl

theorem valGrad_at (I : Scan.Inp) (g : Fin 64) (h : Fin 8) (i : Fin 64) (e : Fin 128) :
    valGrad I (Scan.row g i) (Scan.col h e) = Scan.dvn I g h (Scan.state I h (63 - g.val)) i e := by
  unfold valGrad
  have h1 : (⟨(Scan.row g i).val / 64, by omega⟩ : Fin 64) = g := Fin.ext (by show (64 * g.val + i.val) / 64 = g.val; omega)
  have h2 : (⟨(Scan.col h e).val / 128, by omega⟩ : Fin 8) = h := Fin.ext (by show (128 * h.val + e.val) / 128 = h.val; omega)
  have h3 : (⟨(Scan.row g i).val % 64, by omega⟩ : Fin 64) = i := Fin.ext (by show (64 * g.val + i.val) % 64 = i.val; omega)
  have h4 : (⟨(Scan.col h e).val % 128, by omega⟩ : Fin 128) = e := Fin.ext (by show (128 * h.val + e.val) % 128 = e.val; omega)
  have h5 : (Scan.row g i).val / 64 = g.val := by show (64 * g.val + i.val) / 64 = g.val; omega
  rw [h1, h2, h3, h4, h5]

theorem pos_eq (t : Fin cfg0.N) (k : Fin 8) : 8 * t.val + (7 - k.val) = 63 - (chunkOf t k).val := by
  have hN : t.val < 8 := lt_of_lt_of_eq t.isLt N_0
  show 8 * t.val + (7 - k.val) = 63 - (8 * (7 - t.val) + k.val)
  omega

theorem emb6 (t : Fin cfg0.N) (k h : Fin 8) (i : Fin 64) (d : Fin 128) :
    (win0_6.blk t).view.emb (ix2 (rowOf k i) (colOf h d)) = ix2 (Scan.row (chunkOf t k) i) (Scan.col h d) := by
  blk_ext [idx6 t, rowOf, colOf, chunkOf, Scan.row, Scan.col]

theorem emb7 (t : Fin cfg0.N) (k h : Fin 8) (d e : Fin 128) :
    (win0_7.blk t).view.emb (ix4 k h d e) = ix4 (chunkOf t k) h d e := by
  blk_ext [idx7 t, chunkOf]

theorem final0 (c : Dev nD) : (dats m 0 c).arrAt 6 cfg0.N = res0 (inpOf m c) := by
  refine (dats m 0 c).arrAt_eq_of_covers 6 _ (by decide +kernel) fun t hf y => ?_
  blk_simp
  rw [after0_6]
  obtain ⟨S, hS, hO⟩ := outs m c t.val t.isLt
  rw [hO]
  obtain ⟨k, h, i, e, rfl⟩ : ∃ (k h : Fin 8) (i : Fin 64) (e : Fin 128), y = ix2 (rowOf k i) (colOf h e) := by
    obtain ⟨a, b, rfl⟩ : ∃ (a : Fin 512) (b : Fin 1024), y = ix2 a b := ⟨y 0, y 1, eq_ix2 y⟩
    refine ⟨⟨a.val / 64, by omega⟩, ⟨b.val / 128, by omega⟩, ⟨a.val % 64, by omega⟩, ⟨b.val % 128, by omega⟩, ?_⟩
    congr 1
    · exact Fin.ext (by show a.val = 64 * (a.val / 64) + a.val % 64; omega)
    · exact Fin.ext (by show b.val = 128 * (b.val / 128) + b.val % 128; omega)
  refine (canonV _ _ _ _ _ _ S k h i e).trans ?_
  refine (dvn_pt m c t k h _ (Scan.state (inpOf m c) h (8 * t.val + (7 - k.val))) (st_pt m c t h (S h) (hS h) (7 - k.val) (by omega)) i e).trans ?_
  rw [emb6, pos_eq]
  exact (valGrad_at (inpOf m c) (chunkOf t k) h i e).symm

theorem final1 (c : Dev nD) : (dats m 0 c).arrAt 7 cfg0.N = res1 (inpOf m c) := by
  refine (dats m 0 c).arrAt_eq_of_covers 7 _ (by decide +kernel) fun t hf y => ?_
  blk_simp
  rw [after0_7]
  obtain ⟨S, hS, hO⟩ := outs m c t.val t.isLt
  rw [hO]
  obtain ⟨k, h, d, e, rfl⟩ : ∃ (k h : Fin 8) (d e : Fin 128), y = ix4 k h d e := ⟨y 0, y 1, y 2, y 3, eq_ix4 y⟩
  dsimp only
  rw [canonS, truncf_apply, st_pt m c t h (S h) (hS h) (7 - k.val) (by omega) d e, emb7, pos_eq]
  exact (res1_at _ _ _ _ _).symm

variable (ρ : Dev nD → PrngReg)

/-- THE KERNEL'S RUN: its results are the scan's, its arguments unchanged. -/
theorem run : θ_run (defs (F := Ideal)) (onTc (τ := τ) (main (F := Ideal))) ⟨m, fun _ => 0, ρ⟩ fun r => ∀ c : Dev nD,
      r.2.mem ((c.tc : Thread nD τ).loc main_v18_0) = res0 (inpOf m c)
      ∧ r.2.mem ((c.tc : Thread nD τ).loc main_v18_1) = res1 (inpOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final0 m c), (h c).2.1.trans (final1 m c), (h c).2.2⟩) (Value.run_blocks m ρ)

end Cert.KernelIdeal.Chunk
-- ==== Proof.RefStep.lean ====
/- One trip of the reference's scan at an index: the chunk's blocks it reads, the state gradient it leaves,
   and the rows it writes. -/
module

public import proofs.«01_k».proof.Proof.Scan
public import proofs.«01_k».proof.Proof.Gen.ReferenceIdeal.Run
public import Idealize.ShloMosaic.Lib.Pointwise
public import Idealize.ShloMosaic.Lib.DynamicIndex

@[expose] public section

noncomputable section

namespace Cert.ReferenceIdeal.Trip

open Idealize.ShloMosaic Idealize.ShloMosaic.Tactic Idealize.ShloMosaic.TpuEff Idealize.ShloMosaic.StableHlo
open Cert.ReferenceIdeal.Gen Cert.ReferenceIdeal.Value

variable {α : Type}

/-- Chunk `g` of an array over the chunks: the start of its block. -/
def at0 (g : ℕ) : Fin 4 → ℕ := ![g, 0, 0, 0]

theorem fits (g : Fin 64) (A B : ℕ) : (⟨4, ![64, 8, A, B]⟩ : Shape).Slices (at0 g.val) ⟨4, ![1, 8, A, B]⟩ :=
  ⟨rfl, fun a => by fin_cases a <;> simp [at0] <;> omega⟩

theorem take_block (x : S64x8x64x128.Idx → α) (start : Fin 4 → Int) (g : Fin 64) (hs : ∀ a, start a = (at0 g.val a : Int))
    (h : Fin 8) (i : Fin 64) (d : Fin 128) :
    shapeCast S8x64x128 (Host.dynamicSlice S1x8x64x128 x start sliceFits_S64x8x64x128_S1x8x64x128) shapeCasts_S1x8x64x128_S8x64x128 (ix3 h i d)
      = x (ix4 g h i d) := by
  rw [Host.dynamicSlice_eq_extractStridedSlice S1x8x64x128 x start (at0 g.val) _ (fits g 64 128) hs]
  pointwise [at0]

theorem take_att (x : S64x8x64x64.Idx → α) (start : Fin 4 → Int) (g : Fin 64) (hs : ∀ a, start a = (at0 g.val a : Int))
    (h : Fin 8) (i : Fin 64) (d : Fin 64) :
    shapeCast S8x64x64 (Host.dynamicSlice S1x8x64x64 x start sliceFits_S64x8x64x64_S1x8x64x64) shapeCasts_S1x8x64x64_S8x64x64 (ix3 h i d)
      = x (ix4 g h i d) := by
  rw [Host.dynamicSlice_eq_extractStridedSlice S1x8x64x64 x start (at0 g.val) _ (fits g 64 64) hs]
  pointwise [at0]

theorem take_decay (x : S64x8x1x1.Idx → α) (start : Fin 4 → Int) (g : Fin 64) (hs : ∀ a, start a = (at0 g.val a : Int))
    (h : Fin 8) :
    shapeCast S8x1x1 (Host.dynamicSlice S1x8x1x1 x start sliceFits_S64x8x1x1_S1x8x1x1) shapeCasts_S1x8x1x1_S8x1x1 (ix3 h 0 0)
      = x (ix4 g h 0 0) := by
  rw [Host.dynamicSlice_eq_extractStridedSlice S1x8x1x1 x start (at0 g.val) _ (fits g 1 1) hs]
  pointwise [at0]

theorem clamped {A B : ℕ} (h : (⟨4, ![64, 8, A, B]⟩ : Shape).Slices (fun _ => 0) ⟨4, ![1, 8, A, B]⟩) (start : Fin 4 → Int) (g : Fin 64)
    (hs : ∀ a, start a = (at0 g.val a : Int)) (a : Fin 4) :
    Host.clampedStart ⟨4, ![64, 8, A, B]⟩ ⟨4, ![1, 8, A, B]⟩ h.1 start a = at0 g.val a :=
  Host.clampedStart_of_le h.1 start a _ (hs a) ((fits g A B).2 a)

theorem put_here {A B : ℕ} (x : (⟨4, ![64, 8, A, B]⟩ : Shape).Idx → α) (u : (⟨4, ![1, 8, A, B]⟩ : Shape).Idx → α)
    (start : Fin 4 → Int) (h : (⟨4, ![64, 8, A, B]⟩ : Shape).Slices (fun _ => 0) ⟨4, ![1, 8, A, B]⟩)
    (g : Fin 64) (hs : ∀ a, start a = (at0 g.val a : Int)) (k : Fin 8) (i : Fin A) (d : Fin B) :
    Host.dynamicUpdateSlice x u start h (ix4 g k i d) = u (ix4 0 k i d) := by
  rw [Host.dynamicUpdateSlice_apply]
  have hin : ∀ a : Fin 4, Host.clampedStart ⟨4, ![64, 8, A, B]⟩ ⟨4, ![1, 8, A, B]⟩ h.1 start a ≤ ((ix4 g k i d : (⟨4, ![64, 8, A, B]⟩ : Shape).Idx) a).val
      ∧ ((ix4 g k i d : (⟨4, ![64, 8, A, B]⟩ : Shape).Idx) a).val < Host.clampedStart ⟨4, ![64, 8, A, B]⟩ ⟨4, ![1, 8, A, B]⟩ h.1 start a
        + (⟨4, ![1, 8, A, B]⟩ : Shape).size (a.cast h.1.symm) := by
    intro a
    rw [clamped h start g hs a]
    fin_cases a <;> simp [at0, ix4]
  rw [dif_pos hin]
  refine congrArg u (funext fun b => Fin.ext ?_)
  rw [Shape.Idx.norm_def]
  show ((ix4 g k i d : (⟨4, ![64, 8, A, B]⟩ : Shape).Idx) (b.cast h.1)).val - Host.clampedStart ⟨4, ![64, 8, A, B]⟩ ⟨4, ![1, 8, A, B]⟩ h.1 start (b.cast h.1) = _
  rw [clamped h start g hs]
  fin_cases b <;> simp [at0, ix4]

theorem put_away {A B : ℕ} (x : (⟨4, ![64, 8, A, B]⟩ : Shape).Idx → α) (u : (⟨4, ![1, 8, A, B]⟩ : Shape).Idx → α)
    (start : Fin 4 → Int) (h : (⟨4, ![64, 8, A, B]⟩ : Shape).Slices (fun _ => 0) ⟨4, ![1, 8, A, B]⟩)
    (g g' : Fin 64) (hs : ∀ a, start a = (at0 g.val a : Int)) (hg : g' ≠ g) (k : Fin 8) (i : Fin A) (d : Fin B) :
    Host.dynamicUpdateSlice x u start h (ix4 g' k i d) = x (ix4 g' k i d) := by
  rw [Host.dynamicUpdateSlice_apply]
  refine dif_neg fun hin => hg (Fin.ext ?_)
  have h0 := hin 0
  rw [clamped h start g hs 0] at h0
  have e1 : at0 g.val 0 = g.val := rfl
  have e2 : ((ix4 g' k i d : (⟨4, ![64, 8, A, B]⟩ : Shape).Idx) 0).val = g'.val := rfl
  have e3 : (⟨4, ![1, 8, A, B]⟩ : Shape).size ((0 : Fin 4).cast h.1.symm) = 1 := rfl
  rw [e1, e2, e3] at h0
  omega

/-! ## The trip -/

variable (V : Valuation τ sig (Elt Ideal))

/-- The start of a trip's blocks, read signed. -/
abbrev start (V : Valuation τ sig (Elt Ideal)) : Fin 4 → Int := fun k =>
  (((![res_main_while0b_v39 V, constantI S_ 32 0#32, constantI S_ 32 0#32, constantI S_ 32 0#32] : Fin 4 → (⟨S_, .i32⟩ : BufTy).Contents (Elt Ideal))) k (Shape.Idx.first h_S_)).toInt

theorem start_eq (n : ℕ) (hn : n < 64) (hV : V (Proc.devRef .tc main_v34_6) = fun _ => Scf.iv 0#32 1#32 n) (a : Fin 4) :
    start V a = (at0 (Scan.rev n).val a : Int) := by
  have key : ∀ n : Fin 64, ((64#32 - Scf.iv 0#32 1#32 n.val) - 1#32).toInt = ((63 - n.val : ℕ) : Int) := by decide +kernel
  fin_cases a
  · show (res_main_while0b_v39 V (Shape.Idx.first h_S_)).toInt = ((63 - n : ℕ) : Int)
    unfold res_main_while0b_v39
    rw [hV]
    exact key ⟨n, hn⟩
  · rfl
  · rfl
  · rfl

theorem grad_chunk (n : ℕ) (hn : n < 64) (hV : V (Proc.devRef .tc main_v34_6) = fun _ => Scf.iv 0#32 1#32 n) (h : Fin 8) (i : Fin 64) (e : Fin 128) :
    res_main_while0b_v40 V (ix3 h i e) = (V (Proc.devRef .tc main_v34_0) : S64x8x64x128.Idx → EReal) (ix4 (Scan.rev n) h i e) := by
  unfold res_main_while0b_v40
  exact take_block _ _ _ (start_eq V n hn hV) h i e

theorem dvn_dots (S : FVec Ideal S8x128x128 .f32) (K : FVec Ideal S8x64x128 .f32) (O : FVec Ideal S8x64x128 .f32) (A : FVec Ideal S8x64x64 .f32)
    (h : Fin 8) (i : Fin 64) (e : Fin 128) :
    (addf (transpose S8x64x128 [0, 2, 1] (Host.dotGeneral dot_S8x128x128_S8x64x128_S8x128x64_1_2_2_1_0_0 none S K) transposes_S8x128x64_S8x64x128_0_2_1)
      (transpose S8x64x128 [0, 2, 1] (Host.dotGeneral dot_S8x64x128_S8x64x64_S8x128x64_1_1_2_2_0_0 none O A) transposes_S8x128x64_S8x64x128_0_2_1) : FVec Ideal S8x64x128 .f32) (ix3 h i e)
      = (∑ d, (S (ix3 h d e) * K (ix3 h i d) : EReal)) + ∑ s, (O (ix3 h s e) * A (ix3 h s i) : EReal) := by
  pointwise

theorem state_dots (S : FVec Ideal S8x128x128 .f32) (γ : FVec Ideal S8x1x1 .f32) (O Q D W : FVec Ideal S8x64x128 .f32)
    (h : Fin 8) (d e : Fin 128) :
    (addf (addf (mulf S (broadcastInDim S8x128x128 ![0, 1, 2] bcast_S8x1x1_S8x128x128_0_1_2 γ))
        (transpose S8x128x128 [0, 2, 1] (Host.dotGeneral dot_S8x64x128_S8x64x128_S8x128x128_1_1_2_2_0_0 none O Q) transposes_S8x128x128_S8x128x128_0_2_1))
      (transpose S8x128x128 [0, 2, 1] (Host.dotGeneral dot_S8x64x128_S8x64x128_S8x128x128_1_1_2_2_0_0 none (Host.negf D) W) transposes_S8x128x128_S8x128x128_0_2_1) : FVec Ideal S8x128x128 .f32) (ix3 h d e)
      = ((S (ix3 h d e) * γ (ix3 h 0 0) : EReal) + ∑ s, (O (ix3 h s e) * Q (ix3 h s d) : EReal)) + ∑ s, (-D (ix3 h s e) * W (ix3 h s d) : EReal) := by
  pointwise

end Cert.ReferenceIdeal.Trip
-- ==== Proof.RefScan.lean ====
/- The reference's scan: its carried buffers after any number of trips, and its two results. -/
module

public import proofs.«01_k».proof.Proof.RefStep
public import Idealize.ShloMosaic.Lib.Pointwise
public import Idealize.ShloMosaic.Lib.Pipeline.ValueKit.Point

@[expose] public section

noncomputable section

namespace Cert.ReferenceIdeal.Trip

open Idealize.ShloMosaic Idealize.ShloMosaic.Tactic Idealize.ShloMosaic.TpuEff Idealize.ShloMosaic.StableHlo
open Cert.ReferenceIdeal.Gen Cert.ReferenceIdeal.Value

/-- What the carried buffers hold before the `n`-th trip. -/
structure Inv (I : Scan.Inp) (n : ℕ) (V : Valuation τ sig (Elt Ideal)) : Prop where
  ctr : V (Proc.devRef .tc main_v34_6) = fun _ => Scf.iv 0#32 1#32 n
  o : ∀ g h i d, (V (Proc.devRef .tc main_v34_0) : S64x8x64x128.Idx → EReal) (ix4 g h i d) = I.o g h i d
  γ : ∀ g h, (V (Proc.devRef .tc main_v34_1) : S64x8x1x1.Idx → EReal) (ix4 g h 0 0) = I.γ g h
  k : ∀ g h i d, (V (Proc.devRef .tc main_v34_2) : S64x8x64x128.Idx → EReal) (ix4 g h i d) = I.k g h i d
  w : ∀ g h i d, (V (Proc.devRef .tc main_v34_3) : S64x8x64x128.Idx → EReal) (ix4 g h i d) = I.w g h i d
  q : ∀ g h i d, (V (Proc.devRef .tc main_v34_4) : S64x8x64x128.Idx → EReal) (ix4 g h i d) = I.q g h i d
  a : ∀ g h i s, (V (Proc.devRef .tc main_v34_5) : S64x8x64x64.Idx → EReal) (ix4 g h i s) = I.a g h i s
  S : ∀ h d e, (V (Proc.devRef .tc main_v34_7) : S8x128x128.Idx → EReal) (ix3 h d e) = Scan.state I h n d e
  dv : ∀ g : Fin 64, 63 - g.val < n → ∀ h i e, (V (Proc.devRef .tc main_v34_8) : S64x8x64x128.Idx → EReal) (ix4 g h i e) = Scan.dvn I g h (Scan.state I h (63 - g.val)) i e
  st : ∀ g : Fin 64, 63 - g.val < n → ∀ h d e, (V (Proc.devRef .tc main_v34_9) : S64x8x128x128.Idx → EReal) (ix4 g h d e) = Scan.state I h (63 - g.val) d e

section

variable {I : Scan.Inp} {n : ℕ} {V : Valuation τ sig (Elt Ideal)} (H : Inv I n V) (hn : n < 64)
include H hn

theorem dvn_eq (h : Fin 8) (i : Fin 64) (e : Fin 128) :
    (res_main_while0b_v52 V : S8x64x128.Idx → EReal) (ix3 h i e) = Scan.dvn I (Scan.rev n) h (Scan.state I h n) i e := by
  unfold res_main_while0b_v52
  refine (dvn_dots _ _ _ _ h i e).trans ?_
  rw [add_comm]
  unfold Scan.dvn
  refine congrArg₂ (fun x y : EReal => x + y) (Finset.sum_congr rfl fun s _ => ?_) (Finset.sum_congr rfl fun d _ => ?_)
  · exact (mul_comm _ _).trans (congrArg₂ (fun x y : EReal => x * y)
      ((take_att _ _ _ (start_eq V n hn H.ctr) h s i).trans (H.a _ _ _ _)) ((grad_chunk V n hn H.ctr h s e).trans (H.o _ _ _ _)))
  · exact (mul_comm _ _).trans (congrArg₂ (fun x y : EReal => x * y)
      ((take_block _ _ _ (start_eq V n hn H.ctr) h i d).trans (H.k _ _ _ _)) (H.S h d e))

theorem state_eq (hI : I.Finite) (h : Fin 8) (d e : Fin 128) :
    (step_main_v34_7 V : S8x128x128.Idx → EReal) (ix3 h d e) = Scan.state I h (n + 1) d e := by
  unfold step_main_v34_7
  refine (state_dots _ _ _ _ _ _ h d e).trans ?_
  refine Eq.trans ?_ (Scan.step_ref hI (Scan.rev n) h (Scan.state I h n) (Scan.state_finite hI h n) d e)
  refine congrArg₂ (fun x y : EReal => x + y) (congrArg₂ (fun x y : EReal => x + y) ?_ (Finset.sum_congr rfl fun s _ => ?_)) (Finset.sum_congr rfl fun s _ => ?_)
  · exact congrArg₂ (fun x y : EReal => x * y) (H.S h d e) ((take_decay _ _ _ (start_eq V n hn H.ctr) h).trans (H.γ _ _))
  · exact congrArg₂ (fun x y : EReal => x * y) ((grad_chunk V n hn H.ctr h s e).trans (H.o _ _ _ _))
      ((take_block _ _ _ (start_eq V n hn H.ctr) h s d).trans (H.q _ _ _ _))
  · exact congrArg₂ (fun x y : EReal => -x * y) (dvn_eq H hn h s e)
      ((take_block _ _ _ (start_eq V n hn H.ctr) h s d).trans (H.w _ _ _ _))

theorem rows_dv (g : Fin 64) (hg : 63 - g.val < n + 1) (h : Fin 8) (i : Fin 64) (e : Fin 128) :
    (step_main_v34_8 V : S64x8x64x128.Idx → EReal) (ix4 g h i e) = Scan.dvn I g h (Scan.state I h (63 - g.val)) i e := by
  unfold step_main_v34_8
  by_cases e1 : g = Scan.rev n
  · have e2 : 63 - g.val = n := by rw [e1]; show 63 - (63 - n) = n; omega
    rw [e2, e1]
    refine (put_here _ _ _ updateFits_S64x8x64x128_S1x8x64x128 _ (start_eq V n hn H.ctr) h i e).trans ?_
    refine Eq.trans ?_ (dvn_eq H hn h i e)
    generalize (res_main_while0b_v52 V) = X
    pointwise
  · refine (put_away _ _ _ updateFits_S64x8x64x128_S1x8x64x128 _ g (start_eq V n hn H.ctr) e1 h i e).trans (H.dv g ?_ h i e)
    have : g.val ≠ 63 - n := fun hh => e1 (Fin.ext hh)
    omega

theorem rows_st (g : Fin 64) (hg : 63 - g.val < n + 1) (h : Fin 8) (d e : Fin 128) :
    (step_main_v34_9 V : S64x8x128x128.Idx → EReal) (ix4 g h d e) = Scan.state I h (63 - g.val) d e := by
  unfold step_main_v34_9
  by_cases e1 : g = Scan.rev n
  · have e2 : 63 - g.val = n := by rw [e1]; show 63 - (63 - n) = n; omega
    rw [e2, e1]
    refine (put_here _ _ _ updateFits_S64x8x128x128_S1x8x128x128 _ (start_eq V n hn H.ctr) h d e).trans ?_
    refine Eq.trans ?_ (H.S h d e)
    generalize (V (Proc.devRef .tc main_v34_7)) = X
    pointwise
  · refine (put_away _ _ _ updateFits_S64x8x128x128_S1x8x128x128 _ g (start_eq V n hn H.ctr) e1 h d e).trans (H.st g ?_ h d e)
    have : g.val ≠ 63 - n := fun hh => e1 (Fin.ext hh)
    omega

theorem Inv.next (hI : I.Finite) : Inv I (n + 1) (STEP V) where
  ctr := by
    rw [STEP_main_v34_6]
    unfold step_main_v34_6
    rw [H.ctr, Scf.iv_succ]
    rfl
  o := by rw [STEP_main_v34_0]; exact H.o
  γ := by rw [STEP_main_v34_1]; exact H.γ
  k := by rw [STEP_main_v34_2]; exact H.k
  w := by rw [STEP_main_v34_3]; exact H.w
  q := by rw [STEP_main_v34_4]; exact H.q
  a := by rw [STEP_main_v34_5]; exact H.a
  S := by rw [STEP_main_v34_7]; exact state_eq H hn hI
  dv := by rw [STEP_main_v34_8]; exact rows_dv H hn
  st := by rw [STEP_main_v34_9]; exact rows_st H hn

end

theorem chunked (x : FVec Ideal S4096x1024 .f32) (g : Fin 64) (h : Fin 8) (i : Fin 64) (d : Fin 128) :
    transpose S64x8x64x128 [0, 2, 1, 3] (shapeCast S64x64x8x128 x shapeCasts_S4096x1024_S64x64x8x128) transposes_S64x64x8x128_S64x8x64x128_0_2_1_3 (ix4 g h i d)
      = x (ix2 (Scan.row g i) (Scan.col h d)) := by
  pointwise
  all_goals (reads_congr <;> blk_ext [Scan.row, Scan.col, Scan.lane])

theorem att (x : FVec Ideal S8x4096x64 .f32) (g : Fin 64) (h : Fin 8) (i s : Fin 64) :
    transpose S64x8x64x64 [1, 0, 2, 3] (shapeCast S8x64x64x64 x shapeCasts_S8x4096x64_S8x64x64x64) transposes_S8x64x64x64_S64x8x64x64_1_0_2_3 (ix4 g h i s)
      = x (ix3 h (Scan.row g i) s) := by
  pointwise
  all_goals (reads_congr <;> blk_ext [Scan.row, Scan.col, Scan.lane])

/-- The gates, chunk by chunk and head by head. -/
def gate (x : FVec Ideal S4096x128 .f32) : FVec Ideal S64x8x64 .f32 :=
  transpose S64x8x64 [0, 2, 1] (shapeCast S64x64x8 (extractStridedSlice S4096x8 ![0, 0] x slices_S4096x128_S4096x8_0_0) shapeCasts_S4096x8_S64x64x8) transposes_S64x64x8_S64x8x64_0_2_1

theorem gate_at (x : FVec Ideal S4096x128 .f32) (g : Fin 64) (h : Fin 8) (i : Fin 64) :
    gate x (ix3 g h i) = x (ix2 (Scan.row g i) (Scan.lane h)) := by
  unfold gate
  pointwise
  all_goals (reads_congr <;> blk_ext [Scan.row, Scan.col, Scan.lane])

theorem decayed (x : FVec Ideal S64x8x64x128 .f32) (y : FVec Ideal S64x8x64 .f32) (g : Fin 64) (h : Fin 8) (i : Fin 64) (d : Fin 128) :
    mulf x (broadcastInDim S64x8x64x128 ![0, 1, 2, 3] bcast_S64x8x64x1_S64x8x64x128_0_1_2_3 (broadcastInDim S64x8x64x1 ![0, 1, 2] bcast_S64x8x64_S64x8x64x1_0_1_2 (Host.exp y))) (ix4 g h i d)
      = (x (ix4 g h i d) : EReal) * Ideal.exp (y (ix3 g h i)) := by
  pointwise

theorem toLast (y : FVec Ideal S64x8x64 .f32) (g : Fin 64) (h : Fin 8) (i : Fin 64) :
    subf (broadcastInDim S64x8x64 ![0, 1, 2] bcast_S64x8x1_S64x8x64_0_1_2 (broadcastInDim S64x8x1 ![0, 1] bcast_S64x8_S64x8x1_0_1
      (shapeCast S64x8 (extractStridedSlice S64x8x1 ![0, 0, 63] y slices_S64x8x64_S64x8x1_0_0_63) shapeCasts_S64x8x1_S64x8))) y (ix3 g h i)
      = (y (ix3 g h 63) : EReal) - y (ix3 g h i) := by
  pointwise

theorem lastDecay (y : FVec Ideal S64x8x64 .f32) (g : Fin 64) (h : Fin 8) :
    broadcastInDim S64x8x1x1 ![0, 1] bcast_S64x8_S64x8x1x1_0_1 (Host.exp
      (shapeCast S64x8 (extractStridedSlice S64x8x1 ![0, 0, 63] y slices_S64x8x64_S64x8x1_0_0_63) shapeCasts_S64x8x1_S64x8)) (ix4 g h 0 0)
      = Ideal.exp (y (ix3 g h 63)) := by
  pointwise

theorem qd (x : FVec Ideal S4096x1024 .f32) (y : FVec Ideal S4096x128 .f32) (g : Fin 64) (h : Fin 8) (i : Fin 64) (d : Fin 128) :
    mulf (transpose S64x8x64x128 [0, 2, 1, 3] (shapeCast S64x64x8x128 x shapeCasts_S4096x1024_S64x64x8x128) transposes_S64x64x8x128_S64x8x64x128_0_2_1_3)
      (broadcastInDim S64x8x64x128 ![0, 1, 2, 3] bcast_S64x8x64x1_S64x8x64x128_0_1_2_3 (broadcastInDim S64x8x64x1 ![0, 1, 2] bcast_S64x8x64_S64x8x64x1_0_1_2
        (Host.exp (gate y)))) (ix4 g h i d)
      = (x (ix2 (Scan.row g i) (Scan.col h d)) : EReal) * Ideal.exp (y (ix2 (Scan.row g i) (Scan.lane h))) := by
  rw [decayed, chunked, gate_at]

theorem kd (x : FVec Ideal S4096x1024 .f32) (y : FVec Ideal S4096x128 .f32) (g : Fin 64) (h : Fin 8) (i : Fin 64) (d : Fin 128) :
    mulf (transpose S64x8x64x128 [0, 2, 1, 3] (shapeCast S64x64x8x128 x shapeCasts_S4096x1024_S64x64x8x128) transposes_S64x64x8x128_S64x8x64x128_0_2_1_3)
      (broadcastInDim S64x8x64x128 ![0, 1, 2, 3] bcast_S64x8x64x1_S64x8x64x128_0_1_2_3 (broadcastInDim S64x8x64x1 ![0, 1, 2] bcast_S64x8x64_S64x8x64x1_0_1_2
        (Host.exp (subf (broadcastInDim S64x8x64 ![0, 1, 2] bcast_S64x8x1_S64x8x64_0_1_2 (broadcastInDim S64x8x1 ![0, 1] bcast_S64x8_S64x8x1_0_1
          (shapeCast S64x8 (extractStridedSlice S64x8x1 ![0, 0, 63] (gate y) slices_S64x8x64_S64x8x1_0_0_63) shapeCasts_S64x8x1_S64x8))) (gate y))))) (ix4 g h i d)
      = (x (ix2 (Scan.row g i) (Scan.col h d)) : EReal) * Ideal.exp (y (ix2 (Scan.row g 63) (Scan.lane h)) - y (ix2 (Scan.row g i) (Scan.lane h))) := by
  rw [decayed, chunked, toLast, gate_at, gate_at]

theorem zeros (h : Fin 8) (d e : Fin 128) :
    (broadcastInDim S8x128x128 ![] bcast_S_S8x128x128 (constant S_ .f32 0x00000000#32) : FVec Ideal S8x128x128 .f32) (ix3 h d e) = (0 : EReal) := by
  pointwise

variable (m : (ℓ : Loc nD τ sig) → Buf (Elt Ideal) ℓ) (ρ : Dev nD → PrngReg)

/-- The scan's inputs in a memory. -/
def inpOf (c : Dev nD) : Scan.Inp :=
  Scan.inp (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem entry_o (c : Dev nD) (g : Fin 64) (h : Fin 8) (i : Fin 64) (d : Fin 128) :
    (entryContents preI m c (Proc.devRef .tc main_v34_0) : S64x8x64x128.Idx → EReal) (ix4 g h i d) = (inpOf m c).o g h i d := by
  simp only [entryContents, afterL_cons, afterL_nil]
  after_reads_simp
  exact chunked _ g h i d

theorem entry_w (c : Dev nD) (g : Fin 64) (h : Fin 8) (i : Fin 64) (d : Fin 128) :
    (entryContents preI m c (Proc.devRef .tc main_v34_3) : S64x8x64x128.Idx → EReal) (ix4 g h i d) = (inpOf m c).w g h i d := by
  simp only [entryContents, afterL_cons, afterL_nil]
  after_reads_simp
  exact chunked _ g h i d

theorem entry_a (c : Dev nD) (g : Fin 64) (h : Fin 8) (i : Fin 64) (d : Fin 64) :
    (entryContents preI m c (Proc.devRef .tc main_v34_5) : S64x8x64x64.Idx → EReal) (ix4 g h i d) = (inpOf m c).a g h i d := by
  simp only [entryContents, afterL_cons, afterL_nil]
  after_reads_simp
  exact att _ g h i d

theorem entry_q (c : Dev nD) (g : Fin 64) (h : Fin 8) (i : Fin 64) (d : Fin 128) :
    (entryContents preI m c (Proc.devRef .tc main_v34_4) : S64x8x64x128.Idx → EReal) (ix4 g h i d) = (inpOf m c).q g h i d := by
  simp only [entryContents, afterL_cons, afterL_nil]
  after_reads_simp
  exact qd _ _ g h i d

theorem entry_k (c : Dev nD) (g : Fin 64) (h : Fin 8) (i : Fin 64) (d : Fin 128) :
    (entryContents preI m c (Proc.devRef .tc main_v34_2) : S64x8x64x128.Idx → EReal) (ix4 g h i d) = (inpOf m c).k g h i d := by
  simp only [entryContents, afterL_cons, afterL_nil]
  after_reads_simp
  exact kd _ _ g h i d

theorem entry_γ (c : Dev nD) (g : Fin 64) (h : Fin 8) :
    (entryContents preI m c (Proc.devRef .tc main_v34_1) : S64x8x1x1.Idx → EReal) (ix4 g h 0 0) = (inpOf m c).γ g h := by
  simp only [entryContents, afterL_cons, afterL_nil]
  after_reads_simp
  refine (lastDecay (gate _) g h).trans ?_
  rw [gate_at]
  rfl

theorem entry_S (c : Dev nD) (h : Fin 8) (d e : Fin 128) :
    (entryContents preI m c (Proc.devRef .tc main_v34_7) : S8x128x128.Idx → EReal) (ix3 h d e) = (0 : EReal) := by
  simp only [entryContents, afterL_cons, afterL_nil]
  after_reads_simp
  exact zeros h d e

theorem inv0 (c : Dev nD) : Inv (inpOf m c) 0 (entryContents preI m c) where
  ctr := (ctr_entry m c).trans (by rw [Scf.iv_zero])
  o := entry_o m c
  γ := entry_γ m c
  k := entry_k m c
  w := entry_w m c
  q := entry_q m c
  a := entry_a m c
  S := entry_S m c
  dv := fun _ h => absurd h (Nat.not_lt_zero _)
  st := fun _ h => absurd h (Nat.not_lt_zero _)

theorem invN (c : Dev nD) (hI : (inpOf m c).Finite) : ∀ n ≤ 64, Inv (inpOf m c) n (STEP^[n] (entryContents preI m c))
  | 0, _ => inv0 m c
  | n + 1, hn => by
    rw [Function.iterate_succ_apply']
    exact (invN c hI n (by omega)).next (by omega) hI

/-- Row and column of the gradient of the written values, chunk and head apart. -/
theorem flat (x : FVec Ideal S64x8x64x128 .f32) (r : Fin 4096) (l : Fin 1024) :
    shapeCast S4096x1024 (transpose S64x64x8x128 [0, 2, 1, 3] x transposes_S64x8x64x128_S64x64x8x128_0_2_1_3) shapeCasts_S64x64x8x128_S4096x1024 (ix2 r l)
      = x (ix4 ⟨r.val / 64, by omega⟩ ⟨l.val / 128, by omega⟩ ⟨r.val % 64, by omega⟩ ⟨l.val % 128, by omega⟩) := by
  pointwise
  all_goals (reads_congr <;> blk_ext)

/-- The gradient of the written values, by its row and column. -/
def valGrad (I : Scan.Inp) (r : Fin 4096) (l : Fin 1024) : EReal :=
  Scan.dvn I ⟨r.val / 64, by omega⟩ ⟨l.val / 128, by omega⟩ (Scan.state I ⟨l.val / 128, by omega⟩ (63 - r.val / 64)) ⟨r.val % 64, by omega⟩ ⟨l.val % 128, by omega⟩

theorem out0 (c : Dev nD) (hI : (inpOf m c).Finite) (r : Fin 4096) (l : Fin 1024) :
    (out_main_v36 (STEP^[64] (entryContents preI m c)) : S4096x1024.Idx → EReal) (ix2 r l) = valGrad (inpOf m c) r l := by
  unfold out_main_v36
  refine (flat _ r l).trans ?_
  exact (invN m c hI 64 (le_refl _)).dv _ (by omega) _ _ _

theorem out1 (c : Dev nD) (hI : (inpOf m c).Finite) (g : Fin 64) (h : Fin 8) (d e : Fin 128) :
    (out_main_v37 (STEP^[64] (entryContents preI m c)) : S64x8x128x128.Idx → EReal) (ix4 g h d e) = Scan.state (inpOf m c) h (63 - g.val) d e := by
  unfold out_main_v37
  rw [truncf_apply]
  exact (invN m c hI 64 (le_refl _)).st g (by omega) h d e

end Cert.ReferenceIdeal.Trip
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.ProjDx
public import proofs.«01_k».proof.Proof.Gen.ProjDx.Skeleton
public import proofs.«01_k».proof.Proof.Gen.ProjDx.Launch
public import proofs.«01_k».proof.Proof.Gen.ProjDx.Points
public import proofs.«01_k».proof.Proof.Gen.ProjDx.Frame
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.ProjDw
public import proofs.«01_k».proof.Proof.Gen.ProjDw.Skeleton
public import proofs.«01_k».proof.Proof.Gen.ProjDw.Launch
public import proofs.«01_k».proof.Proof.Gen.ProjDw.Points
public import proofs.«01_k».proof.Proof.Gen.ProjDw.Frame
public import proofs.«01_k».proof.Proof.Gen.ProjDwIdeal
public import proofs.«01_k».proof.Proof.Gen.ProjDwIdeal.Skeleton
public import proofs.«01_k».proof.Proof.Gen.ProjDwIdeal.Launch
public import proofs.«01_k».proof.Proof.Gen.ProjDwIdeal.Points
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.InQkv
public import proofs.«01_k».proof.Proof.Gen.InQkv.Skeleton
public import proofs.«01_k».proof.Proof.Gen.InQkv.Launch
public import proofs.«01_k».proof.Proof.Gen.InQkv.Points
public import proofs.«01_k».proof.Proof.Gen.InQkv.Frame
public import proofs.«01_k».proof.Proof.Gen.InQkvIdeal
public import proofs.«01_k».proof.Proof.Gen.InQkvIdeal.Skeleton
public import proofs.«01_k».proof.Proof.Gen.InQkvIdeal.Launch
public import proofs.«01_k».proof.Proof.Gen.InQkvIdeal.Points
public import proofs.«01_k».proof.Proof.Gen.InQkvIdeal.Frame
public import proofs.«01_k».proof.Proof.Gen.InQkvIdeal.Value
public import proofs.«01_k».proof.Proof.Gen.InQkvRefIdeal
public import proofs.«01_k».proof.Proof.Gen.InQkvRefIdeal.Run
public import proofs.«01_k».proof.Proof.Gen.InGate
public import proofs.«01_k».proof.Proof.Gen.InGate.Skeleton
public import proofs.«01_k».proof.Proof.Gen.InGate.Launch
public import proofs.«01_k».proof.Proof.Gen.InGate.Points
public import proofs.«01_k».proof.Proof.Gen.InGate.Frame
public import proofs.«01_k».proof.Proof.Gen.InGateIdeal
public import proofs.«01_k».proof.Proof.Gen.InGateIdeal.Skeleton
public import proofs.«01_k».proof.Proof.Gen.InGateIdeal.Launch
public import proofs.«01_k».proof.Proof.Gen.InGateIdeal.Points
public import proofs.«01_k».proof.Proof.Gen.InGateIdeal.Frame
public import proofs.«01_k».proof.Proof.Gen.InGateIdeal.Value
public import proofs.«01_k».proof.Proof.Gen.InGateRefIdeal
public import proofs.«01_k».proof.Proof.Gen.InGateRefIdeal.Run
public import proofs.«01_k».proof.Proof.Gen.InGl
public import proofs.«01_k».proof.Proof.Gen.InGl.Skeleton
public import proofs.«01_k».proof.Proof.Gen.InGl.Launch
public import proofs.«01_k».proof.Proof.Gen.InGl.Points
public import proofs.«01_k».proof.Proof.Gen.InGl.Frame
public import proofs.«01_k».proof.Proof.Gen.InGlIdeal
public import proofs.«01_k».proof.Proof.Gen.InGlIdeal.Skeleton
public import proofs.«01_k».proof.Proof.Gen.InGlIdeal.Launch
public import proofs.«01_k».proof.Proof.Gen.InGlIdeal.Points
public import proofs.«01_k».proof.Proof.Gen.InGlIdeal.Frame
public import proofs.«01_k».proof.Proof.Gen.InGlIdeal.Value
public import proofs.«01_k».proof.Proof.Gen.InGlRefIdeal
public import proofs.«01_k».proof.Proof.Gen.InGlRefIdeal.Run
public import proofs.«01_k».proof.Proof.Gen.ProjOut
public import proofs.«01_k».proof.Proof.Gen.ProjOut.Skeleton
public import proofs.«01_k».proof.Proof.Gen.ProjOut.Launch
public import proofs.«01_k».proof.Proof.Gen.ProjOut.Points
public import proofs.«01_k».proof.Proof.Gen.ProjOut.Frame
public import proofs.«01_k».proof.Proof.Gen.ProjOutIdeal
public import proofs.«01_k».proof.Proof.Gen.ProjOutIdeal.Skeleton
public import proofs.«01_k».proof.Proof.Gen.ProjOutIdeal.Launch
public import proofs.«01_k».proof.Proof.Gen.ProjOutIdeal.Points
public import proofs.«01_k».proof.Proof.Gen.ProjOutIdeal.Frame
public import proofs.«01_k».proof.Proof.Gen.ProjOutIdeal.Value
public import proofs.«01_k».proof.Proof.Gen.ProjOutRefIdeal
public import proofs.«01_k».proof.Proof.Gen.ProjOutRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.PostBwd
public import proofs.«01_k».proof.Proof.Gen.PostBwd.Skeleton
public import proofs.«01_k».proof.Proof.Gen.PostBwd.Launch
public import proofs.«01_k».proof.Proof.Gen.PostBwd.Points
public import proofs.«01_k».proof.Proof.Gen.PostBwd.Frame
public import proofs.«01_k».proof.Proof.Gen.PostBwdIdeal
public import proofs.«01_k».proof.Proof.Gen.PostBwdIdeal.Skeleton
public import proofs.«01_k».proof.Proof.Gen.PostBwdIdeal.Launch
public import proofs.«01_k».proof.Proof.Gen.PostBwdIdeal.Points
public import proofs.«01_k».proof.Proof.Gen.PostBwdIdeal.Frame
public import proofs.«01_k».proof.Proof.Gen.PostBwdIdeal.Value
public import proofs.«01_k».proof.Proof.Gen.PostBwdRefIdeal
public import proofs.«01_k».proof.Proof.Gen.PostBwdRefIdeal.Run
public import proofs.«01_k».proof.Proof.Gen.FfnConvBwd
public import proofs.«01_k».proof.Proof.Gen.FfnConvBwd.Skeleton
public import proofs.«01_k».proof.Proof.Gen.FfnConvBwd.Launch
public import proofs.«01_k».proof.Proof.Gen.FfnConvBwd.Points
public import proofs.«01_k».proof.Proof.Gen.FfnConvBwd.Frame
public import proofs.«01_k».proof.Proof.Gen.FfnConvBwdIdeal
public import proofs.«01_k».proof.Proof.Gen.FfnConvBwdIdeal.Skeleton
public import proofs.«01_k».proof.Proof.Gen.FfnConvBwdIdeal.Launch
public import proofs.«01_k».proof.Proof.Gen.FfnConvBwdIdeal.Points
public import proofs.«01_k».proof.Proof.Gen.FfnConvBwdIdeal.Frame
public import proofs.«01_k».proof.Proof.Gen.FfnConvBwdIdeal.Value
public import proofs.«01_k».proof.Proof.Gen.FfnConvBwdRefIdeal
public import proofs.«01_k».proof.Proof.Gen.FfnConvBwdRefIdeal.Run
public import proofs.«01_k».proof.Proof.Gen.DnConvBwd
public import proofs.«01_k».proof.Proof.Gen.DnConvBwd.Skeleton
public import proofs.«01_k».proof.Proof.Gen.DnConvBwd.Launch
public import proofs.«01_k».proof.Proof.Gen.DnConvBwd.Points
public import proofs.«01_k».proof.Proof.Gen.DnConvBwd.Frame
public import proofs.«01_k».proof.Proof.Gen.DnConvBwdIdeal
public import proofs.«01_k».proof.Proof.Gen.DnConvBwdIdeal.Skeleton
public import proofs.«01_k».proof.Proof.Gen.DnConvBwdIdeal.Launch
public import proofs.«01_k».proof.Proof.Gen.DnConvBwdIdeal.Points
public import proofs.«01_k».proof.Proof.Gen.DnConvBwdIdeal.Frame
public import proofs.«01_k».proof.Proof.Gen.DnConvBwdIdeal.Value
public import proofs.«01_k».proof.Proof.Gen.DnConvBwdRefIdeal
public import proofs.«01_k».proof.Proof.Gen.DnConvBwdRefIdeal.Run
public import proofs.«01_k».proof.Proof.Gen.FfnAct
public import proofs.«01_k».proof.Proof.Gen.FfnAct.Skeleton
public import proofs.«01_k».proof.Proof.Gen.FfnAct.Launch
public import proofs.«01_k».proof.Proof.Gen.FfnAct.Points
public import proofs.«01_k».proof.Proof.Gen.FfnAct.Frame
public import proofs.«01_k».proof.Proof.Gen.FfnActIdeal
public import proofs.«01_k».proof.Proof.Gen.FfnActIdeal.Skeleton
public import proofs.«01_k».proof.Proof.Gen.FfnActIdeal.Launch
public import proofs.«01_k».proof.Proof.Gen.FfnActIdeal.Points
public import proofs.«01_k».proof.Proof.Gen.FfnActIdeal.Frame
public import proofs.«01_k».proof.Proof.Gen.FfnActIdeal.Value
public import proofs.«01_k».proof.Proof.Gen.FfnActRefIdeal
public import proofs.«01_k».proof.Proof.Gen.FfnActRefIdeal.Run
public import proofs.«01_k».proof.Proof.Gen.FfnActBwd
public import proofs.«01_k».proof.Proof.Gen.FfnActBwd.Skeleton
public import proofs.«01_k».proof.Proof.Gen.FfnActBwd.Launch
public import proofs.«01_k».proof.Proof.Gen.FfnActBwd.Points
public import proofs.«01_k».proof.Proof.Gen.FfnActBwd.Frame
public import proofs.«01_k».proof.Proof.Gen.FfnActBwdIdeal
public import proofs.«01_k».proof.Proof.Gen.FfnActBwdIdeal.Skeleton
public import proofs.«01_k».proof.Proof.Gen.FfnActBwdIdeal.Launch
public import proofs.«01_k».proof.Proof.Gen.FfnActBwdIdeal.Points
public import proofs.«01_k».proof.Proof.Gen.FfnActBwdIdeal.Frame
public import proofs.«01_k».proof.Proof.Gen.FfnActBwdIdeal.Value
public import proofs.«01_k».proof.Proof.Gen.FfnActBwdRefIdeal
public import proofs.«01_k».proof.Proof.Gen.FfnActBwdRefIdeal.Run
public import proofs.«01_k».proof.Proof.Gen.DnPre
public import proofs.«01_k».proof.Proof.Gen.DnPre.Skeleton
public import proofs.«01_k».proof.Proof.Gen.DnPre.Launch
public import proofs.«01_k».proof.Proof.Gen.DnPre.Points
public import proofs.«01_k».proof.Proof.Gen.DnPre.Frame
public import proofs.«01_k».proof.Proof.Gen.DnPreIdeal
public import proofs.«01_k».proof.Proof.Gen.DnPreIdeal.Skeleton
public import proofs.«01_k».proof.Proof.Gen.DnPreIdeal.Launch
public import proofs.«01_k».proof.Proof.Gen.DnPreIdeal.Points
public import proofs.«01_k».proof.Proof.Gen.DnPreIdeal.Frame
public import proofs.«01_k».proof.Proof.Gen.DnPreIdeal.Value
public import proofs.«01_k».proof.Proof.Gen.DnPreRefIdeal
public import proofs.«01_k».proof.Proof.Gen.DnPreRefIdeal.Run
public import proofs.«01_k».proof.Proof.Gen.DnPreBwd
public import proofs.«01_k».proof.Proof.Gen.DnPreBwd.Skeleton
public import proofs.«01_k».proof.Proof.Gen.DnPreBwd.Launch
public import proofs.«01_k».proof.Proof.Gen.DnPreBwd.Points
public import proofs.«01_k».proof.Proof.Gen.DnPreBwd.Frame
public import proofs.«01_k».proof.Proof.Gen.DnPreBwdIdeal
public import proofs.«01_k».proof.Proof.Gen.DnPreBwdIdeal.Skeleton
public import proofs.«01_k».proof.Proof.Gen.DnPreBwdIdeal.Launch
public import proofs.«01_k».proof.Proof.Gen.DnPreBwdIdeal.Points
public import proofs.«01_k».proof.Proof.Gen.DnPreBwdIdeal.Frame
public import proofs.«01_k».proof.Proof.Gen.DnPreBwdIdeal.Value
public import proofs.«01_k».proof.Proof.Gen.DnPreBwdRefIdeal
public import proofs.«01_k».proof.Proof.Gen.DnPreBwdRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Products
public import proofs.«01_k».proof.Proof.Merges
public import proofs.«01_k».proof.Proof.Norms
public import proofs.«01_k».proof.Proof.Posts
public import proofs.«01_k».proof.Proof.Convs
public import proofs.«01_k».proof.Proof.Acts
public import proofs.«01_k».proof.Proof.Pres
public import proofs.«01_k».proof.Proof.PresBwd
public import proofs.«01_k».proof.Proof.Losses
public import proofs.«01_k».proof.Proof.KernelScan
public import proofs.«01_k».proof.Proof.RefScan
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem

theorem frameRef : Cert.quiescent_ReferenceIdeal (hReferenceIdeal := Cert.ReferenceIdeal.Gen.facts) := fun m ρ _ =>
  (θ_run _ _ _).mono (fun r h => ⟨fun c => (h c).2.2, sem_eq_zero_of_no_sems (by decide) _⟩) (Cert.ReferenceIdeal.Value.run m ρ)

/-- The scan's inputs of memories that agree on the arguments are the same. -/
theorem inp_agree {o o' q q' k k' w w' : (⟨2, ![4096, 1024]⟩ : Shape).Idx → EReal} {a a' : (⟨3, ![8, 4096, 64]⟩ : Shape).Idx → EReal}
    {g g' : (⟨2, ![4096, 128]⟩ : Shape).Idx → EReal} (ho : o' = o) (hq : q' = q) (hk : k' = k) (hw : w' = w) (ha : a' = a) (hg : g' = g) :
    Scan.inp o' q' k' w' a' g' = Scan.inp o q k w a g := by
  rw [ho, hq, hk, hw, ha, hg]

theorem value : Cert.algebraic_KernelIdeal_ReferenceIdeal_pre_finite (hKernelIdeal := Cert.KernelIdeal.Gen.facts)
    (hReferenceIdeal := Cert.ReferenceIdeal.Gen.facts) (hPre_finite := Cert.Pre_finite.facts) := fun m ρ m' ρ' hpre hag => by
  have hin : ∀ c, Cert.ReferenceIdeal.Trip.inpOf m' c = Cert.KernelIdeal.Chunk.inpOf m c := fun c =>
    inp_agree (hag c).1 (hag c).2.1 (hag c).2.2.1 (hag c).2.2.2.1 (hag c).2.2.2.2.1 (hag c).2.2.2.2.2
  have hf : ∀ c, (Cert.KernelIdeal.Chunk.inpOf m c).Finite := fun c => by
    obtain ⟨h0, h1, h2, h3, h4, h5⟩ := Cert.Pre_finite.args m hpre c
    exact Scan.inp_finite _ _ _ _ _ _ h0 h1 h2 h3 h4 h5
  refine ⟨fun c => Cert.KernelIdeal.Chunk.res0 (Cert.KernelIdeal.Chunk.inpOf m c),
    fun c => Cert.KernelIdeal.Chunk.res1 (Cert.KernelIdeal.Chunk.inpOf m c), Cert.KernelIdeal.Chunk.run m ρ,
    (θ_run _ _ _).mono (fun r h c => ⟨(h c).1.trans (funext fun y => ?_), (h c).2.1.trans (funext fun y => ?_), (h c).2.2⟩)
      (Cert.ReferenceIdeal.Value.run m' ρ')⟩
  · obtain ⟨a, b, rfl⟩ : ∃ (a : Fin 4096) (b : Fin 1024), y = ix2 a b := ⟨y 0, y 1, eq_ix2 y⟩
    refine (Cert.ReferenceIdeal.Trip.out0 m' c (by rw [hin]; exact hf c) a b).trans ?_
    rw [hin]
    rfl
  · obtain ⟨g, h, d, e, rfl⟩ : ∃ (g : Fin 64) (h : Fin 8) (d e : Fin 128), y = ix4 g h d e := ⟨y 0, y 1, y 2, y 3, eq_ix4 y⟩
    refine (Cert.ReferenceIdeal.Trip.out1 m' c (by rw [hin]; exact hf c) g h d e).trans ?_
    rw [hin]
    exact (Cert.KernelIdeal.Chunk.res1_at _ _ _ _ _).symm

theorem claim : Cert.Claim :=
  ⟨Cert.Kernel.Gen.facts, Cert.KernelIdeal.Gen.facts, Cert.ReferenceIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.InDx.Gen.facts, Cert.InDxIdeal.Gen.facts, Cert.InDxRefIdeal.Gen.facts,
    Cert.InDw.Gen.facts, Cert.InDwIdeal.Gen.facts, Cert.InDwRefIdeal.Gen.facts,
    Cert.OutDx.Gen.facts, Cert.OutDxIdeal.Gen.facts, Cert.OutDxRefIdeal.Gen.facts,
    Cert.OutDw.Gen.facts, Cert.OutDwIdeal.Gen.facts, Cert.OutDwRefIdeal.Gen.facts,
    Cert.ProjDx.Gen.facts, Cert.ProjDxIdeal.Gen.facts, Cert.ProjDxRefIdeal.Gen.facts,
    Cert.ProjDw.Gen.facts, Cert.ProjDwIdeal.Gen.facts, Cert.ProjDwRefIdeal.Gen.facts,
    Cert.InQkv.Gen.facts, Cert.InQkvIdeal.Gen.facts, Cert.InQkvRefIdeal.Gen.facts,
    Cert.InGate.Gen.facts, Cert.InGateIdeal.Gen.facts, Cert.InGateRefIdeal.Gen.facts,
    Cert.InGl.Gen.facts, Cert.InGlIdeal.Gen.facts, Cert.InGlRefIdeal.Gen.facts,
    Cert.ProjOut.Gen.facts, Cert.ProjOutIdeal.Gen.facts, Cert.ProjOutRefIdeal.Gen.facts,
    Cert.OutProj.Gen.facts, Cert.OutProjIdeal.Gen.facts, Cert.OutProjRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.Merge.Gen.facts, Cert.MergeIdeal.Gen.facts, Cert.MergeRefIdeal.Gen.facts,
    Cert.MergeBwd.Gen.facts, Cert.MergeBwdIdeal.Gen.facts, Cert.MergeBwdRefIdeal.Gen.facts,
    Cert.Norm.Gen.facts, Cert.NormIdeal.Gen.facts, Cert.NormRefIdeal.Gen.facts,
    Cert.NormBwd.Gen.facts, Cert.NormBwdIdeal.Gen.facts, Cert.NormBwdRefIdeal.Gen.facts,
    Cert.Post.Gen.facts, Cert.PostIdeal.Gen.facts, Cert.PostRefIdeal.Gen.facts,
    Cert.PostBwd.Gen.facts, Cert.PostBwdIdeal.Gen.facts, Cert.PostBwdRefIdeal.Gen.facts,
    Cert.FfnConvBwd.Gen.facts, Cert.FfnConvBwdIdeal.Gen.facts, Cert.FfnConvBwdRefIdeal.Gen.facts,
    Cert.DnConvBwd.Gen.facts, Cert.DnConvBwdIdeal.Gen.facts, Cert.DnConvBwdRefIdeal.Gen.facts,
    Cert.FfnAct.Gen.facts, Cert.FfnActIdeal.Gen.facts, Cert.FfnActRefIdeal.Gen.facts,
    Cert.FfnActBwd.Gen.facts, Cert.FfnActBwdIdeal.Gen.facts, Cert.FfnActBwdRefIdeal.Gen.facts,
    Cert.DnPre.Gen.facts, Cert.DnPreIdeal.Gen.facts, Cert.DnPreRefIdeal.Gen.facts,
    Cert.DnPreBwd.Gen.facts, Cert.DnPreBwdIdeal.Gen.facts, Cert.DnPreBwdRefIdeal.Gen.facts,
    Cert.Loss.Gen.facts, Cert.LossIdeal.Gen.facts, Cert.LossRefIdeal.Gen.facts,
    Cert.Pre_finite.facts, Cert.Pre_finite_post.facts, Cert.Pre_finite_ffn.facts, Cert.Pre_finite_pre.facts,
    fun m ρ _ => Cert.Kernel.Gen.frame m ρ, fun m ρ _ => Cert.KernelIdeal.Gen.frame m ρ, fun m ρ _ => Cert.KernelIdeal.Gen.frame m ρ,
    frameRef, fun m ρ _ => frameRef m ρ trivial, fun m ρ _ => Cert.DownDx.Gen.frame m ρ,
    fun m ρ _ => Cert.DownDxIdeal.Gen.frame m ρ, Products.frameDownDx, fun m ρ _ => Cert.DownDw.Gen.frame m ρ,
    fun m ρ _ => Cert.DownDwIdeal.Gen.frame m ρ, Products.frameDownDw, fun m ρ _ => Cert.UpDx.Gen.frame m ρ,
    fun m ρ _ => Cert.UpDxIdeal.Gen.frame m ρ, Products.frameUpDx, fun m ρ _ => Cert.UpDw.Gen.frame m ρ,
    fun m ρ _ => Cert.UpDwIdeal.Gen.frame m ρ, Products.frameUpDw, fun m ρ _ => Cert.InDx.Gen.frame m ρ,
    fun m ρ _ => Cert.InDxIdeal.Gen.frame m ρ, Products.frameInDx, fun m ρ _ => Cert.InDw.Gen.frame m ρ,
    fun m ρ _ => Cert.InDwIdeal.Gen.frame m ρ, Products.frameInDw, fun m ρ _ => Cert.OutDx.Gen.frame m ρ,
    fun m ρ _ => Cert.OutDxIdeal.Gen.frame m ρ, Products.frameOutDx, fun m ρ _ => Cert.OutDw.Gen.frame m ρ,
    fun m ρ _ => Cert.OutDwIdeal.Gen.frame m ρ, Products.frameOutDw, fun m ρ _ => Cert.ProjDx.Gen.frame m ρ,
    fun m ρ _ => Cert.ProjDxIdeal.Gen.frame m ρ, Products.frameProjDx, fun m ρ _ => Cert.ProjDw.Gen.frame m ρ,
    fun m ρ _ => Cert.ProjDwIdeal.Gen.frame m ρ, Products.frameProjDw, fun m ρ _ => Cert.InQkv.Gen.frame m ρ,
    fun m ρ _ => Cert.InQkvIdeal.Gen.frame m ρ, Products.frameInQkv, fun m ρ _ => Cert.InGate.Gen.frame m ρ,
    fun m ρ _ => Cert.InGateIdeal.Gen.frame m ρ, Products.frameInGate, fun m ρ _ => Cert.InGl.Gen.frame m ρ,
    fun m ρ _ => Cert.InGlIdeal.Gen.frame m ρ, Products.frameInGl, fun m ρ _ => Cert.ProjOut.Gen.frame m ρ,
    fun m ρ _ => Cert.ProjOutIdeal.Gen.frame m ρ, Products.frameProjOut, fun m ρ _ => Cert.OutProj.Gen.frame m ρ,
    fun m ρ _ => Cert.OutProjIdeal.Gen.frame m ρ, Products.frameOutProj, fun m ρ _ => Cert.FfnUp.Gen.frame m ρ,
    fun m ρ _ => Cert.FfnUpIdeal.Gen.frame m ρ, Products.frameFfnUp, fun m ρ _ => Cert.FfnDown.Gen.frame m ρ,
    fun m ρ _ => Cert.FfnDownIdeal.Gen.frame m ρ, Products.frameFfnDown,
    fun m ρ _ => Cert.Merge.Gen.frame m ρ, fun m ρ _ => Cert.MergeIdeal.Gen.frame m ρ,
    Merges.frameMerge, fun m ρ _ => Cert.MergeBwd.Gen.frame m ρ, fun m ρ _ => Cert.MergeBwdIdeal.Gen.frame m ρ,
    Merges.frameMergeBwd, fun m ρ _ => Cert.Norm.Gen.frame m ρ, fun m ρ _ => Cert.NormIdeal.Gen.frame m ρ,
    Norms.frameNorm, fun m ρ _ => Cert.NormBwd.Gen.frame m ρ, fun m ρ _ => Cert.NormBwdIdeal.Gen.frame m ρ,
    Norms.frameNormBwd, fun m ρ _ => Cert.Post.Gen.frame m ρ, fun m ρ _ => Cert.PostIdeal.Gen.frame m ρ,
    Posts.framePost, fun m ρ _ => Cert.PostBwd.Gen.frame m ρ, fun m ρ _ => Cert.PostBwdIdeal.Gen.frame m ρ,
    fun m ρ _ => Cert.PostBwdIdeal.Gen.frame m ρ, Posts.framePostBwd, fun m ρ _ => Posts.framePostBwd m ρ trivial, fun m ρ _ => Cert.FfnConvBwd.Gen.frame m ρ, fun m ρ _ => Cert.FfnConvBwdIdeal.Gen.frame m ρ,
    Convs.frameFfnConvBwd, fun m ρ _ => Cert.DnConvBwd.Gen.frame m ρ, fun m ρ _ => Cert.DnConvBwdIdeal.Gen.frame m ρ,
    Convs.frameDnConvBwd, fun m ρ _ => Cert.FfnAct.Gen.frame m ρ, fun m ρ _ => Cert.FfnActIdeal.Gen.frame m ρ,
    Acts.frameFfnAct, fun m ρ _ => Cert.FfnActBwd.Gen.frame m ρ, fun m ρ _ => Cert.FfnActBwdIdeal.Gen.frame m ρ,
    fun m ρ _ => Cert.FfnActBwdIdeal.Gen.frame m ρ, Acts.frameFfnActBwd, fun m ρ _ => Acts.frameFfnActBwd m ρ trivial, fun m ρ _ => Cert.DnPre.Gen.frame m ρ, fun m ρ _ => Cert.DnPreIdeal.Gen.frame m ρ,
    Pres.frameDnPre, fun m ρ _ => Cert.DnPreBwd.Gen.frame m ρ, fun m ρ _ => Cert.DnPreBwdIdeal.Gen.frame m ρ,
    fun m ρ _ => Cert.DnPreBwdIdeal.Gen.frame m ρ, PresBwd.frameDnPreBwd, fun m ρ _ => PresBwd.frameDnPreBwd m ρ trivial, fun m ρ _ => Cert.Loss.Gen.frame m ρ, fun m ρ _ => Cert.LossIdeal.Gen.frame m ρ,
    Losses.frameLoss,
    trivial, value, trivial, Products.valueDownDx, trivial, Products.valueDownDw,
    trivial, Products.valueUpDx, trivial, Products.valueUpDw, trivial, Products.valueInDx,
    trivial, Products.valueInDw, trivial, Products.valueOutDx, trivial, Products.valueOutDw,
    trivial, Products.valueProjDx, trivial, Products.valueProjDw, trivial, Products.valueInQkv,
    trivial, Products.valueInGate, trivial, Products.valueInGl, trivial, Products.valueProjOut,
    trivial, Products.valueOutProj, trivial, Products.valueFfnUp, trivial, Products.valueFfnDown,
    trivial, Merges.valueMerge,
    trivial, Merges.valueMergeBwd,
    trivial, Norms.valueNorm,
    trivial, Norms.valueNormBwd,
    trivial, Posts.valuePost,
    trivial, Posts.valuePostBwd,
    trivial, Convs.valueFfnConvBwd,
    trivial, Convs.valueDnConvBwd,
    trivial, Acts.valueFfnAct,
    trivial, Acts.valueFfnActBwd,
    trivial, Pres.valueDnPre,
    trivial, PresBwd.valueDnPreBwd,
    trivial, Losses.valueLoss⟩

end Cert.Proof

end
